-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_kv [hPre_finite_q_kv : Cert.Pre_finite_q_kv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_kv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_kv [hPre_finite_q_kv : Cert.Pre_finite_q_kv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_kv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpSpecIdeal (m : (ℓ : Loc Cert.GateUpSpecIdeal.nD Cert.GateUpSpecIdeal.τ Cert.GateUpSpecIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownSpecIdeal (m : (ℓ : Loc Cert.DownSpecIdeal.nD Cert.DownSpecIdeal.τ Cert.DownSpecIdeal.sig) → Buf (Elt Ideal) ℓ) : Prop :=
  True

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaIdeal_finite_down_da [hPre_finite_down_da : Cert.Pre_finite_down_da.Facts] (m : (ℓ : Loc Cert.DownDaIdeal.nD Cert.DownDaIdeal.τ Cert.DownDaIdeal.sig) → Buf (Elt Ideal) ℓ) : Prop :=
  ∀ c : Dev Cert.DownDaIdeal.nD,
    (Cert.Pre_finite_down_da.fn (F := Ideal) (m ((c.tc : Thread Cert.DownDaIdeal.nD Cert.DownDaIdeal.τ).loc Cert.DownDaIdeal.main_arg0)) (m ((c.tc : Thread Cert.DownDaIdeal.nD Cert.DownDaIdeal.τ).loc Cert.DownDaIdeal.main_arg1)) (m ((c.tc : Thread Cert.DownDaIdeal.nD Cert.DownDaIdeal.τ).loc Cert.DownDaIdeal.main_arg2)) (m ((c.tc : Thread Cert.DownDaIdeal.nD Cert.DownDaIdeal.τ).loc Cert.DownDaIdeal.main_arg3))) = (fun _ => 1#1)

def Pre_DownDaSpecIdeal (m : (ℓ : Loc Cert.DownDaSpecIdeal.nD Cert.DownDaSpecIdeal.τ Cert.DownDaSpecIdeal.sig) → Buf (Elt Ideal) ℓ) : Prop :=
  True

def Pre_DownDaSpecIdeal_finite_down_da [hPre_finite_down_da : Cert.Pre_finite_down_da.Facts] (m : (ℓ : Loc Cert.DownDaSpecIdeal.nD Cert.DownDaSpecIdeal.τ Cert.DownDaSpecIdeal.sig) → Buf (Elt Ideal) ℓ) : Prop :=
  ∀ c : Dev Cert.DownDaSpecIdeal.nD,
    (Cert.Pre_finite_down_da.fn (F := Ideal) (m ((c.tc : Thread Cert.DownDaSpecIdeal.nD Cert.DownDaSpecIdeal.τ).loc Cert.DownDaSpecIdeal.main_arg0)) (m ((c.tc : Thread Cert.DownDaSpecIdeal.nD Cert.DownDaSpecIdeal.τ).loc Cert.DownDaSpecIdeal.main_arg1)) (m ((c.tc : Thread Cert.DownDaSpecIdeal.nD Cert.DownDaSpecIdeal.τ).loc Cert.DownDaSpecIdeal.main_arg2)) (m ((c.tc : Thread Cert.DownDaSpecIdeal.nD Cert.DownDaSpecIdeal.τ).loc Cert.DownDaSpecIdeal.main_arg3))) = (fun _ => 1#1)

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwSpecIdeal (m : (ℓ : Loc Cert.DownDwSpecIdeal.nD Cert.DownDwSpecIdeal.τ Cert.DownDwSpecIdeal.sig) → Buf (Elt Ideal) ℓ) : Prop :=
  True

def Pre_GateUpDw (m : (ℓ : Loc Cert.GateUpDw.nD Cert.GateUpDw.τ Cert.GateUpDw.sig) → Buf (Elt Bits) ℓ) : Prop :=
  True

def Pre_GateUpDwIdeal (m : (ℓ : Loc Cert.GateUpDwIdeal.nD Cert.GateUpDwIdeal.τ Cert.GateUpDwIdeal.sig) → Buf (Elt Ideal) ℓ) : Prop :=
  True

def Pre_GateUpDwSpecIdeal (m : (ℓ : Loc Cert.GateUpDwSpecIdeal.nD Cert.GateUpDwSpecIdeal.τ Cert.GateUpDwSpecIdeal.sig) → Buf (Elt Ideal) ℓ) : Prop :=
  True

def Pre_GateUpDa (m : (ℓ : Loc Cert.GateUpDa.nD Cert.GateUpDa.τ Cert.GateUpDa.sig) → Buf (Elt Bits) ℓ) : Prop :=
  True

def Pre_GateUpDaIdeal (m : (ℓ : Loc Cert.GateUpDaIdeal.nD Cert.GateUpDaIdeal.τ Cert.GateUpDaIdeal.sig) → Buf (Elt Ideal) ℓ) : Prop :=
  True

def Pre_GateUpDaIdeal_finite_gate_up_da [hPre_finite_gate_up_da : Cert.Pre_finite_gate_up_da.Facts] (m : (ℓ : Loc Cert.GateUpDaIdeal.nD Cert.GateUpDaIdeal.τ Cert.GateUpDaIdeal.sig) → Buf (Elt Ideal) ℓ) : Prop :=
  ∀ c : Dev Cert.GateUpDaIdeal.nD,
    (Cert.Pre_finite_gate_up_da.fn (F := Ideal) (m ((c.tc : Thread Cert.GateUpDaIdeal.nD Cert.GateUpDaIdeal.τ).loc Cert.GateUpDaIdeal.main_arg0)) (m ((c.tc : Thread Cert.GateUpDaIdeal.nD Cert.GateUpDaIdeal.τ).loc Cert.GateUpDaIdeal.main_arg1)) (m ((c.tc : Thread Cert.GateUpDaIdeal.nD Cert.GateUpDaIdeal.τ).loc Cert.GateUpDaIdeal.main_arg2)) (m ((c.tc : Thread Cert.GateUpDaIdeal.nD Cert.GateUpDaIdeal.τ).loc Cert.GateUpDaIdeal.main_arg3)) (m ((c.tc : Thread Cert.GateUpDaIdeal.nD Cert.GateUpDaIdeal.τ).loc Cert.GateUpDaIdeal.main_arg4))) = (fun _ => 1#1)

def Pre_GateUpDaSpecIdeal (m : (ℓ : Loc Cert.GateUpDaSpecIdeal.nD Cert.GateUpDaSpecIdeal.τ Cert.GateUpDaSpecIdeal.sig) → Buf (Elt Ideal) ℓ) : Prop :=
  True

def Pre_GateUpDaSpecIdeal_finite_gate_up_da [hPre_finite_gate_up_da : Cert.Pre_finite_gate_up_da.Facts] (m : (ℓ : Loc Cert.GateUpDaSpecIdeal.nD Cert.GateUpDaSpecIdeal.τ Cert.GateUpDaSpecIdeal.sig) → Buf (Elt Ideal) ℓ) : Prop :=
  ∀ c : Dev Cert.GateUpDaSpecIdeal.nD,
    (Cert.Pre_finite_gate_up_da.fn (F := Ideal) (m ((c.tc : Thread Cert.GateUpDaSpecIdeal.nD Cert.GateUpDaSpecIdeal.τ).loc Cert.GateUpDaSpecIdeal.main_arg0)) (m ((c.tc : Thread Cert.GateUpDaSpecIdeal.nD Cert.GateUpDaSpecIdeal.τ).loc Cert.GateUpDaSpecIdeal.main_arg1)) (m ((c.tc : Thread Cert.GateUpDaSpecIdeal.nD Cert.GateUpDaSpecIdeal.τ).loc Cert.GateUpDaSpecIdeal.main_arg2)) (m ((c.tc : Thread Cert.GateUpDaSpecIdeal.nD Cert.GateUpDaSpecIdeal.τ).loc Cert.GateUpDaSpecIdeal.main_arg3)) (m ((c.tc : Thread Cert.GateUpDaSpecIdeal.nD Cert.GateUpDaSpecIdeal.τ).loc Cert.GateUpDaSpecIdeal.main_arg4))) = (fun _ => 1#1)

def Pre_InPiece (m : (ℓ : Loc Cert.InPiece.nD Cert.InPiece.τ Cert.InPiece.sig) → Buf (Elt Bits) ℓ) : Prop :=
  True

def Pre_InPieceIdeal (m : (ℓ : Loc Cert.InPieceIdeal.nD Cert.InPieceIdeal.τ Cert.InPieceIdeal.sig) → Buf (Elt Ideal) ℓ) : Prop :=
  True

def Pre_InPieceSpecIdeal (m : (ℓ : Loc Cert.InPieceSpecIdeal.nD Cert.InPieceSpecIdeal.τ Cert.InPieceSpecIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwSpecIdeal (m : (ℓ : Loc Cert.InDwSpecIdeal.nD Cert.InDwSpecIdeal.τ Cert.InDwSpecIdeal.sig) → Buf (Elt Ideal) ℓ) : Prop :=
  True

def Pre_InDa (m : (ℓ : Loc Cert.InDa.nD Cert.InDa.τ Cert.InDa.sig) → Buf (Elt Bits) ℓ) : Prop :=
  True

def Pre_InDaIdeal (m : (ℓ : Loc Cert.InDaIdeal.nD Cert.InDaIdeal.τ Cert.InDaIdeal.sig) → Buf (Elt Ideal) ℓ) : Prop :=
  True

def Pre_InDaIdeal_finite_in_da [hPre_finite_in_da : Cert.Pre_finite_in_da.Facts] (m : (ℓ : Loc Cert.InDaIdeal.nD Cert.InDaIdeal.τ Cert.InDaIdeal.sig) → Buf (Elt Ideal) ℓ) : Prop :=
  ∀ c : Dev Cert.InDaIdeal.nD,
    (Cert.Pre_finite_in_da.fn (F := Ideal) (m ((c.tc : Thread Cert.InDaIdeal.nD Cert.InDaIdeal.τ).loc Cert.InDaIdeal.main_arg0)) (m ((c.tc : Thread Cert.InDaIdeal.nD Cert.InDaIdeal.τ).loc Cert.InDaIdeal.main_arg1)) (m ((c.tc : Thread Cert.InDaIdeal.nD Cert.InDaIdeal.τ).loc Cert.InDaIdeal.main_arg2)) (m ((c.tc : Thread Cert.InDaIdeal.nD Cert.InDaIdeal.τ).loc Cert.InDaIdeal.main_arg3)) (m ((c.tc : Thread Cert.InDaIdeal.nD Cert.InDaIdeal.τ).loc Cert.InDaIdeal.main_arg4))) = (fun _ => 1#1)

def Pre_InDaSpecIdeal (m : (ℓ : Loc Cert.InDaSpecIdeal.nD Cert.InDaSpecIdeal.τ Cert.InDaSpecIdeal.sig) → Buf (Elt Ideal) ℓ) : Prop :=
  True

def Pre_InDaSpecIdeal_finite_in_da [hPre_finite_in_da : Cert.Pre_finite_in_da.Facts] (m : (ℓ : Loc Cert.InDaSpecIdeal.nD Cert.InDaSpecIdeal.τ Cert.InDaSpecIdeal.sig) → Buf (Elt Ideal) ℓ) : Prop :=
  ∀ c : Dev Cert.InDaSpecIdeal.nD,
    (Cert.Pre_finite_in_da.fn (F := Ideal) (m ((c.tc : Thread Cert.InDaSpecIdeal.nD Cert.InDaSpecIdeal.τ).loc Cert.InDaSpecIdeal.main_arg0)) (m ((c.tc : Thread Cert.InDaSpecIdeal.nD Cert.InDaSpecIdeal.τ).loc Cert.InDaSpecIdeal.main_arg1)) (m ((c.tc : Thread Cert.InDaSpecIdeal.nD Cert.InDaSpecIdeal.τ).loc Cert.InDaSpecIdeal.main_arg2)) (m ((c.tc : Thread Cert.InDaSpecIdeal.nD Cert.InDaSpecIdeal.τ).loc Cert.InDaSpecIdeal.main_arg3)) (m ((c.tc : Thread Cert.InDaSpecIdeal.nD Cert.InDaSpecIdeal.τ).loc Cert.InDaSpecIdeal.main_arg4))) = (fun _ => 1#1)

def Pre_OutNarrow (m : (ℓ : Loc Cert.OutNarrow.nD Cert.OutNarrow.τ Cert.OutNarrow.sig) → Buf (Elt Bits) ℓ) : Prop :=
  True

def Pre_OutNarrowIdeal (m : (ℓ : Loc Cert.OutNarrowIdeal.nD Cert.OutNarrowIdeal.τ Cert.OutNarrowIdeal.sig) → Buf (Elt Ideal) ℓ) : Prop :=
  True

def Pre_OutNarrowSpecIdeal (m : (ℓ : Loc Cert.OutNarrowSpecIdeal.nD Cert.OutNarrowSpecIdeal.τ Cert.OutNarrowSpecIdeal.sig) → Buf (Elt Ideal) ℓ) : Prop :=
  True

def Pre_OutWide (m : (ℓ : Loc Cert.OutWide.nD Cert.OutWide.τ Cert.OutWide.sig) → Buf (Elt Bits) ℓ) : Prop :=
  True

def Pre_OutWideIdeal (m : (ℓ : Loc Cert.OutWideIdeal.nD Cert.OutWideIdeal.τ Cert.OutWideIdeal.sig) → Buf (Elt Ideal) ℓ) : Prop :=
  True

def Pre_OutWideSpecIdeal (m : (ℓ : Loc Cert.OutWideSpecIdeal.nD Cert.OutWideSpecIdeal.τ Cert.OutWideSpecIdeal.sig) → Buf (Elt Ideal) ℓ) : Prop :=
  True

def Pre_OutBias (m : (ℓ : Loc Cert.OutBias.nD Cert.OutBias.τ Cert.OutBias.sig) → Buf (Elt Bits) ℓ) : Prop :=
  True

def Pre_OutBiasIdeal (m : (ℓ : Loc Cert.OutBiasIdeal.nD Cert.OutBiasIdeal.τ Cert.OutBiasIdeal.sig) → Buf (Elt Ideal) ℓ) : Prop :=
  True

def Pre_OutBiasSpecIdeal (m : (ℓ : Loc Cert.OutBiasSpecIdeal.nD Cert.OutBiasSpecIdeal.τ Cert.OutBiasSpecIdeal.sig) → Buf (Elt Ideal) ℓ) : Prop :=
  True

def Pre_OutNarrowDa (m : (ℓ : Loc Cert.OutNarrowDa.nD Cert.OutNarrowDa.τ Cert.OutNarrowDa.sig) → Buf (Elt Bits) ℓ) : Prop :=
  True

def Pre_OutNarrowDaIdeal (m : (ℓ : Loc Cert.OutNarrowDaIdeal.nD Cert.OutNarrowDaIdeal.τ Cert.OutNarrowDaIdeal.sig) → Buf (Elt Ideal) ℓ) : Prop :=
  True

def Pre_OutNarrowDaSpecIdeal (m : (ℓ : Loc Cert.OutNarrowDaSpecIdeal.nD Cert.OutNarrowDaSpecIdeal.τ Cert.OutNarrowDaSpecIdeal.sig) → Buf (Elt Ideal) ℓ) : Prop :=
  True

def Pre_OutWideDa (m : (ℓ : Loc Cert.OutWideDa.nD Cert.OutWideDa.τ Cert.OutWideDa.sig) → Buf (Elt Bits) ℓ) : Prop :=
  True

def Pre_OutWideDaIdeal (m : (ℓ : Loc Cert.OutWideDaIdeal.nD Cert.OutWideDaIdeal.τ Cert.OutWideDaIdeal.sig) → Buf (Elt Ideal) ℓ) : Prop :=
  True

def Pre_OutWideDaSpecIdeal (m : (ℓ : Loc Cert.OutWideDaSpecIdeal.nD Cert.OutWideDaSpecIdeal.τ Cert.OutWideDaSpecIdeal.sig) → Buf (Elt Ideal) ℓ) : Prop :=
  True

def Pre_OutNarrowDw (m : (ℓ : Loc Cert.OutNarrowDw.nD Cert.OutNarrowDw.τ Cert.OutNarrowDw.sig) → Buf (Elt Bits) ℓ) : Prop :=
  True

def Pre_OutNarrowDwIdeal (m : (ℓ : Loc Cert.OutNarrowDwIdeal.nD Cert.OutNarrowDwIdeal.τ Cert.OutNarrowDwIdeal.sig) → Buf (Elt Ideal) ℓ) : Prop :=
  True

def Pre_OutNarrowDwSpecIdeal (m : (ℓ : Loc Cert.OutNarrowDwSpecIdeal.nD Cert.OutNarrowDwSpecIdeal.τ Cert.OutNarrowDwSpecIdeal.sig) → Buf (Elt Ideal) ℓ) : Prop :=
  True

def Pre_OutWideDw (m : (ℓ : Loc Cert.OutWideDw.nD Cert.OutWideDw.τ Cert.OutWideDw.sig) → Buf (Elt Bits) ℓ) : Prop :=
  True

def Pre_OutWideDwIdeal (m : (ℓ : Loc Cert.OutWideDwIdeal.nD Cert.OutWideDwIdeal.τ Cert.OutWideDwIdeal.sig) → Buf (Elt Ideal) ℓ) : Prop :=
  True

def Pre_OutWideDwSpecIdeal (m : (ℓ : Loc Cert.OutWideDwSpecIdeal.nD Cert.OutWideDwSpecIdeal.τ Cert.OutWideDwSpecIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormSpecIdeal (m : (ℓ : Loc Cert.NormSpecIdeal.nD Cert.NormSpecIdeal.τ Cert.NormSpecIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesSpecIdeal (m : (ℓ : Loc Cert.GatesSpecIdeal.nD Cert.GatesSpecIdeal.τ Cert.GatesSpecIdeal.sig) → Buf (Elt Ideal) ℓ) : Prop :=
  True

def Pre_GatesDx (m : (ℓ : Loc Cert.GatesDx.nD Cert.GatesDx.τ Cert.GatesDx.sig) → Buf (Elt Bits) ℓ) : Prop :=
  True

def Pre_GatesDxIdeal (m : (ℓ : Loc Cert.GatesDxIdeal.nD Cert.GatesDxIdeal.τ Cert.GatesDxIdeal.sig) → Buf (Elt Ideal) ℓ) : Prop :=
  True

def Pre_GatesDxSpecIdeal (m : (ℓ : Loc Cert.GatesDxSpecIdeal.nD Cert.GatesDxSpecIdeal.τ Cert.GatesDxSpecIdeal.sig) → Buf (Elt Ideal) ℓ) : Prop :=
  True

def Pre_GatesDw (m : (ℓ : Loc Cert.GatesDw.nD Cert.GatesDw.τ Cert.GatesDw.sig) → Buf (Elt Bits) ℓ) : Prop :=
  True

def Pre_GatesDwIdeal (m : (ℓ : Loc Cert.GatesDwIdeal.nD Cert.GatesDwIdeal.τ Cert.GatesDwIdeal.sig) → Buf (Elt Ideal) ℓ) : Prop :=
  True

def Pre_GatesDwSpecIdeal (m : (ℓ : Loc Cert.GatesDwSpecIdeal.nD Cert.GatesDwSpecIdeal.τ Cert.GatesDwSpecIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_merge [hPre_finite_merge : Cert.Pre_finite_merge.Facts] (m : (ℓ : Loc Cert.MergeIdeal.nD Cert.MergeIdeal.τ Cert.MergeIdeal.sig) → Buf (Elt Ideal) ℓ) : Prop :=
  ∀ c : Dev Cert.MergeIdeal.nD,
    (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))) = (fun _ => 1#1)

def Pre_MergeSpecIdeal (m : (ℓ : Loc Cert.MergeSpecIdeal.nD Cert.MergeSpecIdeal.τ Cert.MergeSpecIdeal.sig) → Buf (Elt Ideal) ℓ) : Prop :=
  True

def Pre_MergeSpecIdeal_finite_merge [hPre_finite_merge : Cert.Pre_finite_merge.Facts] (m : (ℓ : Loc Cert.MergeSpecIdeal.nD Cert.MergeSpecIdeal.τ Cert.MergeSpecIdeal.sig) → Buf (Elt Ideal) ℓ) : Prop :=
  ∀ c : Dev Cert.MergeSpecIdeal.nD,
    (Cert.Pre_finite_merge.fn (F := Ideal) (m ((c.tc : Thread Cert.MergeSpecIdeal.nD Cert.MergeSpecIdeal.τ).loc Cert.MergeSpecIdeal.main_arg0)) (m ((c.tc : Thread Cert.MergeSpecIdeal.nD Cert.MergeSpecIdeal.τ).loc Cert.MergeSpecIdeal.main_arg1)) (m ((c.tc : Thread Cert.MergeSpecIdeal.nD Cert.MergeSpecIdeal.τ).loc Cert.MergeSpecIdeal.main_arg2)) (m ((c.tc : Thread Cert.MergeSpecIdeal.nD Cert.MergeSpecIdeal.τ).loc Cert.MergeSpecIdeal.main_arg3)) (m ((c.tc : Thread Cert.MergeSpecIdeal.nD Cert.MergeSpecIdeal.τ).loc Cert.MergeSpecIdeal.main_arg4)) (m ((c.tc : Thread Cert.MergeSpecIdeal.nD Cert.MergeSpecIdeal.τ).loc Cert.MergeSpecIdeal.main_arg5))) = (fun _ => 1#1)

def Pre_AdamAbIn (m : (ℓ : Loc Cert.AdamAbIn.nD Cert.AdamAbIn.τ Cert.AdamAbIn.sig) → Buf (Elt Bits) ℓ) : Prop :=
  True

def Pre_AdamAbInIdeal (m : (ℓ : Loc Cert.AdamAbInIdeal.nD Cert.AdamAbInIdeal.τ Cert.AdamAbInIdeal.sig) → Buf (Elt Ideal) ℓ) : Prop :=
  True

def Pre_AdamAbInSpecIdeal (m : (ℓ : Loc Cert.AdamAbInSpecIdeal.nD Cert.AdamAbInSpecIdeal.τ Cert.AdamAbInSpecIdeal.sig) → Buf (Elt Ideal) ℓ) : Prop :=
  True

def Pre_AdamLru (m : (ℓ : Loc Cert.AdamLru.nD Cert.AdamLru.τ Cert.AdamLru.sig) → Buf (Elt Bits) ℓ) : Prop :=
  True

def Pre_AdamLruIdeal (m : (ℓ : Loc Cert.AdamLruIdeal.nD Cert.AdamLruIdeal.τ Cert.AdamLruIdeal.sig) → Buf (Elt Ideal) ℓ) : Prop :=
  True

def Pre_AdamLruSpecIdeal (m : (ℓ : Loc Cert.AdamLruSpecIdeal.nD Cert.AdamLruSpecIdeal.τ Cert.AdamLruSpecIdeal.sig) → Buf (Elt Ideal) ℓ) : Prop :=
  True

def Pre_AdamAbOut (m : (ℓ : Loc Cert.AdamAbOut.nD Cert.AdamAbOut.τ Cert.AdamAbOut.sig) → Buf (Elt Bits) ℓ) : Prop :=
  True

def Pre_AdamAbOutIdeal (m : (ℓ : Loc Cert.AdamAbOutIdeal.nD Cert.AdamAbOutIdeal.τ Cert.AdamAbOutIdeal.sig) → Buf (Elt Ideal) ℓ) : Prop :=
  True

def Pre_AdamAbOutSpecIdeal (m : (ℓ : Loc Cert.AdamAbOutSpecIdeal.nD Cert.AdamAbOutSpecIdeal.τ Cert.AdamAbOutSpecIdeal.sig) → Buf (Elt Ideal) ℓ) : Prop :=
  True

def Pre_AdamCQkv (m : (ℓ : Loc Cert.AdamCQkv.nD Cert.AdamCQkv.τ Cert.AdamCQkv.sig) → Buf (Elt Bits) ℓ) : Prop :=
  True

def Pre_AdamCQkvIdeal (m : (ℓ : Loc Cert.AdamCQkvIdeal.nD Cert.AdamCQkvIdeal.τ Cert.AdamCQkvIdeal.sig) → Buf (Elt Ideal) ℓ) : Prop :=
  True

def Pre_AdamCQkvSpecIdeal (m : (ℓ : Loc Cert.AdamCQkvSpecIdeal.nD Cert.AdamCQkvSpecIdeal.τ Cert.AdamCQkvSpecIdeal.sig) → Buf (Elt Ideal) ℓ) : Prop :=
  True

def Pre_AdamCOut (m : (ℓ : Loc Cert.AdamCOut.nD Cert.AdamCOut.τ Cert.AdamCOut.sig) → Buf (Elt Bits) ℓ) : Prop :=
  True

def Pre_AdamCOutIdeal (m : (ℓ : Loc Cert.AdamCOutIdeal.nD Cert.AdamCOutIdeal.τ Cert.AdamCOutIdeal.sig) → Buf (Elt Ideal) ℓ) : Prop :=
  True

def Pre_AdamCOutSpecIdeal (m : (ℓ : Loc Cert.AdamCOutSpecIdeal.nD Cert.AdamCOutSpecIdeal.τ Cert.AdamCOutSpecIdeal.sig) → Buf (Elt Ideal) ℓ) : Prop :=
  True

def Pre_AdamXaWq (m : (ℓ : Loc Cert.AdamXaWq.nD Cert.AdamXaWq.τ Cert.AdamXaWq.sig) → Buf (Elt Bits) ℓ) : Prop :=
  True

def Pre_AdamXaWqIdeal (m : (ℓ : Loc Cert.AdamXaWqIdeal.nD Cert.AdamXaWqIdeal.τ Cert.AdamXaWqIdeal.sig) → Buf (Elt Ideal) ℓ) : Prop :=
  True

def Pre_AdamXaWqSpecIdeal (m : (ℓ : Loc Cert.AdamXaWqSpecIdeal.nD Cert.AdamXaWqSpecIdeal.τ Cert.AdamXaWqSpecIdeal.sig) → Buf (Elt Ideal) ℓ) : Prop :=
  True

def Pre_AdamXaWkv (m : (ℓ : Loc Cert.AdamXaWkv.nD Cert.AdamXaWkv.τ Cert.AdamXaWkv.sig) → Buf (Elt Bits) ℓ) : Prop :=
  True

def Pre_AdamXaWkvIdeal (m : (ℓ : Loc Cert.AdamXaWkvIdeal.nD Cert.AdamXaWkvIdeal.τ Cert.AdamXaWkvIdeal.sig) → Buf (Elt Ideal) ℓ) : Prop :=
  True

def Pre_AdamXaWkvSpecIdeal (m : (ℓ : Loc Cert.AdamXaWkvSpecIdeal.nD Cert.AdamXaWkvSpecIdeal.τ Cert.AdamXaWkvSpecIdeal.sig) → Buf (Elt Ideal) ℓ) : Prop :=
  True

def Pre_AdamXaWo (m : (ℓ : Loc Cert.AdamXaWo.nD Cert.AdamXaWo.τ Cert.AdamXaWo.sig) → Buf (Elt Bits) ℓ) : Prop :=
  True

def Pre_AdamXaWoIdeal (m : (ℓ : Loc Cert.AdamXaWoIdeal.nD Cert.AdamXaWoIdeal.τ Cert.AdamXaWoIdeal.sig) → Buf (Elt Ideal) ℓ) : Prop :=
  True

def Pre_AdamXaWoSpecIdeal (m : (ℓ : Loc Cert.AdamXaWoSpecIdeal.nD Cert.AdamXaWoSpecIdeal.τ Cert.AdamXaWoSpecIdeal.sig) → Buf (Elt Ideal) ℓ) : Prop :=
  True

def Pre_AdamGateUp (m : (ℓ : Loc Cert.AdamGateUp.nD Cert.AdamGateUp.τ Cert.AdamGateUp.sig) → Buf (Elt Bits) ℓ) : Prop :=
  True

def Pre_AdamGateUpIdeal (m : (ℓ : Loc Cert.AdamGateUpIdeal.nD Cert.AdamGateUpIdeal.τ Cert.AdamGateUpIdeal.sig) → Buf (Elt Ideal) ℓ) : Prop :=
  True

def Pre_AdamGateUpSpecIdeal (m : (ℓ : Loc Cert.AdamGateUpSpecIdeal.nD Cert.AdamGateUpSpecIdeal.τ Cert.AdamGateUpSpecIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownSpecIdeal (m : (ℓ : Loc Cert.AdamDownSpecIdeal.nD Cert.AdamDownSpecIdeal.τ Cert.AdamDownSpecIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallSpecIdeal (m : (ℓ : Loc Cert.AdamSmallSpecIdeal.nD Cert.AdamSmallSpecIdeal.τ Cert.AdamSmallSpecIdeal.sig) → Buf (Elt Ideal) ℓ) : Prop :=
  True

def Pre_AdamReplicated (m : (ℓ : Loc Cert.AdamReplicated.nD Cert.AdamReplicated.τ Cert.AdamReplicated.sig) → Buf (Elt Bits) ℓ) : Prop :=
  True

def Pre_AdamReplicatedIdeal (m : (ℓ : Loc Cert.AdamReplicatedIdeal.nD Cert.AdamReplicatedIdeal.τ Cert.AdamReplicatedIdeal.sig) → Buf (Elt Ideal) ℓ) : Prop :=
  True

def Pre_AdamReplicatedSpecIdeal (m : (ℓ : Loc Cert.AdamReplicatedSpecIdeal.nD Cert.AdamReplicatedSpecIdeal.τ Cert.AdamReplicatedSpecIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_q_kv [hKernelIdeal : Cert.KernelIdeal.Facts] [hPre_finite_q_kv : Cert.Pre_finite_q_kv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_kv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_q_kv [hReferenceIdeal : Cert.ReferenceIdeal.Facts] [hPre_finite_q_kv : Cert.Pre_finite_q_kv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_kv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpSpecIdeal [hGateUpSpecIdeal : Cert.GateUpSpecIdeal.Facts] : Prop :=
  ∀ (m : (ℓ : Loc Cert.GateUpSpecIdeal.nD Cert.GateUpSpecIdeal.τ Cert.GateUpSpecIdeal.sig) → Buf (Elt Ideal) ℓ) (g : Dev Cert.GateUpSpecIdeal.nD → PrngReg), Pre_GateUpSpecIdeal m →
    θ_run (Cert.GateUpSpecIdeal.defs (F := Ideal)) (onTc (τ := Cert.GateUpSpecIdeal.τ) (Cert.GateUpSpecIdeal.main (F := Ideal))) ⟨m, fun _ => 0, g⟩ (fun r => (∀ c : Dev Cert.GateUpSpecIdeal.nD,
      r.2.mem ((c.tc : Thread Cert.GateUpSpecIdeal.nD Cert.GateUpSpecIdeal.τ).loc Cert.GateUpSpecIdeal.main_arg0) = m ((c.tc : Thread Cert.GateUpSpecIdeal.nD Cert.GateUpSpecIdeal.τ).loc Cert.GateUpSpecIdeal.main_arg0)
      ∧ r.2.mem ((c.tc : Thread Cert.GateUpSpecIdeal.nD Cert.GateUpSpecIdeal.τ).loc Cert.GateUpSpecIdeal.main_arg1) = m ((c.tc : Thread Cert.GateUpSpecIdeal.nD Cert.GateUpSpecIdeal.τ).loc Cert.GateUpSpecIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownSpecIdeal [hDownSpecIdeal : Cert.DownSpecIdeal.Facts] : Prop :=
  ∀ (m : (ℓ : Loc Cert.DownSpecIdeal.nD Cert.DownSpecIdeal.τ Cert.DownSpecIdeal.sig) → Buf (Elt Ideal) ℓ) (g : Dev Cert.DownSpecIdeal.nD → PrngReg), Pre_DownSpecIdeal m →
    θ_run (Cert.DownSpecIdeal.defs (F := Ideal)) (onTc (τ := Cert.DownSpecIdeal.τ) (Cert.DownSpecIdeal.main (F := Ideal))) ⟨m, fun _ => 0, g⟩ (fun r => (∀ c : Dev Cert.DownSpecIdeal.nD,
      r.2.mem ((c.tc : Thread Cert.DownSpecIdeal.nD Cert.DownSpecIdeal.τ).loc Cert.DownSpecIdeal.main_arg0) = m ((c.tc : Thread Cert.DownSpecIdeal.nD Cert.DownSpecIdeal.τ).loc Cert.DownSpecIdeal.main_arg0)
      ∧ r.2.mem ((c.tc : Thread Cert.DownSpecIdeal.nD Cert.DownSpecIdeal.τ).loc Cert.DownSpecIdeal.main_arg1) = m ((c.tc : Thread Cert.DownSpecIdeal.nD Cert.DownSpecIdeal.τ).loc Cert.DownSpecIdeal.main_arg1)
      ∧ r.2.mem ((c.tc : Thread Cert.DownSpecIdeal.nD Cert.DownSpecIdeal.τ).loc Cert.DownSpecIdeal.main_arg2) = m ((c.tc : Thread Cert.DownSpecIdeal.nD Cert.DownSpecIdeal.τ).loc Cert.DownSpecIdeal.main_arg2))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1)
      ∧ r.2.mem ((c.tc : Thread Cert.DownDa.nD Cert.DownDa.τ).loc Cert.DownDa.main_arg2) = m ((c.tc : Thread Cert.DownDa.nD Cert.DownDa.τ).loc Cert.DownDa.main_arg2)
      ∧ r.2.mem ((c.tc : Thread Cert.DownDa.nD Cert.DownDa.τ).loc Cert.DownDa.main_arg3) = m ((c.tc : Thread Cert.DownDa.nD Cert.DownDa.τ).loc Cert.DownDa.main_arg3))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1)
      ∧ r.2.mem ((c.tc : Thread Cert.DownDaIdeal.nD Cert.DownDaIdeal.τ).loc Cert.DownDaIdeal.main_arg2) = m ((c.tc : Thread Cert.DownDaIdeal.nD Cert.DownDaIdeal.τ).loc Cert.DownDaIdeal.main_arg2)
      ∧ r.2.mem ((c.tc : Thread Cert.DownDaIdeal.nD Cert.DownDaIdeal.τ).loc Cert.DownDaIdeal.main_arg3) = m ((c.tc : Thread Cert.DownDaIdeal.nD Cert.DownDaIdeal.τ).loc Cert.DownDaIdeal.main_arg3))
      ∧ r.2.sem = fun _ => 0)

def quiescent_DownDaIdeal_pre_finite_down_da [hDownDaIdeal : Cert.DownDaIdeal.Facts] [hPre_finite_down_da : Cert.Pre_finite_down_da.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal_finite_down_da m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1)
      ∧ r.2.mem ((c.tc : Thread Cert.DownDaIdeal.nD Cert.DownDaIdeal.τ).loc Cert.DownDaIdeal.main_arg2) = m ((c.tc : Thread Cert.DownDaIdeal.nD Cert.DownDaIdeal.τ).loc Cert.DownDaIdeal.main_arg2)
      ∧ r.2.mem ((c.tc : Thread Cert.DownDaIdeal.nD Cert.DownDaIdeal.τ).loc Cert.DownDaIdeal.main_arg3) = m ((c.tc : Thread Cert.DownDaIdeal.nD Cert.DownDaIdeal.τ).loc Cert.DownDaIdeal.main_arg3))
      ∧ r.2.sem = fun _ => 0)

def quiescent_DownDaSpecIdeal [hDownDaSpecIdeal : Cert.DownDaSpecIdeal.Facts] : Prop :=
  ∀ (m : (ℓ : Loc Cert.DownDaSpecIdeal.nD Cert.DownDaSpecIdeal.τ Cert.DownDaSpecIdeal.sig) → Buf (Elt Ideal) ℓ) (g : Dev Cert.DownDaSpecIdeal.nD → PrngReg), Pre_DownDaSpecIdeal m →
    θ_run (Cert.DownDaSpecIdeal.defs (F := Ideal)) (onTc (τ := Cert.DownDaSpecIdeal.τ) (Cert.DownDaSpecIdeal.main (F := Ideal))) ⟨m, fun _ => 0, g⟩ (fun r => (∀ c : Dev Cert.DownDaSpecIdeal.nD,
      r.2.mem ((c.tc : Thread Cert.DownDaSpecIdeal.nD Cert.DownDaSpecIdeal.τ).loc Cert.DownDaSpecIdeal.main_arg0) = m ((c.tc : Thread Cert.DownDaSpecIdeal.nD Cert.DownDaSpecIdeal.τ).loc Cert.DownDaSpecIdeal.main_arg0)
      ∧ r.2.mem ((c.tc : Thread Cert.DownDaSpecIdeal.nD Cert.DownDaSpecIdeal.τ).loc Cert.DownDaSpecIdeal.main_arg1) = m ((c.tc : Thread Cert.DownDaSpecIdeal.nD Cert.DownDaSpecIdeal.τ).loc Cert.DownDaSpecIdeal.main_arg1)
      ∧ r.2.mem ((c.tc : Thread Cert.DownDaSpecIdeal.nD Cert.DownDaSpecIdeal.τ).loc Cert.DownDaSpecIdeal.main_arg2) = m ((c.tc : Thread Cert.DownDaSpecIdeal.nD Cert.DownDaSpecIdeal.τ).loc Cert.DownDaSpecIdeal.main_arg2)
      ∧ r.2.mem ((c.tc : Thread Cert.DownDaSpecIdeal.nD Cert.DownDaSpecIdeal.τ).loc Cert.DownDaSpecIdeal.main_arg3) = m ((c.tc : Thread Cert.DownDaSpecIdeal.nD Cert.DownDaSpecIdeal.τ).loc Cert.DownDaSpecIdeal.main_arg3))
      ∧ r.2.sem = fun _ => 0)

def quiescent_DownDaSpecIdeal_pre_finite_down_da [hDownDaSpecIdeal : Cert.DownDaSpecIdeal.Facts] [hPre_finite_down_da : Cert.Pre_finite_down_da.Facts] : Prop :=
  ∀ (m : (ℓ : Loc Cert.DownDaSpecIdeal.nD Cert.DownDaSpecIdeal.τ Cert.DownDaSpecIdeal.sig) → Buf (Elt Ideal) ℓ) (g : Dev Cert.DownDaSpecIdeal.nD → PrngReg), Pre_DownDaSpecIdeal_finite_down_da m →
    θ_run (Cert.DownDaSpecIdeal.defs (F := Ideal)) (onTc (τ := Cert.DownDaSpecIdeal.τ) (Cert.DownDaSpecIdeal.main (F := Ideal))) ⟨m, fun _ => 0, g⟩ (fun r => (∀ c : Dev Cert.DownDaSpecIdeal.nD,
      r.2.mem ((c.tc : Thread Cert.DownDaSpecIdeal.nD Cert.DownDaSpecIdeal.τ).loc Cert.DownDaSpecIdeal.main_arg0) = m ((c.tc : Thread Cert.DownDaSpecIdeal.nD Cert.DownDaSpecIdeal.τ).loc Cert.DownDaSpecIdeal.main_arg0)
      ∧ r.2.mem ((c.tc : Thread Cert.DownDaSpecIdeal.nD Cert.DownDaSpecIdeal.τ).loc Cert.DownDaSpecIdeal.main_arg1) = m ((c.tc : Thread Cert.DownDaSpecIdeal.nD Cert.DownDaSpecIdeal.τ).loc Cert.DownDaSpecIdeal.main_arg1)
      ∧ r.2.mem ((c.tc : Thread Cert.DownDaSpecIdeal.nD Cert.DownDaSpecIdeal.τ).loc Cert.DownDaSpecIdeal.main_arg2) = m ((c.tc : Thread Cert.DownDaSpecIdeal.nD Cert.DownDaSpecIdeal.τ).loc Cert.DownDaSpecIdeal.main_arg2)
      ∧ r.2.mem ((c.tc : Thread Cert.DownDaSpecIdeal.nD Cert.DownDaSpecIdeal.τ).loc Cert.DownDaSpecIdeal.main_arg3) = m ((c.tc : Thread Cert.DownDaSpecIdeal.nD Cert.DownDaSpecIdeal.τ).loc Cert.DownDaSpecIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwSpecIdeal [hDownDwSpecIdeal : Cert.DownDwSpecIdeal.Facts] : Prop :=
  ∀ (m : (ℓ : Loc Cert.DownDwSpecIdeal.nD Cert.DownDwSpecIdeal.τ Cert.DownDwSpecIdeal.sig) → Buf (Elt Ideal) ℓ) (g : Dev Cert.DownDwSpecIdeal.nD → PrngReg), Pre_DownDwSpecIdeal m →
    θ_run (Cert.DownDwSpecIdeal.defs (F := Ideal)) (onTc (τ := Cert.DownDwSpecIdeal.τ) (Cert.DownDwSpecIdeal.main (F := Ideal))) ⟨m, fun _ => 0, g⟩ (fun r => (∀ c : Dev Cert.DownDwSpecIdeal.nD,
      r.2.mem ((c.tc : Thread Cert.DownDwSpecIdeal.nD Cert.DownDwSpecIdeal.τ).loc Cert.DownDwSpecIdeal.main_arg0) = m ((c.tc : Thread Cert.DownDwSpecIdeal.nD Cert.DownDwSpecIdeal.τ).loc Cert.DownDwSpecIdeal.main_arg0)
      ∧ r.2.mem ((c.tc : Thread Cert.DownDwSpecIdeal.nD Cert.DownDwSpecIdeal.τ).loc Cert.DownDwSpecIdeal.main_arg1) = m ((c.tc : Thread Cert.DownDwSpecIdeal.nD Cert.DownDwSpecIdeal.τ).loc Cert.DownDwSpecIdeal.main_arg1))
      ∧ r.2.sem = fun _ => 0)

def quiescent_GateUpDw [hGateUpDw : Cert.GateUpDw.Facts] : Prop :=
  ∀ (m : (ℓ : Loc Cert.GateUpDw.nD Cert.GateUpDw.τ Cert.GateUpDw.sig) → Buf (Elt Bits) ℓ) (g : Dev Cert.GateUpDw.nD → PrngReg), Pre_GateUpDw m →
    θ_run (Cert.GateUpDw.defs (F := Bits)) (onTc (τ := Cert.GateUpDw.τ) (Cert.GateUpDw.main (F := Bits))) ⟨m, fun _ => 0, g⟩ (fun r => (∀ c : Dev Cert.GateUpDw.nD,
      r.2.mem ((c.tc : Thread Cert.GateUpDw.nD Cert.GateUpDw.τ).loc Cert.GateUpDw.main_arg0) = m ((c.tc : Thread Cert.GateUpDw.nD Cert.GateUpDw.τ).loc Cert.GateUpDw.main_arg0)
      ∧ r.2.mem ((c.tc : Thread Cert.GateUpDw.nD Cert.GateUpDw.τ).loc Cert.GateUpDw.main_arg1) = m ((c.tc : Thread Cert.GateUpDw.nD Cert.GateUpDw.τ).loc Cert.GateUpDw.main_arg1))
      ∧ r.2.sem = fun _ => 0)

def quiescent_GateUpDwIdeal [hGateUpDwIdeal : Cert.GateUpDwIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg), Pre_GateUpDwIdeal m →
    θ_run (Cert.GateUpDwIdeal.defs (F := Ideal)) (onTc (τ := Cert.GateUpDwIdeal.τ) (Cert.GateUpDwIdeal.main (F := Ideal))) ⟨m, fun _ => 0, g⟩ (fun r => (∀ c : Dev Cert.GateUpDwIdeal.nD,
      r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
      ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ r.2.sem = fun _ => 0)

def quiescent_GateUpDwSpecIdeal [hGateUpDwSpecIdeal : Cert.GateUpDwSpecIdeal.Facts] : Prop :=
  ∀ (m : (ℓ : Loc Cert.GateUpDwSpecIdeal.nD Cert.GateUpDwSpecIdeal.τ Cert.GateUpDwSpecIdeal.sig) → Buf (Elt Ideal) ℓ) (g : Dev Cert.GateUpDwSpecIdeal.nD → PrngReg), Pre_GateUpDwSpecIdeal m →
    θ_run (Cert.GateUpDwSpecIdeal.defs (F := Ideal)) (onTc (τ := Cert.GateUpDwSpecIdeal.τ) (Cert.GateUpDwSpecIdeal.main (F := Ideal))) ⟨m, fun _ => 0, g⟩ (fun r => (∀ c : Dev Cert.GateUpDwSpecIdeal.nD,
      r.2.mem ((c.tc : Thread Cert.GateUpDwSpecIdeal.nD Cert.GateUpDwSpecIdeal.τ).loc Cert.GateUpDwSpecIdeal.main_arg0) = m ((c.tc : Thread Cert.GateUpDwSpecIdeal.nD Cert.GateUpDwSpecIdeal.τ).loc Cert.GateUpDwSpecIdeal.main_arg0)
      ∧ r.2.mem ((c.tc : Thread Cert.GateUpDwSpecIdeal.nD Cert.GateUpDwSpecIdeal.τ).loc Cert.GateUpDwSpecIdeal.main_arg1) = m ((c.tc : Thread Cert.GateUpDwSpecIdeal.nD Cert.GateUpDwSpecIdeal.τ).loc Cert.GateUpDwSpecIdeal.main_arg1))
      ∧ r.2.sem = fun _ => 0)

def quiescent_GateUpDa [hGateUpDa : Cert.GateUpDa.Facts] : Prop :=
  ∀ (m : (ℓ : Loc Cert.GateUpDa.nD Cert.GateUpDa.τ Cert.GateUpDa.sig) → Buf (Elt Bits) ℓ) (g : Dev Cert.GateUpDa.nD → PrngReg), Pre_GateUpDa m →
    θ_run (Cert.GateUpDa.defs (F := Bits)) (onTc (τ := Cert.GateUpDa.τ) (Cert.GateUpDa.main (F := Bits))) ⟨m, fun _ => 0, g⟩ (fun r => (∀ c : Dev Cert.GateUpDa.nD,
      r.2.mem ((c.tc : Thread Cert.GateUpDa.nD Cert.GateUpDa.τ).loc Cert.GateUpDa.main_arg0) = m ((c.tc : Thread Cert.GateUpDa.nD Cert.GateUpDa.τ).loc Cert.GateUpDa.main_arg0)
      ∧ r.2.mem ((c.tc : Thread Cert.GateUpDa.nD Cert.GateUpDa.τ).loc Cert.GateUpDa.main_arg1) = m ((c.tc : Thread Cert.GateUpDa.nD Cert.GateUpDa.τ).loc Cert.GateUpDa.main_arg1)
      ∧ r.2.mem ((c.tc : Thread Cert.GateUpDa.nD Cert.GateUpDa.τ).loc Cert.GateUpDa.main_arg2) = m ((c.tc : Thread Cert.GateUpDa.nD Cert.GateUpDa.τ).loc Cert.GateUpDa.main_arg2)
      ∧ r.2.mem ((c.tc : Thread Cert.GateUpDa.nD Cert.GateUpDa.τ).loc Cert.GateUpDa.main_arg3) = m ((c.tc : Thread Cert.GateUpDa.nD Cert.GateUpDa.τ).loc Cert.GateUpDa.main_arg3)
      ∧ r.2.mem ((c.tc : Thread Cert.GateUpDa.nD Cert.GateUpDa.τ).loc Cert.GateUpDa.main_arg4) = m ((c.tc : Thread Cert.GateUpDa.nD Cert.GateUpDa.τ).loc Cert.GateUpDa.main_arg4))
      ∧ r.2.sem = fun _ => 0)

def quiescent_GateUpDaIdeal [hGateUpDaIdeal : Cert.GateUpDaIdeal.Facts] : Prop :=
  ∀ (m : (ℓ : Loc Cert.GateUpDaIdeal.nD Cert.GateUpDaIdeal.τ Cert.GateUpDaIdeal.sig) → Buf (Elt Ideal) ℓ) (g : Dev Cert.GateUpDaIdeal.nD → PrngReg), Pre_GateUpDaIdeal m →
    θ_run (Cert.GateUpDaIdeal.defs (F := Ideal)) (onTc (τ := Cert.GateUpDaIdeal.τ) (Cert.GateUpDaIdeal.main (F := Ideal))) ⟨m, fun _ => 0, g⟩ (fun r => (∀ c : Dev Cert.GateUpDaIdeal.nD,
      r.2.mem ((c.tc : Thread Cert.GateUpDaIdeal.nD Cert.GateUpDaIdeal.τ).loc Cert.GateUpDaIdeal.main_arg0) = m ((c.tc : Thread Cert.GateUpDaIdeal.nD Cert.GateUpDaIdeal.τ).loc Cert.GateUpDaIdeal.main_arg0)
      ∧ r.2.mem ((c.tc : Thread Cert.GateUpDaIdeal.nD Cert.GateUpDaIdeal.τ).loc Cert.GateUpDaIdeal.main_arg1) = m ((c.tc : Thread Cert.GateUpDaIdeal.nD Cert.GateUpDaIdeal.τ).loc Cert.GateUpDaIdeal.main_arg1)
      ∧ r.2.mem ((c.tc : Thread Cert.GateUpDaIdeal.nD Cert.GateUpDaIdeal.τ).loc Cert.GateUpDaIdeal.main_arg2) = m ((c.tc : Thread Cert.GateUpDaIdeal.nD Cert.GateUpDaIdeal.τ).loc Cert.GateUpDaIdeal.main_arg2)
      ∧ r.2.mem ((c.tc : Thread Cert.GateUpDaIdeal.nD Cert.GateUpDaIdeal.τ).loc Cert.GateUpDaIdeal.main_arg3) = m ((c.tc : Thread Cert.GateUpDaIdeal.nD Cert.GateUpDaIdeal.τ).loc Cert.GateUpDaIdeal.main_arg3)
      ∧ r.2.mem ((c.tc : Thread Cert.GateUpDaIdeal.nD Cert.GateUpDaIdeal.τ).loc Cert.GateUpDaIdeal.main_arg4) = m ((c.tc : Thread Cert.GateUpDaIdeal.nD Cert.GateUpDaIdeal.τ).loc Cert.GateUpDaIdeal.main_arg4))
      ∧ r.2.sem = fun _ => 0)

def quiescent_GateUpDaIdeal_pre_finite_gate_up_da [hGateUpDaIdeal : Cert.GateUpDaIdeal.Facts] [hPre_finite_gate_up_da : Cert.Pre_finite_gate_up_da.Facts] : Prop :=
  ∀ (m : (ℓ : Loc Cert.GateUpDaIdeal.nD Cert.GateUpDaIdeal.τ Cert.GateUpDaIdeal.sig) → Buf (Elt Ideal) ℓ) (g : Dev Cert.GateUpDaIdeal.nD → PrngReg), Pre_GateUpDaIdeal_finite_gate_up_da m →
    θ_run (Cert.GateUpDaIdeal.defs (F := Ideal)) (onTc (τ := Cert.GateUpDaIdeal.τ) (Cert.GateUpDaIdeal.main (F := Ideal))) ⟨m, fun _ => 0, g⟩ (fun r => (∀ c : Dev Cert.GateUpDaIdeal.nD,
      r.2.mem ((c.tc : Thread Cert.GateUpDaIdeal.nD Cert.GateUpDaIdeal.τ).loc Cert.GateUpDaIdeal.main_arg0) = m ((c.tc : Thread Cert.GateUpDaIdeal.nD Cert.GateUpDaIdeal.τ).loc Cert.GateUpDaIdeal.main_arg0)
      ∧ r.2.mem ((c.tc : Thread Cert.GateUpDaIdeal.nD Cert.GateUpDaIdeal.τ).loc Cert.GateUpDaIdeal.main_arg1) = m ((c.tc : Thread Cert.GateUpDaIdeal.nD Cert.GateUpDaIdeal.τ).loc Cert.GateUpDaIdeal.main_arg1)
      ∧ r.2.mem ((c.tc : Thread Cert.GateUpDaIdeal.nD Cert.GateUpDaIdeal.τ).loc Cert.GateUpDaIdeal.main_arg2) = m ((c.tc : Thread Cert.GateUpDaIdeal.nD Cert.GateUpDaIdeal.τ).loc Cert.GateUpDaIdeal.main_arg2)
      ∧ r.2.mem ((c.tc : Thread Cert.GateUpDaIdeal.nD Cert.GateUpDaIdeal.τ).loc Cert.GateUpDaIdeal.main_arg3) = m ((c.tc : Thread Cert.GateUpDaIdeal.nD Cert.GateUpDaIdeal.τ).loc Cert.GateUpDaIdeal.main_arg3)
      ∧ r.2.mem ((c.tc : Thread Cert.GateUpDaIdeal.nD Cert.GateUpDaIdeal.τ).loc Cert.GateUpDaIdeal.main_arg4) = m ((c.tc : Thread Cert.GateUpDaIdeal.nD Cert.GateUpDaIdeal.τ).loc Cert.GateUpDaIdeal.main_arg4))
      ∧ r.2.sem = fun _ => 0)

def quiescent_GateUpDaSpecIdeal [hGateUpDaSpecIdeal : Cert.GateUpDaSpecIdeal.Facts] : Prop :=
  ∀ (m : (ℓ : Loc Cert.GateUpDaSpecIdeal.nD Cert.GateUpDaSpecIdeal.τ Cert.GateUpDaSpecIdeal.sig) → Buf (Elt Ideal) ℓ) (g : Dev Cert.GateUpDaSpecIdeal.nD → PrngReg), Pre_GateUpDaSpecIdeal m →
    θ_run (Cert.GateUpDaSpecIdeal.defs (F := Ideal)) (onTc (τ := Cert.GateUpDaSpecIdeal.τ) (Cert.GateUpDaSpecIdeal.main (F := Ideal))) ⟨m, fun _ => 0, g⟩ (fun r => (∀ c : Dev Cert.GateUpDaSpecIdeal.nD,
      r.2.mem ((c.tc : Thread Cert.GateUpDaSpecIdeal.nD Cert.GateUpDaSpecIdeal.τ).loc Cert.GateUpDaSpecIdeal.main_arg0) = m ((c.tc : Thread Cert.GateUpDaSpecIdeal.nD Cert.GateUpDaSpecIdeal.τ).loc Cert.GateUpDaSpecIdeal.main_arg0)
      ∧ r.2.mem ((c.tc : Thread Cert.GateUpDaSpecIdeal.nD Cert.GateUpDaSpecIdeal.τ).loc Cert.GateUpDaSpecIdeal.main_arg1) = m ((c.tc : Thread Cert.GateUpDaSpecIdeal.nD Cert.GateUpDaSpecIdeal.τ).loc Cert.GateUpDaSpecIdeal.main_arg1)
      ∧ r.2.mem ((c.tc : Thread Cert.GateUpDaSpecIdeal.nD Cert.GateUpDaSpecIdeal.τ).loc Cert.GateUpDaSpecIdeal.main_arg2) = m ((c.tc : Thread Cert.GateUpDaSpecIdeal.nD Cert.GateUpDaSpecIdeal.τ).loc Cert.GateUpDaSpecIdeal.main_arg2)
      ∧ r.2.mem ((c.tc : Thread Cert.GateUpDaSpecIdeal.nD Cert.GateUpDaSpecIdeal.τ).loc Cert.GateUpDaSpecIdeal.main_arg3) = m ((c.tc : Thread Cert.GateUpDaSpecIdeal.nD Cert.GateUpDaSpecIdeal.τ).loc Cert.GateUpDaSpecIdeal.main_arg3)
      ∧ r.2.mem ((c.tc : Thread Cert.GateUpDaSpecIdeal.nD Cert.GateUpDaSpecIdeal.τ).loc Cert.GateUpDaSpecIdeal.main_arg4) = m ((c.tc : Thread Cert.GateUpDaSpecIdeal.nD Cert.GateUpDaSpecIdeal.τ).loc Cert.GateUpDaSpecIdeal.main_arg4))
      ∧ r.2.sem = fun _ => 0)

def quiescent_GateUpDaSpecIdeal_pre_finite_gate_up_da [hGateUpDaSpecIdeal : Cert.GateUpDaSpecIdeal.Facts] [hPre_finite_gate_up_da : Cert.Pre_finite_gate_up_da.Facts] : Prop :=
  ∀ (m : (ℓ : Loc Cert.GateUpDaSpecIdeal.nD Cert.GateUpDaSpecIdeal.τ Cert.GateUpDaSpecIdeal.sig) → Buf (Elt Ideal) ℓ) (g : Dev Cert.GateUpDaSpecIdeal.nD → PrngReg), Pre_GateUpDaSpecIdeal_finite_gate_up_da m →
    θ_run (Cert.GateUpDaSpecIdeal.defs (F := Ideal)) (onTc (τ := Cert.GateUpDaSpecIdeal.τ) (Cert.GateUpDaSpecIdeal.main (F := Ideal))) ⟨m, fun _ => 0, g⟩ (fun r => (∀ c : Dev Cert.GateUpDaSpecIdeal.nD,
      r.2.mem ((c.tc : Thread Cert.GateUpDaSpecIdeal.nD Cert.GateUpDaSpecIdeal.τ).loc Cert.GateUpDaSpecIdeal.main_arg0) = m ((c.tc : Thread Cert.GateUpDaSpecIdeal.nD Cert.GateUpDaSpecIdeal.τ).loc Cert.GateUpDaSpecIdeal.main_arg0)
      ∧ r.2.mem ((c.tc : Thread Cert.GateUpDaSpecIdeal.nD Cert.GateUpDaSpecIdeal.τ).loc Cert.GateUpDaSpecIdeal.main_arg1) = m ((c.tc : Thread Cert.GateUpDaSpecIdeal.nD Cert.GateUpDaSpecIdeal.τ).loc Cert.GateUpDaSpecIdeal.main_arg1)
      ∧ r.2.mem ((c.tc : Thread Cert.GateUpDaSpecIdeal.nD Cert.GateUpDaSpecIdeal.τ).loc Cert.GateUpDaSpecIdeal.main_arg2) = m ((c.tc : Thread Cert.GateUpDaSpecIdeal.nD Cert.GateUpDaSpecIdeal.τ).loc Cert.GateUpDaSpecIdeal.main_arg2)
      ∧ r.2.mem ((c.tc : Thread Cert.GateUpDaSpecIdeal.nD Cert.GateUpDaSpecIdeal.τ).loc Cert.GateUpDaSpecIdeal.main_arg3) = m ((c.tc : Thread Cert.GateUpDaSpecIdeal.nD Cert.GateUpDaSpecIdeal.τ).loc Cert.GateUpDaSpecIdeal.main_arg3)
      ∧ r.2.mem ((c.tc : Thread Cert.GateUpDaSpecIdeal.nD Cert.GateUpDaSpecIdeal.τ).loc Cert.GateUpDaSpecIdeal.main_arg4) = m ((c.tc : Thread Cert.GateUpDaSpecIdeal.nD Cert.GateUpDaSpecIdeal.τ).loc Cert.GateUpDaSpecIdeal.main_arg4))
      ∧ r.2.sem = fun _ => 0)

def quiescent_InPiece [hInPiece : Cert.InPiece.Facts] : Prop :=
  ∀ (m : (ℓ : Loc Cert.InPiece.nD Cert.InPiece.τ Cert.InPiece.sig) → Buf (Elt Bits) ℓ) (g : Dev Cert.InPiece.nD → PrngReg), Pre_InPiece m →
    θ_run (Cert.InPiece.defs (F := Bits)) (onTc (τ := Cert.InPiece.τ) (Cert.InPiece.main (F := Bits))) ⟨m, fun _ => 0, g⟩ (fun r => (∀ c : Dev Cert.InPiece.nD,
      r.2.mem ((c.tc : Thread Cert.InPiece.nD Cert.InPiece.τ).loc Cert.InPiece.main_arg0) = m ((c.tc : Thread Cert.InPiece.nD Cert.InPiece.τ).loc Cert.InPiece.main_arg0)
      ∧ r.2.mem ((c.tc : Thread Cert.InPiece.nD Cert.InPiece.τ).loc Cert.InPiece.main_arg1) = m ((c.tc : Thread Cert.InPiece.nD Cert.InPiece.τ).loc Cert.InPiece.main_arg1))
      ∧ r.2.sem = fun _ => 0)

def quiescent_InPieceIdeal [hInPieceIdeal : Cert.InPieceIdeal.Facts] : Prop :=
  ∀ (m : (ℓ : Loc Cert.InPieceIdeal.nD Cert.InPieceIdeal.τ Cert.InPieceIdeal.sig) → Buf (Elt Ideal) ℓ) (g : Dev Cert.InPieceIdeal.nD → PrngReg), Pre_InPieceIdeal m →
    θ_run (Cert.InPieceIdeal.defs (F := Ideal)) (onTc (τ := Cert.InPieceIdeal.τ) (Cert.InPieceIdeal.main (F := Ideal))) ⟨m, fun _ => 0, g⟩ (fun r => (∀ c : Dev Cert.InPieceIdeal.nD,
      r.2.mem ((c.tc : Thread Cert.InPieceIdeal.nD Cert.InPieceIdeal.τ).loc Cert.InPieceIdeal.main_arg0) = m ((c.tc : Thread Cert.InPieceIdeal.nD Cert.InPieceIdeal.τ).loc Cert.InPieceIdeal.main_arg0)
      ∧ r.2.mem ((c.tc : Thread Cert.InPieceIdeal.nD Cert.InPieceIdeal.τ).loc Cert.InPieceIdeal.main_arg1) = m ((c.tc : Thread Cert.InPieceIdeal.nD Cert.InPieceIdeal.τ).loc Cert.InPieceIdeal.main_arg1))
      ∧ r.2.sem = fun _ => 0)

def quiescent_InPieceSpecIdeal [hInPieceSpecIdeal : Cert.InPieceSpecIdeal.Facts] : Prop :=
  ∀ (m : (ℓ : Loc Cert.InPieceSpecIdeal.nD Cert.InPieceSpecIdeal.τ Cert.InPieceSpecIdeal.sig) → Buf (Elt Ideal) ℓ) (g : Dev Cert.InPieceSpecIdeal.nD → PrngReg), Pre_InPieceSpecIdeal m →
    θ_run (Cert.InPieceSpecIdeal.defs (F := Ideal)) (onTc (τ := Cert.InPieceSpecIdeal.τ) (Cert.InPieceSpecIdeal.main (F := Ideal))) ⟨m, fun _ => 0, g⟩ (fun r => (∀ c : Dev Cert.InPieceSpecIdeal.nD,
      r.2.mem ((c.tc : Thread Cert.InPieceSpecIdeal.nD Cert.InPieceSpecIdeal.τ).loc Cert.InPieceSpecIdeal.main_arg0) = m ((c.tc : Thread Cert.InPieceSpecIdeal.nD Cert.InPieceSpecIdeal.τ).loc Cert.InPieceSpecIdeal.main_arg0)
      ∧ r.2.mem ((c.tc : Thread Cert.InPieceSpecIdeal.nD Cert.InPieceSpecIdeal.τ).loc Cert.InPieceSpecIdeal.main_arg1) = m ((c.tc : Thread Cert.InPieceSpecIdeal.nD Cert.InPieceSpecIdeal.τ).loc Cert.InPieceSpecIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwSpecIdeal [hInDwSpecIdeal : Cert.InDwSpecIdeal.Facts] : Prop :=
  ∀ (m : (ℓ : Loc Cert.InDwSpecIdeal.nD Cert.InDwSpecIdeal.τ Cert.InDwSpecIdeal.sig) → Buf (Elt Ideal) ℓ) (g : Dev Cert.InDwSpecIdeal.nD → PrngReg), Pre_InDwSpecIdeal m →
    θ_run (Cert.InDwSpecIdeal.defs (F := Ideal)) (onTc (τ := Cert.InDwSpecIdeal.τ) (Cert.InDwSpecIdeal.main (F := Ideal))) ⟨m, fun _ => 0, g⟩ (fun r => (∀ c : Dev Cert.InDwSpecIdeal.nD,
      r.2.mem ((c.tc : Thread Cert.InDwSpecIdeal.nD Cert.InDwSpecIdeal.τ).loc Cert.InDwSpecIdeal.main_arg0) = m ((c.tc : Thread Cert.InDwSpecIdeal.nD Cert.InDwSpecIdeal.τ).loc Cert.InDwSpecIdeal.main_arg0)
      ∧ r.2.mem ((c.tc : Thread Cert.InDwSpecIdeal.nD Cert.InDwSpecIdeal.τ).loc Cert.InDwSpecIdeal.main_arg1) = m ((c.tc : Thread Cert.InDwSpecIdeal.nD Cert.InDwSpecIdeal.τ).loc Cert.InDwSpecIdeal.main_arg1))
      ∧ r.2.sem = fun _ => 0)

def quiescent_InDa [hInDa : Cert.InDa.Facts] : Prop :=
  ∀ (m : (ℓ : Loc Cert.InDa.nD Cert.InDa.τ Cert.InDa.sig) → Buf (Elt Bits) ℓ) (g : Dev Cert.InDa.nD → PrngReg), Pre_InDa m →
    θ_run (Cert.InDa.defs (F := Bits)) (onTc (τ := Cert.InDa.τ) (Cert.InDa.main (F := Bits))) ⟨m, fun _ => 0, g⟩ (fun r => (∀ c : Dev Cert.InDa.nD,
      r.2.mem ((c.tc : Thread Cert.InDa.nD Cert.InDa.τ).loc Cert.InDa.main_arg0) = m ((c.tc : Thread Cert.InDa.nD Cert.InDa.τ).loc Cert.InDa.main_arg0)
      ∧ r.2.mem ((c.tc : Thread Cert.InDa.nD Cert.InDa.τ).loc Cert.InDa.main_arg1) = m ((c.tc : Thread Cert.InDa.nD Cert.InDa.τ).loc Cert.InDa.main_arg1)
      ∧ r.2.mem ((c.tc : Thread Cert.InDa.nD Cert.InDa.τ).loc Cert.InDa.main_arg2) = m ((c.tc : Thread Cert.InDa.nD Cert.InDa.τ).loc Cert.InDa.main_arg2)
      ∧ r.2.mem ((c.tc : Thread Cert.InDa.nD Cert.InDa.τ).loc Cert.InDa.main_arg3) = m ((c.tc : Thread Cert.InDa.nD Cert.InDa.τ).loc Cert.InDa.main_arg3)
      ∧ r.2.mem ((c.tc : Thread Cert.InDa.nD Cert.InDa.τ).loc Cert.InDa.main_arg4) = m ((c.tc : Thread Cert.InDa.nD Cert.InDa.τ).loc Cert.InDa.main_arg4))
      ∧ r.2.sem = fun _ => 0)

def quiescent_InDaIdeal [hInDaIdeal : Cert.InDaIdeal.Facts] : Prop :=
  ∀ (m : (ℓ : Loc Cert.InDaIdeal.nD Cert.InDaIdeal.τ Cert.InDaIdeal.sig) → Buf (Elt Ideal) ℓ) (g : Dev Cert.InDaIdeal.nD → PrngReg), Pre_InDaIdeal m →
    θ_run (Cert.InDaIdeal.defs (F := Ideal)) (onTc (τ := Cert.InDaIdeal.τ) (Cert.InDaIdeal.main (F := Ideal))) ⟨m, fun _ => 0, g⟩ (fun r => (∀ c : Dev Cert.InDaIdeal.nD,
      r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
      ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
      ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2)
      ∧ r.2.mem ((c.tc : Thread Cert.InDaIdeal.nD Cert.InDaIdeal.τ).loc Cert.InDaIdeal.main_arg3) = m ((c.tc : Thread Cert.InDaIdeal.nD Cert.InDaIdeal.τ).loc Cert.InDaIdeal.main_arg3)
      ∧ r.2.mem ((c.tc : Thread Cert.InDaIdeal.nD Cert.InDaIdeal.τ).loc Cert.InDaIdeal.main_arg4) = m ((c.tc : Thread Cert.InDaIdeal.nD Cert.InDaIdeal.τ).loc Cert.InDaIdeal.main_arg4))
      ∧ r.2.sem = fun _ => 0)

def quiescent_InDaIdeal_pre_finite_in_da [hInDaIdeal : Cert.InDaIdeal.Facts] [hPre_finite_in_da : Cert.Pre_finite_in_da.Facts] : Prop :=
  ∀ (m : (ℓ : Loc Cert.InDaIdeal.nD Cert.InDaIdeal.τ Cert.InDaIdeal.sig) → Buf (Elt Ideal) ℓ) (g : Dev Cert.InDaIdeal.nD → PrngReg), Pre_InDaIdeal_finite_in_da m →
    θ_run (Cert.InDaIdeal.defs (F := Ideal)) (onTc (τ := Cert.InDaIdeal.τ) (Cert.InDaIdeal.main (F := Ideal))) ⟨m, fun _ => 0, g⟩ (fun r => (∀ c : Dev Cert.InDaIdeal.nD,
      r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
      ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
      ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2)
      ∧ r.2.mem ((c.tc : Thread Cert.InDaIdeal.nD Cert.InDaIdeal.τ).loc Cert.InDaIdeal.main_arg3) = m ((c.tc : Thread Cert.InDaIdeal.nD Cert.InDaIdeal.τ).loc Cert.InDaIdeal.main_arg3)
      ∧ r.2.mem ((c.tc : Thread Cert.InDaIdeal.nD Cert.InDaIdeal.τ).loc Cert.InDaIdeal.main_arg4) = m ((c.tc : Thread Cert.InDaIdeal.nD Cert.InDaIdeal.τ).loc Cert.InDaIdeal.main_arg4))
      ∧ r.2.sem = fun _ => 0)

def quiescent_InDaSpecIdeal [hInDaSpecIdeal : Cert.InDaSpecIdeal.Facts] : Prop :=
  ∀ (m : (ℓ : Loc Cert.InDaSpecIdeal.nD Cert.InDaSpecIdeal.τ Cert.InDaSpecIdeal.sig) → Buf (Elt Ideal) ℓ) (g : Dev Cert.InDaSpecIdeal.nD → PrngReg), Pre_InDaSpecIdeal m →
    θ_run (Cert.InDaSpecIdeal.defs (F := Ideal)) (onTc (τ := Cert.InDaSpecIdeal.τ) (Cert.InDaSpecIdeal.main (F := Ideal))) ⟨m, fun _ => 0, g⟩ (fun r => (∀ c : Dev Cert.InDaSpecIdeal.nD,
      r.2.mem ((c.tc : Thread Cert.InDaSpecIdeal.nD Cert.InDaSpecIdeal.τ).loc Cert.InDaSpecIdeal.main_arg0) = m ((c.tc : Thread Cert.InDaSpecIdeal.nD Cert.InDaSpecIdeal.τ).loc Cert.InDaSpecIdeal.main_arg0)
      ∧ r.2.mem ((c.tc : Thread Cert.InDaSpecIdeal.nD Cert.InDaSpecIdeal.τ).loc Cert.InDaSpecIdeal.main_arg1) = m ((c.tc : Thread Cert.InDaSpecIdeal.nD Cert.InDaSpecIdeal.τ).loc Cert.InDaSpecIdeal.main_arg1)
      ∧ r.2.mem ((c.tc : Thread Cert.InDaSpecIdeal.nD Cert.InDaSpecIdeal.τ).loc Cert.InDaSpecIdeal.main_arg2) = m ((c.tc : Thread Cert.InDaSpecIdeal.nD Cert.InDaSpecIdeal.τ).loc Cert.InDaSpecIdeal.main_arg2)
      ∧ r.2.mem ((c.tc : Thread Cert.InDaSpecIdeal.nD Cert.InDaSpecIdeal.τ).loc Cert.InDaSpecIdeal.main_arg3) = m ((c.tc : Thread Cert.InDaSpecIdeal.nD Cert.InDaSpecIdeal.τ).loc Cert.InDaSpecIdeal.main_arg3)
      ∧ r.2.mem ((c.tc : Thread Cert.InDaSpecIdeal.nD Cert.InDaSpecIdeal.τ).loc Cert.InDaSpecIdeal.main_arg4) = m ((c.tc : Thread Cert.InDaSpecIdeal.nD Cert.InDaSpecIdeal.τ).loc Cert.InDaSpecIdeal.main_arg4))
      ∧ r.2.sem = fun _ => 0)

def quiescent_InDaSpecIdeal_pre_finite_in_da [hInDaSpecIdeal : Cert.InDaSpecIdeal.Facts] [hPre_finite_in_da : Cert.Pre_finite_in_da.Facts] : Prop :=
  ∀ (m : (ℓ : Loc Cert.InDaSpecIdeal.nD Cert.InDaSpecIdeal.τ Cert.InDaSpecIdeal.sig) → Buf (Elt Ideal) ℓ) (g : Dev Cert.InDaSpecIdeal.nD → PrngReg), Pre_InDaSpecIdeal_finite_in_da m →
    θ_run (Cert.InDaSpecIdeal.defs (F := Ideal)) (onTc (τ := Cert.InDaSpecIdeal.τ) (Cert.InDaSpecIdeal.main (F := Ideal))) ⟨m, fun _ => 0, g⟩ (fun r => (∀ c : Dev Cert.InDaSpecIdeal.nD,
      r.2.mem ((c.tc : Thread Cert.InDaSpecIdeal.nD Cert.InDaSpecIdeal.τ).loc Cert.InDaSpecIdeal.main_arg0) = m ((c.tc : Thread Cert.InDaSpecIdeal.nD Cert.InDaSpecIdeal.τ).loc Cert.InDaSpecIdeal.main_arg0)
      ∧ r.2.mem ((c.tc : Thread Cert.InDaSpecIdeal.nD Cert.InDaSpecIdeal.τ).loc Cert.InDaSpecIdeal.main_arg1) = m ((c.tc : Thread Cert.InDaSpecIdeal.nD Cert.InDaSpecIdeal.τ).loc Cert.InDaSpecIdeal.main_arg1)
      ∧ r.2.mem ((c.tc : Thread Cert.InDaSpecIdeal.nD Cert.InDaSpecIdeal.τ).loc Cert.InDaSpecIdeal.main_arg2) = m ((c.tc : Thread Cert.InDaSpecIdeal.nD Cert.InDaSpecIdeal.τ).loc Cert.InDaSpecIdeal.main_arg2)
      ∧ r.2.mem ((c.tc : Thread Cert.InDaSpecIdeal.nD Cert.InDaSpecIdeal.τ).loc Cert.InDaSpecIdeal.main_arg3) = m ((c.tc : Thread Cert.InDaSpecIdeal.nD Cert.InDaSpecIdeal.τ).loc Cert.InDaSpecIdeal.main_arg3)
      ∧ r.2.mem ((c.tc : Thread Cert.InDaSpecIdeal.nD Cert.InDaSpecIdeal.τ).loc Cert.InDaSpecIdeal.main_arg4) = m ((c.tc : Thread Cert.InDaSpecIdeal.nD Cert.InDaSpecIdeal.τ).loc Cert.InDaSpecIdeal.main_arg4))
      ∧ r.2.sem = fun _ => 0)

def quiescent_OutNarrow [hOutNarrow : Cert.OutNarrow.Facts] : Prop :=
  ∀ (m : (ℓ : Loc Cert.OutNarrow.nD Cert.OutNarrow.τ Cert.OutNarrow.sig) → Buf (Elt Bits) ℓ) (g : Dev Cert.OutNarrow.nD → PrngReg), Pre_OutNarrow m →
    θ_run (Cert.OutNarrow.defs (F := Bits)) (onTc (τ := Cert.OutNarrow.τ) (Cert.OutNarrow.main (F := Bits))) ⟨m, fun _ => 0, g⟩ (fun r => (∀ c : Dev Cert.OutNarrow.nD,
      r.2.mem ((c.tc : Thread Cert.OutNarrow.nD Cert.OutNarrow.τ).loc Cert.OutNarrow.main_arg0) = m ((c.tc : Thread Cert.OutNarrow.nD Cert.OutNarrow.τ).loc Cert.OutNarrow.main_arg0)
      ∧ r.2.mem ((c.tc : Thread Cert.OutNarrow.nD Cert.OutNarrow.τ).loc Cert.OutNarrow.main_arg1) = m ((c.tc : Thread Cert.OutNarrow.nD Cert.OutNarrow.τ).loc Cert.OutNarrow.main_arg1)
      ∧ r.2.mem ((c.tc : Thread Cert.OutNarrow.nD Cert.OutNarrow.τ).loc Cert.OutNarrow.main_arg2) = m ((c.tc : Thread Cert.OutNarrow.nD Cert.OutNarrow.τ).loc Cert.OutNarrow.main_arg2))
      ∧ r.2.sem = fun _ => 0)

def quiescent_OutNarrowIdeal [hOutNarrowIdeal : Cert.OutNarrowIdeal.Facts] : Prop :=
  ∀ (m : (ℓ : Loc Cert.OutNarrowIdeal.nD Cert.OutNarrowIdeal.τ Cert.OutNarrowIdeal.sig) → Buf (Elt Ideal) ℓ) (g : Dev Cert.OutNarrowIdeal.nD → PrngReg), Pre_OutNarrowIdeal m →
    θ_run (Cert.OutNarrowIdeal.defs (F := Ideal)) (onTc (τ := Cert.OutNarrowIdeal.τ) (Cert.OutNarrowIdeal.main (F := Ideal))) ⟨m, fun _ => 0, g⟩ (fun r => (∀ c : Dev Cert.OutNarrowIdeal.nD,
      r.2.mem ((c.tc : Thread Cert.OutNarrowIdeal.nD Cert.OutNarrowIdeal.τ).loc Cert.OutNarrowIdeal.main_arg0) = m ((c.tc : Thread Cert.OutNarrowIdeal.nD Cert.OutNarrowIdeal.τ).loc Cert.OutNarrowIdeal.main_arg0)
      ∧ r.2.mem ((c.tc : Thread Cert.OutNarrowIdeal.nD Cert.OutNarrowIdeal.τ).loc Cert.OutNarrowIdeal.main_arg1) = m ((c.tc : Thread Cert.OutNarrowIdeal.nD Cert.OutNarrowIdeal.τ).loc Cert.OutNarrowIdeal.main_arg1)
      ∧ r.2.mem ((c.tc : Thread Cert.OutNarrowIdeal.nD Cert.OutNarrowIdeal.τ).loc Cert.OutNarrowIdeal.main_arg2) = m ((c.tc : Thread Cert.OutNarrowIdeal.nD Cert.OutNarrowIdeal.τ).loc Cert.OutNarrowIdeal.main_arg2))
      ∧ r.2.sem = fun _ => 0)

def quiescent_OutNarrowSpecIdeal [hOutNarrowSpecIdeal : Cert.OutNarrowSpecIdeal.Facts] : Prop :=
  ∀ (m : (ℓ : Loc Cert.OutNarrowSpecIdeal.nD Cert.OutNarrowSpecIdeal.τ Cert.OutNarrowSpecIdeal.sig) → Buf (Elt Ideal) ℓ) (g : Dev Cert.OutNarrowSpecIdeal.nD → PrngReg), Pre_OutNarrowSpecIdeal m →
    θ_run (Cert.OutNarrowSpecIdeal.defs (F := Ideal)) (onTc (τ := Cert.OutNarrowSpecIdeal.τ) (Cert.OutNarrowSpecIdeal.main (F := Ideal))) ⟨m, fun _ => 0, g⟩ (fun r => (∀ c : Dev Cert.OutNarrowSpecIdeal.nD,
      r.2.mem ((c.tc : Thread Cert.OutNarrowSpecIdeal.nD Cert.OutNarrowSpecIdeal.τ).loc Cert.OutNarrowSpecIdeal.main_arg0) = m ((c.tc : Thread Cert.OutNarrowSpecIdeal.nD Cert.OutNarrowSpecIdeal.τ).loc Cert.OutNarrowSpecIdeal.main_arg0)
      ∧ r.2.mem ((c.tc : Thread Cert.OutNarrowSpecIdeal.nD Cert.OutNarrowSpecIdeal.τ).loc Cert.OutNarrowSpecIdeal.main_arg1) = m ((c.tc : Thread Cert.OutNarrowSpecIdeal.nD Cert.OutNarrowSpecIdeal.τ).loc Cert.OutNarrowSpecIdeal.main_arg1)
      ∧ r.2.mem ((c.tc : Thread Cert.OutNarrowSpecIdeal.nD Cert.OutNarrowSpecIdeal.τ).loc Cert.OutNarrowSpecIdeal.main_arg2) = m ((c.tc : Thread Cert.OutNarrowSpecIdeal.nD Cert.OutNarrowSpecIdeal.τ).loc Cert.OutNarrowSpecIdeal.main_arg2))
      ∧ r.2.sem = fun _ => 0)

def quiescent_OutWide [hOutWide : Cert.OutWide.Facts] : Prop :=
  ∀ (m : (ℓ : Loc Cert.OutWide.nD Cert.OutWide.τ Cert.OutWide.sig) → Buf (Elt Bits) ℓ) (g : Dev Cert.OutWide.nD → PrngReg), Pre_OutWide m →
    θ_run (Cert.OutWide.defs (F := Bits)) (onTc (τ := Cert.OutWide.τ) (Cert.OutWide.main (F := Bits))) ⟨m, fun _ => 0, g⟩ (fun r => (∀ c : Dev Cert.OutWide.nD,
      r.2.mem ((c.tc : Thread Cert.OutWide.nD Cert.OutWide.τ).loc Cert.OutWide.main_arg0) = m ((c.tc : Thread Cert.OutWide.nD Cert.OutWide.τ).loc Cert.OutWide.main_arg0)
      ∧ r.2.mem ((c.tc : Thread Cert.OutWide.nD Cert.OutWide.τ).loc Cert.OutWide.main_arg1) = m ((c.tc : Thread Cert.OutWide.nD Cert.OutWide.τ).loc Cert.OutWide.main_arg1)
      ∧ r.2.mem ((c.tc : Thread Cert.OutWide.nD Cert.OutWide.τ).loc Cert.OutWide.main_arg2) = m ((c.tc : Thread Cert.OutWide.nD Cert.OutWide.τ).loc Cert.OutWide.main_arg2))
      ∧ r.2.sem = fun _ => 0)

def quiescent_OutWideIdeal [hOutWideIdeal : Cert.OutWideIdeal.Facts] : Prop :=
  ∀ (m : (ℓ : Loc Cert.OutWideIdeal.nD Cert.OutWideIdeal.τ Cert.OutWideIdeal.sig) → Buf (Elt Ideal) ℓ) (g : Dev Cert.OutWideIdeal.nD → PrngReg), Pre_OutWideIdeal m →
    θ_run (Cert.OutWideIdeal.defs (F := Ideal)) (onTc (τ := Cert.OutWideIdeal.τ) (Cert.OutWideIdeal.main (F := Ideal))) ⟨m, fun _ => 0, g⟩ (fun r => (∀ c : Dev Cert.OutWideIdeal.nD,
      r.2.mem ((c.tc : Thread Cert.OutWideIdeal.nD Cert.OutWideIdeal.τ).loc Cert.OutWideIdeal.main_arg0) = m ((c.tc : Thread Cert.OutWideIdeal.nD Cert.OutWideIdeal.τ).loc Cert.OutWideIdeal.main_arg0)
      ∧ r.2.mem ((c.tc : Thread Cert.OutWideIdeal.nD Cert.OutWideIdeal.τ).loc Cert.OutWideIdeal.main_arg1) = m ((c.tc : Thread Cert.OutWideIdeal.nD Cert.OutWideIdeal.τ).loc Cert.OutWideIdeal.main_arg1)
      ∧ r.2.mem ((c.tc : Thread Cert.OutWideIdeal.nD Cert.OutWideIdeal.τ).loc Cert.OutWideIdeal.main_arg2) = m ((c.tc : Thread Cert.OutWideIdeal.nD Cert.OutWideIdeal.τ).loc Cert.OutWideIdeal.main_arg2))
      ∧ r.2.sem = fun _ => 0)

def quiescent_OutWideSpecIdeal [hOutWideSpecIdeal : Cert.OutWideSpecIdeal.Facts] : Prop :=
  ∀ (m : (ℓ : Loc Cert.OutWideSpecIdeal.nD Cert.OutWideSpecIdeal.τ Cert.OutWideSpecIdeal.sig) → Buf (Elt Ideal) ℓ) (g : Dev Cert.OutWideSpecIdeal.nD → PrngReg), Pre_OutWideSpecIdeal m →
    θ_run (Cert.OutWideSpecIdeal.defs (F := Ideal)) (onTc (τ := Cert.OutWideSpecIdeal.τ) (Cert.OutWideSpecIdeal.main (F := Ideal))) ⟨m, fun _ => 0, g⟩ (fun r => (∀ c : Dev Cert.OutWideSpecIdeal.nD,
      r.2.mem ((c.tc : Thread Cert.OutWideSpecIdeal.nD Cert.OutWideSpecIdeal.τ).loc Cert.OutWideSpecIdeal.main_arg0) = m ((c.tc : Thread Cert.OutWideSpecIdeal.nD Cert.OutWideSpecIdeal.τ).loc Cert.OutWideSpecIdeal.main_arg0)
      ∧ r.2.mem ((c.tc : Thread Cert.OutWideSpecIdeal.nD Cert.OutWideSpecIdeal.τ).loc Cert.OutWideSpecIdeal.main_arg1) = m ((c.tc : Thread Cert.OutWideSpecIdeal.nD Cert.OutWideSpecIdeal.τ).loc Cert.OutWideSpecIdeal.main_arg1)
      ∧ r.2.mem ((c.tc : Thread Cert.OutWideSpecIdeal.nD Cert.OutWideSpecIdeal.τ).loc Cert.OutWideSpecIdeal.main_arg2) = m ((c.tc : Thread Cert.OutWideSpecIdeal.nD Cert.OutWideSpecIdeal.τ).loc Cert.OutWideSpecIdeal.main_arg2))
      ∧ r.2.sem = fun _ => 0)

def quiescent_OutBias [hOutBias : Cert.OutBias.Facts] : Prop :=
  ∀ (m : (ℓ : Loc Cert.OutBias.nD Cert.OutBias.τ Cert.OutBias.sig) → Buf (Elt Bits) ℓ) (g : Dev Cert.OutBias.nD → PrngReg), Pre_OutBias m →
    θ_run (Cert.OutBias.defs (F := Bits)) (onTc (τ := Cert.OutBias.τ) (Cert.OutBias.main (F := Bits))) ⟨m, fun _ => 0, g⟩ (fun r => (∀ c : Dev Cert.OutBias.nD,
      r.2.mem ((c.tc : Thread Cert.OutBias.nD Cert.OutBias.τ).loc Cert.OutBias.main_arg0) = m ((c.tc : Thread Cert.OutBias.nD Cert.OutBias.τ).loc Cert.OutBias.main_arg0)
      ∧ r.2.mem ((c.tc : Thread Cert.OutBias.nD Cert.OutBias.τ).loc Cert.OutBias.main_arg1) = m ((c.tc : Thread Cert.OutBias.nD Cert.OutBias.τ).loc Cert.OutBias.main_arg1)
      ∧ r.2.mem ((c.tc : Thread Cert.OutBias.nD Cert.OutBias.τ).loc Cert.OutBias.main_arg2) = m ((c.tc : Thread Cert.OutBias.nD Cert.OutBias.τ).loc Cert.OutBias.main_arg2)
      ∧ r.2.mem ((c.tc : Thread Cert.OutBias.nD Cert.OutBias.τ).loc Cert.OutBias.main_arg3) = m ((c.tc : Thread Cert.OutBias.nD Cert.OutBias.τ).loc Cert.OutBias.main_arg3))
      ∧ r.2.sem = fun _ => 0)

def quiescent_OutBiasIdeal [hOutBiasIdeal : Cert.OutBiasIdeal.Facts] : Prop :=
  ∀ (m : (ℓ : Loc Cert.OutBiasIdeal.nD Cert.OutBiasIdeal.τ Cert.OutBiasIdeal.sig) → Buf (Elt Ideal) ℓ) (g : Dev Cert.OutBiasIdeal.nD → PrngReg), Pre_OutBiasIdeal m →
    θ_run (Cert.OutBiasIdeal.defs (F := Ideal)) (onTc (τ := Cert.OutBiasIdeal.τ) (Cert.OutBiasIdeal.main (F := Ideal))) ⟨m, fun _ => 0, g⟩ (fun r => (∀ c : Dev Cert.OutBiasIdeal.nD,
      r.2.mem ((c.tc : Thread Cert.OutBiasIdeal.nD Cert.OutBiasIdeal.τ).loc Cert.OutBiasIdeal.main_arg0) = m ((c.tc : Thread Cert.OutBiasIdeal.nD Cert.OutBiasIdeal.τ).loc Cert.OutBiasIdeal.main_arg0)
      ∧ r.2.mem ((c.tc : Thread Cert.OutBiasIdeal.nD Cert.OutBiasIdeal.τ).loc Cert.OutBiasIdeal.main_arg1) = m ((c.tc : Thread Cert.OutBiasIdeal.nD Cert.OutBiasIdeal.τ).loc Cert.OutBiasIdeal.main_arg1)
      ∧ r.2.mem ((c.tc : Thread Cert.OutBiasIdeal.nD Cert.OutBiasIdeal.τ).loc Cert.OutBiasIdeal.main_arg2) = m ((c.tc : Thread Cert.OutBiasIdeal.nD Cert.OutBiasIdeal.τ).loc Cert.OutBiasIdeal.main_arg2)
      ∧ r.2.mem ((c.tc : Thread Cert.OutBiasIdeal.nD Cert.OutBiasIdeal.τ).loc Cert.OutBiasIdeal.main_arg3) = m ((c.tc : Thread Cert.OutBiasIdeal.nD Cert.OutBiasIdeal.τ).loc Cert.OutBiasIdeal.main_arg3))
      ∧ r.2.sem = fun _ => 0)

def quiescent_OutBiasSpecIdeal [hOutBiasSpecIdeal : Cert.OutBiasSpecIdeal.Facts] : Prop :=
  ∀ (m : (ℓ : Loc Cert.OutBiasSpecIdeal.nD Cert.OutBiasSpecIdeal.τ Cert.OutBiasSpecIdeal.sig) → Buf (Elt Ideal) ℓ) (g : Dev Cert.OutBiasSpecIdeal.nD → PrngReg), Pre_OutBiasSpecIdeal m →
    θ_run (Cert.OutBiasSpecIdeal.defs (F := Ideal)) (onTc (τ := Cert.OutBiasSpecIdeal.τ) (Cert.OutBiasSpecIdeal.main (F := Ideal))) ⟨m, fun _ => 0, g⟩ (fun r => (∀ c : Dev Cert.OutBiasSpecIdeal.nD,
      r.2.mem ((c.tc : Thread Cert.OutBiasSpecIdeal.nD Cert.OutBiasSpecIdeal.τ).loc Cert.OutBiasSpecIdeal.main_arg0) = m ((c.tc : Thread Cert.OutBiasSpecIdeal.nD Cert.OutBiasSpecIdeal.τ).loc Cert.OutBiasSpecIdeal.main_arg0)
      ∧ r.2.mem ((c.tc : Thread Cert.OutBiasSpecIdeal.nD Cert.OutBiasSpecIdeal.τ).loc Cert.OutBiasSpecIdeal.main_arg1) = m ((c.tc : Thread Cert.OutBiasSpecIdeal.nD Cert.OutBiasSpecIdeal.τ).loc Cert.OutBiasSpecIdeal.main_arg1)
      ∧ r.2.mem ((c.tc : Thread Cert.OutBiasSpecIdeal.nD Cert.OutBiasSpecIdeal.τ).loc Cert.OutBiasSpecIdeal.main_arg2) = m ((c.tc : Thread Cert.OutBiasSpecIdeal.nD Cert.OutBiasSpecIdeal.τ).loc Cert.OutBiasSpecIdeal.main_arg2)
      ∧ r.2.mem ((c.tc : Thread Cert.OutBiasSpecIdeal.nD Cert.OutBiasSpecIdeal.τ).loc Cert.OutBiasSpecIdeal.main_arg3) = m ((c.tc : Thread Cert.OutBiasSpecIdeal.nD Cert.OutBiasSpecIdeal.τ).loc Cert.OutBiasSpecIdeal.main_arg3))
      ∧ r.2.sem = fun _ => 0)

def quiescent_OutNarrowDa [hOutNarrowDa : Cert.OutNarrowDa.Facts] : Prop :=
  ∀ (m : (ℓ : Loc Cert.OutNarrowDa.nD Cert.OutNarrowDa.τ Cert.OutNarrowDa.sig) → Buf (Elt Bits) ℓ) (g : Dev Cert.OutNarrowDa.nD → PrngReg), Pre_OutNarrowDa m →
    θ_run (Cert.OutNarrowDa.defs (F := Bits)) (onTc (τ := Cert.OutNarrowDa.τ) (Cert.OutNarrowDa.main (F := Bits))) ⟨m, fun _ => 0, g⟩ (fun r => (∀ c : Dev Cert.OutNarrowDa.nD,
      r.2.mem ((c.tc : Thread Cert.OutNarrowDa.nD Cert.OutNarrowDa.τ).loc Cert.OutNarrowDa.main_arg0) = m ((c.tc : Thread Cert.OutNarrowDa.nD Cert.OutNarrowDa.τ).loc Cert.OutNarrowDa.main_arg0)
      ∧ r.2.mem ((c.tc : Thread Cert.OutNarrowDa.nD Cert.OutNarrowDa.τ).loc Cert.OutNarrowDa.main_arg1) = m ((c.tc : Thread Cert.OutNarrowDa.nD Cert.OutNarrowDa.τ).loc Cert.OutNarrowDa.main_arg1))
      ∧ r.2.sem = fun _ => 0)

def quiescent_OutNarrowDaIdeal [hOutNarrowDaIdeal : Cert.OutNarrowDaIdeal.Facts] : Prop :=
  ∀ (m : (ℓ : Loc Cert.OutNarrowDaIdeal.nD Cert.OutNarrowDaIdeal.τ Cert.OutNarrowDaIdeal.sig) → Buf (Elt Ideal) ℓ) (g : Dev Cert.OutNarrowDaIdeal.nD → PrngReg), Pre_OutNarrowDaIdeal m →
    θ_run (Cert.OutNarrowDaIdeal.defs (F := Ideal)) (onTc (τ := Cert.OutNarrowDaIdeal.τ) (Cert.OutNarrowDaIdeal.main (F := Ideal))) ⟨m, fun _ => 0, g⟩ (fun r => (∀ c : Dev Cert.OutNarrowDaIdeal.nD,
      r.2.mem ((c.tc : Thread Cert.OutNarrowDaIdeal.nD Cert.OutNarrowDaIdeal.τ).loc Cert.OutNarrowDaIdeal.main_arg0) = m ((c.tc : Thread Cert.OutNarrowDaIdeal.nD Cert.OutNarrowDaIdeal.τ).loc Cert.OutNarrowDaIdeal.main_arg0)
      ∧ r.2.mem ((c.tc : Thread Cert.OutNarrowDaIdeal.nD Cert.OutNarrowDaIdeal.τ).loc Cert.OutNarrowDaIdeal.main_arg1) = m ((c.tc : Thread Cert.OutNarrowDaIdeal.nD Cert.OutNarrowDaIdeal.τ).loc Cert.OutNarrowDaIdeal.main_arg1))
      ∧ r.2.sem = fun _ => 0)

def quiescent_OutNarrowDaSpecIdeal [hOutNarrowDaSpecIdeal : Cert.OutNarrowDaSpecIdeal.Facts] : Prop :=
  ∀ (m : (ℓ : Loc Cert.OutNarrowDaSpecIdeal.nD Cert.OutNarrowDaSpecIdeal.τ Cert.OutNarrowDaSpecIdeal.sig) → Buf (Elt Ideal) ℓ) (g : Dev Cert.OutNarrowDaSpecIdeal.nD → PrngReg), Pre_OutNarrowDaSpecIdeal m →
    θ_run (Cert.OutNarrowDaSpecIdeal.defs (F := Ideal)) (onTc (τ := Cert.OutNarrowDaSpecIdeal.τ) (Cert.OutNarrowDaSpecIdeal.main (F := Ideal))) ⟨m, fun _ => 0, g⟩ (fun r => (∀ c : Dev Cert.OutNarrowDaSpecIdeal.nD,
      r.2.mem ((c.tc : Thread Cert.OutNarrowDaSpecIdeal.nD Cert.OutNarrowDaSpecIdeal.τ).loc Cert.OutNarrowDaSpecIdeal.main_arg0) = m ((c.tc : Thread Cert.OutNarrowDaSpecIdeal.nD Cert.OutNarrowDaSpecIdeal.τ).loc Cert.OutNarrowDaSpecIdeal.main_arg0)
      ∧ r.2.mem ((c.tc : Thread Cert.OutNarrowDaSpecIdeal.nD Cert.OutNarrowDaSpecIdeal.τ).loc Cert.OutNarrowDaSpecIdeal.main_arg1) = m ((c.tc : Thread Cert.OutNarrowDaSpecIdeal.nD Cert.OutNarrowDaSpecIdeal.τ).loc Cert.OutNarrowDaSpecIdeal.main_arg1))
      ∧ r.2.sem = fun _ => 0)

def quiescent_OutWideDa [hOutWideDa : Cert.OutWideDa.Facts] : Prop :=
  ∀ (m : (ℓ : Loc Cert.OutWideDa.nD Cert.OutWideDa.τ Cert.OutWideDa.sig) → Buf (Elt Bits) ℓ) (g : Dev Cert.OutWideDa.nD → PrngReg), Pre_OutWideDa m →
    θ_run (Cert.OutWideDa.defs (F := Bits)) (onTc (τ := Cert.OutWideDa.τ) (Cert.OutWideDa.main (F := Bits))) ⟨m, fun _ => 0, g⟩ (fun r => (∀ c : Dev Cert.OutWideDa.nD,
      r.2.mem ((c.tc : Thread Cert.OutWideDa.nD Cert.OutWideDa.τ).loc Cert.OutWideDa.main_arg0) = m ((c.tc : Thread Cert.OutWideDa.nD Cert.OutWideDa.τ).loc Cert.OutWideDa.main_arg0)
      ∧ r.2.mem ((c.tc : Thread Cert.OutWideDa.nD Cert.OutWideDa.τ).loc Cert.OutWideDa.main_arg1) = m ((c.tc : Thread Cert.OutWideDa.nD Cert.OutWideDa.τ).loc Cert.OutWideDa.main_arg1))
      ∧ r.2.sem = fun _ => 0)

def quiescent_OutWideDaIdeal [hOutWideDaIdeal : Cert.OutWideDaIdeal.Facts] : Prop :=
  ∀ (m : (ℓ : Loc Cert.OutWideDaIdeal.nD Cert.OutWideDaIdeal.τ Cert.OutWideDaIdeal.sig) → Buf (Elt Ideal) ℓ) (g : Dev Cert.OutWideDaIdeal.nD → PrngReg), Pre_OutWideDaIdeal m →
    θ_run (Cert.OutWideDaIdeal.defs (F := Ideal)) (onTc (τ := Cert.OutWideDaIdeal.τ) (Cert.OutWideDaIdeal.main (F := Ideal))) ⟨m, fun _ => 0, g⟩ (fun r => (∀ c : Dev Cert.OutWideDaIdeal.nD,
      r.2.mem ((c.tc : Thread Cert.OutWideDaIdeal.nD Cert.OutWideDaIdeal.τ).loc Cert.OutWideDaIdeal.main_arg0) = m ((c.tc : Thread Cert.OutWideDaIdeal.nD Cert.OutWideDaIdeal.τ).loc Cert.OutWideDaIdeal.main_arg0)
      ∧ r.2.mem ((c.tc : Thread Cert.OutWideDaIdeal.nD Cert.OutWideDaIdeal.τ).loc Cert.OutWideDaIdeal.main_arg1) = m ((c.tc : Thread Cert.OutWideDaIdeal.nD Cert.OutWideDaIdeal.τ).loc Cert.OutWideDaIdeal.main_arg1))
      ∧ r.2.sem = fun _ => 0)

def quiescent_OutWideDaSpecIdeal [hOutWideDaSpecIdeal : Cert.OutWideDaSpecIdeal.Facts] : Prop :=
  ∀ (m : (ℓ : Loc Cert.OutWideDaSpecIdeal.nD Cert.OutWideDaSpecIdeal.τ Cert.OutWideDaSpecIdeal.sig) → Buf (Elt Ideal) ℓ) (g : Dev Cert.OutWideDaSpecIdeal.nD → PrngReg), Pre_OutWideDaSpecIdeal m →
    θ_run (Cert.OutWideDaSpecIdeal.defs (F := Ideal)) (onTc (τ := Cert.OutWideDaSpecIdeal.τ) (Cert.OutWideDaSpecIdeal.main (F := Ideal))) ⟨m, fun _ => 0, g⟩ (fun r => (∀ c : Dev Cert.OutWideDaSpecIdeal.nD,
      r.2.mem ((c.tc : Thread Cert.OutWideDaSpecIdeal.nD Cert.OutWideDaSpecIdeal.τ).loc Cert.OutWideDaSpecIdeal.main_arg0) = m ((c.tc : Thread Cert.OutWideDaSpecIdeal.nD Cert.OutWideDaSpecIdeal.τ).loc Cert.OutWideDaSpecIdeal.main_arg0)
      ∧ r.2.mem ((c.tc : Thread Cert.OutWideDaSpecIdeal.nD Cert.OutWideDaSpecIdeal.τ).loc Cert.OutWideDaSpecIdeal.main_arg1) = m ((c.tc : Thread Cert.OutWideDaSpecIdeal.nD Cert.OutWideDaSpecIdeal.τ).loc Cert.OutWideDaSpecIdeal.main_arg1))
      ∧ r.2.sem = fun _ => 0)

def quiescent_OutNarrowDw [hOutNarrowDw : Cert.OutNarrowDw.Facts] : Prop :=
  ∀ (m : (ℓ : Loc Cert.OutNarrowDw.nD Cert.OutNarrowDw.τ Cert.OutNarrowDw.sig) → Buf (Elt Bits) ℓ) (g : Dev Cert.OutNarrowDw.nD → PrngReg), Pre_OutNarrowDw m →
    θ_run (Cert.OutNarrowDw.defs (F := Bits)) (onTc (τ := Cert.OutNarrowDw.τ) (Cert.OutNarrowDw.main (F := Bits))) ⟨m, fun _ => 0, g⟩ (fun r => (∀ c : Dev Cert.OutNarrowDw.nD,
      r.2.mem ((c.tc : Thread Cert.OutNarrowDw.nD Cert.OutNarrowDw.τ).loc Cert.OutNarrowDw.main_arg0) = m ((c.tc : Thread Cert.OutNarrowDw.nD Cert.OutNarrowDw.τ).loc Cert.OutNarrowDw.main_arg0)
      ∧ r.2.mem ((c.tc : Thread Cert.OutNarrowDw.nD Cert.OutNarrowDw.τ).loc Cert.OutNarrowDw.main_arg1) = m ((c.tc : Thread Cert.OutNarrowDw.nD Cert.OutNarrowDw.τ).loc Cert.OutNarrowDw.main_arg1))
      ∧ r.2.sem = fun _ => 0)

def quiescent_OutNarrowDwIdeal [hOutNarrowDwIdeal : Cert.OutNarrowDwIdeal.Facts] : Prop :=
  ∀ (m : (ℓ : Loc Cert.OutNarrowDwIdeal.nD Cert.OutNarrowDwIdeal.τ Cert.OutNarrowDwIdeal.sig) → Buf (Elt Ideal) ℓ) (g : Dev Cert.OutNarrowDwIdeal.nD → PrngReg), Pre_OutNarrowDwIdeal m →
    θ_run (Cert.OutNarrowDwIdeal.defs (F := Ideal)) (onTc (τ := Cert.OutNarrowDwIdeal.τ) (Cert.OutNarrowDwIdeal.main (F := Ideal))) ⟨m, fun _ => 0, g⟩ (fun r => (∀ c : Dev Cert.OutNarrowDwIdeal.nD,
      r.2.mem ((c.tc : Thread Cert.OutNarrowDwIdeal.nD Cert.OutNarrowDwIdeal.τ).loc Cert.OutNarrowDwIdeal.main_arg0) = m ((c.tc : Thread Cert.OutNarrowDwIdeal.nD Cert.OutNarrowDwIdeal.τ).loc Cert.OutNarrowDwIdeal.main_arg0)
      ∧ r.2.mem ((c.tc : Thread Cert.OutNarrowDwIdeal.nD Cert.OutNarrowDwIdeal.τ).loc Cert.OutNarrowDwIdeal.main_arg1) = m ((c.tc : Thread Cert.OutNarrowDwIdeal.nD Cert.OutNarrowDwIdeal.τ).loc Cert.OutNarrowDwIdeal.main_arg1))
      ∧ r.2.sem = fun _ => 0)

def quiescent_OutNarrowDwSpecIdeal [hOutNarrowDwSpecIdeal : Cert.OutNarrowDwSpecIdeal.Facts] : Prop :=
  ∀ (m : (ℓ : Loc Cert.OutNarrowDwSpecIdeal.nD Cert.OutNarrowDwSpecIdeal.τ Cert.OutNarrowDwSpecIdeal.sig) → Buf (Elt Ideal) ℓ) (g : Dev Cert.OutNarrowDwSpecIdeal.nD → PrngReg), Pre_OutNarrowDwSpecIdeal m →
    θ_run (Cert.OutNarrowDwSpecIdeal.defs (F := Ideal)) (onTc (τ := Cert.OutNarrowDwSpecIdeal.τ) (Cert.OutNarrowDwSpecIdeal.main (F := Ideal))) ⟨m, fun _ => 0, g⟩ (fun r => (∀ c : Dev Cert.OutNarrowDwSpecIdeal.nD,
      r.2.mem ((c.tc : Thread Cert.OutNarrowDwSpecIdeal.nD Cert.OutNarrowDwSpecIdeal.τ).loc Cert.OutNarrowDwSpecIdeal.main_arg0) = m ((c.tc : Thread Cert.OutNarrowDwSpecIdeal.nD Cert.OutNarrowDwSpecIdeal.τ).loc Cert.OutNarrowDwSpecIdeal.main_arg0)
      ∧ r.2.mem ((c.tc : Thread Cert.OutNarrowDwSpecIdeal.nD Cert.OutNarrowDwSpecIdeal.τ).loc Cert.OutNarrowDwSpecIdeal.main_arg1) = m ((c.tc : Thread Cert.OutNarrowDwSpecIdeal.nD Cert.OutNarrowDwSpecIdeal.τ).loc Cert.OutNarrowDwSpecIdeal.main_arg1))
      ∧ r.2.sem = fun _ => 0)

def quiescent_OutWideDw [hOutWideDw : Cert.OutWideDw.Facts] : Prop :=
  ∀ (m : (ℓ : Loc Cert.OutWideDw.nD Cert.OutWideDw.τ Cert.OutWideDw.sig) → Buf (Elt Bits) ℓ) (g : Dev Cert.OutWideDw.nD → PrngReg), Pre_OutWideDw m →
    θ_run (Cert.OutWideDw.defs (F := Bits)) (onTc (τ := Cert.OutWideDw.τ) (Cert.OutWideDw.main (F := Bits))) ⟨m, fun _ => 0, g⟩ (fun r => (∀ c : Dev Cert.OutWideDw.nD,
      r.2.mem ((c.tc : Thread Cert.OutWideDw.nD Cert.OutWideDw.τ).loc Cert.OutWideDw.main_arg0) = m ((c.tc : Thread Cert.OutWideDw.nD Cert.OutWideDw.τ).loc Cert.OutWideDw.main_arg0)
      ∧ r.2.mem ((c.tc : Thread Cert.OutWideDw.nD Cert.OutWideDw.τ).loc Cert.OutWideDw.main_arg1) = m ((c.tc : Thread Cert.OutWideDw.nD Cert.OutWideDw.τ).loc Cert.OutWideDw.main_arg1))
      ∧ r.2.sem = fun _ => 0)

def quiescent_OutWideDwIdeal [hOutWideDwIdeal : Cert.OutWideDwIdeal.Facts] : Prop :=
  ∀ (m : (ℓ : Loc Cert.OutWideDwIdeal.nD Cert.OutWideDwIdeal.τ Cert.OutWideDwIdeal.sig) → Buf (Elt Ideal) ℓ) (g : Dev Cert.OutWideDwIdeal.nD → PrngReg), Pre_OutWideDwIdeal m →
    θ_run (Cert.OutWideDwIdeal.defs (F := Ideal)) (onTc (τ := Cert.OutWideDwIdeal.τ) (Cert.OutWideDwIdeal.main (F := Ideal))) ⟨m, fun _ => 0, g⟩ (fun r => (∀ c : Dev Cert.OutWideDwIdeal.nD,
      r.2.mem ((c.tc : Thread Cert.OutWideDwIdeal.nD Cert.OutWideDwIdeal.τ).loc Cert.OutWideDwIdeal.main_arg0) = m ((c.tc : Thread Cert.OutWideDwIdeal.nD Cert.OutWideDwIdeal.τ).loc Cert.OutWideDwIdeal.main_arg0)
      ∧ r.2.mem ((c.tc : Thread Cert.OutWideDwIdeal.nD Cert.OutWideDwIdeal.τ).loc Cert.OutWideDwIdeal.main_arg1) = m ((c.tc : Thread Cert.OutWideDwIdeal.nD Cert.OutWideDwIdeal.τ).loc Cert.OutWideDwIdeal.main_arg1))
      ∧ r.2.sem = fun _ => 0)

def quiescent_OutWideDwSpecIdeal [hOutWideDwSpecIdeal : Cert.OutWideDwSpecIdeal.Facts] : Prop :=
  ∀ (m : (ℓ : Loc Cert.OutWideDwSpecIdeal.nD Cert.OutWideDwSpecIdeal.τ Cert.OutWideDwSpecIdeal.sig) → Buf (Elt Ideal) ℓ) (g : Dev Cert.OutWideDwSpecIdeal.nD → PrngReg), Pre_OutWideDwSpecIdeal m →
    θ_run (Cert.OutWideDwSpecIdeal.defs (F := Ideal)) (onTc (τ := Cert.OutWideDwSpecIdeal.τ) (Cert.OutWideDwSpecIdeal.main (F := Ideal))) ⟨m, fun _ => 0, g⟩ (fun r => (∀ c : Dev Cert.OutWideDwSpecIdeal.nD,
      r.2.mem ((c.tc : Thread Cert.OutWideDwSpecIdeal.nD Cert.OutWideDwSpecIdeal.τ).loc Cert.OutWideDwSpecIdeal.main_arg0) = m ((c.tc : Thread Cert.OutWideDwSpecIdeal.nD Cert.OutWideDwSpecIdeal.τ).loc Cert.OutWideDwSpecIdeal.main_arg0)
      ∧ r.2.mem ((c.tc : Thread Cert.OutWideDwSpecIdeal.nD Cert.OutWideDwSpecIdeal.τ).loc Cert.OutWideDwSpecIdeal.main_arg1) = m ((c.tc : Thread Cert.OutWideDwSpecIdeal.nD Cert.OutWideDwSpecIdeal.τ).loc Cert.OutWideDwSpecIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormSpecIdeal [hNormSpecIdeal : Cert.NormSpecIdeal.Facts] : Prop :=
  ∀ (m : (ℓ : Loc Cert.NormSpecIdeal.nD Cert.NormSpecIdeal.τ Cert.NormSpecIdeal.sig) → Buf (Elt Ideal) ℓ) (g : Dev Cert.NormSpecIdeal.nD → PrngReg), Pre_NormSpecIdeal m →
    θ_run (Cert.NormSpecIdeal.defs (F := Ideal)) (onTc (τ := Cert.NormSpecIdeal.τ) (Cert.NormSpecIdeal.main (F := Ideal))) ⟨m, fun _ => 0, g⟩ (fun r => (∀ c : Dev Cert.NormSpecIdeal.nD,
      r.2.mem ((c.tc : Thread Cert.NormSpecIdeal.nD Cert.NormSpecIdeal.τ).loc Cert.NormSpecIdeal.main_arg0) = m ((c.tc : Thread Cert.NormSpecIdeal.nD Cert.NormSpecIdeal.τ).loc Cert.NormSpecIdeal.main_arg0)
      ∧ r.2.mem ((c.tc : Thread Cert.NormSpecIdeal.nD Cert.NormSpecIdeal.τ).loc Cert.NormSpecIdeal.main_arg1) = m ((c.tc : Thread Cert.NormSpecIdeal.nD Cert.NormSpecIdeal.τ).loc Cert.NormSpecIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesSpecIdeal [hGatesSpecIdeal : Cert.GatesSpecIdeal.Facts] : Prop :=
  ∀ (m : (ℓ : Loc Cert.GatesSpecIdeal.nD Cert.GatesSpecIdeal.τ Cert.GatesSpecIdeal.sig) → Buf (Elt Ideal) ℓ) (g : Dev Cert.GatesSpecIdeal.nD → PrngReg), Pre_GatesSpecIdeal m →
    θ_run (Cert.GatesSpecIdeal.defs (F := Ideal)) (onTc (τ := Cert.GatesSpecIdeal.τ) (Cert.GatesSpecIdeal.main (F := Ideal))) ⟨m, fun _ => 0, g⟩ (fun r => (∀ c : Dev Cert.GatesSpecIdeal.nD,
      r.2.mem ((c.tc : Thread Cert.GatesSpecIdeal.nD Cert.GatesSpecIdeal.τ).loc Cert.GatesSpecIdeal.main_arg0) = m ((c.tc : Thread Cert.GatesSpecIdeal.nD Cert.GatesSpecIdeal.τ).loc Cert.GatesSpecIdeal.main_arg0)
      ∧ r.2.mem ((c.tc : Thread Cert.GatesSpecIdeal.nD Cert.GatesSpecIdeal.τ).loc Cert.GatesSpecIdeal.main_arg1) = m ((c.tc : Thread Cert.GatesSpecIdeal.nD Cert.GatesSpecIdeal.τ).loc Cert.GatesSpecIdeal.main_arg1)
      ∧ r.2.mem ((c.tc : Thread Cert.GatesSpecIdeal.nD Cert.GatesSpecIdeal.τ).loc Cert.GatesSpecIdeal.main_arg2) = m ((c.tc : Thread Cert.GatesSpecIdeal.nD Cert.GatesSpecIdeal.τ).loc Cert.GatesSpecIdeal.main_arg2)
      ∧ r.2.mem ((c.tc : Thread Cert.GatesSpecIdeal.nD Cert.GatesSpecIdeal.τ).loc Cert.GatesSpecIdeal.main_arg3) = m ((c.tc : Thread Cert.GatesSpecIdeal.nD Cert.GatesSpecIdeal.τ).loc Cert.GatesSpecIdeal.main_arg3)
      ∧ r.2.mem ((c.tc : Thread Cert.GatesSpecIdeal.nD Cert.GatesSpecIdeal.τ).loc Cert.GatesSpecIdeal.main_arg4) = m ((c.tc : Thread Cert.GatesSpecIdeal.nD Cert.GatesSpecIdeal.τ).loc Cert.GatesSpecIdeal.main_arg4))
      ∧ r.2.sem = fun _ => 0)

def quiescent_GatesDx [hGatesDx : Cert.GatesDx.Facts] : Prop :=
  ∀ (m : (ℓ : Loc Cert.GatesDx.nD Cert.GatesDx.τ Cert.GatesDx.sig) → Buf (Elt Bits) ℓ) (g : Dev Cert.GatesDx.nD → PrngReg), Pre_GatesDx m →
    θ_run (Cert.GatesDx.defs (F := Bits)) (onTc (τ := Cert.GatesDx.τ) (Cert.GatesDx.main (F := Bits))) ⟨m, fun _ => 0, g⟩ (fun r => (∀ c : Dev Cert.GatesDx.nD,
      r.2.mem ((c.tc : Thread Cert.GatesDx.nD Cert.GatesDx.τ).loc Cert.GatesDx.main_arg0) = m ((c.tc : Thread Cert.GatesDx.nD Cert.GatesDx.τ).loc Cert.GatesDx.main_arg0)
      ∧ r.2.mem ((c.tc : Thread Cert.GatesDx.nD Cert.GatesDx.τ).loc Cert.GatesDx.main_arg1) = m ((c.tc : Thread Cert.GatesDx.nD Cert.GatesDx.τ).loc Cert.GatesDx.main_arg1)
      ∧ r.2.mem ((c.tc : Thread Cert.GatesDx.nD Cert.GatesDx.τ).loc Cert.GatesDx.main_arg2) = m ((c.tc : Thread Cert.GatesDx.nD Cert.GatesDx.τ).loc Cert.GatesDx.main_arg2)
      ∧ r.2.mem ((c.tc : Thread Cert.GatesDx.nD Cert.GatesDx.τ).loc Cert.GatesDx.main_arg3) = m ((c.tc : Thread Cert.GatesDx.nD Cert.GatesDx.τ).loc Cert.GatesDx.main_arg3)
      ∧ r.2.mem ((c.tc : Thread Cert.GatesDx.nD Cert.GatesDx.τ).loc Cert.GatesDx.main_arg4) = m ((c.tc : Thread Cert.GatesDx.nD Cert.GatesDx.τ).loc Cert.GatesDx.main_arg4))
      ∧ r.2.sem = fun _ => 0)

def quiescent_GatesDxIdeal [hGatesDxIdeal : Cert.GatesDxIdeal.Facts] : Prop :=
  ∀ (m : (ℓ : Loc Cert.GatesDxIdeal.nD Cert.GatesDxIdeal.τ Cert.GatesDxIdeal.sig) → Buf (Elt Ideal) ℓ) (g : Dev Cert.GatesDxIdeal.nD → PrngReg), Pre_GatesDxIdeal m →
    θ_run (Cert.GatesDxIdeal.defs (F := Ideal)) (onTc (τ := Cert.GatesDxIdeal.τ) (Cert.GatesDxIdeal.main (F := Ideal))) ⟨m, fun _ => 0, g⟩ (fun r => (∀ c : Dev Cert.GatesDxIdeal.nD,
      r.2.mem ((c.tc : Thread Cert.GatesDxIdeal.nD Cert.GatesDxIdeal.τ).loc Cert.GatesDxIdeal.main_arg0) = m ((c.tc : Thread Cert.GatesDxIdeal.nD Cert.GatesDxIdeal.τ).loc Cert.GatesDxIdeal.main_arg0)
      ∧ r.2.mem ((c.tc : Thread Cert.GatesDxIdeal.nD Cert.GatesDxIdeal.τ).loc Cert.GatesDxIdeal.main_arg1) = m ((c.tc : Thread Cert.GatesDxIdeal.nD Cert.GatesDxIdeal.τ).loc Cert.GatesDxIdeal.main_arg1)
      ∧ r.2.mem ((c.tc : Thread Cert.GatesDxIdeal.nD Cert.GatesDxIdeal.τ).loc Cert.GatesDxIdeal.main_arg2) = m ((c.tc : Thread Cert.GatesDxIdeal.nD Cert.GatesDxIdeal.τ).loc Cert.GatesDxIdeal.main_arg2)
      ∧ r.2.mem ((c.tc : Thread Cert.GatesDxIdeal.nD Cert.GatesDxIdeal.τ).loc Cert.GatesDxIdeal.main_arg3) = m ((c.tc : Thread Cert.GatesDxIdeal.nD Cert.GatesDxIdeal.τ).loc Cert.GatesDxIdeal.main_arg3)
      ∧ r.2.mem ((c.tc : Thread Cert.GatesDxIdeal.nD Cert.GatesDxIdeal.τ).loc Cert.GatesDxIdeal.main_arg4) = m ((c.tc : Thread Cert.GatesDxIdeal.nD Cert.GatesDxIdeal.τ).loc Cert.GatesDxIdeal.main_arg4))
      ∧ r.2.sem = fun _ => 0)

def quiescent_GatesDxSpecIdeal [hGatesDxSpecIdeal : Cert.GatesDxSpecIdeal.Facts] : Prop :=
  ∀ (m : (ℓ : Loc Cert.GatesDxSpecIdeal.nD Cert.GatesDxSpecIdeal.τ Cert.GatesDxSpecIdeal.sig) → Buf (Elt Ideal) ℓ) (g : Dev Cert.GatesDxSpecIdeal.nD → PrngReg), Pre_GatesDxSpecIdeal m →
    θ_run (Cert.GatesDxSpecIdeal.defs (F := Ideal)) (onTc (τ := Cert.GatesDxSpecIdeal.τ) (Cert.GatesDxSpecIdeal.main (F := Ideal))) ⟨m, fun _ => 0, g⟩ (fun r => (∀ c : Dev Cert.GatesDxSpecIdeal.nD,
      r.2.mem ((c.tc : Thread Cert.GatesDxSpecIdeal.nD Cert.GatesDxSpecIdeal.τ).loc Cert.GatesDxSpecIdeal.main_arg0) = m ((c.tc : Thread Cert.GatesDxSpecIdeal.nD Cert.GatesDxSpecIdeal.τ).loc Cert.GatesDxSpecIdeal.main_arg0)
      ∧ r.2.mem ((c.tc : Thread Cert.GatesDxSpecIdeal.nD Cert.GatesDxSpecIdeal.τ).loc Cert.GatesDxSpecIdeal.main_arg1) = m ((c.tc : Thread Cert.GatesDxSpecIdeal.nD Cert.GatesDxSpecIdeal.τ).loc Cert.GatesDxSpecIdeal.main_arg1)
      ∧ r.2.mem ((c.tc : Thread Cert.GatesDxSpecIdeal.nD Cert.GatesDxSpecIdeal.τ).loc Cert.GatesDxSpecIdeal.main_arg2) = m ((c.tc : Thread Cert.GatesDxSpecIdeal.nD Cert.GatesDxSpecIdeal.τ).loc Cert.GatesDxSpecIdeal.main_arg2)
      ∧ r.2.mem ((c.tc : Thread Cert.GatesDxSpecIdeal.nD Cert.GatesDxSpecIdeal.τ).loc Cert.GatesDxSpecIdeal.main_arg3) = m ((c.tc : Thread Cert.GatesDxSpecIdeal.nD Cert.GatesDxSpecIdeal.τ).loc Cert.GatesDxSpecIdeal.main_arg3)
      ∧ r.2.mem ((c.tc : Thread Cert.GatesDxSpecIdeal.nD Cert.GatesDxSpecIdeal.τ).loc Cert.GatesDxSpecIdeal.main_arg4) = m ((c.tc : Thread Cert.GatesDxSpecIdeal.nD Cert.GatesDxSpecIdeal.τ).loc Cert.GatesDxSpecIdeal.main_arg4))
      ∧ r.2.sem = fun _ => 0)

def quiescent_GatesDw [hGatesDw : Cert.GatesDw.Facts] : Prop :=
  ∀ (m : (ℓ : Loc Cert.GatesDw.nD Cert.GatesDw.τ Cert.GatesDw.sig) → Buf (Elt Bits) ℓ) (g : Dev Cert.GatesDw.nD → PrngReg), Pre_GatesDw m →
    θ_run (Cert.GatesDw.defs (F := Bits)) (onTc (τ := Cert.GatesDw.τ) (Cert.GatesDw.main (F := Bits))) ⟨m, fun _ => 0, g⟩ (fun r => (∀ c : Dev Cert.GatesDw.nD,
      r.2.mem ((c.tc : Thread Cert.GatesDw.nD Cert.GatesDw.τ).loc Cert.GatesDw.main_arg0) = m ((c.tc : Thread Cert.GatesDw.nD Cert.GatesDw.τ).loc Cert.GatesDw.main_arg0)
      ∧ r.2.mem ((c.tc : Thread Cert.GatesDw.nD Cert.GatesDw.τ).loc Cert.GatesDw.main_arg1) = m ((c.tc : Thread Cert.GatesDw.nD Cert.GatesDw.τ).loc Cert.GatesDw.main_arg1)
      ∧ r.2.mem ((c.tc : Thread Cert.GatesDw.nD Cert.GatesDw.τ).loc Cert.GatesDw.main_arg2) = m ((c.tc : Thread Cert.GatesDw.nD Cert.GatesDw.τ).loc Cert.GatesDw.main_arg2))
      ∧ r.2.sem = fun _ => 0)

def quiescent_GatesDwIdeal [hGatesDwIdeal : Cert.GatesDwIdeal.Facts] : Prop :=
  ∀ (m : (ℓ : Loc Cert.GatesDwIdeal.nD Cert.GatesDwIdeal.τ Cert.GatesDwIdeal.sig) → Buf (Elt Ideal) ℓ) (g : Dev Cert.GatesDwIdeal.nD → PrngReg), Pre_GatesDwIdeal m →
    θ_run (Cert.GatesDwIdeal.defs (F := Ideal)) (onTc (τ := Cert.GatesDwIdeal.τ) (Cert.GatesDwIdeal.main (F := Ideal))) ⟨m, fun _ => 0, g⟩ (fun r => (∀ c : Dev Cert.GatesDwIdeal.nD,
      r.2.mem ((c.tc : Thread Cert.GatesDwIdeal.nD Cert.GatesDwIdeal.τ).loc Cert.GatesDwIdeal.main_arg0) = m ((c.tc : Thread Cert.GatesDwIdeal.nD Cert.GatesDwIdeal.τ).loc Cert.GatesDwIdeal.main_arg0)
      ∧ r.2.mem ((c.tc : Thread Cert.GatesDwIdeal.nD Cert.GatesDwIdeal.τ).loc Cert.GatesDwIdeal.main_arg1) = m ((c.tc : Thread Cert.GatesDwIdeal.nD Cert.GatesDwIdeal.τ).loc Cert.GatesDwIdeal.main_arg1)
      ∧ r.2.mem ((c.tc : Thread Cert.GatesDwIdeal.nD Cert.GatesDwIdeal.τ).loc Cert.GatesDwIdeal.main_arg2) = m ((c.tc : Thread Cert.GatesDwIdeal.nD Cert.GatesDwIdeal.τ).loc Cert.GatesDwIdeal.main_arg2))
      ∧ r.2.sem = fun _ => 0)

def quiescent_GatesDwSpecIdeal [hGatesDwSpecIdeal : Cert.GatesDwSpecIdeal.Facts] : Prop :=
  ∀ (m : (ℓ : Loc Cert.GatesDwSpecIdeal.nD Cert.GatesDwSpecIdeal.τ Cert.GatesDwSpecIdeal.sig) → Buf (Elt Ideal) ℓ) (g : Dev Cert.GatesDwSpecIdeal.nD → PrngReg), Pre_GatesDwSpecIdeal m →
    θ_run (Cert.GatesDwSpecIdeal.defs (F := Ideal)) (onTc (τ := Cert.GatesDwSpecIdeal.τ) (Cert.GatesDwSpecIdeal.main (F := Ideal))) ⟨m, fun _ => 0, g⟩ (fun r => (∀ c : Dev Cert.GatesDwSpecIdeal.nD,
      r.2.mem ((c.tc : Thread Cert.GatesDwSpecIdeal.nD Cert.GatesDwSpecIdeal.τ).loc Cert.GatesDwSpecIdeal.main_arg0) = m ((c.tc : Thread Cert.GatesDwSpecIdeal.nD Cert.GatesDwSpecIdeal.τ).loc Cert.GatesDwSpecIdeal.main_arg0)
      ∧ r.2.mem ((c.tc : Thread Cert.GatesDwSpecIdeal.nD Cert.GatesDwSpecIdeal.τ).loc Cert.GatesDwSpecIdeal.main_arg1) = m ((c.tc : Thread Cert.GatesDwSpecIdeal.nD Cert.GatesDwSpecIdeal.τ).loc Cert.GatesDwSpecIdeal.main_arg1)
      ∧ r.2.mem ((c.tc : Thread Cert.GatesDwSpecIdeal.nD Cert.GatesDwSpecIdeal.τ).loc Cert.GatesDwSpecIdeal.main_arg2) = m ((c.tc : Thread Cert.GatesDwSpecIdeal.nD Cert.GatesDwSpecIdeal.τ).loc Cert.GatesDwSpecIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeIdeal_pre_finite_merge [hMergeIdeal : Cert.MergeIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_merge m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeSpecIdeal [hMergeSpecIdeal : Cert.MergeSpecIdeal.Facts] : Prop :=
  ∀ (m : (ℓ : Loc Cert.MergeSpecIdeal.nD Cert.MergeSpecIdeal.τ Cert.MergeSpecIdeal.sig) → Buf (Elt Ideal) ℓ) (g : Dev Cert.MergeSpecIdeal.nD → PrngReg), Pre_MergeSpecIdeal m →
    θ_run (Cert.MergeSpecIdeal.defs (F := Ideal)) (onTc (τ := Cert.MergeSpecIdeal.τ) (Cert.MergeSpecIdeal.main (F := Ideal))) ⟨m, fun _ => 0, g⟩ (fun r => (∀ c : Dev Cert.MergeSpecIdeal.nD,
      r.2.mem ((c.tc : Thread Cert.MergeSpecIdeal.nD Cert.MergeSpecIdeal.τ).loc Cert.MergeSpecIdeal.main_arg0) = m ((c.tc : Thread Cert.MergeSpecIdeal.nD Cert.MergeSpecIdeal.τ).loc Cert.MergeSpecIdeal.main_arg0)
      ∧ r.2.mem ((c.tc : Thread Cert.MergeSpecIdeal.nD Cert.MergeSpecIdeal.τ).loc Cert.MergeSpecIdeal.main_arg1) = m ((c.tc : Thread Cert.MergeSpecIdeal.nD Cert.MergeSpecIdeal.τ).loc Cert.MergeSpecIdeal.main_arg1)
      ∧ r.2.mem ((c.tc : Thread Cert.MergeSpecIdeal.nD Cert.MergeSpecIdeal.τ).loc Cert.MergeSpecIdeal.main_arg2) = m ((c.tc : Thread Cert.MergeSpecIdeal.nD Cert.MergeSpecIdeal.τ).loc Cert.MergeSpecIdeal.main_arg2)
      ∧ r.2.mem ((c.tc : Thread Cert.MergeSpecIdeal.nD Cert.MergeSpecIdeal.τ).loc Cert.MergeSpecIdeal.main_arg3) = m ((c.tc : Thread Cert.MergeSpecIdeal.nD Cert.MergeSpecIdeal.τ).loc Cert.MergeSpecIdeal.main_arg3)
      ∧ r.2.mem ((c.tc : Thread Cert.MergeSpecIdeal.nD Cert.MergeSpecIdeal.τ).loc Cert.MergeSpecIdeal.main_arg4) = m ((c.tc : Thread Cert.MergeSpecIdeal.nD Cert.MergeSpecIdeal.τ).loc Cert.MergeSpecIdeal.main_arg4)
      ∧ r.2.mem ((c.tc : Thread Cert.MergeSpecIdeal.nD Cert.MergeSpecIdeal.τ).loc Cert.MergeSpecIdeal.main_arg5) = m ((c.tc : Thread Cert.MergeSpecIdeal.nD Cert.MergeSpecIdeal.τ).loc Cert.MergeSpecIdeal.main_arg5))
      ∧ r.2.sem = fun _ => 0)

def quiescent_MergeSpecIdeal_pre_finite_merge [hMergeSpecIdeal : Cert.MergeSpecIdeal.Facts] [hPre_finite_merge : Cert.Pre_finite_merge.Facts] : Prop :=
  ∀ (m : (ℓ : Loc Cert.MergeSpecIdeal.nD Cert.MergeSpecIdeal.τ Cert.MergeSpecIdeal.sig) → Buf (Elt Ideal) ℓ) (g : Dev Cert.MergeSpecIdeal.nD → PrngReg), Pre_MergeSpecIdeal_finite_merge m →
    θ_run (Cert.MergeSpecIdeal.defs (F := Ideal)) (onTc (τ := Cert.MergeSpecIdeal.τ) (Cert.MergeSpecIdeal.main (F := Ideal))) ⟨m, fun _ => 0, g⟩ (fun r => (∀ c : Dev Cert.MergeSpecIdeal.nD,
      r.2.mem ((c.tc : Thread Cert.MergeSpecIdeal.nD Cert.MergeSpecIdeal.τ).loc Cert.MergeSpecIdeal.main_arg0) = m ((c.tc : Thread Cert.MergeSpecIdeal.nD Cert.MergeSpecIdeal.τ).loc Cert.MergeSpecIdeal.main_arg0)
      ∧ r.2.mem ((c.tc : Thread Cert.MergeSpecIdeal.nD Cert.MergeSpecIdeal.τ).loc Cert.MergeSpecIdeal.main_arg1) = m ((c.tc : Thread Cert.MergeSpecIdeal.nD Cert.MergeSpecIdeal.τ).loc Cert.MergeSpecIdeal.main_arg1)
      ∧ r.2.mem ((c.tc : Thread Cert.MergeSpecIdeal.nD Cert.MergeSpecIdeal.τ).loc Cert.MergeSpecIdeal.main_arg2) = m ((c.tc : Thread Cert.MergeSpecIdeal.nD Cert.MergeSpecIdeal.τ).loc Cert.MergeSpecIdeal.main_arg2)
      ∧ r.2.mem ((c.tc : Thread Cert.MergeSpecIdeal.nD Cert.MergeSpecIdeal.τ).loc Cert.MergeSpecIdeal.main_arg3) = m ((c.tc : Thread Cert.MergeSpecIdeal.nD Cert.MergeSpecIdeal.τ).loc Cert.MergeSpecIdeal.main_arg3)
      ∧ r.2.mem ((c.tc : Thread Cert.MergeSpecIdeal.nD Cert.MergeSpecIdeal.τ).loc Cert.MergeSpecIdeal.main_arg4) = m ((c.tc : Thread Cert.MergeSpecIdeal.nD Cert.MergeSpecIdeal.τ).loc Cert.MergeSpecIdeal.main_arg4)
      ∧ r.2.mem ((c.tc : Thread Cert.MergeSpecIdeal.nD Cert.MergeSpecIdeal.τ).loc Cert.MergeSpecIdeal.main_arg5) = m ((c.tc : Thread Cert.MergeSpecIdeal.nD Cert.MergeSpecIdeal.τ).loc Cert.MergeSpecIdeal.main_arg5))
      ∧ r.2.sem = fun _ => 0)

def quiescent_AdamAbIn [hAdamAbIn : Cert.AdamAbIn.Facts] : Prop :=
  ∀ (m : (ℓ : Loc Cert.AdamAbIn.nD Cert.AdamAbIn.τ Cert.AdamAbIn.sig) → Buf (Elt Bits) ℓ) (g : Dev Cert.AdamAbIn.nD → PrngReg), Pre_AdamAbIn m →
    θ_run (Cert.AdamAbIn.defs (F := Bits)) (onTc (τ := Cert.AdamAbIn.τ) (Cert.AdamAbIn.main (F := Bits))) ⟨m, fun _ => 0, g⟩ (fun r => (∀ c : Dev Cert.AdamAbIn.nD,
      r.2.mem ((c.tc : Thread Cert.AdamAbIn.nD Cert.AdamAbIn.τ).loc Cert.AdamAbIn.main_arg0) = m ((c.tc : Thread Cert.AdamAbIn.nD Cert.AdamAbIn.τ).loc Cert.AdamAbIn.main_arg0)
      ∧ r.2.mem ((c.tc : Thread Cert.AdamAbIn.nD Cert.AdamAbIn.τ).loc Cert.AdamAbIn.main_arg1) = m ((c.tc : Thread Cert.AdamAbIn.nD Cert.AdamAbIn.τ).loc Cert.AdamAbIn.main_arg1)
      ∧ r.2.mem ((c.tc : Thread Cert.AdamAbIn.nD Cert.AdamAbIn.τ).loc Cert.AdamAbIn.main_arg2) = m ((c.tc : Thread Cert.AdamAbIn.nD Cert.AdamAbIn.τ).loc Cert.AdamAbIn.main_arg2)
      ∧ r.2.mem ((c.tc : Thread Cert.AdamAbIn.nD Cert.AdamAbIn.τ).loc Cert.AdamAbIn.main_arg3) = m ((c.tc : Thread Cert.AdamAbIn.nD Cert.AdamAbIn.τ).loc Cert.AdamAbIn.main_arg3))
      ∧ r.2.sem = fun _ => 0)

def quiescent_AdamAbInIdeal [hAdamAbInIdeal : Cert.AdamAbInIdeal.Facts] : Prop :=
  ∀ (m : (ℓ : Loc Cert.AdamAbInIdeal.nD Cert.AdamAbInIdeal.τ Cert.AdamAbInIdeal.sig) → Buf (Elt Ideal) ℓ) (g : Dev Cert.AdamAbInIdeal.nD → PrngReg), Pre_AdamAbInIdeal m →
    θ_run (Cert.AdamAbInIdeal.defs (F := Ideal)) (onTc (τ := Cert.AdamAbInIdeal.τ) (Cert.AdamAbInIdeal.main (F := Ideal))) ⟨m, fun _ => 0, g⟩ (fun r => (∀ c : Dev Cert.AdamAbInIdeal.nD,
      r.2.mem ((c.tc : Thread Cert.AdamAbInIdeal.nD Cert.AdamAbInIdeal.τ).loc Cert.AdamAbInIdeal.main_arg0) = m ((c.tc : Thread Cert.AdamAbInIdeal.nD Cert.AdamAbInIdeal.τ).loc Cert.AdamAbInIdeal.main_arg0)
      ∧ r.2.mem ((c.tc : Thread Cert.AdamAbInIdeal.nD Cert.AdamAbInIdeal.τ).loc Cert.AdamAbInIdeal.main_arg1) = m ((c.tc : Thread Cert.AdamAbInIdeal.nD Cert.AdamAbInIdeal.τ).loc Cert.AdamAbInIdeal.main_arg1)
      ∧ r.2.mem ((c.tc : Thread Cert.AdamAbInIdeal.nD Cert.AdamAbInIdeal.τ).loc Cert.AdamAbInIdeal.main_arg2) = m ((c.tc : Thread Cert.AdamAbInIdeal.nD Cert.AdamAbInIdeal.τ).loc Cert.AdamAbInIdeal.main_arg2)
      ∧ r.2.mem ((c.tc : Thread Cert.AdamAbInIdeal.nD Cert.AdamAbInIdeal.τ).loc Cert.AdamAbInIdeal.main_arg3) = m ((c.tc : Thread Cert.AdamAbInIdeal.nD Cert.AdamAbInIdeal.τ).loc Cert.AdamAbInIdeal.main_arg3))
      ∧ r.2.sem = fun _ => 0)

def quiescent_AdamAbInSpecIdeal [hAdamAbInSpecIdeal : Cert.AdamAbInSpecIdeal.Facts] : Prop :=
  ∀ (m : (ℓ : Loc Cert.AdamAbInSpecIdeal.nD Cert.AdamAbInSpecIdeal.τ Cert.AdamAbInSpecIdeal.sig) → Buf (Elt Ideal) ℓ) (g : Dev Cert.AdamAbInSpecIdeal.nD → PrngReg), Pre_AdamAbInSpecIdeal m →
    θ_run (Cert.AdamAbInSpecIdeal.defs (F := Ideal)) (onTc (τ := Cert.AdamAbInSpecIdeal.τ) (Cert.AdamAbInSpecIdeal.main (F := Ideal))) ⟨m, fun _ => 0, g⟩ (fun r => (∀ c : Dev Cert.AdamAbInSpecIdeal.nD,
      r.2.mem ((c.tc : Thread Cert.AdamAbInSpecIdeal.nD Cert.AdamAbInSpecIdeal.τ).loc Cert.AdamAbInSpecIdeal.main_arg0) = m ((c.tc : Thread Cert.AdamAbInSpecIdeal.nD Cert.AdamAbInSpecIdeal.τ).loc Cert.AdamAbInSpecIdeal.main_arg0)
      ∧ r.2.mem ((c.tc : Thread Cert.AdamAbInSpecIdeal.nD Cert.AdamAbInSpecIdeal.τ).loc Cert.AdamAbInSpecIdeal.main_arg1) = m ((c.tc : Thread Cert.AdamAbInSpecIdeal.nD Cert.AdamAbInSpecIdeal.τ).loc Cert.AdamAbInSpecIdeal.main_arg1)
      ∧ r.2.mem ((c.tc : Thread Cert.AdamAbInSpecIdeal.nD Cert.AdamAbInSpecIdeal.τ).loc Cert.AdamAbInSpecIdeal.main_arg2) = m ((c.tc : Thread Cert.AdamAbInSpecIdeal.nD Cert.AdamAbInSpecIdeal.τ).loc Cert.AdamAbInSpecIdeal.main_arg2)
      ∧ r.2.mem ((c.tc : Thread Cert.AdamAbInSpecIdeal.nD Cert.AdamAbInSpecIdeal.τ).loc Cert.AdamAbInSpecIdeal.main_arg3) = m ((c.tc : Thread Cert.AdamAbInSpecIdeal.nD Cert.AdamAbInSpecIdeal.τ).loc Cert.AdamAbInSpecIdeal.main_arg3))
      ∧ r.2.sem = fun _ => 0)

def quiescent_AdamLru [hAdamLru : Cert.AdamLru.Facts] : Prop :=
  ∀ (m : (ℓ : Loc Cert.AdamLru.nD Cert.AdamLru.τ Cert.AdamLru.sig) → Buf (Elt Bits) ℓ) (g : Dev Cert.AdamLru.nD → PrngReg), Pre_AdamLru m →
    θ_run (Cert.AdamLru.defs (F := Bits)) (onTc (τ := Cert.AdamLru.τ) (Cert.AdamLru.main (F := Bits))) ⟨m, fun _ => 0, g⟩ (fun r => (∀ c : Dev Cert.AdamLru.nD,
      r.2.mem ((c.tc : Thread Cert.AdamLru.nD Cert.AdamLru.τ).loc Cert.AdamLru.main_arg0) = m ((c.tc : Thread Cert.AdamLru.nD Cert.AdamLru.τ).loc Cert.AdamLru.main_arg0)
      ∧ r.2.mem ((c.tc : Thread Cert.AdamLru.nD Cert.AdamLru.τ).loc Cert.AdamLru.main_arg1) = m ((c.tc : Thread Cert.AdamLru.nD Cert.AdamLru.τ).loc Cert.AdamLru.main_arg1)
      ∧ r.2.mem ((c.tc : Thread Cert.AdamLru.nD Cert.AdamLru.τ).loc Cert.AdamLru.main_arg2) = m ((c.tc : Thread Cert.AdamLru.nD Cert.AdamLru.τ).loc Cert.AdamLru.main_arg2)
      ∧ r.2.mem ((c.tc : Thread Cert.AdamLru.nD Cert.AdamLru.τ).loc Cert.AdamLru.main_arg3) = m ((c.tc : Thread Cert.AdamLru.nD Cert.AdamLru.τ).loc Cert.AdamLru.main_arg3))
      ∧ r.2.sem = fun _ => 0)

def quiescent_AdamLruIdeal [hAdamLruIdeal : Cert.AdamLruIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg), Pre_AdamLruIdeal m →
    θ_run (Cert.AdamLruIdeal.defs (F := Ideal)) (onTc (τ := Cert.AdamLruIdeal.τ) (Cert.AdamLruIdeal.main (F := Ideal))) ⟨m, fun _ => 0, g⟩ (fun r => (∀ c : Dev Cert.AdamLruIdeal.nD,
      r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
      ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
      ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
      ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3))
      ∧ r.2.sem = fun _ => 0)

def quiescent_AdamLruSpecIdeal [hAdamLruSpecIdeal : Cert.AdamLruSpecIdeal.Facts] : Prop :=
  ∀ (m : (ℓ : Loc Cert.AdamLruSpecIdeal.nD Cert.AdamLruSpecIdeal.τ Cert.AdamLruSpecIdeal.sig) → Buf (Elt Ideal) ℓ) (g : Dev Cert.AdamLruSpecIdeal.nD → PrngReg), Pre_AdamLruSpecIdeal m →
    θ_run (Cert.AdamLruSpecIdeal.defs (F := Ideal)) (onTc (τ := Cert.AdamLruSpecIdeal.τ) (Cert.AdamLruSpecIdeal.main (F := Ideal))) ⟨m, fun _ => 0, g⟩ (fun r => (∀ c : Dev Cert.AdamLruSpecIdeal.nD,
      r.2.mem ((c.tc : Thread Cert.AdamLruSpecIdeal.nD Cert.AdamLruSpecIdeal.τ).loc Cert.AdamLruSpecIdeal.main_arg0) = m ((c.tc : Thread Cert.AdamLruSpecIdeal.nD Cert.AdamLruSpecIdeal.τ).loc Cert.AdamLruSpecIdeal.main_arg0)
      ∧ r.2.mem ((c.tc : Thread Cert.AdamLruSpecIdeal.nD Cert.AdamLruSpecIdeal.τ).loc Cert.AdamLruSpecIdeal.main_arg1) = m ((c.tc : Thread Cert.AdamLruSpecIdeal.nD Cert.AdamLruSpecIdeal.τ).loc Cert.AdamLruSpecIdeal.main_arg1)
      ∧ r.2.mem ((c.tc : Thread Cert.AdamLruSpecIdeal.nD Cert.AdamLruSpecIdeal.τ).loc Cert.AdamLruSpecIdeal.main_arg2) = m ((c.tc : Thread Cert.AdamLruSpecIdeal.nD Cert.AdamLruSpecIdeal.τ).loc Cert.AdamLruSpecIdeal.main_arg2)
      ∧ r.2.mem ((c.tc : Thread Cert.AdamLruSpecIdeal.nD Cert.AdamLruSpecIdeal.τ).loc Cert.AdamLruSpecIdeal.main_arg3) = m ((c.tc : Thread Cert.AdamLruSpecIdeal.nD Cert.AdamLruSpecIdeal.τ).loc Cert.AdamLruSpecIdeal.main_arg3))
      ∧ r.2.sem = fun _ => 0)

def quiescent_AdamAbOut [hAdamAbOut : Cert.AdamAbOut.Facts] : Prop :=
  ∀ (m : (ℓ : Loc Cert.AdamAbOut.nD Cert.AdamAbOut.τ Cert.AdamAbOut.sig) → Buf (Elt Bits) ℓ) (g : Dev Cert.AdamAbOut.nD → PrngReg), Pre_AdamAbOut m →
    θ_run (Cert.AdamAbOut.defs (F := Bits)) (onTc (τ := Cert.AdamAbOut.τ) (Cert.AdamAbOut.main (F := Bits))) ⟨m, fun _ => 0, g⟩ (fun r => (∀ c : Dev Cert.AdamAbOut.nD,
      r.2.mem ((c.tc : Thread Cert.AdamAbOut.nD Cert.AdamAbOut.τ).loc Cert.AdamAbOut.main_arg0) = m ((c.tc : Thread Cert.AdamAbOut.nD Cert.AdamAbOut.τ).loc Cert.AdamAbOut.main_arg0)
      ∧ r.2.mem ((c.tc : Thread Cert.AdamAbOut.nD Cert.AdamAbOut.τ).loc Cert.AdamAbOut.main_arg1) = m ((c.tc : Thread Cert.AdamAbOut.nD Cert.AdamAbOut.τ).loc Cert.AdamAbOut.main_arg1)
      ∧ r.2.mem ((c.tc : Thread Cert.AdamAbOut.nD Cert.AdamAbOut.τ).loc Cert.AdamAbOut.main_arg2) = m ((c.tc : Thread Cert.AdamAbOut.nD Cert.AdamAbOut.τ).loc Cert.AdamAbOut.main_arg2)
      ∧ r.2.mem ((c.tc : Thread Cert.AdamAbOut.nD Cert.AdamAbOut.τ).loc Cert.AdamAbOut.main_arg3) = m ((c.tc : Thread Cert.AdamAbOut.nD Cert.AdamAbOut.τ).loc Cert.AdamAbOut.main_arg3))
      ∧ r.2.sem = fun _ => 0)

def quiescent_AdamAbOutIdeal [hAdamAbOutIdeal : Cert.AdamAbOutIdeal.Facts] : Prop :=
  ∀ (m : (ℓ : Loc Cert.AdamAbOutIdeal.nD Cert.AdamAbOutIdeal.τ Cert.AdamAbOutIdeal.sig) → Buf (Elt Ideal) ℓ) (g : Dev Cert.AdamAbOutIdeal.nD → PrngReg), Pre_AdamAbOutIdeal m →
    θ_run (Cert.AdamAbOutIdeal.defs (F := Ideal)) (onTc (τ := Cert.AdamAbOutIdeal.τ) (Cert.AdamAbOutIdeal.main (F := Ideal))) ⟨m, fun _ => 0, g⟩ (fun r => (∀ c : Dev Cert.AdamAbOutIdeal.nD,
      r.2.mem ((c.tc : Thread Cert.AdamAbOutIdeal.nD Cert.AdamAbOutIdeal.τ).loc Cert.AdamAbOutIdeal.main_arg0) = m ((c.tc : Thread Cert.AdamAbOutIdeal.nD Cert.AdamAbOutIdeal.τ).loc Cert.AdamAbOutIdeal.main_arg0)
      ∧ r.2.mem ((c.tc : Thread Cert.AdamAbOutIdeal.nD Cert.AdamAbOutIdeal.τ).loc Cert.AdamAbOutIdeal.main_arg1) = m ((c.tc : Thread Cert.AdamAbOutIdeal.nD Cert.AdamAbOutIdeal.τ).loc Cert.AdamAbOutIdeal.main_arg1)
      ∧ r.2.mem ((c.tc : Thread Cert.AdamAbOutIdeal.nD Cert.AdamAbOutIdeal.τ).loc Cert.AdamAbOutIdeal.main_arg2) = m ((c.tc : Thread Cert.AdamAbOutIdeal.nD Cert.AdamAbOutIdeal.τ).loc Cert.AdamAbOutIdeal.main_arg2)
      ∧ r.2.mem ((c.tc : Thread Cert.AdamAbOutIdeal.nD Cert.AdamAbOutIdeal.τ).loc Cert.AdamAbOutIdeal.main_arg3) = m ((c.tc : Thread Cert.AdamAbOutIdeal.nD Cert.AdamAbOutIdeal.τ).loc Cert.AdamAbOutIdeal.main_arg3))
      ∧ r.2.sem = fun _ => 0)

def quiescent_AdamAbOutSpecIdeal [hAdamAbOutSpecIdeal : Cert.AdamAbOutSpecIdeal.Facts] : Prop :=
  ∀ (m : (ℓ : Loc Cert.AdamAbOutSpecIdeal.nD Cert.AdamAbOutSpecIdeal.τ Cert.AdamAbOutSpecIdeal.sig) → Buf (Elt Ideal) ℓ) (g : Dev Cert.AdamAbOutSpecIdeal.nD → PrngReg), Pre_AdamAbOutSpecIdeal m →
    θ_run (Cert.AdamAbOutSpecIdeal.defs (F := Ideal)) (onTc (τ := Cert.AdamAbOutSpecIdeal.τ) (Cert.AdamAbOutSpecIdeal.main (F := Ideal))) ⟨m, fun _ => 0, g⟩ (fun r => (∀ c : Dev Cert.AdamAbOutSpecIdeal.nD,
      r.2.mem ((c.tc : Thread Cert.AdamAbOutSpecIdeal.nD Cert.AdamAbOutSpecIdeal.τ).loc Cert.AdamAbOutSpecIdeal.main_arg0) = m ((c.tc : Thread Cert.AdamAbOutSpecIdeal.nD Cert.AdamAbOutSpecIdeal.τ).loc Cert.AdamAbOutSpecIdeal.main_arg0)
      ∧ r.2.mem ((c.tc : Thread Cert.AdamAbOutSpecIdeal.nD Cert.AdamAbOutSpecIdeal.τ).loc Cert.AdamAbOutSpecIdeal.main_arg1) = m ((c.tc : Thread Cert.AdamAbOutSpecIdeal.nD Cert.AdamAbOutSpecIdeal.τ).loc Cert.AdamAbOutSpecIdeal.main_arg1)
      ∧ r.2.mem ((c.tc : Thread Cert.AdamAbOutSpecIdeal.nD Cert.AdamAbOutSpecIdeal.τ).loc Cert.AdamAbOutSpecIdeal.main_arg2) = m ((c.tc : Thread Cert.AdamAbOutSpecIdeal.nD Cert.AdamAbOutSpecIdeal.τ).loc Cert.AdamAbOutSpecIdeal.main_arg2)
      ∧ r.2.mem ((c.tc : Thread Cert.AdamAbOutSpecIdeal.nD Cert.AdamAbOutSpecIdeal.τ).loc Cert.AdamAbOutSpecIdeal.main_arg3) = m ((c.tc : Thread Cert.AdamAbOutSpecIdeal.nD Cert.AdamAbOutSpecIdeal.τ).loc Cert.AdamAbOutSpecIdeal.main_arg3))
      ∧ r.2.sem = fun _ => 0)

def quiescent_AdamCQkv [hAdamCQkv : Cert.AdamCQkv.Facts] : Prop :=
  ∀ (m : (ℓ : Loc Cert.AdamCQkv.nD Cert.AdamCQkv.τ Cert.AdamCQkv.sig) → Buf (Elt Bits) ℓ) (g : Dev Cert.AdamCQkv.nD → PrngReg), Pre_AdamCQkv m →
    θ_run (Cert.AdamCQkv.defs (F := Bits)) (onTc (τ := Cert.AdamCQkv.τ) (Cert.AdamCQkv.main (F := Bits))) ⟨m, fun _ => 0, g⟩ (fun r => (∀ c : Dev Cert.AdamCQkv.nD,
      r.2.mem ((c.tc : Thread Cert.AdamCQkv.nD Cert.AdamCQkv.τ).loc Cert.AdamCQkv.main_arg0) = m ((c.tc : Thread Cert.AdamCQkv.nD Cert.AdamCQkv.τ).loc Cert.AdamCQkv.main_arg0)
      ∧ r.2.mem ((c.tc : Thread Cert.AdamCQkv.nD Cert.AdamCQkv.τ).loc Cert.AdamCQkv.main_arg1) = m ((c.tc : Thread Cert.AdamCQkv.nD Cert.AdamCQkv.τ).loc Cert.AdamCQkv.main_arg1)
      ∧ r.2.mem ((c.tc : Thread Cert.AdamCQkv.nD Cert.AdamCQkv.τ).loc Cert.AdamCQkv.main_arg2) = m ((c.tc : Thread Cert.AdamCQkv.nD Cert.AdamCQkv.τ).loc Cert.AdamCQkv.main_arg2)
      ∧ r.2.mem ((c.tc : Thread Cert.AdamCQkv.nD Cert.AdamCQkv.τ).loc Cert.AdamCQkv.main_arg3) = m ((c.tc : Thread Cert.AdamCQkv.nD Cert.AdamCQkv.τ).loc Cert.AdamCQkv.main_arg3))
      ∧ r.2.sem = fun _ => 0)

def quiescent_AdamCQkvIdeal [hAdamCQkvIdeal : Cert.AdamCQkvIdeal.Facts] : Prop :=
  ∀ (m : (ℓ : Loc Cert.AdamCQkvIdeal.nD Cert.AdamCQkvIdeal.τ Cert.AdamCQkvIdeal.sig) → Buf (Elt Ideal) ℓ) (g : Dev Cert.AdamCQkvIdeal.nD → PrngReg), Pre_AdamCQkvIdeal m →
    θ_run (Cert.AdamCQkvIdeal.defs (F := Ideal)) (onTc (τ := Cert.AdamCQkvIdeal.τ) (Cert.AdamCQkvIdeal.main (F := Ideal))) ⟨m, fun _ => 0, g⟩ (fun r => (∀ c : Dev Cert.AdamCQkvIdeal.nD,
      r.2.mem ((c.tc : Thread Cert.AdamCQkvIdeal.nD Cert.AdamCQkvIdeal.τ).loc Cert.AdamCQkvIdeal.main_arg0) = m ((c.tc : Thread Cert.AdamCQkvIdeal.nD Cert.AdamCQkvIdeal.τ).loc Cert.AdamCQkvIdeal.main_arg0)
      ∧ r.2.mem ((c.tc : Thread Cert.AdamCQkvIdeal.nD Cert.AdamCQkvIdeal.τ).loc Cert.AdamCQkvIdeal.main_arg1) = m ((c.tc : Thread Cert.AdamCQkvIdeal.nD Cert.AdamCQkvIdeal.τ).loc Cert.AdamCQkvIdeal.main_arg1)
      ∧ r.2.mem ((c.tc : Thread Cert.AdamCQkvIdeal.nD Cert.AdamCQkvIdeal.τ).loc Cert.AdamCQkvIdeal.main_arg2) = m ((c.tc : Thread Cert.AdamCQkvIdeal.nD Cert.AdamCQkvIdeal.τ).loc Cert.AdamCQkvIdeal.main_arg2)
      ∧ r.2.mem ((c.tc : Thread Cert.AdamCQkvIdeal.nD Cert.AdamCQkvIdeal.τ).loc Cert.AdamCQkvIdeal.main_arg3) = m ((c.tc : Thread Cert.AdamCQkvIdeal.nD Cert.AdamCQkvIdeal.τ).loc Cert.AdamCQkvIdeal.main_arg3))
      ∧ r.2.sem = fun _ => 0)

def quiescent_AdamCQkvSpecIdeal [hAdamCQkvSpecIdeal : Cert.AdamCQkvSpecIdeal.Facts] : Prop :=
  ∀ (m : (ℓ : Loc Cert.AdamCQkvSpecIdeal.nD Cert.AdamCQkvSpecIdeal.τ Cert.AdamCQkvSpecIdeal.sig) → Buf (Elt Ideal) ℓ) (g : Dev Cert.AdamCQkvSpecIdeal.nD → PrngReg), Pre_AdamCQkvSpecIdeal m →
    θ_run (Cert.AdamCQkvSpecIdeal.defs (F := Ideal)) (onTc (τ := Cert.AdamCQkvSpecIdeal.τ) (Cert.AdamCQkvSpecIdeal.main (F := Ideal))) ⟨m, fun _ => 0, g⟩ (fun r => (∀ c : Dev Cert.AdamCQkvSpecIdeal.nD,
      r.2.mem ((c.tc : Thread Cert.AdamCQkvSpecIdeal.nD Cert.AdamCQkvSpecIdeal.τ).loc Cert.AdamCQkvSpecIdeal.main_arg0) = m ((c.tc : Thread Cert.AdamCQkvSpecIdeal.nD Cert.AdamCQkvSpecIdeal.τ).loc Cert.AdamCQkvSpecIdeal.main_arg0)
      ∧ r.2.mem ((c.tc : Thread Cert.AdamCQkvSpecIdeal.nD Cert.AdamCQkvSpecIdeal.τ).loc Cert.AdamCQkvSpecIdeal.main_arg1) = m ((c.tc : Thread Cert.AdamCQkvSpecIdeal.nD Cert.AdamCQkvSpecIdeal.τ).loc Cert.AdamCQkvSpecIdeal.main_arg1)
      ∧ r.2.mem ((c.tc : Thread Cert.AdamCQkvSpecIdeal.nD Cert.AdamCQkvSpecIdeal.τ).loc Cert.AdamCQkvSpecIdeal.main_arg2) = m ((c.tc : Thread Cert.AdamCQkvSpecIdeal.nD Cert.AdamCQkvSpecIdeal.τ).loc Cert.AdamCQkvSpecIdeal.main_arg2)
      ∧ r.2.mem ((c.tc : Thread Cert.AdamCQkvSpecIdeal.nD Cert.AdamCQkvSpecIdeal.τ).loc Cert.AdamCQkvSpecIdeal.main_arg3) = m ((c.tc : Thread Cert.AdamCQkvSpecIdeal.nD Cert.AdamCQkvSpecIdeal.τ).loc Cert.AdamCQkvSpecIdeal.main_arg3))
      ∧ r.2.sem = fun _ => 0)

def quiescent_AdamCOut [hAdamCOut : Cert.AdamCOut.Facts] : Prop :=
  ∀ (m : (ℓ : Loc Cert.AdamCOut.nD Cert.AdamCOut.τ Cert.AdamCOut.sig) → Buf (Elt Bits) ℓ) (g : Dev Cert.AdamCOut.nD → PrngReg), Pre_AdamCOut m →
    θ_run (Cert.AdamCOut.defs (F := Bits)) (onTc (τ := Cert.AdamCOut.τ) (Cert.AdamCOut.main (F := Bits))) ⟨m, fun _ => 0, g⟩ (fun r => (∀ c : Dev Cert.AdamCOut.nD,
      r.2.mem ((c.tc : Thread Cert.AdamCOut.nD Cert.AdamCOut.τ).loc Cert.AdamCOut.main_arg0) = m ((c.tc : Thread Cert.AdamCOut.nD Cert.AdamCOut.τ).loc Cert.AdamCOut.main_arg0)
      ∧ r.2.mem ((c.tc : Thread Cert.AdamCOut.nD Cert.AdamCOut.τ).loc Cert.AdamCOut.main_arg1) = m ((c.tc : Thread Cert.AdamCOut.nD Cert.AdamCOut.τ).loc Cert.AdamCOut.main_arg1)
      ∧ r.2.mem ((c.tc : Thread Cert.AdamCOut.nD Cert.AdamCOut.τ).loc Cert.AdamCOut.main_arg2) = m ((c.tc : Thread Cert.AdamCOut.nD Cert.AdamCOut.τ).loc Cert.AdamCOut.main_arg2)
      ∧ r.2.mem ((c.tc : Thread Cert.AdamCOut.nD Cert.AdamCOut.τ).loc Cert.AdamCOut.main_arg3) = m ((c.tc : Thread Cert.AdamCOut.nD Cert.AdamCOut.τ).loc Cert.AdamCOut.main_arg3))
      ∧ r.2.sem = fun _ => 0)

def quiescent_AdamCOutIdeal [hAdamCOutIdeal : Cert.AdamCOutIdeal.Facts] : Prop :=
  ∀ (m : (ℓ : Loc Cert.AdamCOutIdeal.nD Cert.AdamCOutIdeal.τ Cert.AdamCOutIdeal.sig) → Buf (Elt Ideal) ℓ) (g : Dev Cert.AdamCOutIdeal.nD → PrngReg), Pre_AdamCOutIdeal m →
    θ_run (Cert.AdamCOutIdeal.defs (F := Ideal)) (onTc (τ := Cert.AdamCOutIdeal.τ) (Cert.AdamCOutIdeal.main (F := Ideal))) ⟨m, fun _ => 0, g⟩ (fun r => (∀ c : Dev Cert.AdamCOutIdeal.nD,
      r.2.mem ((c.tc : Thread Cert.AdamCOutIdeal.nD Cert.AdamCOutIdeal.τ).loc Cert.AdamCOutIdeal.main_arg0) = m ((c.tc : Thread Cert.AdamCOutIdeal.nD Cert.AdamCOutIdeal.τ).loc Cert.AdamCOutIdeal.main_arg0)
      ∧ r.2.mem ((c.tc : Thread Cert.AdamCOutIdeal.nD Cert.AdamCOutIdeal.τ).loc Cert.AdamCOutIdeal.main_arg1) = m ((c.tc : Thread Cert.AdamCOutIdeal.nD Cert.AdamCOutIdeal.τ).loc Cert.AdamCOutIdeal.main_arg1)
      ∧ r.2.mem ((c.tc : Thread Cert.AdamCOutIdeal.nD Cert.AdamCOutIdeal.τ).loc Cert.AdamCOutIdeal.main_arg2) = m ((c.tc : Thread Cert.AdamCOutIdeal.nD Cert.AdamCOutIdeal.τ).loc Cert.AdamCOutIdeal.main_arg2)
      ∧ r.2.mem ((c.tc : Thread Cert.AdamCOutIdeal.nD Cert.AdamCOutIdeal.τ).loc Cert.AdamCOutIdeal.main_arg3) = m ((c.tc : Thread Cert.AdamCOutIdeal.nD Cert.AdamCOutIdeal.τ).loc Cert.AdamCOutIdeal.main_arg3))
      ∧ r.2.sem = fun _ => 0)

def quiescent_AdamCOutSpecIdeal [hAdamCOutSpecIdeal : Cert.AdamCOutSpecIdeal.Facts] : Prop :=
  ∀ (m : (ℓ : Loc Cert.AdamCOutSpecIdeal.nD Cert.AdamCOutSpecIdeal.τ Cert.AdamCOutSpecIdeal.sig) → Buf (Elt Ideal) ℓ) (g : Dev Cert.AdamCOutSpecIdeal.nD → PrngReg), Pre_AdamCOutSpecIdeal m →
    θ_run (Cert.AdamCOutSpecIdeal.defs (F := Ideal)) (onTc (τ := Cert.AdamCOutSpecIdeal.τ) (Cert.AdamCOutSpecIdeal.main (F := Ideal))) ⟨m, fun _ => 0, g⟩ (fun r => (∀ c : Dev Cert.AdamCOutSpecIdeal.nD,
      r.2.mem ((c.tc : Thread Cert.AdamCOutSpecIdeal.nD Cert.AdamCOutSpecIdeal.τ).loc Cert.AdamCOutSpecIdeal.main_arg0) = m ((c.tc : Thread Cert.AdamCOutSpecIdeal.nD Cert.AdamCOutSpecIdeal.τ).loc Cert.AdamCOutSpecIdeal.main_arg0)
      ∧ r.2.mem ((c.tc : Thread Cert.AdamCOutSpecIdeal.nD Cert.AdamCOutSpecIdeal.τ).loc Cert.AdamCOutSpecIdeal.main_arg1) = m ((c.tc : Thread Cert.AdamCOutSpecIdeal.nD Cert.AdamCOutSpecIdeal.τ).loc Cert.AdamCOutSpecIdeal.main_arg1)
      ∧ r.2.mem ((c.tc : Thread Cert.AdamCOutSpecIdeal.nD Cert.AdamCOutSpecIdeal.τ).loc Cert.AdamCOutSpecIdeal.main_arg2) = m ((c.tc : Thread Cert.AdamCOutSpecIdeal.nD Cert.AdamCOutSpecIdeal.τ).loc Cert.AdamCOutSpecIdeal.main_arg2)
      ∧ r.2.mem ((c.tc : Thread Cert.AdamCOutSpecIdeal.nD Cert.AdamCOutSpecIdeal.τ).loc Cert.AdamCOutSpecIdeal.main_arg3) = m ((c.tc : Thread Cert.AdamCOutSpecIdeal.nD Cert.AdamCOutSpecIdeal.τ).loc Cert.AdamCOutSpecIdeal.main_arg3))
      ∧ r.2.sem = fun _ => 0)

def quiescent_AdamXaWq [hAdamXaWq : Cert.AdamXaWq.Facts] : Prop :=
  ∀ (m : (ℓ : Loc Cert.AdamXaWq.nD Cert.AdamXaWq.τ Cert.AdamXaWq.sig) → Buf (Elt Bits) ℓ) (g : Dev Cert.AdamXaWq.nD → PrngReg), Pre_AdamXaWq m →
    θ_run (Cert.AdamXaWq.defs (F := Bits)) (onTc (τ := Cert.AdamXaWq.τ) (Cert.AdamXaWq.main (F := Bits))) ⟨m, fun _ => 0, g⟩ (fun r => (∀ c : Dev Cert.AdamXaWq.nD,
      r.2.mem ((c.tc : Thread Cert.AdamXaWq.nD Cert.AdamXaWq.τ).loc Cert.AdamXaWq.main_arg0) = m ((c.tc : Thread Cert.AdamXaWq.nD Cert.AdamXaWq.τ).loc Cert.AdamXaWq.main_arg0)
      ∧ r.2.mem ((c.tc : Thread Cert.AdamXaWq.nD Cert.AdamXaWq.τ).loc Cert.AdamXaWq.main_arg1) = m ((c.tc : Thread Cert.AdamXaWq.nD Cert.AdamXaWq.τ).loc Cert.AdamXaWq.main_arg1)
      ∧ r.2.mem ((c.tc : Thread Cert.AdamXaWq.nD Cert.AdamXaWq.τ).loc Cert.AdamXaWq.main_arg2) = m ((c.tc : Thread Cert.AdamXaWq.nD Cert.AdamXaWq.τ).loc Cert.AdamXaWq.main_arg2)
      ∧ r.2.mem ((c.tc : Thread Cert.AdamXaWq.nD Cert.AdamXaWq.τ).loc Cert.AdamXaWq.main_arg3) = m ((c.tc : Thread Cert.AdamXaWq.nD Cert.AdamXaWq.τ).loc Cert.AdamXaWq.main_arg3)
      ∧ r.2.mem ((c.tc : Thread Cert.AdamXaWq.nD Cert.AdamXaWq.τ).loc Cert.AdamXaWq.main_arg4) = m ((c.tc : Thread Cert.AdamXaWq.nD Cert.AdamXaWq.τ).loc Cert.AdamXaWq.main_arg4))
      ∧ r.2.sem = fun _ => 0)

def quiescent_AdamXaWqIdeal [hAdamXaWqIdeal : Cert.AdamXaWqIdeal.Facts] : Prop :=
  ∀ (m : (ℓ : Loc Cert.AdamXaWqIdeal.nD Cert.AdamXaWqIdeal.τ Cert.AdamXaWqIdeal.sig) → Buf (Elt Ideal) ℓ) (g : Dev Cert.AdamXaWqIdeal.nD → PrngReg), Pre_AdamXaWqIdeal m →
    θ_run (Cert.AdamXaWqIdeal.defs (F := Ideal)) (onTc (τ := Cert.AdamXaWqIdeal.τ) (Cert.AdamXaWqIdeal.main (F := Ideal))) ⟨m, fun _ => 0, g⟩ (fun r => (∀ c : Dev Cert.AdamXaWqIdeal.nD,
      r.2.mem ((c.tc : Thread Cert.AdamXaWqIdeal.nD Cert.AdamXaWqIdeal.τ).loc Cert.AdamXaWqIdeal.main_arg0) = m ((c.tc : Thread Cert.AdamXaWqIdeal.nD Cert.AdamXaWqIdeal.τ).loc Cert.AdamXaWqIdeal.main_arg0)
      ∧ r.2.mem ((c.tc : Thread Cert.AdamXaWqIdeal.nD Cert.AdamXaWqIdeal.τ).loc Cert.AdamXaWqIdeal.main_arg1) = m ((c.tc : Thread Cert.AdamXaWqIdeal.nD Cert.AdamXaWqIdeal.τ).loc Cert.AdamXaWqIdeal.main_arg1)
      ∧ r.2.mem ((c.tc : Thread Cert.AdamXaWqIdeal.nD Cert.AdamXaWqIdeal.τ).loc Cert.AdamXaWqIdeal.main_arg2) = m ((c.tc : Thread Cert.AdamXaWqIdeal.nD Cert.AdamXaWqIdeal.τ).loc Cert.AdamXaWqIdeal.main_arg2)
      ∧ r.2.mem ((c.tc : Thread Cert.AdamXaWqIdeal.nD Cert.AdamXaWqIdeal.τ).loc Cert.AdamXaWqIdeal.main_arg3) = m ((c.tc : Thread Cert.AdamXaWqIdeal.nD Cert.AdamXaWqIdeal.τ).loc Cert.AdamXaWqIdeal.main_arg3)
      ∧ r.2.mem ((c.tc : Thread Cert.AdamXaWqIdeal.nD Cert.AdamXaWqIdeal.τ).loc Cert.AdamXaWqIdeal.main_arg4) = m ((c.tc : Thread Cert.AdamXaWqIdeal.nD Cert.AdamXaWqIdeal.τ).loc Cert.AdamXaWqIdeal.main_arg4))
      ∧ r.2.sem = fun _ => 0)

def quiescent_AdamXaWqSpecIdeal [hAdamXaWqSpecIdeal : Cert.AdamXaWqSpecIdeal.Facts] : Prop :=
  ∀ (m : (ℓ : Loc Cert.AdamXaWqSpecIdeal.nD Cert.AdamXaWqSpecIdeal.τ Cert.AdamXaWqSpecIdeal.sig) → Buf (Elt Ideal) ℓ) (g : Dev Cert.AdamXaWqSpecIdeal.nD → PrngReg), Pre_AdamXaWqSpecIdeal m →
    θ_run (Cert.AdamXaWqSpecIdeal.defs (F := Ideal)) (onTc (τ := Cert.AdamXaWqSpecIdeal.τ) (Cert.AdamXaWqSpecIdeal.main (F := Ideal))) ⟨m, fun _ => 0, g⟩ (fun r => (∀ c : Dev Cert.AdamXaWqSpecIdeal.nD,
      r.2.mem ((c.tc : Thread Cert.AdamXaWqSpecIdeal.nD Cert.AdamXaWqSpecIdeal.τ).loc Cert.AdamXaWqSpecIdeal.main_arg0) = m ((c.tc : Thread Cert.AdamXaWqSpecIdeal.nD Cert.AdamXaWqSpecIdeal.τ).loc Cert.AdamXaWqSpecIdeal.main_arg0)
      ∧ r.2.mem ((c.tc : Thread Cert.AdamXaWqSpecIdeal.nD Cert.AdamXaWqSpecIdeal.τ).loc Cert.AdamXaWqSpecIdeal.main_arg1) = m ((c.tc : Thread Cert.AdamXaWqSpecIdeal.nD Cert.AdamXaWqSpecIdeal.τ).loc Cert.AdamXaWqSpecIdeal.main_arg1)
      ∧ r.2.mem ((c.tc : Thread Cert.AdamXaWqSpecIdeal.nD Cert.AdamXaWqSpecIdeal.τ).loc Cert.AdamXaWqSpecIdeal.main_arg2) = m ((c.tc : Thread Cert.AdamXaWqSpecIdeal.nD Cert.AdamXaWqSpecIdeal.τ).loc Cert.AdamXaWqSpecIdeal.main_arg2)
      ∧ r.2.mem ((c.tc : Thread Cert.AdamXaWqSpecIdeal.nD Cert.AdamXaWqSpecIdeal.τ).loc Cert.AdamXaWqSpecIdeal.main_arg3) = m ((c.tc : Thread Cert.AdamXaWqSpecIdeal.nD Cert.AdamXaWqSpecIdeal.τ).loc Cert.AdamXaWqSpecIdeal.main_arg3)
      ∧ r.2.mem ((c.tc : Thread Cert.AdamXaWqSpecIdeal.nD Cert.AdamXaWqSpecIdeal.τ).loc Cert.AdamXaWqSpecIdeal.main_arg4) = m ((c.tc : Thread Cert.AdamXaWqSpecIdeal.nD Cert.AdamXaWqSpecIdeal.τ).loc Cert.AdamXaWqSpecIdeal.main_arg4))
      ∧ r.2.sem = fun _ => 0)

def quiescent_AdamXaWkv [hAdamXaWkv : Cert.AdamXaWkv.Facts] : Prop :=
  ∀ (m : (ℓ : Loc Cert.AdamXaWkv.nD Cert.AdamXaWkv.τ Cert.AdamXaWkv.sig) → Buf (Elt Bits) ℓ) (g : Dev Cert.AdamXaWkv.nD → PrngReg), Pre_AdamXaWkv m →
    θ_run (Cert.AdamXaWkv.defs (F := Bits)) (onTc (τ := Cert.AdamXaWkv.τ) (Cert.AdamXaWkv.main (F := Bits))) ⟨m, fun _ => 0, g⟩ (fun r => (∀ c : Dev Cert.AdamXaWkv.nD,
      r.2.mem ((c.tc : Thread Cert.AdamXaWkv.nD Cert.AdamXaWkv.τ).loc Cert.AdamXaWkv.main_arg0) = m ((c.tc : Thread Cert.AdamXaWkv.nD Cert.AdamXaWkv.τ).loc Cert.AdamXaWkv.main_arg0)
      ∧ r.2.mem ((c.tc : Thread Cert.AdamXaWkv.nD Cert.AdamXaWkv.τ).loc Cert.AdamXaWkv.main_arg1) = m ((c.tc : Thread Cert.AdamXaWkv.nD Cert.AdamXaWkv.τ).loc Cert.AdamXaWkv.main_arg1)
      ∧ r.2.mem ((c.tc : Thread Cert.AdamXaWkv.nD Cert.AdamXaWkv.τ).loc Cert.AdamXaWkv.main_arg2) = m ((c.tc : Thread Cert.AdamXaWkv.nD Cert.AdamXaWkv.τ).loc Cert.AdamXaWkv.main_arg2)
      ∧ r.2.mem ((c.tc : Thread Cert.AdamXaWkv.nD Cert.AdamXaWkv.τ).loc Cert.AdamXaWkv.main_arg3) = m ((c.tc : Thread Cert.AdamXaWkv.nD Cert.AdamXaWkv.τ).loc Cert.AdamXaWkv.main_arg3)
      ∧ r.2.mem ((c.tc : Thread Cert.AdamXaWkv.nD Cert.AdamXaWkv.τ).loc Cert.AdamXaWkv.main_arg4) = m ((c.tc : Thread Cert.AdamXaWkv.nD Cert.AdamXaWkv.τ).loc Cert.AdamXaWkv.main_arg4))
      ∧ r.2.sem = fun _ => 0)

def quiescent_AdamXaWkvIdeal [hAdamXaWkvIdeal : Cert.AdamXaWkvIdeal.Facts] : Prop :=
  ∀ (m : (ℓ : Loc Cert.AdamXaWkvIdeal.nD Cert.AdamXaWkvIdeal.τ Cert.AdamXaWkvIdeal.sig) → Buf (Elt Ideal) ℓ) (g : Dev Cert.AdamXaWkvIdeal.nD → PrngReg), Pre_AdamXaWkvIdeal m →
    θ_run (Cert.AdamXaWkvIdeal.defs (F := Ideal)) (onTc (τ := Cert.AdamXaWkvIdeal.τ) (Cert.AdamXaWkvIdeal.main (F := Ideal))) ⟨m, fun _ => 0, g⟩ (fun r => (∀ c : Dev Cert.AdamXaWkvIdeal.nD,
      r.2.mem ((c.tc : Thread Cert.AdamXaWkvIdeal.nD Cert.AdamXaWkvIdeal.τ).loc Cert.AdamXaWkvIdeal.main_arg0) = m ((c.tc : Thread Cert.AdamXaWkvIdeal.nD Cert.AdamXaWkvIdeal.τ).loc Cert.AdamXaWkvIdeal.main_arg0)
      ∧ r.2.mem ((c.tc : Thread Cert.AdamXaWkvIdeal.nD Cert.AdamXaWkvIdeal.τ).loc Cert.AdamXaWkvIdeal.main_arg1) = m ((c.tc : Thread Cert.AdamXaWkvIdeal.nD Cert.AdamXaWkvIdeal.τ).loc Cert.AdamXaWkvIdeal.main_arg1)
      ∧ r.2.mem ((c.tc : Thread Cert.AdamXaWkvIdeal.nD Cert.AdamXaWkvIdeal.τ).loc Cert.AdamXaWkvIdeal.main_arg2) = m ((c.tc : Thread Cert.AdamXaWkvIdeal.nD Cert.AdamXaWkvIdeal.τ).loc Cert.AdamXaWkvIdeal.main_arg2)
      ∧ r.2.mem ((c.tc : Thread Cert.AdamXaWkvIdeal.nD Cert.AdamXaWkvIdeal.τ).loc Cert.AdamXaWkvIdeal.main_arg3) = m ((c.tc : Thread Cert.AdamXaWkvIdeal.nD Cert.AdamXaWkvIdeal.τ).loc Cert.AdamXaWkvIdeal.main_arg3)
      ∧ r.2.mem ((c.tc : Thread Cert.AdamXaWkvIdeal.nD Cert.AdamXaWkvIdeal.τ).loc Cert.AdamXaWkvIdeal.main_arg4) = m ((c.tc : Thread Cert.AdamXaWkvIdeal.nD Cert.AdamXaWkvIdeal.τ).loc Cert.AdamXaWkvIdeal.main_arg4))
      ∧ r.2.sem = fun _ => 0)

def quiescent_AdamXaWkvSpecIdeal [hAdamXaWkvSpecIdeal : Cert.AdamXaWkvSpecIdeal.Facts] : Prop :=
  ∀ (m : (ℓ : Loc Cert.AdamXaWkvSpecIdeal.nD Cert.AdamXaWkvSpecIdeal.τ Cert.AdamXaWkvSpecIdeal.sig) → Buf (Elt Ideal) ℓ) (g : Dev Cert.AdamXaWkvSpecIdeal.nD → PrngReg), Pre_AdamXaWkvSpecIdeal m →
    θ_run (Cert.AdamXaWkvSpecIdeal.defs (F := Ideal)) (onTc (τ := Cert.AdamXaWkvSpecIdeal.τ) (Cert.AdamXaWkvSpecIdeal.main (F := Ideal))) ⟨m, fun _ => 0, g⟩ (fun r => (∀ c : Dev Cert.AdamXaWkvSpecIdeal.nD,
      r.2.mem ((c.tc : Thread Cert.AdamXaWkvSpecIdeal.nD Cert.AdamXaWkvSpecIdeal.τ).loc Cert.AdamXaWkvSpecIdeal.main_arg0) = m ((c.tc : Thread Cert.AdamXaWkvSpecIdeal.nD Cert.AdamXaWkvSpecIdeal.τ).loc Cert.AdamXaWkvSpecIdeal.main_arg0)
      ∧ r.2.mem ((c.tc : Thread Cert.AdamXaWkvSpecIdeal.nD Cert.AdamXaWkvSpecIdeal.τ).loc Cert.AdamXaWkvSpecIdeal.main_arg1) = m ((c.tc : Thread Cert.AdamXaWkvSpecIdeal.nD Cert.AdamXaWkvSpecIdeal.τ).loc Cert.AdamXaWkvSpecIdeal.main_arg1)
      ∧ r.2.mem ((c.tc : Thread Cert.AdamXaWkvSpecIdeal.nD Cert.AdamXaWkvSpecIdeal.τ).loc Cert.AdamXaWkvSpecIdeal.main_arg2) = m ((c.tc : Thread Cert.AdamXaWkvSpecIdeal.nD Cert.AdamXaWkvSpecIdeal.τ).loc Cert.AdamXaWkvSpecIdeal.main_arg2)
      ∧ r.2.mem ((c.tc : Thread Cert.AdamXaWkvSpecIdeal.nD Cert.AdamXaWkvSpecIdeal.τ).loc Cert.AdamXaWkvSpecIdeal.main_arg3) = m ((c.tc : Thread Cert.AdamXaWkvSpecIdeal.nD Cert.AdamXaWkvSpecIdeal.τ).loc Cert.AdamXaWkvSpecIdeal.main_arg3)
      ∧ r.2.mem ((c.tc : Thread Cert.AdamXaWkvSpecIdeal.nD Cert.AdamXaWkvSpecIdeal.τ).loc Cert.AdamXaWkvSpecIdeal.main_arg4) = m ((c.tc : Thread Cert.AdamXaWkvSpecIdeal.nD Cert.AdamXaWkvSpecIdeal.τ).loc Cert.AdamXaWkvSpecIdeal.main_arg4))
      ∧ r.2.sem = fun _ => 0)

def quiescent_AdamXaWo [hAdamXaWo : Cert.AdamXaWo.Facts] : Prop :=
  ∀ (m : (ℓ : Loc Cert.AdamXaWo.nD Cert.AdamXaWo.τ Cert.AdamXaWo.sig) → Buf (Elt Bits) ℓ) (g : Dev Cert.AdamXaWo.nD → PrngReg), Pre_AdamXaWo m →
    θ_run (Cert.AdamXaWo.defs (F := Bits)) (onTc (τ := Cert.AdamXaWo.τ) (Cert.AdamXaWo.main (F := Bits))) ⟨m, fun _ => 0, g⟩ (fun r => (∀ c : Dev Cert.AdamXaWo.nD,
      r.2.mem ((c.tc : Thread Cert.AdamXaWo.nD Cert.AdamXaWo.τ).loc Cert.AdamXaWo.main_arg0) = m ((c.tc : Thread Cert.AdamXaWo.nD Cert.AdamXaWo.τ).loc Cert.AdamXaWo.main_arg0)
      ∧ r.2.mem ((c.tc : Thread Cert.AdamXaWo.nD Cert.AdamXaWo.τ).loc Cert.AdamXaWo.main_arg1) = m ((c.tc : Thread Cert.AdamXaWo.nD Cert.AdamXaWo.τ).loc Cert.AdamXaWo.main_arg1)
      ∧ r.2.mem ((c.tc : Thread Cert.AdamXaWo.nD Cert.AdamXaWo.τ).loc Cert.AdamXaWo.main_arg2) = m ((c.tc : Thread Cert.AdamXaWo.nD Cert.AdamXaWo.τ).loc Cert.AdamXaWo.main_arg2)
      ∧ r.2.mem ((c.tc : Thread Cert.AdamXaWo.nD Cert.AdamXaWo.τ).loc Cert.AdamXaWo.main_arg3) = m ((c.tc : Thread Cert.AdamXaWo.nD Cert.AdamXaWo.τ).loc Cert.AdamXaWo.main_arg3)
      ∧ r.2.mem ((c.tc : Thread Cert.AdamXaWo.nD Cert.AdamXaWo.τ).loc Cert.AdamXaWo.main_arg4) = m ((c.tc : Thread Cert.AdamXaWo.nD Cert.AdamXaWo.τ).loc Cert.AdamXaWo.main_arg4))
      ∧ r.2.sem = fun _ => 0)

def quiescent_AdamXaWoIdeal [hAdamXaWoIdeal : Cert.AdamXaWoIdeal.Facts] : Prop :=
  ∀ (m : (ℓ : Loc Cert.AdamXaWoIdeal.nD Cert.AdamXaWoIdeal.τ Cert.AdamXaWoIdeal.sig) → Buf (Elt Ideal) ℓ) (g : Dev Cert.AdamXaWoIdeal.nD → PrngReg), Pre_AdamXaWoIdeal m →
    θ_run (Cert.AdamXaWoIdeal.defs (F := Ideal)) (onTc (τ := Cert.AdamXaWoIdeal.τ) (Cert.AdamXaWoIdeal.main (F := Ideal))) ⟨m, fun _ => 0, g⟩ (fun r => (∀ c : Dev Cert.AdamXaWoIdeal.nD,
      r.2.mem ((c.tc : Thread Cert.AdamXaWoIdeal.nD Cert.AdamXaWoIdeal.τ).loc Cert.AdamXaWoIdeal.main_arg0) = m ((c.tc : Thread Cert.AdamXaWoIdeal.nD Cert.AdamXaWoIdeal.τ).loc Cert.AdamXaWoIdeal.main_arg0)
      ∧ r.2.mem ((c.tc : Thread Cert.AdamXaWoIdeal.nD Cert.AdamXaWoIdeal.τ).loc Cert.AdamXaWoIdeal.main_arg1) = m ((c.tc : Thread Cert.AdamXaWoIdeal.nD Cert.AdamXaWoIdeal.τ).loc Cert.AdamXaWoIdeal.main_arg1)
      ∧ r.2.mem ((c.tc : Thread Cert.AdamXaWoIdeal.nD Cert.AdamXaWoIdeal.τ).loc Cert.AdamXaWoIdeal.main_arg2) = m ((c.tc : Thread Cert.AdamXaWoIdeal.nD Cert.AdamXaWoIdeal.τ).loc Cert.AdamXaWoIdeal.main_arg2)
      ∧ r.2.mem ((c.tc : Thread Cert.AdamXaWoIdeal.nD Cert.AdamXaWoIdeal.τ).loc Cert.AdamXaWoIdeal.main_arg3) = m ((c.tc : Thread Cert.AdamXaWoIdeal.nD Cert.AdamXaWoIdeal.τ).loc Cert.AdamXaWoIdeal.main_arg3)
      ∧ r.2.mem ((c.tc : Thread Cert.AdamXaWoIdeal.nD Cert.AdamXaWoIdeal.τ).loc Cert.AdamXaWoIdeal.main_arg4) = m ((c.tc : Thread Cert.AdamXaWoIdeal.nD Cert.AdamXaWoIdeal.τ).loc Cert.AdamXaWoIdeal.main_arg4))
      ∧ r.2.sem = fun _ => 0)

def quiescent_AdamXaWoSpecIdeal [hAdamXaWoSpecIdeal : Cert.AdamXaWoSpecIdeal.Facts] : Prop :=
  ∀ (m : (ℓ : Loc Cert.AdamXaWoSpecIdeal.nD Cert.AdamXaWoSpecIdeal.τ Cert.AdamXaWoSpecIdeal.sig) → Buf (Elt Ideal) ℓ) (g : Dev Cert.AdamXaWoSpecIdeal.nD → PrngReg), Pre_AdamXaWoSpecIdeal m →
    θ_run (Cert.AdamXaWoSpecIdeal.defs (F := Ideal)) (onTc (τ := Cert.AdamXaWoSpecIdeal.τ) (Cert.AdamXaWoSpecIdeal.main (F := Ideal))) ⟨m, fun _ => 0, g⟩ (fun r => (∀ c : Dev Cert.AdamXaWoSpecIdeal.nD,
      r.2.mem ((c.tc : Thread Cert.AdamXaWoSpecIdeal.nD Cert.AdamXaWoSpecIdeal.τ).loc Cert.AdamXaWoSpecIdeal.main_arg0) = m ((c.tc : Thread Cert.AdamXaWoSpecIdeal.nD Cert.AdamXaWoSpecIdeal.τ).loc Cert.AdamXaWoSpecIdeal.main_arg0)
      ∧ r.2.mem ((c.tc : Thread Cert.AdamXaWoSpecIdeal.nD Cert.AdamXaWoSpecIdeal.τ).loc Cert.AdamXaWoSpecIdeal.main_arg1) = m ((c.tc : Thread Cert.AdamXaWoSpecIdeal.nD Cert.AdamXaWoSpecIdeal.τ).loc Cert.AdamXaWoSpecIdeal.main_arg1)
      ∧ r.2.mem ((c.tc : Thread Cert.AdamXaWoSpecIdeal.nD Cert.AdamXaWoSpecIdeal.τ).loc Cert.AdamXaWoSpecIdeal.main_arg2) = m ((c.tc : Thread Cert.AdamXaWoSpecIdeal.nD Cert.AdamXaWoSpecIdeal.τ).loc Cert.AdamXaWoSpecIdeal.main_arg2)
      ∧ r.2.mem ((c.tc : Thread Cert.AdamXaWoSpecIdeal.nD Cert.AdamXaWoSpecIdeal.τ).loc Cert.AdamXaWoSpecIdeal.main_arg3) = m ((c.tc : Thread Cert.AdamXaWoSpecIdeal.nD Cert.AdamXaWoSpecIdeal.τ).loc Cert.AdamXaWoSpecIdeal.main_arg3)
      ∧ r.2.mem ((c.tc : Thread Cert.AdamXaWoSpecIdeal.nD Cert.AdamXaWoSpecIdeal.τ).loc Cert.AdamXaWoSpecIdeal.main_arg4) = m ((c.tc : Thread Cert.AdamXaWoSpecIdeal.nD Cert.AdamXaWoSpecIdeal.τ).loc Cert.AdamXaWoSpecIdeal.main_arg4))
      ∧ r.2.sem = fun _ => 0)

def quiescent_AdamGateUp [hAdamGateUp : Cert.AdamGateUp.Facts] : Prop :=
  ∀ (m : (ℓ : Loc Cert.AdamGateUp.nD Cert.AdamGateUp.τ Cert.AdamGateUp.sig) → Buf (Elt Bits) ℓ) (g : Dev Cert.AdamGateUp.nD → PrngReg), Pre_AdamGateUp m →
    θ_run (Cert.AdamGateUp.defs (F := Bits)) (onTc (τ := Cert.AdamGateUp.τ) (Cert.AdamGateUp.main (F := Bits))) ⟨m, fun _ => 0, g⟩ (fun r => (∀ c : Dev Cert.AdamGateUp.nD,
      r.2.mem ((c.tc : Thread Cert.AdamGateUp.nD Cert.AdamGateUp.τ).loc Cert.AdamGateUp.main_arg0) = m ((c.tc : Thread Cert.AdamGateUp.nD Cert.AdamGateUp.τ).loc Cert.AdamGateUp.main_arg0)
      ∧ r.2.mem ((c.tc : Thread Cert.AdamGateUp.nD Cert.AdamGateUp.τ).loc Cert.AdamGateUp.main_arg1) = m ((c.tc : Thread Cert.AdamGateUp.nD Cert.AdamGateUp.τ).loc Cert.AdamGateUp.main_arg1)
      ∧ r.2.mem ((c.tc : Thread Cert.AdamGateUp.nD Cert.AdamGateUp.τ).loc Cert.AdamGateUp.main_arg2) = m ((c.tc : Thread Cert.AdamGateUp.nD Cert.AdamGateUp.τ).loc Cert.AdamGateUp.main_arg2)
      ∧ r.2.mem ((c.tc : Thread Cert.AdamGateUp.nD Cert.AdamGateUp.τ).loc Cert.AdamGateUp.main_arg3) = m ((c.tc : Thread Cert.AdamGateUp.nD Cert.AdamGateUp.τ).loc Cert.AdamGateUp.main_arg3)
      ∧ r.2.mem ((c.tc : Thread Cert.AdamGateUp.nD Cert.AdamGateUp.τ).loc Cert.AdamGateUp.main_arg4) = m ((c.tc : Thread Cert.AdamGateUp.nD Cert.AdamGateUp.τ).loc Cert.AdamGateUp.main_arg4))
      ∧ r.2.sem = fun _ => 0)

def quiescent_AdamGateUpIdeal [hAdamGateUpIdeal : Cert.AdamGateUpIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg), Pre_AdamGateUpIdeal m →
    θ_run (Cert.AdamGateUpIdeal.defs (F := Ideal)) (onTc (τ := Cert.AdamGateUpIdeal.τ) (Cert.AdamGateUpIdeal.main (F := Ideal))) ⟨m, fun _ => 0, g⟩ (fun r => (∀ c : Dev Cert.AdamGateUpIdeal.nD,
      r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
      ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
      ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
      ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3)
      ∧ r.2.mem ((c.tc : Thread Cert.AdamGateUpIdeal.nD Cert.AdamGateUpIdeal.τ).loc Cert.AdamGateUpIdeal.main_arg4) = m ((c.tc : Thread Cert.AdamGateUpIdeal.nD Cert.AdamGateUpIdeal.τ).loc Cert.AdamGateUpIdeal.main_arg4))
      ∧ r.2.sem = fun _ => 0)

def quiescent_AdamGateUpSpecIdeal [hAdamGateUpSpecIdeal : Cert.AdamGateUpSpecIdeal.Facts] : Prop :=
  ∀ (m : (ℓ : Loc Cert.AdamGateUpSpecIdeal.nD Cert.AdamGateUpSpecIdeal.τ Cert.AdamGateUpSpecIdeal.sig) → Buf (Elt Ideal) ℓ) (g : Dev Cert.AdamGateUpSpecIdeal.nD → PrngReg), Pre_AdamGateUpSpecIdeal m →
    θ_run (Cert.AdamGateUpSpecIdeal.defs (F := Ideal)) (onTc (τ := Cert.AdamGateUpSpecIdeal.τ) (Cert.AdamGateUpSpecIdeal.main (F := Ideal))) ⟨m, fun _ => 0, g⟩ (fun r => (∀ c : Dev Cert.AdamGateUpSpecIdeal.nD,
      r.2.mem ((c.tc : Thread Cert.AdamGateUpSpecIdeal.nD Cert.AdamGateUpSpecIdeal.τ).loc Cert.AdamGateUpSpecIdeal.main_arg0) = m ((c.tc : Thread Cert.AdamGateUpSpecIdeal.nD Cert.AdamGateUpSpecIdeal.τ).loc Cert.AdamGateUpSpecIdeal.main_arg0)
      ∧ r.2.mem ((c.tc : Thread Cert.AdamGateUpSpecIdeal.nD Cert.AdamGateUpSpecIdeal.τ).loc Cert.AdamGateUpSpecIdeal.main_arg1) = m ((c.tc : Thread Cert.AdamGateUpSpecIdeal.nD Cert.AdamGateUpSpecIdeal.τ).loc Cert.AdamGateUpSpecIdeal.main_arg1)
      ∧ r.2.mem ((c.tc : Thread Cert.AdamGateUpSpecIdeal.nD Cert.AdamGateUpSpecIdeal.τ).loc Cert.AdamGateUpSpecIdeal.main_arg2) = m ((c.tc : Thread Cert.AdamGateUpSpecIdeal.nD Cert.AdamGateUpSpecIdeal.τ).loc Cert.AdamGateUpSpecIdeal.main_arg2)
      ∧ r.2.mem ((c.tc : Thread Cert.AdamGateUpSpecIdeal.nD Cert.AdamGateUpSpecIdeal.τ).loc Cert.AdamGateUpSpecIdeal.main_arg3) = m ((c.tc : Thread Cert.AdamGateUpSpecIdeal.nD Cert.AdamGateUpSpecIdeal.τ).loc Cert.AdamGateUpSpecIdeal.main_arg3)
      ∧ r.2.mem ((c.tc : Thread Cert.AdamGateUpSpecIdeal.nD Cert.AdamGateUpSpecIdeal.τ).loc Cert.AdamGateUpSpecIdeal.main_arg4) = m ((c.tc : Thread Cert.AdamGateUpSpecIdeal.nD Cert.AdamGateUpSpecIdeal.τ).loc Cert.AdamGateUpSpecIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownSpecIdeal [hAdamDownSpecIdeal : Cert.AdamDownSpecIdeal.Facts] : Prop :=
  ∀ (m : (ℓ : Loc Cert.AdamDownSpecIdeal.nD Cert.AdamDownSpecIdeal.τ Cert.AdamDownSpecIdeal.sig) → Buf (Elt Ideal) ℓ) (g : Dev Cert.AdamDownSpecIdeal.nD → PrngReg), Pre_AdamDownSpecIdeal m →
    θ_run (Cert.AdamDownSpecIdeal.defs (F := Ideal)) (onTc (τ := Cert.AdamDownSpecIdeal.τ) (Cert.AdamDownSpecIdeal.main (F := Ideal))) ⟨m, fun _ => 0, g⟩ (fun r => (∀ c : Dev Cert.AdamDownSpecIdeal.nD,
      r.2.mem ((c.tc : Thread Cert.AdamDownSpecIdeal.nD Cert.AdamDownSpecIdeal.τ).loc Cert.AdamDownSpecIdeal.main_arg0) = m ((c.tc : Thread Cert.AdamDownSpecIdeal.nD Cert.AdamDownSpecIdeal.τ).loc Cert.AdamDownSpecIdeal.main_arg0)
      ∧ r.2.mem ((c.tc : Thread Cert.AdamDownSpecIdeal.nD Cert.AdamDownSpecIdeal.τ).loc Cert.AdamDownSpecIdeal.main_arg1) = m ((c.tc : Thread Cert.AdamDownSpecIdeal.nD Cert.AdamDownSpecIdeal.τ).loc Cert.AdamDownSpecIdeal.main_arg1)
      ∧ r.2.mem ((c.tc : Thread Cert.AdamDownSpecIdeal.nD Cert.AdamDownSpecIdeal.τ).loc Cert.AdamDownSpecIdeal.main_arg2) = m ((c.tc : Thread Cert.AdamDownSpecIdeal.nD Cert.AdamDownSpecIdeal.τ).loc Cert.AdamDownSpecIdeal.main_arg2)
      ∧ r.2.mem ((c.tc : Thread Cert.AdamDownSpecIdeal.nD Cert.AdamDownSpecIdeal.τ).loc Cert.AdamDownSpecIdeal.main_arg3) = m ((c.tc : Thread Cert.AdamDownSpecIdeal.nD Cert.AdamDownSpecIdeal.τ).loc Cert.AdamDownSpecIdeal.main_arg3)
      ∧ r.2.mem ((c.tc : Thread Cert.AdamDownSpecIdeal.nD Cert.AdamDownSpecIdeal.τ).loc Cert.AdamDownSpecIdeal.main_arg4) = m ((c.tc : Thread Cert.AdamDownSpecIdeal.nD Cert.AdamDownSpecIdeal.τ).loc Cert.AdamDownSpecIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15))
      ∧ r.2.sem = fun _ => 0)

def quiescent_AdamSmallSpecIdeal [hAdamSmallSpecIdeal : Cert.AdamSmallSpecIdeal.Facts] : Prop :=
  ∀ (m : (ℓ : Loc Cert.AdamSmallSpecIdeal.nD Cert.AdamSmallSpecIdeal.τ Cert.AdamSmallSpecIdeal.sig) → Buf (Elt Ideal) ℓ) (g : Dev Cert.AdamSmallSpecIdeal.nD → PrngReg), Pre_AdamSmallSpecIdeal m →
    θ_run (Cert.AdamSmallSpecIdeal.defs (F := Ideal)) (onTc (τ := Cert.AdamSmallSpecIdeal.τ) (Cert.AdamSmallSpecIdeal.main (F := Ideal))) ⟨m, fun _ => 0, g⟩ (fun r => (∀ c : Dev Cert.AdamSmallSpecIdeal.nD,
      r.2.mem ((c.tc : Thread Cert.AdamSmallSpecIdeal.nD Cert.AdamSmallSpecIdeal.τ).loc Cert.AdamSmallSpecIdeal.main_arg0) = m ((c.tc : Thread Cert.AdamSmallSpecIdeal.nD Cert.AdamSmallSpecIdeal.τ).loc Cert.AdamSmallSpecIdeal.main_arg0)
      ∧ r.2.mem ((c.tc : Thread Cert.AdamSmallSpecIdeal.nD Cert.AdamSmallSpecIdeal.τ).loc Cert.AdamSmallSpecIdeal.main_arg1) = m ((c.tc : Thread Cert.AdamSmallSpecIdeal.nD Cert.AdamSmallSpecIdeal.τ).loc Cert.AdamSmallSpecIdeal.main_arg1)
      ∧ r.2.mem ((c.tc : Thread Cert.AdamSmallSpecIdeal.nD Cert.AdamSmallSpecIdeal.τ).loc Cert.AdamSmallSpecIdeal.main_arg2) = m ((c.tc : Thread Cert.AdamSmallSpecIdeal.nD Cert.AdamSmallSpecIdeal.τ).loc Cert.AdamSmallSpecIdeal.main_arg2)
      ∧ r.2.mem ((c.tc : Thread Cert.AdamSmallSpecIdeal.nD Cert.AdamSmallSpecIdeal.τ).loc Cert.AdamSmallSpecIdeal.main_arg3) = m ((c.tc : Thread Cert.AdamSmallSpecIdeal.nD Cert.AdamSmallSpecIdeal.τ).loc Cert.AdamSmallSpecIdeal.main_arg3)
      ∧ r.2.mem ((c.tc : Thread Cert.AdamSmallSpecIdeal.nD Cert.AdamSmallSpecIdeal.τ).loc Cert.AdamSmallSpecIdeal.main_arg4) = m ((c.tc : Thread Cert.AdamSmallSpecIdeal.nD Cert.AdamSmallSpecIdeal.τ).loc Cert.AdamSmallSpecIdeal.main_arg4)
      ∧ r.2.mem ((c.tc : Thread Cert.AdamSmallSpecIdeal.nD Cert.AdamSmallSpecIdeal.τ).loc Cert.AdamSmallSpecIdeal.main_arg5) = m ((c.tc : Thread Cert.AdamSmallSpecIdeal.nD Cert.AdamSmallSpecIdeal.τ).loc Cert.AdamSmallSpecIdeal.main_arg5)
      ∧ r.2.mem ((c.tc : Thread Cert.AdamSmallSpecIdeal.nD Cert.AdamSmallSpecIdeal.τ).loc Cert.AdamSmallSpecIdeal.main_arg6) = m ((c.tc : Thread Cert.AdamSmallSpecIdeal.nD Cert.AdamSmallSpecIdeal.τ).loc Cert.AdamSmallSpecIdeal.main_arg6)
      ∧ r.2.mem ((c.tc : Thread Cert.AdamSmallSpecIdeal.nD Cert.AdamSmallSpecIdeal.τ).loc Cert.AdamSmallSpecIdeal.main_arg7) = m ((c.tc : Thread Cert.AdamSmallSpecIdeal.nD Cert.AdamSmallSpecIdeal.τ).loc Cert.AdamSmallSpecIdeal.main_arg7)
      ∧ r.2.mem ((c.tc : Thread Cert.AdamSmallSpecIdeal.nD Cert.AdamSmallSpecIdeal.τ).loc Cert.AdamSmallSpecIdeal.main_arg8) = m ((c.tc : Thread Cert.AdamSmallSpecIdeal.nD Cert.AdamSmallSpecIdeal.τ).loc Cert.AdamSmallSpecIdeal.main_arg8)
      ∧ r.2.mem ((c.tc : Thread Cert.AdamSmallSpecIdeal.nD Cert.AdamSmallSpecIdeal.τ).loc Cert.AdamSmallSpecIdeal.main_arg9) = m ((c.tc : Thread Cert.AdamSmallSpecIdeal.nD Cert.AdamSmallSpecIdeal.τ).loc Cert.AdamSmallSpecIdeal.main_arg9)
      ∧ r.2.mem ((c.tc : Thread Cert.AdamSmallSpecIdeal.nD Cert.AdamSmallSpecIdeal.τ).loc Cert.AdamSmallSpecIdeal.main_arg10) = m ((c.tc : Thread Cert.AdamSmallSpecIdeal.nD Cert.AdamSmallSpecIdeal.τ).loc Cert.AdamSmallSpecIdeal.main_arg10)
      ∧ r.2.mem ((c.tc : Thread Cert.AdamSmallSpecIdeal.nD Cert.AdamSmallSpecIdeal.τ).loc Cert.AdamSmallSpecIdeal.main_arg11) = m ((c.tc : Thread Cert.AdamSmallSpecIdeal.nD Cert.AdamSmallSpecIdeal.τ).loc Cert.AdamSmallSpecIdeal.main_arg11)
      ∧ r.2.mem ((c.tc : Thread Cert.AdamSmallSpecIdeal.nD Cert.AdamSmallSpecIdeal.τ).loc Cert.AdamSmallSpecIdeal.main_arg12) = m ((c.tc : Thread Cert.AdamSmallSpecIdeal.nD Cert.AdamSmallSpecIdeal.τ).loc Cert.AdamSmallSpecIdeal.main_arg12)
      ∧ r.2.mem ((c.tc : Thread Cert.AdamSmallSpecIdeal.nD Cert.AdamSmallSpecIdeal.τ).loc Cert.AdamSmallSpecIdeal.main_arg13) = m ((c.tc : Thread Cert.AdamSmallSpecIdeal.nD Cert.AdamSmallSpecIdeal.τ).loc Cert.AdamSmallSpecIdeal.main_arg13)
      ∧ r.2.mem ((c.tc : Thread Cert.AdamSmallSpecIdeal.nD Cert.AdamSmallSpecIdeal.τ).loc Cert.AdamSmallSpecIdeal.main_arg14) = m ((c.tc : Thread Cert.AdamSmallSpecIdeal.nD Cert.AdamSmallSpecIdeal.τ).loc Cert.AdamSmallSpecIdeal.main_arg14)
      ∧ r.2.mem ((c.tc : Thread Cert.AdamSmallSpecIdeal.nD Cert.AdamSmallSpecIdeal.τ).loc Cert.AdamSmallSpecIdeal.main_arg15) = m ((c.tc : Thread Cert.AdamSmallSpecIdeal.nD Cert.AdamSmallSpecIdeal.τ).loc Cert.AdamSmallSpecIdeal.main_arg15))
      ∧ r.2.sem = fun _ => 0)

def quiescent_AdamReplicated [hAdamReplicated : Cert.AdamReplicated.Facts] : Prop :=
  ∀ (m : (ℓ : Loc Cert.AdamReplicated.nD Cert.AdamReplicated.τ Cert.AdamReplicated.sig) → Buf (Elt Bits) ℓ) (g : Dev Cert.AdamReplicated.nD → PrngReg), Pre_AdamReplicated m →
    θ_run (Cert.AdamReplicated.defs (F := Bits)) (onTc (τ := Cert.AdamReplicated.τ) (Cert.AdamReplicated.main (F := Bits))) ⟨m, fun _ => 0, g⟩ (fun r => (∀ c : Dev Cert.AdamReplicated.nD,
      r.2.mem ((c.tc : Thread Cert.AdamReplicated.nD Cert.AdamReplicated.τ).loc Cert.AdamReplicated.main_arg0) = m ((c.tc : Thread Cert.AdamReplicated.nD Cert.AdamReplicated.τ).loc Cert.AdamReplicated.main_arg0)
      ∧ r.2.mem ((c.tc : Thread Cert.AdamReplicated.nD Cert.AdamReplicated.τ).loc Cert.AdamReplicated.main_arg1) = m ((c.tc : Thread Cert.AdamReplicated.nD Cert.AdamReplicated.τ).loc Cert.AdamReplicated.main_arg1)
      ∧ r.2.mem ((c.tc : Thread Cert.AdamReplicated.nD Cert.AdamReplicated.τ).loc Cert.AdamReplicated.main_arg2) = m ((c.tc : Thread Cert.AdamReplicated.nD Cert.AdamReplicated.τ).loc Cert.AdamReplicated.main_arg2)
      ∧ r.2.mem ((c.tc : Thread Cert.AdamReplicated.nD Cert.AdamReplicated.τ).loc Cert.AdamReplicated.main_arg3) = m ((c.tc : Thread Cert.AdamReplicated.nD Cert.AdamReplicated.τ).loc Cert.AdamReplicated.main_arg3)
      ∧ r.2.mem ((c.tc : Thread Cert.AdamReplicated.nD Cert.AdamReplicated.τ).loc Cert.AdamReplicated.main_arg4) = m ((c.tc : Thread Cert.AdamReplicated.nD Cert.AdamReplicated.τ).loc Cert.AdamReplicated.main_arg4)
      ∧ r.2.mem ((c.tc : Thread Cert.AdamReplicated.nD Cert.AdamReplicated.τ).loc Cert.AdamReplicated.main_arg5) = m ((c.tc : Thread Cert.AdamReplicated.nD Cert.AdamReplicated.τ).loc Cert.AdamReplicated.main_arg5)
      ∧ r.2.mem ((c.tc : Thread Cert.AdamReplicated.nD Cert.AdamReplicated.τ).loc Cert.AdamReplicated.main_arg6) = m ((c.tc : Thread Cert.AdamReplicated.nD Cert.AdamReplicated.τ).loc Cert.AdamReplicated.main_arg6)
      ∧ r.2.mem ((c.tc : Thread Cert.AdamReplicated.nD Cert.AdamReplicated.τ).loc Cert.AdamReplicated.main_arg7) = m ((c.tc : Thread Cert.AdamReplicated.nD Cert.AdamReplicated.τ).loc Cert.AdamReplicated.main_arg7)
      ∧ r.2.mem ((c.tc : Thread Cert.AdamReplicated.nD Cert.AdamReplicated.τ).loc Cert.AdamReplicated.main_arg8) = m ((c.tc : Thread Cert.AdamReplicated.nD Cert.AdamReplicated.τ).loc Cert.AdamReplicated.main_arg8)
      ∧ r.2.mem ((c.tc : Thread Cert.AdamReplicated.nD Cert.AdamReplicated.τ).loc Cert.AdamReplicated.main_arg9) = m ((c.tc : Thread Cert.AdamReplicated.nD Cert.AdamReplicated.τ).loc Cert.AdamReplicated.main_arg9)
      ∧ r.2.mem ((c.tc : Thread Cert.AdamReplicated.nD Cert.AdamReplicated.τ).loc Cert.AdamReplicated.main_arg10) = m ((c.tc : Thread Cert.AdamReplicated.nD Cert.AdamReplicated.τ).loc Cert.AdamReplicated.main_arg10)
      ∧ r.2.mem ((c.tc : Thread Cert.AdamReplicated.nD Cert.AdamReplicated.τ).loc Cert.AdamReplicated.main_arg11) = m ((c.tc : Thread Cert.AdamReplicated.nD Cert.AdamReplicated.τ).loc Cert.AdamReplicated.main_arg11)
      ∧ r.2.mem ((c.tc : Thread Cert.AdamReplicated.nD Cert.AdamReplicated.τ).loc Cert.AdamReplicated.main_arg12) = m ((c.tc : Thread Cert.AdamReplicated.nD Cert.AdamReplicated.τ).loc Cert.AdamReplicated.main_arg12)
      ∧ r.2.mem ((c.tc : Thread Cert.AdamReplicated.nD Cert.AdamReplicated.τ).loc Cert.AdamReplicated.main_arg13) = m ((c.tc : Thread Cert.AdamReplicated.nD Cert.AdamReplicated.τ).loc Cert.AdamReplicated.main_arg13)
      ∧ r.2.mem ((c.tc : Thread Cert.AdamReplicated.nD Cert.AdamReplicated.τ).loc Cert.AdamReplicated.main_arg14) = m ((c.tc : Thread Cert.AdamReplicated.nD Cert.AdamReplicated.τ).loc Cert.AdamReplicated.main_arg14)
      ∧ r.2.mem ((c.tc : Thread Cert.AdamReplicated.nD Cert.AdamReplicated.τ).loc Cert.AdamReplicated.main_arg15) = m ((c.tc : Thread Cert.AdamReplicated.nD Cert.AdamReplicated.τ).loc Cert.AdamReplicated.main_arg15)
      ∧ r.2.mem ((c.tc : Thread Cert.AdamReplicated.nD Cert.AdamReplicated.τ).loc Cert.AdamReplicated.main_arg16) = m ((c.tc : Thread Cert.AdamReplicated.nD Cert.AdamReplicated.τ).loc Cert.AdamReplicated.main_arg16)
      ∧ r.2.mem ((c.tc : Thread Cert.AdamReplicated.nD Cert.AdamReplicated.τ).loc Cert.AdamReplicated.main_arg17) = m ((c.tc : Thread Cert.AdamReplicated.nD Cert.AdamReplicated.τ).loc Cert.AdamReplicated.main_arg17)
      ∧ r.2.mem ((c.tc : Thread Cert.AdamReplicated.nD Cert.AdamReplicated.τ).loc Cert.AdamReplicated.main_arg18) = m ((c.tc : Thread Cert.AdamReplicated.nD Cert.AdamReplicated.τ).loc Cert.AdamReplicated.main_arg18)
      ∧ r.2.mem ((c.tc : Thread Cert.AdamReplicated.nD Cert.AdamReplicated.τ).loc Cert.AdamReplicated.main_arg19) = m ((c.tc : Thread Cert.AdamReplicated.nD Cert.AdamReplicated.τ).loc Cert.AdamReplicated.main_arg19)
      ∧ r.2.mem ((c.tc : Thread Cert.AdamReplicated.nD Cert.AdamReplicated.τ).loc Cert.AdamReplicated.main_arg20) = m ((c.tc : Thread Cert.AdamReplicated.nD Cert.AdamReplicated.τ).loc Cert.AdamReplicated.main_arg20)
      ∧ r.2.mem ((c.tc : Thread Cert.AdamReplicated.nD Cert.AdamReplicated.τ).loc Cert.AdamReplicated.main_arg21) = m ((c.tc : Thread Cert.AdamReplicated.nD Cert.AdamReplicated.τ).loc Cert.AdamReplicated.main_arg21)
      ∧ r.2.mem ((c.tc : Thread Cert.AdamReplicated.nD Cert.AdamReplicated.τ).loc Cert.AdamReplicated.main_arg22) = m ((c.tc : Thread Cert.AdamReplicated.nD Cert.AdamReplicated.τ).loc Cert.AdamReplicated.main_arg22)
      ∧ r.2.mem ((c.tc : Thread Cert.AdamReplicated.nD Cert.AdamReplicated.τ).loc Cert.AdamReplicated.main_arg23) = m ((c.tc : Thread Cert.AdamReplicated.nD Cert.AdamReplicated.τ).loc Cert.AdamReplicated.main_arg23)
      ∧ r.2.mem ((c.tc : Thread Cert.AdamReplicated.nD Cert.AdamReplicated.τ).loc Cert.AdamReplicated.main_arg24) = m ((c.tc : Thread Cert.AdamReplicated.nD Cert.AdamReplicated.τ).loc Cert.AdamReplicated.main_arg24)
      ∧ r.2.mem ((c.tc : Thread Cert.AdamReplicated.nD Cert.AdamReplicated.τ).loc Cert.AdamReplicated.main_arg25) = m ((c.tc : Thread Cert.AdamReplicated.nD Cert.AdamReplicated.τ).loc Cert.AdamReplicated.main_arg25)
      ∧ r.2.mem ((c.tc : Thread Cert.AdamReplicated.nD Cert.AdamReplicated.τ).loc Cert.AdamReplicated.main_arg26) = m ((c.tc : Thread Cert.AdamReplicated.nD Cert.AdamReplicated.τ).loc Cert.AdamReplicated.main_arg26)
      ∧ r.2.mem ((c.tc : Thread Cert.AdamReplicated.nD Cert.AdamReplicated.τ).loc Cert.AdamReplicated.main_arg27) = m ((c.tc : Thread Cert.AdamReplicated.nD Cert.AdamReplicated.τ).loc Cert.AdamReplicated.main_arg27))
      ∧ r.2.sem = fun _ => 0)

def quiescent_AdamReplicatedIdeal [hAdamReplicatedIdeal : Cert.AdamReplicatedIdeal.Facts] : Prop :=
  ∀ (m : (ℓ : Loc Cert.AdamReplicatedIdeal.nD Cert.AdamReplicatedIdeal.τ Cert.AdamReplicatedIdeal.sig) → Buf (Elt Ideal) ℓ) (g : Dev Cert.AdamReplicatedIdeal.nD → PrngReg), Pre_AdamReplicatedIdeal m →
    θ_run (Cert.AdamReplicatedIdeal.defs (F := Ideal)) (onTc (τ := Cert.AdamReplicatedIdeal.τ) (Cert.AdamReplicatedIdeal.main (F := Ideal))) ⟨m, fun _ => 0, g⟩ (fun r => (∀ c : Dev Cert.AdamReplicatedIdeal.nD,
      r.2.mem ((c.tc : Thread Cert.AdamReplicatedIdeal.nD Cert.AdamReplicatedIdeal.τ).loc Cert.AdamReplicatedIdeal.main_arg0) = m ((c.tc : Thread Cert.AdamReplicatedIdeal.nD Cert.AdamReplicatedIdeal.τ).loc Cert.AdamReplicatedIdeal.main_arg0)
      ∧ r.2.mem ((c.tc : Thread Cert.AdamReplicatedIdeal.nD Cert.AdamReplicatedIdeal.τ).loc Cert.AdamReplicatedIdeal.main_arg1) = m ((c.tc : Thread Cert.AdamReplicatedIdeal.nD Cert.AdamReplicatedIdeal.τ).loc Cert.AdamReplicatedIdeal.main_arg1)
      ∧ r.2.mem ((c.tc : Thread Cert.AdamReplicatedIdeal.nD Cert.AdamReplicatedIdeal.τ).loc Cert.AdamReplicatedIdeal.main_arg2) = m ((c.tc : Thread Cert.AdamReplicatedIdeal.nD Cert.AdamReplicatedIdeal.τ).loc Cert.AdamReplicatedIdeal.main_arg2)
      ∧ r.2.mem ((c.tc : Thread Cert.AdamReplicatedIdeal.nD Cert.AdamReplicatedIdeal.τ).loc Cert.AdamReplicatedIdeal.main_arg3) = m ((c.tc : Thread Cert.AdamReplicatedIdeal.nD Cert.AdamReplicatedIdeal.τ).loc Cert.AdamReplicatedIdeal.main_arg3)
      ∧ r.2.mem ((c.tc : Thread Cert.AdamReplicatedIdeal.nD Cert.AdamReplicatedIdeal.τ).loc Cert.AdamReplicatedIdeal.main_arg4) = m ((c.tc : Thread Cert.AdamReplicatedIdeal.nD Cert.AdamReplicatedIdeal.τ).loc Cert.AdamReplicatedIdeal.main_arg4)
      ∧ r.2.mem ((c.tc : Thread Cert.AdamReplicatedIdeal.nD Cert.AdamReplicatedIdeal.τ).loc Cert.AdamReplicatedIdeal.main_arg5) = m ((c.tc : Thread Cert.AdamReplicatedIdeal.nD Cert.AdamReplicatedIdeal.τ).loc Cert.AdamReplicatedIdeal.main_arg5)
      ∧ r.2.mem ((c.tc : Thread Cert.AdamReplicatedIdeal.nD Cert.AdamReplicatedIdeal.τ).loc Cert.AdamReplicatedIdeal.main_arg6) = m ((c.tc : Thread Cert.AdamReplicatedIdeal.nD Cert.AdamReplicatedIdeal.τ).loc Cert.AdamReplicatedIdeal.main_arg6)
      ∧ r.2.mem ((c.tc : Thread Cert.AdamReplicatedIdeal.nD Cert.AdamReplicatedIdeal.τ).loc Cert.AdamReplicatedIdeal.main_arg7) = m ((c.tc : Thread Cert.AdamReplicatedIdeal.nD Cert.AdamReplicatedIdeal.τ).loc Cert.AdamReplicatedIdeal.main_arg7)
      ∧ r.2.mem ((c.tc : Thread Cert.AdamReplicatedIdeal.nD Cert.AdamReplicatedIdeal.τ).loc Cert.AdamReplicatedIdeal.main_arg8) = m ((c.tc : Thread Cert.AdamReplicatedIdeal.nD Cert.AdamReplicatedIdeal.τ).loc Cert.AdamReplicatedIdeal.main_arg8)
      ∧ r.2.mem ((c.tc : Thread Cert.AdamReplicatedIdeal.nD Cert.AdamReplicatedIdeal.τ).loc Cert.AdamReplicatedIdeal.main_arg9) = m ((c.tc : Thread Cert.AdamReplicatedIdeal.nD Cert.AdamReplicatedIdeal.τ).loc Cert.AdamReplicatedIdeal.main_arg9)
      ∧ r.2.mem ((c.tc : Thread Cert.AdamReplicatedIdeal.nD Cert.AdamReplicatedIdeal.τ).loc Cert.AdamReplicatedIdeal.main_arg10) = m ((c.tc : Thread Cert.AdamReplicatedIdeal.nD Cert.AdamReplicatedIdeal.τ).loc Cert.AdamReplicatedIdeal.main_arg10)
      ∧ r.2.mem ((c.tc : Thread Cert.AdamReplicatedIdeal.nD Cert.AdamReplicatedIdeal.τ).loc Cert.AdamReplicatedIdeal.main_arg11) = m ((c.tc : Thread Cert.AdamReplicatedIdeal.nD Cert.AdamReplicatedIdeal.τ).loc Cert.AdamReplicatedIdeal.main_arg11)
      ∧ r.2.mem ((c.tc : Thread Cert.AdamReplicatedIdeal.nD Cert.AdamReplicatedIdeal.τ).loc Cert.AdamReplicatedIdeal.main_arg12) = m ((c.tc : Thread Cert.AdamReplicatedIdeal.nD Cert.AdamReplicatedIdeal.τ).loc Cert.AdamReplicatedIdeal.main_arg12)
      ∧ r.2.mem ((c.tc : Thread Cert.AdamReplicatedIdeal.nD Cert.AdamReplicatedIdeal.τ).loc Cert.AdamReplicatedIdeal.main_arg13) = m ((c.tc : Thread Cert.AdamReplicatedIdeal.nD Cert.AdamReplicatedIdeal.τ).loc Cert.AdamReplicatedIdeal.main_arg13)
      ∧ r.2.mem ((c.tc : Thread Cert.AdamReplicatedIdeal.nD Cert.AdamReplicatedIdeal.τ).loc Cert.AdamReplicatedIdeal.main_arg14) = m ((c.tc : Thread Cert.AdamReplicatedIdeal.nD Cert.AdamReplicatedIdeal.τ).loc Cert.AdamReplicatedIdeal.main_arg14)
      ∧ r.2.mem ((c.tc : Thread Cert.AdamReplicatedIdeal.nD Cert.AdamReplicatedIdeal.τ).loc Cert.AdamReplicatedIdeal.main_arg15) = m ((c.tc : Thread Cert.AdamReplicatedIdeal.nD Cert.AdamReplicatedIdeal.τ).loc Cert.AdamReplicatedIdeal.main_arg15)
      ∧ r.2.mem ((c.tc : Thread Cert.AdamReplicatedIdeal.nD Cert.AdamReplicatedIdeal.τ).loc Cert.AdamReplicatedIdeal.main_arg16) = m ((c.tc : Thread Cert.AdamReplicatedIdeal.nD Cert.AdamReplicatedIdeal.τ).loc Cert.AdamReplicatedIdeal.main_arg16)
      ∧ r.2.mem ((c.tc : Thread Cert.AdamReplicatedIdeal.nD Cert.AdamReplicatedIdeal.τ).loc Cert.AdamReplicatedIdeal.main_arg17) = m ((c.tc : Thread Cert.AdamReplicatedIdeal.nD Cert.AdamReplicatedIdeal.τ).loc Cert.AdamReplicatedIdeal.main_arg17)
      ∧ r.2.mem ((c.tc : Thread Cert.AdamReplicatedIdeal.nD Cert.AdamReplicatedIdeal.τ).loc Cert.AdamReplicatedIdeal.main_arg18) = m ((c.tc : Thread Cert.AdamReplicatedIdeal.nD Cert.AdamReplicatedIdeal.τ).loc Cert.AdamReplicatedIdeal.main_arg18)
      ∧ r.2.mem ((c.tc : Thread Cert.AdamReplicatedIdeal.nD Cert.AdamReplicatedIdeal.τ).loc Cert.AdamReplicatedIdeal.main_arg19) = m ((c.tc : Thread Cert.AdamReplicatedIdeal.nD Cert.AdamReplicatedIdeal.τ).loc Cert.AdamReplicatedIdeal.main_arg19)
      ∧ r.2.mem ((c.tc : Thread Cert.AdamReplicatedIdeal.nD Cert.AdamReplicatedIdeal.τ).loc Cert.AdamReplicatedIdeal.main_arg20) = m ((c.tc : Thread Cert.AdamReplicatedIdeal.nD Cert.AdamReplicatedIdeal.τ).loc Cert.AdamReplicatedIdeal.main_arg20)
      ∧ r.2.mem ((c.tc : Thread Cert.AdamReplicatedIdeal.nD Cert.AdamReplicatedIdeal.τ).loc Cert.AdamReplicatedIdeal.main_arg21) = m ((c.tc : Thread Cert.AdamReplicatedIdeal.nD Cert.AdamReplicatedIdeal.τ).loc Cert.AdamReplicatedIdeal.main_arg21)
      ∧ r.2.mem ((c.tc : Thread Cert.AdamReplicatedIdeal.nD Cert.AdamReplicatedIdeal.τ).loc Cert.AdamReplicatedIdeal.main_arg22) = m ((c.tc : Thread Cert.AdamReplicatedIdeal.nD Cert.AdamReplicatedIdeal.τ).loc Cert.AdamReplicatedIdeal.main_arg22)
      ∧ r.2.mem ((c.tc : Thread Cert.AdamReplicatedIdeal.nD Cert.AdamReplicatedIdeal.τ).loc Cert.AdamReplicatedIdeal.main_arg23) = m ((c.tc : Thread Cert.AdamReplicatedIdeal.nD Cert.AdamReplicatedIdeal.τ).loc Cert.AdamReplicatedIdeal.main_arg23)
      ∧ r.2.mem ((c.tc : Thread Cert.AdamReplicatedIdeal.nD Cert.AdamReplicatedIdeal.τ).loc Cert.AdamReplicatedIdeal.main_arg24) = m ((c.tc : Thread Cert.AdamReplicatedIdeal.nD Cert.AdamReplicatedIdeal.τ).loc Cert.AdamReplicatedIdeal.main_arg24)
      ∧ r.2.mem ((c.tc : Thread Cert.AdamReplicatedIdeal.nD Cert.AdamReplicatedIdeal.τ).loc Cert.AdamReplicatedIdeal.main_arg25) = m ((c.tc : Thread Cert.AdamReplicatedIdeal.nD Cert.AdamReplicatedIdeal.τ).loc Cert.AdamReplicatedIdeal.main_arg25)
      ∧ r.2.mem ((c.tc : Thread Cert.AdamReplicatedIdeal.nD Cert.AdamReplicatedIdeal.τ).loc Cert.AdamReplicatedIdeal.main_arg26) = m ((c.tc : Thread Cert.AdamReplicatedIdeal.nD Cert.AdamReplicatedIdeal.τ).loc Cert.AdamReplicatedIdeal.main_arg26)
      ∧ r.2.mem ((c.tc : Thread Cert.AdamReplicatedIdeal.nD Cert.AdamReplicatedIdeal.τ).loc Cert.AdamReplicatedIdeal.main_arg27) = m ((c.tc : Thread Cert.AdamReplicatedIdeal.nD Cert.AdamReplicatedIdeal.τ).loc Cert.AdamReplicatedIdeal.main_arg27))
      ∧ r.2.sem = fun _ => 0)

def quiescent_AdamReplicatedSpecIdeal [hAdamReplicatedSpecIdeal : Cert.AdamReplicatedSpecIdeal.Facts] : Prop :=
  ∀ (m : (ℓ : Loc Cert.AdamReplicatedSpecIdeal.nD Cert.AdamReplicatedSpecIdeal.τ Cert.AdamReplicatedSpecIdeal.sig) → Buf (Elt Ideal) ℓ) (g : Dev Cert.AdamReplicatedSpecIdeal.nD → PrngReg), Pre_AdamReplicatedSpecIdeal m →
    θ_run (Cert.AdamReplicatedSpecIdeal.defs (F := Ideal)) (onTc (τ := Cert.AdamReplicatedSpecIdeal.τ) (Cert.AdamReplicatedSpecIdeal.main (F := Ideal))) ⟨m, fun _ => 0, g⟩ (fun r => (∀ c : Dev Cert.AdamReplicatedSpecIdeal.nD,
      r.2.mem ((c.tc : Thread Cert.AdamReplicatedSpecIdeal.nD Cert.AdamReplicatedSpecIdeal.τ).loc Cert.AdamReplicatedSpecIdeal.main_arg0) = m ((c.tc : Thread Cert.AdamReplicatedSpecIdeal.nD Cert.AdamReplicatedSpecIdeal.τ).loc Cert.AdamReplicatedSpecIdeal.main_arg0)
      ∧ r.2.mem ((c.tc : Thread Cert.AdamReplicatedSpecIdeal.nD Cert.AdamReplicatedSpecIdeal.τ).loc Cert.AdamReplicatedSpecIdeal.main_arg1) = m ((c.tc : Thread Cert.AdamReplicatedSpecIdeal.nD Cert.AdamReplicatedSpecIdeal.τ).loc Cert.AdamReplicatedSpecIdeal.main_arg1)
      ∧ r.2.mem ((c.tc : Thread Cert.AdamReplicatedSpecIdeal.nD Cert.AdamReplicatedSpecIdeal.τ).loc Cert.AdamReplicatedSpecIdeal.main_arg2) = m ((c.tc : Thread Cert.AdamReplicatedSpecIdeal.nD Cert.AdamReplicatedSpecIdeal.τ).loc Cert.AdamReplicatedSpecIdeal.main_arg2)
      ∧ r.2.mem ((c.tc : Thread Cert.AdamReplicatedSpecIdeal.nD Cert.AdamReplicatedSpecIdeal.τ).loc Cert.AdamReplicatedSpecIdeal.main_arg3) = m ((c.tc : Thread Cert.AdamReplicatedSpecIdeal.nD Cert.AdamReplicatedSpecIdeal.τ).loc Cert.AdamReplicatedSpecIdeal.main_arg3)
      ∧ r.2.mem ((c.tc : Thread Cert.AdamReplicatedSpecIdeal.nD Cert.AdamReplicatedSpecIdeal.τ).loc Cert.AdamReplicatedSpecIdeal.main_arg4) = m ((c.tc : Thread Cert.AdamReplicatedSpecIdeal.nD Cert.AdamReplicatedSpecIdeal.τ).loc Cert.AdamReplicatedSpecIdeal.main_arg4)
      ∧ r.2.mem ((c.tc : Thread Cert.AdamReplicatedSpecIdeal.nD Cert.AdamReplicatedSpecIdeal.τ).loc Cert.AdamReplicatedSpecIdeal.main_arg5) = m ((c.tc : Thread Cert.AdamReplicatedSpecIdeal.nD Cert.AdamReplicatedSpecIdeal.τ).loc Cert.AdamReplicatedSpecIdeal.main_arg5)
      ∧ r.2.mem ((c.tc : Thread Cert.AdamReplicatedSpecIdeal.nD Cert.AdamReplicatedSpecIdeal.τ).loc Cert.AdamReplicatedSpecIdeal.main_arg6) = m ((c.tc : Thread Cert.AdamReplicatedSpecIdeal.nD Cert.AdamReplicatedSpecIdeal.τ).loc Cert.AdamReplicatedSpecIdeal.main_arg6)
      ∧ r.2.mem ((c.tc : Thread Cert.AdamReplicatedSpecIdeal.nD Cert.AdamReplicatedSpecIdeal.τ).loc Cert.AdamReplicatedSpecIdeal.main_arg7) = m ((c.tc : Thread Cert.AdamReplicatedSpecIdeal.nD Cert.AdamReplicatedSpecIdeal.τ).loc Cert.AdamReplicatedSpecIdeal.main_arg7)
      ∧ r.2.mem ((c.tc : Thread Cert.AdamReplicatedSpecIdeal.nD Cert.AdamReplicatedSpecIdeal.τ).loc Cert.AdamReplicatedSpecIdeal.main_arg8) = m ((c.tc : Thread Cert.AdamReplicatedSpecIdeal.nD Cert.AdamReplicatedSpecIdeal.τ).loc Cert.AdamReplicatedSpecIdeal.main_arg8)
      ∧ r.2.mem ((c.tc : Thread Cert.AdamReplicatedSpecIdeal.nD Cert.AdamReplicatedSpecIdeal.τ).loc Cert.AdamReplicatedSpecIdeal.main_arg9) = m ((c.tc : Thread Cert.AdamReplicatedSpecIdeal.nD Cert.AdamReplicatedSpecIdeal.τ).loc Cert.AdamReplicatedSpecIdeal.main_arg9)
      ∧ r.2.mem ((c.tc : Thread Cert.AdamReplicatedSpecIdeal.nD Cert.AdamReplicatedSpecIdeal.τ).loc Cert.AdamReplicatedSpecIdeal.main_arg10) = m ((c.tc : Thread Cert.AdamReplicatedSpecIdeal.nD Cert.AdamReplicatedSpecIdeal.τ).loc Cert.AdamReplicatedSpecIdeal.main_arg10)
      ∧ r.2.mem ((c.tc : Thread Cert.AdamReplicatedSpecIdeal.nD Cert.AdamReplicatedSpecIdeal.τ).loc Cert.AdamReplicatedSpecIdeal.main_arg11) = m ((c.tc : Thread Cert.AdamReplicatedSpecIdeal.nD Cert.AdamReplicatedSpecIdeal.τ).loc Cert.AdamReplicatedSpecIdeal.main_arg11)
      ∧ r.2.mem ((c.tc : Thread Cert.AdamReplicatedSpecIdeal.nD Cert.AdamReplicatedSpecIdeal.τ).loc Cert.AdamReplicatedSpecIdeal.main_arg12) = m ((c.tc : Thread Cert.AdamReplicatedSpecIdeal.nD Cert.AdamReplicatedSpecIdeal.τ).loc Cert.AdamReplicatedSpecIdeal.main_arg12)
      ∧ r.2.mem ((c.tc : Thread Cert.AdamReplicatedSpecIdeal.nD Cert.AdamReplicatedSpecIdeal.τ).loc Cert.AdamReplicatedSpecIdeal.main_arg13) = m ((c.tc : Thread Cert.AdamReplicatedSpecIdeal.nD Cert.AdamReplicatedSpecIdeal.τ).loc Cert.AdamReplicatedSpecIdeal.main_arg13)
      ∧ r.2.mem ((c.tc : Thread Cert.AdamReplicatedSpecIdeal.nD Cert.AdamReplicatedSpecIdeal.τ).loc Cert.AdamReplicatedSpecIdeal.main_arg14) = m ((c.tc : Thread Cert.AdamReplicatedSpecIdeal.nD Cert.AdamReplicatedSpecIdeal.τ).loc Cert.AdamReplicatedSpecIdeal.main_arg14)
      ∧ r.2.mem ((c.tc : Thread Cert.AdamReplicatedSpecIdeal.nD Cert.AdamReplicatedSpecIdeal.τ).loc Cert.AdamReplicatedSpecIdeal.main_arg15) = m ((c.tc : Thread Cert.AdamReplicatedSpecIdeal.nD Cert.AdamReplicatedSpecIdeal.τ).loc Cert.AdamReplicatedSpecIdeal.main_arg15)
      ∧ r.2.mem ((c.tc : Thread Cert.AdamReplicatedSpecIdeal.nD Cert.AdamReplicatedSpecIdeal.τ).loc Cert.AdamReplicatedSpecIdeal.main_arg16) = m ((c.tc : Thread Cert.AdamReplicatedSpecIdeal.nD Cert.AdamReplicatedSpecIdeal.τ).loc Cert.AdamReplicatedSpecIdeal.main_arg16)
      ∧ r.2.mem ((c.tc : Thread Cert.AdamReplicatedSpecIdeal.nD Cert.AdamReplicatedSpecIdeal.τ).loc Cert.AdamReplicatedSpecIdeal.main_arg17) = m ((c.tc : Thread Cert.AdamReplicatedSpecIdeal.nD Cert.AdamReplicatedSpecIdeal.τ).loc Cert.AdamReplicatedSpecIdeal.main_arg17)
      ∧ r.2.mem ((c.tc : Thread Cert.AdamReplicatedSpecIdeal.nD Cert.AdamReplicatedSpecIdeal.τ).loc Cert.AdamReplicatedSpecIdeal.main_arg18) = m ((c.tc : Thread Cert.AdamReplicatedSpecIdeal.nD Cert.AdamReplicatedSpecIdeal.τ).loc Cert.AdamReplicatedSpecIdeal.main_arg18)
      ∧ r.2.mem ((c.tc : Thread Cert.AdamReplicatedSpecIdeal.nD Cert.AdamReplicatedSpecIdeal.τ).loc Cert.AdamReplicatedSpecIdeal.main_arg19) = m ((c.tc : Thread Cert.AdamReplicatedSpecIdeal.nD Cert.AdamReplicatedSpecIdeal.τ).loc Cert.AdamReplicatedSpecIdeal.main_arg19)
      ∧ r.2.mem ((c.tc : Thread Cert.AdamReplicatedSpecIdeal.nD Cert.AdamReplicatedSpecIdeal.τ).loc Cert.AdamReplicatedSpecIdeal.main_arg20) = m ((c.tc : Thread Cert.AdamReplicatedSpecIdeal.nD Cert.AdamReplicatedSpecIdeal.τ).loc Cert.AdamReplicatedSpecIdeal.main_arg20)
      ∧ r.2.mem ((c.tc : Thread Cert.AdamReplicatedSpecIdeal.nD Cert.AdamReplicatedSpecIdeal.τ).loc Cert.AdamReplicatedSpecIdeal.main_arg21) = m ((c.tc : Thread Cert.AdamReplicatedSpecIdeal.nD Cert.AdamReplicatedSpecIdeal.τ).loc Cert.AdamReplicatedSpecIdeal.main_arg21)
      ∧ r.2.mem ((c.tc : Thread Cert.AdamReplicatedSpecIdeal.nD Cert.AdamReplicatedSpecIdeal.τ).loc Cert.AdamReplicatedSpecIdeal.main_arg22) = m ((c.tc : Thread Cert.AdamReplicatedSpecIdeal.nD Cert.AdamReplicatedSpecIdeal.τ).loc Cert.AdamReplicatedSpecIdeal.main_arg22)
      ∧ r.2.mem ((c.tc : Thread Cert.AdamReplicatedSpecIdeal.nD Cert.AdamReplicatedSpecIdeal.τ).loc Cert.AdamReplicatedSpecIdeal.main_arg23) = m ((c.tc : Thread Cert.AdamReplicatedSpecIdeal.nD Cert.AdamReplicatedSpecIdeal.τ).loc Cert.AdamReplicatedSpecIdeal.main_arg23)
      ∧ r.2.mem ((c.tc : Thread Cert.AdamReplicatedSpecIdeal.nD Cert.AdamReplicatedSpecIdeal.τ).loc Cert.AdamReplicatedSpecIdeal.main_arg24) = m ((c.tc : Thread Cert.AdamReplicatedSpecIdeal.nD Cert.AdamReplicatedSpecIdeal.τ).loc Cert.AdamReplicatedSpecIdeal.main_arg24)
      ∧ r.2.mem ((c.tc : Thread Cert.AdamReplicatedSpecIdeal.nD Cert.AdamReplicatedSpecIdeal.τ).loc Cert.AdamReplicatedSpecIdeal.main_arg25) = m ((c.tc : Thread Cert.AdamReplicatedSpecIdeal.nD Cert.AdamReplicatedSpecIdeal.τ).loc Cert.AdamReplicatedSpecIdeal.main_arg25)
      ∧ r.2.mem ((c.tc : Thread Cert.AdamReplicatedSpecIdeal.nD Cert.AdamReplicatedSpecIdeal.τ).loc Cert.AdamReplicatedSpecIdeal.main_arg26) = m ((c.tc : Thread Cert.AdamReplicatedSpecIdeal.nD Cert.AdamReplicatedSpecIdeal.τ).loc Cert.AdamReplicatedSpecIdeal.main_arg26)
      ∧ r.2.mem ((c.tc : Thread Cert.AdamReplicatedSpecIdeal.nD Cert.AdamReplicatedSpecIdeal.τ).loc Cert.AdamReplicatedSpecIdeal.main_arg27) = m ((c.tc : Thread Cert.AdamReplicatedSpecIdeal.nD Cert.AdamReplicatedSpecIdeal.τ).loc Cert.AdamReplicatedSpecIdeal.main_arg27))
      ∧ r.2.sem = fun _ => 0)

def preserves_Kernel_KernelIdeal : Prop :=
  True

def algebraic_KernelIdeal_ReferenceIdeal_pre_finite_q_kv [hKernelIdeal : Cert.KernelIdeal.Facts] [hReferenceIdeal : Cert.ReferenceIdeal.Facts] [hPre_finite_q_kv : Cert.Pre_finite_q_kv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_kv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GateUp_GateUpIdeal : Prop :=
  True

def algebraic_GateUpIdeal_GateUpSpecIdeal [hGateUpIdeal : Cert.GateUpIdeal.Facts] [hGateUpSpecIdeal : Cert.GateUpSpecIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpSpecIdeal.nD Cert.GateUpSpecIdeal.τ Cert.GateUpSpecIdeal.sig) → Buf (Elt Ideal) ℓ) (g' : Dev Cert.GateUpSpecIdeal.nD → PrngReg), Pre_GateUpIdeal m →
    (∀ c : Dev Cert.GateUpIdeal.nD,
      m' ((c.tc : Thread Cert.GateUpSpecIdeal.nD Cert.GateUpSpecIdeal.τ).loc Cert.GateUpSpecIdeal.main_arg0) = m ((c.tc : Thread Cert.GateUpIdeal.nD Cert.GateUpIdeal.τ).loc Cert.GateUpIdeal.main_arg0)
      ∧ m' ((c.tc : Thread Cert.GateUpSpecIdeal.nD Cert.GateUpSpecIdeal.τ).loc Cert.GateUpSpecIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v3_0)) (v1 : (c : Dev Cert.GateUpIdeal.nD) → Buf (Elt Ideal) ((c.tc : Thread Cert.GateUpIdeal.nD Cert.GateUpIdeal.τ).loc Cert.GateUpIdeal.main_v3_1)) (v2 : (c : Dev Cert.GateUpIdeal.nD) → Buf (Elt Ideal) ((c.tc : Thread Cert.GateUpIdeal.nD Cert.GateUpIdeal.τ).loc Cert.GateUpIdeal.main_v3_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3_0) = v0 c
          ∧ r.2.mem ((c.tc : Thread Cert.GateUpIdeal.nD Cert.GateUpIdeal.τ).loc Cert.GateUpIdeal.main_v3_1) = v1 c
          ∧ r.2.mem ((c.tc : Thread Cert.GateUpIdeal.nD Cert.GateUpIdeal.τ).loc Cert.GateUpIdeal.main_v3_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpSpecIdeal.defs (F := Ideal)) (onTc (τ := Cert.GateUpSpecIdeal.τ) (Cert.GateUpSpecIdeal.main (F := Ideal))) ⟨m', fun _ => 0, g'⟩ (fun r => ∀ c : Dev Cert.GateUpSpecIdeal.nD,
          r.2.mem ((c.tc : Thread Cert.GateUpSpecIdeal.nD Cert.GateUpSpecIdeal.τ).loc Cert.GateUpSpecIdeal.main_v1) = v0 c
          ∧ r.2.mem ((c.tc : Thread Cert.GateUpSpecIdeal.nD Cert.GateUpSpecIdeal.τ).loc Cert.GateUpSpecIdeal.main_v2) = v1 c
          ∧ r.2.mem ((c.tc : Thread Cert.GateUpSpecIdeal.nD Cert.GateUpSpecIdeal.τ).loc Cert.GateUpSpecIdeal.main_v5) = v2 c
          ∧ r.2.mem ((c.tc : Thread Cert.GateUpSpecIdeal.nD Cert.GateUpSpecIdeal.τ).loc Cert.GateUpSpecIdeal.main_arg0) = m' ((c.tc : Thread Cert.GateUpSpecIdeal.nD Cert.GateUpSpecIdeal.τ).loc Cert.GateUpSpecIdeal.main_arg0)
          ∧ r.2.mem ((c.tc : Thread Cert.GateUpSpecIdeal.nD Cert.GateUpSpecIdeal.τ).loc Cert.GateUpSpecIdeal.main_arg1) = m' ((c.tc : Thread Cert.GateUpSpecIdeal.nD Cert.GateUpSpecIdeal.τ).loc Cert.GateUpSpecIdeal.main_arg1))

def preserves_Down_DownIdeal : Prop :=
  True

def algebraic_DownIdeal_DownSpecIdeal [hDownIdeal : Cert.DownIdeal.Facts] [hDownSpecIdeal : Cert.DownSpecIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownSpecIdeal.nD Cert.DownSpecIdeal.τ Cert.DownSpecIdeal.sig) → Buf (Elt Ideal) ℓ) (g' : Dev Cert.DownSpecIdeal.nD → PrngReg), Pre_DownIdeal m →
    (∀ c : Dev Cert.DownIdeal.nD,
      m' ((c.tc : Thread Cert.DownSpecIdeal.nD Cert.DownSpecIdeal.τ).loc Cert.DownSpecIdeal.main_arg0) = m ((c.tc : Thread Cert.DownIdeal.nD Cert.DownIdeal.τ).loc Cert.DownIdeal.main_arg0)
      ∧ m' ((c.tc : Thread Cert.DownSpecIdeal.nD Cert.DownSpecIdeal.τ).loc Cert.DownSpecIdeal.main_arg1) = m ((c.tc : Thread Cert.DownIdeal.nD Cert.DownIdeal.τ).loc Cert.DownIdeal.main_arg1)
      ∧ m' ((c.tc : Thread Cert.DownSpecIdeal.nD Cert.DownSpecIdeal.τ).loc Cert.DownSpecIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownSpecIdeal.defs (F := Ideal)) (onTc (τ := Cert.DownSpecIdeal.τ) (Cert.DownSpecIdeal.main (F := Ideal))) ⟨m', fun _ => 0, g'⟩ (fun r => ∀ c : Dev Cert.DownSpecIdeal.nD,
          r.2.mem ((c.tc : Thread Cert.DownSpecIdeal.nD Cert.DownSpecIdeal.τ).loc Cert.DownSpecIdeal.main_v1) = v0 c
          ∧ r.2.mem ((c.tc : Thread Cert.DownSpecIdeal.nD Cert.DownSpecIdeal.τ).loc Cert.DownSpecIdeal.main_arg0) = m' ((c.tc : Thread Cert.DownSpecIdeal.nD Cert.DownSpecIdeal.τ).loc Cert.DownSpecIdeal.main_arg0)
          ∧ r.2.mem ((c.tc : Thread Cert.DownSpecIdeal.nD Cert.DownSpecIdeal.τ).loc Cert.DownSpecIdeal.main_arg1) = m' ((c.tc : Thread Cert.DownSpecIdeal.nD Cert.DownSpecIdeal.τ).loc Cert.DownSpecIdeal.main_arg1)
          ∧ r.2.mem ((c.tc : Thread Cert.DownSpecIdeal.nD Cert.DownSpecIdeal.τ).loc Cert.DownSpecIdeal.main_arg2) = m' ((c.tc : Thread Cert.DownSpecIdeal.nD Cert.DownSpecIdeal.τ).loc Cert.DownSpecIdeal.main_arg2))

def preserves_DownDa_DownDaIdeal : Prop :=
  True

def algebraic_DownDaIdeal_DownDaSpecIdeal_pre_finite_down_da [hDownDaIdeal : Cert.DownDaIdeal.Facts] [hDownDaSpecIdeal : Cert.DownDaSpecIdeal.Facts] [hPre_finite_down_da : Cert.Pre_finite_down_da.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaSpecIdeal.nD Cert.DownDaSpecIdeal.τ Cert.DownDaSpecIdeal.sig) → Buf (Elt Ideal) ℓ) (g' : Dev Cert.DownDaSpecIdeal.nD → PrngReg), Pre_DownDaIdeal_finite_down_da m →
    (∀ c : Dev Cert.DownDaIdeal.nD,
      m' ((c.tc : Thread Cert.DownDaSpecIdeal.nD Cert.DownDaSpecIdeal.τ).loc Cert.DownDaSpecIdeal.main_arg0) = m ((c.tc : Thread Cert.DownDaIdeal.nD Cert.DownDaIdeal.τ).loc Cert.DownDaIdeal.main_arg0)
      ∧ m' ((c.tc : Thread Cert.DownDaSpecIdeal.nD Cert.DownDaSpecIdeal.τ).loc Cert.DownDaSpecIdeal.main_arg1) = m ((c.tc : Thread Cert.DownDaIdeal.nD Cert.DownDaIdeal.τ).loc Cert.DownDaIdeal.main_arg1)
      ∧ m' ((c.tc : Thread Cert.DownDaSpecIdeal.nD Cert.DownDaSpecIdeal.τ).loc Cert.DownDaSpecIdeal.main_arg2) = m ((c.tc : Thread Cert.DownDaIdeal.nD Cert.DownDaIdeal.τ).loc Cert.DownDaIdeal.main_arg2)
      ∧ m' ((c.tc : Thread Cert.DownDaSpecIdeal.nD Cert.DownDaSpecIdeal.τ).loc Cert.DownDaSpecIdeal.main_arg3) = m ((c.tc : Thread Cert.DownDaIdeal.nD Cert.DownDaIdeal.τ).loc Cert.DownDaIdeal.main_arg3)) →
    ∃ (v0 : (c : Dev Cert.DownDaIdeal.nD) → Buf (Elt Ideal) ((c.tc : Thread Cert.DownDaIdeal.nD Cert.DownDaIdeal.τ).loc Cert.DownDaIdeal.main_v1)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v1) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1)
          ∧ r.2.mem ((c.tc : Thread Cert.DownDaIdeal.nD Cert.DownDaIdeal.τ).loc Cert.DownDaIdeal.main_arg2) = m ((c.tc : Thread Cert.DownDaIdeal.nD Cert.DownDaIdeal.τ).loc Cert.DownDaIdeal.main_arg2)
          ∧ r.2.mem ((c.tc : Thread Cert.DownDaIdeal.nD Cert.DownDaIdeal.τ).loc Cert.DownDaIdeal.main_arg3) = m ((c.tc : Thread Cert.DownDaIdeal.nD Cert.DownDaIdeal.τ).loc Cert.DownDaIdeal.main_arg3))
      ∧ θ_run (Cert.DownDaSpecIdeal.defs (F := Ideal)) (onTc (τ := Cert.DownDaSpecIdeal.τ) (Cert.DownDaSpecIdeal.main (F := Ideal))) ⟨m', fun _ => 0, g'⟩ (fun r => ∀ c : Dev Cert.DownDaSpecIdeal.nD,
          r.2.mem ((c.tc : Thread Cert.DownDaSpecIdeal.nD Cert.DownDaSpecIdeal.τ).loc Cert.DownDaSpecIdeal.main_v10) = v0 c
          ∧ r.2.mem ((c.tc : Thread Cert.DownDaSpecIdeal.nD Cert.DownDaSpecIdeal.τ).loc Cert.DownDaSpecIdeal.main_arg0) = m' ((c.tc : Thread Cert.DownDaSpecIdeal.nD Cert.DownDaSpecIdeal.τ).loc Cert.DownDaSpecIdeal.main_arg0)
          ∧ r.2.mem ((c.tc : Thread Cert.DownDaSpecIdeal.nD Cert.DownDaSpecIdeal.τ).loc Cert.DownDaSpecIdeal.main_arg1) = m' ((c.tc : Thread Cert.DownDaSpecIdeal.nD Cert.DownDaSpecIdeal.τ).loc Cert.DownDaSpecIdeal.main_arg1)
          ∧ r.2.mem ((c.tc : Thread Cert.DownDaSpecIdeal.nD Cert.DownDaSpecIdeal.τ).loc Cert.DownDaSpecIdeal.main_arg2) = m' ((c.tc : Thread Cert.DownDaSpecIdeal.nD Cert.DownDaSpecIdeal.τ).loc Cert.DownDaSpecIdeal.main_arg2)
          ∧ r.2.mem ((c.tc : Thread Cert.DownDaSpecIdeal.nD Cert.DownDaSpecIdeal.τ).loc Cert.DownDaSpecIdeal.main_arg3) = m' ((c.tc : Thread Cert.DownDaSpecIdeal.nD Cert.DownDaSpecIdeal.τ).loc Cert.DownDaSpecIdeal.main_arg3))

def preserves_DownDw_DownDwIdeal : Prop :=
  True

def algebraic_DownDwIdeal_DownDwSpecIdeal [hDownDwIdeal : Cert.DownDwIdeal.Facts] [hDownDwSpecIdeal : Cert.DownDwSpecIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwSpecIdeal.nD Cert.DownDwSpecIdeal.τ Cert.DownDwSpecIdeal.sig) → Buf (Elt Ideal) ℓ) (g' : Dev Cert.DownDwSpecIdeal.nD → PrngReg), Pre_DownDwIdeal m →
    (∀ c : Dev Cert.DownDwIdeal.nD,
      m' ((c.tc : Thread Cert.DownDwSpecIdeal.nD Cert.DownDwSpecIdeal.τ).loc Cert.DownDwSpecIdeal.main_arg0) = m ((c.tc : Thread Cert.DownDwIdeal.nD Cert.DownDwIdeal.τ).loc Cert.DownDwIdeal.main_arg0)
      ∧ m' ((c.tc : Thread Cert.DownDwSpecIdeal.nD Cert.DownDwSpecIdeal.τ).loc Cert.DownDwSpecIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwSpecIdeal.defs (F := Ideal)) (onTc (τ := Cert.DownDwSpecIdeal.τ) (Cert.DownDwSpecIdeal.main (F := Ideal))) ⟨m', fun _ => 0, g'⟩ (fun r => ∀ c : Dev Cert.DownDwSpecIdeal.nD,
          r.2.mem ((c.tc : Thread Cert.DownDwSpecIdeal.nD Cert.DownDwSpecIdeal.τ).loc Cert.DownDwSpecIdeal.main_v3) = v0 c
          ∧ r.2.mem ((c.tc : Thread Cert.DownDwSpecIdeal.nD Cert.DownDwSpecIdeal.τ).loc Cert.DownDwSpecIdeal.main_arg0) = m' ((c.tc : Thread Cert.DownDwSpecIdeal.nD Cert.DownDwSpecIdeal.τ).loc Cert.DownDwSpecIdeal.main_arg0)
          ∧ r.2.mem ((c.tc : Thread Cert.DownDwSpecIdeal.nD Cert.DownDwSpecIdeal.τ).loc Cert.DownDwSpecIdeal.main_arg1) = m' ((c.tc : Thread Cert.DownDwSpecIdeal.nD Cert.DownDwSpecIdeal.τ).loc Cert.DownDwSpecIdeal.main_arg1))

def preserves_GateUpDw_GateUpDwIdeal : Prop :=
  True

def algebraic_GateUpDwIdeal_GateUpDwSpecIdeal [hGateUpDwIdeal : Cert.GateUpDwIdeal.Facts] [hGateUpDwSpecIdeal : Cert.GateUpDwSpecIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg)
    (m' : (ℓ : Loc Cert.GateUpDwSpecIdeal.nD Cert.GateUpDwSpecIdeal.τ Cert.GateUpDwSpecIdeal.sig) → Buf (Elt Ideal) ℓ) (g' : Dev Cert.GateUpDwSpecIdeal.nD → PrngReg), Pre_GateUpDwIdeal m →
    (∀ c : Dev Cert.GateUpDwIdeal.nD,
      m' ((c.tc : Thread Cert.GateUpDwSpecIdeal.nD Cert.GateUpDwSpecIdeal.τ).loc Cert.GateUpDwSpecIdeal.main_arg0) = m ((c.tc : Thread Cert.GateUpDwIdeal.nD Cert.GateUpDwIdeal.τ).loc Cert.GateUpDwIdeal.main_arg0)
      ∧ m' ((c.tc : Thread Cert.GateUpDwSpecIdeal.nD Cert.GateUpDwSpecIdeal.τ).loc Cert.GateUpDwSpecIdeal.main_arg1) = m ((c.tc : Thread Cert.GateUpDwIdeal.nD Cert.GateUpDwIdeal.τ).loc Cert.GateUpDwIdeal.main_arg1)) →
    ∃ (v0 : (c : Dev Cert.GateUpDwIdeal.nD) → Buf (Elt Ideal) ((c.tc : Thread Cert.GateUpDwIdeal.nD Cert.GateUpDwIdeal.τ).loc Cert.GateUpDwIdeal.main_v2)),
      θ_run (Cert.GateUpDwIdeal.defs (F := Ideal)) (onTc (τ := Cert.GateUpDwIdeal.τ) (Cert.GateUpDwIdeal.main (F := Ideal))) ⟨m, fun _ => 0, g⟩ (fun r => ∀ c : Dev Cert.GateUpDwIdeal.nD,
          r.2.mem ((c.tc : Thread Cert.GateUpDwIdeal.nD Cert.GateUpDwIdeal.τ).loc Cert.GateUpDwIdeal.main_v2) = v0 c
          ∧ r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
          ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ θ_run (Cert.GateUpDwSpecIdeal.defs (F := Ideal)) (onTc (τ := Cert.GateUpDwSpecIdeal.τ) (Cert.GateUpDwSpecIdeal.main (F := Ideal))) ⟨m', fun _ => 0, g'⟩ (fun r => ∀ c : Dev Cert.GateUpDwSpecIdeal.nD,
          r.2.mem ((c.tc : Thread Cert.GateUpDwSpecIdeal.nD Cert.GateUpDwSpecIdeal.τ).loc Cert.GateUpDwSpecIdeal.main_v11) = v0 c
          ∧ r.2.mem ((c.tc : Thread Cert.GateUpDwSpecIdeal.nD Cert.GateUpDwSpecIdeal.τ).loc Cert.GateUpDwSpecIdeal.main_arg0) = m' ((c.tc : Thread Cert.GateUpDwSpecIdeal.nD Cert.GateUpDwSpecIdeal.τ).loc Cert.GateUpDwSpecIdeal.main_arg0)
          ∧ r.2.mem ((c.tc : Thread Cert.GateUpDwSpecIdeal.nD Cert.GateUpDwSpecIdeal.τ).loc Cert.GateUpDwSpecIdeal.main_arg1) = m' ((c.tc : Thread Cert.GateUpDwSpecIdeal.nD Cert.GateUpDwSpecIdeal.τ).loc Cert.GateUpDwSpecIdeal.main_arg1))

def preserves_GateUpDa_GateUpDaIdeal : Prop :=
  True

def algebraic_GateUpDaIdeal_GateUpDaSpecIdeal_pre_finite_gate_up_da [hGateUpDaIdeal : Cert.GateUpDaIdeal.Facts] [hGateUpDaSpecIdeal : Cert.GateUpDaSpecIdeal.Facts] [hPre_finite_gate_up_da : Cert.Pre_finite_gate_up_da.Facts] : Prop :=
  ∀ (m : (ℓ : Loc Cert.GateUpDaIdeal.nD Cert.GateUpDaIdeal.τ Cert.GateUpDaIdeal.sig) → Buf (Elt Ideal) ℓ) (g : Dev Cert.GateUpDaIdeal.nD → PrngReg)
    (m' : (ℓ : Loc Cert.GateUpDaSpecIdeal.nD Cert.GateUpDaSpecIdeal.τ Cert.GateUpDaSpecIdeal.sig) → Buf (Elt Ideal) ℓ) (g' : Dev Cert.GateUpDaSpecIdeal.nD → PrngReg), Pre_GateUpDaIdeal_finite_gate_up_da m →
    (∀ c : Dev Cert.GateUpDaIdeal.nD,
      m' ((c.tc : Thread Cert.GateUpDaSpecIdeal.nD Cert.GateUpDaSpecIdeal.τ).loc Cert.GateUpDaSpecIdeal.main_arg0) = m ((c.tc : Thread Cert.GateUpDaIdeal.nD Cert.GateUpDaIdeal.τ).loc Cert.GateUpDaIdeal.main_arg0)
      ∧ m' ((c.tc : Thread Cert.GateUpDaSpecIdeal.nD Cert.GateUpDaSpecIdeal.τ).loc Cert.GateUpDaSpecIdeal.main_arg1) = m ((c.tc : Thread Cert.GateUpDaIdeal.nD Cert.GateUpDaIdeal.τ).loc Cert.GateUpDaIdeal.main_arg1)
      ∧ m' ((c.tc : Thread Cert.GateUpDaSpecIdeal.nD Cert.GateUpDaSpecIdeal.τ).loc Cert.GateUpDaSpecIdeal.main_arg2) = m ((c.tc : Thread Cert.GateUpDaIdeal.nD Cert.GateUpDaIdeal.τ).loc Cert.GateUpDaIdeal.main_arg2)
      ∧ m' ((c.tc : Thread Cert.GateUpDaSpecIdeal.nD Cert.GateUpDaSpecIdeal.τ).loc Cert.GateUpDaSpecIdeal.main_arg3) = m ((c.tc : Thread Cert.GateUpDaIdeal.nD Cert.GateUpDaIdeal.τ).loc Cert.GateUpDaIdeal.main_arg3)
      ∧ m' ((c.tc : Thread Cert.GateUpDaSpecIdeal.nD Cert.GateUpDaSpecIdeal.τ).loc Cert.GateUpDaSpecIdeal.main_arg4) = m ((c.tc : Thread Cert.GateUpDaIdeal.nD Cert.GateUpDaIdeal.τ).loc Cert.GateUpDaIdeal.main_arg4)) →
    ∃ (v0 : (c : Dev Cert.GateUpDaIdeal.nD) → Buf (Elt Ideal) ((c.tc : Thread Cert.GateUpDaIdeal.nD Cert.GateUpDaIdeal.τ).loc Cert.GateUpDaIdeal.main_v4_0)) (v1 : (c : Dev Cert.GateUpDaIdeal.nD) → Buf (Elt Ideal) ((c.tc : Thread Cert.GateUpDaIdeal.nD Cert.GateUpDaIdeal.τ).loc Cert.GateUpDaIdeal.main_v4_1)),
      θ_run (Cert.GateUpDaIdeal.defs (F := Ideal)) (onTc (τ := Cert.GateUpDaIdeal.τ) (Cert.GateUpDaIdeal.main (F := Ideal))) ⟨m, fun _ => 0, g⟩ (fun r => ∀ c : Dev Cert.GateUpDaIdeal.nD,
          r.2.mem ((c.tc : Thread Cert.GateUpDaIdeal.nD Cert.GateUpDaIdeal.τ).loc Cert.GateUpDaIdeal.main_v4_0) = v0 c
          ∧ r.2.mem ((c.tc : Thread Cert.GateUpDaIdeal.nD Cert.GateUpDaIdeal.τ).loc Cert.GateUpDaIdeal.main_v4_1) = v1 c
          ∧ r.2.mem ((c.tc : Thread Cert.GateUpDaIdeal.nD Cert.GateUpDaIdeal.τ).loc Cert.GateUpDaIdeal.main_arg0) = m ((c.tc : Thread Cert.GateUpDaIdeal.nD Cert.GateUpDaIdeal.τ).loc Cert.GateUpDaIdeal.main_arg0)
          ∧ r.2.mem ((c.tc : Thread Cert.GateUpDaIdeal.nD Cert.GateUpDaIdeal.τ).loc Cert.GateUpDaIdeal.main_arg1) = m ((c.tc : Thread Cert.GateUpDaIdeal.nD Cert.GateUpDaIdeal.τ).loc Cert.GateUpDaIdeal.main_arg1)
          ∧ r.2.mem ((c.tc : Thread Cert.GateUpDaIdeal.nD Cert.GateUpDaIdeal.τ).loc Cert.GateUpDaIdeal.main_arg2) = m ((c.tc : Thread Cert.GateUpDaIdeal.nD Cert.GateUpDaIdeal.τ).loc Cert.GateUpDaIdeal.main_arg2)
          ∧ r.2.mem ((c.tc : Thread Cert.GateUpDaIdeal.nD Cert.GateUpDaIdeal.τ).loc Cert.GateUpDaIdeal.main_arg3) = m ((c.tc : Thread Cert.GateUpDaIdeal.nD Cert.GateUpDaIdeal.τ).loc Cert.GateUpDaIdeal.main_arg3)
          ∧ r.2.mem ((c.tc : Thread Cert.GateUpDaIdeal.nD Cert.GateUpDaIdeal.τ).loc Cert.GateUpDaIdeal.main_arg4) = m ((c.tc : Thread Cert.GateUpDaIdeal.nD Cert.GateUpDaIdeal.τ).loc Cert.GateUpDaIdeal.main_arg4))
      ∧ θ_run (Cert.GateUpDaSpecIdeal.defs (F := Ideal)) (onTc (τ := Cert.GateUpDaSpecIdeal.τ) (Cert.GateUpDaSpecIdeal.main (F := Ideal))) ⟨m', fun _ => 0, g'⟩ (fun r => ∀ c : Dev Cert.GateUpDaSpecIdeal.nD,
          r.2.mem ((c.tc : Thread Cert.GateUpDaSpecIdeal.nD Cert.GateUpDaSpecIdeal.τ).loc Cert.GateUpDaSpecIdeal.main_v45) = v0 c
          ∧ r.2.mem ((c.tc : Thread Cert.GateUpDaSpecIdeal.nD Cert.GateUpDaSpecIdeal.τ).loc Cert.GateUpDaSpecIdeal.main_v46) = v1 c
          ∧ r.2.mem ((c.tc : Thread Cert.GateUpDaSpecIdeal.nD Cert.GateUpDaSpecIdeal.τ).loc Cert.GateUpDaSpecIdeal.main_arg0) = m' ((c.tc : Thread Cert.GateUpDaSpecIdeal.nD Cert.GateUpDaSpecIdeal.τ).loc Cert.GateUpDaSpecIdeal.main_arg0)
          ∧ r.2.mem ((c.tc : Thread Cert.GateUpDaSpecIdeal.nD Cert.GateUpDaSpecIdeal.τ).loc Cert.GateUpDaSpecIdeal.main_arg1) = m' ((c.tc : Thread Cert.GateUpDaSpecIdeal.nD Cert.GateUpDaSpecIdeal.τ).loc Cert.GateUpDaSpecIdeal.main_arg1)
          ∧ r.2.mem ((c.tc : Thread Cert.GateUpDaSpecIdeal.nD Cert.GateUpDaSpecIdeal.τ).loc Cert.GateUpDaSpecIdeal.main_arg2) = m' ((c.tc : Thread Cert.GateUpDaSpecIdeal.nD Cert.GateUpDaSpecIdeal.τ).loc Cert.GateUpDaSpecIdeal.main_arg2)
          ∧ r.2.mem ((c.tc : Thread Cert.GateUpDaSpecIdeal.nD Cert.GateUpDaSpecIdeal.τ).loc Cert.GateUpDaSpecIdeal.main_arg3) = m' ((c.tc : Thread Cert.GateUpDaSpecIdeal.nD Cert.GateUpDaSpecIdeal.τ).loc Cert.GateUpDaSpecIdeal.main_arg3)
          ∧ r.2.mem ((c.tc : Thread Cert.GateUpDaSpecIdeal.nD Cert.GateUpDaSpecIdeal.τ).loc Cert.GateUpDaSpecIdeal.main_arg4) = m' ((c.tc : Thread Cert.GateUpDaSpecIdeal.nD Cert.GateUpDaSpecIdeal.τ).loc Cert.GateUpDaSpecIdeal.main_arg4))

def preserves_InPiece_InPieceIdeal : Prop :=
  True

def algebraic_InPieceIdeal_InPieceSpecIdeal [hInPieceIdeal : Cert.InPieceIdeal.Facts] [hInPieceSpecIdeal : Cert.InPieceSpecIdeal.Facts] : Prop :=
  ∀ (m : (ℓ : Loc Cert.InPieceIdeal.nD Cert.InPieceIdeal.τ Cert.InPieceIdeal.sig) → Buf (Elt Ideal) ℓ) (g : Dev Cert.InPieceIdeal.nD → PrngReg)
    (m' : (ℓ : Loc Cert.InPieceSpecIdeal.nD Cert.InPieceSpecIdeal.τ Cert.InPieceSpecIdeal.sig) → Buf (Elt Ideal) ℓ) (g' : Dev Cert.InPieceSpecIdeal.nD → PrngReg), Pre_InPieceIdeal m →
    (∀ c : Dev Cert.InPieceIdeal.nD,
      m' ((c.tc : Thread Cert.InPieceSpecIdeal.nD Cert.InPieceSpecIdeal.τ).loc Cert.InPieceSpecIdeal.main_arg0) = m ((c.tc : Thread Cert.InPieceIdeal.nD Cert.InPieceIdeal.τ).loc Cert.InPieceIdeal.main_arg0)
      ∧ m' ((c.tc : Thread Cert.InPieceSpecIdeal.nD Cert.InPieceSpecIdeal.τ).loc Cert.InPieceSpecIdeal.main_arg1) = m ((c.tc : Thread Cert.InPieceIdeal.nD Cert.InPieceIdeal.τ).loc Cert.InPieceIdeal.main_arg1)) →
    ∃ (v0 : (c : Dev Cert.InPieceIdeal.nD) → Buf (Elt Ideal) ((c.tc : Thread Cert.InPieceIdeal.nD Cert.InPieceIdeal.τ).loc Cert.InPieceIdeal.main_v3)),
      θ_run (Cert.InPieceIdeal.defs (F := Ideal)) (onTc (τ := Cert.InPieceIdeal.τ) (Cert.InPieceIdeal.main (F := Ideal))) ⟨m, fun _ => 0, g⟩ (fun r => ∀ c : Dev Cert.InPieceIdeal.nD,
          r.2.mem ((c.tc : Thread Cert.InPieceIdeal.nD Cert.InPieceIdeal.τ).loc Cert.InPieceIdeal.main_v3) = v0 c
          ∧ r.2.mem ((c.tc : Thread Cert.InPieceIdeal.nD Cert.InPieceIdeal.τ).loc Cert.InPieceIdeal.main_arg0) = m ((c.tc : Thread Cert.InPieceIdeal.nD Cert.InPieceIdeal.τ).loc Cert.InPieceIdeal.main_arg0)
          ∧ r.2.mem ((c.tc : Thread Cert.InPieceIdeal.nD Cert.InPieceIdeal.τ).loc Cert.InPieceIdeal.main_arg1) = m ((c.tc : Thread Cert.InPieceIdeal.nD Cert.InPieceIdeal.τ).loc Cert.InPieceIdeal.main_arg1))
      ∧ θ_run (Cert.InPieceSpecIdeal.defs (F := Ideal)) (onTc (τ := Cert.InPieceSpecIdeal.τ) (Cert.InPieceSpecIdeal.main (F := Ideal))) ⟨m', fun _ => 0, g'⟩ (fun r => ∀ c : Dev Cert.InPieceSpecIdeal.nD,
          r.2.mem ((c.tc : Thread Cert.InPieceSpecIdeal.nD Cert.InPieceSpecIdeal.τ).loc Cert.InPieceSpecIdeal.main_v0) = v0 c
          ∧ r.2.mem ((c.tc : Thread Cert.InPieceSpecIdeal.nD Cert.InPieceSpecIdeal.τ).loc Cert.InPieceSpecIdeal.main_arg0) = m' ((c.tc : Thread Cert.InPieceSpecIdeal.nD Cert.InPieceSpecIdeal.τ).loc Cert.InPieceSpecIdeal.main_arg0)
          ∧ r.2.mem ((c.tc : Thread Cert.InPieceSpecIdeal.nD Cert.InPieceSpecIdeal.τ).loc Cert.InPieceSpecIdeal.main_arg1) = m' ((c.tc : Thread Cert.InPieceSpecIdeal.nD Cert.InPieceSpecIdeal.τ).loc Cert.InPieceSpecIdeal.main_arg1))

def preserves_InDw_InDwIdeal : Prop :=
  True

def algebraic_InDwIdeal_InDwSpecIdeal [hInDwIdeal : Cert.InDwIdeal.Facts] [hInDwSpecIdeal : Cert.InDwSpecIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwSpecIdeal.nD Cert.InDwSpecIdeal.τ Cert.InDwSpecIdeal.sig) → Buf (Elt Ideal) ℓ) (g' : Dev Cert.InDwSpecIdeal.nD → PrngReg), Pre_InDwIdeal m →
    (∀ c : Dev Cert.InDwIdeal.nD,
      m' ((c.tc : Thread Cert.InDwSpecIdeal.nD Cert.InDwSpecIdeal.τ).loc Cert.InDwSpecIdeal.main_arg0) = m ((c.tc : Thread Cert.InDwIdeal.nD Cert.InDwIdeal.τ).loc Cert.InDwIdeal.main_arg0)
      ∧ m' ((c.tc : Thread Cert.InDwSpecIdeal.nD Cert.InDwSpecIdeal.τ).loc Cert.InDwSpecIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwSpecIdeal.defs (F := Ideal)) (onTc (τ := Cert.InDwSpecIdeal.τ) (Cert.InDwSpecIdeal.main (F := Ideal))) ⟨m', fun _ => 0, g'⟩ (fun r => ∀ c : Dev Cert.InDwSpecIdeal.nD,
          r.2.mem ((c.tc : Thread Cert.InDwSpecIdeal.nD Cert.InDwSpecIdeal.τ).loc Cert.InDwSpecIdeal.main_v4) = v0 c
          ∧ r.2.mem ((c.tc : Thread Cert.InDwSpecIdeal.nD Cert.InDwSpecIdeal.τ).loc Cert.InDwSpecIdeal.main_arg0) = m' ((c.tc : Thread Cert.InDwSpecIdeal.nD Cert.InDwSpecIdeal.τ).loc Cert.InDwSpecIdeal.main_arg0)
          ∧ r.2.mem ((c.tc : Thread Cert.InDwSpecIdeal.nD Cert.InDwSpecIdeal.τ).loc Cert.InDwSpecIdeal.main_arg1) = m' ((c.tc : Thread Cert.InDwSpecIdeal.nD Cert.InDwSpecIdeal.τ).loc Cert.InDwSpecIdeal.main_arg1))

def preserves_InDa_InDaIdeal : Prop :=
  True

def algebraic_InDaIdeal_InDaSpecIdeal_pre_finite_in_da [hInDaIdeal : Cert.InDaIdeal.Facts] [hInDaSpecIdeal : Cert.InDaSpecIdeal.Facts] [hPre_finite_in_da : Cert.Pre_finite_in_da.Facts] : Prop :=
  ∀ (m : (ℓ : Loc Cert.InDaIdeal.nD Cert.InDaIdeal.τ Cert.InDaIdeal.sig) → Buf (Elt Ideal) ℓ) (g : Dev Cert.InDaIdeal.nD → PrngReg)
    (m' : (ℓ : Loc Cert.InDaSpecIdeal.nD Cert.InDaSpecIdeal.τ Cert.InDaSpecIdeal.sig) → Buf (Elt Ideal) ℓ) (g' : Dev Cert.InDaSpecIdeal.nD → PrngReg), Pre_InDaIdeal_finite_in_da m →
    (∀ c : Dev Cert.InDaIdeal.nD,
      m' ((c.tc : Thread Cert.InDaSpecIdeal.nD Cert.InDaSpecIdeal.τ).loc Cert.InDaSpecIdeal.main_arg0) = m ((c.tc : Thread Cert.InDaIdeal.nD Cert.InDaIdeal.τ).loc Cert.InDaIdeal.main_arg0)
      ∧ m' ((c.tc : Thread Cert.InDaSpecIdeal.nD Cert.InDaSpecIdeal.τ).loc Cert.InDaSpecIdeal.main_arg1) = m ((c.tc : Thread Cert.InDaIdeal.nD Cert.InDaIdeal.τ).loc Cert.InDaIdeal.main_arg1)
      ∧ m' ((c.tc : Thread Cert.InDaSpecIdeal.nD Cert.InDaSpecIdeal.τ).loc Cert.InDaSpecIdeal.main_arg2) = m ((c.tc : Thread Cert.InDaIdeal.nD Cert.InDaIdeal.τ).loc Cert.InDaIdeal.main_arg2)
      ∧ m' ((c.tc : Thread Cert.InDaSpecIdeal.nD Cert.InDaSpecIdeal.τ).loc Cert.InDaSpecIdeal.main_arg3) = m ((c.tc : Thread Cert.InDaIdeal.nD Cert.InDaIdeal.τ).loc Cert.InDaIdeal.main_arg3)
      ∧ m' ((c.tc : Thread Cert.InDaSpecIdeal.nD Cert.InDaSpecIdeal.τ).loc Cert.InDaSpecIdeal.main_arg4) = m ((c.tc : Thread Cert.InDaIdeal.nD Cert.InDaIdeal.τ).loc Cert.InDaIdeal.main_arg4)) →
    ∃ (v0 : (c : Dev Cert.InDaIdeal.nD) → Buf (Elt Ideal) ((c.tc : Thread Cert.InDaIdeal.nD Cert.InDaIdeal.τ).loc Cert.InDaIdeal.main_v4_0)) (v1 : (c : Dev Cert.InDaIdeal.nD) → Buf (Elt Ideal) ((c.tc : Thread Cert.InDaIdeal.nD Cert.InDaIdeal.τ).loc Cert.InDaIdeal.main_v4_1)),
      θ_run (Cert.InDaIdeal.defs (F := Ideal)) (onTc (τ := Cert.InDaIdeal.τ) (Cert.InDaIdeal.main (F := Ideal))) ⟨m, fun _ => 0, g⟩ (fun r => ∀ c : Dev Cert.InDaIdeal.nD,
          r.2.mem ((c.tc : Thread Cert.InDaIdeal.nD Cert.InDaIdeal.τ).loc Cert.InDaIdeal.main_v4_0) = v0 c
          ∧ r.2.mem ((c.tc : Thread Cert.InDaIdeal.nD Cert.InDaIdeal.τ).loc Cert.InDaIdeal.main_v4_1) = v1 c
          ∧ r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
          ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
          ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2)
          ∧ r.2.mem ((c.tc : Thread Cert.InDaIdeal.nD Cert.InDaIdeal.τ).loc Cert.InDaIdeal.main_arg3) = m ((c.tc : Thread Cert.InDaIdeal.nD Cert.InDaIdeal.τ).loc Cert.InDaIdeal.main_arg3)
          ∧ r.2.mem ((c.tc : Thread Cert.InDaIdeal.nD Cert.InDaIdeal.τ).loc Cert.InDaIdeal.main_arg4) = m ((c.tc : Thread Cert.InDaIdeal.nD Cert.InDaIdeal.τ).loc Cert.InDaIdeal.main_arg4))
      ∧ θ_run (Cert.InDaSpecIdeal.defs (F := Ideal)) (onTc (τ := Cert.InDaSpecIdeal.τ) (Cert.InDaSpecIdeal.main (F := Ideal))) ⟨m', fun _ => 0, g'⟩ (fun r => ∀ c : Dev Cert.InDaSpecIdeal.nD,
          r.2.mem ((c.tc : Thread Cert.InDaSpecIdeal.nD Cert.InDaSpecIdeal.τ).loc Cert.InDaSpecIdeal.main_v38) = v0 c
          ∧ r.2.mem ((c.tc : Thread Cert.InDaSpecIdeal.nD Cert.InDaSpecIdeal.τ).loc Cert.InDaSpecIdeal.main_v39) = v1 c
          ∧ r.2.mem ((c.tc : Thread Cert.InDaSpecIdeal.nD Cert.InDaSpecIdeal.τ).loc Cert.InDaSpecIdeal.main_arg0) = m' ((c.tc : Thread Cert.InDaSpecIdeal.nD Cert.InDaSpecIdeal.τ).loc Cert.InDaSpecIdeal.main_arg0)
          ∧ r.2.mem ((c.tc : Thread Cert.InDaSpecIdeal.nD Cert.InDaSpecIdeal.τ).loc Cert.InDaSpecIdeal.main_arg1) = m' ((c.tc : Thread Cert.InDaSpecIdeal.nD Cert.InDaSpecIdeal.τ).loc Cert.InDaSpecIdeal.main_arg1)
          ∧ r.2.mem ((c.tc : Thread Cert.InDaSpecIdeal.nD Cert.InDaSpecIdeal.τ).loc Cert.InDaSpecIdeal.main_arg2) = m' ((c.tc : Thread Cert.InDaSpecIdeal.nD Cert.InDaSpecIdeal.τ).loc Cert.InDaSpecIdeal.main_arg2)
          ∧ r.2.mem ((c.tc : Thread Cert.InDaSpecIdeal.nD Cert.InDaSpecIdeal.τ).loc Cert.InDaSpecIdeal.main_arg3) = m' ((c.tc : Thread Cert.InDaSpecIdeal.nD Cert.InDaSpecIdeal.τ).loc Cert.InDaSpecIdeal.main_arg3)
          ∧ r.2.mem ((c.tc : Thread Cert.InDaSpecIdeal.nD Cert.InDaSpecIdeal.τ).loc Cert.InDaSpecIdeal.main_arg4) = m' ((c.tc : Thread Cert.InDaSpecIdeal.nD Cert.InDaSpecIdeal.τ).loc Cert.InDaSpecIdeal.main_arg4))

def preserves_OutNarrow_OutNarrowIdeal : Prop :=
  True

def algebraic_OutNarrowIdeal_OutNarrowSpecIdeal [hOutNarrowIdeal : Cert.OutNarrowIdeal.Facts] [hOutNarrowSpecIdeal : Cert.OutNarrowSpecIdeal.Facts] : Prop :=
  ∀ (m : (ℓ : Loc Cert.OutNarrowIdeal.nD Cert.OutNarrowIdeal.τ Cert.OutNarrowIdeal.sig) → Buf (Elt Ideal) ℓ) (g : Dev Cert.OutNarrowIdeal.nD → PrngReg)
    (m' : (ℓ : Loc Cert.OutNarrowSpecIdeal.nD Cert.OutNarrowSpecIdeal.τ Cert.OutNarrowSpecIdeal.sig) → Buf (Elt Ideal) ℓ) (g' : Dev Cert.OutNarrowSpecIdeal.nD → PrngReg), Pre_OutNarrowIdeal m →
    (∀ c : Dev Cert.OutNarrowIdeal.nD,
      m' ((c.tc : Thread Cert.OutNarrowSpecIdeal.nD Cert.OutNarrowSpecIdeal.τ).loc Cert.OutNarrowSpecIdeal.main_arg0) = m ((c.tc : Thread Cert.OutNarrowIdeal.nD Cert.OutNarrowIdeal.τ).loc Cert.OutNarrowIdeal.main_arg0)
      ∧ m' ((c.tc : Thread Cert.OutNarrowSpecIdeal.nD Cert.OutNarrowSpecIdeal.τ).loc Cert.OutNarrowSpecIdeal.main_arg1) = m ((c.tc : Thread Cert.OutNarrowIdeal.nD Cert.OutNarrowIdeal.τ).loc Cert.OutNarrowIdeal.main_arg1)
      ∧ m' ((c.tc : Thread Cert.OutNarrowSpecIdeal.nD Cert.OutNarrowSpecIdeal.τ).loc Cert.OutNarrowSpecIdeal.main_arg2) = m ((c.tc : Thread Cert.OutNarrowIdeal.nD Cert.OutNarrowIdeal.τ).loc Cert.OutNarrowIdeal.main_arg2)) →
    ∃ (v0 : (c : Dev Cert.OutNarrowIdeal.nD) → Buf (Elt Ideal) ((c.tc : Thread Cert.OutNarrowIdeal.nD Cert.OutNarrowIdeal.τ).loc Cert.OutNarrowIdeal.main_v1)),
      θ_run (Cert.OutNarrowIdeal.defs (F := Ideal)) (onTc (τ := Cert.OutNarrowIdeal.τ) (Cert.OutNarrowIdeal.main (F := Ideal))) ⟨m, fun _ => 0, g⟩ (fun r => ∀ c : Dev Cert.OutNarrowIdeal.nD,
          r.2.mem ((c.tc : Thread Cert.OutNarrowIdeal.nD Cert.OutNarrowIdeal.τ).loc Cert.OutNarrowIdeal.main_v1) = v0 c
          ∧ r.2.mem ((c.tc : Thread Cert.OutNarrowIdeal.nD Cert.OutNarrowIdeal.τ).loc Cert.OutNarrowIdeal.main_arg0) = m ((c.tc : Thread Cert.OutNarrowIdeal.nD Cert.OutNarrowIdeal.τ).loc Cert.OutNarrowIdeal.main_arg0)
          ∧ r.2.mem ((c.tc : Thread Cert.OutNarrowIdeal.nD Cert.OutNarrowIdeal.τ).loc Cert.OutNarrowIdeal.main_arg1) = m ((c.tc : Thread Cert.OutNarrowIdeal.nD Cert.OutNarrowIdeal.τ).loc Cert.OutNarrowIdeal.main_arg1)
          ∧ r.2.mem ((c.tc : Thread Cert.OutNarrowIdeal.nD Cert.OutNarrowIdeal.τ).loc Cert.OutNarrowIdeal.main_arg2) = m ((c.tc : Thread Cert.OutNarrowIdeal.nD Cert.OutNarrowIdeal.τ).loc Cert.OutNarrowIdeal.main_arg2))
      ∧ θ_run (Cert.OutNarrowSpecIdeal.defs (F := Ideal)) (onTc (τ := Cert.OutNarrowSpecIdeal.τ) (Cert.OutNarrowSpecIdeal.main (F := Ideal))) ⟨m', fun _ => 0, g'⟩ (fun r => ∀ c : Dev Cert.OutNarrowSpecIdeal.nD,
          r.2.mem ((c.tc : Thread Cert.OutNarrowSpecIdeal.nD Cert.OutNarrowSpecIdeal.τ).loc Cert.OutNarrowSpecIdeal.main_v1) = v0 c
          ∧ r.2.mem ((c.tc : Thread Cert.OutNarrowSpecIdeal.nD Cert.OutNarrowSpecIdeal.τ).loc Cert.OutNarrowSpecIdeal.main_arg0) = m' ((c.tc : Thread Cert.OutNarrowSpecIdeal.nD Cert.OutNarrowSpecIdeal.τ).loc Cert.OutNarrowSpecIdeal.main_arg0)
          ∧ r.2.mem ((c.tc : Thread Cert.OutNarrowSpecIdeal.nD Cert.OutNarrowSpecIdeal.τ).loc Cert.OutNarrowSpecIdeal.main_arg1) = m' ((c.tc : Thread Cert.OutNarrowSpecIdeal.nD Cert.OutNarrowSpecIdeal.τ).loc Cert.OutNarrowSpecIdeal.main_arg1)
          ∧ r.2.mem ((c.tc : Thread Cert.OutNarrowSpecIdeal.nD Cert.OutNarrowSpecIdeal.τ).loc Cert.OutNarrowSpecIdeal.main_arg2) = m' ((c.tc : Thread Cert.OutNarrowSpecIdeal.nD Cert.OutNarrowSpecIdeal.τ).loc Cert.OutNarrowSpecIdeal.main_arg2))

def preserves_OutWide_OutWideIdeal : Prop :=
  True

def algebraic_OutWideIdeal_OutWideSpecIdeal [hOutWideIdeal : Cert.OutWideIdeal.Facts] [hOutWideSpecIdeal : Cert.OutWideSpecIdeal.Facts] : Prop :=
  ∀ (m : (ℓ : Loc Cert.OutWideIdeal.nD Cert.OutWideIdeal.τ Cert.OutWideIdeal.sig) → Buf (Elt Ideal) ℓ) (g : Dev Cert.OutWideIdeal.nD → PrngReg)
    (m' : (ℓ : Loc Cert.OutWideSpecIdeal.nD Cert.OutWideSpecIdeal.τ Cert.OutWideSpecIdeal.sig) → Buf (Elt Ideal) ℓ) (g' : Dev Cert.OutWideSpecIdeal.nD → PrngReg), Pre_OutWideIdeal m →
    (∀ c : Dev Cert.OutWideIdeal.nD,
      m' ((c.tc : Thread Cert.OutWideSpecIdeal.nD Cert.OutWideSpecIdeal.τ).loc Cert.OutWideSpecIdeal.main_arg0) = m ((c.tc : Thread Cert.OutWideIdeal.nD Cert.OutWideIdeal.τ).loc Cert.OutWideIdeal.main_arg0)
      ∧ m' ((c.tc : Thread Cert.OutWideSpecIdeal.nD Cert.OutWideSpecIdeal.τ).loc Cert.OutWideSpecIdeal.main_arg1) = m ((c.tc : Thread Cert.OutWideIdeal.nD Cert.OutWideIdeal.τ).loc Cert.OutWideIdeal.main_arg1)
      ∧ m' ((c.tc : Thread Cert.OutWideSpecIdeal.nD Cert.OutWideSpecIdeal.τ).loc Cert.OutWideSpecIdeal.main_arg2) = m ((c.tc : Thread Cert.OutWideIdeal.nD Cert.OutWideIdeal.τ).loc Cert.OutWideIdeal.main_arg2)) →
    ∃ (v0 : (c : Dev Cert.OutWideIdeal.nD) → Buf (Elt Ideal) ((c.tc : Thread Cert.OutWideIdeal.nD Cert.OutWideIdeal.τ).loc Cert.OutWideIdeal.main_v1)),
      θ_run (Cert.OutWideIdeal.defs (F := Ideal)) (onTc (τ := Cert.OutWideIdeal.τ) (Cert.OutWideIdeal.main (F := Ideal))) ⟨m, fun _ => 0, g⟩ (fun r => ∀ c : Dev Cert.OutWideIdeal.nD,
          r.2.mem ((c.tc : Thread Cert.OutWideIdeal.nD Cert.OutWideIdeal.τ).loc Cert.OutWideIdeal.main_v1) = v0 c
          ∧ r.2.mem ((c.tc : Thread Cert.OutWideIdeal.nD Cert.OutWideIdeal.τ).loc Cert.OutWideIdeal.main_arg0) = m ((c.tc : Thread Cert.OutWideIdeal.nD Cert.OutWideIdeal.τ).loc Cert.OutWideIdeal.main_arg0)
          ∧ r.2.mem ((c.tc : Thread Cert.OutWideIdeal.nD Cert.OutWideIdeal.τ).loc Cert.OutWideIdeal.main_arg1) = m ((c.tc : Thread Cert.OutWideIdeal.nD Cert.OutWideIdeal.τ).loc Cert.OutWideIdeal.main_arg1)
          ∧ r.2.mem ((c.tc : Thread Cert.OutWideIdeal.nD Cert.OutWideIdeal.τ).loc Cert.OutWideIdeal.main_arg2) = m ((c.tc : Thread Cert.OutWideIdeal.nD Cert.OutWideIdeal.τ).loc Cert.OutWideIdeal.main_arg2))
      ∧ θ_run (Cert.OutWideSpecIdeal.defs (F := Ideal)) (onTc (τ := Cert.OutWideSpecIdeal.τ) (Cert.OutWideSpecIdeal.main (F := Ideal))) ⟨m', fun _ => 0, g'⟩ (fun r => ∀ c : Dev Cert.OutWideSpecIdeal.nD,
          r.2.mem ((c.tc : Thread Cert.OutWideSpecIdeal.nD Cert.OutWideSpecIdeal.τ).loc Cert.OutWideSpecIdeal.main_v1) = v0 c
          ∧ r.2.mem ((c.tc : Thread Cert.OutWideSpecIdeal.nD Cert.OutWideSpecIdeal.τ).loc Cert.OutWideSpecIdeal.main_arg0) = m' ((c.tc : Thread Cert.OutWideSpecIdeal.nD Cert.OutWideSpecIdeal.τ).loc Cert.OutWideSpecIdeal.main_arg0)
          ∧ r.2.mem ((c.tc : Thread Cert.OutWideSpecIdeal.nD Cert.OutWideSpecIdeal.τ).loc Cert.OutWideSpecIdeal.main_arg1) = m' ((c.tc : Thread Cert.OutWideSpecIdeal.nD Cert.OutWideSpecIdeal.τ).loc Cert.OutWideSpecIdeal.main_arg1)
          ∧ r.2.mem ((c.tc : Thread Cert.OutWideSpecIdeal.nD Cert.OutWideSpecIdeal.τ).loc Cert.OutWideSpecIdeal.main_arg2) = m' ((c.tc : Thread Cert.OutWideSpecIdeal.nD Cert.OutWideSpecIdeal.τ).loc Cert.OutWideSpecIdeal.main_arg2))

def preserves_OutBias_OutBiasIdeal : Prop :=
  True

def algebraic_OutBiasIdeal_OutBiasSpecIdeal [hOutBiasIdeal : Cert.OutBiasIdeal.Facts] [hOutBiasSpecIdeal : Cert.OutBiasSpecIdeal.Facts] : Prop :=
  ∀ (m : (ℓ : Loc Cert.OutBiasIdeal.nD Cert.OutBiasIdeal.τ Cert.OutBiasIdeal.sig) → Buf (Elt Ideal) ℓ) (g : Dev Cert.OutBiasIdeal.nD → PrngReg)
    (m' : (ℓ : Loc Cert.OutBiasSpecIdeal.nD Cert.OutBiasSpecIdeal.τ Cert.OutBiasSpecIdeal.sig) → Buf (Elt Ideal) ℓ) (g' : Dev Cert.OutBiasSpecIdeal.nD → PrngReg), Pre_OutBiasIdeal m →
    (∀ c : Dev Cert.OutBiasIdeal.nD,
      m' ((c.tc : Thread Cert.OutBiasSpecIdeal.nD Cert.OutBiasSpecIdeal.τ).loc Cert.OutBiasSpecIdeal.main_arg0) = m ((c.tc : Thread Cert.OutBiasIdeal.nD Cert.OutBiasIdeal.τ).loc Cert.OutBiasIdeal.main_arg0)
      ∧ m' ((c.tc : Thread Cert.OutBiasSpecIdeal.nD Cert.OutBiasSpecIdeal.τ).loc Cert.OutBiasSpecIdeal.main_arg1) = m ((c.tc : Thread Cert.OutBiasIdeal.nD Cert.OutBiasIdeal.τ).loc Cert.OutBiasIdeal.main_arg1)
      ∧ m' ((c.tc : Thread Cert.OutBiasSpecIdeal.nD Cert.OutBiasSpecIdeal.τ).loc Cert.OutBiasSpecIdeal.main_arg2) = m ((c.tc : Thread Cert.OutBiasIdeal.nD Cert.OutBiasIdeal.τ).loc Cert.OutBiasIdeal.main_arg2)
      ∧ m' ((c.tc : Thread Cert.OutBiasSpecIdeal.nD Cert.OutBiasSpecIdeal.τ).loc Cert.OutBiasSpecIdeal.main_arg3) = m ((c.tc : Thread Cert.OutBiasIdeal.nD Cert.OutBiasIdeal.τ).loc Cert.OutBiasIdeal.main_arg3)) →
    ∃ (v0 : (c : Dev Cert.OutBiasIdeal.nD) → Buf (Elt Ideal) ((c.tc : Thread Cert.OutBiasIdeal.nD Cert.OutBiasIdeal.τ).loc Cert.OutBiasIdeal.main_v2)),
      θ_run (Cert.OutBiasIdeal.defs (F := Ideal)) (onTc (τ := Cert.OutBiasIdeal.τ) (Cert.OutBiasIdeal.main (F := Ideal))) ⟨m, fun _ => 0, g⟩ (fun r => ∀ c : Dev Cert.OutBiasIdeal.nD,
          r.2.mem ((c.tc : Thread Cert.OutBiasIdeal.nD Cert.OutBiasIdeal.τ).loc Cert.OutBiasIdeal.main_v2) = v0 c
          ∧ r.2.mem ((c.tc : Thread Cert.OutBiasIdeal.nD Cert.OutBiasIdeal.τ).loc Cert.OutBiasIdeal.main_arg0) = m ((c.tc : Thread Cert.OutBiasIdeal.nD Cert.OutBiasIdeal.τ).loc Cert.OutBiasIdeal.main_arg0)
          ∧ r.2.mem ((c.tc : Thread Cert.OutBiasIdeal.nD Cert.OutBiasIdeal.τ).loc Cert.OutBiasIdeal.main_arg1) = m ((c.tc : Thread Cert.OutBiasIdeal.nD Cert.OutBiasIdeal.τ).loc Cert.OutBiasIdeal.main_arg1)
          ∧ r.2.mem ((c.tc : Thread Cert.OutBiasIdeal.nD Cert.OutBiasIdeal.τ).loc Cert.OutBiasIdeal.main_arg2) = m ((c.tc : Thread Cert.OutBiasIdeal.nD Cert.OutBiasIdeal.τ).loc Cert.OutBiasIdeal.main_arg2)
          ∧ r.2.mem ((c.tc : Thread Cert.OutBiasIdeal.nD Cert.OutBiasIdeal.τ).loc Cert.OutBiasIdeal.main_arg3) = m ((c.tc : Thread Cert.OutBiasIdeal.nD Cert.OutBiasIdeal.τ).loc Cert.OutBiasIdeal.main_arg3))
      ∧ θ_run (Cert.OutBiasSpecIdeal.defs (F := Ideal)) (onTc (τ := Cert.OutBiasSpecIdeal.τ) (Cert.OutBiasSpecIdeal.main (F := Ideal))) ⟨m', fun _ => 0, g'⟩ (fun r => ∀ c : Dev Cert.OutBiasSpecIdeal.nD,
          r.2.mem ((c.tc : Thread Cert.OutBiasSpecIdeal.nD Cert.OutBiasSpecIdeal.τ).loc Cert.OutBiasSpecIdeal.main_v4) = v0 c
          ∧ r.2.mem ((c.tc : Thread Cert.OutBiasSpecIdeal.nD Cert.OutBiasSpecIdeal.τ).loc Cert.OutBiasSpecIdeal.main_arg0) = m' ((c.tc : Thread Cert.OutBiasSpecIdeal.nD Cert.OutBiasSpecIdeal.τ).loc Cert.OutBiasSpecIdeal.main_arg0)
          ∧ r.2.mem ((c.tc : Thread Cert.OutBiasSpecIdeal.nD Cert.OutBiasSpecIdeal.τ).loc Cert.OutBiasSpecIdeal.main_arg1) = m' ((c.tc : Thread Cert.OutBiasSpecIdeal.nD Cert.OutBiasSpecIdeal.τ).loc Cert.OutBiasSpecIdeal.main_arg1)
          ∧ r.2.mem ((c.tc : Thread Cert.OutBiasSpecIdeal.nD Cert.OutBiasSpecIdeal.τ).loc Cert.OutBiasSpecIdeal.main_arg2) = m' ((c.tc : Thread Cert.OutBiasSpecIdeal.nD Cert.OutBiasSpecIdeal.τ).loc Cert.OutBiasSpecIdeal.main_arg2)
          ∧ r.2.mem ((c.tc : Thread Cert.OutBiasSpecIdeal.nD Cert.OutBiasSpecIdeal.τ).loc Cert.OutBiasSpecIdeal.main_arg3) = m' ((c.tc : Thread Cert.OutBiasSpecIdeal.nD Cert.OutBiasSpecIdeal.τ).loc Cert.OutBiasSpecIdeal.main_arg3))

def preserves_OutNarrowDa_OutNarrowDaIdeal : Prop :=
  True

def algebraic_OutNarrowDaIdeal_OutNarrowDaSpecIdeal [hOutNarrowDaIdeal : Cert.OutNarrowDaIdeal.Facts] [hOutNarrowDaSpecIdeal : Cert.OutNarrowDaSpecIdeal.Facts] : Prop :=
  ∀ (m : (ℓ : Loc Cert.OutNarrowDaIdeal.nD Cert.OutNarrowDaIdeal.τ Cert.OutNarrowDaIdeal.sig) → Buf (Elt Ideal) ℓ) (g : Dev Cert.OutNarrowDaIdeal.nD → PrngReg)
    (m' : (ℓ : Loc Cert.OutNarrowDaSpecIdeal.nD Cert.OutNarrowDaSpecIdeal.τ Cert.OutNarrowDaSpecIdeal.sig) → Buf (Elt Ideal) ℓ) (g' : Dev Cert.OutNarrowDaSpecIdeal.nD → PrngReg), Pre_OutNarrowDaIdeal m →
    (∀ c : Dev Cert.OutNarrowDaIdeal.nD,
      m' ((c.tc : Thread Cert.OutNarrowDaSpecIdeal.nD Cert.OutNarrowDaSpecIdeal.τ).loc Cert.OutNarrowDaSpecIdeal.main_arg0) = m ((c.tc : Thread Cert.OutNarrowDaIdeal.nD Cert.OutNarrowDaIdeal.τ).loc Cert.OutNarrowDaIdeal.main_arg0)
      ∧ m' ((c.tc : Thread Cert.OutNarrowDaSpecIdeal.nD Cert.OutNarrowDaSpecIdeal.τ).loc Cert.OutNarrowDaSpecIdeal.main_arg1) = m ((c.tc : Thread Cert.OutNarrowDaIdeal.nD Cert.OutNarrowDaIdeal.τ).loc Cert.OutNarrowDaIdeal.main_arg1)) →
    ∃ (v0 : (c : Dev Cert.OutNarrowDaIdeal.nD) → Buf (Elt Ideal) ((c.tc : Thread Cert.OutNarrowDaIdeal.nD Cert.OutNarrowDaIdeal.τ).loc Cert.OutNarrowDaIdeal.main_v1)),
      θ_run (Cert.OutNarrowDaIdeal.defs (F := Ideal)) (onTc (τ := Cert.OutNarrowDaIdeal.τ) (Cert.OutNarrowDaIdeal.main (F := Ideal))) ⟨m, fun _ => 0, g⟩ (fun r => ∀ c : Dev Cert.OutNarrowDaIdeal.nD,
          r.2.mem ((c.tc : Thread Cert.OutNarrowDaIdeal.nD Cert.OutNarrowDaIdeal.τ).loc Cert.OutNarrowDaIdeal.main_v1) = v0 c
          ∧ r.2.mem ((c.tc : Thread Cert.OutNarrowDaIdeal.nD Cert.OutNarrowDaIdeal.τ).loc Cert.OutNarrowDaIdeal.main_arg0) = m ((c.tc : Thread Cert.OutNarrowDaIdeal.nD Cert.OutNarrowDaIdeal.τ).loc Cert.OutNarrowDaIdeal.main_arg0)
          ∧ r.2.mem ((c.tc : Thread Cert.OutNarrowDaIdeal.nD Cert.OutNarrowDaIdeal.τ).loc Cert.OutNarrowDaIdeal.main_arg1) = m ((c.tc : Thread Cert.OutNarrowDaIdeal.nD Cert.OutNarrowDaIdeal.τ).loc Cert.OutNarrowDaIdeal.main_arg1))
      ∧ θ_run (Cert.OutNarrowDaSpecIdeal.defs (F := Ideal)) (onTc (τ := Cert.OutNarrowDaSpecIdeal.τ) (Cert.OutNarrowDaSpecIdeal.main (F := Ideal))) ⟨m', fun _ => 0, g'⟩ (fun r => ∀ c : Dev Cert.OutNarrowDaSpecIdeal.nD,
          r.2.mem ((c.tc : Thread Cert.OutNarrowDaSpecIdeal.nD Cert.OutNarrowDaSpecIdeal.τ).loc Cert.OutNarrowDaSpecIdeal.main_v2) = v0 c
          ∧ r.2.mem ((c.tc : Thread Cert.OutNarrowDaSpecIdeal.nD Cert.OutNarrowDaSpecIdeal.τ).loc Cert.OutNarrowDaSpecIdeal.main_arg0) = m' ((c.tc : Thread Cert.OutNarrowDaSpecIdeal.nD Cert.OutNarrowDaSpecIdeal.τ).loc Cert.OutNarrowDaSpecIdeal.main_arg0)
          ∧ r.2.mem ((c.tc : Thread Cert.OutNarrowDaSpecIdeal.nD Cert.OutNarrowDaSpecIdeal.τ).loc Cert.OutNarrowDaSpecIdeal.main_arg1) = m' ((c.tc : Thread Cert.OutNarrowDaSpecIdeal.nD Cert.OutNarrowDaSpecIdeal.τ).loc Cert.OutNarrowDaSpecIdeal.main_arg1))

def preserves_OutWideDa_OutWideDaIdeal : Prop :=
  True

def algebraic_OutWideDaIdeal_OutWideDaSpecIdeal [hOutWideDaIdeal : Cert.OutWideDaIdeal.Facts] [hOutWideDaSpecIdeal : Cert.OutWideDaSpecIdeal.Facts] : Prop :=
  ∀ (m : (ℓ : Loc Cert.OutWideDaIdeal.nD Cert.OutWideDaIdeal.τ Cert.OutWideDaIdeal.sig) → Buf (Elt Ideal) ℓ) (g : Dev Cert.OutWideDaIdeal.nD → PrngReg)
    (m' : (ℓ : Loc Cert.OutWideDaSpecIdeal.nD Cert.OutWideDaSpecIdeal.τ Cert.OutWideDaSpecIdeal.sig) → Buf (Elt Ideal) ℓ) (g' : Dev Cert.OutWideDaSpecIdeal.nD → PrngReg), Pre_OutWideDaIdeal m →
    (∀ c : Dev Cert.OutWideDaIdeal.nD,
      m' ((c.tc : Thread Cert.OutWideDaSpecIdeal.nD Cert.OutWideDaSpecIdeal.τ).loc Cert.OutWideDaSpecIdeal.main_arg0) = m ((c.tc : Thread Cert.OutWideDaIdeal.nD Cert.OutWideDaIdeal.τ).loc Cert.OutWideDaIdeal.main_arg0)
      ∧ m' ((c.tc : Thread Cert.OutWideDaSpecIdeal.nD Cert.OutWideDaSpecIdeal.τ).loc Cert.OutWideDaSpecIdeal.main_arg1) = m ((c.tc : Thread Cert.OutWideDaIdeal.nD Cert.OutWideDaIdeal.τ).loc Cert.OutWideDaIdeal.main_arg1)) →
    ∃ (v0 : (c : Dev Cert.OutWideDaIdeal.nD) → Buf (Elt Ideal) ((c.tc : Thread Cert.OutWideDaIdeal.nD Cert.OutWideDaIdeal.τ).loc Cert.OutWideDaIdeal.main_v1)),
      θ_run (Cert.OutWideDaIdeal.defs (F := Ideal)) (onTc (τ := Cert.OutWideDaIdeal.τ) (Cert.OutWideDaIdeal.main (F := Ideal))) ⟨m, fun _ => 0, g⟩ (fun r => ∀ c : Dev Cert.OutWideDaIdeal.nD,
          r.2.mem ((c.tc : Thread Cert.OutWideDaIdeal.nD Cert.OutWideDaIdeal.τ).loc Cert.OutWideDaIdeal.main_v1) = v0 c
          ∧ r.2.mem ((c.tc : Thread Cert.OutWideDaIdeal.nD Cert.OutWideDaIdeal.τ).loc Cert.OutWideDaIdeal.main_arg0) = m ((c.tc : Thread Cert.OutWideDaIdeal.nD Cert.OutWideDaIdeal.τ).loc Cert.OutWideDaIdeal.main_arg0)
          ∧ r.2.mem ((c.tc : Thread Cert.OutWideDaIdeal.nD Cert.OutWideDaIdeal.τ).loc Cert.OutWideDaIdeal.main_arg1) = m ((c.tc : Thread Cert.OutWideDaIdeal.nD Cert.OutWideDaIdeal.τ).loc Cert.OutWideDaIdeal.main_arg1))
      ∧ θ_run (Cert.OutWideDaSpecIdeal.defs (F := Ideal)) (onTc (τ := Cert.OutWideDaSpecIdeal.τ) (Cert.OutWideDaSpecIdeal.main (F := Ideal))) ⟨m', fun _ => 0, g'⟩ (fun r => ∀ c : Dev Cert.OutWideDaSpecIdeal.nD,
          r.2.mem ((c.tc : Thread Cert.OutWideDaSpecIdeal.nD Cert.OutWideDaSpecIdeal.τ).loc Cert.OutWideDaSpecIdeal.main_v2) = v0 c
          ∧ r.2.mem ((c.tc : Thread Cert.OutWideDaSpecIdeal.nD Cert.OutWideDaSpecIdeal.τ).loc Cert.OutWideDaSpecIdeal.main_arg0) = m' ((c.tc : Thread Cert.OutWideDaSpecIdeal.nD Cert.OutWideDaSpecIdeal.τ).loc Cert.OutWideDaSpecIdeal.main_arg0)
          ∧ r.2.mem ((c.tc : Thread Cert.OutWideDaSpecIdeal.nD Cert.OutWideDaSpecIdeal.τ).loc Cert.OutWideDaSpecIdeal.main_arg1) = m' ((c.tc : Thread Cert.OutWideDaSpecIdeal.nD Cert.OutWideDaSpecIdeal.τ).loc Cert.OutWideDaSpecIdeal.main_arg1))

def preserves_OutNarrowDw_OutNarrowDwIdeal : Prop :=
  True

def algebraic_OutNarrowDwIdeal_OutNarrowDwSpecIdeal [hOutNarrowDwIdeal : Cert.OutNarrowDwIdeal.Facts] [hOutNarrowDwSpecIdeal : Cert.OutNarrowDwSpecIdeal.Facts] : Prop :=
  ∀ (m : (ℓ : Loc Cert.OutNarrowDwIdeal.nD Cert.OutNarrowDwIdeal.τ Cert.OutNarrowDwIdeal.sig) → Buf (Elt Ideal) ℓ) (g : Dev Cert.OutNarrowDwIdeal.nD → PrngReg)
    (m' : (ℓ : Loc Cert.OutNarrowDwSpecIdeal.nD Cert.OutNarrowDwSpecIdeal.τ Cert.OutNarrowDwSpecIdeal.sig) → Buf (Elt Ideal) ℓ) (g' : Dev Cert.OutNarrowDwSpecIdeal.nD → PrngReg), Pre_OutNarrowDwIdeal m →
    (∀ c : Dev Cert.OutNarrowDwIdeal.nD,
      m' ((c.tc : Thread Cert.OutNarrowDwSpecIdeal.nD Cert.OutNarrowDwSpecIdeal.τ).loc Cert.OutNarrowDwSpecIdeal.main_arg0) = m ((c.tc : Thread Cert.OutNarrowDwIdeal.nD Cert.OutNarrowDwIdeal.τ).loc Cert.OutNarrowDwIdeal.main_arg0)
      ∧ m' ((c.tc : Thread Cert.OutNarrowDwSpecIdeal.nD Cert.OutNarrowDwSpecIdeal.τ).loc Cert.OutNarrowDwSpecIdeal.main_arg1) = m ((c.tc : Thread Cert.OutNarrowDwIdeal.nD Cert.OutNarrowDwIdeal.τ).loc Cert.OutNarrowDwIdeal.main_arg1)) →
    ∃ (v0 : (c : Dev Cert.OutNarrowDwIdeal.nD) → Buf (Elt Ideal) ((c.tc : Thread Cert.OutNarrowDwIdeal.nD Cert.OutNarrowDwIdeal.τ).loc Cert.OutNarrowDwIdeal.main_v0)),
      θ_run (Cert.OutNarrowDwIdeal.defs (F := Ideal)) (onTc (τ := Cert.OutNarrowDwIdeal.τ) (Cert.OutNarrowDwIdeal.main (F := Ideal))) ⟨m, fun _ => 0, g⟩ (fun r => ∀ c : Dev Cert.OutNarrowDwIdeal.nD,
          r.2.mem ((c.tc : Thread Cert.OutNarrowDwIdeal.nD Cert.OutNarrowDwIdeal.τ).loc Cert.OutNarrowDwIdeal.main_v0) = v0 c
          ∧ r.2.mem ((c.tc : Thread Cert.OutNarrowDwIdeal.nD Cert.OutNarrowDwIdeal.τ).loc Cert.OutNarrowDwIdeal.main_arg0) = m ((c.tc : Thread Cert.OutNarrowDwIdeal.nD Cert.OutNarrowDwIdeal.τ).loc Cert.OutNarrowDwIdeal.main_arg0)
          ∧ r.2.mem ((c.tc : Thread Cert.OutNarrowDwIdeal.nD Cert.OutNarrowDwIdeal.τ).loc Cert.OutNarrowDwIdeal.main_arg1) = m ((c.tc : Thread Cert.OutNarrowDwIdeal.nD Cert.OutNarrowDwIdeal.τ).loc Cert.OutNarrowDwIdeal.main_arg1))
      ∧ θ_run (Cert.OutNarrowDwSpecIdeal.defs (F := Ideal)) (onTc (τ := Cert.OutNarrowDwSpecIdeal.τ) (Cert.OutNarrowDwSpecIdeal.main (F := Ideal))) ⟨m', fun _ => 0, g'⟩ (fun r => ∀ c : Dev Cert.OutNarrowDwSpecIdeal.nD,
          r.2.mem ((c.tc : Thread Cert.OutNarrowDwSpecIdeal.nD Cert.OutNarrowDwSpecIdeal.τ).loc Cert.OutNarrowDwSpecIdeal.main_v3) = v0 c
          ∧ r.2.mem ((c.tc : Thread Cert.OutNarrowDwSpecIdeal.nD Cert.OutNarrowDwSpecIdeal.τ).loc Cert.OutNarrowDwSpecIdeal.main_arg0) = m' ((c.tc : Thread Cert.OutNarrowDwSpecIdeal.nD Cert.OutNarrowDwSpecIdeal.τ).loc Cert.OutNarrowDwSpecIdeal.main_arg0)
          ∧ r.2.mem ((c.tc : Thread Cert.OutNarrowDwSpecIdeal.nD Cert.OutNarrowDwSpecIdeal.τ).loc Cert.OutNarrowDwSpecIdeal.main_arg1) = m' ((c.tc : Thread Cert.OutNarrowDwSpecIdeal.nD Cert.OutNarrowDwSpecIdeal.τ).loc Cert.OutNarrowDwSpecIdeal.main_arg1))

def preserves_OutWideDw_OutWideDwIdeal : Prop :=
  True

def algebraic_OutWideDwIdeal_OutWideDwSpecIdeal [hOutWideDwIdeal : Cert.OutWideDwIdeal.Facts] [hOutWideDwSpecIdeal : Cert.OutWideDwSpecIdeal.Facts] : Prop :=
  ∀ (m : (ℓ : Loc Cert.OutWideDwIdeal.nD Cert.OutWideDwIdeal.τ Cert.OutWideDwIdeal.sig) → Buf (Elt Ideal) ℓ) (g : Dev Cert.OutWideDwIdeal.nD → PrngReg)
    (m' : (ℓ : Loc Cert.OutWideDwSpecIdeal.nD Cert.OutWideDwSpecIdeal.τ Cert.OutWideDwSpecIdeal.sig) → Buf (Elt Ideal) ℓ) (g' : Dev Cert.OutWideDwSpecIdeal.nD → PrngReg), Pre_OutWideDwIdeal m →
    (∀ c : Dev Cert.OutWideDwIdeal.nD,
      m' ((c.tc : Thread Cert.OutWideDwSpecIdeal.nD Cert.OutWideDwSpecIdeal.τ).loc Cert.OutWideDwSpecIdeal.main_arg0) = m ((c.tc : Thread Cert.OutWideDwIdeal.nD Cert.OutWideDwIdeal.τ).loc Cert.OutWideDwIdeal.main_arg0)
      ∧ m' ((c.tc : Thread Cert.OutWideDwSpecIdeal.nD Cert.OutWideDwSpecIdeal.τ).loc Cert.OutWideDwSpecIdeal.main_arg1) = m ((c.tc : Thread Cert.OutWideDwIdeal.nD Cert.OutWideDwIdeal.τ).loc Cert.OutWideDwIdeal.main_arg1)) →
    ∃ (v0 : (c : Dev Cert.OutWideDwIdeal.nD) → Buf (Elt Ideal) ((c.tc : Thread Cert.OutWideDwIdeal.nD Cert.OutWideDwIdeal.τ).loc Cert.OutWideDwIdeal.main_v0)),
      θ_run (Cert.OutWideDwIdeal.defs (F := Ideal)) (onTc (τ := Cert.OutWideDwIdeal.τ) (Cert.OutWideDwIdeal.main (F := Ideal))) ⟨m, fun _ => 0, g⟩ (fun r => ∀ c : Dev Cert.OutWideDwIdeal.nD,
          r.2.mem ((c.tc : Thread Cert.OutWideDwIdeal.nD Cert.OutWideDwIdeal.τ).loc Cert.OutWideDwIdeal.main_v0) = v0 c
          ∧ r.2.mem ((c.tc : Thread Cert.OutWideDwIdeal.nD Cert.OutWideDwIdeal.τ).loc Cert.OutWideDwIdeal.main_arg0) = m ((c.tc : Thread Cert.OutWideDwIdeal.nD Cert.OutWideDwIdeal.τ).loc Cert.OutWideDwIdeal.main_arg0)
          ∧ r.2.mem ((c.tc : Thread Cert.OutWideDwIdeal.nD Cert.OutWideDwIdeal.τ).loc Cert.OutWideDwIdeal.main_arg1) = m ((c.tc : Thread Cert.OutWideDwIdeal.nD Cert.OutWideDwIdeal.τ).loc Cert.OutWideDwIdeal.main_arg1))
      ∧ θ_run (Cert.OutWideDwSpecIdeal.defs (F := Ideal)) (onTc (τ := Cert.OutWideDwSpecIdeal.τ) (Cert.OutWideDwSpecIdeal.main (F := Ideal))) ⟨m', fun _ => 0, g'⟩ (fun r => ∀ c : Dev Cert.OutWideDwSpecIdeal.nD,
          r.2.mem ((c.tc : Thread Cert.OutWideDwSpecIdeal.nD Cert.OutWideDwSpecIdeal.τ).loc Cert.OutWideDwSpecIdeal.main_v3) = v0 c
          ∧ r.2.mem ((c.tc : Thread Cert.OutWideDwSpecIdeal.nD Cert.OutWideDwSpecIdeal.τ).loc Cert.OutWideDwSpecIdeal.main_arg0) = m' ((c.tc : Thread Cert.OutWideDwSpecIdeal.nD Cert.OutWideDwSpecIdeal.τ).loc Cert.OutWideDwSpecIdeal.main_arg0)
          ∧ r.2.mem ((c.tc : Thread Cert.OutWideDwSpecIdeal.nD Cert.OutWideDwSpecIdeal.τ).loc Cert.OutWideDwSpecIdeal.main_arg1) = m' ((c.tc : Thread Cert.OutWideDwSpecIdeal.nD Cert.OutWideDwSpecIdeal.τ).loc Cert.OutWideDwSpecIdeal.main_arg1))

def preserves_Norm_NormIdeal : Prop :=
  True

def algebraic_NormIdeal_NormSpecIdeal [hNormIdeal : Cert.NormIdeal.Facts] [hNormSpecIdeal : Cert.NormSpecIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormSpecIdeal.nD Cert.NormSpecIdeal.τ Cert.NormSpecIdeal.sig) → Buf (Elt Ideal) ℓ) (g' : Dev Cert.NormSpecIdeal.nD → PrngReg), Pre_NormIdeal m →
    (∀ c : Dev Cert.NormIdeal.nD,
      m' ((c.tc : Thread Cert.NormSpecIdeal.nD Cert.NormSpecIdeal.τ).loc Cert.NormSpecIdeal.main_arg0) = m ((c.tc : Thread Cert.NormIdeal.nD Cert.NormIdeal.τ).loc Cert.NormIdeal.main_arg0)
      ∧ m' ((c.tc : Thread Cert.NormSpecIdeal.nD Cert.NormSpecIdeal.τ).loc Cert.NormSpecIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormSpecIdeal.defs (F := Ideal)) (onTc (τ := Cert.NormSpecIdeal.τ) (Cert.NormSpecIdeal.main (F := Ideal))) ⟨m', fun _ => 0, g'⟩ (fun r => ∀ c : Dev Cert.NormSpecIdeal.nD,
          r.2.mem ((c.tc : Thread Cert.NormSpecIdeal.nD Cert.NormSpecIdeal.τ).loc Cert.NormSpecIdeal.main_v13) = v0 c
          ∧ r.2.mem ((c.tc : Thread Cert.NormSpecIdeal.nD Cert.NormSpecIdeal.τ).loc Cert.NormSpecIdeal.main_arg0) = m' ((c.tc : Thread Cert.NormSpecIdeal.nD Cert.NormSpecIdeal.τ).loc Cert.NormSpecIdeal.main_arg0)
          ∧ r.2.mem ((c.tc : Thread Cert.NormSpecIdeal.nD Cert.NormSpecIdeal.τ).loc Cert.NormSpecIdeal.main_arg1) = m' ((c.tc : Thread Cert.NormSpecIdeal.nD Cert.NormSpecIdeal.τ).loc Cert.NormSpecIdeal.main_arg1))

def preserves_Gates_GatesIdeal : Prop :=
  True

def algebraic_GatesIdeal_GatesSpecIdeal [hGatesIdeal : Cert.GatesIdeal.Facts] [hGatesSpecIdeal : Cert.GatesSpecIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesSpecIdeal.nD Cert.GatesSpecIdeal.τ Cert.GatesSpecIdeal.sig) → Buf (Elt Ideal) ℓ) (g' : Dev Cert.GatesSpecIdeal.nD → PrngReg), Pre_GatesIdeal m →
    (∀ c : Dev Cert.GatesIdeal.nD,
      m' ((c.tc : Thread Cert.GatesSpecIdeal.nD Cert.GatesSpecIdeal.τ).loc Cert.GatesSpecIdeal.main_arg0) = m ((c.tc : Thread Cert.GatesIdeal.nD Cert.GatesIdeal.τ).loc Cert.GatesIdeal.main_arg0)
      ∧ m' ((c.tc : Thread Cert.GatesSpecIdeal.nD Cert.GatesSpecIdeal.τ).loc Cert.GatesSpecIdeal.main_arg1) = m ((c.tc : Thread Cert.GatesIdeal.nD Cert.GatesIdeal.τ).loc Cert.GatesIdeal.main_arg1)
      ∧ m' ((c.tc : Thread Cert.GatesSpecIdeal.nD Cert.GatesSpecIdeal.τ).loc Cert.GatesSpecIdeal.main_arg2) = m ((c.tc : Thread Cert.GatesIdeal.nD Cert.GatesIdeal.τ).loc Cert.GatesIdeal.main_arg2)
      ∧ m' ((c.tc : Thread Cert.GatesSpecIdeal.nD Cert.GatesSpecIdeal.τ).loc Cert.GatesSpecIdeal.main_arg3) = m ((c.tc : Thread Cert.GatesIdeal.nD Cert.GatesIdeal.τ).loc Cert.GatesIdeal.main_arg3)
      ∧ m' ((c.tc : Thread Cert.GatesSpecIdeal.nD Cert.GatesSpecIdeal.τ).loc Cert.GatesSpecIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v2_0)) (v1 : (c : Dev Cert.GatesIdeal.nD) → Buf (Elt Ideal) ((c.tc : Thread Cert.GatesIdeal.nD Cert.GatesIdeal.τ).loc Cert.GatesIdeal.main_v2_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2_0) = v0 c
          ∧ r.2.mem ((c.tc : Thread Cert.GatesIdeal.nD Cert.GatesIdeal.τ).loc Cert.GatesIdeal.main_v2_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesSpecIdeal.defs (F := Ideal)) (onTc (τ := Cert.GatesSpecIdeal.τ) (Cert.GatesSpecIdeal.main (F := Ideal))) ⟨m', fun _ => 0, g'⟩ (fun r => ∀ c : Dev Cert.GatesSpecIdeal.nD,
          r.2.mem ((c.tc : Thread Cert.GatesSpecIdeal.nD Cert.GatesSpecIdeal.τ).loc Cert.GatesSpecIdeal.main_v6) = v0 c
          ∧ r.2.mem ((c.tc : Thread Cert.GatesSpecIdeal.nD Cert.GatesSpecIdeal.τ).loc Cert.GatesSpecIdeal.main_v13) = v1 c
          ∧ r.2.mem ((c.tc : Thread Cert.GatesSpecIdeal.nD Cert.GatesSpecIdeal.τ).loc Cert.GatesSpecIdeal.main_arg0) = m' ((c.tc : Thread Cert.GatesSpecIdeal.nD Cert.GatesSpecIdeal.τ).loc Cert.GatesSpecIdeal.main_arg0)
          ∧ r.2.mem ((c.tc : Thread Cert.GatesSpecIdeal.nD Cert.GatesSpecIdeal.τ).loc Cert.GatesSpecIdeal.main_arg1) = m' ((c.tc : Thread Cert.GatesSpecIdeal.nD Cert.GatesSpecIdeal.τ).loc Cert.GatesSpecIdeal.main_arg1)
          ∧ r.2.mem ((c.tc : Thread Cert.GatesSpecIdeal.nD Cert.GatesSpecIdeal.τ).loc Cert.GatesSpecIdeal.main_arg2) = m' ((c.tc : Thread Cert.GatesSpecIdeal.nD Cert.GatesSpecIdeal.τ).loc Cert.GatesSpecIdeal.main_arg2)
          ∧ r.2.mem ((c.tc : Thread Cert.GatesSpecIdeal.nD Cert.GatesSpecIdeal.τ).loc Cert.GatesSpecIdeal.main_arg3) = m' ((c.tc : Thread Cert.GatesSpecIdeal.nD Cert.GatesSpecIdeal.τ).loc Cert.GatesSpecIdeal.main_arg3)
          ∧ r.2.mem ((c.tc : Thread Cert.GatesSpecIdeal.nD Cert.GatesSpecIdeal.τ).loc Cert.GatesSpecIdeal.main_arg4) = m' ((c.tc : Thread Cert.GatesSpecIdeal.nD Cert.GatesSpecIdeal.τ).loc Cert.GatesSpecIdeal.main_arg4))

def preserves_GatesDx_GatesDxIdeal : Prop :=
  True

def algebraic_GatesDxIdeal_GatesDxSpecIdeal [hGatesDxIdeal : Cert.GatesDxIdeal.Facts] [hGatesDxSpecIdeal : Cert.GatesDxSpecIdeal.Facts] : Prop :=
  ∀ (m : (ℓ : Loc Cert.GatesDxIdeal.nD Cert.GatesDxIdeal.τ Cert.GatesDxIdeal.sig) → Buf (Elt Ideal) ℓ) (g : Dev Cert.GatesDxIdeal.nD → PrngReg)
    (m' : (ℓ : Loc Cert.GatesDxSpecIdeal.nD Cert.GatesDxSpecIdeal.τ Cert.GatesDxSpecIdeal.sig) → Buf (Elt Ideal) ℓ) (g' : Dev Cert.GatesDxSpecIdeal.nD → PrngReg), Pre_GatesDxIdeal m →
    (∀ c : Dev Cert.GatesDxIdeal.nD,
      m' ((c.tc : Thread Cert.GatesDxSpecIdeal.nD Cert.GatesDxSpecIdeal.τ).loc Cert.GatesDxSpecIdeal.main_arg0) = m ((c.tc : Thread Cert.GatesDxIdeal.nD Cert.GatesDxIdeal.τ).loc Cert.GatesDxIdeal.main_arg0)
      ∧ m' ((c.tc : Thread Cert.GatesDxSpecIdeal.nD Cert.GatesDxSpecIdeal.τ).loc Cert.GatesDxSpecIdeal.main_arg1) = m ((c.tc : Thread Cert.GatesDxIdeal.nD Cert.GatesDxIdeal.τ).loc Cert.GatesDxIdeal.main_arg1)
      ∧ m' ((c.tc : Thread Cert.GatesDxSpecIdeal.nD Cert.GatesDxSpecIdeal.τ).loc Cert.GatesDxSpecIdeal.main_arg2) = m ((c.tc : Thread Cert.GatesDxIdeal.nD Cert.GatesDxIdeal.τ).loc Cert.GatesDxIdeal.main_arg2)
      ∧ m' ((c.tc : Thread Cert.GatesDxSpecIdeal.nD Cert.GatesDxSpecIdeal.τ).loc Cert.GatesDxSpecIdeal.main_arg3) = m ((c.tc : Thread Cert.GatesDxIdeal.nD Cert.GatesDxIdeal.τ).loc Cert.GatesDxIdeal.main_arg3)
      ∧ m' ((c.tc : Thread Cert.GatesDxSpecIdeal.nD Cert.GatesDxSpecIdeal.τ).loc Cert.GatesDxSpecIdeal.main_arg4) = m ((c.tc : Thread Cert.GatesDxIdeal.nD Cert.GatesDxIdeal.τ).loc Cert.GatesDxIdeal.main_arg4)) →
    ∃ (v0 : (c : Dev Cert.GatesDxIdeal.nD) → Buf (Elt Ideal) ((c.tc : Thread Cert.GatesDxIdeal.nD Cert.GatesDxIdeal.τ).loc Cert.GatesDxIdeal.main_v0)),
      θ_run (Cert.GatesDxIdeal.defs (F := Ideal)) (onTc (τ := Cert.GatesDxIdeal.τ) (Cert.GatesDxIdeal.main (F := Ideal))) ⟨m, fun _ => 0, g⟩ (fun r => ∀ c : Dev Cert.GatesDxIdeal.nD,
          r.2.mem ((c.tc : Thread Cert.GatesDxIdeal.nD Cert.GatesDxIdeal.τ).loc Cert.GatesDxIdeal.main_v0) = v0 c
          ∧ r.2.mem ((c.tc : Thread Cert.GatesDxIdeal.nD Cert.GatesDxIdeal.τ).loc Cert.GatesDxIdeal.main_arg0) = m ((c.tc : Thread Cert.GatesDxIdeal.nD Cert.GatesDxIdeal.τ).loc Cert.GatesDxIdeal.main_arg0)
          ∧ r.2.mem ((c.tc : Thread Cert.GatesDxIdeal.nD Cert.GatesDxIdeal.τ).loc Cert.GatesDxIdeal.main_arg1) = m ((c.tc : Thread Cert.GatesDxIdeal.nD Cert.GatesDxIdeal.τ).loc Cert.GatesDxIdeal.main_arg1)
          ∧ r.2.mem ((c.tc : Thread Cert.GatesDxIdeal.nD Cert.GatesDxIdeal.τ).loc Cert.GatesDxIdeal.main_arg2) = m ((c.tc : Thread Cert.GatesDxIdeal.nD Cert.GatesDxIdeal.τ).loc Cert.GatesDxIdeal.main_arg2)
          ∧ r.2.mem ((c.tc : Thread Cert.GatesDxIdeal.nD Cert.GatesDxIdeal.τ).loc Cert.GatesDxIdeal.main_arg3) = m ((c.tc : Thread Cert.GatesDxIdeal.nD Cert.GatesDxIdeal.τ).loc Cert.GatesDxIdeal.main_arg3)
          ∧ r.2.mem ((c.tc : Thread Cert.GatesDxIdeal.nD Cert.GatesDxIdeal.τ).loc Cert.GatesDxIdeal.main_arg4) = m ((c.tc : Thread Cert.GatesDxIdeal.nD Cert.GatesDxIdeal.τ).loc Cert.GatesDxIdeal.main_arg4))
      ∧ θ_run (Cert.GatesDxSpecIdeal.defs (F := Ideal)) (onTc (τ := Cert.GatesDxSpecIdeal.τ) (Cert.GatesDxSpecIdeal.main (F := Ideal))) ⟨m', fun _ => 0, g'⟩ (fun r => ∀ c : Dev Cert.GatesDxSpecIdeal.nD,
          r.2.mem ((c.tc : Thread Cert.GatesDxSpecIdeal.nD Cert.GatesDxSpecIdeal.τ).loc Cert.GatesDxSpecIdeal.main_v24) = v0 c
          ∧ r.2.mem ((c.tc : Thread Cert.GatesDxSpecIdeal.nD Cert.GatesDxSpecIdeal.τ).loc Cert.GatesDxSpecIdeal.main_arg0) = m' ((c.tc : Thread Cert.GatesDxSpecIdeal.nD Cert.GatesDxSpecIdeal.τ).loc Cert.GatesDxSpecIdeal.main_arg0)
          ∧ r.2.mem ((c.tc : Thread Cert.GatesDxSpecIdeal.nD Cert.GatesDxSpecIdeal.τ).loc Cert.GatesDxSpecIdeal.main_arg1) = m' ((c.tc : Thread Cert.GatesDxSpecIdeal.nD Cert.GatesDxSpecIdeal.τ).loc Cert.GatesDxSpecIdeal.main_arg1)
          ∧ r.2.mem ((c.tc : Thread Cert.GatesDxSpecIdeal.nD Cert.GatesDxSpecIdeal.τ).loc Cert.GatesDxSpecIdeal.main_arg2) = m' ((c.tc : Thread Cert.GatesDxSpecIdeal.nD Cert.GatesDxSpecIdeal.τ).loc Cert.GatesDxSpecIdeal.main_arg2)
          ∧ r.2.mem ((c.tc : Thread Cert.GatesDxSpecIdeal.nD Cert.GatesDxSpecIdeal.τ).loc Cert.GatesDxSpecIdeal.main_arg3) = m' ((c.tc : Thread Cert.GatesDxSpecIdeal.nD Cert.GatesDxSpecIdeal.τ).loc Cert.GatesDxSpecIdeal.main_arg3)
          ∧ r.2.mem ((c.tc : Thread Cert.GatesDxSpecIdeal.nD Cert.GatesDxSpecIdeal.τ).loc Cert.GatesDxSpecIdeal.main_arg4) = m' ((c.tc : Thread Cert.GatesDxSpecIdeal.nD Cert.GatesDxSpecIdeal.τ).loc Cert.GatesDxSpecIdeal.main_arg4))

def preserves_GatesDw_GatesDwIdeal : Prop :=
  True

def algebraic_GatesDwIdeal_GatesDwSpecIdeal [hGatesDwIdeal : Cert.GatesDwIdeal.Facts] [hGatesDwSpecIdeal : Cert.GatesDwSpecIdeal.Facts] : Prop :=
  ∀ (m : (ℓ : Loc Cert.GatesDwIdeal.nD Cert.GatesDwIdeal.τ Cert.GatesDwIdeal.sig) → Buf (Elt Ideal) ℓ) (g : Dev Cert.GatesDwIdeal.nD → PrngReg)
    (m' : (ℓ : Loc Cert.GatesDwSpecIdeal.nD Cert.GatesDwSpecIdeal.τ Cert.GatesDwSpecIdeal.sig) → Buf (Elt Ideal) ℓ) (g' : Dev Cert.GatesDwSpecIdeal.nD → PrngReg), Pre_GatesDwIdeal m →
    (∀ c : Dev Cert.GatesDwIdeal.nD,
      m' ((c.tc : Thread Cert.GatesDwSpecIdeal.nD Cert.GatesDwSpecIdeal.τ).loc Cert.GatesDwSpecIdeal.main_arg0) = m ((c.tc : Thread Cert.GatesDwIdeal.nD Cert.GatesDwIdeal.τ).loc Cert.GatesDwIdeal.main_arg0)
      ∧ m' ((c.tc : Thread Cert.GatesDwSpecIdeal.nD Cert.GatesDwSpecIdeal.τ).loc Cert.GatesDwSpecIdeal.main_arg1) = m ((c.tc : Thread Cert.GatesDwIdeal.nD Cert.GatesDwIdeal.τ).loc Cert.GatesDwIdeal.main_arg1)
      ∧ m' ((c.tc : Thread Cert.GatesDwSpecIdeal.nD Cert.GatesDwSpecIdeal.τ).loc Cert.GatesDwSpecIdeal.main_arg2) = m ((c.tc : Thread Cert.GatesDwIdeal.nD Cert.GatesDwIdeal.τ).loc Cert.GatesDwIdeal.main_arg2)) →
    ∃ (v0 : (c : Dev Cert.GatesDwIdeal.nD) → Buf (Elt Ideal) ((c.tc : Thread Cert.GatesDwIdeal.nD Cert.GatesDwIdeal.τ).loc Cert.GatesDwIdeal.main_v0_0)) (v1 : (c : Dev Cert.GatesDwIdeal.nD) → Buf (Elt Ideal) ((c.tc : Thread Cert.GatesDwIdeal.nD Cert.GatesDwIdeal.τ).loc Cert.GatesDwIdeal.main_v0_1)) (v2 : (c : Dev Cert.GatesDwIdeal.nD) → Buf (Elt Ideal) ((c.tc : Thread Cert.GatesDwIdeal.nD Cert.GatesDwIdeal.τ).loc Cert.GatesDwIdeal.main_v0_2)) (v3 : (c : Dev Cert.GatesDwIdeal.nD) → Buf (Elt Ideal) ((c.tc : Thread Cert.GatesDwIdeal.nD Cert.GatesDwIdeal.τ).loc Cert.GatesDwIdeal.main_v0_3)),
      θ_run (Cert.GatesDwIdeal.defs (F := Ideal)) (onTc (τ := Cert.GatesDwIdeal.τ) (Cert.GatesDwIdeal.main (F := Ideal))) ⟨m, fun _ => 0, g⟩ (fun r => ∀ c : Dev Cert.GatesDwIdeal.nD,
          r.2.mem ((c.tc : Thread Cert.GatesDwIdeal.nD Cert.GatesDwIdeal.τ).loc Cert.GatesDwIdeal.main_v0_0) = v0 c
          ∧ r.2.mem ((c.tc : Thread Cert.GatesDwIdeal.nD Cert.GatesDwIdeal.τ).loc Cert.GatesDwIdeal.main_v0_1) = v1 c
          ∧ r.2.mem ((c.tc : Thread Cert.GatesDwIdeal.nD Cert.GatesDwIdeal.τ).loc Cert.GatesDwIdeal.main_v0_2) = v2 c
          ∧ r.2.mem ((c.tc : Thread Cert.GatesDwIdeal.nD Cert.GatesDwIdeal.τ).loc Cert.GatesDwIdeal.main_v0_3) = v3 c
          ∧ r.2.mem ((c.tc : Thread Cert.GatesDwIdeal.nD Cert.GatesDwIdeal.τ).loc Cert.GatesDwIdeal.main_arg0) = m ((c.tc : Thread Cert.GatesDwIdeal.nD Cert.GatesDwIdeal.τ).loc Cert.GatesDwIdeal.main_arg0)
          ∧ r.2.mem ((c.tc : Thread Cert.GatesDwIdeal.nD Cert.GatesDwIdeal.τ).loc Cert.GatesDwIdeal.main_arg1) = m ((c.tc : Thread Cert.GatesDwIdeal.nD Cert.GatesDwIdeal.τ).loc Cert.GatesDwIdeal.main_arg1)
          ∧ r.2.mem ((c.tc : Thread Cert.GatesDwIdeal.nD Cert.GatesDwIdeal.τ).loc Cert.GatesDwIdeal.main_arg2) = m ((c.tc : Thread Cert.GatesDwIdeal.nD Cert.GatesDwIdeal.τ).loc Cert.GatesDwIdeal.main_arg2))
      ∧ θ_run (Cert.GatesDwSpecIdeal.defs (F := Ideal)) (onTc (τ := Cert.GatesDwSpecIdeal.τ) (Cert.GatesDwSpecIdeal.main (F := Ideal))) ⟨m', fun _ => 0, g'⟩ (fun r => ∀ c : Dev Cert.GatesDwSpecIdeal.nD,
          r.2.mem ((c.tc : Thread Cert.GatesDwSpecIdeal.nD Cert.GatesDwSpecIdeal.τ).loc Cert.GatesDwSpecIdeal.main_v29) = v0 c
          ∧ r.2.mem ((c.tc : Thread Cert.GatesDwSpecIdeal.nD Cert.GatesDwSpecIdeal.τ).loc Cert.GatesDwSpecIdeal.main_v22) = v1 c
          ∧ r.2.mem ((c.tc : Thread Cert.GatesDwSpecIdeal.nD Cert.GatesDwSpecIdeal.τ).loc Cert.GatesDwSpecIdeal.main_v30) = v2 c
          ∧ r.2.mem ((c.tc : Thread Cert.GatesDwSpecIdeal.nD Cert.GatesDwSpecIdeal.τ).loc Cert.GatesDwSpecIdeal.main_v31) = v3 c
          ∧ r.2.mem ((c.tc : Thread Cert.GatesDwSpecIdeal.nD Cert.GatesDwSpecIdeal.τ).loc Cert.GatesDwSpecIdeal.main_arg0) = m' ((c.tc : Thread Cert.GatesDwSpecIdeal.nD Cert.GatesDwSpecIdeal.τ).loc Cert.GatesDwSpecIdeal.main_arg0)
          ∧ r.2.mem ((c.tc : Thread Cert.GatesDwSpecIdeal.nD Cert.GatesDwSpecIdeal.τ).loc Cert.GatesDwSpecIdeal.main_arg1) = m' ((c.tc : Thread Cert.GatesDwSpecIdeal.nD Cert.GatesDwSpecIdeal.τ).loc Cert.GatesDwSpecIdeal.main_arg1)
          ∧ r.2.mem ((c.tc : Thread Cert.GatesDwSpecIdeal.nD Cert.GatesDwSpecIdeal.τ).loc Cert.GatesDwSpecIdeal.main_arg2) = m' ((c.tc : Thread Cert.GatesDwSpecIdeal.nD Cert.GatesDwSpecIdeal.τ).loc Cert.GatesDwSpecIdeal.main_arg2))

def preserves_Merge_MergeIdeal : Prop :=
  True

def algebraic_MergeIdeal_MergeSpecIdeal_pre_finite_merge [hMergeIdeal : Cert.MergeIdeal.Facts] [hMergeSpecIdeal : Cert.MergeSpecIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeSpecIdeal.nD Cert.MergeSpecIdeal.τ Cert.MergeSpecIdeal.sig) → Buf (Elt Ideal) ℓ) (g' : Dev Cert.MergeSpecIdeal.nD → PrngReg), Pre_MergeIdeal_finite_merge m →
    (∀ c : Dev Cert.MergeIdeal.nD,
      m' ((c.tc : Thread Cert.MergeSpecIdeal.nD Cert.MergeSpecIdeal.τ).loc Cert.MergeSpecIdeal.main_arg0) = m ((c.tc : Thread Cert.MergeIdeal.nD Cert.MergeIdeal.τ).loc Cert.MergeIdeal.main_arg0)
      ∧ m' ((c.tc : Thread Cert.MergeSpecIdeal.nD Cert.MergeSpecIdeal.τ).loc Cert.MergeSpecIdeal.main_arg1) = m ((c.tc : Thread Cert.MergeIdeal.nD Cert.MergeIdeal.τ).loc Cert.MergeIdeal.main_arg1)
      ∧ m' ((c.tc : Thread Cert.MergeSpecIdeal.nD Cert.MergeSpecIdeal.τ).loc Cert.MergeSpecIdeal.main_arg2) = m ((c.tc : Thread Cert.MergeIdeal.nD Cert.MergeIdeal.τ).loc Cert.MergeIdeal.main_arg2)
      ∧ m' ((c.tc : Thread Cert.MergeSpecIdeal.nD Cert.MergeSpecIdeal.τ).loc Cert.MergeSpecIdeal.main_arg3) = m ((c.tc : Thread Cert.MergeIdeal.nD Cert.MergeIdeal.τ).loc Cert.MergeIdeal.main_arg3)
      ∧ m' ((c.tc : Thread Cert.MergeSpecIdeal.nD Cert.MergeSpecIdeal.τ).loc Cert.MergeSpecIdeal.main_arg4) = m ((c.tc : Thread Cert.MergeIdeal.nD Cert.MergeIdeal.τ).loc Cert.MergeIdeal.main_arg4)
      ∧ m' ((c.tc : Thread Cert.MergeSpecIdeal.nD Cert.MergeSpecIdeal.τ).loc Cert.MergeSpecIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeSpecIdeal.defs (F := Ideal)) (onTc (τ := Cert.MergeSpecIdeal.τ) (Cert.MergeSpecIdeal.main (F := Ideal))) ⟨m', fun _ => 0, g'⟩ (fun r => ∀ c : Dev Cert.MergeSpecIdeal.nD,
          r.2.mem ((c.tc : Thread Cert.MergeSpecIdeal.nD Cert.MergeSpecIdeal.τ).loc Cert.MergeSpecIdeal.main_v20) = v0 c
          ∧ r.2.mem ((c.tc : Thread Cert.MergeSpecIdeal.nD Cert.MergeSpecIdeal.τ).loc Cert.MergeSpecIdeal.main_arg0) = m' ((c.tc : Thread Cert.MergeSpecIdeal.nD Cert.MergeSpecIdeal.τ).loc Cert.MergeSpecIdeal.main_arg0)
          ∧ r.2.mem ((c.tc : Thread Cert.MergeSpecIdeal.nD Cert.MergeSpecIdeal.τ).loc Cert.MergeSpecIdeal.main_arg1) = m' ((c.tc : Thread Cert.MergeSpecIdeal.nD Cert.MergeSpecIdeal.τ).loc Cert.MergeSpecIdeal.main_arg1)
          ∧ r.2.mem ((c.tc : Thread Cert.MergeSpecIdeal.nD Cert.MergeSpecIdeal.τ).loc Cert.MergeSpecIdeal.main_arg2) = m' ((c.tc : Thread Cert.MergeSpecIdeal.nD Cert.MergeSpecIdeal.τ).loc Cert.MergeSpecIdeal.main_arg2)
          ∧ r.2.mem ((c.tc : Thread Cert.MergeSpecIdeal.nD Cert.MergeSpecIdeal.τ).loc Cert.MergeSpecIdeal.main_arg3) = m' ((c.tc : Thread Cert.MergeSpecIdeal.nD Cert.MergeSpecIdeal.τ).loc Cert.MergeSpecIdeal.main_arg3)
          ∧ r.2.mem ((c.tc : Thread Cert.MergeSpecIdeal.nD Cert.MergeSpecIdeal.τ).loc Cert.MergeSpecIdeal.main_arg4) = m' ((c.tc : Thread Cert.MergeSpecIdeal.nD Cert.MergeSpecIdeal.τ).loc Cert.MergeSpecIdeal.main_arg4)
          ∧ r.2.mem ((c.tc : Thread Cert.MergeSpecIdeal.nD Cert.MergeSpecIdeal.τ).loc Cert.MergeSpecIdeal.main_arg5) = m' ((c.tc : Thread Cert.MergeSpecIdeal.nD Cert.MergeSpecIdeal.τ).loc Cert.MergeSpecIdeal.main_arg5))

def preserves_AdamAbIn_AdamAbInIdeal : Prop :=
  True

def algebraic_AdamAbInIdeal_AdamAbInSpecIdeal [hAdamAbInIdeal : Cert.AdamAbInIdeal.Facts] [hAdamAbInSpecIdeal : Cert.AdamAbInSpecIdeal.Facts] : Prop :=
  ∀ (m : (ℓ : Loc Cert.AdamAbInIdeal.nD Cert.AdamAbInIdeal.τ Cert.AdamAbInIdeal.sig) → Buf (Elt Ideal) ℓ) (g : Dev Cert.AdamAbInIdeal.nD → PrngReg)
    (m' : (ℓ : Loc Cert.AdamAbInSpecIdeal.nD Cert.AdamAbInSpecIdeal.τ Cert.AdamAbInSpecIdeal.sig) → Buf (Elt Ideal) ℓ) (g' : Dev Cert.AdamAbInSpecIdeal.nD → PrngReg), Pre_AdamAbInIdeal m →
    (∀ c : Dev Cert.AdamAbInIdeal.nD,
      m' ((c.tc : Thread Cert.AdamAbInSpecIdeal.nD Cert.AdamAbInSpecIdeal.τ).loc Cert.AdamAbInSpecIdeal.main_arg0) = m ((c.tc : Thread Cert.AdamAbInIdeal.nD Cert.AdamAbInIdeal.τ).loc Cert.AdamAbInIdeal.main_arg0)
      ∧ m' ((c.tc : Thread Cert.AdamAbInSpecIdeal.nD Cert.AdamAbInSpecIdeal.τ).loc Cert.AdamAbInSpecIdeal.main_arg1) = m ((c.tc : Thread Cert.AdamAbInIdeal.nD Cert.AdamAbInIdeal.τ).loc Cert.AdamAbInIdeal.main_arg1)
      ∧ m' ((c.tc : Thread Cert.AdamAbInSpecIdeal.nD Cert.AdamAbInSpecIdeal.τ).loc Cert.AdamAbInSpecIdeal.main_arg2) = m ((c.tc : Thread Cert.AdamAbInIdeal.nD Cert.AdamAbInIdeal.τ).loc Cert.AdamAbInIdeal.main_arg2)
      ∧ m' ((c.tc : Thread Cert.AdamAbInSpecIdeal.nD Cert.AdamAbInSpecIdeal.τ).loc Cert.AdamAbInSpecIdeal.main_arg3) = m ((c.tc : Thread Cert.AdamAbInIdeal.nD Cert.AdamAbInIdeal.τ).loc Cert.AdamAbInIdeal.main_arg3)) →
    ∃ (v0 : (c : Dev Cert.AdamAbInIdeal.nD) → Buf (Elt Ideal) ((c.tc : Thread Cert.AdamAbInIdeal.nD Cert.AdamAbInIdeal.τ).loc Cert.AdamAbInIdeal.main_v4_0)) (v1 : (c : Dev Cert.AdamAbInIdeal.nD) → Buf (Elt Ideal) ((c.tc : Thread Cert.AdamAbInIdeal.nD Cert.AdamAbInIdeal.τ).loc Cert.AdamAbInIdeal.main_v4_1)) (v2 : (c : Dev Cert.AdamAbInIdeal.nD) → Buf (Elt Ideal) ((c.tc : Thread Cert.AdamAbInIdeal.nD Cert.AdamAbInIdeal.τ).loc Cert.AdamAbInIdeal.main_v4_2)) (v3 : (c : Dev Cert.AdamAbInIdeal.nD) → Buf (Elt Ideal) ((c.tc : Thread Cert.AdamAbInIdeal.nD Cert.AdamAbInIdeal.τ).loc Cert.AdamAbInIdeal.main_v4_3)),
      θ_run (Cert.AdamAbInIdeal.defs (F := Ideal)) (onTc (τ := Cert.AdamAbInIdeal.τ) (Cert.AdamAbInIdeal.main (F := Ideal))) ⟨m, fun _ => 0, g⟩ (fun r => ∀ c : Dev Cert.AdamAbInIdeal.nD,
          r.2.mem ((c.tc : Thread Cert.AdamAbInIdeal.nD Cert.AdamAbInIdeal.τ).loc Cert.AdamAbInIdeal.main_v4_0) = v0 c
          ∧ r.2.mem ((c.tc : Thread Cert.AdamAbInIdeal.nD Cert.AdamAbInIdeal.τ).loc Cert.AdamAbInIdeal.main_v4_1) = v1 c
          ∧ r.2.mem ((c.tc : Thread Cert.AdamAbInIdeal.nD Cert.AdamAbInIdeal.τ).loc Cert.AdamAbInIdeal.main_v4_2) = v2 c
          ∧ r.2.mem ((c.tc : Thread Cert.AdamAbInIdeal.nD Cert.AdamAbInIdeal.τ).loc Cert.AdamAbInIdeal.main_v4_3) = v3 c
          ∧ r.2.mem ((c.tc : Thread Cert.AdamAbInIdeal.nD Cert.AdamAbInIdeal.τ).loc Cert.AdamAbInIdeal.main_arg0) = m ((c.tc : Thread Cert.AdamAbInIdeal.nD Cert.AdamAbInIdeal.τ).loc Cert.AdamAbInIdeal.main_arg0)
          ∧ r.2.mem ((c.tc : Thread Cert.AdamAbInIdeal.nD Cert.AdamAbInIdeal.τ).loc Cert.AdamAbInIdeal.main_arg1) = m ((c.tc : Thread Cert.AdamAbInIdeal.nD Cert.AdamAbInIdeal.τ).loc Cert.AdamAbInIdeal.main_arg1)
          ∧ r.2.mem ((c.tc : Thread Cert.AdamAbInIdeal.nD Cert.AdamAbInIdeal.τ).loc Cert.AdamAbInIdeal.main_arg2) = m ((c.tc : Thread Cert.AdamAbInIdeal.nD Cert.AdamAbInIdeal.τ).loc Cert.AdamAbInIdeal.main_arg2)
          ∧ r.2.mem ((c.tc : Thread Cert.AdamAbInIdeal.nD Cert.AdamAbInIdeal.τ).loc Cert.AdamAbInIdeal.main_arg3) = m ((c.tc : Thread Cert.AdamAbInIdeal.nD Cert.AdamAbInIdeal.τ).loc Cert.AdamAbInIdeal.main_arg3))
      ∧ θ_run (Cert.AdamAbInSpecIdeal.defs (F := Ideal)) (onTc (τ := Cert.AdamAbInSpecIdeal.τ) (Cert.AdamAbInSpecIdeal.main (F := Ideal))) ⟨m', fun _ => 0, g'⟩ (fun r => ∀ c : Dev Cert.AdamAbInSpecIdeal.nD,
          r.2.mem ((c.tc : Thread Cert.AdamAbInSpecIdeal.nD Cert.AdamAbInSpecIdeal.τ).loc Cert.AdamAbInSpecIdeal.main_v27) = v0 c
          ∧ r.2.mem ((c.tc : Thread Cert.AdamAbInSpecIdeal.nD Cert.AdamAbInSpecIdeal.τ).loc Cert.AdamAbInSpecIdeal.main_v28) = v1 c
          ∧ r.2.mem ((c.tc : Thread Cert.AdamAbInSpecIdeal.nD Cert.AdamAbInSpecIdeal.τ).loc Cert.AdamAbInSpecIdeal.main_v29) = v2 c
          ∧ r.2.mem ((c.tc : Thread Cert.AdamAbInSpecIdeal.nD Cert.AdamAbInSpecIdeal.τ).loc Cert.AdamAbInSpecIdeal.main_v30) = v3 c
          ∧ r.2.mem ((c.tc : Thread Cert.AdamAbInSpecIdeal.nD Cert.AdamAbInSpecIdeal.τ).loc Cert.AdamAbInSpecIdeal.main_arg0) = m' ((c.tc : Thread Cert.AdamAbInSpecIdeal.nD Cert.AdamAbInSpecIdeal.τ).loc Cert.AdamAbInSpecIdeal.main_arg0)
          ∧ r.2.mem ((c.tc : Thread Cert.AdamAbInSpecIdeal.nD Cert.AdamAbInSpecIdeal.τ).loc Cert.AdamAbInSpecIdeal.main_arg1) = m' ((c.tc : Thread Cert.AdamAbInSpecIdeal.nD Cert.AdamAbInSpecIdeal.τ).loc Cert.AdamAbInSpecIdeal.main_arg1)
          ∧ r.2.mem ((c.tc : Thread Cert.AdamAbInSpecIdeal.nD Cert.AdamAbInSpecIdeal.τ).loc Cert.AdamAbInSpecIdeal.main_arg2) = m' ((c.tc : Thread Cert.AdamAbInSpecIdeal.nD Cert.AdamAbInSpecIdeal.τ).loc Cert.AdamAbInSpecIdeal.main_arg2)
          ∧ r.2.mem ((c.tc : Thread Cert.AdamAbInSpecIdeal.nD Cert.AdamAbInSpecIdeal.τ).loc Cert.AdamAbInSpecIdeal.main_arg3) = m' ((c.tc : Thread Cert.AdamAbInSpecIdeal.nD Cert.AdamAbInSpecIdeal.τ).loc Cert.AdamAbInSpecIdeal.main_arg3))

def preserves_AdamLru_AdamLruIdeal : Prop :=
  True

def algebraic_AdamLruIdeal_AdamLruSpecIdeal [hAdamLruIdeal : Cert.AdamLruIdeal.Facts] [hAdamLruSpecIdeal : Cert.AdamLruSpecIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg)
    (m' : (ℓ : Loc Cert.AdamLruSpecIdeal.nD Cert.AdamLruSpecIdeal.τ Cert.AdamLruSpecIdeal.sig) → Buf (Elt Ideal) ℓ) (g' : Dev Cert.AdamLruSpecIdeal.nD → PrngReg), Pre_AdamLruIdeal m →
    (∀ c : Dev Cert.AdamLruIdeal.nD,
      m' ((c.tc : Thread Cert.AdamLruSpecIdeal.nD Cert.AdamLruSpecIdeal.τ).loc Cert.AdamLruSpecIdeal.main_arg0) = m ((c.tc : Thread Cert.AdamLruIdeal.nD Cert.AdamLruIdeal.τ).loc Cert.AdamLruIdeal.main_arg0)
      ∧ m' ((c.tc : Thread Cert.AdamLruSpecIdeal.nD Cert.AdamLruSpecIdeal.τ).loc Cert.AdamLruSpecIdeal.main_arg1) = m ((c.tc : Thread Cert.AdamLruIdeal.nD Cert.AdamLruIdeal.τ).loc Cert.AdamLruIdeal.main_arg1)
      ∧ m' ((c.tc : Thread Cert.AdamLruSpecIdeal.nD Cert.AdamLruSpecIdeal.τ).loc Cert.AdamLruSpecIdeal.main_arg2) = m ((c.tc : Thread Cert.AdamLruIdeal.nD Cert.AdamLruIdeal.τ).loc Cert.AdamLruIdeal.main_arg2)
      ∧ m' ((c.tc : Thread Cert.AdamLruSpecIdeal.nD Cert.AdamLruSpecIdeal.τ).loc Cert.AdamLruSpecIdeal.main_arg3) = m ((c.tc : Thread Cert.AdamLruIdeal.nD Cert.AdamLruIdeal.τ).loc Cert.AdamLruIdeal.main_arg3)) →
    ∃ (v0 : (c : Dev Cert.AdamLruIdeal.nD) → Buf (Elt Ideal) ((c.tc : Thread Cert.AdamLruIdeal.nD Cert.AdamLruIdeal.τ).loc Cert.AdamLruIdeal.main_v3_0)) (v1 : (c : Dev Cert.AdamLruIdeal.nD) → Buf (Elt Ideal) ((c.tc : Thread Cert.AdamLruIdeal.nD Cert.AdamLruIdeal.τ).loc Cert.AdamLruIdeal.main_v3_1)) (v2 : (c : Dev Cert.AdamLruIdeal.nD) → Buf (Elt Ideal) ((c.tc : Thread Cert.AdamLruIdeal.nD Cert.AdamLruIdeal.τ).loc Cert.AdamLruIdeal.main_v3_2)) (v3 : (c : Dev Cert.AdamLruIdeal.nD) → Buf (Elt Ideal) ((c.tc : Thread Cert.AdamLruIdeal.nD Cert.AdamLruIdeal.τ).loc Cert.AdamLruIdeal.main_v3_3)),
      θ_run (Cert.AdamLruIdeal.defs (F := Ideal)) (onTc (τ := Cert.AdamLruIdeal.τ) (Cert.AdamLruIdeal.main (F := Ideal))) ⟨m, fun _ => 0, g⟩ (fun r => ∀ c : Dev Cert.AdamLruIdeal.nD,
          r.2.mem ((c.tc : Thread Cert.AdamLruIdeal.nD Cert.AdamLruIdeal.τ).loc Cert.AdamLruIdeal.main_v3_0) = v0 c
          ∧ r.2.mem ((c.tc : Thread Cert.AdamLruIdeal.nD Cert.AdamLruIdeal.τ).loc Cert.AdamLruIdeal.main_v3_1) = v1 c
          ∧ r.2.mem ((c.tc : Thread Cert.AdamLruIdeal.nD Cert.AdamLruIdeal.τ).loc Cert.AdamLruIdeal.main_v3_2) = v2 c
          ∧ r.2.mem ((c.tc : Thread Cert.AdamLruIdeal.nD Cert.AdamLruIdeal.τ).loc Cert.AdamLruIdeal.main_v3_3) = v3 c
          ∧ r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
          ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
          ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
          ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3))
      ∧ θ_run (Cert.AdamLruSpecIdeal.defs (F := Ideal)) (onTc (τ := Cert.AdamLruSpecIdeal.τ) (Cert.AdamLruSpecIdeal.main (F := Ideal))) ⟨m', fun _ => 0, g'⟩ (fun r => ∀ c : Dev Cert.AdamLruSpecIdeal.nD,
          r.2.mem ((c.tc : Thread Cert.AdamLruSpecIdeal.nD Cert.AdamLruSpecIdeal.τ).loc Cert.AdamLruSpecIdeal.main_v26) = v0 c
          ∧ r.2.mem ((c.tc : Thread Cert.AdamLruSpecIdeal.nD Cert.AdamLruSpecIdeal.τ).loc Cert.AdamLruSpecIdeal.main_v27) = v1 c
          ∧ r.2.mem ((c.tc : Thread Cert.AdamLruSpecIdeal.nD Cert.AdamLruSpecIdeal.τ).loc Cert.AdamLruSpecIdeal.main_v28) = v2 c
          ∧ r.2.mem ((c.tc : Thread Cert.AdamLruSpecIdeal.nD Cert.AdamLruSpecIdeal.τ).loc Cert.AdamLruSpecIdeal.main_v29) = v3 c
          ∧ r.2.mem ((c.tc : Thread Cert.AdamLruSpecIdeal.nD Cert.AdamLruSpecIdeal.τ).loc Cert.AdamLruSpecIdeal.main_arg0) = m' ((c.tc : Thread Cert.AdamLruSpecIdeal.nD Cert.AdamLruSpecIdeal.τ).loc Cert.AdamLruSpecIdeal.main_arg0)
          ∧ r.2.mem ((c.tc : Thread Cert.AdamLruSpecIdeal.nD Cert.AdamLruSpecIdeal.τ).loc Cert.AdamLruSpecIdeal.main_arg1) = m' ((c.tc : Thread Cert.AdamLruSpecIdeal.nD Cert.AdamLruSpecIdeal.τ).loc Cert.AdamLruSpecIdeal.main_arg1)
          ∧ r.2.mem ((c.tc : Thread Cert.AdamLruSpecIdeal.nD Cert.AdamLruSpecIdeal.τ).loc Cert.AdamLruSpecIdeal.main_arg2) = m' ((c.tc : Thread Cert.AdamLruSpecIdeal.nD Cert.AdamLruSpecIdeal.τ).loc Cert.AdamLruSpecIdeal.main_arg2)
          ∧ r.2.mem ((c.tc : Thread Cert.AdamLruSpecIdeal.nD Cert.AdamLruSpecIdeal.τ).loc Cert.AdamLruSpecIdeal.main_arg3) = m' ((c.tc : Thread Cert.AdamLruSpecIdeal.nD Cert.AdamLruSpecIdeal.τ).loc Cert.AdamLruSpecIdeal.main_arg3))

def preserves_AdamAbOut_AdamAbOutIdeal : Prop :=
  True

def algebraic_AdamAbOutIdeal_AdamAbOutSpecIdeal [hAdamAbOutIdeal : Cert.AdamAbOutIdeal.Facts] [hAdamAbOutSpecIdeal : Cert.AdamAbOutSpecIdeal.Facts] : Prop :=
  ∀ (m : (ℓ : Loc Cert.AdamAbOutIdeal.nD Cert.AdamAbOutIdeal.τ Cert.AdamAbOutIdeal.sig) → Buf (Elt Ideal) ℓ) (g : Dev Cert.AdamAbOutIdeal.nD → PrngReg)
    (m' : (ℓ : Loc Cert.AdamAbOutSpecIdeal.nD Cert.AdamAbOutSpecIdeal.τ Cert.AdamAbOutSpecIdeal.sig) → Buf (Elt Ideal) ℓ) (g' : Dev Cert.AdamAbOutSpecIdeal.nD → PrngReg), Pre_AdamAbOutIdeal m →
    (∀ c : Dev Cert.AdamAbOutIdeal.nD,
      m' ((c.tc : Thread Cert.AdamAbOutSpecIdeal.nD Cert.AdamAbOutSpecIdeal.τ).loc Cert.AdamAbOutSpecIdeal.main_arg0) = m ((c.tc : Thread Cert.AdamAbOutIdeal.nD Cert.AdamAbOutIdeal.τ).loc Cert.AdamAbOutIdeal.main_arg0)
      ∧ m' ((c.tc : Thread Cert.AdamAbOutSpecIdeal.nD Cert.AdamAbOutSpecIdeal.τ).loc Cert.AdamAbOutSpecIdeal.main_arg1) = m ((c.tc : Thread Cert.AdamAbOutIdeal.nD Cert.AdamAbOutIdeal.τ).loc Cert.AdamAbOutIdeal.main_arg1)
      ∧ m' ((c.tc : Thread Cert.AdamAbOutSpecIdeal.nD Cert.AdamAbOutSpecIdeal.τ).loc Cert.AdamAbOutSpecIdeal.main_arg2) = m ((c.tc : Thread Cert.AdamAbOutIdeal.nD Cert.AdamAbOutIdeal.τ).loc Cert.AdamAbOutIdeal.main_arg2)
      ∧ m' ((c.tc : Thread Cert.AdamAbOutSpecIdeal.nD Cert.AdamAbOutSpecIdeal.τ).loc Cert.AdamAbOutSpecIdeal.main_arg3) = m ((c.tc : Thread Cert.AdamAbOutIdeal.nD Cert.AdamAbOutIdeal.τ).loc Cert.AdamAbOutIdeal.main_arg3)) →
    ∃ (v0 : (c : Dev Cert.AdamAbOutIdeal.nD) → Buf (Elt Ideal) ((c.tc : Thread Cert.AdamAbOutIdeal.nD Cert.AdamAbOutIdeal.τ).loc Cert.AdamAbOutIdeal.main_v1_0)) (v1 : (c : Dev Cert.AdamAbOutIdeal.nD) → Buf (Elt Ideal) ((c.tc : Thread Cert.AdamAbOutIdeal.nD Cert.AdamAbOutIdeal.τ).loc Cert.AdamAbOutIdeal.main_v1_1)) (v2 : (c : Dev Cert.AdamAbOutIdeal.nD) → Buf (Elt Ideal) ((c.tc : Thread Cert.AdamAbOutIdeal.nD Cert.AdamAbOutIdeal.τ).loc Cert.AdamAbOutIdeal.main_v1_2)) (v3 : (c : Dev Cert.AdamAbOutIdeal.nD) → Buf (Elt Ideal) ((c.tc : Thread Cert.AdamAbOutIdeal.nD Cert.AdamAbOutIdeal.τ).loc Cert.AdamAbOutIdeal.main_v1_3)),
      θ_run (Cert.AdamAbOutIdeal.defs (F := Ideal)) (onTc (τ := Cert.AdamAbOutIdeal.τ) (Cert.AdamAbOutIdeal.main (F := Ideal))) ⟨m, fun _ => 0, g⟩ (fun r => ∀ c : Dev Cert.AdamAbOutIdeal.nD,
          r.2.mem ((c.tc : Thread Cert.AdamAbOutIdeal.nD Cert.AdamAbOutIdeal.τ).loc Cert.AdamAbOutIdeal.main_v1_0) = v0 c
          ∧ r.2.mem ((c.tc : Thread Cert.AdamAbOutIdeal.nD Cert.AdamAbOutIdeal.τ).loc Cert.AdamAbOutIdeal.main_v1_1) = v1 c
          ∧ r.2.mem ((c.tc : Thread Cert.AdamAbOutIdeal.nD Cert.AdamAbOutIdeal.τ).loc Cert.AdamAbOutIdeal.main_v1_2) = v2 c
          ∧ r.2.mem ((c.tc : Thread Cert.AdamAbOutIdeal.nD Cert.AdamAbOutIdeal.τ).loc Cert.AdamAbOutIdeal.main_v1_3) = v3 c
          ∧ r.2.mem ((c.tc : Thread Cert.AdamAbOutIdeal.nD Cert.AdamAbOutIdeal.τ).loc Cert.AdamAbOutIdeal.main_arg0) = m ((c.tc : Thread Cert.AdamAbOutIdeal.nD Cert.AdamAbOutIdeal.τ).loc Cert.AdamAbOutIdeal.main_arg0)
          ∧ r.2.mem ((c.tc : Thread Cert.AdamAbOutIdeal.nD Cert.AdamAbOutIdeal.τ).loc Cert.AdamAbOutIdeal.main_arg1) = m ((c.tc : Thread Cert.AdamAbOutIdeal.nD Cert.AdamAbOutIdeal.τ).loc Cert.AdamAbOutIdeal.main_arg1)
          ∧ r.2.mem ((c.tc : Thread Cert.AdamAbOutIdeal.nD Cert.AdamAbOutIdeal.τ).loc Cert.AdamAbOutIdeal.main_arg2) = m ((c.tc : Thread Cert.AdamAbOutIdeal.nD Cert.AdamAbOutIdeal.τ).loc Cert.AdamAbOutIdeal.main_arg2)
          ∧ r.2.mem ((c.tc : Thread Cert.AdamAbOutIdeal.nD Cert.AdamAbOutIdeal.τ).loc Cert.AdamAbOutIdeal.main_arg3) = m ((c.tc : Thread Cert.AdamAbOutIdeal.nD Cert.AdamAbOutIdeal.τ).loc Cert.AdamAbOutIdeal.main_arg3))
      ∧ θ_run (Cert.AdamAbOutSpecIdeal.defs (F := Ideal)) (onTc (τ := Cert.AdamAbOutSpecIdeal.τ) (Cert.AdamAbOutSpecIdeal.main (F := Ideal))) ⟨m', fun _ => 0, g'⟩ (fun r => ∀ c : Dev Cert.AdamAbOutSpecIdeal.nD,
          r.2.mem ((c.tc : Thread Cert.AdamAbOutSpecIdeal.nD Cert.AdamAbOutSpecIdeal.τ).loc Cert.AdamAbOutSpecIdeal.main_v1) = v0 c
          ∧ r.2.mem ((c.tc : Thread Cert.AdamAbOutSpecIdeal.nD Cert.AdamAbOutSpecIdeal.τ).loc Cert.AdamAbOutSpecIdeal.main_v25) = v1 c
          ∧ r.2.mem ((c.tc : Thread Cert.AdamAbOutSpecIdeal.nD Cert.AdamAbOutSpecIdeal.τ).loc Cert.AdamAbOutSpecIdeal.main_v6) = v2 c
          ∧ r.2.mem ((c.tc : Thread Cert.AdamAbOutSpecIdeal.nD Cert.AdamAbOutSpecIdeal.τ).loc Cert.AdamAbOutSpecIdeal.main_v12) = v3 c
          ∧ r.2.mem ((c.tc : Thread Cert.AdamAbOutSpecIdeal.nD Cert.AdamAbOutSpecIdeal.τ).loc Cert.AdamAbOutSpecIdeal.main_arg0) = m' ((c.tc : Thread Cert.AdamAbOutSpecIdeal.nD Cert.AdamAbOutSpecIdeal.τ).loc Cert.AdamAbOutSpecIdeal.main_arg0)
          ∧ r.2.mem ((c.tc : Thread Cert.AdamAbOutSpecIdeal.nD Cert.AdamAbOutSpecIdeal.τ).loc Cert.AdamAbOutSpecIdeal.main_arg1) = m' ((c.tc : Thread Cert.AdamAbOutSpecIdeal.nD Cert.AdamAbOutSpecIdeal.τ).loc Cert.AdamAbOutSpecIdeal.main_arg1)
          ∧ r.2.mem ((c.tc : Thread Cert.AdamAbOutSpecIdeal.nD Cert.AdamAbOutSpecIdeal.τ).loc Cert.AdamAbOutSpecIdeal.main_arg2) = m' ((c.tc : Thread Cert.AdamAbOutSpecIdeal.nD Cert.AdamAbOutSpecIdeal.τ).loc Cert.AdamAbOutSpecIdeal.main_arg2)
          ∧ r.2.mem ((c.tc : Thread Cert.AdamAbOutSpecIdeal.nD Cert.AdamAbOutSpecIdeal.τ).loc Cert.AdamAbOutSpecIdeal.main_arg3) = m' ((c.tc : Thread Cert.AdamAbOutSpecIdeal.nD Cert.AdamAbOutSpecIdeal.τ).loc Cert.AdamAbOutSpecIdeal.main_arg3))

def preserves_AdamCQkv_AdamCQkvIdeal : Prop :=
  True

def algebraic_AdamCQkvIdeal_AdamCQkvSpecIdeal [hAdamCQkvIdeal : Cert.AdamCQkvIdeal.Facts] [hAdamCQkvSpecIdeal : Cert.AdamCQkvSpecIdeal.Facts] : Prop :=
  ∀ (m : (ℓ : Loc Cert.AdamCQkvIdeal.nD Cert.AdamCQkvIdeal.τ Cert.AdamCQkvIdeal.sig) → Buf (Elt Ideal) ℓ) (g : Dev Cert.AdamCQkvIdeal.nD → PrngReg)
    (m' : (ℓ : Loc Cert.AdamCQkvSpecIdeal.nD Cert.AdamCQkvSpecIdeal.τ Cert.AdamCQkvSpecIdeal.sig) → Buf (Elt Ideal) ℓ) (g' : Dev Cert.AdamCQkvSpecIdeal.nD → PrngReg), Pre_AdamCQkvIdeal m →
    (∀ c : Dev Cert.AdamCQkvIdeal.nD,
      m' ((c.tc : Thread Cert.AdamCQkvSpecIdeal.nD Cert.AdamCQkvSpecIdeal.τ).loc Cert.AdamCQkvSpecIdeal.main_arg0) = m ((c.tc : Thread Cert.AdamCQkvIdeal.nD Cert.AdamCQkvIdeal.τ).loc Cert.AdamCQkvIdeal.main_arg0)
      ∧ m' ((c.tc : Thread Cert.AdamCQkvSpecIdeal.nD Cert.AdamCQkvSpecIdeal.τ).loc Cert.AdamCQkvSpecIdeal.main_arg1) = m ((c.tc : Thread Cert.AdamCQkvIdeal.nD Cert.AdamCQkvIdeal.τ).loc Cert.AdamCQkvIdeal.main_arg1)
      ∧ m' ((c.tc : Thread Cert.AdamCQkvSpecIdeal.nD Cert.AdamCQkvSpecIdeal.τ).loc Cert.AdamCQkvSpecIdeal.main_arg2) = m ((c.tc : Thread Cert.AdamCQkvIdeal.nD Cert.AdamCQkvIdeal.τ).loc Cert.AdamCQkvIdeal.main_arg2)
      ∧ m' ((c.tc : Thread Cert.AdamCQkvSpecIdeal.nD Cert.AdamCQkvSpecIdeal.τ).loc Cert.AdamCQkvSpecIdeal.main_arg3) = m ((c.tc : Thread Cert.AdamCQkvIdeal.nD Cert.AdamCQkvIdeal.τ).loc Cert.AdamCQkvIdeal.main_arg3)) →
    ∃ (v0 : (c : Dev Cert.AdamCQkvIdeal.nD) → Buf (Elt Ideal) ((c.tc : Thread Cert.AdamCQkvIdeal.nD Cert.AdamCQkvIdeal.τ).loc Cert.AdamCQkvIdeal.main_v4_0)) (v1 : (c : Dev Cert.AdamCQkvIdeal.nD) → Buf (Elt Ideal) ((c.tc : Thread Cert.AdamCQkvIdeal.nD Cert.AdamCQkvIdeal.τ).loc Cert.AdamCQkvIdeal.main_v4_1)) (v2 : (c : Dev Cert.AdamCQkvIdeal.nD) → Buf (Elt Ideal) ((c.tc : Thread Cert.AdamCQkvIdeal.nD Cert.AdamCQkvIdeal.τ).loc Cert.AdamCQkvIdeal.main_v4_2)) (v3 : (c : Dev Cert.AdamCQkvIdeal.nD) → Buf (Elt Ideal) ((c.tc : Thread Cert.AdamCQkvIdeal.nD Cert.AdamCQkvIdeal.τ).loc Cert.AdamCQkvIdeal.main_v4_3)),
      θ_run (Cert.AdamCQkvIdeal.defs (F := Ideal)) (onTc (τ := Cert.AdamCQkvIdeal.τ) (Cert.AdamCQkvIdeal.main (F := Ideal))) ⟨m, fun _ => 0, g⟩ (fun r => ∀ c : Dev Cert.AdamCQkvIdeal.nD,
          r.2.mem ((c.tc : Thread Cert.AdamCQkvIdeal.nD Cert.AdamCQkvIdeal.τ).loc Cert.AdamCQkvIdeal.main_v4_0) = v0 c
          ∧ r.2.mem ((c.tc : Thread Cert.AdamCQkvIdeal.nD Cert.AdamCQkvIdeal.τ).loc Cert.AdamCQkvIdeal.main_v4_1) = v1 c
          ∧ r.2.mem ((c.tc : Thread Cert.AdamCQkvIdeal.nD Cert.AdamCQkvIdeal.τ).loc Cert.AdamCQkvIdeal.main_v4_2) = v2 c
          ∧ r.2.mem ((c.tc : Thread Cert.AdamCQkvIdeal.nD Cert.AdamCQkvIdeal.τ).loc Cert.AdamCQkvIdeal.main_v4_3) = v3 c
          ∧ r.2.mem ((c.tc : Thread Cert.AdamCQkvIdeal.nD Cert.AdamCQkvIdeal.τ).loc Cert.AdamCQkvIdeal.main_arg0) = m ((c.tc : Thread Cert.AdamCQkvIdeal.nD Cert.AdamCQkvIdeal.τ).loc Cert.AdamCQkvIdeal.main_arg0)
          ∧ r.2.mem ((c.tc : Thread Cert.AdamCQkvIdeal.nD Cert.AdamCQkvIdeal.τ).loc Cert.AdamCQkvIdeal.main_arg1) = m ((c.tc : Thread Cert.AdamCQkvIdeal.nD Cert.AdamCQkvIdeal.τ).loc Cert.AdamCQkvIdeal.main_arg1)
          ∧ r.2.mem ((c.tc : Thread Cert.AdamCQkvIdeal.nD Cert.AdamCQkvIdeal.τ).loc Cert.AdamCQkvIdeal.main_arg2) = m ((c.tc : Thread Cert.AdamCQkvIdeal.nD Cert.AdamCQkvIdeal.τ).loc Cert.AdamCQkvIdeal.main_arg2)
          ∧ r.2.mem ((c.tc : Thread Cert.AdamCQkvIdeal.nD Cert.AdamCQkvIdeal.τ).loc Cert.AdamCQkvIdeal.main_arg3) = m ((c.tc : Thread Cert.AdamCQkvIdeal.nD Cert.AdamCQkvIdeal.τ).loc Cert.AdamCQkvIdeal.main_arg3))
      ∧ θ_run (Cert.AdamCQkvSpecIdeal.defs (F := Ideal)) (onTc (τ := Cert.AdamCQkvSpecIdeal.τ) (Cert.AdamCQkvSpecIdeal.main (F := Ideal))) ⟨m', fun _ => 0, g'⟩ (fun r => ∀ c : Dev Cert.AdamCQkvSpecIdeal.nD,
          r.2.mem ((c.tc : Thread Cert.AdamCQkvSpecIdeal.nD Cert.AdamCQkvSpecIdeal.τ).loc Cert.AdamCQkvSpecIdeal.main_v27) = v0 c
          ∧ r.2.mem ((c.tc : Thread Cert.AdamCQkvSpecIdeal.nD Cert.AdamCQkvSpecIdeal.τ).loc Cert.AdamCQkvSpecIdeal.main_v28) = v1 c
          ∧ r.2.mem ((c.tc : Thread Cert.AdamCQkvSpecIdeal.nD Cert.AdamCQkvSpecIdeal.τ).loc Cert.AdamCQkvSpecIdeal.main_v29) = v2 c
          ∧ r.2.mem ((c.tc : Thread Cert.AdamCQkvSpecIdeal.nD Cert.AdamCQkvSpecIdeal.τ).loc Cert.AdamCQkvSpecIdeal.main_v30) = v3 c
          ∧ r.2.mem ((c.tc : Thread Cert.AdamCQkvSpecIdeal.nD Cert.AdamCQkvSpecIdeal.τ).loc Cert.AdamCQkvSpecIdeal.main_arg0) = m' ((c.tc : Thread Cert.AdamCQkvSpecIdeal.nD Cert.AdamCQkvSpecIdeal.τ).loc Cert.AdamCQkvSpecIdeal.main_arg0)
          ∧ r.2.mem ((c.tc : Thread Cert.AdamCQkvSpecIdeal.nD Cert.AdamCQkvSpecIdeal.τ).loc Cert.AdamCQkvSpecIdeal.main_arg1) = m' ((c.tc : Thread Cert.AdamCQkvSpecIdeal.nD Cert.AdamCQkvSpecIdeal.τ).loc Cert.AdamCQkvSpecIdeal.main_arg1)
          ∧ r.2.mem ((c.tc : Thread Cert.AdamCQkvSpecIdeal.nD Cert.AdamCQkvSpecIdeal.τ).loc Cert.AdamCQkvSpecIdeal.main_arg2) = m' ((c.tc : Thread Cert.AdamCQkvSpecIdeal.nD Cert.AdamCQkvSpecIdeal.τ).loc Cert.AdamCQkvSpecIdeal.main_arg2)
          ∧ r.2.mem ((c.tc : Thread Cert.AdamCQkvSpecIdeal.nD Cert.AdamCQkvSpecIdeal.τ).loc Cert.AdamCQkvSpecIdeal.main_arg3) = m' ((c.tc : Thread Cert.AdamCQkvSpecIdeal.nD Cert.AdamCQkvSpecIdeal.τ).loc Cert.AdamCQkvSpecIdeal.main_arg3))

def preserves_AdamCOut_AdamCOutIdeal : Prop :=
  True

def algebraic_AdamCOutIdeal_AdamCOutSpecIdeal [hAdamCOutIdeal : Cert.AdamCOutIdeal.Facts] [hAdamCOutSpecIdeal : Cert.AdamCOutSpecIdeal.Facts] : Prop :=
  ∀ (m : (ℓ : Loc Cert.AdamCOutIdeal.nD Cert.AdamCOutIdeal.τ Cert.AdamCOutIdeal.sig) → Buf (Elt Ideal) ℓ) (g : Dev Cert.AdamCOutIdeal.nD → PrngReg)
    (m' : (ℓ : Loc Cert.AdamCOutSpecIdeal.nD Cert.AdamCOutSpecIdeal.τ Cert.AdamCOutSpecIdeal.sig) → Buf (Elt Ideal) ℓ) (g' : Dev Cert.AdamCOutSpecIdeal.nD → PrngReg), Pre_AdamCOutIdeal m →
    (∀ c : Dev Cert.AdamCOutIdeal.nD,
      m' ((c.tc : Thread Cert.AdamCOutSpecIdeal.nD Cert.AdamCOutSpecIdeal.τ).loc Cert.AdamCOutSpecIdeal.main_arg0) = m ((c.tc : Thread Cert.AdamCOutIdeal.nD Cert.AdamCOutIdeal.τ).loc Cert.AdamCOutIdeal.main_arg0)
      ∧ m' ((c.tc : Thread Cert.AdamCOutSpecIdeal.nD Cert.AdamCOutSpecIdeal.τ).loc Cert.AdamCOutSpecIdeal.main_arg1) = m ((c.tc : Thread Cert.AdamCOutIdeal.nD Cert.AdamCOutIdeal.τ).loc Cert.AdamCOutIdeal.main_arg1)
      ∧ m' ((c.tc : Thread Cert.AdamCOutSpecIdeal.nD Cert.AdamCOutSpecIdeal.τ).loc Cert.AdamCOutSpecIdeal.main_arg2) = m ((c.tc : Thread Cert.AdamCOutIdeal.nD Cert.AdamCOutIdeal.τ).loc Cert.AdamCOutIdeal.main_arg2)
      ∧ m' ((c.tc : Thread Cert.AdamCOutSpecIdeal.nD Cert.AdamCOutSpecIdeal.τ).loc Cert.AdamCOutSpecIdeal.main_arg3) = m ((c.tc : Thread Cert.AdamCOutIdeal.nD Cert.AdamCOutIdeal.τ).loc Cert.AdamCOutIdeal.main_arg3)) →
    ∃ (v0 : (c : Dev Cert.AdamCOutIdeal.nD) → Buf (Elt Ideal) ((c.tc : Thread Cert.AdamCOutIdeal.nD Cert.AdamCOutIdeal.τ).loc Cert.AdamCOutIdeal.main_v1_0)) (v1 : (c : Dev Cert.AdamCOutIdeal.nD) → Buf (Elt Ideal) ((c.tc : Thread Cert.AdamCOutIdeal.nD Cert.AdamCOutIdeal.τ).loc Cert.AdamCOutIdeal.main_v1_1)) (v2 : (c : Dev Cert.AdamCOutIdeal.nD) → Buf (Elt Ideal) ((c.tc : Thread Cert.AdamCOutIdeal.nD Cert.AdamCOutIdeal.τ).loc Cert.AdamCOutIdeal.main_v1_2)) (v3 : (c : Dev Cert.AdamCOutIdeal.nD) → Buf (Elt Ideal) ((c.tc : Thread Cert.AdamCOutIdeal.nD Cert.AdamCOutIdeal.τ).loc Cert.AdamCOutIdeal.main_v1_3)),
      θ_run (Cert.AdamCOutIdeal.defs (F := Ideal)) (onTc (τ := Cert.AdamCOutIdeal.τ) (Cert.AdamCOutIdeal.main (F := Ideal))) ⟨m, fun _ => 0, g⟩ (fun r => ∀ c : Dev Cert.AdamCOutIdeal.nD,
          r.2.mem ((c.tc : Thread Cert.AdamCOutIdeal.nD Cert.AdamCOutIdeal.τ).loc Cert.AdamCOutIdeal.main_v1_0) = v0 c
          ∧ r.2.mem ((c.tc : Thread Cert.AdamCOutIdeal.nD Cert.AdamCOutIdeal.τ).loc Cert.AdamCOutIdeal.main_v1_1) = v1 c
          ∧ r.2.mem ((c.tc : Thread Cert.AdamCOutIdeal.nD Cert.AdamCOutIdeal.τ).loc Cert.AdamCOutIdeal.main_v1_2) = v2 c
          ∧ r.2.mem ((c.tc : Thread Cert.AdamCOutIdeal.nD Cert.AdamCOutIdeal.τ).loc Cert.AdamCOutIdeal.main_v1_3) = v3 c
          ∧ r.2.mem ((c.tc : Thread Cert.AdamCOutIdeal.nD Cert.AdamCOutIdeal.τ).loc Cert.AdamCOutIdeal.main_arg0) = m ((c.tc : Thread Cert.AdamCOutIdeal.nD Cert.AdamCOutIdeal.τ).loc Cert.AdamCOutIdeal.main_arg0)
          ∧ r.2.mem ((c.tc : Thread Cert.AdamCOutIdeal.nD Cert.AdamCOutIdeal.τ).loc Cert.AdamCOutIdeal.main_arg1) = m ((c.tc : Thread Cert.AdamCOutIdeal.nD Cert.AdamCOutIdeal.τ).loc Cert.AdamCOutIdeal.main_arg1)
          ∧ r.2.mem ((c.tc : Thread Cert.AdamCOutIdeal.nD Cert.AdamCOutIdeal.τ).loc Cert.AdamCOutIdeal.main_arg2) = m ((c.tc : Thread Cert.AdamCOutIdeal.nD Cert.AdamCOutIdeal.τ).loc Cert.AdamCOutIdeal.main_arg2)
          ∧ r.2.mem ((c.tc : Thread Cert.AdamCOutIdeal.nD Cert.AdamCOutIdeal.τ).loc Cert.AdamCOutIdeal.main_arg3) = m ((c.tc : Thread Cert.AdamCOutIdeal.nD Cert.AdamCOutIdeal.τ).loc Cert.AdamCOutIdeal.main_arg3))
      ∧ θ_run (Cert.AdamCOutSpecIdeal.defs (F := Ideal)) (onTc (τ := Cert.AdamCOutSpecIdeal.τ) (Cert.AdamCOutSpecIdeal.main (F := Ideal))) ⟨m', fun _ => 0, g'⟩ (fun r => ∀ c : Dev Cert.AdamCOutSpecIdeal.nD,
          r.2.mem ((c.tc : Thread Cert.AdamCOutSpecIdeal.nD Cert.AdamCOutSpecIdeal.τ).loc Cert.AdamCOutSpecIdeal.main_v1) = v0 c
          ∧ r.2.mem ((c.tc : Thread Cert.AdamCOutSpecIdeal.nD Cert.AdamCOutSpecIdeal.τ).loc Cert.AdamCOutSpecIdeal.main_v25) = v1 c
          ∧ r.2.mem ((c.tc : Thread Cert.AdamCOutSpecIdeal.nD Cert.AdamCOutSpecIdeal.τ).loc Cert.AdamCOutSpecIdeal.main_v6) = v2 c
          ∧ r.2.mem ((c.tc : Thread Cert.AdamCOutSpecIdeal.nD Cert.AdamCOutSpecIdeal.τ).loc Cert.AdamCOutSpecIdeal.main_v12) = v3 c
          ∧ r.2.mem ((c.tc : Thread Cert.AdamCOutSpecIdeal.nD Cert.AdamCOutSpecIdeal.τ).loc Cert.AdamCOutSpecIdeal.main_arg0) = m' ((c.tc : Thread Cert.AdamCOutSpecIdeal.nD Cert.AdamCOutSpecIdeal.τ).loc Cert.AdamCOutSpecIdeal.main_arg0)
          ∧ r.2.mem ((c.tc : Thread Cert.AdamCOutSpecIdeal.nD Cert.AdamCOutSpecIdeal.τ).loc Cert.AdamCOutSpecIdeal.main_arg1) = m' ((c.tc : Thread Cert.AdamCOutSpecIdeal.nD Cert.AdamCOutSpecIdeal.τ).loc Cert.AdamCOutSpecIdeal.main_arg1)
          ∧ r.2.mem ((c.tc : Thread Cert.AdamCOutSpecIdeal.nD Cert.AdamCOutSpecIdeal.τ).loc Cert.AdamCOutSpecIdeal.main_arg2) = m' ((c.tc : Thread Cert.AdamCOutSpecIdeal.nD Cert.AdamCOutSpecIdeal.τ).loc Cert.AdamCOutSpecIdeal.main_arg2)
          ∧ r.2.mem ((c.tc : Thread Cert.AdamCOutSpecIdeal.nD Cert.AdamCOutSpecIdeal.τ).loc Cert.AdamCOutSpecIdeal.main_arg3) = m' ((c.tc : Thread Cert.AdamCOutSpecIdeal.nD Cert.AdamCOutSpecIdeal.τ).loc Cert.AdamCOutSpecIdeal.main_arg3))

def preserves_AdamXaWq_AdamXaWqIdeal : Prop :=
  True

def algebraic_AdamXaWqIdeal_AdamXaWqSpecIdeal [hAdamXaWqIdeal : Cert.AdamXaWqIdeal.Facts] [hAdamXaWqSpecIdeal : Cert.AdamXaWqSpecIdeal.Facts] : Prop :=
  ∀ (m : (ℓ : Loc Cert.AdamXaWqIdeal.nD Cert.AdamXaWqIdeal.τ Cert.AdamXaWqIdeal.sig) → Buf (Elt Ideal) ℓ) (g : Dev Cert.AdamXaWqIdeal.nD → PrngReg)
    (m' : (ℓ : Loc Cert.AdamXaWqSpecIdeal.nD Cert.AdamXaWqSpecIdeal.τ Cert.AdamXaWqSpecIdeal.sig) → Buf (Elt Ideal) ℓ) (g' : Dev Cert.AdamXaWqSpecIdeal.nD → PrngReg), Pre_AdamXaWqIdeal m →
    (∀ c : Dev Cert.AdamXaWqIdeal.nD,
      m' ((c.tc : Thread Cert.AdamXaWqSpecIdeal.nD Cert.AdamXaWqSpecIdeal.τ).loc Cert.AdamXaWqSpecIdeal.main_arg0) = m ((c.tc : Thread Cert.AdamXaWqIdeal.nD Cert.AdamXaWqIdeal.τ).loc Cert.AdamXaWqIdeal.main_arg0)
      ∧ m' ((c.tc : Thread Cert.AdamXaWqSpecIdeal.nD Cert.AdamXaWqSpecIdeal.τ).loc Cert.AdamXaWqSpecIdeal.main_arg1) = m ((c.tc : Thread Cert.AdamXaWqIdeal.nD Cert.AdamXaWqIdeal.τ).loc Cert.AdamXaWqIdeal.main_arg1)
      ∧ m' ((c.tc : Thread Cert.AdamXaWqSpecIdeal.nD Cert.AdamXaWqSpecIdeal.τ).loc Cert.AdamXaWqSpecIdeal.main_arg2) = m ((c.tc : Thread Cert.AdamXaWqIdeal.nD Cert.AdamXaWqIdeal.τ).loc Cert.AdamXaWqIdeal.main_arg2)
      ∧ m' ((c.tc : Thread Cert.AdamXaWqSpecIdeal.nD Cert.AdamXaWqSpecIdeal.τ).loc Cert.AdamXaWqSpecIdeal.main_arg3) = m ((c.tc : Thread Cert.AdamXaWqIdeal.nD Cert.AdamXaWqIdeal.τ).loc Cert.AdamXaWqIdeal.main_arg3)
      ∧ m' ((c.tc : Thread Cert.AdamXaWqSpecIdeal.nD Cert.AdamXaWqSpecIdeal.τ).loc Cert.AdamXaWqSpecIdeal.main_arg4) = m ((c.tc : Thread Cert.AdamXaWqIdeal.nD Cert.AdamXaWqIdeal.τ).loc Cert.AdamXaWqIdeal.main_arg4)) →
    ∃ (v0 : (c : Dev Cert.AdamXaWqIdeal.nD) → Buf (Elt Ideal) ((c.tc : Thread Cert.AdamXaWqIdeal.nD Cert.AdamXaWqIdeal.τ).loc Cert.AdamXaWqIdeal.main_v3_0)) (v1 : (c : Dev Cert.AdamXaWqIdeal.nD) → Buf (Elt Ideal) ((c.tc : Thread Cert.AdamXaWqIdeal.nD Cert.AdamXaWqIdeal.τ).loc Cert.AdamXaWqIdeal.main_v3_1)) (v2 : (c : Dev Cert.AdamXaWqIdeal.nD) → Buf (Elt Ideal) ((c.tc : Thread Cert.AdamXaWqIdeal.nD Cert.AdamXaWqIdeal.τ).loc Cert.AdamXaWqIdeal.main_v3_2)) (v3 : (c : Dev Cert.AdamXaWqIdeal.nD) → Buf (Elt Ideal) ((c.tc : Thread Cert.AdamXaWqIdeal.nD Cert.AdamXaWqIdeal.τ).loc Cert.AdamXaWqIdeal.main_v3_3)),
      θ_run (Cert.AdamXaWqIdeal.defs (F := Ideal)) (onTc (τ := Cert.AdamXaWqIdeal.τ) (Cert.AdamXaWqIdeal.main (F := Ideal))) ⟨m, fun _ => 0, g⟩ (fun r => ∀ c : Dev Cert.AdamXaWqIdeal.nD,
          r.2.mem ((c.tc : Thread Cert.AdamXaWqIdeal.nD Cert.AdamXaWqIdeal.τ).loc Cert.AdamXaWqIdeal.main_v3_0) = v0 c
          ∧ r.2.mem ((c.tc : Thread Cert.AdamXaWqIdeal.nD Cert.AdamXaWqIdeal.τ).loc Cert.AdamXaWqIdeal.main_v3_1) = v1 c
          ∧ r.2.mem ((c.tc : Thread Cert.AdamXaWqIdeal.nD Cert.AdamXaWqIdeal.τ).loc Cert.AdamXaWqIdeal.main_v3_2) = v2 c
          ∧ r.2.mem ((c.tc : Thread Cert.AdamXaWqIdeal.nD Cert.AdamXaWqIdeal.τ).loc Cert.AdamXaWqIdeal.main_v3_3) = v3 c
          ∧ r.2.mem ((c.tc : Thread Cert.AdamXaWqIdeal.nD Cert.AdamXaWqIdeal.τ).loc Cert.AdamXaWqIdeal.main_arg0) = m ((c.tc : Thread Cert.AdamXaWqIdeal.nD Cert.AdamXaWqIdeal.τ).loc Cert.AdamXaWqIdeal.main_arg0)
          ∧ r.2.mem ((c.tc : Thread Cert.AdamXaWqIdeal.nD Cert.AdamXaWqIdeal.τ).loc Cert.AdamXaWqIdeal.main_arg1) = m ((c.tc : Thread Cert.AdamXaWqIdeal.nD Cert.AdamXaWqIdeal.τ).loc Cert.AdamXaWqIdeal.main_arg1)
          ∧ r.2.mem ((c.tc : Thread Cert.AdamXaWqIdeal.nD Cert.AdamXaWqIdeal.τ).loc Cert.AdamXaWqIdeal.main_arg2) = m ((c.tc : Thread Cert.AdamXaWqIdeal.nD Cert.AdamXaWqIdeal.τ).loc Cert.AdamXaWqIdeal.main_arg2)
          ∧ r.2.mem ((c.tc : Thread Cert.AdamXaWqIdeal.nD Cert.AdamXaWqIdeal.τ).loc Cert.AdamXaWqIdeal.main_arg3) = m ((c.tc : Thread Cert.AdamXaWqIdeal.nD Cert.AdamXaWqIdeal.τ).loc Cert.AdamXaWqIdeal.main_arg3)
          ∧ r.2.mem ((c.tc : Thread Cert.AdamXaWqIdeal.nD Cert.AdamXaWqIdeal.τ).loc Cert.AdamXaWqIdeal.main_arg4) = m ((c.tc : Thread Cert.AdamXaWqIdeal.nD Cert.AdamXaWqIdeal.τ).loc Cert.AdamXaWqIdeal.main_arg4))
      ∧ θ_run (Cert.AdamXaWqSpecIdeal.defs (F := Ideal)) (onTc (τ := Cert.AdamXaWqSpecIdeal.τ) (Cert.AdamXaWqSpecIdeal.main (F := Ideal))) ⟨m', fun _ => 0, g'⟩ (fun r => ∀ c : Dev Cert.AdamXaWqSpecIdeal.nD,
          r.2.mem ((c.tc : Thread Cert.AdamXaWqSpecIdeal.nD Cert.AdamXaWqSpecIdeal.τ).loc Cert.AdamXaWqSpecIdeal.main_v4) = v0 c
          ∧ r.2.mem ((c.tc : Thread Cert.AdamXaWqSpecIdeal.nD Cert.AdamXaWqSpecIdeal.τ).loc Cert.AdamXaWqSpecIdeal.main_v28) = v1 c
          ∧ r.2.mem ((c.tc : Thread Cert.AdamXaWqSpecIdeal.nD Cert.AdamXaWqSpecIdeal.τ).loc Cert.AdamXaWqSpecIdeal.main_v9) = v2 c
          ∧ r.2.mem ((c.tc : Thread Cert.AdamXaWqSpecIdeal.nD Cert.AdamXaWqSpecIdeal.τ).loc Cert.AdamXaWqSpecIdeal.main_v15) = v3 c
          ∧ r.2.mem ((c.tc : Thread Cert.AdamXaWqSpecIdeal.nD Cert.AdamXaWqSpecIdeal.τ).loc Cert.AdamXaWqSpecIdeal.main_arg0) = m' ((c.tc : Thread Cert.AdamXaWqSpecIdeal.nD Cert.AdamXaWqSpecIdeal.τ).loc Cert.AdamXaWqSpecIdeal.main_arg0)
          ∧ r.2.mem ((c.tc : Thread Cert.AdamXaWqSpecIdeal.nD Cert.AdamXaWqSpecIdeal.τ).loc Cert.AdamXaWqSpecIdeal.main_arg1) = m' ((c.tc : Thread Cert.AdamXaWqSpecIdeal.nD Cert.AdamXaWqSpecIdeal.τ).loc Cert.AdamXaWqSpecIdeal.main_arg1)
          ∧ r.2.mem ((c.tc : Thread Cert.AdamXaWqSpecIdeal.nD Cert.AdamXaWqSpecIdeal.τ).loc Cert.AdamXaWqSpecIdeal.main_arg2) = m' ((c.tc : Thread Cert.AdamXaWqSpecIdeal.nD Cert.AdamXaWqSpecIdeal.τ).loc Cert.AdamXaWqSpecIdeal.main_arg2)
          ∧ r.2.mem ((c.tc : Thread Cert.AdamXaWqSpecIdeal.nD Cert.AdamXaWqSpecIdeal.τ).loc Cert.AdamXaWqSpecIdeal.main_arg3) = m' ((c.tc : Thread Cert.AdamXaWqSpecIdeal.nD Cert.AdamXaWqSpecIdeal.τ).loc Cert.AdamXaWqSpecIdeal.main_arg3)
          ∧ r.2.mem ((c.tc : Thread Cert.AdamXaWqSpecIdeal.nD Cert.AdamXaWqSpecIdeal.τ).loc Cert.AdamXaWqSpecIdeal.main_arg4) = m' ((c.tc : Thread Cert.AdamXaWqSpecIdeal.nD Cert.AdamXaWqSpecIdeal.τ).loc Cert.AdamXaWqSpecIdeal.main_arg4))

def preserves_AdamXaWkv_AdamXaWkvIdeal : Prop :=
  True

def algebraic_AdamXaWkvIdeal_AdamXaWkvSpecIdeal [hAdamXaWkvIdeal : Cert.AdamXaWkvIdeal.Facts] [hAdamXaWkvSpecIdeal : Cert.AdamXaWkvSpecIdeal.Facts] : Prop :=
  ∀ (m : (ℓ : Loc Cert.AdamXaWkvIdeal.nD Cert.AdamXaWkvIdeal.τ Cert.AdamXaWkvIdeal.sig) → Buf (Elt Ideal) ℓ) (g : Dev Cert.AdamXaWkvIdeal.nD → PrngReg)
    (m' : (ℓ : Loc Cert.AdamXaWkvSpecIdeal.nD Cert.AdamXaWkvSpecIdeal.τ Cert.AdamXaWkvSpecIdeal.sig) → Buf (Elt Ideal) ℓ) (g' : Dev Cert.AdamXaWkvSpecIdeal.nD → PrngReg), Pre_AdamXaWkvIdeal m →
    (∀ c : Dev Cert.AdamXaWkvIdeal.nD,
      m' ((c.tc : Thread Cert.AdamXaWkvSpecIdeal.nD Cert.AdamXaWkvSpecIdeal.τ).loc Cert.AdamXaWkvSpecIdeal.main_arg0) = m ((c.tc : Thread Cert.AdamXaWkvIdeal.nD Cert.AdamXaWkvIdeal.τ).loc Cert.AdamXaWkvIdeal.main_arg0)
      ∧ m' ((c.tc : Thread Cert.AdamXaWkvSpecIdeal.nD Cert.AdamXaWkvSpecIdeal.τ).loc Cert.AdamXaWkvSpecIdeal.main_arg1) = m ((c.tc : Thread Cert.AdamXaWkvIdeal.nD Cert.AdamXaWkvIdeal.τ).loc Cert.AdamXaWkvIdeal.main_arg1)
      ∧ m' ((c.tc : Thread Cert.AdamXaWkvSpecIdeal.nD Cert.AdamXaWkvSpecIdeal.τ).loc Cert.AdamXaWkvSpecIdeal.main_arg2) = m ((c.tc : Thread Cert.AdamXaWkvIdeal.nD Cert.AdamXaWkvIdeal.τ).loc Cert.AdamXaWkvIdeal.main_arg2)
      ∧ m' ((c.tc : Thread Cert.AdamXaWkvSpecIdeal.nD Cert.AdamXaWkvSpecIdeal.τ).loc Cert.AdamXaWkvSpecIdeal.main_arg3) = m ((c.tc : Thread Cert.AdamXaWkvIdeal.nD Cert.AdamXaWkvIdeal.τ).loc Cert.AdamXaWkvIdeal.main_arg3)
      ∧ m' ((c.tc : Thread Cert.AdamXaWkvSpecIdeal.nD Cert.AdamXaWkvSpecIdeal.τ).loc Cert.AdamXaWkvSpecIdeal.main_arg4) = m ((c.tc : Thread Cert.AdamXaWkvIdeal.nD Cert.AdamXaWkvIdeal.τ).loc Cert.AdamXaWkvIdeal.main_arg4)) →
    ∃ (v0 : (c : Dev Cert.AdamXaWkvIdeal.nD) → Buf (Elt Ideal) ((c.tc : Thread Cert.AdamXaWkvIdeal.nD Cert.AdamXaWkvIdeal.τ).loc Cert.AdamXaWkvIdeal.main_v3_0)) (v1 : (c : Dev Cert.AdamXaWkvIdeal.nD) → Buf (Elt Ideal) ((c.tc : Thread Cert.AdamXaWkvIdeal.nD Cert.AdamXaWkvIdeal.τ).loc Cert.AdamXaWkvIdeal.main_v3_1)) (v2 : (c : Dev Cert.AdamXaWkvIdeal.nD) → Buf (Elt Ideal) ((c.tc : Thread Cert.AdamXaWkvIdeal.nD Cert.AdamXaWkvIdeal.τ).loc Cert.AdamXaWkvIdeal.main_v3_2)) (v3 : (c : Dev Cert.AdamXaWkvIdeal.nD) → Buf (Elt Ideal) ((c.tc : Thread Cert.AdamXaWkvIdeal.nD Cert.AdamXaWkvIdeal.τ).loc Cert.AdamXaWkvIdeal.main_v3_3)),
      θ_run (Cert.AdamXaWkvIdeal.defs (F := Ideal)) (onTc (τ := Cert.AdamXaWkvIdeal.τ) (Cert.AdamXaWkvIdeal.main (F := Ideal))) ⟨m, fun _ => 0, g⟩ (fun r => ∀ c : Dev Cert.AdamXaWkvIdeal.nD,
          r.2.mem ((c.tc : Thread Cert.AdamXaWkvIdeal.nD Cert.AdamXaWkvIdeal.τ).loc Cert.AdamXaWkvIdeal.main_v3_0) = v0 c
          ∧ r.2.mem ((c.tc : Thread Cert.AdamXaWkvIdeal.nD Cert.AdamXaWkvIdeal.τ).loc Cert.AdamXaWkvIdeal.main_v3_1) = v1 c
          ∧ r.2.mem ((c.tc : Thread Cert.AdamXaWkvIdeal.nD Cert.AdamXaWkvIdeal.τ).loc Cert.AdamXaWkvIdeal.main_v3_2) = v2 c
          ∧ r.2.mem ((c.tc : Thread Cert.AdamXaWkvIdeal.nD Cert.AdamXaWkvIdeal.τ).loc Cert.AdamXaWkvIdeal.main_v3_3) = v3 c
          ∧ r.2.mem ((c.tc : Thread Cert.AdamXaWkvIdeal.nD Cert.AdamXaWkvIdeal.τ).loc Cert.AdamXaWkvIdeal.main_arg0) = m ((c.tc : Thread Cert.AdamXaWkvIdeal.nD Cert.AdamXaWkvIdeal.τ).loc Cert.AdamXaWkvIdeal.main_arg0)
          ∧ r.2.mem ((c.tc : Thread Cert.AdamXaWkvIdeal.nD Cert.AdamXaWkvIdeal.τ).loc Cert.AdamXaWkvIdeal.main_arg1) = m ((c.tc : Thread Cert.AdamXaWkvIdeal.nD Cert.AdamXaWkvIdeal.τ).loc Cert.AdamXaWkvIdeal.main_arg1)
          ∧ r.2.mem ((c.tc : Thread Cert.AdamXaWkvIdeal.nD Cert.AdamXaWkvIdeal.τ).loc Cert.AdamXaWkvIdeal.main_arg2) = m ((c.tc : Thread Cert.AdamXaWkvIdeal.nD Cert.AdamXaWkvIdeal.τ).loc Cert.AdamXaWkvIdeal.main_arg2)
          ∧ r.2.mem ((c.tc : Thread Cert.AdamXaWkvIdeal.nD Cert.AdamXaWkvIdeal.τ).loc Cert.AdamXaWkvIdeal.main_arg3) = m ((c.tc : Thread Cert.AdamXaWkvIdeal.nD Cert.AdamXaWkvIdeal.τ).loc Cert.AdamXaWkvIdeal.main_arg3)
          ∧ r.2.mem ((c.tc : Thread Cert.AdamXaWkvIdeal.nD Cert.AdamXaWkvIdeal.τ).loc Cert.AdamXaWkvIdeal.main_arg4) = m ((c.tc : Thread Cert.AdamXaWkvIdeal.nD Cert.AdamXaWkvIdeal.τ).loc Cert.AdamXaWkvIdeal.main_arg4))
      ∧ θ_run (Cert.AdamXaWkvSpecIdeal.defs (F := Ideal)) (onTc (τ := Cert.AdamXaWkvSpecIdeal.τ) (Cert.AdamXaWkvSpecIdeal.main (F := Ideal))) ⟨m', fun _ => 0, g'⟩ (fun r => ∀ c : Dev Cert.AdamXaWkvSpecIdeal.nD,
          r.2.mem ((c.tc : Thread Cert.AdamXaWkvSpecIdeal.nD Cert.AdamXaWkvSpecIdeal.τ).loc Cert.AdamXaWkvSpecIdeal.main_v4) = v0 c
          ∧ r.2.mem ((c.tc : Thread Cert.AdamXaWkvSpecIdeal.nD Cert.AdamXaWkvSpecIdeal.τ).loc Cert.AdamXaWkvSpecIdeal.main_v28) = v1 c
          ∧ r.2.mem ((c.tc : Thread Cert.AdamXaWkvSpecIdeal.nD Cert.AdamXaWkvSpecIdeal.τ).loc Cert.AdamXaWkvSpecIdeal.main_v9) = v2 c
          ∧ r.2.mem ((c.tc : Thread Cert.AdamXaWkvSpecIdeal.nD Cert.AdamXaWkvSpecIdeal.τ).loc Cert.AdamXaWkvSpecIdeal.main_v15) = v3 c
          ∧ r.2.mem ((c.tc : Thread Cert.AdamXaWkvSpecIdeal.nD Cert.AdamXaWkvSpecIdeal.τ).loc Cert.AdamXaWkvSpecIdeal.main_arg0) = m' ((c.tc : Thread Cert.AdamXaWkvSpecIdeal.nD Cert.AdamXaWkvSpecIdeal.τ).loc Cert.AdamXaWkvSpecIdeal.main_arg0)
          ∧ r.2.mem ((c.tc : Thread Cert.AdamXaWkvSpecIdeal.nD Cert.AdamXaWkvSpecIdeal.τ).loc Cert.AdamXaWkvSpecIdeal.main_arg1) = m' ((c.tc : Thread Cert.AdamXaWkvSpecIdeal.nD Cert.AdamXaWkvSpecIdeal.τ).loc Cert.AdamXaWkvSpecIdeal.main_arg1)
          ∧ r.2.mem ((c.tc : Thread Cert.AdamXaWkvSpecIdeal.nD Cert.AdamXaWkvSpecIdeal.τ).loc Cert.AdamXaWkvSpecIdeal.main_arg2) = m' ((c.tc : Thread Cert.AdamXaWkvSpecIdeal.nD Cert.AdamXaWkvSpecIdeal.τ).loc Cert.AdamXaWkvSpecIdeal.main_arg2)
          ∧ r.2.mem ((c.tc : Thread Cert.AdamXaWkvSpecIdeal.nD Cert.AdamXaWkvSpecIdeal.τ).loc Cert.AdamXaWkvSpecIdeal.main_arg3) = m' ((c.tc : Thread Cert.AdamXaWkvSpecIdeal.nD Cert.AdamXaWkvSpecIdeal.τ).loc Cert.AdamXaWkvSpecIdeal.main_arg3)
          ∧ r.2.mem ((c.tc : Thread Cert.AdamXaWkvSpecIdeal.nD Cert.AdamXaWkvSpecIdeal.τ).loc Cert.AdamXaWkvSpecIdeal.main_arg4) = m' ((c.tc : Thread Cert.AdamXaWkvSpecIdeal.nD Cert.AdamXaWkvSpecIdeal.τ).loc Cert.AdamXaWkvSpecIdeal.main_arg4))

def preserves_AdamXaWo_AdamXaWoIdeal : Prop :=
  True

def algebraic_AdamXaWoIdeal_AdamXaWoSpecIdeal [hAdamXaWoIdeal : Cert.AdamXaWoIdeal.Facts] [hAdamXaWoSpecIdeal : Cert.AdamXaWoSpecIdeal.Facts] : Prop :=
  ∀ (m : (ℓ : Loc Cert.AdamXaWoIdeal.nD Cert.AdamXaWoIdeal.τ Cert.AdamXaWoIdeal.sig) → Buf (Elt Ideal) ℓ) (g : Dev Cert.AdamXaWoIdeal.nD → PrngReg)
    (m' : (ℓ : Loc Cert.AdamXaWoSpecIdeal.nD Cert.AdamXaWoSpecIdeal.τ Cert.AdamXaWoSpecIdeal.sig) → Buf (Elt Ideal) ℓ) (g' : Dev Cert.AdamXaWoSpecIdeal.nD → PrngReg), Pre_AdamXaWoIdeal m →
    (∀ c : Dev Cert.AdamXaWoIdeal.nD,
      m' ((c.tc : Thread Cert.AdamXaWoSpecIdeal.nD Cert.AdamXaWoSpecIdeal.τ).loc Cert.AdamXaWoSpecIdeal.main_arg0) = m ((c.tc : Thread Cert.AdamXaWoIdeal.nD Cert.AdamXaWoIdeal.τ).loc Cert.AdamXaWoIdeal.main_arg0)
      ∧ m' ((c.tc : Thread Cert.AdamXaWoSpecIdeal.nD Cert.AdamXaWoSpecIdeal.τ).loc Cert.AdamXaWoSpecIdeal.main_arg1) = m ((c.tc : Thread Cert.AdamXaWoIdeal.nD Cert.AdamXaWoIdeal.τ).loc Cert.AdamXaWoIdeal.main_arg1)
      ∧ m' ((c.tc : Thread Cert.AdamXaWoSpecIdeal.nD Cert.AdamXaWoSpecIdeal.τ).loc Cert.AdamXaWoSpecIdeal.main_arg2) = m ((c.tc : Thread Cert.AdamXaWoIdeal.nD Cert.AdamXaWoIdeal.τ).loc Cert.AdamXaWoIdeal.main_arg2)
      ∧ m' ((c.tc : Thread Cert.AdamXaWoSpecIdeal.nD Cert.AdamXaWoSpecIdeal.τ).loc Cert.AdamXaWoSpecIdeal.main_arg3) = m ((c.tc : Thread Cert.AdamXaWoIdeal.nD Cert.AdamXaWoIdeal.τ).loc Cert.AdamXaWoIdeal.main_arg3)
      ∧ m' ((c.tc : Thread Cert.AdamXaWoSpecIdeal.nD Cert.AdamXaWoSpecIdeal.τ).loc Cert.AdamXaWoSpecIdeal.main_arg4) = m ((c.tc : Thread Cert.AdamXaWoIdeal.nD Cert.AdamXaWoIdeal.τ).loc Cert.AdamXaWoIdeal.main_arg4)) →
    ∃ (v0 : (c : Dev Cert.AdamXaWoIdeal.nD) → Buf (Elt Ideal) ((c.tc : Thread Cert.AdamXaWoIdeal.nD Cert.AdamXaWoIdeal.τ).loc Cert.AdamXaWoIdeal.main_v3_0)) (v1 : (c : Dev Cert.AdamXaWoIdeal.nD) → Buf (Elt Ideal) ((c.tc : Thread Cert.AdamXaWoIdeal.nD Cert.AdamXaWoIdeal.τ).loc Cert.AdamXaWoIdeal.main_v3_1)) (v2 : (c : Dev Cert.AdamXaWoIdeal.nD) → Buf (Elt Ideal) ((c.tc : Thread Cert.AdamXaWoIdeal.nD Cert.AdamXaWoIdeal.τ).loc Cert.AdamXaWoIdeal.main_v3_2)) (v3 : (c : Dev Cert.AdamXaWoIdeal.nD) → Buf (Elt Ideal) ((c.tc : Thread Cert.AdamXaWoIdeal.nD Cert.AdamXaWoIdeal.τ).loc Cert.AdamXaWoIdeal.main_v3_3)),
      θ_run (Cert.AdamXaWoIdeal.defs (F := Ideal)) (onTc (τ := Cert.AdamXaWoIdeal.τ) (Cert.AdamXaWoIdeal.main (F := Ideal))) ⟨m, fun _ => 0, g⟩ (fun r => ∀ c : Dev Cert.AdamXaWoIdeal.nD,
          r.2.mem ((c.tc : Thread Cert.AdamXaWoIdeal.nD Cert.AdamXaWoIdeal.τ).loc Cert.AdamXaWoIdeal.main_v3_0) = v0 c
          ∧ r.2.mem ((c.tc : Thread Cert.AdamXaWoIdeal.nD Cert.AdamXaWoIdeal.τ).loc Cert.AdamXaWoIdeal.main_v3_1) = v1 c
          ∧ r.2.mem ((c.tc : Thread Cert.AdamXaWoIdeal.nD Cert.AdamXaWoIdeal.τ).loc Cert.AdamXaWoIdeal.main_v3_2) = v2 c
          ∧ r.2.mem ((c.tc : Thread Cert.AdamXaWoIdeal.nD Cert.AdamXaWoIdeal.τ).loc Cert.AdamXaWoIdeal.main_v3_3) = v3 c
          ∧ r.2.mem ((c.tc : Thread Cert.AdamXaWoIdeal.nD Cert.AdamXaWoIdeal.τ).loc Cert.AdamXaWoIdeal.main_arg0) = m ((c.tc : Thread Cert.AdamXaWoIdeal.nD Cert.AdamXaWoIdeal.τ).loc Cert.AdamXaWoIdeal.main_arg0)
          ∧ r.2.mem ((c.tc : Thread Cert.AdamXaWoIdeal.nD Cert.AdamXaWoIdeal.τ).loc Cert.AdamXaWoIdeal.main_arg1) = m ((c.tc : Thread Cert.AdamXaWoIdeal.nD Cert.AdamXaWoIdeal.τ).loc Cert.AdamXaWoIdeal.main_arg1)
          ∧ r.2.mem ((c.tc : Thread Cert.AdamXaWoIdeal.nD Cert.AdamXaWoIdeal.τ).loc Cert.AdamXaWoIdeal.main_arg2) = m ((c.tc : Thread Cert.AdamXaWoIdeal.nD Cert.AdamXaWoIdeal.τ).loc Cert.AdamXaWoIdeal.main_arg2)
          ∧ r.2.mem ((c.tc : Thread Cert.AdamXaWoIdeal.nD Cert.AdamXaWoIdeal.τ).loc Cert.AdamXaWoIdeal.main_arg3) = m ((c.tc : Thread Cert.AdamXaWoIdeal.nD Cert.AdamXaWoIdeal.τ).loc Cert.AdamXaWoIdeal.main_arg3)
          ∧ r.2.mem ((c.tc : Thread Cert.AdamXaWoIdeal.nD Cert.AdamXaWoIdeal.τ).loc Cert.AdamXaWoIdeal.main_arg4) = m ((c.tc : Thread Cert.AdamXaWoIdeal.nD Cert.AdamXaWoIdeal.τ).loc Cert.AdamXaWoIdeal.main_arg4))
      ∧ θ_run (Cert.AdamXaWoSpecIdeal.defs (F := Ideal)) (onTc (τ := Cert.AdamXaWoSpecIdeal.τ) (Cert.AdamXaWoSpecIdeal.main (F := Ideal))) ⟨m', fun _ => 0, g'⟩ (fun r => ∀ c : Dev Cert.AdamXaWoSpecIdeal.nD,
          r.2.mem ((c.tc : Thread Cert.AdamXaWoSpecIdeal.nD Cert.AdamXaWoSpecIdeal.τ).loc Cert.AdamXaWoSpecIdeal.main_v4) = v0 c
          ∧ r.2.mem ((c.tc : Thread Cert.AdamXaWoSpecIdeal.nD Cert.AdamXaWoSpecIdeal.τ).loc Cert.AdamXaWoSpecIdeal.main_v28) = v1 c
          ∧ r.2.mem ((c.tc : Thread Cert.AdamXaWoSpecIdeal.nD Cert.AdamXaWoSpecIdeal.τ).loc Cert.AdamXaWoSpecIdeal.main_v9) = v2 c
          ∧ r.2.mem ((c.tc : Thread Cert.AdamXaWoSpecIdeal.nD Cert.AdamXaWoSpecIdeal.τ).loc Cert.AdamXaWoSpecIdeal.main_v15) = v3 c
          ∧ r.2.mem ((c.tc : Thread Cert.AdamXaWoSpecIdeal.nD Cert.AdamXaWoSpecIdeal.τ).loc Cert.AdamXaWoSpecIdeal.main_arg0) = m' ((c.tc : Thread Cert.AdamXaWoSpecIdeal.nD Cert.AdamXaWoSpecIdeal.τ).loc Cert.AdamXaWoSpecIdeal.main_arg0)
          ∧ r.2.mem ((c.tc : Thread Cert.AdamXaWoSpecIdeal.nD Cert.AdamXaWoSpecIdeal.τ).loc Cert.AdamXaWoSpecIdeal.main_arg1) = m' ((c.tc : Thread Cert.AdamXaWoSpecIdeal.nD Cert.AdamXaWoSpecIdeal.τ).loc Cert.AdamXaWoSpecIdeal.main_arg1)
          ∧ r.2.mem ((c.tc : Thread Cert.AdamXaWoSpecIdeal.nD Cert.AdamXaWoSpecIdeal.τ).loc Cert.AdamXaWoSpecIdeal.main_arg2) = m' ((c.tc : Thread Cert.AdamXaWoSpecIdeal.nD Cert.AdamXaWoSpecIdeal.τ).loc Cert.AdamXaWoSpecIdeal.main_arg2)
          ∧ r.2.mem ((c.tc : Thread Cert.AdamXaWoSpecIdeal.nD Cert.AdamXaWoSpecIdeal.τ).loc Cert.AdamXaWoSpecIdeal.main_arg3) = m' ((c.tc : Thread Cert.AdamXaWoSpecIdeal.nD Cert.AdamXaWoSpecIdeal.τ).loc Cert.AdamXaWoSpecIdeal.main_arg3)
          ∧ r.2.mem ((c.tc : Thread Cert.AdamXaWoSpecIdeal.nD Cert.AdamXaWoSpecIdeal.τ).loc Cert.AdamXaWoSpecIdeal.main_arg4) = m' ((c.tc : Thread Cert.AdamXaWoSpecIdeal.nD Cert.AdamXaWoSpecIdeal.τ).loc Cert.AdamXaWoSpecIdeal.main_arg4))

def preserves_AdamGateUp_AdamGateUpIdeal : Prop :=
  True

def algebraic_AdamGateUpIdeal_AdamGateUpSpecIdeal [hAdamGateUpIdeal : Cert.AdamGateUpIdeal.Facts] [hAdamGateUpSpecIdeal : Cert.AdamGateUpSpecIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg)
    (m' : (ℓ : Loc Cert.AdamGateUpSpecIdeal.nD Cert.AdamGateUpSpecIdeal.τ Cert.AdamGateUpSpecIdeal.sig) → Buf (Elt Ideal) ℓ) (g' : Dev Cert.AdamGateUpSpecIdeal.nD → PrngReg), Pre_AdamGateUpIdeal m →
    (∀ c : Dev Cert.AdamGateUpIdeal.nD,
      m' ((c.tc : Thread Cert.AdamGateUpSpecIdeal.nD Cert.AdamGateUpSpecIdeal.τ).loc Cert.AdamGateUpSpecIdeal.main_arg0) = m ((c.tc : Thread Cert.AdamGateUpIdeal.nD Cert.AdamGateUpIdeal.τ).loc Cert.AdamGateUpIdeal.main_arg0)
      ∧ m' ((c.tc : Thread Cert.AdamGateUpSpecIdeal.nD Cert.AdamGateUpSpecIdeal.τ).loc Cert.AdamGateUpSpecIdeal.main_arg1) = m ((c.tc : Thread Cert.AdamGateUpIdeal.nD Cert.AdamGateUpIdeal.τ).loc Cert.AdamGateUpIdeal.main_arg1)
      ∧ m' ((c.tc : Thread Cert.AdamGateUpSpecIdeal.nD Cert.AdamGateUpSpecIdeal.τ).loc Cert.AdamGateUpSpecIdeal.main_arg2) = m ((c.tc : Thread Cert.AdamGateUpIdeal.nD Cert.AdamGateUpIdeal.τ).loc Cert.AdamGateUpIdeal.main_arg2)
      ∧ m' ((c.tc : Thread Cert.AdamGateUpSpecIdeal.nD Cert.AdamGateUpSpecIdeal.τ).loc Cert.AdamGateUpSpecIdeal.main_arg3) = m ((c.tc : Thread Cert.AdamGateUpIdeal.nD Cert.AdamGateUpIdeal.τ).loc Cert.AdamGateUpIdeal.main_arg3)
      ∧ m' ((c.tc : Thread Cert.AdamGateUpSpecIdeal.nD Cert.AdamGateUpSpecIdeal.τ).loc Cert.AdamGateUpSpecIdeal.main_arg4) = m ((c.tc : Thread Cert.AdamGateUpIdeal.nD Cert.AdamGateUpIdeal.τ).loc Cert.AdamGateUpIdeal.main_arg4)) →
    ∃ (v0 : (c : Dev Cert.AdamGateUpIdeal.nD) → Buf (Elt Ideal) ((c.tc : Thread Cert.AdamGateUpIdeal.nD Cert.AdamGateUpIdeal.τ).loc Cert.AdamGateUpIdeal.main_v6_0)) (v1 : (c : Dev Cert.AdamGateUpIdeal.nD) → Buf (Elt Ideal) ((c.tc : Thread Cert.AdamGateUpIdeal.nD Cert.AdamGateUpIdeal.τ).loc Cert.AdamGateUpIdeal.main_v6_1)) (v2 : (c : Dev Cert.AdamGateUpIdeal.nD) → Buf (Elt Ideal) ((c.tc : Thread Cert.AdamGateUpIdeal.nD Cert.AdamGateUpIdeal.τ).loc Cert.AdamGateUpIdeal.main_v6_2)) (v3 : (c : Dev Cert.AdamGateUpIdeal.nD) → Buf (Elt Ideal) ((c.tc : Thread Cert.AdamGateUpIdeal.nD Cert.AdamGateUpIdeal.τ).loc Cert.AdamGateUpIdeal.main_v6_3)),
      θ_run (Cert.AdamGateUpIdeal.defs (F := Ideal)) (onTc (τ := Cert.AdamGateUpIdeal.τ) (Cert.AdamGateUpIdeal.main (F := Ideal))) ⟨m, fun _ => 0, g⟩ (fun r => ∀ c : Dev Cert.AdamGateUpIdeal.nD,
          r.2.mem ((c.tc : Thread Cert.AdamGateUpIdeal.nD Cert.AdamGateUpIdeal.τ).loc Cert.AdamGateUpIdeal.main_v6_0) = v0 c
          ∧ r.2.mem ((c.tc : Thread Cert.AdamGateUpIdeal.nD Cert.AdamGateUpIdeal.τ).loc Cert.AdamGateUpIdeal.main_v6_1) = v1 c
          ∧ r.2.mem ((c.tc : Thread Cert.AdamGateUpIdeal.nD Cert.AdamGateUpIdeal.τ).loc Cert.AdamGateUpIdeal.main_v6_2) = v2 c
          ∧ r.2.mem ((c.tc : Thread Cert.AdamGateUpIdeal.nD Cert.AdamGateUpIdeal.τ).loc Cert.AdamGateUpIdeal.main_v6_3) = v3 c
          ∧ r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
          ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
          ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
          ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3)
          ∧ r.2.mem ((c.tc : Thread Cert.AdamGateUpIdeal.nD Cert.AdamGateUpIdeal.τ).loc Cert.AdamGateUpIdeal.main_arg4) = m ((c.tc : Thread Cert.AdamGateUpIdeal.nD Cert.AdamGateUpIdeal.τ).loc Cert.AdamGateUpIdeal.main_arg4))
      ∧ θ_run (Cert.AdamGateUpSpecIdeal.defs (F := Ideal)) (onTc (τ := Cert.AdamGateUpSpecIdeal.τ) (Cert.AdamGateUpSpecIdeal.main (F := Ideal))) ⟨m', fun _ => 0, g'⟩ (fun r => ∀ c : Dev Cert.AdamGateUpSpecIdeal.nD,
          r.2.mem ((c.tc : Thread Cert.AdamGateUpSpecIdeal.nD Cert.AdamGateUpSpecIdeal.τ).loc Cert.AdamGateUpSpecIdeal.main_v30) = v0 c
          ∧ r.2.mem ((c.tc : Thread Cert.AdamGateUpSpecIdeal.nD Cert.AdamGateUpSpecIdeal.τ).loc Cert.AdamGateUpSpecIdeal.main_v31) = v1 c
          ∧ r.2.mem ((c.tc : Thread Cert.AdamGateUpSpecIdeal.nD Cert.AdamGateUpSpecIdeal.τ).loc Cert.AdamGateUpSpecIdeal.main_v32) = v2 c
          ∧ r.2.mem ((c.tc : Thread Cert.AdamGateUpSpecIdeal.nD Cert.AdamGateUpSpecIdeal.τ).loc Cert.AdamGateUpSpecIdeal.main_v33) = v3 c
          ∧ r.2.mem ((c.tc : Thread Cert.AdamGateUpSpecIdeal.nD Cert.AdamGateUpSpecIdeal.τ).loc Cert.AdamGateUpSpecIdeal.main_arg0) = m' ((c.tc : Thread Cert.AdamGateUpSpecIdeal.nD Cert.AdamGateUpSpecIdeal.τ).loc Cert.AdamGateUpSpecIdeal.main_arg0)
          ∧ r.2.mem ((c.tc : Thread Cert.AdamGateUpSpecIdeal.nD Cert.AdamGateUpSpecIdeal.τ).loc Cert.AdamGateUpSpecIdeal.main_arg1) = m' ((c.tc : Thread Cert.AdamGateUpSpecIdeal.nD Cert.AdamGateUpSpecIdeal.τ).loc Cert.AdamGateUpSpecIdeal.main_arg1)
          ∧ r.2.mem ((c.tc : Thread Cert.AdamGateUpSpecIdeal.nD Cert.AdamGateUpSpecIdeal.τ).loc Cert.AdamGateUpSpecIdeal.main_arg2) = m' ((c.tc : Thread Cert.AdamGateUpSpecIdeal.nD Cert.AdamGateUpSpecIdeal.τ).loc Cert.AdamGateUpSpecIdeal.main_arg2)
          ∧ r.2.mem ((c.tc : Thread Cert.AdamGateUpSpecIdeal.nD Cert.AdamGateUpSpecIdeal.τ).loc Cert.AdamGateUpSpecIdeal.main_arg3) = m' ((c.tc : Thread Cert.AdamGateUpSpecIdeal.nD Cert.AdamGateUpSpecIdeal.τ).loc Cert.AdamGateUpSpecIdeal.main_arg3)
          ∧ r.2.mem ((c.tc : Thread Cert.AdamGateUpSpecIdeal.nD Cert.AdamGateUpSpecIdeal.τ).loc Cert.AdamGateUpSpecIdeal.main_arg4) = m' ((c.tc : Thread Cert.AdamGateUpSpecIdeal.nD Cert.AdamGateUpSpecIdeal.τ).loc Cert.AdamGateUpSpecIdeal.main_arg4))

def preserves_AdamDown_AdamDownIdeal : Prop :=
  True

def algebraic_AdamDownIdeal_AdamDownSpecIdeal [hAdamDownIdeal : Cert.AdamDownIdeal.Facts] [hAdamDownSpecIdeal : Cert.AdamDownSpecIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownSpecIdeal.nD Cert.AdamDownSpecIdeal.τ Cert.AdamDownSpecIdeal.sig) → Buf (Elt Ideal) ℓ) (g' : Dev Cert.AdamDownSpecIdeal.nD → PrngReg), Pre_AdamDownIdeal m →
    (∀ c : Dev Cert.AdamDownIdeal.nD,
      m' ((c.tc : Thread Cert.AdamDownSpecIdeal.nD Cert.AdamDownSpecIdeal.τ).loc Cert.AdamDownSpecIdeal.main_arg0) = m ((c.tc : Thread Cert.AdamDownIdeal.nD Cert.AdamDownIdeal.τ).loc Cert.AdamDownIdeal.main_arg0)
      ∧ m' ((c.tc : Thread Cert.AdamDownSpecIdeal.nD Cert.AdamDownSpecIdeal.τ).loc Cert.AdamDownSpecIdeal.main_arg1) = m ((c.tc : Thread Cert.AdamDownIdeal.nD Cert.AdamDownIdeal.τ).loc Cert.AdamDownIdeal.main_arg1)
      ∧ m' ((c.tc : Thread Cert.AdamDownSpecIdeal.nD Cert.AdamDownSpecIdeal.τ).loc Cert.AdamDownSpecIdeal.main_arg2) = m ((c.tc : Thread Cert.AdamDownIdeal.nD Cert.AdamDownIdeal.τ).loc Cert.AdamDownIdeal.main_arg2)
      ∧ m' ((c.tc : Thread Cert.AdamDownSpecIdeal.nD Cert.AdamDownSpecIdeal.τ).loc Cert.AdamDownSpecIdeal.main_arg3) = m ((c.tc : Thread Cert.AdamDownIdeal.nD Cert.AdamDownIdeal.τ).loc Cert.AdamDownIdeal.main_arg3)
      ∧ m' ((c.tc : Thread Cert.AdamDownSpecIdeal.nD Cert.AdamDownSpecIdeal.τ).loc Cert.AdamDownSpecIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v3_0)) (v1 : (c : Dev Cert.AdamDownIdeal.nD) → Buf (Elt Ideal) ((c.tc : Thread Cert.AdamDownIdeal.nD Cert.AdamDownIdeal.τ).loc Cert.AdamDownIdeal.main_v3_1)) (v2 : (c : Dev Cert.AdamDownIdeal.nD) → Buf (Elt Ideal) ((c.tc : Thread Cert.AdamDownIdeal.nD Cert.AdamDownIdeal.τ).loc Cert.AdamDownIdeal.main_v3_2)) (v3 : (c : Dev Cert.AdamDownIdeal.nD) → Buf (Elt Ideal) ((c.tc : Thread Cert.AdamDownIdeal.nD Cert.AdamDownIdeal.τ).loc Cert.AdamDownIdeal.main_v3_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v3_0) = v0 c
          ∧ r.2.mem ((c.tc : Thread Cert.AdamDownIdeal.nD Cert.AdamDownIdeal.τ).loc Cert.AdamDownIdeal.main_v3_1) = v1 c
          ∧ r.2.mem ((c.tc : Thread Cert.AdamDownIdeal.nD Cert.AdamDownIdeal.τ).loc Cert.AdamDownIdeal.main_v3_2) = v2 c
          ∧ r.2.mem ((c.tc : Thread Cert.AdamDownIdeal.nD Cert.AdamDownIdeal.τ).loc Cert.AdamDownIdeal.main_v3_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownSpecIdeal.defs (F := Ideal)) (onTc (τ := Cert.AdamDownSpecIdeal.τ) (Cert.AdamDownSpecIdeal.main (F := Ideal))) ⟨m', fun _ => 0, g'⟩ (fun r => ∀ c : Dev Cert.AdamDownSpecIdeal.nD,
          r.2.mem ((c.tc : Thread Cert.AdamDownSpecIdeal.nD Cert.AdamDownSpecIdeal.τ).loc Cert.AdamDownSpecIdeal.main_v4) = v0 c
          ∧ r.2.mem ((c.tc : Thread Cert.AdamDownSpecIdeal.nD Cert.AdamDownSpecIdeal.τ).loc Cert.AdamDownSpecIdeal.main_v28) = v1 c
          ∧ r.2.mem ((c.tc : Thread Cert.AdamDownSpecIdeal.nD Cert.AdamDownSpecIdeal.τ).loc Cert.AdamDownSpecIdeal.main_v9) = v2 c
          ∧ r.2.mem ((c.tc : Thread Cert.AdamDownSpecIdeal.nD Cert.AdamDownSpecIdeal.τ).loc Cert.AdamDownSpecIdeal.main_v15) = v3 c
          ∧ r.2.mem ((c.tc : Thread Cert.AdamDownSpecIdeal.nD Cert.AdamDownSpecIdeal.τ).loc Cert.AdamDownSpecIdeal.main_arg0) = m' ((c.tc : Thread Cert.AdamDownSpecIdeal.nD Cert.AdamDownSpecIdeal.τ).loc Cert.AdamDownSpecIdeal.main_arg0)
          ∧ r.2.mem ((c.tc : Thread Cert.AdamDownSpecIdeal.nD Cert.AdamDownSpecIdeal.τ).loc Cert.AdamDownSpecIdeal.main_arg1) = m' ((c.tc : Thread Cert.AdamDownSpecIdeal.nD Cert.AdamDownSpecIdeal.τ).loc Cert.AdamDownSpecIdeal.main_arg1)
          ∧ r.2.mem ((c.tc : Thread Cert.AdamDownSpecIdeal.nD Cert.AdamDownSpecIdeal.τ).loc Cert.AdamDownSpecIdeal.main_arg2) = m' ((c.tc : Thread Cert.AdamDownSpecIdeal.nD Cert.AdamDownSpecIdeal.τ).loc Cert.AdamDownSpecIdeal.main_arg2)
          ∧ r.2.mem ((c.tc : Thread Cert.AdamDownSpecIdeal.nD Cert.AdamDownSpecIdeal.τ).loc Cert.AdamDownSpecIdeal.main_arg3) = m' ((c.tc : Thread Cert.AdamDownSpecIdeal.nD Cert.AdamDownSpecIdeal.τ).loc Cert.AdamDownSpecIdeal.main_arg3)
          ∧ r.2.mem ((c.tc : Thread Cert.AdamDownSpecIdeal.nD Cert.AdamDownSpecIdeal.τ).loc Cert.AdamDownSpecIdeal.main_arg4) = m' ((c.tc : Thread Cert.AdamDownSpecIdeal.nD Cert.AdamDownSpecIdeal.τ).loc Cert.AdamDownSpecIdeal.main_arg4))

def preserves_AdamSmall_AdamSmallIdeal : Prop :=
  True

def algebraic_AdamSmallIdeal_AdamSmallSpecIdeal [hAdamSmallIdeal : Cert.AdamSmallIdeal.Facts] [hAdamSmallSpecIdeal : Cert.AdamSmallSpecIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallSpecIdeal.nD Cert.AdamSmallSpecIdeal.τ Cert.AdamSmallSpecIdeal.sig) → Buf (Elt Ideal) ℓ) (g' : Dev Cert.AdamSmallSpecIdeal.nD → PrngReg), Pre_AdamSmallIdeal m →
    (∀ c : Dev Cert.AdamSmallIdeal.nD,
      m' ((c.tc : Thread Cert.AdamSmallSpecIdeal.nD Cert.AdamSmallSpecIdeal.τ).loc Cert.AdamSmallSpecIdeal.main_arg0) = m ((c.tc : Thread Cert.AdamSmallIdeal.nD Cert.AdamSmallIdeal.τ).loc Cert.AdamSmallIdeal.main_arg0)
      ∧ m' ((c.tc : Thread Cert.AdamSmallSpecIdeal.nD Cert.AdamSmallSpecIdeal.τ).loc Cert.AdamSmallSpecIdeal.main_arg1) = m ((c.tc : Thread Cert.AdamSmallIdeal.nD Cert.AdamSmallIdeal.τ).loc Cert.AdamSmallIdeal.main_arg1)
      ∧ m' ((c.tc : Thread Cert.AdamSmallSpecIdeal.nD Cert.AdamSmallSpecIdeal.τ).loc Cert.AdamSmallSpecIdeal.main_arg2) = m ((c.tc : Thread Cert.AdamSmallIdeal.nD Cert.AdamSmallIdeal.τ).loc Cert.AdamSmallIdeal.main_arg2)
      ∧ m' ((c.tc : Thread Cert.AdamSmallSpecIdeal.nD Cert.AdamSmallSpecIdeal.τ).loc Cert.AdamSmallSpecIdeal.main_arg3) = m ((c.tc : Thread Cert.AdamSmallIdeal.nD Cert.AdamSmallIdeal.τ).loc Cert.AdamSmallIdeal.main_arg3)
      ∧ m' ((c.tc : Thread Cert.AdamSmallSpecIdeal.nD Cert.AdamSmallSpecIdeal.τ).loc Cert.AdamSmallSpecIdeal.main_arg4) = m ((c.tc : Thread Cert.AdamSmallIdeal.nD Cert.AdamSmallIdeal.τ).loc Cert.AdamSmallIdeal.main_arg4)
      ∧ m' ((c.tc : Thread Cert.AdamSmallSpecIdeal.nD Cert.AdamSmallSpecIdeal.τ).loc Cert.AdamSmallSpecIdeal.main_arg5) = m ((c.tc : Thread Cert.AdamSmallIdeal.nD Cert.AdamSmallIdeal.τ).loc Cert.AdamSmallIdeal.main_arg5)
      ∧ m' ((c.tc : Thread Cert.AdamSmallSpecIdeal.nD Cert.AdamSmallSpecIdeal.τ).loc Cert.AdamSmallSpecIdeal.main_arg6) = m ((c.tc : Thread Cert.AdamSmallIdeal.nD Cert.AdamSmallIdeal.τ).loc Cert.AdamSmallIdeal.main_arg6)
      ∧ m' ((c.tc : Thread Cert.AdamSmallSpecIdeal.nD Cert.AdamSmallSpecIdeal.τ).loc Cert.AdamSmallSpecIdeal.main_arg7) = m ((c.tc : Thread Cert.AdamSmallIdeal.nD Cert.AdamSmallIdeal.τ).loc Cert.AdamSmallIdeal.main_arg7)
      ∧ m' ((c.tc : Thread Cert.AdamSmallSpecIdeal.nD Cert.AdamSmallSpecIdeal.τ).loc Cert.AdamSmallSpecIdeal.main_arg8) = m ((c.tc : Thread Cert.AdamSmallIdeal.nD Cert.AdamSmallIdeal.τ).loc Cert.AdamSmallIdeal.main_arg8)
      ∧ m' ((c.tc : Thread Cert.AdamSmallSpecIdeal.nD Cert.AdamSmallSpecIdeal.τ).loc Cert.AdamSmallSpecIdeal.main_arg9) = m ((c.tc : Thread Cert.AdamSmallIdeal.nD Cert.AdamSmallIdeal.τ).loc Cert.AdamSmallIdeal.main_arg9)
      ∧ m' ((c.tc : Thread Cert.AdamSmallSpecIdeal.nD Cert.AdamSmallSpecIdeal.τ).loc Cert.AdamSmallSpecIdeal.main_arg10) = m ((c.tc : Thread Cert.AdamSmallIdeal.nD Cert.AdamSmallIdeal.τ).loc Cert.AdamSmallIdeal.main_arg10)
      ∧ m' ((c.tc : Thread Cert.AdamSmallSpecIdeal.nD Cert.AdamSmallSpecIdeal.τ).loc Cert.AdamSmallSpecIdeal.main_arg11) = m ((c.tc : Thread Cert.AdamSmallIdeal.nD Cert.AdamSmallIdeal.τ).loc Cert.AdamSmallIdeal.main_arg11)
      ∧ m' ((c.tc : Thread Cert.AdamSmallSpecIdeal.nD Cert.AdamSmallSpecIdeal.τ).loc Cert.AdamSmallSpecIdeal.main_arg12) = m ((c.tc : Thread Cert.AdamSmallIdeal.nD Cert.AdamSmallIdeal.τ).loc Cert.AdamSmallIdeal.main_arg12)
      ∧ m' ((c.tc : Thread Cert.AdamSmallSpecIdeal.nD Cert.AdamSmallSpecIdeal.τ).loc Cert.AdamSmallSpecIdeal.main_arg13) = m ((c.tc : Thread Cert.AdamSmallIdeal.nD Cert.AdamSmallIdeal.τ).loc Cert.AdamSmallIdeal.main_arg13)
      ∧ m' ((c.tc : Thread Cert.AdamSmallSpecIdeal.nD Cert.AdamSmallSpecIdeal.τ).loc Cert.AdamSmallSpecIdeal.main_arg14) = m ((c.tc : Thread Cert.AdamSmallIdeal.nD Cert.AdamSmallIdeal.τ).loc Cert.AdamSmallIdeal.main_arg14)
      ∧ m' ((c.tc : Thread Cert.AdamSmallSpecIdeal.nD Cert.AdamSmallSpecIdeal.τ).loc Cert.AdamSmallSpecIdeal.main_arg15) = m ((c.tc : Thread Cert.AdamSmallIdeal.nD Cert.AdamSmallIdeal.τ).loc Cert.AdamSmallIdeal.main_arg15)) →
    ∃ (v0 : (c : Dev Cert.AdamSmallIdeal.nD) → Buf (Elt Ideal) ((c.tc : Thread Cert.AdamSmallIdeal.nD Cert.AdamSmallIdeal.τ).loc Cert.AdamSmallIdeal.main_v40_0)) (v1 : (c : Dev Cert.AdamSmallIdeal.nD) → Buf (Elt Ideal) ((c.tc : Thread Cert.AdamSmallIdeal.nD Cert.AdamSmallIdeal.τ).loc Cert.AdamSmallIdeal.main_v40_1)) (v2 : (c : Dev Cert.AdamSmallIdeal.nD) → Buf (Elt Ideal) ((c.tc : Thread Cert.AdamSmallIdeal.nD Cert.AdamSmallIdeal.τ).loc Cert.AdamSmallIdeal.main_v40_2)) (v3 : (c : Dev Cert.AdamSmallIdeal.nD) → Buf (Elt Ideal) ((c.tc : Thread Cert.AdamSmallIdeal.nD Cert.AdamSmallIdeal.τ).loc Cert.AdamSmallIdeal.main_v40_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v40_0) = v0 c
          ∧ r.2.mem ((c.tc : Thread Cert.AdamSmallIdeal.nD Cert.AdamSmallIdeal.τ).loc Cert.AdamSmallIdeal.main_v40_1) = v1 c
          ∧ r.2.mem ((c.tc : Thread Cert.AdamSmallIdeal.nD Cert.AdamSmallIdeal.τ).loc Cert.AdamSmallIdeal.main_v40_2) = v2 c
          ∧ r.2.mem ((c.tc : Thread Cert.AdamSmallIdeal.nD Cert.AdamSmallIdeal.τ).loc Cert.AdamSmallIdeal.main_v40_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15))
      ∧ θ_run (Cert.AdamSmallSpecIdeal.defs (F := Ideal)) (onTc (τ := Cert.AdamSmallSpecIdeal.τ) (Cert.AdamSmallSpecIdeal.main (F := Ideal))) ⟨m', fun _ => 0, g'⟩ (fun r => ∀ c : Dev Cert.AdamSmallSpecIdeal.nD,
          r.2.mem ((c.tc : Thread Cert.AdamSmallSpecIdeal.nD Cert.AdamSmallSpecIdeal.τ).loc Cert.AdamSmallSpecIdeal.main_v61) = v0 c
          ∧ r.2.mem ((c.tc : Thread Cert.AdamSmallSpecIdeal.nD Cert.AdamSmallSpecIdeal.τ).loc Cert.AdamSmallSpecIdeal.main_v62) = v1 c
          ∧ r.2.mem ((c.tc : Thread Cert.AdamSmallSpecIdeal.nD Cert.AdamSmallSpecIdeal.τ).loc Cert.AdamSmallSpecIdeal.main_v63) = v2 c
          ∧ r.2.mem ((c.tc : Thread Cert.AdamSmallSpecIdeal.nD Cert.AdamSmallSpecIdeal.τ).loc Cert.AdamSmallSpecIdeal.main_v64) = v3 c
          ∧ r.2.mem ((c.tc : Thread Cert.AdamSmallSpecIdeal.nD Cert.AdamSmallSpecIdeal.τ).loc Cert.AdamSmallSpecIdeal.main_arg0) = m' ((c.tc : Thread Cert.AdamSmallSpecIdeal.nD Cert.AdamSmallSpecIdeal.τ).loc Cert.AdamSmallSpecIdeal.main_arg0)
          ∧ r.2.mem ((c.tc : Thread Cert.AdamSmallSpecIdeal.nD Cert.AdamSmallSpecIdeal.τ).loc Cert.AdamSmallSpecIdeal.main_arg1) = m' ((c.tc : Thread Cert.AdamSmallSpecIdeal.nD Cert.AdamSmallSpecIdeal.τ).loc Cert.AdamSmallSpecIdeal.main_arg1)
          ∧ r.2.mem ((c.tc : Thread Cert.AdamSmallSpecIdeal.nD Cert.AdamSmallSpecIdeal.τ).loc Cert.AdamSmallSpecIdeal.main_arg2) = m' ((c.tc : Thread Cert.AdamSmallSpecIdeal.nD Cert.AdamSmallSpecIdeal.τ).loc Cert.AdamSmallSpecIdeal.main_arg2)
          ∧ r.2.mem ((c.tc : Thread Cert.AdamSmallSpecIdeal.nD Cert.AdamSmallSpecIdeal.τ).loc Cert.AdamSmallSpecIdeal.main_arg3) = m' ((c.tc : Thread Cert.AdamSmallSpecIdeal.nD Cert.AdamSmallSpecIdeal.τ).loc Cert.AdamSmallSpecIdeal.main_arg3)
          ∧ r.2.mem ((c.tc : Thread Cert.AdamSmallSpecIdeal.nD Cert.AdamSmallSpecIdeal.τ).loc Cert.AdamSmallSpecIdeal.main_arg4) = m' ((c.tc : Thread Cert.AdamSmallSpecIdeal.nD Cert.AdamSmallSpecIdeal.τ).loc Cert.AdamSmallSpecIdeal.main_arg4)
          ∧ r.2.mem ((c.tc : Thread Cert.AdamSmallSpecIdeal.nD Cert.AdamSmallSpecIdeal.τ).loc Cert.AdamSmallSpecIdeal.main_arg5) = m' ((c.tc : Thread Cert.AdamSmallSpecIdeal.nD Cert.AdamSmallSpecIdeal.τ).loc Cert.AdamSmallSpecIdeal.main_arg5)
          ∧ r.2.mem ((c.tc : Thread Cert.AdamSmallSpecIdeal.nD Cert.AdamSmallSpecIdeal.τ).loc Cert.AdamSmallSpecIdeal.main_arg6) = m' ((c.tc : Thread Cert.AdamSmallSpecIdeal.nD Cert.AdamSmallSpecIdeal.τ).loc Cert.AdamSmallSpecIdeal.main_arg6)
          ∧ r.2.mem ((c.tc : Thread Cert.AdamSmallSpecIdeal.nD Cert.AdamSmallSpecIdeal.τ).loc Cert.AdamSmallSpecIdeal.main_arg7) = m' ((c.tc : Thread Cert.AdamSmallSpecIdeal.nD Cert.AdamSmallSpecIdeal.τ).loc Cert.AdamSmallSpecIdeal.main_arg7)
          ∧ r.2.mem ((c.tc : Thread Cert.AdamSmallSpecIdeal.nD Cert.AdamSmallSpecIdeal.τ).loc Cert.AdamSmallSpecIdeal.main_arg8) = m' ((c.tc : Thread Cert.AdamSmallSpecIdeal.nD Cert.AdamSmallSpecIdeal.τ).loc Cert.AdamSmallSpecIdeal.main_arg8)
          ∧ r.2.mem ((c.tc : Thread Cert.AdamSmallSpecIdeal.nD Cert.AdamSmallSpecIdeal.τ).loc Cert.AdamSmallSpecIdeal.main_arg9) = m' ((c.tc : Thread Cert.AdamSmallSpecIdeal.nD Cert.AdamSmallSpecIdeal.τ).loc Cert.AdamSmallSpecIdeal.main_arg9)
          ∧ r.2.mem ((c.tc : Thread Cert.AdamSmallSpecIdeal.nD Cert.AdamSmallSpecIdeal.τ).loc Cert.AdamSmallSpecIdeal.main_arg10) = m' ((c.tc : Thread Cert.AdamSmallSpecIdeal.nD Cert.AdamSmallSpecIdeal.τ).loc Cert.AdamSmallSpecIdeal.main_arg10)
          ∧ r.2.mem ((c.tc : Thread Cert.AdamSmallSpecIdeal.nD Cert.AdamSmallSpecIdeal.τ).loc Cert.AdamSmallSpecIdeal.main_arg11) = m' ((c.tc : Thread Cert.AdamSmallSpecIdeal.nD Cert.AdamSmallSpecIdeal.τ).loc Cert.AdamSmallSpecIdeal.main_arg11)
          ∧ r.2.mem ((c.tc : Thread Cert.AdamSmallSpecIdeal.nD Cert.AdamSmallSpecIdeal.τ).loc Cert.AdamSmallSpecIdeal.main_arg12) = m' ((c.tc : Thread Cert.AdamSmallSpecIdeal.nD Cert.AdamSmallSpecIdeal.τ).loc Cert.AdamSmallSpecIdeal.main_arg12)
          ∧ r.2.mem ((c.tc : Thread Cert.AdamSmallSpecIdeal.nD Cert.AdamSmallSpecIdeal.τ).loc Cert.AdamSmallSpecIdeal.main_arg13) = m' ((c.tc : Thread Cert.AdamSmallSpecIdeal.nD Cert.AdamSmallSpecIdeal.τ).loc Cert.AdamSmallSpecIdeal.main_arg13)
          ∧ r.2.mem ((c.tc : Thread Cert.AdamSmallSpecIdeal.nD Cert.AdamSmallSpecIdeal.τ).loc Cert.AdamSmallSpecIdeal.main_arg14) = m' ((c.tc : Thread Cert.AdamSmallSpecIdeal.nD Cert.AdamSmallSpecIdeal.τ).loc Cert.AdamSmallSpecIdeal.main_arg14)
          ∧ r.2.mem ((c.tc : Thread Cert.AdamSmallSpecIdeal.nD Cert.AdamSmallSpecIdeal.τ).loc Cert.AdamSmallSpecIdeal.main_arg15) = m' ((c.tc : Thread Cert.AdamSmallSpecIdeal.nD Cert.AdamSmallSpecIdeal.τ).loc Cert.AdamSmallSpecIdeal.main_arg15))

def preserves_AdamReplicated_AdamReplicatedIdeal : Prop :=
  True

def algebraic_AdamReplicatedIdeal_AdamReplicatedSpecIdeal [hAdamReplicatedIdeal : Cert.AdamReplicatedIdeal.Facts] [hAdamReplicatedSpecIdeal : Cert.AdamReplicatedSpecIdeal.Facts] : Prop :=
  ∀ (m : (ℓ : Loc Cert.AdamReplicatedIdeal.nD Cert.AdamReplicatedIdeal.τ Cert.AdamReplicatedIdeal.sig) → Buf (Elt Ideal) ℓ) (g : Dev Cert.AdamReplicatedIdeal.nD → PrngReg)
    (m' : (ℓ : Loc Cert.AdamReplicatedSpecIdeal.nD Cert.AdamReplicatedSpecIdeal.τ Cert.AdamReplicatedSpecIdeal.sig) → Buf (Elt Ideal) ℓ) (g' : Dev Cert.AdamReplicatedSpecIdeal.nD → PrngReg), Pre_AdamReplicatedIdeal m →
    (∀ c : Dev Cert.AdamReplicatedIdeal.nD,
      m' ((c.tc : Thread Cert.AdamReplicatedSpecIdeal.nD Cert.AdamReplicatedSpecIdeal.τ).loc Cert.AdamReplicatedSpecIdeal.main_arg0) = m ((c.tc : Thread Cert.AdamReplicatedIdeal.nD Cert.AdamReplicatedIdeal.τ).loc Cert.AdamReplicatedIdeal.main_arg0)
      ∧ m' ((c.tc : Thread Cert.AdamReplicatedSpecIdeal.nD Cert.AdamReplicatedSpecIdeal.τ).loc Cert.AdamReplicatedSpecIdeal.main_arg1) = m ((c.tc : Thread Cert.AdamReplicatedIdeal.nD Cert.AdamReplicatedIdeal.τ).loc Cert.AdamReplicatedIdeal.main_arg1)
      ∧ m' ((c.tc : Thread Cert.AdamReplicatedSpecIdeal.nD Cert.AdamReplicatedSpecIdeal.τ).loc Cert.AdamReplicatedSpecIdeal.main_arg2) = m ((c.tc : Thread Cert.AdamReplicatedIdeal.nD Cert.AdamReplicatedIdeal.τ).loc Cert.AdamReplicatedIdeal.main_arg2)
      ∧ m' ((c.tc : Thread Cert.AdamReplicatedSpecIdeal.nD Cert.AdamReplicatedSpecIdeal.τ).loc Cert.AdamReplicatedSpecIdeal.main_arg3) = m ((c.tc : Thread Cert.AdamReplicatedIdeal.nD Cert.AdamReplicatedIdeal.τ).loc Cert.AdamReplicatedIdeal.main_arg3)
      ∧ m' ((c.tc : Thread Cert.AdamReplicatedSpecIdeal.nD Cert.AdamReplicatedSpecIdeal.τ).loc Cert.AdamReplicatedSpecIdeal.main_arg4) = m ((c.tc : Thread Cert.AdamReplicatedIdeal.nD Cert.AdamReplicatedIdeal.τ).loc Cert.AdamReplicatedIdeal.main_arg4)
      ∧ m' ((c.tc : Thread Cert.AdamReplicatedSpecIdeal.nD Cert.AdamReplicatedSpecIdeal.τ).loc Cert.AdamReplicatedSpecIdeal.main_arg5) = m ((c.tc : Thread Cert.AdamReplicatedIdeal.nD Cert.AdamReplicatedIdeal.τ).loc Cert.AdamReplicatedIdeal.main_arg5)
      ∧ m' ((c.tc : Thread Cert.AdamReplicatedSpecIdeal.nD Cert.AdamReplicatedSpecIdeal.τ).loc Cert.AdamReplicatedSpecIdeal.main_arg6) = m ((c.tc : Thread Cert.AdamReplicatedIdeal.nD Cert.AdamReplicatedIdeal.τ).loc Cert.AdamReplicatedIdeal.main_arg6)
      ∧ m' ((c.tc : Thread Cert.AdamReplicatedSpecIdeal.nD Cert.AdamReplicatedSpecIdeal.τ).loc Cert.AdamReplicatedSpecIdeal.main_arg7) = m ((c.tc : Thread Cert.AdamReplicatedIdeal.nD Cert.AdamReplicatedIdeal.τ).loc Cert.AdamReplicatedIdeal.main_arg7)
      ∧ m' ((c.tc : Thread Cert.AdamReplicatedSpecIdeal.nD Cert.AdamReplicatedSpecIdeal.τ).loc Cert.AdamReplicatedSpecIdeal.main_arg8) = m ((c.tc : Thread Cert.AdamReplicatedIdeal.nD Cert.AdamReplicatedIdeal.τ).loc Cert.AdamReplicatedIdeal.main_arg8)
      ∧ m' ((c.tc : Thread Cert.AdamReplicatedSpecIdeal.nD Cert.AdamReplicatedSpecIdeal.τ).loc Cert.AdamReplicatedSpecIdeal.main_arg9) = m ((c.tc : Thread Cert.AdamReplicatedIdeal.nD Cert.AdamReplicatedIdeal.τ).loc Cert.AdamReplicatedIdeal.main_arg9)
      ∧ m' ((c.tc : Thread Cert.AdamReplicatedSpecIdeal.nD Cert.AdamReplicatedSpecIdeal.τ).loc Cert.AdamReplicatedSpecIdeal.main_arg10) = m ((c.tc : Thread Cert.AdamReplicatedIdeal.nD Cert.AdamReplicatedIdeal.τ).loc Cert.AdamReplicatedIdeal.main_arg10)
      ∧ m' ((c.tc : Thread Cert.AdamReplicatedSpecIdeal.nD Cert.AdamReplicatedSpecIdeal.τ).loc Cert.AdamReplicatedSpecIdeal.main_arg11) = m ((c.tc : Thread Cert.AdamReplicatedIdeal.nD Cert.AdamReplicatedIdeal.τ).loc Cert.AdamReplicatedIdeal.main_arg11)
      ∧ m' ((c.tc : Thread Cert.AdamReplicatedSpecIdeal.nD Cert.AdamReplicatedSpecIdeal.τ).loc Cert.AdamReplicatedSpecIdeal.main_arg12) = m ((c.tc : Thread Cert.AdamReplicatedIdeal.nD Cert.AdamReplicatedIdeal.τ).loc Cert.AdamReplicatedIdeal.main_arg12)
      ∧ m' ((c.tc : Thread Cert.AdamReplicatedSpecIdeal.nD Cert.AdamReplicatedSpecIdeal.τ).loc Cert.AdamReplicatedSpecIdeal.main_arg13) = m ((c.tc : Thread Cert.AdamReplicatedIdeal.nD Cert.AdamReplicatedIdeal.τ).loc Cert.AdamReplicatedIdeal.main_arg13)
      ∧ m' ((c.tc : Thread Cert.AdamReplicatedSpecIdeal.nD Cert.AdamReplicatedSpecIdeal.τ).loc Cert.AdamReplicatedSpecIdeal.main_arg14) = m ((c.tc : Thread Cert.AdamReplicatedIdeal.nD Cert.AdamReplicatedIdeal.τ).loc Cert.AdamReplicatedIdeal.main_arg14)
      ∧ m' ((c.tc : Thread Cert.AdamReplicatedSpecIdeal.nD Cert.AdamReplicatedSpecIdeal.τ).loc Cert.AdamReplicatedSpecIdeal.main_arg15) = m ((c.tc : Thread Cert.AdamReplicatedIdeal.nD Cert.AdamReplicatedIdeal.τ).loc Cert.AdamReplicatedIdeal.main_arg15)
      ∧ m' ((c.tc : Thread Cert.AdamReplicatedSpecIdeal.nD Cert.AdamReplicatedSpecIdeal.τ).loc Cert.AdamReplicatedSpecIdeal.main_arg16) = m ((c.tc : Thread Cert.AdamReplicatedIdeal.nD Cert.AdamReplicatedIdeal.τ).loc Cert.AdamReplicatedIdeal.main_arg16)
      ∧ m' ((c.tc : Thread Cert.AdamReplicatedSpecIdeal.nD Cert.AdamReplicatedSpecIdeal.τ).loc Cert.AdamReplicatedSpecIdeal.main_arg17) = m ((c.tc : Thread Cert.AdamReplicatedIdeal.nD Cert.AdamReplicatedIdeal.τ).loc Cert.AdamReplicatedIdeal.main_arg17)
      ∧ m' ((c.tc : Thread Cert.AdamReplicatedSpecIdeal.nD Cert.AdamReplicatedSpecIdeal.τ).loc Cert.AdamReplicatedSpecIdeal.main_arg18) = m ((c.tc : Thread Cert.AdamReplicatedIdeal.nD Cert.AdamReplicatedIdeal.τ).loc Cert.AdamReplicatedIdeal.main_arg18)
      ∧ m' ((c.tc : Thread Cert.AdamReplicatedSpecIdeal.nD Cert.AdamReplicatedSpecIdeal.τ).loc Cert.AdamReplicatedSpecIdeal.main_arg19) = m ((c.tc : Thread Cert.AdamReplicatedIdeal.nD Cert.AdamReplicatedIdeal.τ).loc Cert.AdamReplicatedIdeal.main_arg19)
      ∧ m' ((c.tc : Thread Cert.AdamReplicatedSpecIdeal.nD Cert.AdamReplicatedSpecIdeal.τ).loc Cert.AdamReplicatedSpecIdeal.main_arg20) = m ((c.tc : Thread Cert.AdamReplicatedIdeal.nD Cert.AdamReplicatedIdeal.τ).loc Cert.AdamReplicatedIdeal.main_arg20)
      ∧ m' ((c.tc : Thread Cert.AdamReplicatedSpecIdeal.nD Cert.AdamReplicatedSpecIdeal.τ).loc Cert.AdamReplicatedSpecIdeal.main_arg21) = m ((c.tc : Thread Cert.AdamReplicatedIdeal.nD Cert.AdamReplicatedIdeal.τ).loc Cert.AdamReplicatedIdeal.main_arg21)
      ∧ m' ((c.tc : Thread Cert.AdamReplicatedSpecIdeal.nD Cert.AdamReplicatedSpecIdeal.τ).loc Cert.AdamReplicatedSpecIdeal.main_arg22) = m ((c.tc : Thread Cert.AdamReplicatedIdeal.nD Cert.AdamReplicatedIdeal.τ).loc Cert.AdamReplicatedIdeal.main_arg22)
      ∧ m' ((c.tc : Thread Cert.AdamReplicatedSpecIdeal.nD Cert.AdamReplicatedSpecIdeal.τ).loc Cert.AdamReplicatedSpecIdeal.main_arg23) = m ((c.tc : Thread Cert.AdamReplicatedIdeal.nD Cert.AdamReplicatedIdeal.τ).loc Cert.AdamReplicatedIdeal.main_arg23)
      ∧ m' ((c.tc : Thread Cert.AdamReplicatedSpecIdeal.nD Cert.AdamReplicatedSpecIdeal.τ).loc Cert.AdamReplicatedSpecIdeal.main_arg24) = m ((c.tc : Thread Cert.AdamReplicatedIdeal.nD Cert.AdamReplicatedIdeal.τ).loc Cert.AdamReplicatedIdeal.main_arg24)
      ∧ m' ((c.tc : Thread Cert.AdamReplicatedSpecIdeal.nD Cert.AdamReplicatedSpecIdeal.τ).loc Cert.AdamReplicatedSpecIdeal.main_arg25) = m ((c.tc : Thread Cert.AdamReplicatedIdeal.nD Cert.AdamReplicatedIdeal.τ).loc Cert.AdamReplicatedIdeal.main_arg25)
      ∧ m' ((c.tc : Thread Cert.AdamReplicatedSpecIdeal.nD Cert.AdamReplicatedSpecIdeal.τ).loc Cert.AdamReplicatedSpecIdeal.main_arg26) = m ((c.tc : Thread Cert.AdamReplicatedIdeal.nD Cert.AdamReplicatedIdeal.τ).loc Cert.AdamReplicatedIdeal.main_arg26)
      ∧ m' ((c.tc : Thread Cert.AdamReplicatedSpecIdeal.nD Cert.AdamReplicatedSpecIdeal.τ).loc Cert.AdamReplicatedSpecIdeal.main_arg27) = m ((c.tc : Thread Cert.AdamReplicatedIdeal.nD Cert.AdamReplicatedIdeal.τ).loc Cert.AdamReplicatedIdeal.main_arg27)) →
    ∃ (v0 : (c : Dev Cert.AdamReplicatedIdeal.nD) → Buf (Elt Ideal) ((c.tc : Thread Cert.AdamReplicatedIdeal.nD Cert.AdamReplicatedIdeal.τ).loc Cert.AdamReplicatedIdeal.main_v49_0)) (v1 : (c : Dev Cert.AdamReplicatedIdeal.nD) → Buf (Elt Ideal) ((c.tc : Thread Cert.AdamReplicatedIdeal.nD Cert.AdamReplicatedIdeal.τ).loc Cert.AdamReplicatedIdeal.main_v49_1)) (v2 : (c : Dev Cert.AdamReplicatedIdeal.nD) → Buf (Elt Ideal) ((c.tc : Thread Cert.AdamReplicatedIdeal.nD Cert.AdamReplicatedIdeal.τ).loc Cert.AdamReplicatedIdeal.main_v49_2)) (v3 : (c : Dev Cert.AdamReplicatedIdeal.nD) → Buf (Elt Ideal) ((c.tc : Thread Cert.AdamReplicatedIdeal.nD Cert.AdamReplicatedIdeal.τ).loc Cert.AdamReplicatedIdeal.main_v49_3)),
      θ_run (Cert.AdamReplicatedIdeal.defs (F := Ideal)) (onTc (τ := Cert.AdamReplicatedIdeal.τ) (Cert.AdamReplicatedIdeal.main (F := Ideal))) ⟨m, fun _ => 0, g⟩ (fun r => ∀ c : Dev Cert.AdamReplicatedIdeal.nD,
          r.2.mem ((c.tc : Thread Cert.AdamReplicatedIdeal.nD Cert.AdamReplicatedIdeal.τ).loc Cert.AdamReplicatedIdeal.main_v49_0) = v0 c
          ∧ r.2.mem ((c.tc : Thread Cert.AdamReplicatedIdeal.nD Cert.AdamReplicatedIdeal.τ).loc Cert.AdamReplicatedIdeal.main_v49_1) = v1 c
          ∧ r.2.mem ((c.tc : Thread Cert.AdamReplicatedIdeal.nD Cert.AdamReplicatedIdeal.τ).loc Cert.AdamReplicatedIdeal.main_v49_2) = v2 c
          ∧ r.2.mem ((c.tc : Thread Cert.AdamReplicatedIdeal.nD Cert.AdamReplicatedIdeal.τ).loc Cert.AdamReplicatedIdeal.main_v49_3) = v3 c
          ∧ r.2.mem ((c.tc : Thread Cert.AdamReplicatedIdeal.nD Cert.AdamReplicatedIdeal.τ).loc Cert.AdamReplicatedIdeal.main_arg0) = m ((c.tc : Thread Cert.AdamReplicatedIdeal.nD Cert.AdamReplicatedIdeal.τ).loc Cert.AdamReplicatedIdeal.main_arg0)
          ∧ r.2.mem ((c.tc : Thread Cert.AdamReplicatedIdeal.nD Cert.AdamReplicatedIdeal.τ).loc Cert.AdamReplicatedIdeal.main_arg1) = m ((c.tc : Thread Cert.AdamReplicatedIdeal.nD Cert.AdamReplicatedIdeal.τ).loc Cert.AdamReplicatedIdeal.main_arg1)
          ∧ r.2.mem ((c.tc : Thread Cert.AdamReplicatedIdeal.nD Cert.AdamReplicatedIdeal.τ).loc Cert.AdamReplicatedIdeal.main_arg2) = m ((c.tc : Thread Cert.AdamReplicatedIdeal.nD Cert.AdamReplicatedIdeal.τ).loc Cert.AdamReplicatedIdeal.main_arg2)
          ∧ r.2.mem ((c.tc : Thread Cert.AdamReplicatedIdeal.nD Cert.AdamReplicatedIdeal.τ).loc Cert.AdamReplicatedIdeal.main_arg3) = m ((c.tc : Thread Cert.AdamReplicatedIdeal.nD Cert.AdamReplicatedIdeal.τ).loc Cert.AdamReplicatedIdeal.main_arg3)
          ∧ r.2.mem ((c.tc : Thread Cert.AdamReplicatedIdeal.nD Cert.AdamReplicatedIdeal.τ).loc Cert.AdamReplicatedIdeal.main_arg4) = m ((c.tc : Thread Cert.AdamReplicatedIdeal.nD Cert.AdamReplicatedIdeal.τ).loc Cert.AdamReplicatedIdeal.main_arg4)
          ∧ r.2.mem ((c.tc : Thread Cert.AdamReplicatedIdeal.nD Cert.AdamReplicatedIdeal.τ).loc Cert.AdamReplicatedIdeal.main_arg5) = m ((c.tc : Thread Cert.AdamReplicatedIdeal.nD Cert.AdamReplicatedIdeal.τ).loc Cert.AdamReplicatedIdeal.main_arg5)
          ∧ r.2.mem ((c.tc : Thread Cert.AdamReplicatedIdeal.nD Cert.AdamReplicatedIdeal.τ).loc Cert.AdamReplicatedIdeal.main_arg6) = m ((c.tc : Thread Cert.AdamReplicatedIdeal.nD Cert.AdamReplicatedIdeal.τ).loc Cert.AdamReplicatedIdeal.main_arg6)
          ∧ r.2.mem ((c.tc : Thread Cert.AdamReplicatedIdeal.nD Cert.AdamReplicatedIdeal.τ).loc Cert.AdamReplicatedIdeal.main_arg7) = m ((c.tc : Thread Cert.AdamReplicatedIdeal.nD Cert.AdamReplicatedIdeal.τ).loc Cert.AdamReplicatedIdeal.main_arg7)
          ∧ r.2.mem ((c.tc : Thread Cert.AdamReplicatedIdeal.nD Cert.AdamReplicatedIdeal.τ).loc Cert.AdamReplicatedIdeal.main_arg8) = m ((c.tc : Thread Cert.AdamReplicatedIdeal.nD Cert.AdamReplicatedIdeal.τ).loc Cert.AdamReplicatedIdeal.main_arg8)
          ∧ r.2.mem ((c.tc : Thread Cert.AdamReplicatedIdeal.nD Cert.AdamReplicatedIdeal.τ).loc Cert.AdamReplicatedIdeal.main_arg9) = m ((c.tc : Thread Cert.AdamReplicatedIdeal.nD Cert.AdamReplicatedIdeal.τ).loc Cert.AdamReplicatedIdeal.main_arg9)
          ∧ r.2.mem ((c.tc : Thread Cert.AdamReplicatedIdeal.nD Cert.AdamReplicatedIdeal.τ).loc Cert.AdamReplicatedIdeal.main_arg10) = m ((c.tc : Thread Cert.AdamReplicatedIdeal.nD Cert.AdamReplicatedIdeal.τ).loc Cert.AdamReplicatedIdeal.main_arg10)
          ∧ r.2.mem ((c.tc : Thread Cert.AdamReplicatedIdeal.nD Cert.AdamReplicatedIdeal.τ).loc Cert.AdamReplicatedIdeal.main_arg11) = m ((c.tc : Thread Cert.AdamReplicatedIdeal.nD Cert.AdamReplicatedIdeal.τ).loc Cert.AdamReplicatedIdeal.main_arg11)
          ∧ r.2.mem ((c.tc : Thread Cert.AdamReplicatedIdeal.nD Cert.AdamReplicatedIdeal.τ).loc Cert.AdamReplicatedIdeal.main_arg12) = m ((c.tc : Thread Cert.AdamReplicatedIdeal.nD Cert.AdamReplicatedIdeal.τ).loc Cert.AdamReplicatedIdeal.main_arg12)
          ∧ r.2.mem ((c.tc : Thread Cert.AdamReplicatedIdeal.nD Cert.AdamReplicatedIdeal.τ).loc Cert.AdamReplicatedIdeal.main_arg13) = m ((c.tc : Thread Cert.AdamReplicatedIdeal.nD Cert.AdamReplicatedIdeal.τ).loc Cert.AdamReplicatedIdeal.main_arg13)
          ∧ r.2.mem ((c.tc : Thread Cert.AdamReplicatedIdeal.nD Cert.AdamReplicatedIdeal.τ).loc Cert.AdamReplicatedIdeal.main_arg14) = m ((c.tc : Thread Cert.AdamReplicatedIdeal.nD Cert.AdamReplicatedIdeal.τ).loc Cert.AdamReplicatedIdeal.main_arg14)
          ∧ r.2.mem ((c.tc : Thread Cert.AdamReplicatedIdeal.nD Cert.AdamReplicatedIdeal.τ).loc Cert.AdamReplicatedIdeal.main_arg15) = m ((c.tc : Thread Cert.AdamReplicatedIdeal.nD Cert.AdamReplicatedIdeal.τ).loc Cert.AdamReplicatedIdeal.main_arg15)
          ∧ r.2.mem ((c.tc : Thread Cert.AdamReplicatedIdeal.nD Cert.AdamReplicatedIdeal.τ).loc Cert.AdamReplicatedIdeal.main_arg16) = m ((c.tc : Thread Cert.AdamReplicatedIdeal.nD Cert.AdamReplicatedIdeal.τ).loc Cert.AdamReplicatedIdeal.main_arg16)
          ∧ r.2.mem ((c.tc : Thread Cert.AdamReplicatedIdeal.nD Cert.AdamReplicatedIdeal.τ).loc Cert.AdamReplicatedIdeal.main_arg17) = m ((c.tc : Thread Cert.AdamReplicatedIdeal.nD Cert.AdamReplicatedIdeal.τ).loc Cert.AdamReplicatedIdeal.main_arg17)
          ∧ r.2.mem ((c.tc : Thread Cert.AdamReplicatedIdeal.nD Cert.AdamReplicatedIdeal.τ).loc Cert.AdamReplicatedIdeal.main_arg18) = m ((c.tc : Thread Cert.AdamReplicatedIdeal.nD Cert.AdamReplicatedIdeal.τ).loc Cert.AdamReplicatedIdeal.main_arg18)
          ∧ r.2.mem ((c.tc : Thread Cert.AdamReplicatedIdeal.nD Cert.AdamReplicatedIdeal.τ).loc Cert.AdamReplicatedIdeal.main_arg19) = m ((c.tc : Thread Cert.AdamReplicatedIdeal.nD Cert.AdamReplicatedIdeal.τ).loc Cert.AdamReplicatedIdeal.main_arg19)
          ∧ r.2.mem ((c.tc : Thread Cert.AdamReplicatedIdeal.nD Cert.AdamReplicatedIdeal.τ).loc Cert.AdamReplicatedIdeal.main_arg20) = m ((c.tc : Thread Cert.AdamReplicatedIdeal.nD Cert.AdamReplicatedIdeal.τ).loc Cert.AdamReplicatedIdeal.main_arg20)
          ∧ r.2.mem ((c.tc : Thread Cert.AdamReplicatedIdeal.nD Cert.AdamReplicatedIdeal.τ).loc Cert.AdamReplicatedIdeal.main_arg21) = m ((c.tc : Thread Cert.AdamReplicatedIdeal.nD Cert.AdamReplicatedIdeal.τ).loc Cert.AdamReplicatedIdeal.main_arg21)
          ∧ r.2.mem ((c.tc : Thread Cert.AdamReplicatedIdeal.nD Cert.AdamReplicatedIdeal.τ).loc Cert.AdamReplicatedIdeal.main_arg22) = m ((c.tc : Thread Cert.AdamReplicatedIdeal.nD Cert.AdamReplicatedIdeal.τ).loc Cert.AdamReplicatedIdeal.main_arg22)
          ∧ r.2.mem ((c.tc : Thread Cert.AdamReplicatedIdeal.nD Cert.AdamReplicatedIdeal.τ).loc Cert.AdamReplicatedIdeal.main_arg23) = m ((c.tc : Thread Cert.AdamReplicatedIdeal.nD Cert.AdamReplicatedIdeal.τ).loc Cert.AdamReplicatedIdeal.main_arg23)
          ∧ r.2.mem ((c.tc : Thread Cert.AdamReplicatedIdeal.nD Cert.AdamReplicatedIdeal.τ).loc Cert.AdamReplicatedIdeal.main_arg24) = m ((c.tc : Thread Cert.AdamReplicatedIdeal.nD Cert.AdamReplicatedIdeal.τ).loc Cert.AdamReplicatedIdeal.main_arg24)
          ∧ r.2.mem ((c.tc : Thread Cert.AdamReplicatedIdeal.nD Cert.AdamReplicatedIdeal.τ).loc Cert.AdamReplicatedIdeal.main_arg25) = m ((c.tc : Thread Cert.AdamReplicatedIdeal.nD Cert.AdamReplicatedIdeal.τ).loc Cert.AdamReplicatedIdeal.main_arg25)
          ∧ r.2.mem ((c.tc : Thread Cert.AdamReplicatedIdeal.nD Cert.AdamReplicatedIdeal.τ).loc Cert.AdamReplicatedIdeal.main_arg26) = m ((c.tc : Thread Cert.AdamReplicatedIdeal.nD Cert.AdamReplicatedIdeal.τ).loc Cert.AdamReplicatedIdeal.main_arg26)
          ∧ r.2.mem ((c.tc : Thread Cert.AdamReplicatedIdeal.nD Cert.AdamReplicatedIdeal.τ).loc Cert.AdamReplicatedIdeal.main_arg27) = m ((c.tc : Thread Cert.AdamReplicatedIdeal.nD Cert.AdamReplicatedIdeal.τ).loc Cert.AdamReplicatedIdeal.main_arg27))
      ∧ θ_run (Cert.AdamReplicatedSpecIdeal.defs (F := Ideal)) (onTc (τ := Cert.AdamReplicatedSpecIdeal.τ) (Cert.AdamReplicatedSpecIdeal.main (F := Ideal))) ⟨m', fun _ => 0, g'⟩ (fun r => ∀ c : Dev Cert.AdamReplicatedSpecIdeal.nD,
          r.2.mem ((c.tc : Thread Cert.AdamReplicatedSpecIdeal.nD Cert.AdamReplicatedSpecIdeal.τ).loc Cert.AdamReplicatedSpecIdeal.main_v70) = v0 c
          ∧ r.2.mem ((c.tc : Thread Cert.AdamReplicatedSpecIdeal.nD Cert.AdamReplicatedSpecIdeal.τ).loc Cert.AdamReplicatedSpecIdeal.main_v71) = v1 c
          ∧ r.2.mem ((c.tc : Thread Cert.AdamReplicatedSpecIdeal.nD Cert.AdamReplicatedSpecIdeal.τ).loc Cert.AdamReplicatedSpecIdeal.main_v72) = v2 c
          ∧ r.2.mem ((c.tc : Thread Cert.AdamReplicatedSpecIdeal.nD Cert.AdamReplicatedSpecIdeal.τ).loc Cert.AdamReplicatedSpecIdeal.main_v73) = v3 c
          ∧ r.2.mem ((c.tc : Thread Cert.AdamReplicatedSpecIdeal.nD Cert.AdamReplicatedSpecIdeal.τ).loc Cert.AdamReplicatedSpecIdeal.main_arg0) = m' ((c.tc : Thread Cert.AdamReplicatedSpecIdeal.nD Cert.AdamReplicatedSpecIdeal.τ).loc Cert.AdamReplicatedSpecIdeal.main_arg0)
          ∧ r.2.mem ((c.tc : Thread Cert.AdamReplicatedSpecIdeal.nD Cert.AdamReplicatedSpecIdeal.τ).loc Cert.AdamReplicatedSpecIdeal.main_arg1) = m' ((c.tc : Thread Cert.AdamReplicatedSpecIdeal.nD Cert.AdamReplicatedSpecIdeal.τ).loc Cert.AdamReplicatedSpecIdeal.main_arg1)
          ∧ r.2.mem ((c.tc : Thread Cert.AdamReplicatedSpecIdeal.nD Cert.AdamReplicatedSpecIdeal.τ).loc Cert.AdamReplicatedSpecIdeal.main_arg2) = m' ((c.tc : Thread Cert.AdamReplicatedSpecIdeal.nD Cert.AdamReplicatedSpecIdeal.τ).loc Cert.AdamReplicatedSpecIdeal.main_arg2)
          ∧ r.2.mem ((c.tc : Thread Cert.AdamReplicatedSpecIdeal.nD Cert.AdamReplicatedSpecIdeal.τ).loc Cert.AdamReplicatedSpecIdeal.main_arg3) = m' ((c.tc : Thread Cert.AdamReplicatedSpecIdeal.nD Cert.AdamReplicatedSpecIdeal.τ).loc Cert.AdamReplicatedSpecIdeal.main_arg3)
          ∧ r.2.mem ((c.tc : Thread Cert.AdamReplicatedSpecIdeal.nD Cert.AdamReplicatedSpecIdeal.τ).loc Cert.AdamReplicatedSpecIdeal.main_arg4) = m' ((c.tc : Thread Cert.AdamReplicatedSpecIdeal.nD Cert.AdamReplicatedSpecIdeal.τ).loc Cert.AdamReplicatedSpecIdeal.main_arg4)
          ∧ r.2.mem ((c.tc : Thread Cert.AdamReplicatedSpecIdeal.nD Cert.AdamReplicatedSpecIdeal.τ).loc Cert.AdamReplicatedSpecIdeal.main_arg5) = m' ((c.tc : Thread Cert.AdamReplicatedSpecIdeal.nD Cert.AdamReplicatedSpecIdeal.τ).loc Cert.AdamReplicatedSpecIdeal.main_arg5)
          ∧ r.2.mem ((c.tc : Thread Cert.AdamReplicatedSpecIdeal.nD Cert.AdamReplicatedSpecIdeal.τ).loc Cert.AdamReplicatedSpecIdeal.main_arg6) = m' ((c.tc : Thread Cert.AdamReplicatedSpecIdeal.nD Cert.AdamReplicatedSpecIdeal.τ).loc Cert.AdamReplicatedSpecIdeal.main_arg6)
          ∧ r.2.mem ((c.tc : Thread Cert.AdamReplicatedSpecIdeal.nD Cert.AdamReplicatedSpecIdeal.τ).loc Cert.AdamReplicatedSpecIdeal.main_arg7) = m' ((c.tc : Thread Cert.AdamReplicatedSpecIdeal.nD Cert.AdamReplicatedSpecIdeal.τ).loc Cert.AdamReplicatedSpecIdeal.main_arg7)
          ∧ r.2.mem ((c.tc : Thread Cert.AdamReplicatedSpecIdeal.nD Cert.AdamReplicatedSpecIdeal.τ).loc Cert.AdamReplicatedSpecIdeal.main_arg8) = m' ((c.tc : Thread Cert.AdamReplicatedSpecIdeal.nD Cert.AdamReplicatedSpecIdeal.τ).loc Cert.AdamReplicatedSpecIdeal.main_arg8)
          ∧ r.2.mem ((c.tc : Thread Cert.AdamReplicatedSpecIdeal.nD Cert.AdamReplicatedSpecIdeal.τ).loc Cert.AdamReplicatedSpecIdeal.main_arg9) = m' ((c.tc : Thread Cert.AdamReplicatedSpecIdeal.nD Cert.AdamReplicatedSpecIdeal.τ).loc Cert.AdamReplicatedSpecIdeal.main_arg9)
          ∧ r.2.mem ((c.tc : Thread Cert.AdamReplicatedSpecIdeal.nD Cert.AdamReplicatedSpecIdeal.τ).loc Cert.AdamReplicatedSpecIdeal.main_arg10) = m' ((c.tc : Thread Cert.AdamReplicatedSpecIdeal.nD Cert.AdamReplicatedSpecIdeal.τ).loc Cert.AdamReplicatedSpecIdeal.main_arg10)
          ∧ r.2.mem ((c.tc : Thread Cert.AdamReplicatedSpecIdeal.nD Cert.AdamReplicatedSpecIdeal.τ).loc Cert.AdamReplicatedSpecIdeal.main_arg11) = m' ((c.tc : Thread Cert.AdamReplicatedSpecIdeal.nD Cert.AdamReplicatedSpecIdeal.τ).loc Cert.AdamReplicatedSpecIdeal.main_arg11)
          ∧ r.2.mem ((c.tc : Thread Cert.AdamReplicatedSpecIdeal.nD Cert.AdamReplicatedSpecIdeal.τ).loc Cert.AdamReplicatedSpecIdeal.main_arg12) = m' ((c.tc : Thread Cert.AdamReplicatedSpecIdeal.nD Cert.AdamReplicatedSpecIdeal.τ).loc Cert.AdamReplicatedSpecIdeal.main_arg12)
          ∧ r.2.mem ((c.tc : Thread Cert.AdamReplicatedSpecIdeal.nD Cert.AdamReplicatedSpecIdeal.τ).loc Cert.AdamReplicatedSpecIdeal.main_arg13) = m' ((c.tc : Thread Cert.AdamReplicatedSpecIdeal.nD Cert.AdamReplicatedSpecIdeal.τ).loc Cert.AdamReplicatedSpecIdeal.main_arg13)
          ∧ r.2.mem ((c.tc : Thread Cert.AdamReplicatedSpecIdeal.nD Cert.AdamReplicatedSpecIdeal.τ).loc Cert.AdamReplicatedSpecIdeal.main_arg14) = m' ((c.tc : Thread Cert.AdamReplicatedSpecIdeal.nD Cert.AdamReplicatedSpecIdeal.τ).loc Cert.AdamReplicatedSpecIdeal.main_arg14)
          ∧ r.2.mem ((c.tc : Thread Cert.AdamReplicatedSpecIdeal.nD Cert.AdamReplicatedSpecIdeal.τ).loc Cert.AdamReplicatedSpecIdeal.main_arg15) = m' ((c.tc : Thread Cert.AdamReplicatedSpecIdeal.nD Cert.AdamReplicatedSpecIdeal.τ).loc Cert.AdamReplicatedSpecIdeal.main_arg15)
          ∧ r.2.mem ((c.tc : Thread Cert.AdamReplicatedSpecIdeal.nD Cert.AdamReplicatedSpecIdeal.τ).loc Cert.AdamReplicatedSpecIdeal.main_arg16) = m' ((c.tc : Thread Cert.AdamReplicatedSpecIdeal.nD Cert.AdamReplicatedSpecIdeal.τ).loc Cert.AdamReplicatedSpecIdeal.main_arg16)
          ∧ r.2.mem ((c.tc : Thread Cert.AdamReplicatedSpecIdeal.nD Cert.AdamReplicatedSpecIdeal.τ).loc Cert.AdamReplicatedSpecIdeal.main_arg17) = m' ((c.tc : Thread Cert.AdamReplicatedSpecIdeal.nD Cert.AdamReplicatedSpecIdeal.τ).loc Cert.AdamReplicatedSpecIdeal.main_arg17)
          ∧ r.2.mem ((c.tc : Thread Cert.AdamReplicatedSpecIdeal.nD Cert.AdamReplicatedSpecIdeal.τ).loc Cert.AdamReplicatedSpecIdeal.main_arg18) = m' ((c.tc : Thread Cert.AdamReplicatedSpecIdeal.nD Cert.AdamReplicatedSpecIdeal.τ).loc Cert.AdamReplicatedSpecIdeal.main_arg18)
          ∧ r.2.mem ((c.tc : Thread Cert.AdamReplicatedSpecIdeal.nD Cert.AdamReplicatedSpecIdeal.τ).loc Cert.AdamReplicatedSpecIdeal.main_arg19) = m' ((c.tc : Thread Cert.AdamReplicatedSpecIdeal.nD Cert.AdamReplicatedSpecIdeal.τ).loc Cert.AdamReplicatedSpecIdeal.main_arg19)
          ∧ r.2.mem ((c.tc : Thread Cert.AdamReplicatedSpecIdeal.nD Cert.AdamReplicatedSpecIdeal.τ).loc Cert.AdamReplicatedSpecIdeal.main_arg20) = m' ((c.tc : Thread Cert.AdamReplicatedSpecIdeal.nD Cert.AdamReplicatedSpecIdeal.τ).loc Cert.AdamReplicatedSpecIdeal.main_arg20)
          ∧ r.2.mem ((c.tc : Thread Cert.AdamReplicatedSpecIdeal.nD Cert.AdamReplicatedSpecIdeal.τ).loc Cert.AdamReplicatedSpecIdeal.main_arg21) = m' ((c.tc : Thread Cert.AdamReplicatedSpecIdeal.nD Cert.AdamReplicatedSpecIdeal.τ).loc Cert.AdamReplicatedSpecIdeal.main_arg21)
          ∧ r.2.mem ((c.tc : Thread Cert.AdamReplicatedSpecIdeal.nD Cert.AdamReplicatedSpecIdeal.τ).loc Cert.AdamReplicatedSpecIdeal.main_arg22) = m' ((c.tc : Thread Cert.AdamReplicatedSpecIdeal.nD Cert.AdamReplicatedSpecIdeal.τ).loc Cert.AdamReplicatedSpecIdeal.main_arg22)
          ∧ r.2.mem ((c.tc : Thread Cert.AdamReplicatedSpecIdeal.nD Cert.AdamReplicatedSpecIdeal.τ).loc Cert.AdamReplicatedSpecIdeal.main_arg23) = m' ((c.tc : Thread Cert.AdamReplicatedSpecIdeal.nD Cert.AdamReplicatedSpecIdeal.τ).loc Cert.AdamReplicatedSpecIdeal.main_arg23)
          ∧ r.2.mem ((c.tc : Thread Cert.AdamReplicatedSpecIdeal.nD Cert.AdamReplicatedSpecIdeal.τ).loc Cert.AdamReplicatedSpecIdeal.main_arg24) = m' ((c.tc : Thread Cert.AdamReplicatedSpecIdeal.nD Cert.AdamReplicatedSpecIdeal.τ).loc Cert.AdamReplicatedSpecIdeal.main_arg24)
          ∧ r.2.mem ((c.tc : Thread Cert.AdamReplicatedSpecIdeal.nD Cert.AdamReplicatedSpecIdeal.τ).loc Cert.AdamReplicatedSpecIdeal.main_arg25) = m' ((c.tc : Thread Cert.AdamReplicatedSpecIdeal.nD Cert.AdamReplicatedSpecIdeal.τ).loc Cert.AdamReplicatedSpecIdeal.main_arg25)
          ∧ r.2.mem ((c.tc : Thread Cert.AdamReplicatedSpecIdeal.nD Cert.AdamReplicatedSpecIdeal.τ).loc Cert.AdamReplicatedSpecIdeal.main_arg26) = m' ((c.tc : Thread Cert.AdamReplicatedSpecIdeal.nD Cert.AdamReplicatedSpecIdeal.τ).loc Cert.AdamReplicatedSpecIdeal.main_arg26)
          ∧ r.2.mem ((c.tc : Thread Cert.AdamReplicatedSpecIdeal.nD Cert.AdamReplicatedSpecIdeal.τ).loc Cert.AdamReplicatedSpecIdeal.main_arg27) = m' ((c.tc : Thread Cert.AdamReplicatedSpecIdeal.nD Cert.AdamReplicatedSpecIdeal.τ).loc Cert.AdamReplicatedSpecIdeal.main_arg27))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpSpecIdeal : Cert.GateUpSpecIdeal.Facts) (hDown : Cert.Down.Facts) (hDownIdeal : Cert.DownIdeal.Facts) (hDownSpecIdeal : Cert.DownSpecIdeal.Facts) (hDownDa : Cert.DownDa.Facts) (hDownDaIdeal : Cert.DownDaIdeal.Facts) (hDownDaSpecIdeal : Cert.DownDaSpecIdeal.Facts) (hDownDw : Cert.DownDw.Facts) (hDownDwIdeal : Cert.DownDwIdeal.Facts) (hDownDwSpecIdeal : Cert.DownDwSpecIdeal.Facts) (hGateUpDw : Cert.GateUpDw.Facts) (hGateUpDwIdeal : Cert.GateUpDwIdeal.Facts) (hGateUpDwSpecIdeal : Cert.GateUpDwSpecIdeal.Facts) (hGateUpDa : Cert.GateUpDa.Facts) (hGateUpDaIdeal : Cert.GateUpDaIdeal.Facts) (hGateUpDaSpecIdeal : Cert.GateUpDaSpecIdeal.Facts) (hInPiece : Cert.InPiece.Facts) (hInPieceIdeal : Cert.InPieceIdeal.Facts) (hInPieceSpecIdeal : Cert.InPieceSpecIdeal.Facts) (hInDw : Cert.InDw.Facts) (hInDwIdeal : Cert.InDwIdeal.Facts) (hInDwSpecIdeal : Cert.InDwSpecIdeal.Facts) (hInDa : Cert.InDa.Facts) (hInDaIdeal : Cert.InDaIdeal.Facts) (hInDaSpecIdeal : Cert.InDaSpecIdeal.Facts) (hOutNarrow : Cert.OutNarrow.Facts) (hOutNarrowIdeal : Cert.OutNarrowIdeal.Facts) (hOutNarrowSpecIdeal : Cert.OutNarrowSpecIdeal.Facts) (hOutWide : Cert.OutWide.Facts) (hOutWideIdeal : Cert.OutWideIdeal.Facts) (hOutWideSpecIdeal : Cert.OutWideSpecIdeal.Facts) (hOutBias : Cert.OutBias.Facts) (hOutBiasIdeal : Cert.OutBiasIdeal.Facts) (hOutBiasSpecIdeal : Cert.OutBiasSpecIdeal.Facts) (hOutNarrowDa : Cert.OutNarrowDa.Facts) (hOutNarrowDaIdeal : Cert.OutNarrowDaIdeal.Facts) (hOutNarrowDaSpecIdeal : Cert.OutNarrowDaSpecIdeal.Facts) (hOutWideDa : Cert.OutWideDa.Facts) (hOutWideDaIdeal : Cert.OutWideDaIdeal.Facts) (hOutWideDaSpecIdeal : Cert.OutWideDaSpecIdeal.Facts) (hOutNarrowDw : Cert.OutNarrowDw.Facts) (hOutNarrowDwIdeal : Cert.OutNarrowDwIdeal.Facts) (hOutNarrowDwSpecIdeal : Cert.OutNarrowDwSpecIdeal.Facts) (hOutWideDw : Cert.OutWideDw.Facts) (hOutWideDwIdeal : Cert.OutWideDwIdeal.Facts) (hOutWideDwSpecIdeal : Cert.OutWideDwSpecIdeal.Facts) (hNorm : Cert.Norm.Facts) (hNormIdeal : Cert.NormIdeal.Facts) (hNormSpecIdeal : Cert.NormSpecIdeal.Facts) (hGates : Cert.Gates.Facts) (hGatesIdeal : Cert.GatesIdeal.Facts) (hGatesSpecIdeal : Cert.GatesSpecIdeal.Facts) (hGatesDx : Cert.GatesDx.Facts) (hGatesDxIdeal : Cert.GatesDxIdeal.Facts) (hGatesDxSpecIdeal : Cert.GatesDxSpecIdeal.Facts) (hGatesDw : Cert.GatesDw.Facts) (hGatesDwIdeal : Cert.GatesDwIdeal.Facts) (hGatesDwSpecIdeal : Cert.GatesDwSpecIdeal.Facts) (hMerge : Cert.Merge.Facts) (hMergeIdeal : Cert.MergeIdeal.Facts) (hMergeSpecIdeal : Cert.MergeSpecIdeal.Facts) (hAdamAbIn : Cert.AdamAbIn.Facts) (hAdamAbInIdeal : Cert.AdamAbInIdeal.Facts) (hAdamAbInSpecIdeal : Cert.AdamAbInSpecIdeal.Facts) (hAdamLru : Cert.AdamLru.Facts) (hAdamLruIdeal : Cert.AdamLruIdeal.Facts) (hAdamLruSpecIdeal : Cert.AdamLruSpecIdeal.Facts) (hAdamAbOut : Cert.AdamAbOut.Facts) (hAdamAbOutIdeal : Cert.AdamAbOutIdeal.Facts) (hAdamAbOutSpecIdeal : Cert.AdamAbOutSpecIdeal.Facts) (hAdamCQkv : Cert.AdamCQkv.Facts) (hAdamCQkvIdeal : Cert.AdamCQkvIdeal.Facts) (hAdamCQkvSpecIdeal : Cert.AdamCQkvSpecIdeal.Facts) (hAdamCOut : Cert.AdamCOut.Facts) (hAdamCOutIdeal : Cert.AdamCOutIdeal.Facts) (hAdamCOutSpecIdeal : Cert.AdamCOutSpecIdeal.Facts) (hAdamXaWq : Cert.AdamXaWq.Facts) (hAdamXaWqIdeal : Cert.AdamXaWqIdeal.Facts) (hAdamXaWqSpecIdeal : Cert.AdamXaWqSpecIdeal.Facts) (hAdamXaWkv : Cert.AdamXaWkv.Facts) (hAdamXaWkvIdeal : Cert.AdamXaWkvIdeal.Facts) (hAdamXaWkvSpecIdeal : Cert.AdamXaWkvSpecIdeal.Facts) (hAdamXaWo : Cert.AdamXaWo.Facts) (hAdamXaWoIdeal : Cert.AdamXaWoIdeal.Facts) (hAdamXaWoSpecIdeal : Cert.AdamXaWoSpecIdeal.Facts) (hAdamGateUp : Cert.AdamGateUp.Facts) (hAdamGateUpIdeal : Cert.AdamGateUpIdeal.Facts) (hAdamGateUpSpecIdeal : Cert.AdamGateUpSpecIdeal.Facts) (hAdamDown : Cert.AdamDown.Facts) (hAdamDownIdeal : Cert.AdamDownIdeal.Facts) (hAdamDownSpecIdeal : Cert.AdamDownSpecIdeal.Facts) (hAdamSmall : Cert.AdamSmall.Facts) (hAdamSmallIdeal : Cert.AdamSmallIdeal.Facts) (hAdamSmallSpecIdeal : Cert.AdamSmallSpecIdeal.Facts) (hAdamReplicated : Cert.AdamReplicated.Facts) (hAdamReplicatedIdeal : Cert.AdamReplicatedIdeal.Facts) (hAdamReplicatedSpecIdeal : Cert.AdamReplicatedSpecIdeal.Facts) (hPre_finite_q_kv : Cert.Pre_finite_q_kv.Facts) (hPre_finite_down_da : Cert.Pre_finite_down_da.Facts) (hPre_finite_gate_up_da : Cert.Pre_finite_gate_up_da.Facts) (hPre_finite_in_da : Cert.Pre_finite_in_da.Facts) (hPre_finite_merge : Cert.Pre_finite_merge.Facts),
    quiescent_Kernel (hKernel := hKernel)
    ∧ quiescent_KernelIdeal (hKernelIdeal := hKernelIdeal)
    ∧ quiescent_KernelIdeal_pre_finite_q_kv (hKernelIdeal := hKernelIdeal) (hPre_finite_q_kv := hPre_finite_q_kv)
    ∧ quiescent_ReferenceIdeal (hReferenceIdeal := hReferenceIdeal)
    ∧ quiescent_ReferenceIdeal_pre_finite_q_kv (hReferenceIdeal := hReferenceIdeal) (hPre_finite_q_kv := hPre_finite_q_kv)
    ∧ quiescent_GateUp (hGateUp := hGateUp)
    ∧ quiescent_GateUpIdeal (hGateUpIdeal := hGateUpIdeal)
    ∧ quiescent_GateUpSpecIdeal (hGateUpSpecIdeal := hGateUpSpecIdeal)
    ∧ quiescent_Down (hDown := hDown)
    ∧ quiescent_DownIdeal (hDownIdeal := hDownIdeal)
    ∧ quiescent_DownSpecIdeal (hDownSpecIdeal := hDownSpecIdeal)
    ∧ quiescent_DownDa (hDownDa := hDownDa)
    ∧ quiescent_DownDaIdeal (hDownDaIdeal := hDownDaIdeal)
    ∧ quiescent_DownDaIdeal_pre_finite_down_da (hDownDaIdeal := hDownDaIdeal) (hPre_finite_down_da := hPre_finite_down_da)
    ∧ quiescent_DownDaSpecIdeal (hDownDaSpecIdeal := hDownDaSpecIdeal)
    ∧ quiescent_DownDaSpecIdeal_pre_finite_down_da (hDownDaSpecIdeal := hDownDaSpecIdeal) (hPre_finite_down_da := hPre_finite_down_da)
    ∧ quiescent_DownDw (hDownDw := hDownDw)
    ∧ quiescent_DownDwIdeal (hDownDwIdeal := hDownDwIdeal)
    ∧ quiescent_DownDwSpecIdeal (hDownDwSpecIdeal := hDownDwSpecIdeal)
    ∧ quiescent_GateUpDw (hGateUpDw := hGateUpDw)
    ∧ quiescent_GateUpDwIdeal (hGateUpDwIdeal := hGateUpDwIdeal)
    ∧ quiescent_GateUpDwSpecIdeal (hGateUpDwSpecIdeal := hGateUpDwSpecIdeal)
    ∧ quiescent_GateUpDa (hGateUpDa := hGateUpDa)
    ∧ quiescent_GateUpDaIdeal (hGateUpDaIdeal := hGateUpDaIdeal)
    ∧ quiescent_GateUpDaIdeal_pre_finite_gate_up_da (hGateUpDaIdeal := hGateUpDaIdeal) (hPre_finite_gate_up_da := hPre_finite_gate_up_da)
    ∧ quiescent_GateUpDaSpecIdeal (hGateUpDaSpecIdeal := hGateUpDaSpecIdeal)
    ∧ quiescent_GateUpDaSpecIdeal_pre_finite_gate_up_da (hGateUpDaSpecIdeal := hGateUpDaSpecIdeal) (hPre_finite_gate_up_da := hPre_finite_gate_up_da)
    ∧ quiescent_InPiece (hInPiece := hInPiece)
    ∧ quiescent_InPieceIdeal (hInPieceIdeal := hInPieceIdeal)
    ∧ quiescent_InPieceSpecIdeal (hInPieceSpecIdeal := hInPieceSpecIdeal)
    ∧ quiescent_InDw (hInDw := hInDw)
    ∧ quiescent_InDwIdeal (hInDwIdeal := hInDwIdeal)
    ∧ quiescent_InDwSpecIdeal (hInDwSpecIdeal := hInDwSpecIdeal)
    ∧ quiescent_InDa (hInDa := hInDa)
    ∧ quiescent_InDaIdeal (hInDaIdeal := hInDaIdeal)
    ∧ quiescent_InDaIdeal_pre_finite_in_da (hInDaIdeal := hInDaIdeal) (hPre_finite_in_da := hPre_finite_in_da)
    ∧ quiescent_InDaSpecIdeal (hInDaSpecIdeal := hInDaSpecIdeal)
    ∧ quiescent_InDaSpecIdeal_pre_finite_in_da (hInDaSpecIdeal := hInDaSpecIdeal) (hPre_finite_in_da := hPre_finite_in_da)
    ∧ quiescent_OutNarrow (hOutNarrow := hOutNarrow)
    ∧ quiescent_OutNarrowIdeal (hOutNarrowIdeal := hOutNarrowIdeal)
    ∧ quiescent_OutNarrowSpecIdeal (hOutNarrowSpecIdeal := hOutNarrowSpecIdeal)
    ∧ quiescent_OutWide (hOutWide := hOutWide)
    ∧ quiescent_OutWideIdeal (hOutWideIdeal := hOutWideIdeal)
    ∧ quiescent_OutWideSpecIdeal (hOutWideSpecIdeal := hOutWideSpecIdeal)
    ∧ quiescent_OutBias (hOutBias := hOutBias)
    ∧ quiescent_OutBiasIdeal (hOutBiasIdeal := hOutBiasIdeal)
    ∧ quiescent_OutBiasSpecIdeal (hOutBiasSpecIdeal := hOutBiasSpecIdeal)
    ∧ quiescent_OutNarrowDa (hOutNarrowDa := hOutNarrowDa)
    ∧ quiescent_OutNarrowDaIdeal (hOutNarrowDaIdeal := hOutNarrowDaIdeal)
    ∧ quiescent_OutNarrowDaSpecIdeal (hOutNarrowDaSpecIdeal := hOutNarrowDaSpecIdeal)
    ∧ quiescent_OutWideDa (hOutWideDa := hOutWideDa)
    ∧ quiescent_OutWideDaIdeal (hOutWideDaIdeal := hOutWideDaIdeal)
    ∧ quiescent_OutWideDaSpecIdeal (hOutWideDaSpecIdeal := hOutWideDaSpecIdeal)
    ∧ quiescent_OutNarrowDw (hOutNarrowDw := hOutNarrowDw)
    ∧ quiescent_OutNarrowDwIdeal (hOutNarrowDwIdeal := hOutNarrowDwIdeal)
    ∧ quiescent_OutNarrowDwSpecIdeal (hOutNarrowDwSpecIdeal := hOutNarrowDwSpecIdeal)
    ∧ quiescent_OutWideDw (hOutWideDw := hOutWideDw)
    ∧ quiescent_OutWideDwIdeal (hOutWideDwIdeal := hOutWideDwIdeal)
    ∧ quiescent_OutWideDwSpecIdeal (hOutWideDwSpecIdeal := hOutWideDwSpecIdeal)
    ∧ quiescent_Norm (hNorm := hNorm)
    ∧ quiescent_NormIdeal (hNormIdeal := hNormIdeal)
    ∧ quiescent_NormSpecIdeal (hNormSpecIdeal := hNormSpecIdeal)
    ∧ quiescent_Gates (hGates := hGates)
    ∧ quiescent_GatesIdeal (hGatesIdeal := hGatesIdeal)
    ∧ quiescent_GatesSpecIdeal (hGatesSpecIdeal := hGatesSpecIdeal)
    ∧ quiescent_GatesDx (hGatesDx := hGatesDx)
    ∧ quiescent_GatesDxIdeal (hGatesDxIdeal := hGatesDxIdeal)
    ∧ quiescent_GatesDxSpecIdeal (hGatesDxSpecIdeal := hGatesDxSpecIdeal)
    ∧ quiescent_GatesDw (hGatesDw := hGatesDw)
    ∧ quiescent_GatesDwIdeal (hGatesDwIdeal := hGatesDwIdeal)
    ∧ quiescent_GatesDwSpecIdeal (hGatesDwSpecIdeal := hGatesDwSpecIdeal)
    ∧ quiescent_Merge (hMerge := hMerge)
    ∧ quiescent_MergeIdeal (hMergeIdeal := hMergeIdeal)
    ∧ quiescent_MergeIdeal_pre_finite_merge (hMergeIdeal := hMergeIdeal) (hPre_finite_merge := hPre_finite_merge)
    ∧ quiescent_MergeSpecIdeal (hMergeSpecIdeal := hMergeSpecIdeal)
    ∧ quiescent_MergeSpecIdeal_pre_finite_merge (hMergeSpecIdeal := hMergeSpecIdeal) (hPre_finite_merge := hPre_finite_merge)
    ∧ quiescent_AdamAbIn (hAdamAbIn := hAdamAbIn)
    ∧ quiescent_AdamAbInIdeal (hAdamAbInIdeal := hAdamAbInIdeal)
    ∧ quiescent_AdamAbInSpecIdeal (hAdamAbInSpecIdeal := hAdamAbInSpecIdeal)
    ∧ quiescent_AdamLru (hAdamLru := hAdamLru)
    ∧ quiescent_AdamLruIdeal (hAdamLruIdeal := hAdamLruIdeal)
    ∧ quiescent_AdamLruSpecIdeal (hAdamLruSpecIdeal := hAdamLruSpecIdeal)
    ∧ quiescent_AdamAbOut (hAdamAbOut := hAdamAbOut)
    ∧ quiescent_AdamAbOutIdeal (hAdamAbOutIdeal := hAdamAbOutIdeal)
    ∧ quiescent_AdamAbOutSpecIdeal (hAdamAbOutSpecIdeal := hAdamAbOutSpecIdeal)
    ∧ quiescent_AdamCQkv (hAdamCQkv := hAdamCQkv)
    ∧ quiescent_AdamCQkvIdeal (hAdamCQkvIdeal := hAdamCQkvIdeal)
    ∧ quiescent_AdamCQkvSpecIdeal (hAdamCQkvSpecIdeal := hAdamCQkvSpecIdeal)
    ∧ quiescent_AdamCOut (hAdamCOut := hAdamCOut)
    ∧ quiescent_AdamCOutIdeal (hAdamCOutIdeal := hAdamCOutIdeal)
    ∧ quiescent_AdamCOutSpecIdeal (hAdamCOutSpecIdeal := hAdamCOutSpecIdeal)
    ∧ quiescent_AdamXaWq (hAdamXaWq := hAdamXaWq)
    ∧ quiescent_AdamXaWqIdeal (hAdamXaWqIdeal := hAdamXaWqIdeal)
    ∧ quiescent_AdamXaWqSpecIdeal (hAdamXaWqSpecIdeal := hAdamXaWqSpecIdeal)
    ∧ quiescent_AdamXaWkv (hAdamXaWkv := hAdamXaWkv)
    ∧ quiescent_AdamXaWkvIdeal (hAdamXaWkvIdeal := hAdamXaWkvIdeal)
    ∧ quiescent_AdamXaWkvSpecIdeal (hAdamXaWkvSpecIdeal := hAdamXaWkvSpecIdeal)
    ∧ quiescent_AdamXaWo (hAdamXaWo := hAdamXaWo)
    ∧ quiescent_AdamXaWoIdeal (hAdamXaWoIdeal := hAdamXaWoIdeal)
    ∧ quiescent_AdamXaWoSpecIdeal (hAdamXaWoSpecIdeal := hAdamXaWoSpecIdeal)
    ∧ quiescent_AdamGateUp (hAdamGateUp := hAdamGateUp)
    ∧ quiescent_AdamGateUpIdeal (hAdamGateUpIdeal := hAdamGateUpIdeal)
    ∧ quiescent_AdamGateUpSpecIdeal (hAdamGateUpSpecIdeal := hAdamGateUpSpecIdeal)
    ∧ quiescent_AdamDown (hAdamDown := hAdamDown)
    ∧ quiescent_AdamDownIdeal (hAdamDownIdeal := hAdamDownIdeal)
    ∧ quiescent_AdamDownSpecIdeal (hAdamDownSpecIdeal := hAdamDownSpecIdeal)
    ∧ quiescent_AdamSmall (hAdamSmall := hAdamSmall)
    ∧ quiescent_AdamSmallIdeal (hAdamSmallIdeal := hAdamSmallIdeal)
    ∧ quiescent_AdamSmallSpecIdeal (hAdamSmallSpecIdeal := hAdamSmallSpecIdeal)
    ∧ quiescent_AdamReplicated (hAdamReplicated := hAdamReplicated)
    ∧ quiescent_AdamReplicatedIdeal (hAdamReplicatedIdeal := hAdamReplicatedIdeal)
    ∧ quiescent_AdamReplicatedSpecIdeal (hAdamReplicatedSpecIdeal := hAdamReplicatedSpecIdeal)
    ∧ preserves_Kernel_KernelIdeal
    ∧ algebraic_KernelIdeal_ReferenceIdeal_pre_finite_q_kv (hKernelIdeal := hKernelIdeal) (hReferenceIdeal := hReferenceIdeal) (hPre_finite_q_kv := hPre_finite_q_kv)
    ∧ preserves_GateUp_GateUpIdeal
    ∧ algebraic_GateUpIdeal_GateUpSpecIdeal (hGateUpIdeal := hGateUpIdeal) (hGateUpSpecIdeal := hGateUpSpecIdeal)
    ∧ preserves_Down_DownIdeal
    ∧ algebraic_DownIdeal_DownSpecIdeal (hDownIdeal := hDownIdeal) (hDownSpecIdeal := hDownSpecIdeal)
    ∧ preserves_DownDa_DownDaIdeal
    ∧ algebraic_DownDaIdeal_DownDaSpecIdeal_pre_finite_down_da (hDownDaIdeal := hDownDaIdeal) (hDownDaSpecIdeal := hDownDaSpecIdeal) (hPre_finite_down_da := hPre_finite_down_da)
    ∧ preserves_DownDw_DownDwIdeal
    ∧ algebraic_DownDwIdeal_DownDwSpecIdeal (hDownDwIdeal := hDownDwIdeal) (hDownDwSpecIdeal := hDownDwSpecIdeal)
    ∧ preserves_GateUpDw_GateUpDwIdeal
    ∧ algebraic_GateUpDwIdeal_GateUpDwSpecIdeal (hGateUpDwIdeal := hGateUpDwIdeal) (hGateUpDwSpecIdeal := hGateUpDwSpecIdeal)
    ∧ preserves_GateUpDa_GateUpDaIdeal
    ∧ algebraic_GateUpDaIdeal_GateUpDaSpecIdeal_pre_finite_gate_up_da (hGateUpDaIdeal := hGateUpDaIdeal) (hGateUpDaSpecIdeal := hGateUpDaSpecIdeal) (hPre_finite_gate_up_da := hPre_finite_gate_up_da)
    ∧ preserves_InPiece_InPieceIdeal
    ∧ algebraic_InPieceIdeal_InPieceSpecIdeal (hInPieceIdeal := hInPieceIdeal) (hInPieceSpecIdeal := hInPieceSpecIdeal)
    ∧ preserves_InDw_InDwIdeal
    ∧ algebraic_InDwIdeal_InDwSpecIdeal (hInDwIdeal := hInDwIdeal) (hInDwSpecIdeal := hInDwSpecIdeal)
    ∧ preserves_InDa_InDaIdeal
    ∧ algebraic_InDaIdeal_InDaSpecIdeal_pre_finite_in_da (hInDaIdeal := hInDaIdeal) (hInDaSpecIdeal := hInDaSpecIdeal) (hPre_finite_in_da := hPre_finite_in_da)
    ∧ preserves_OutNarrow_OutNarrowIdeal
    ∧ algebraic_OutNarrowIdeal_OutNarrowSpecIdeal (hOutNarrowIdeal := hOutNarrowIdeal) (hOutNarrowSpecIdeal := hOutNarrowSpecIdeal)
    ∧ preserves_OutWide_OutWideIdeal
    ∧ algebraic_OutWideIdeal_OutWideSpecIdeal (hOutWideIdeal := hOutWideIdeal) (hOutWideSpecIdeal := hOutWideSpecIdeal)
    ∧ preserves_OutBias_OutBiasIdeal
    ∧ algebraic_OutBiasIdeal_OutBiasSpecIdeal (hOutBiasIdeal := hOutBiasIdeal) (hOutBiasSpecIdeal := hOutBiasSpecIdeal)
    ∧ preserves_OutNarrowDa_OutNarrowDaIdeal
    ∧ algebraic_OutNarrowDaIdeal_OutNarrowDaSpecIdeal (hOutNarrowDaIdeal := hOutNarrowDaIdeal) (hOutNarrowDaSpecIdeal := hOutNarrowDaSpecIdeal)
    ∧ preserves_OutWideDa_OutWideDaIdeal
    ∧ algebraic_OutWideDaIdeal_OutWideDaSpecIdeal (hOutWideDaIdeal := hOutWideDaIdeal) (hOutWideDaSpecIdeal := hOutWideDaSpecIdeal)
    ∧ preserves_OutNarrowDw_OutNarrowDwIdeal
    ∧ algebraic_OutNarrowDwIdeal_OutNarrowDwSpecIdeal (hOutNarrowDwIdeal := hOutNarrowDwIdeal) (hOutNarrowDwSpecIdeal := hOutNarrowDwSpecIdeal)
    ∧ preserves_OutWideDw_OutWideDwIdeal
    ∧ algebraic_OutWideDwIdeal_OutWideDwSpecIdeal (hOutWideDwIdeal := hOutWideDwIdeal) (hOutWideDwSpecIdeal := hOutWideDwSpecIdeal)
    ∧ preserves_Norm_NormIdeal
    ∧ algebraic_NormIdeal_NormSpecIdeal (hNormIdeal := hNormIdeal) (hNormSpecIdeal := hNormSpecIdeal)
    ∧ preserves_Gates_GatesIdeal
    ∧ algebraic_GatesIdeal_GatesSpecIdeal (hGatesIdeal := hGatesIdeal) (hGatesSpecIdeal := hGatesSpecIdeal)
    ∧ preserves_GatesDx_GatesDxIdeal
    ∧ algebraic_GatesDxIdeal_GatesDxSpecIdeal (hGatesDxIdeal := hGatesDxIdeal) (hGatesDxSpecIdeal := hGatesDxSpecIdeal)
    ∧ preserves_GatesDw_GatesDwIdeal
    ∧ algebraic_GatesDwIdeal_GatesDwSpecIdeal (hGatesDwIdeal := hGatesDwIdeal) (hGatesDwSpecIdeal := hGatesDwSpecIdeal)
    ∧ preserves_Merge_MergeIdeal
    ∧ algebraic_MergeIdeal_MergeSpecIdeal_pre_finite_merge (hMergeIdeal := hMergeIdeal) (hMergeSpecIdeal := hMergeSpecIdeal) (hPre_finite_merge := hPre_finite_merge)
    ∧ preserves_AdamAbIn_AdamAbInIdeal
    ∧ algebraic_AdamAbInIdeal_AdamAbInSpecIdeal (hAdamAbInIdeal := hAdamAbInIdeal) (hAdamAbInSpecIdeal := hAdamAbInSpecIdeal)
    ∧ preserves_AdamLru_AdamLruIdeal
    ∧ algebraic_AdamLruIdeal_AdamLruSpecIdeal (hAdamLruIdeal := hAdamLruIdeal) (hAdamLruSpecIdeal := hAdamLruSpecIdeal)
    ∧ preserves_AdamAbOut_AdamAbOutIdeal
    ∧ algebraic_AdamAbOutIdeal_AdamAbOutSpecIdeal (hAdamAbOutIdeal := hAdamAbOutIdeal) (hAdamAbOutSpecIdeal := hAdamAbOutSpecIdeal)
    ∧ preserves_AdamCQkv_AdamCQkvIdeal
    ∧ algebraic_AdamCQkvIdeal_AdamCQkvSpecIdeal (hAdamCQkvIdeal := hAdamCQkvIdeal) (hAdamCQkvSpecIdeal := hAdamCQkvSpecIdeal)
    ∧ preserves_AdamCOut_AdamCOutIdeal
    ∧ algebraic_AdamCOutIdeal_AdamCOutSpecIdeal (hAdamCOutIdeal := hAdamCOutIdeal) (hAdamCOutSpecIdeal := hAdamCOutSpecIdeal)
    ∧ preserves_AdamXaWq_AdamXaWqIdeal
    ∧ algebraic_AdamXaWqIdeal_AdamXaWqSpecIdeal (hAdamXaWqIdeal := hAdamXaWqIdeal) (hAdamXaWqSpecIdeal := hAdamXaWqSpecIdeal)
    ∧ preserves_AdamXaWkv_AdamXaWkvIdeal
    ∧ algebraic_AdamXaWkvIdeal_AdamXaWkvSpecIdeal (hAdamXaWkvIdeal := hAdamXaWkvIdeal) (hAdamXaWkvSpecIdeal := hAdamXaWkvSpecIdeal)
    ∧ preserves_AdamXaWo_AdamXaWoIdeal
    ∧ algebraic_AdamXaWoIdeal_AdamXaWoSpecIdeal (hAdamXaWoIdeal := hAdamXaWoIdeal) (hAdamXaWoSpecIdeal := hAdamXaWoSpecIdeal)
    ∧ preserves_AdamGateUp_AdamGateUpIdeal
    ∧ algebraic_AdamGateUpIdeal_AdamGateUpSpecIdeal (hAdamGateUpIdeal := hAdamGateUpIdeal) (hAdamGateUpSpecIdeal := hAdamGateUpSpecIdeal)
    ∧ preserves_AdamDown_AdamDownIdeal
    ∧ algebraic_AdamDownIdeal_AdamDownSpecIdeal (hAdamDownIdeal := hAdamDownIdeal) (hAdamDownSpecIdeal := hAdamDownSpecIdeal)
    ∧ preserves_AdamSmall_AdamSmallIdeal
    ∧ algebraic_AdamSmallIdeal_AdamSmallSpecIdeal (hAdamSmallIdeal := hAdamSmallIdeal) (hAdamSmallSpecIdeal := hAdamSmallSpecIdeal)
    ∧ preserves_AdamReplicated_AdamReplicatedIdeal
    ∧ algebraic_AdamReplicatedIdeal_AdamReplicatedSpecIdeal (hAdamReplicatedIdeal := hAdamReplicatedIdeal) (hAdamReplicatedSpecIdeal := hAdamReplicatedSpecIdeal)
-- ==== Pre_finite_down_da.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .f32) (main_arg1 : FVec F S2816x1024 .f32) (main_arg2 : FVec F S4096x2816 .f32) (main_arg3 : FVec F S4096x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x2816 .f32 := Host.absf main_arg3
  let main_cst_2 : FVec F S_ .f32 := constant S_ .f32 0x7F800000#32
  let main_v10 : FVec F S4096x2816 .f32 := broadcastInDim S4096x2816 ![] bcast_S_S4096x2816 main_cst_2
  let main_v11 : IVec S4096x2816 1 := cmpf .olt main_v9 main_v10
  let main_c_3 : IVec S_ 1 := constantI S_ 1 1#1
  let main_v12 : IVec S_ 1 := (fun x v => Host.reduce IntOp.andi x v reducesTo_S4096x2816_S_d0_1 h_S_) main_v11 main_c_3
  let main_v13 : IVec S_ 1 := andi main_v8 main_v12
  main_v13
-- ==== Pre_finite_gate_up_da.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩

class Facts : Prop where
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x4096x2816 .f32) (main_arg1 : FVec F S1024x5632 .f32) (main_arg2 : FVec F S4096x1024 .f32) (main_arg3 : FVec F S1024 .f32) (main_arg4 : FVec F S4096x1024 .f32) : IVec S_ 1 :=
  let main_v0 : FVec F S2x4096x2816 .f32 := Host.absf main_arg0
  let main_cst : FVec F S_ .f32 := constant S_ .f32 0x7F800000#32
  let main_v1 : FVec F S2x4096x2816 .f32 := broadcastInDim S2x4096x2816 ![] bcast_S_S2x4096x2816 main_cst
  let main_v2 : IVec S2x4096x2816 1 := cmpf .olt main_v0 main_v1
  let main_c : IVec S_ 1 := constantI S_ 1 1#1
  let main_v3 : IVec S_ 1 := (fun x v => Host.reduce IntOp.andi x v reducesTo_S2x4096x2816_S_d0_1_2 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_finite_in_da.lean ====
abbrev S4096x3584 : Shape := ⟨2, ![4096, 3584]⟩
abbrev S1024x3584 : Shape := ⟨2, ![1024, 3584]⟩
abbrev S4096x1024 : Shape := ⟨2, ![4096, 1024]⟩
abbrev S1024 : Shape := ⟨1, ![1024]⟩
abbrev S_ : Shape := ⟨0, ![]⟩

class Facts : Prop where
  bcast_S_S4096x3584 : S_.BroadcastsInDim S4096x3584 (![] : Fin 0 → Fin S4096x3584.rank)
  reducesTo_S4096x3584_S_d0_1 : S4096x3584.ReducesTo [0, 1] S_
  h_S_ : 0 < S_.numel
  bcast_S_S1024x3584 : S_.BroadcastsInDim S1024x3584 (![] : Fin 0 → Fin S1024x3584.rank)
  reducesTo_S1024x3584_S_d0_1 : S1024x3584.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4096x3584 .f32) (main_arg1 : FVec F S1024x3584 .f32) (main_arg2 : FVec F S4096x1024 .f32) (main_arg3 : FVec F S1024 .f32) (main_arg4 : FVec F S4096x1024 .f32) : IVec S_ 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_c : IVec S_ 1 := constantI S_ 1 1#1
  let main_v3 : IVec S_ 1 := (fun x v => Host.reduce IntOp.andi x v reducesTo_S4096x3584_S_d0_1 h_S_) main_v2 main_c
  let main_v4 : FVec F S1024x3584 .f32 := Host.absf main_arg1
  let main_cst_0 : FVec F S_ .f32 := constant S_ .f32 0x7F800000#32
  let main_v5 : FVec F S1024x3584 .f32 := broadcastInDim S1024x3584 ![] bcast_S_S1024x3584 main_cst_0
  let main_v6 : IVec S1024x3584 1 := cmpf .olt main_v4 main_v5
  let main_c_1 : IVec S_ 1 := constantI S_ 1 1#1
  let main_v7 : IVec S_ 1 := (fun x v => Host.reduce IntOp.andi x v reducesTo_S1024x3584_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_finite_merge.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x512 .f32) (main_arg5 : FVec F S4096x512 .f32) : IVec S_ 1 :=
  let main_v0 : FVec F S4096x512 .f32 := maximumf main_arg3 main_arg4
  let main_v1 : FVec F S4096x512 .f32 := maximumf main_v0 main_arg5
  let main_v2 : FVec F S4096x512 .f32 := Host.absf main_v1
  let main_cst : FVec F S_ .f32 := constant S_ .f32 0x7F800000#32
  let main_v3 : FVec F S4096x512 .f32 := broadcastInDim S4096x512 ![] bcast_S_S4096x512 main_cst
  let main_v4 : IVec S4096x512 1 := cmpf .olt main_v2 main_v3
  let main_c : IVec S_ 1 := constantI S_ 1 1#1
  let main_v5 : IVec S_ 1 := (fun x v => Host.reduce IntOp.andi x v reducesTo_S4096x512_S_d0_1 h_S_) main_v4 main_c
  main_v5
-- ==== Pre_finite_q_kv.lean ====
abbrev S4096x512 : Shape := ⟨2, ![4096, 512]⟩
abbrev S256x1024 : Shape := ⟨2, ![256, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x512 .f32) (main_arg1 : FVec F S256x1024 .f32) (main_arg2 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== Kernel.lean ====
abbrev S4096x512 : Shape := ⟨2, ![4096, 512]⟩
abbrev S256x1024 : Shape := ⟨2, ![256, 1024]⟩
abbrev S256x512 : Shape := ⟨2, ![256, 512]⟩
abbrev S4096x128 : Shape := ⟨2, ![4096, 128]⟩
abbrev S256x128 : Shape := ⟨2, ![256, 128]⟩
abbrev S4096x256 : Shape := ⟨2, ![4096, 256]⟩
abbrev S4096 : Shape := ⟨1, ![4096]⟩
abbrev S4096x1 : Shape := ⟨2, ![4096, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S256x1024, .f32⟩
  | .hbm, ⟨2, _⟩ => ⟨S4096x512, .f32⟩
  | .hbm, ⟨3, _⟩ => ⟨S4096x512, .f32⟩
  | .hbm, ⟨4, _⟩ => ⟨S256x512, .f32⟩
  | .hbm, ⟨5, _⟩ => ⟨S256x512, .f32⟩
  | .local _ .vmem, ⟨0, _⟩ => ⟨S4096x128, .f32⟩
  | .local _ .vmem, ⟨1, _⟩ => ⟨S4096x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4096x512 : Shape := ⟨2, ![4096, 512]⟩
abbrev S256x1024 : Shape := ⟨2, ![256, 1024]⟩
abbrev S256x512 : Shape := ⟨2, ![256, 512]⟩
abbrev S1x4096x4x128 : Shape := ⟨4, ![1, 4096, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4x128x256 : Shape := ⟨4, ![1, 4, 128, 256]⟩
abbrev S4x4096 : Shape := ⟨2, ![4, 4096]⟩
abbrev S1x4x256x128 : Shape := ⟨4, ![1, 4, 256, 128]⟩
abbrev S1x4x4096x128 : Shape := ⟨4, ![1, 4, 4096, 128]⟩

abbrev nBuf : Space → Nat
  | .hbm => 83
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S256x1024, .f32⟩
  | .hbm, ⟨2, _⟩ => ⟨S4096x512, .f32⟩
  | .hbm, ⟨3, _⟩ => ⟨S256x512, .f32⟩
  | .hbm, ⟨4, _⟩ => ⟨S256x512, .f32⟩
  | .hbm, ⟨5, _⟩ => ⟨S1x4096x4x128, .f32⟩
  | .hbm, ⟨6, _⟩ => ⟨S1x256x4x128, .f32⟩
  | .hbm, ⟨7, _⟩ => ⟨S1x256x4x128, .f32⟩
  | .hbm, ⟨8, _⟩ => ⟨S1x4x4096x256, .f32⟩
  | .hbm, ⟨9, _⟩ => ⟨S_, .f32⟩
  | .hbm, ⟨10, _⟩ => ⟨S1x4x4096x256, .f32⟩
  | .hbm, ⟨11, _⟩ => ⟨S1x4x4096x256, .f32⟩
  | .hbm, ⟨12, _⟩ => ⟨S_, .f32⟩
  | .hbm, ⟨13, _⟩ => ⟨S1x4x4096, .f32⟩
  | .hbm, ⟨14, _⟩ => ⟨S1x4x4096x1, .f32⟩
  | .hbm, ⟨15, _⟩ => ⟨S1x4x4096x256, .f32⟩
  | .hbm, ⟨16, _⟩ => ⟨S1x4x4096x256, .i1⟩
  | .hbm, ⟨17, _⟩ => ⟨S1x4x4096x256, .f32⟩
  | .hbm, ⟨18, _⟩ => ⟨S_, .f32⟩
  | .hbm, ⟨19, _⟩ => ⟨S1x4x4096, .f32⟩
  | .hbm, ⟨20, _⟩ => ⟨S_, .f32⟩
  | .hbm, ⟨21, _⟩ => ⟨S1x4x4096, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .i1⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S_, .f32⟩
  | .hbm, ⟨32, _⟩ => ⟨S1x4x4096, .f32⟩
  | .hbm, ⟨33, _⟩ => ⟨S_, .f32⟩
  | .hbm, ⟨34, _⟩ => ⟨S1x4x4096, .f32⟩
  | .hbm, ⟨35, _⟩ => ⟨S1x4x4096, .f32⟩
  | .hbm, ⟨36, _⟩ => ⟨S1x4x4096, .f32⟩
  | .hbm, ⟨37, _⟩ => ⟨S1x4x4096x1, .f32⟩
  | .hbm, ⟨38, _⟩ => ⟨S1x4x4096x256, .f32⟩
  | .hbm, ⟨39, _⟩ => ⟨S1x4x4096x256, .f32⟩
  | .hbm, ⟨40, _⟩ => ⟨S1x4x4096x256, .f32⟩
  | .hbm, ⟨41, _⟩ => ⟨S_, .f32⟩
  | .hbm, ⟨42, _⟩ => ⟨S1x4x4096, .f32⟩
  | .hbm, ⟨43, _⟩ => ⟨S1x4x4096x1, .f32⟩
  | .hbm, ⟨44, _⟩ => ⟨S1x4x4096x256, .f32⟩
  | .hbm, ⟨45, _⟩ => ⟨S1x4x4096x256, .f32⟩
  | .hbm, ⟨46, _⟩ => ⟨S1x4x4096x1, .f32⟩
  | .hbm, ⟨47, _⟩ => ⟨S_, .f32⟩
  | .hbm, ⟨48, _⟩ => ⟨S1x4x4096x1, .f32⟩
  | .hbm, ⟨49, _⟩ => ⟨S1x4x4096x1, .f32⟩
  | .hbm, ⟨50, _⟩ => ⟨S1x4x128x4096, .f32⟩
  | .hbm, ⟨51, _⟩ => ⟨S1x4096x4x128, .f32⟩
  | .hbm, ⟨52, _⟩ => ⟨S4096x512, .f32⟩
  | .hbm, ⟨53, _⟩ => ⟨S1x4096x4x128, .f32⟩
  | .hbm, ⟨54, _⟩ => ⟨S1x4x128x4096, .f32⟩
  | .hbm, ⟨55, _⟩ => ⟨S1x4x4096x256, .f32⟩
  | .hbm, ⟨56, _⟩ => ⟨S1x4x128x256, .f32⟩
  | .hbm, ⟨57, _⟩ => ⟨S1x256x4x128, .f32⟩
  | .hbm, ⟨58, _⟩ => ⟨S1x4x4096x256, .f32⟩
  | .hbm, ⟨59, _⟩ => ⟨S1x4x4096x256, .f32⟩
  | .hbm, ⟨60, _⟩ => ⟨S1x4x4096x256, .f32⟩
  | .hbm, ⟨61, _⟩ => ⟨S_, .f32⟩
  | .hbm, ⟨62, _⟩ => ⟨S1x4x4096, .f32⟩
  | .hbm, ⟨63, _⟩ => ⟨S1x4x4096x1, .f32⟩
  | .hbm, ⟨64, _⟩ => ⟨S1x4x4096x1, .f32⟩
  | .hbm, ⟨65, _⟩ => ⟨S1x4x4096x256, .f32⟩
  | .hbm, ⟨66, _⟩ => ⟨S1x4x4096x256, .f32⟩
  | .hbm, ⟨67, _⟩ => ⟨S_, .f32⟩
  | .hbm, ⟨68, _⟩ => ⟨S4x4096, .f32⟩
  | .hbm, ⟨69, _⟩ => ⟨S1x4x4096, .f32⟩
  | .hbm, ⟨70, _⟩ => ⟨S1x4x4096x256, .f32⟩
  | .hbm, ⟨71, _⟩ => ⟨S1x4x4096x256, .f32⟩
  | .hbm, ⟨72, _⟩ => ⟨S1x4x4096x256, .f32⟩
  | .hbm, ⟨73, _⟩ => ⟨S_, .f32⟩
  | .hbm, ⟨74, _⟩ => ⟨S1x4x4096x256, .f32⟩
  | .hbm, ⟨75, _⟩ => ⟨S1x4x4096x256, .f32⟩
  | .hbm, ⟨76, _⟩ => ⟨S1x4x256x128, .f32⟩
  | .hbm, ⟨77, _⟩ => ⟨S1x256x4x128, .f32⟩
  | .hbm, ⟨78, _⟩ => ⟨S1x4x4096x128, .f32⟩
  | .hbm, ⟨79, _⟩ => ⟨S1x4096x4x128, .f32⟩
  | .hbm, ⟨80, _⟩ => ⟨S256x512, .f32⟩
  | .hbm, ⟨81, _⟩ => ⟨S256x512, .f32⟩
  | .hbm, ⟨82, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== GateUp.lean ====
abbrev S4096x1024 : Shape := ⟨2, ![4096, 1024]⟩
abbrev S1024x5632 : Shape := ⟨2, ![1024, 5632]⟩
abbrev S5632x1024 : Shape := ⟨2, ![5632, 1024]⟩
abbrev S4096x2816 : Shape := ⟨2, ![4096, 2816]⟩
abbrev S256x1024 : Shape := ⟨2, ![256, 1024]⟩
abbrev S4096x256 : Shape := ⟨2, ![4096, 256]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S5632x1024, .f32⟩
  | .hbm, ⟨4, _⟩ => ⟨S5632x1024, .bf16⟩
  | .hbm, ⟨5, _⟩ => ⟨S4096x2816, .f32⟩
  | .hbm, ⟨6, _⟩ => ⟨S4096x2816, .f32⟩
  | .hbm, ⟨7, _⟩ => ⟨S4096x2816, .bf16⟩
  | .local _ .vmem, ⟨0, _⟩ => ⟨S4096x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S4096x256, .bf16⟩
  | .local _ .vmem, ⟨10, _⟩ => ⟨S4096x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpSpecIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownSpecIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DownDa.lean ====
abbrev S4096x1024 : Shape := ⟨2, ![4096, 1024]⟩
abbrev S2816x1024 : Shape := ⟨2, ![2816, 1024]⟩
abbrev S4096x2816 : Shape := ⟨2, ![4096, 2816]⟩
abbrev S2x4096x2816 : Shape := ⟨3, ![2, 4096, 2816]⟩
abbrev S2048x1024 : Shape := ⟨2, ![2048, 1024]⟩
abbrev S256x1024 : Shape := ⟨2, ![256, 1024]⟩
abbrev S2048x256 : Shape := ⟨2, ![2048, 256]⟩
abbrev S2x2048x256 : Shape := ⟨3, ![2, 2048, 256]⟩
abbrev S1x2048x256 : Shape := ⟨3, ![1, 2048, 256]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .f32⟩
  | .hbm, ⟨3, _⟩ => ⟨S4096x2816, .f32⟩
  | .hbm, ⟨4, _⟩ => ⟨S2816x1024, .bf16⟩
  | .hbm, ⟨5, _⟩ => ⟨S2x4096x2816, .bf16⟩
  | .local _ .vmem, ⟨0, _⟩ => ⟨S2048x1024, .f32⟩
  | .local _ .vmem, ⟨1, _⟩ => ⟨S2048x1024, .f32⟩
  | .local _ .vmem, ⟨2, _⟩ => ⟨S256x1024, .bf16⟩
  | .local _ .vmem, ⟨3, _⟩ => ⟨S256x1024, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2x2048x256, .bf16⟩
  | .local _ .vmem, ⟨9, _⟩ => ⟨S2x2048x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownDaSpecIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S1x4096x2816, .f32⟩
  | .hbm, ⟨27, _⟩ => ⟨S1x4096x2816, .f32⟩
  | .hbm, ⟨28, _⟩ => ⟨S2x4096x2816, .f32⟩
  | .hbm, ⟨29, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwSpecIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateUpDw.lean ====
abbrev S2x4096x2816 : Shape := ⟨3, ![2, 4096, 2816]⟩
abbrev S4096x1024 : Shape := ⟨2, ![4096, 1024]⟩
abbrev S5632x1024 : Shape := ⟨2, ![5632, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x2816, .f32⟩
  | .hbm, ⟨1, _⟩ => ⟨S4096x1024, .f32⟩
  | .hbm, ⟨2, _⟩ => ⟨S2x4096x2816, .bf16⟩
  | .hbm, ⟨3, _⟩ => ⟨S4096x1024, .bf16⟩
  | .hbm, ⟨4, _⟩ => ⟨S5632x1024, .f32⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_7 : BitVec 32 := 1#32
  let v13 : BitVec 1 := Scalar.cmpi .eq arg2 c1_i32_7
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpDwSpecIdeal.lean ====
abbrev S2x4096x2816 : Shape := ⟨3, ![2, 4096, 2816]⟩
abbrev S4096x1024 : Shape := ⟨2, ![4096, 1024]⟩
abbrev S_ : Shape := ⟨0, ![]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S4096x1024, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S1x4096x2816, .f32⟩
  | .hbm, ⟨8, _⟩ => ⟨S4096x2816, .f32⟩
  | .hbm, ⟨9, _⟩ => ⟨S1x4096x2816, .f32⟩
  | .hbm, ⟨10, _⟩ => ⟨S4096x2816, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S5632x1024, .f32⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== GateUpDa.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S5632x1024 : Shape := ⟨2, ![5632, 1024]⟩
abbrev S1x1024 : Shape := ⟨2, ![1, 1024]⟩
abbrev S1x1024x1408 : Shape := ⟨3, ![1, 1024, 1408]⟩
abbrev S1408x1024 : Shape := ⟨2, ![1408, 1024]⟩
abbrev S1024x1024 : Shape := ⟨2, ![1024, 1024]⟩
abbrev S1024x1408 : Shape := ⟨2, ![1024, 1408]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x4096x2816, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S2x4096x2816, .bf16⟩
  | .hbm, ⟨6, _⟩ => ⟨S5632x1024, .f32⟩
  | .hbm, ⟨7, _⟩ => ⟨S5632x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32_10 : BitVec 32 := 3#32
  let v18 : BitVec 1 := Scalar.cmpi .eq arg1 c3_i32_10
  let v19 : BitVec 32 := Scalar.extui v18
  let c0_i32_11 : BitVec 32 := 0#32
  let v20 : BitVec 1 := Scalar.cmpi .ne v19 c0_i32_11
  v20

def k0_cond3 (i : grid0.Coords) : BitVec 1 :=
  let arg0 : BitVec 32 := BitVec.ofNat 32 (i 0).val
  let c0_i32_7 : BitVec 32 := 0#32
  let v13 : BitVec 1 := Scalar.cmpi .eq arg0 c0_i32_7
  let arg1 : BitVec 32 := BitVec.ofNat 32 (i 1).val
  let c0_i32_8 : BitVec 32 := 0#32
  let v14 : BitVec 1 := Scalar.cmpi .eq arg1 c0_i32_8
  let v15 : BitVec 1 := Scalar.andi v13 v14
  let v16 : BitVec 32 := Scalar.extui v15
  let c0_i32_9 : BitVec 32 := 0#32
  let v17 : BitVec 1 := Scalar.cmpi .ne v16 c0_i32_9
  v17

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== GateUpDaSpecIdeal.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩

abbrev nBuf : Space → Nat
  | .hbm => 61
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S1x4096x2816, .f32⟩
  | .hbm, ⟨29, _⟩ => ⟨S4096x2816, .f32⟩
  | .hbm, ⟨30, _⟩ => ⟨S1x4096x2816, .f32⟩
  | .hbm, ⟨31, _⟩ => ⟨S4096x2816, .f32⟩
  | .hbm, ⟨32, _⟩ => ⟨S4096x5632, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1x1024, .f32⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== InPiece.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .f32⟩
  | .hbm, ⟨4, _⟩ => ⟨S1024x1024, .bf16⟩
  | .hbm, ⟨5, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InPieceSpecIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDw.lean ====
abbrev S4096x3584 : Shape := ⟨2, ![4096, 3584]⟩
abbrev S4096x1024 : Shape := ⟨2, ![4096, 1024]⟩
abbrev S3584x1024 : Shape := ⟨2, ![3584, 1024]⟩
abbrev S2048x896 : Shape := ⟨2, ![2048, 896]⟩
abbrev S2048x1024 : Shape := ⟨2, ![2048, 1024]⟩
abbrev S896x1024 : Shape := ⟨2, ![896, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x3584, .f32⟩
  | .hbm, ⟨1, _⟩ => ⟨S4096x1024, .f32⟩
  | .hbm, ⟨2, _⟩ => ⟨S4096x3584, .bf16⟩
  | .hbm, ⟨3, _⟩ => ⟨S4096x1024, .bf16⟩
  | .hbm, ⟨4, _⟩ => ⟨S3584x1024, .f32⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .f32⟩
  | .local _ .vmem, ⟨5, _⟩ => ⟨S896x1024, .f32⟩
  | .local _ .vmem, ⟨6, _⟩ => ⟨S896x1024, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwSpecIdeal.lean ====
abbrev S4096x3584 : Shape := ⟨2, ![4096, 3584]⟩
abbrev S4096x1024 : Shape := ⟨2, ![4096, 1024]⟩
abbrev S_ : Shape := ⟨0, ![]⟩
abbrev S1024x3584 : Shape := ⟨2, ![1024, 3584]⟩
abbrev S3584x1024 : Shape := ⟨2, ![3584, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4096x1024, .f32⟩
  | .hbm, ⟨2, _⟩ => ⟨S_, .f32⟩
  | .hbm, ⟨3, _⟩ => ⟨S1024x3584, .f32⟩
  | .hbm, ⟨4, _⟩ => ⟨S4096x3584, .f32⟩
  | .hbm, ⟨5, _⟩ => ⟨S3584x1024, .f32⟩
  | .hbm, ⟨6, _⟩ => ⟨S1024x3584, .f32⟩
  | .hbm, ⟨7, _⟩ => ⟨S3584x1024, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDa.lean ====
abbrev S4096x3584 : Shape := ⟨2, ![4096, 3584]⟩
abbrev S1024x3584 : Shape := ⟨2, ![1024, 3584]⟩
abbrev S4096x1024 : Shape := ⟨2, ![4096, 1024]⟩
abbrev S1024 : Shape := ⟨1, ![1024]⟩
abbrev S3584x1024 : Shape := ⟨2, ![3584, 1024]⟩
abbrev S1x1024 : Shape := ⟨2, ![1, 1024]⟩
abbrev S1024x896 : Shape := ⟨2, ![1024, 896]⟩
abbrev S896x1024 : Shape := ⟨2, ![896, 1024]⟩
abbrev S1024x1024 : Shape := ⟨2, ![1024, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x3584, .f32⟩
  | .hbm, ⟨1, _⟩ => ⟨S1024x3584, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x3584, .bf16⟩
  | .hbm, ⟨6, _⟩ => ⟨S3584x1024, .f32⟩
  | .hbm, ⟨7, _⟩ => ⟨S3584x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S1024x896, .bf16⟩
  | .local _ .vmem, ⟨1, _⟩ => ⟨S1024x896, .bf16⟩
  | .local _ .vmem, ⟨2, _⟩ => ⟨S896x1024, .bf16⟩
  | .local _ .vmem, ⟨3, _⟩ => ⟨S896x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32_9 : BitVec 32 := 3#32
  let v18 : BitVec 1 := Scalar.cmpi .eq arg1 c3_i32_9
  let v19 : BitVec 32 := Scalar.extui v18
  let c0_i32_10 : BitVec 32 := 0#32
  let v20 : BitVec 1 := Scalar.cmpi .ne v19 c0_i32_10
  v20

def k0_cond3 (i : grid0.Coords) : BitVec 1 :=
  let arg0 : BitVec 32 := BitVec.ofNat 32 (i 0).val
  let c0_i32_6 : BitVec 32 := 0#32
  let v13 : BitVec 1 := Scalar.cmpi .eq arg0 c0_i32_6
  let arg1 : BitVec 32 := BitVec.ofNat 32 (i 1).val
  let c0_i32_7 : BitVec 32 := 0#32
  let v14 : BitVec 1 := Scalar.cmpi .eq arg1 c0_i32_7
  let v15 : BitVec 1 := Scalar.andi v13 v14
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InDaSpecIdeal.lean ====
abbrev S4096x3584 : Shape := ⟨2, ![4096, 3584]⟩
abbrev S1024x3584 : Shape := ⟨2, ![1024, 3584]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S1024x3584, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3584, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== OutNarrow.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S512x1024, .bf16⟩
  | .hbm, ⟨4, _⟩ => ⟨S4096x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutNarrowIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S512x1024, .bf16⟩
  | .hbm, ⟨4, _⟩ => ⟨S4096x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutNarrowSpecIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutWide.lean ====
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutWideSpecIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutBias.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S1024x1024, .bf16⟩
  | .hbm, ⟨5, _⟩ => ⟨S1x1024, .f32⟩
  | .hbm, ⟨6, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutBiasSpecIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutNarrowDa.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S512x1024, .bf16⟩
  | .hbm, ⟨3, _⟩ => ⟨S4096x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutNarrowDaIdeal.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S512x1024, .bf16⟩
  | .hbm, ⟨3, _⟩ => ⟨S4096x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutNarrowDaSpecIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutWideDa.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWideDaSpecIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutNarrowDw.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutNarrowDwIdeal.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutNarrowDwSpecIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutWideDw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWideDwSpecIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S4096x1024 : Shape := ⟨2, ![4096, 1024]⟩
abbrev S1024 : Shape := ⟨1, ![1024]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .bf16⟩
  | .local _ .vmem, ⟨4, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormSpecIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Gates.lean ====
abbrev S4096x1024 : Shape := ⟨2, ![4096, 1024]⟩
abbrev S4x256x256 : Shape := ⟨3, ![4, 256, 256]⟩
abbrev S4x256 : Shape := ⟨2, ![4, 256]⟩
abbrev S1x1024 : Shape := ⟨2, ![1, 1024]⟩
abbrev S2048x256 : Shape := ⟨2, ![2048, 256]⟩
abbrev S1x256x256 : Shape := ⟨3, ![1, 256, 256]⟩
abbrev S1x256 : Shape := ⟨2, ![1, 256]⟩
abbrev S256x256 : Shape := ⟨2, ![256, 256]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S4x256, .f32⟩
  | .hbm, ⟨3, _⟩ => ⟨S4x256x256, .f32⟩
  | .hbm, ⟨4, _⟩ => ⟨S4x256, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .local _ .vmem, ⟨0, _⟩ => ⟨S2048x256, .f32⟩
  | .local _ .vmem, ⟨1, _⟩ => ⟨S2048x256, .f32⟩
  | .local _ .vmem, ⟨2, _⟩ => ⟨S1x256x256, .f32⟩
  | .local _ .vmem, ⟨3, _⟩ => ⟨S1x256x256, .f32⟩
  | .local _ .vmem, ⟨4, _⟩ => ⟨S1x256, .f32⟩
  | .local _ .vmem, ⟨5, _⟩ => ⟨S1x256, .f32⟩
  | .local _ .vmem, ⟨6, _⟩ => ⟨S1x256x256, .f32⟩
  | .local _ .vmem, ⟨7, _⟩ => ⟨S1x256x256, .f32⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GatesSpecIdeal.lean ====
abbrev S4096x1024 : Shape := ⟨2, ![4096, 1024]⟩
abbrev S4x256x256 : Shape := ⟨3, ![4, 256, 256]⟩
abbrev S4x256 : Shape := ⟨2, ![4, 256]⟩
abbrev S4096x4x256 : Shape := ⟨3, ![4096, 4, 256]⟩
abbrev S4x256x4096 : Shape := ⟨3, ![4, 256, 4096]⟩
abbrev S1x4x256 : Shape := ⟨3, ![1, 4, 256]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S4x256, .f32⟩
  | .hbm, ⟨3, _⟩ => ⟨S4x256x256, .f32⟩
  | .hbm, ⟨4, _⟩ => ⟨S4x256, .f32⟩
  | .hbm, ⟨5, _⟩ => ⟨S4096x4x256, .f32⟩
  | .hbm, ⟨6, _⟩ => ⟨S4x256x4096, .f32⟩
  | .hbm, ⟨7, _⟩ => ⟨S4096x4x256, .f32⟩
  | .hbm, ⟨8, _⟩ => ⟨S1x4x256, .f32⟩
  | .hbm, ⟨9, _⟩ => ⟨S4096x4x256, .f32⟩
  | .hbm, ⟨10, _⟩ => ⟨S4096x4x256, .f32⟩
  | .hbm, ⟨11, _⟩ => ⟨S4096x1024, .f32⟩
  | .hbm, ⟨12, _⟩ => ⟨S4096x4x256, .f32⟩
  | .hbm, ⟨13, _⟩ => ⟨S4x256x4096, .f32⟩
  | .hbm, ⟨14, _⟩ => ⟨S4096x4x256, .f32⟩
  | .hbm, ⟨15, _⟩ => ⟨S1x4x256, .f32⟩
  | .hbm, ⟨16, _⟩ => ⟨S4096x4x256, .f32⟩
  | .hbm, ⟨17, _⟩ => ⟨S4096x4x256, .f32⟩
  | .hbm, ⟨18, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GatesDx.lean ====
abbrev S4096x1024 : Shape := ⟨2, ![4096, 1024]⟩
abbrev S4x256x256 : Shape := ⟨3, ![4, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x256x256, .f32⟩
  | .hbm, ⟨3, _⟩ => ⟨S4x256x256, .f32⟩
  | .hbm, ⟨4, _⟩ => ⟨S4096x1024, .f32⟩
  | .hbm, ⟨5, _⟩ => ⟨S4096x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GatesDxSpecIdeal.lean ====
abbrev S4096x1024 : Shape := ⟨2, ![4096, 1024]⟩
abbrev S4x256x256 : Shape := ⟨3, ![4, 256, 256]⟩
abbrev S_ : Shape := ⟨0, ![]⟩
abbrev S4096x4x256 : Shape := ⟨3, ![4096, 4, 256]⟩
abbrev S4x256x4096 : Shape := ⟨3, ![4, 256, 4096]⟩
abbrev S4x4096x256 : Shape := ⟨3, ![4, 4096, 256]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x256x256, .f32⟩
  | .hbm, ⟨3, _⟩ => ⟨S4x256x256, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x4x256, .f32⟩
  | .hbm, ⟨8, _⟩ => ⟨S4x256x4096, .f32⟩
  | .hbm, ⟨9, _⟩ => ⟨S4096x4x256, .f32⟩
  | .hbm, ⟨10, _⟩ => ⟨S_, .f32⟩
  | .hbm, ⟨11, _⟩ => ⟨S4096x4x256, .f32⟩
  | .hbm, ⟨12, _⟩ => ⟨S4096x4x256, .f32⟩
  | .hbm, ⟨13, _⟩ => ⟨S4096x1024, .f32⟩
  | .hbm, ⟨14, _⟩ => ⟨S4096x4x256, .f32⟩
  | .hbm, ⟨15, _⟩ => ⟨S4x256x4096, .f32⟩
  | .hbm, ⟨16, _⟩ => ⟨S4096x4x256, .f32⟩
  | .hbm, ⟨17, _⟩ => ⟨S_, .f32⟩
  | .hbm, ⟨18, _⟩ => ⟨S4096x4x256, .f32⟩
  | .hbm, ⟨19, _⟩ => ⟨S4096x4x256, .f32⟩
  | .hbm, ⟨20, _⟩ => ⟨S4096x1024, .f32⟩
  | .hbm, ⟨21, _⟩ => ⟨S4096x4x256, .f32⟩
  | .hbm, ⟨22, _⟩ => ⟨S4x256x4096, .f32⟩
  | .hbm, ⟨23, _⟩ => ⟨S4x4096x256, .f32⟩
  | .hbm, ⟨24, _⟩ => ⟨S4096x4x256, .f32⟩
  | .hbm, ⟨25, _⟩ => ⟨S4096x1024, .f32⟩
  | .hbm, ⟨26, _⟩ => ⟨S4096x1024, .f32⟩
  | .hbm, ⟨27, _⟩ => ⟨S4096x4x256, .f32⟩
  | .hbm, ⟨28, _⟩ => ⟨S4x256x4096, .f32⟩
  | .hbm, ⟨29, _⟩ => ⟨S4x4096x256, .f32⟩
  | .hbm, ⟨30, _⟩ => ⟨S4096x4x256, .f32⟩
  | .hbm, ⟨31, _⟩ => ⟨S4096x1024, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== GatesDw.lean ====
abbrev S4096x1024 : Shape := ⟨2, ![4096, 1024]⟩
abbrev S4x256x256 : Shape := ⟨3, ![4, 256, 256]⟩
abbrev S1x1024 : Shape := ⟨2, ![1, 1024]⟩
abbrev S2048x256 : Shape := ⟨2, ![2048, 256]⟩
abbrev S1x256x256 : Shape := ⟨3, ![1, 256, 256]⟩
abbrev S1x256 : Shape := ⟨2, ![1, 256]⟩
abbrev S256x256 : Shape := ⟨2, ![256, 256]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x256x256, .f32⟩
  | .hbm, ⟨4, _⟩ => ⟨S4x256x256, .f32⟩
  | .hbm, ⟨5, _⟩ => ⟨S1x1024, .f32⟩
  | .hbm, ⟨6, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GatesDwSpecIdeal.lean ====
abbrev S4096x1024 : Shape := ⟨2, ![4096, 1024]⟩
abbrev S_ : Shape := ⟨0, ![]⟩
abbrev S4x256x256 : Shape := ⟨3, ![4, 256, 256]⟩
abbrev S4x256 : Shape := ⟨2, ![4, 256]⟩
abbrev S4096x4x256 : Shape := ⟨3, ![4096, 4, 256]⟩
abbrev S4x256x4096 : Shape := ⟨3, ![4, 256, 4096]⟩
abbrev S1x4x256 : Shape := ⟨3, ![1, 4, 256]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4x256x256, .f32⟩
  | .hbm, ⟨5, _⟩ => ⟨S_, .f32⟩
  | .hbm, ⟨6, _⟩ => ⟨S4x256, .f32⟩
  | .hbm, ⟨7, _⟩ => ⟨S4096x4x256, .f32⟩
  | .hbm, ⟨8, _⟩ => ⟨S4x256x4096, .f32⟩
  | .hbm, ⟨9, _⟩ => ⟨S4096x4x256, .f32⟩
  | .hbm, ⟨10, _⟩ => ⟨S1x4x256, .f32⟩
  | .hbm, ⟨11, _⟩ => ⟨S4096x4x256, .f32⟩
  | .hbm, ⟨12, _⟩ => ⟨S4096x4x256, .f32⟩
  | .hbm, ⟨13, _⟩ => ⟨S4096x1024, .f32⟩
  | .hbm, ⟨14, _⟩ => ⟨S4096x4x256, .f32⟩
  | .hbm, ⟨15, _⟩ => ⟨S4x256x4096, .f32⟩
  | .hbm, ⟨16, _⟩ => ⟨S4096x4x256, .f32⟩
  | .hbm, ⟨17, _⟩ => ⟨S1x4x256, .f32⟩
  | .hbm, ⟨18, _⟩ => ⟨S4096x4x256, .f32⟩
  | .hbm, ⟨19, _⟩ => ⟨S4096x4x256, .f32⟩
  | .hbm, ⟨20, _⟩ => ⟨S4096x1024, .f32⟩
  | .hbm, ⟨21, _⟩ => ⟨S4096x4x256, .f32⟩
  | .hbm, ⟨22, _⟩ => ⟨S_, .f32⟩
  | .hbm, ⟨23, _⟩ => ⟨S4x256, .f32⟩
  | .hbm, ⟨24, _⟩ => ⟨S1x4x256, .f32⟩
  | .hbm, ⟨25, _⟩ => ⟨S_, .f32⟩
  | .hbm, ⟨26, _⟩ => ⟨S4x256, .f32⟩
  | .hbm, ⟨27, _⟩ => ⟨S4x256x4096, .f32⟩
  | .hbm, ⟨28, _⟩ => ⟨S4x256x256, .f32⟩
  | .hbm, ⟨29, _⟩ => ⟨S4x256x256, .f32⟩
  | .hbm, ⟨30, _⟩ => ⟨S4096x4x256, .f32⟩
  | .hbm, ⟨31, _⟩ => ⟨S_, .f32⟩
  | .hbm, ⟨32, _⟩ => ⟨S4x256, .f32⟩
  | .hbm, ⟨33, _⟩ => ⟨S1x4x256, .f32⟩
  | .hbm, ⟨34, _⟩ => ⟨S_, .f32⟩
  | .hbm, ⟨35, _⟩ => ⟨S4x256, .f32⟩
  | .hbm, ⟨36, _⟩ => ⟨S4x256x4096, .f32⟩
  | .hbm, ⟨37, _⟩ => ⟨S4x256x256, .f32⟩
  | .hbm, ⟨38, _⟩ => ⟨S4x256x256, .f32⟩
  | .hbm, ⟨39, _⟩ => ⟨S1x1024, .f32⟩
  | .hbm, ⟨40, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Merge.lean ====
abbrev S4096x512 : Shape := ⟨2, ![4096, 512]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeSpecIdeal.lean ====
abbrev S4096x512 : Shape := ⟨2, ![4096, 512]⟩
abbrev S1x4096x512 : Shape := ⟨3, ![1, 4096, 512]⟩
abbrev S3x4096x512 : Shape := ⟨3, ![3, 4096, 512]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S1x4096x512, .f32⟩
  | .hbm, ⟨7, _⟩ => ⟨S1x4096x512, .f32⟩
  | .hbm, ⟨8, _⟩ => ⟨S1x4096x512, .f32⟩
  | .hbm, ⟨9, _⟩ => ⟨S3x4096x512, .f32⟩
  | .hbm, ⟨10, _⟩ => ⟨S_, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S1x4096x512, .f32⟩
  | .hbm, ⟨16, _⟩ => ⟨S3x4096x512, .f32⟩
  | .hbm, ⟨17, _⟩ => ⟨S3x4096x512, .f32⟩
  | .hbm, ⟨18, _⟩ => ⟨S3x4096x512, .f32⟩
  | .hbm, ⟨19, _⟩ => ⟨S_, .f32⟩
  | .hbm, ⟨20, _⟩ => ⟨S4096x512, .f32⟩
  | .hbm, ⟨21, _⟩ => ⟨S1x4096x512, .f32⟩
  | .hbm, ⟨22, _⟩ => ⟨S3x4096x512, .f32⟩
  | .hbm, ⟨23, _⟩ => ⟨S3x4096x512, .f32⟩
  | .hbm, ⟨24, _⟩ => ⟨S1x4096x512, .f32⟩
  | .hbm, ⟨25, _⟩ => ⟨S1x4096x512, .f32⟩
  | .hbm, ⟨26, _⟩ => ⟨S1x4096x512, .f32⟩
  | .hbm, ⟨27, _⟩ => ⟨S3x4096x512, .f32⟩
  | .hbm, ⟨28, _⟩ => ⟨S3x4096x512, .f32⟩
  | .hbm, ⟨29, _⟩ => ⟨S_, .f32⟩
  | .hbm, ⟨30, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== AdamAbIn.lean ====
abbrev S8x448x1024 : Shape := ⟨3, ![8, 448, 1024]⟩
abbrev S1x1024x448 : Shape := ⟨3, ![1, 1024, 448]⟩
abbrev S1x448x1024 : Shape := ⟨3, ![1, 448, 1024]⟩
abbrev S8x1x448x1024 : Shape := ⟨4, ![8, 1, 448, 1024]⟩
abbrev S8x1x224x1024 : Shape := ⟨4, ![8, 1, 224, 1024]⟩
abbrev S1x224x1024 : Shape := ⟨3, ![1, 224, 1024]⟩
abbrev S1x1x224x1024 : Shape := ⟨4, ![1, 1, 224, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x448x1024, .f32⟩
  | .hbm, ⟨1, _⟩ => ⟨S1x1024x448, .f32⟩
  | .hbm, ⟨2, _⟩ => ⟨S1x1024x448, .f32⟩
  | .hbm, ⟨3, _⟩ => ⟨S1x1024x448, .f32⟩
  | .hbm, ⟨4, _⟩ => ⟨S1x448x1024, .f32⟩
  | .hbm, ⟨5, _⟩ => ⟨S1x448x1024, .f32⟩
  | .hbm, ⟨6, _⟩ => ⟨S1x448x1024, .f32⟩
  | .hbm, ⟨7, _⟩ => ⟨S8x1x448x1024, .f32⟩
  | .hbm, ⟨8, _⟩ => ⟨S1x448x1024, .f32⟩
  | .hbm, ⟨9, _⟩ => ⟨S1x448x1024, .f32⟩
  | .hbm, ⟨10, _⟩ => ⟨S1x448x1024, .f32⟩
  | .hbm, ⟨11, _⟩ => ⟨S1x448x1024, .f32⟩
  | .local _ .vmem, ⟨0, _⟩ => ⟨S8x1x224x1024, .f32⟩
  | .local _ .vmem, ⟨1, _⟩ => ⟨S8x1x224x1024, .f32⟩
  | .local _ .vmem, ⟨2, _⟩ => ⟨S1x224x1024, .f32⟩
  | .local _ .vmem, ⟨3, _⟩ => ⟨S1x224x1024, .f32⟩
  | .local _ .vmem, ⟨4, _⟩ => ⟨S1x224x1024, .f32⟩
  | .local _ .vmem, ⟨5, _⟩ => ⟨S1x224x1024, .f32⟩
  | .local _ .vmem, ⟨6, _⟩ => ⟨S1x224x1024, .f32⟩
  | .local _ .vmem, ⟨7, _⟩ => ⟨S1x224x1024, .f32⟩
  | .local _ .vmem, ⟨8, _⟩ => ⟨S1x224x1024, .f32⟩
  | .local _ .vmem, ⟨9, _⟩ => ⟨S1x224x1024, .f32⟩
  | .local _ .vmem, ⟨10, _⟩ => ⟨S1x224x1024, .f32⟩
  | .local _ .vmem, ⟨11, _⟩ => ⟨S1x224x1024, .f32⟩
  | .local _ .vmem, ⟨12, _⟩ => ⟨S1x224x1024, .f32⟩
  | .local _ .vmem, ⟨13, _⟩ => ⟨S1x224x1024, .f32⟩
  | .local _ .vmem, ⟨14, _⟩ => ⟨S1x224x1024, .f32⟩
  | .local _ .vmem, ⟨15, _⟩ => ⟨S1x224x1024, .f32⟩
  | _, _ => ⟨S8x448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S8x1x224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamAbInIdeal.lean ====
abbrev S8x448x1024 : Shape := ⟨3, ![8, 448, 1024]⟩
abbrev S1x1024x448 : Shape := ⟨3, ![1, 1024, 448]⟩
abbrev S1x448x1024 : Shape := ⟨3, ![1, 448, 1024]⟩
abbrev S8x1x448x1024 : Shape := ⟨4, ![8, 1, 448, 1024]⟩
abbrev S8x1x224x1024 : Shape := ⟨4, ![8, 1, 224, 1024]⟩
abbrev S1x224x1024 : Shape := ⟨3, ![1, 224, 1024]⟩
abbrev S1x1x224x1024 : Shape := ⟨4, ![1, 1, 224, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x448x1024, .f32⟩
  | .hbm, ⟨1, _⟩ => ⟨S1x1024x448, .f32⟩
  | .hbm, ⟨2, _⟩ => ⟨S1x1024x448, .f32⟩
  | .hbm, ⟨3, _⟩ => ⟨S1x1024x448, .f32⟩
  | .hbm, ⟨4, _⟩ => ⟨S1x448x1024, .f32⟩
  | .hbm, ⟨5, _⟩ => ⟨S1x448x1024, .f32⟩
  | .hbm, ⟨6, _⟩ => ⟨S1x448x1024, .f32⟩
  | .hbm, ⟨7, _⟩ => ⟨S8x1x448x1024, .f32⟩
  | .hbm, ⟨8, _⟩ => ⟨S1x448x1024, .f32⟩
  | .hbm, ⟨9, _⟩ => ⟨S1x448x1024, .f32⟩
  | .hbm, ⟨10, _⟩ => ⟨S1x448x1024, .f32⟩
  | .hbm, ⟨11, _⟩ => ⟨S1x448x1024, .f32⟩
  | .local _ .vmem, ⟨0, _⟩ => ⟨S8x1x224x1024, .f32⟩
  | .local _ .vmem, ⟨1, _⟩ => ⟨S8x1x224x1024, .f32⟩
  | .local _ .vmem, ⟨2, _⟩ => ⟨S1x224x1024, .f32⟩
  | .local _ .vmem, ⟨3, _⟩ => ⟨S1x224x1024, .f32⟩
  | .local _ .vmem, ⟨4, _⟩ => ⟨S1x224x1024, .f32⟩
  | .local _ .vmem, ⟨5, _⟩ => ⟨S1x224x1024, .f32⟩
  | .local _ .vmem, ⟨6, _⟩ => ⟨S1x224x1024, .f32⟩
  | .local _ .vmem, ⟨7, _⟩ => ⟨S1x224x1024, .f32⟩
  | .local _ .vmem, ⟨8, _⟩ => ⟨S1x224x1024, .f32⟩
  | .local _ .vmem, ⟨9, _⟩ => ⟨S1x224x1024, .f32⟩
  | .local _ .vmem, ⟨10, _⟩ => ⟨S1x224x1024, .f32⟩
  | .local _ .vmem, ⟨11, _⟩ => ⟨S1x224x1024, .f32⟩
  | .local _ .vmem, ⟨12, _⟩ => ⟨S1x224x1024, .f32⟩
  | .local _ .vmem, ⟨13, _⟩ => ⟨S1x224x1024, .f32⟩
  | .local _ .vmem, ⟨14, _⟩ => ⟨S1x224x1024, .f32⟩
  | .local _ .vmem, ⟨15, _⟩ => ⟨S1x224x1024, .f32⟩
  | _, _ => ⟨S8x448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S8x1x224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamAbInSpecIdeal.lean ====
abbrev S8x448x1024 : Shape := ⟨3, ![8, 448, 1024]⟩
abbrev S1x1024x448 : Shape := ⟨3, ![1, 1024, 448]⟩
abbrev S_ : Shape := ⟨0, ![]⟩
abbrev S448x1024 : Shape := ⟨2, ![448, 1024]⟩
abbrev S1x448x1024 : Shape := ⟨3, ![1, 448, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x448x1024, .f32⟩
  | .hbm, ⟨1, _⟩ => ⟨S1x1024x448, .f32⟩
  | .hbm, ⟨2, _⟩ => ⟨S1x1024x448, .f32⟩
  | .hbm, ⟨3, _⟩ => ⟨S1x1024x448, .f32⟩
  | .hbm, ⟨4, _⟩ => ⟨S_, .f32⟩
  | .hbm, ⟨5, _⟩ => ⟨S448x1024, .f32⟩
  | .hbm, ⟨6, _⟩ => ⟨S1x448x1024, .f32⟩
  | .hbm, ⟨7, _⟩ => ⟨S1x1024x448, .f32⟩
  | .hbm, ⟨8, _⟩ => ⟨S_, .f32⟩
  | .hbm, ⟨9, _⟩ => ⟨S1x1024x448, .f32⟩
  | .hbm, ⟨10, _⟩ => ⟨S1x1024x448, .f32⟩
  | .hbm, ⟨11, _⟩ => ⟨S_, .f32⟩
  | .hbm, ⟨12, _⟩ => ⟨S1x1024x448, .f32⟩
  | .hbm, ⟨13, _⟩ => ⟨S1x1024x448, .f32⟩
  | .hbm, ⟨14, _⟩ => ⟨S1x1024x448, .f32⟩
  | .hbm, ⟨15, _⟩ => ⟨S_, .f32⟩
  | .hbm, ⟨16, _⟩ => ⟨S1x1024x448, .f32⟩
  | .hbm, ⟨17, _⟩ => ⟨S1x1024x448, .f32⟩
  | .hbm, ⟨18, _⟩ => ⟨S1x1024x448, .f32⟩
  | .hbm, ⟨19, _⟩ => ⟨S_, .f32⟩
  | .hbm, ⟨20, _⟩ => ⟨S1x1024x448, .f32⟩
  | .hbm, ⟨21, _⟩ => ⟨S1x1024x448, .f32⟩
  | .hbm, ⟨22, _⟩ => ⟨S1x1024x448, .f32⟩
  | .hbm, ⟨23, _⟩ => ⟨S_, .f32⟩
  | .hbm, ⟨24, _⟩ => ⟨S1x1024x448, .f32⟩
  | .hbm, ⟨25, _⟩ => ⟨S1x1024x448, .f32⟩
  | .hbm, ⟨26, _⟩ => ⟨S_, .f32⟩
  | .hbm, ⟨27, _⟩ => ⟨S1x1024x448, .f32⟩
  | .hbm, ⟨28, _⟩ => ⟨S1x1024x448, .f32⟩
  | .hbm, ⟨29, _⟩ => ⟨S1x1024x448, .f32⟩
  | .hbm, ⟨30, _⟩ => ⟨S_, .f32⟩
  | .hbm, ⟨31, _⟩ => ⟨S1x1024x448, .f32⟩
  | .hbm, ⟨32, _⟩ => ⟨S1x1024x448, .f32⟩
  | .hbm, ⟨33, _⟩ => ⟨S1x1024x448, .f32⟩
  | .hbm, ⟨34, _⟩ => ⟨S_, .f32⟩
  | .hbm, ⟨35, _⟩ => ⟨S1x1024x448, .f32⟩
  | .hbm, ⟨36, _⟩ => ⟨S1x1024x448, .f32⟩
  | .hbm, ⟨37, _⟩ => ⟨S1x1024x448, .f32⟩
  | .hbm, ⟨38, _⟩ => ⟨S_, .f32⟩
  | .hbm, ⟨39, _⟩ => ⟨S1x1024x448, .f32⟩
  | .hbm, ⟨40, _⟩ => ⟨S1x1024x448, .f32⟩
  | .hbm, ⟨41, _⟩ => ⟨S1x448x1024, .f32⟩
  | .hbm, ⟨42, _⟩ => ⟨S1x448x1024, .f32⟩
  | .hbm, ⟨43, _⟩ => ⟨S1x448x1024, .f32⟩
  | .hbm, ⟨44, _⟩ => ⟨S1x448x1024, .f32⟩
  | _, _ => ⟨S8x448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamLru.lean ====
abbrev S8x4x32x256 : Shape := ⟨4, ![8, 4, 32, 256]⟩
abbrev S1x4x32x256 : Shape := ⟨4, ![1, 4, 32, 256]⟩
abbrev S4x32x256 : Shape := ⟨3, ![4, 32, 256]⟩
abbrev S8x1x32x256 : Shape := ⟨4, ![8, 1, 32, 256]⟩
abbrev S1x32x256 : Shape := ⟨3, ![1, 32, 256]⟩
abbrev S1x1x32x256 : Shape := ⟨4, ![1, 1, 32, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x4x32x256, .f32⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S4x32x256, .f32⟩
  | .hbm, ⟨5, _⟩ => ⟨S4x32x256, .f32⟩
  | .hbm, ⟨6, _⟩ => ⟨S4x32x256, .f32⟩
  | .hbm, ⟨7, _⟩ => ⟨S4x32x256, .f32⟩
  | .hbm, ⟨8, _⟩ => ⟨S4x32x256, .f32⟩
  | .hbm, ⟨9, _⟩ => ⟨S4x32x256, .f32⟩
  | .hbm, ⟨10, _⟩ => ⟨S4x32x256, .f32⟩
  | .local _ .vmem, ⟨0, _⟩ => ⟨S8x1x32x256, .f32⟩
  | .local _ .vmem, ⟨1, _⟩ => ⟨S8x1x32x256, .f32⟩
  | .local _ .vmem, ⟨2, _⟩ => ⟨S1x32x256, .f32⟩
  | .local _ .vmem, ⟨3, _⟩ => ⟨S1x32x256, .f32⟩
  | .local _ .vmem, ⟨4, _⟩ => ⟨S1x32x256, .f32⟩
  | .local _ .vmem, ⟨5, _⟩ => ⟨S1x32x256, .f32⟩
  | .local _ .vmem, ⟨6, _⟩ => ⟨S1x32x256, .f32⟩
  | .local _ .vmem, ⟨7, _⟩ => ⟨S1x32x256, .f32⟩
  | .local _ .vmem, ⟨8, _⟩ => ⟨S1x32x256, .f32⟩
  | .local _ .vmem, ⟨9, _⟩ => ⟨S1x32x256, .f32⟩
  | .local _ .vmem, ⟨10, _⟩ => ⟨S1x32x256, .f32⟩
  | .local _ .vmem, ⟨11, _⟩ => ⟨S1x32x256, .f32⟩
  | .local _ .vmem, ⟨12, _⟩ => ⟨S1x32x256, .f32⟩
  | .local _ .vmem, ⟨13, _⟩ => ⟨S1x32x256, .f32⟩
  | .local _ .vmem, ⟨14, _⟩ => ⟨S1x32x256, .f32⟩
  | .local _ .vmem, ⟨15, _⟩ => ⟨S1x32x256, .f32⟩
  | _, _ => ⟨S8x4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S8x1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamLruIdeal.lean ====
abbrev S8x4x32x256 : Shape := ⟨4, ![8, 4, 32, 256]⟩
abbrev S1x4x32x256 : Shape := ⟨4, ![1, 4, 32, 256]⟩
abbrev S4x32x256 : Shape := ⟨3, ![4, 32, 256]⟩
abbrev S8x1x32x256 : Shape := ⟨4, ![8, 1, 32, 256]⟩
abbrev S1x32x256 : Shape := ⟨3, ![1, 32, 256]⟩
abbrev S1x1x32x256 : Shape := ⟨4, ![1, 1, 32, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x4x32x256, .f32⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S4x32x256, .f32⟩
  | .hbm, ⟨5, _⟩ => ⟨S4x32x256, .f32⟩
  | .hbm, ⟨6, _⟩ => ⟨S4x32x256, .f32⟩
  | .hbm, ⟨7, _⟩ => ⟨S4x32x256, .f32⟩
  | .hbm, ⟨8, _⟩ => ⟨S4x32x256, .f32⟩
  | .hbm, ⟨9, _⟩ => ⟨S4x32x256, .f32⟩
  | .hbm, ⟨10, _⟩ => ⟨S4x32x256, .f32⟩
  | .local _ .vmem, ⟨0, _⟩ => ⟨S8x1x32x256, .f32⟩
  | .local _ .vmem, ⟨1, _⟩ => ⟨S8x1x32x256, .f32⟩
  | .local _ .vmem, ⟨2, _⟩ => ⟨S1x32x256, .f32⟩
  | .local _ .vmem, ⟨3, _⟩ => ⟨S1x32x256, .f32⟩
  | .local _ .vmem, ⟨4, _⟩ => ⟨S1x32x256, .f32⟩
  | .local _ .vmem, ⟨5, _⟩ => ⟨S1x32x256, .f32⟩
  | .local _ .vmem, ⟨6, _⟩ => ⟨S1x32x256, .f32⟩
  | .local _ .vmem, ⟨7, _⟩ => ⟨S1x32x256, .f32⟩
  | .local _ .vmem, ⟨8, _⟩ => ⟨S1x32x256, .f32⟩
  | .local _ .vmem, ⟨9, _⟩ => ⟨S1x32x256, .f32⟩
  | .local _ .vmem, ⟨10, _⟩ => ⟨S1x32x256, .f32⟩
  | .local _ .vmem, ⟨11, _⟩ => ⟨S1x32x256, .f32⟩
  | .local _ .vmem, ⟨12, _⟩ => ⟨S1x32x256, .f32⟩
  | .local _ .vmem, ⟨13, _⟩ => ⟨S1x32x256, .f32⟩
  | .local _ .vmem, ⟨14, _⟩ => ⟨S1x32x256, .f32⟩
  | .local _ .vmem, ⟨15, _⟩ => ⟨S1x32x256, .f32⟩
  | _, _ => ⟨S8x4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S8x1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamLruSpecIdeal.lean ====
abbrev S8x4x32x256 : Shape := ⟨4, ![8, 4, 32, 256]⟩
abbrev S1x4x32x256 : Shape := ⟨4, ![1, 4, 32, 256]⟩
abbrev S_ : Shape := ⟨0, ![]⟩
abbrev S4x32x256 : Shape := ⟨3, ![4, 32, 256]⟩

abbrev nBuf : Space → Nat
  | .hbm => 44
  | .vmem => 0
  | .smem => 0
  | _ => 0

abbrev bufTy : (tb : Table) → Fin (tcTables nBuf tb) → BufTy
  | .hbm, ⟨0, _⟩ => ⟨S8x4x32x256, .f32⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S_, .f32⟩
  | .hbm, ⟨5, _⟩ => ⟨S4x32x256, .f32⟩
  | .hbm, ⟨6, _⟩ => ⟨S1x4x32x256, .f32⟩
  | .hbm, ⟨7, _⟩ => ⟨S_, .f32⟩
  | .hbm, ⟨8, _⟩ => ⟨S1x4x32x256, .f32⟩
  | .hbm, ⟨9, _⟩ => ⟨S1x4x32x256, .f32⟩
  | .hbm, ⟨10, _⟩ => ⟨S_, .f32⟩
  | .hbm, ⟨11, _⟩ => ⟨S1x4x32x256, .f32⟩
  | .hbm, ⟨12, _⟩ => ⟨S1x4x32x256, .f32⟩
  | .hbm, ⟨13, _⟩ => ⟨S1x4x32x256, .f32⟩
  | .hbm, ⟨14, _⟩ => ⟨S_, .f32⟩
  | .hbm, ⟨15, _⟩ => ⟨S1x4x32x256, .f32⟩
  | .hbm, ⟨16, _⟩ => ⟨S1x4x32x256, .f32⟩
  | .hbm, ⟨17, _⟩ => ⟨S1x4x32x256, .f32⟩
  | .hbm, ⟨18, _⟩ => ⟨S_, .f32⟩
  | .hbm, ⟨19, _⟩ => ⟨S1x4x32x256, .f32⟩
  | .hbm, ⟨20, _⟩ => ⟨S1x4x32x256, .f32⟩
  | .hbm, ⟨21, _⟩ => ⟨S1x4x32x256, .f32⟩
  | .hbm, ⟨22, _⟩ => ⟨S_, .f32⟩
  | .hbm, ⟨23, _⟩ => ⟨S1x4x32x256, .f32⟩
  | .hbm, ⟨24, _⟩ => ⟨S1x4x32x256, .f32⟩
  | .hbm, ⟨25, _⟩ => ⟨S_, .f32⟩
  | .hbm, ⟨26, _⟩ => ⟨S1x4x32x256, .f32⟩
  | .hbm, ⟨27, _⟩ => ⟨S1x4x32x256, .f32⟩
  | .hbm, ⟨28, _⟩ => ⟨S1x4x32x256, .f32⟩
  | .hbm, ⟨29, _⟩ => ⟨S_, .f32⟩
  | .hbm, ⟨30, _⟩ => ⟨S1x4x32x256, .f32⟩
  | .hbm, ⟨31, _⟩ => ⟨S1x4x32x256, .f32⟩
  | .hbm, ⟨32, _⟩ => ⟨S1x4x32x256, .f32⟩
  | .hbm, ⟨33, _⟩ => ⟨S_, .f32⟩
  | .hbm, ⟨34, _⟩ => ⟨S1x4x32x256, .f32⟩
  | .hbm, ⟨35, _⟩ => ⟨S1x4x32x256, .f32⟩
  | .hbm, ⟨36, _⟩ => ⟨S1x4x32x256, .f32⟩
  | .hbm, ⟨37, _⟩ => ⟨S_, .f32⟩
  | .hbm, ⟨38, _⟩ => ⟨S1x4x32x256, .f32⟩
  | .hbm, ⟨39, _⟩ => ⟨S1x4x32x256, .f32⟩
  | .hbm, ⟨40, _⟩ => ⟨S4x32x256, .f32⟩
  | .hbm, ⟨41, _⟩ => ⟨S4x32x256, .f32⟩
  | .hbm, ⟨42, _⟩ => ⟨S4x32x256, .f32⟩
  | .hbm, ⟨43, _⟩ => ⟨S4x32x256, .f32⟩
  | _, _ => ⟨S8x4x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamAbOut.lean ====
abbrev S8x192x1024 : Shape := ⟨3, ![8, 192, 1024]⟩
abbrev S1x192x1024 : Shape := ⟨3, ![1, 192, 1024]⟩
abbrev S8x1x192x1024 : Shape := ⟨4, ![8, 1, 192, 1024]⟩
abbrev S1x1x192x1024 : Shape := ⟨4, ![1, 1, 192, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x192x1024, .f32⟩
  | .hbm, ⟨1, _⟩ => ⟨S1x192x1024, .f32⟩
  | .hbm, ⟨2, _⟩ => ⟨S1x192x1024, .f32⟩
  | .hbm, ⟨3, _⟩ => ⟨S1x192x1024, .f32⟩
  | .hbm, ⟨4, _⟩ => ⟨S8x1x192x1024, .f32⟩
  | .hbm, ⟨5, _⟩ => ⟨S1x192x1024, .f32⟩
  | .hbm, ⟨6, _⟩ => ⟨S1x192x1024, .f32⟩
  | .hbm, ⟨7, _⟩ => ⟨S1x192x1024, .f32⟩
  | .hbm, ⟨8, _⟩ => ⟨S1x192x1024, .f32⟩
  | .local _ .vmem, ⟨0, _⟩ => ⟨S8x1x192x1024, .f32⟩
  | .local _ .vmem, ⟨1, _⟩ => ⟨S1x192x1024, .f32⟩
  | .local _ .vmem, ⟨2, _⟩ => ⟨S1x192x1024, .f32⟩
  | .local _ .vmem, ⟨3, _⟩ => ⟨S1x192x1024, .f32⟩
  | .local _ .vmem, ⟨4, _⟩ => ⟨S1x192x1024, .f32⟩
  | .local _ .vmem, ⟨5, _⟩ => ⟨S1x192x1024, .f32⟩
  | .local _ .vmem, ⟨6, _⟩ => ⟨S1x192x1024, .f32⟩
  | .local _ .vmem, ⟨7, _⟩ => ⟨S1x192x1024, .f32⟩
  | _, _ => ⟨S8x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamAbOutIdeal.lean ====
abbrev S8x192x1024 : Shape := ⟨3, ![8, 192, 1024]⟩
abbrev S1x192x1024 : Shape := ⟨3, ![1, 192, 1024]⟩
abbrev S8x1x192x1024 : Shape := ⟨4, ![8, 1, 192, 1024]⟩
abbrev S1x1x192x1024 : Shape := ⟨4, ![1, 1, 192, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x192x1024, .f32⟩
  | .hbm, ⟨1, _⟩ => ⟨S1x192x1024, .f32⟩
  | .hbm, ⟨2, _⟩ => ⟨S1x192x1024, .f32⟩
  | .hbm, ⟨3, _⟩ => ⟨S1x192x1024, .f32⟩
  | .hbm, ⟨4, _⟩ => ⟨S8x1x192x1024, .f32⟩
  | .hbm, ⟨5, _⟩ => ⟨S1x192x1024, .f32⟩
  | .hbm, ⟨6, _⟩ => ⟨S1x192x1024, .f32⟩
  | .hbm, ⟨7, _⟩ => ⟨S1x192x1024, .f32⟩
  | .hbm, ⟨8, _⟩ => ⟨S1x192x1024, .f32⟩
  | .local _ .vmem, ⟨0, _⟩ => ⟨S8x1x192x1024, .f32⟩
  | .local _ .vmem, ⟨1, _⟩ => ⟨S1x192x1024, .f32⟩
  | .local _ .vmem, ⟨2, _⟩ => ⟨S1x192x1024, .f32⟩
  | .local _ .vmem, ⟨3, _⟩ => ⟨S1x192x1024, .f32⟩
  | .local _ .vmem, ⟨4, _⟩ => ⟨S1x192x1024, .f32⟩
  | .local _ .vmem, ⟨5, _⟩ => ⟨S1x192x1024, .f32⟩
  | .local _ .vmem, ⟨6, _⟩ => ⟨S1x192x1024, .f32⟩
  | .local _ .vmem, ⟨7, _⟩ => ⟨S1x192x1024, .f32⟩
  | _, _ => ⟨S8x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamAbOutSpecIdeal.lean ====
abbrev S8x192x1024 : Shape := ⟨3, ![8, 192, 1024]⟩
abbrev S1x192x1024 : Shape := ⟨3, ![1, 192, 1024]⟩
abbrev S_ : Shape := ⟨0, ![]⟩
abbrev S192x1024 : Shape := ⟨2, ![192, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x192x1024, .f32⟩
  | .hbm, ⟨1, _⟩ => ⟨S1x192x1024, .f32⟩
  | .hbm, ⟨2, _⟩ => ⟨S1x192x1024, .f32⟩
  | .hbm, ⟨3, _⟩ => ⟨S1x192x1024, .f32⟩
  | .hbm, ⟨4, _⟩ => ⟨S_, .f32⟩
  | .hbm, ⟨5, _⟩ => ⟨S192x1024, .f32⟩
  | .hbm, ⟨6, _⟩ => ⟨S1x192x1024, .f32⟩
  | .hbm, ⟨7, _⟩ => ⟨S_, .f32⟩
  | .hbm, ⟨8, _⟩ => ⟨S1x192x1024, .f32⟩
  | .hbm, ⟨9, _⟩ => ⟨S1x192x1024, .f32⟩
  | .hbm, ⟨10, _⟩ => ⟨S_, .f32⟩
  | .hbm, ⟨11, _⟩ => ⟨S1x192x1024, .f32⟩
  | .hbm, ⟨12, _⟩ => ⟨S1x192x1024, .f32⟩
  | .hbm, ⟨13, _⟩ => ⟨S1x192x1024, .f32⟩
  | .hbm, ⟨14, _⟩ => ⟨S_, .f32⟩
  | .hbm, ⟨15, _⟩ => ⟨S1x192x1024, .f32⟩
  | .hbm, ⟨16, _⟩ => ⟨S1x192x1024, .f32⟩
  | .hbm, ⟨17, _⟩ => ⟨S1x192x1024, .f32⟩
  | .hbm, ⟨18, _⟩ => ⟨S_, .f32⟩
  | .hbm, ⟨19, _⟩ => ⟨S1x192x1024, .f32⟩
  | .hbm, ⟨20, _⟩ => ⟨S1x192x1024, .f32⟩
  | .hbm, ⟨21, _⟩ => ⟨S1x192x1024, .f32⟩
  | .hbm, ⟨22, _⟩ => ⟨S_, .f32⟩
  | .hbm, ⟨23, _⟩ => ⟨S1x192x1024, .f32⟩
  | .hbm, ⟨24, _⟩ => ⟨S1x192x1024, .f32⟩
  | .hbm, ⟨25, _⟩ => ⟨S_, .f32⟩
  | .hbm, ⟨26, _⟩ => ⟨S1x192x1024, .f32⟩
  | .hbm, ⟨27, _⟩ => ⟨S1x192x1024, .f32⟩
  | .hbm, ⟨28, _⟩ => ⟨S1x192x1024, .f32⟩
  | .hbm, ⟨29, _⟩ => ⟨S_, .f32⟩
  | .hbm, ⟨30, _⟩ => ⟨S1x192x1024, .f32⟩
  | .hbm, ⟨31, _⟩ => ⟨S1x192x1024, .f32⟩
  | .hbm, ⟨32, _⟩ => ⟨S1x192x1024, .f32⟩
  | .hbm, ⟨33, _⟩ => ⟨S_, .f32⟩
  | .hbm, ⟨34, _⟩ => ⟨S1x192x1024, .f32⟩
  | .hbm, ⟨35, _⟩ => ⟨S1x192x1024, .f32⟩
  | .hbm, ⟨36, _⟩ => ⟨S1x192x1024, .f32⟩
  | .hbm, ⟨37, _⟩ => ⟨S_, .f32⟩
  | .hbm, ⟨38, _⟩ => ⟨S1x192x1024, .f32⟩
  | .hbm, ⟨39, _⟩ => ⟨S1x192x1024, .f32⟩
  | _, _ => ⟨S8x192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamCQkv.lean ====
abbrev S8x160x1024 : Shape := ⟨3, ![8, 160, 1024]⟩
abbrev S1x1024x160 : Shape := ⟨3, ![1, 1024, 160]⟩
abbrev S1x160x1024 : Shape := ⟨3, ![1, 160, 1024]⟩
abbrev S8x1x160x1024 : Shape := ⟨4, ![8, 1, 160, 1024]⟩
abbrev S1x1x160x1024 : Shape := ⟨4, ![1, 1, 160, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x160x1024, .f32⟩
  | .hbm, ⟨1, _⟩ => ⟨S1x1024x160, .f32⟩
  | .hbm, ⟨2, _⟩ => ⟨S1x1024x160, .f32⟩
  | .hbm, ⟨3, _⟩ => ⟨S1x1024x160, .f32⟩
  | .hbm, ⟨4, _⟩ => ⟨S1x160x1024, .f32⟩
  | .hbm, ⟨5, _⟩ => ⟨S1x160x1024, .f32⟩
  | .hbm, ⟨6, _⟩ => ⟨S1x160x1024, .f32⟩
  | .hbm, ⟨7, _⟩ => ⟨S8x1x160x1024, .f32⟩
  | .hbm, ⟨8, _⟩ => ⟨S1x160x1024, .f32⟩
  | .hbm, ⟨9, _⟩ => ⟨S1x160x1024, .f32⟩
  | .hbm, ⟨10, _⟩ => ⟨S1x160x1024, .f32⟩
  | .hbm, ⟨11, _⟩ => ⟨S1x160x1024, .f32⟩
  | .local _ .vmem, ⟨0, _⟩ => ⟨S8x1x160x1024, .f32⟩
  | .local _ .vmem, ⟨1, _⟩ => ⟨S1x160x1024, .f32⟩
  | .local _ .vmem, ⟨2, _⟩ => ⟨S1x160x1024, .f32⟩
  | .local _ .vmem, ⟨3, _⟩ => ⟨S1x160x1024, .f32⟩
  | .local _ .vmem, ⟨4, _⟩ => ⟨S1x160x1024, .f32⟩
  | .local _ .vmem, ⟨5, _⟩ => ⟨S1x160x1024, .f32⟩
  | .local _ .vmem, ⟨6, _⟩ => ⟨S1x160x1024, .f32⟩
  | .local _ .vmem, ⟨7, _⟩ => ⟨S1x160x1024, .f32⟩
  | _, _ => ⟨S8x160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x160x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamCQkvSpecIdeal.lean ====
abbrev S8x160x1024 : Shape := ⟨3, ![8, 160, 1024]⟩
abbrev S1x1024x160 : Shape := ⟨3, ![1, 1024, 160]⟩
abbrev S_ : Shape := ⟨0, ![]⟩
abbrev S160x1024 : Shape := ⟨2, ![160, 1024]⟩
abbrev S1x160x1024 : Shape := ⟨3, ![1, 160, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x160x1024, .f32⟩
  | .hbm, ⟨1, _⟩ => ⟨S1x1024x160, .f32⟩
  | .hbm, ⟨2, _⟩ => ⟨S1x1024x160, .f32⟩
  | .hbm, ⟨3, _⟩ => ⟨S1x1024x160, .f32⟩
  | .hbm, ⟨4, _⟩ => ⟨S_, .f32⟩
  | .hbm, ⟨5, _⟩ => ⟨S160x1024, .f32⟩
  | .hbm, ⟨6, _⟩ => ⟨S1x160x1024, .f32⟩
  | .hbm, ⟨7, _⟩ => ⟨S1x1024x160, .f32⟩
  | .hbm, ⟨8, _⟩ => ⟨S_, .f32⟩
  | .hbm, ⟨9, _⟩ => ⟨S1x1024x160, .f32⟩
  | .hbm, ⟨10, _⟩ => ⟨S1x1024x160, .f32⟩
  | .hbm, ⟨11, _⟩ => ⟨S_, .f32⟩
  | .hbm, ⟨12, _⟩ => ⟨S1x1024x160, .f32⟩
  | .hbm, ⟨13, _⟩ => ⟨S1x1024x160, .f32⟩
  | .hbm, ⟨14, _⟩ => ⟨S1x1024x160, .f32⟩
  | .hbm, ⟨15, _⟩ => ⟨S_, .f32⟩
  | .hbm, ⟨16, _⟩ => ⟨S1x1024x160, .f32⟩
  | .hbm, ⟨17, _⟩ => ⟨S1x1024x160, .f32⟩
  | .hbm, ⟨18, _⟩ => ⟨S1x1024x160, .f32⟩
  | .hbm, ⟨19, _⟩ => ⟨S_, .f32⟩
  | .hbm, ⟨20, _⟩ => ⟨S1x1024x160, .f32⟩
  | .hbm, ⟨21, _⟩ => ⟨S1x1024x160, .f32⟩
  | .hbm, ⟨22, _⟩ => ⟨S1x1024x160, .f32⟩
  | .hbm, ⟨23, _⟩ => ⟨S_, .f32⟩
  | .hbm, ⟨24, _⟩ => ⟨S1x1024x160, .f32⟩
  | .hbm, ⟨25, _⟩ => ⟨S1x1024x160, .f32⟩
  | .hbm, ⟨26, _⟩ => ⟨S_, .f32⟩
  | .hbm, ⟨27, _⟩ => ⟨S1x1024x160, .f32⟩
  | .hbm, ⟨28, _⟩ => ⟨S1x1024x160, .f32⟩
  | .hbm, ⟨29, _⟩ => ⟨S1x1024x160, .f32⟩
  | .hbm, ⟨30, _⟩ => ⟨S_, .f32⟩
  | .hbm, ⟨31, _⟩ => ⟨S1x1024x160, .f32⟩
  | .hbm, ⟨32, _⟩ => ⟨S1x1024x160, .f32⟩
  | .hbm, ⟨33, _⟩ => ⟨S1x1024x160, .f32⟩
  | .hbm, ⟨34, _⟩ => ⟨S_, .f32⟩
  | .hbm, ⟨35, _⟩ => ⟨S1x1024x160, .f32⟩
  | .hbm, ⟨36, _⟩ => ⟨S1x1024x160, .f32⟩
  | .hbm, ⟨37, _⟩ => ⟨S1x1024x160, .f32⟩
  | .hbm, ⟨38, _⟩ => ⟨S_, .f32⟩
  | .hbm, ⟨39, _⟩ => ⟨S1x1024x160, .f32⟩
  | .hbm, ⟨40, _⟩ => ⟨S1x1024x160, .f32⟩
  | .hbm, ⟨41, _⟩ => ⟨S1x160x1024, .f32⟩
  | .hbm, ⟨42, _⟩ => ⟨S1x160x1024, .f32⟩
  | .hbm, ⟨43, _⟩ => ⟨S1x160x1024, .f32⟩
  | .hbm, ⟨44, _⟩ => ⟨S1x160x1024, .f32⟩
  | _, _ => ⟨S8x160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamCOut.lean ====
abbrev S8x128x1024 : Shape := ⟨3, ![8, 128, 1024]⟩
abbrev S1x128x1024 : Shape := ⟨3, ![1, 128, 1024]⟩
abbrev S8x1x128x1024 : Shape := ⟨4, ![8, 1, 128, 1024]⟩
abbrev S1x1x128x1024 : Shape := ⟨4, ![1, 1, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S8x1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamCOutSpecIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S_, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S_, .f32⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S_, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S_, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S_, .f32⟩
  | .hbm, ⟨34, _⟩ => ⟨S1x128x1024, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1024, .f32⟩
  | .hbm, ⟨39, _⟩ => ⟨S1x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamXaWq.lean ====
abbrev S8x128x512 : Shape := ⟨3, ![8, 128, 512]⟩
abbrev S2x128x512 : Shape := ⟨3, ![2, 128, 512]⟩
abbrev S8x1x128x512 : Shape := ⟨4, ![8, 1, 128, 512]⟩
abbrev S1x128x512 : Shape := ⟨3, ![1, 128, 512]⟩
abbrev S1x1x128x512 : Shape := ⟨4, ![1, 1, 128, 512]⟩

abbrev nBuf : Space → Nat
  | .hbm => 15
  | .vmem => 16
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S8x1x128x512, .f32⟩
  | .hbm, ⟨6, _⟩ => ⟨S2x128x512, .f32⟩
  | .hbm, ⟨7, _⟩ => ⟨S2x128x512, .f32⟩
  | .hbm, ⟨8, _⟩ => ⟨S2x128x512, .f32⟩
  | .hbm, ⟨9, _⟩ => ⟨S2x128x512, .f32⟩
  | .hbm, ⟨10, _⟩ => ⟨S8x1x128x512, .f32⟩
  | .hbm, ⟨11, _⟩ => ⟨S2x128x512, .f32⟩
  | .hbm, ⟨12, _⟩ => ⟨S2x128x512, .f32⟩
  | .hbm, ⟨13, _⟩ => ⟨S2x128x512, .f32⟩
  | .hbm, ⟨14, _⟩ => ⟨S2x128x512, .f32⟩
  | .local _ .vmem, ⟨0, _⟩ => ⟨S8x1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S8x1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage1_0 : Fin 1 → Memref sig .tc .vmem S8x1x128x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamXaWqIdeal.lean ====
abbrev S8x128x512 : Shape := ⟨3, ![8, 128, 512]⟩
abbrev S2x128x512 : Shape := ⟨3, ![2, 128, 512]⟩
abbrev S8x1x128x512 : Shape := ⟨4, ![8, 1, 128, 512]⟩
abbrev S1x128x512 : Shape := ⟨3, ![1, 128, 512]⟩
abbrev S1x1x128x512 : Shape := ⟨4, ![1, 1, 128, 512]⟩

abbrev nBuf : Space → Nat
  | .hbm => 15
  | .vmem => 16
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S8x1x128x512, .f32⟩
  | .hbm, ⟨6, _⟩ => ⟨S2x128x512, .f32⟩
  | .hbm, ⟨7, _⟩ => ⟨S2x128x512, .f32⟩
  | .hbm, ⟨8, _⟩ => ⟨S2x128x512, .f32⟩
  | .hbm, ⟨9, _⟩ => ⟨S2x128x512, .f32⟩
  | .hbm, ⟨10, _⟩ => ⟨S8x1x128x512, .f32⟩
  | .hbm, ⟨11, _⟩ => ⟨S2x128x512, .f32⟩
  | .hbm, ⟨12, _⟩ => ⟨S2x128x512, .f32⟩
  | .hbm, ⟨13, _⟩ => ⟨S2x128x512, .f32⟩
  | .hbm, ⟨14, _⟩ => ⟨S2x128x512, .f32⟩
  | .local _ .vmem, ⟨0, _⟩ => ⟨S8x1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S8x1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage1_0 : Fin 1 → Memref sig .tc .vmem S8x1x128x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamXaWqSpecIdeal.lean ====
abbrev S8x128x512 : Shape := ⟨3, ![8, 128, 512]⟩
abbrev S2x128x512 : Shape := ⟨3, ![2, 128, 512]⟩
abbrev S_ : Shape := ⟨0, ![]⟩
abbrev S128x512 : Shape := ⟨2, ![128, 512]⟩
abbrev S1x128x512 : Shape := ⟨3, ![1, 128, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S_, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S1x128x512, .f32⟩
  | .hbm, ⟨10, _⟩ => ⟨S1x128x512, .f32⟩
  | .hbm, ⟨11, _⟩ => ⟨S2x128x512, .f32⟩
  | .hbm, ⟨12, _⟩ => ⟨S_, .f32⟩
  | .hbm, ⟨13, _⟩ => ⟨S2x128x512, .f32⟩
  | .hbm, ⟨14, _⟩ => ⟨S2x128x512, .f32⟩
  | .hbm, ⟨15, _⟩ => ⟨S_, .f32⟩
  | .hbm, ⟨16, _⟩ => ⟨S2x128x512, .f32⟩
  | .hbm, ⟨17, _⟩ => ⟨S2x128x512, .f32⟩
  | .hbm, ⟨18, _⟩ => ⟨S2x128x512, .f32⟩
  | .hbm, ⟨19, _⟩ => ⟨S_, .f32⟩
  | .hbm, ⟨20, _⟩ => ⟨S2x128x512, .f32⟩
  | .hbm, ⟨21, _⟩ => ⟨S2x128x512, .f32⟩
  | .hbm, ⟨22, _⟩ => ⟨S2x128x512, .f32⟩
  | .hbm, ⟨23, _⟩ => ⟨S_, .f32⟩
  | .hbm, ⟨24, _⟩ => ⟨S2x128x512, .f32⟩
  | .hbm, ⟨25, _⟩ => ⟨S2x128x512, .f32⟩
  | .hbm, ⟨26, _⟩ => ⟨S2x128x512, .f32⟩
  | .hbm, ⟨27, _⟩ => ⟨S_, .f32⟩
  | .hbm, ⟨28, _⟩ => ⟨S2x128x512, .f32⟩
  | .hbm, ⟨29, _⟩ => ⟨S2x128x512, .f32⟩
  | .hbm, ⟨30, _⟩ => ⟨S_, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S_, .f32⟩
  | .hbm, ⟨35, _⟩ => ⟨S2x128x512, .f32⟩
  | .hbm, ⟨36, _⟩ => ⟨S2x128x512, .f32⟩
  | .hbm, ⟨37, _⟩ => ⟨S2x128x512, .f32⟩
  | .hbm, ⟨38, _⟩ => ⟨S_, .f32⟩
  | .hbm, ⟨39, _⟩ => ⟨S2x128x512, .f32⟩
  | .hbm, ⟨40, _⟩ => ⟨S2x128x512, .f32⟩
  | .hbm, ⟨41, _⟩ => ⟨S2x128x512, .f32⟩
  | .hbm, ⟨42, _⟩ => ⟨S_, .f32⟩
  | .hbm, ⟨43, _⟩ => ⟨S2x128x512, .f32⟩
  | .hbm, ⟨44, _⟩ => ⟨S2x128x512, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamXaWkv.lean ====
abbrev S8x128x1024 : Shape := ⟨3, ![8, 128, 1024]⟩
abbrev S2x128x1024 : Shape := ⟨3, ![2, 128, 1024]⟩
abbrev S8x1x128x1024 : Shape := ⟨4, ![8, 1, 128, 1024]⟩
abbrev S1x128x1024 : Shape := ⟨3, ![1, 128, 1024]⟩
abbrev S1x1x128x1024 : Shape := ⟨4, ![1, 1, 128, 1024]⟩

abbrev nBuf : Space → Nat
  | .hbm => 15
  | .vmem => 16
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x1x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S8x1x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .local _ .vmem, ⟨0, _⟩ => ⟨S8x1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage1_0 : Fin 1 → Memref sig .tc .vmem S8x1x128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamXaWkvIdeal.lean ====
abbrev S8x128x1024 : Shape := ⟨3, ![8, 128, 1024]⟩
abbrev S2x128x1024 : Shape := ⟨3, ![2, 128, 1024]⟩
abbrev S8x1x128x1024 : Shape := ⟨4, ![8, 1, 128, 1024]⟩
abbrev S1x128x1024 : Shape := ⟨3, ![1, 128, 1024]⟩
abbrev S1x1x128x1024 : Shape := ⟨4, ![1, 1, 128, 1024]⟩

abbrev nBuf : Space → Nat
  | .hbm => 15
  | .vmem => 16
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x1x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S8x1x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .local _ .vmem, ⟨0, _⟩ => ⟨S8x1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage1_0 : Fin 1 → Memref sig .tc .vmem S8x1x128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamXaWkvSpecIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S1x128x1024, .f32⟩
  | .hbm, ⟨10, _⟩ => ⟨S1x128x1024, .f32⟩
  | .hbm, ⟨11, _⟩ => ⟨S2x128x1024, .f32⟩
  | .hbm, ⟨12, _⟩ => ⟨S_, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamXaWo.lean ====
abbrev S8x512x128 : Shape := ⟨3, ![8, 512, 128]⟩
abbrev S2x512x128 : Shape := ⟨3, ![2, 512, 128]⟩
abbrev S8x1x512x128 : Shape := ⟨4, ![8, 1, 512, 128]⟩
abbrev S1x512x128 : Shape := ⟨3, ![1, 512, 128]⟩
abbrev S1x1x512x128 : Shape := ⟨4, ![1, 1, 512, 128]⟩

abbrev nBuf : Space → Nat
  | .hbm => 15
  | .vmem => 16
  | .smem => 0
  | _ => 0

abbrev bufTy : (tb : Table) → Fin (tcTables nBuf tb) → BufTy
  | .hbm, ⟨0, _⟩ => ⟨S8x512x128, .f32⟩
  | .hbm, ⟨1, _⟩ => ⟨S8x512x128, .f32⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S8x1x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .hbm, ⟨9, _⟩ => ⟨S2x512x128, .f32⟩
  | .hbm, ⟨10, _⟩ => ⟨S8x1x512x128, .f32⟩
  | .hbm, ⟨11, _⟩ => ⟨S2x512x128, .f32⟩
  | .hbm, ⟨12, _⟩ => ⟨S2x512x128, .f32⟩
  | .hbm, ⟨13, _⟩ => ⟨S2x512x128, .f32⟩
  | .hbm, ⟨14, _⟩ => ⟨S2x512x128, .f32⟩
  | .local _ .vmem, ⟨0, _⟩ => ⟨S8x1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S8x1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage1_0 : Fin 1 → Memref sig .tc .vmem S8x1x512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x512x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x512x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x512x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamXaWoIdeal.lean ====
abbrev S8x512x128 : Shape := ⟨3, ![8, 512, 128]⟩
abbrev S2x512x128 : Shape := ⟨3, ![2, 512, 128]⟩
abbrev S8x1x512x128 : Shape := ⟨4, ![8, 1, 512, 128]⟩
abbrev S1x512x128 : Shape := ⟨3, ![1, 512, 128]⟩
abbrev S1x1x512x128 : Shape := ⟨4, ![1, 1, 512, 128]⟩

abbrev nBuf : Space → Nat
  | .hbm => 15
  | .vmem => 16
  | .smem => 0
  | _ => 0

abbrev bufTy : (tb : Table) → Fin (tcTables nBuf tb) → BufTy
  | .hbm, ⟨0, _⟩ => ⟨S8x512x128, .f32⟩
  | .hbm, ⟨1, _⟩ => ⟨S8x512x128, .f32⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S8x1x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .hbm, ⟨9, _⟩ => ⟨S2x512x128, .f32⟩
  | .hbm, ⟨10, _⟩ => ⟨S8x1x512x128, .f32⟩
  | .hbm, ⟨11, _⟩ => ⟨S2x512x128, .f32⟩
  | .hbm, ⟨12, _⟩ => ⟨S2x512x128, .f32⟩
  | .hbm, ⟨13, _⟩ => ⟨S2x512x128, .f32⟩
  | .hbm, ⟨14, _⟩ => ⟨S2x512x128, .f32⟩
  | .local _ .vmem, ⟨0, _⟩ => ⟨S8x1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S8x1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage1_0 : Fin 1 → Memref sig .tc .vmem S8x1x512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x512x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x512x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x512x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamXaWoSpecIdeal.lean ====
abbrev S8x512x128 : Shape := ⟨3, ![8, 512, 128]⟩
abbrev S2x512x128 : Shape := ⟨3, ![2, 512, 128]⟩
abbrev S_ : Shape := ⟨0, ![]⟩
abbrev S512x128 : Shape := ⟨2, ![512, 128]⟩
abbrev S1x512x128 : Shape := ⟨3, ![1, 512, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S8x512x128, .f32⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S1x512x128, .f32⟩
  | .hbm, ⟨10, _⟩ => ⟨S1x512x128, .f32⟩
  | .hbm, ⟨11, _⟩ => ⟨S2x512x128, .f32⟩
  | .hbm, ⟨12, _⟩ => ⟨S_, .f32⟩
  | .hbm, ⟨13, _⟩ => ⟨S2x512x128, .f32⟩
  | .hbm, ⟨14, _⟩ => ⟨S2x512x128, .f32⟩
  | .hbm, ⟨15, _⟩ => ⟨S_, .f32⟩
  | .hbm, ⟨16, _⟩ => ⟨S2x512x128, .f32⟩
  | .hbm, ⟨17, _⟩ => ⟨S2x512x128, .f32⟩
  | .hbm, ⟨18, _⟩ => ⟨S2x512x128, .f32⟩
  | .hbm, ⟨19, _⟩ => ⟨S_, .f32⟩
  | .hbm, ⟨20, _⟩ => ⟨S2x512x128, .f32⟩
  | .hbm, ⟨21, _⟩ => ⟨S2x512x128, .f32⟩
  | .hbm, ⟨22, _⟩ => ⟨S2x512x128, .f32⟩
  | .hbm, ⟨23, _⟩ => ⟨S_, .f32⟩
  | .hbm, ⟨24, _⟩ => ⟨S2x512x128, .f32⟩
  | .hbm, ⟨25, _⟩ => ⟨S2x512x128, .f32⟩
  | .hbm, ⟨26, _⟩ => ⟨S2x512x128, .f32⟩
  | .hbm, ⟨27, _⟩ => ⟨S_, .f32⟩
  | .hbm, ⟨28, _⟩ => ⟨S2x512x128, .f32⟩
  | .hbm, ⟨29, _⟩ => ⟨S2x512x128, .f32⟩
  | .hbm, ⟨30, _⟩ => ⟨S_, .f32⟩
  | .hbm, ⟨31, _⟩ => ⟨S2x512x128, .f32⟩
  | .hbm, ⟨32, _⟩ => ⟨S2x512x128, .f32⟩
  | .hbm, ⟨33, _⟩ => ⟨S2x512x128, .f32⟩
  | .hbm, ⟨34, _⟩ => ⟨S_, .f32⟩
  | .hbm, ⟨35, _⟩ => ⟨S2x512x128, .f32⟩
  | .hbm, ⟨36, _⟩ => ⟨S2x512x128, .f32⟩
  | .hbm, ⟨37, _⟩ => ⟨S2x512x128, .f32⟩
  | .hbm, ⟨38, _⟩ => ⟨S_, .f32⟩
  | .hbm, ⟨39, _⟩ => ⟨S2x512x128, .f32⟩
  | .hbm, ⟨40, _⟩ => ⟨S2x512x128, .f32⟩
  | .hbm, ⟨41, _⟩ => ⟨S2x512x128, .f32⟩
  | .hbm, ⟨42, _⟩ => ⟨S_, .f32⟩
  | .hbm, ⟨43, _⟩ => ⟨S2x512x128, .f32⟩
  | .hbm, ⟨44, _⟩ => ⟨S2x512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamGateUp.lean ====
abbrev S8x704x1024 : Shape := ⟨3, ![8, 704, 1024]⟩
abbrev S2x1024x704 : Shape := ⟨3, ![2, 1024, 704]⟩
abbrev S2x704x1024 : Shape := ⟨3, ![2, 704, 1024]⟩
abbrev S8x1x704x1024 : Shape := ⟨4, ![8, 1, 704, 1024]⟩
abbrev S8x1x176x1024 : Shape := ⟨4, ![8, 1, 176, 1024]⟩
abbrev S1x176x1024 : Shape := ⟨3, ![1, 176, 1024]⟩
abbrev S1x1x176x1024 : Shape := ⟨4, ![1, 1, 176, 1024]⟩

abbrev nBuf : Space → Nat
  | .hbm => 18
  | .vmem => 32
  | .smem => 0
  | _ => 0

abbrev bufTy : (tb : Table) → Fin (tcTables nBuf tb) → BufTy
  | .hbm, ⟨0, _⟩ => ⟨S8x704x1024, .f32⟩
  | .hbm, ⟨1, _⟩ => ⟨S8x704x1024, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S8x1x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .hbm, ⟨13, _⟩ => ⟨S8x1x704x1024, .f32⟩
  | .hbm, ⟨14, _⟩ => ⟨S2x704x1024, .f32⟩
  | .hbm, ⟨15, _⟩ => ⟨S2x704x1024, .f32⟩
  | .hbm, ⟨16, _⟩ => ⟨S2x704x1024, .f32⟩
  | .hbm, ⟨17, _⟩ => ⟨S2x704x1024, .f32⟩
  | .local _ .vmem, ⟨0, _⟩ => ⟨S8x1x176x1024, .f32⟩
  | .local _ .vmem, ⟨1, _⟩ => ⟨S8x1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S8x1x176x1024, .f32⟩
  | .local _ .vmem, ⟨17, _⟩ => ⟨S8x1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![1, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S8x1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage1_0 : Fin 2 → Memref sig .tc .vmem S8x1x176x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== AdamGateUpSpecIdeal.lean ====
abbrev S8x704x1024 : Shape := ⟨3, ![8, 704, 1024]⟩
abbrev S2x1024x704 : Shape := ⟨3, ![2, 1024, 704]⟩
abbrev S_ : Shape := ⟨0, ![]⟩
abbrev S704x1024 : Shape := ⟨2, ![704, 1024]⟩
abbrev S1x704x1024 : Shape := ⟨3, ![1, 704, 1024]⟩
abbrev S2x704x1024 : Shape := ⟨3, ![2, 704, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S8x704x1024, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S1x704x1024, .f32⟩
  | .hbm, ⟨10, _⟩ => ⟨S1x704x1024, .f32⟩
  | .hbm, ⟨11, _⟩ => ⟨S2x704x1024, .f32⟩
  | .hbm, ⟨12, _⟩ => ⟨S2x1024x704, .f32⟩
  | .hbm, ⟨13, _⟩ => ⟨S_, .f32⟩
  | .hbm, ⟨14, _⟩ => ⟨S2x1024x704, .f32⟩
  | .hbm, ⟨15, _⟩ => ⟨S2x1024x704, .f32⟩
  | .hbm, ⟨16, _⟩ => ⟨S_, .f32⟩
  | .hbm, ⟨17, _⟩ => ⟨S2x1024x704, .f32⟩
  | .hbm, ⟨18, _⟩ => ⟨S2x1024x704, .f32⟩
  | .hbm, ⟨19, _⟩ => ⟨S2x1024x704, .f32⟩
  | .hbm, ⟨20, _⟩ => ⟨S_, .f32⟩
  | .hbm, ⟨21, _⟩ => ⟨S2x1024x704, .f32⟩
  | .hbm, ⟨22, _⟩ => ⟨S2x1024x704, .f32⟩
  | .hbm, ⟨23, _⟩ => ⟨S2x1024x704, .f32⟩
  | .hbm, ⟨24, _⟩ => ⟨S_, .f32⟩
  | .hbm, ⟨25, _⟩ => ⟨S2x1024x704, .f32⟩
  | .hbm, ⟨26, _⟩ => ⟨S2x1024x704, .f32⟩
  | .hbm, ⟨27, _⟩ => ⟨S2x1024x704, .f32⟩
  | .hbm, ⟨28, _⟩ => ⟨S_, .f32⟩
  | .hbm, ⟨29, _⟩ => ⟨S2x1024x704, .f32⟩
  | .hbm, ⟨30, _⟩ => ⟨S2x1024x704, .f32⟩
  | .hbm, ⟨31, _⟩ => ⟨S_, .f32⟩
  | .hbm, ⟨32, _⟩ => ⟨S2x1024x704, .f32⟩
  | .hbm, ⟨33, _⟩ => ⟨S2x1024x704, .f32⟩
  | .hbm, ⟨34, _⟩ => ⟨S2x1024x704, .f32⟩
  | .hbm, ⟨35, _⟩ => ⟨S_, .f32⟩
  | .hbm, ⟨36, _⟩ => ⟨S2x1024x704, .f32⟩
  | .hbm, ⟨37, _⟩ => ⟨S2x1024x704, .f32⟩
  | .hbm, ⟨38, _⟩ => ⟨S2x1024x704, .f32⟩
  | .hbm, ⟨39, _⟩ => ⟨S_, .f32⟩
  | .hbm, ⟨40, _⟩ => ⟨S2x1024x704, .f32⟩
  | .hbm, ⟨41, _⟩ => ⟨S2x1024x704, .f32⟩
  | .hbm, ⟨42, _⟩ => ⟨S2x1024x704, .f32⟩
  | .hbm, ⟨43, _⟩ => ⟨S_, .f32⟩
  | .hbm, ⟨44, _⟩ => ⟨S2x1024x704, .f32⟩
  | .hbm, ⟨45, _⟩ => ⟨S2x1024x704, .f32⟩
  | .hbm, ⟨46, _⟩ => ⟨S2x704x1024, .f32⟩
  | .hbm, ⟨47, _⟩ => ⟨S2x704x1024, .f32⟩
  | .hbm, ⟨48, _⟩ => ⟨S2x704x1024, .f32⟩
  | .hbm, ⟨49, _⟩ => ⟨S2x704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== AdamDown.lean ====
abbrev S8x352x1024 : Shape := ⟨3, ![8, 352, 1024]⟩
abbrev S2x352x1024 : Shape := ⟨3, ![2, 352, 1024]⟩
abbrev S8x1x352x1024 : Shape := ⟨4, ![8, 1, 352, 1024]⟩
abbrev S8x1x176x1024 : Shape := ⟨4, ![8, 1, 176, 1024]⟩
abbrev S1x176x1024 : Shape := ⟨3, ![1, 176, 1024]⟩
abbrev S1x1x176x1024 : Shape := ⟨4, ![1, 1, 176, 1024]⟩

abbrev nBuf : Space → Nat
  | .hbm => 15
  | .vmem => 32
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x1x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S8x1x352x1024, .f32⟩
  | .hbm, ⟨11, _⟩ => ⟨S2x352x1024, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .local _ .vmem, ⟨0, _⟩ => ⟨S8x1x176x1024, .f32⟩
  | .local _ .vmem, ⟨1, _⟩ => ⟨S8x1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S8x1x176x1024, .f32⟩
  | .local _ .vmem, ⟨17, _⟩ => ⟨S8x1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![1, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S8x1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

abbrev stage1_0 : Fin 2 → Memref sig .tc .vmem S8x1x176x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== AdamDownSpecIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S1x352x1024, .f32⟩
  | .hbm, ⟨10, _⟩ => ⟨S1x352x1024, .f32⟩
  | .hbm, ⟨11, _⟩ => ⟨S2x352x1024, .f32⟩
  | .hbm, ⟨12, _⟩ => ⟨S_, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamSmall.lean ====
abbrev S8x80x128 : Shape := ⟨3, ![8, 80, 128]⟩
abbrev S1x4x128 : Shape := ⟨3, ![1, 4, 128]⟩
abbrev S1x4x32 : Shape := ⟨3, ![1, 4, 32]⟩
abbrev S1x160 : Shape := ⟨2, ![1, 160]⟩
abbrev S1x128 : Shape := ⟨2, ![1, 128]⟩
abbrev S512 : Shape := ⟨1, ![512]⟩
abbrev S_ : Shape := ⟨0, ![]⟩
abbrev S2048 : Shape := ⟨1, ![2048]⟩
abbrev S128 : Shape := ⟨1, ![128]⟩
abbrev S160 : Shape := ⟨1, ![160]⟩
abbrev S10240 : Shape := ⟨1, ![10240]⟩
abbrev S80x128 : Shape := ⟨2, ![80, 128]⟩
abbrev S1x80x128 : Shape := ⟨3, ![1, 80, 128]⟩
abbrev S8x1x80x128 : Shape := ⟨4, ![8, 1, 80, 128]⟩
abbrev S1x1x80x128 : Shape := ⟨4, ![1, 1, 80, 128]⟩

abbrev nBuf : Space → Nat
  | .hbm => 90
  | .vmem => 8
  | .smem => 0
  | _ => 0

abbrev bufTy : (tb : Table) → Fin (tcTables nBuf tb) → BufTy
  | .hbm, ⟨0, _⟩ => ⟨S8x80x128, .f32⟩
  | .hbm, ⟨1, _⟩ => ⟨S1x4x128, .f32⟩
  | .hbm, ⟨2, _⟩ => ⟨S1x4x32, .f32⟩
  | .hbm, ⟨3, _⟩ => ⟨S1x4x32, .f32⟩
  | .hbm, ⟨4, _⟩ => ⟨S1x160, .f32⟩
  | .hbm, ⟨5, _⟩ => ⟨S1x128, .f32⟩
  | .hbm, ⟨6, _⟩ => ⟨S1x4x128, .f32⟩
  | .hbm, ⟨7, _⟩ => ⟨S1x4x32, .f32⟩
  | .hbm, ⟨8, _⟩ => ⟨S1x4x32, .f32⟩
  | .hbm, ⟨9, _⟩ => ⟨S1x160, .f32⟩
  | .hbm, ⟨10, _⟩ => ⟨S1x128, .f32⟩
  | .hbm, ⟨11, _⟩ => ⟨S1x4x128, .f32⟩
  | .hbm, ⟨12, _⟩ => ⟨S1x4x32, .f32⟩
  | .hbm, ⟨13, _⟩ => ⟨S1x4x32, .f32⟩
  | .hbm, ⟨14, _⟩ => ⟨S1x160, .f32⟩
  | .hbm, ⟨15, _⟩ => ⟨S1x128, .f32⟩
  | .hbm, ⟨16, _⟩ => ⟨S512, .f32⟩
  | .hbm, ⟨17, _⟩ => ⟨S_, .i32⟩
  | .hbm, ⟨18, _⟩ => ⟨S_, .f32⟩
  | .hbm, ⟨19, _⟩ => ⟨S2048, .f32⟩
  | .hbm, ⟨20, _⟩ => ⟨S128, .f32⟩
  | .hbm, ⟨21, _⟩ => ⟨S_, .i32⟩
  | .hbm, ⟨22, _⟩ => ⟨S_, .f32⟩
  | .hbm, ⟨23, _⟩ => ⟨S2048, .f32⟩
  | .hbm, ⟨24, _⟩ => ⟨S128, .f32⟩
  | .hbm, ⟨25, _⟩ => ⟨S_, .i32⟩
  | .hbm, ⟨26, _⟩ => ⟨S_, .f32⟩
  | .hbm, ⟨27, _⟩ => ⟨S2048, .f32⟩
  | .hbm, ⟨28, _⟩ => ⟨S160, .f32⟩
  | .hbm, ⟨29, _⟩ => ⟨S_, .i32⟩
  | .hbm, ⟨30, _⟩ => ⟨S_, .f32⟩
  | .hbm, ⟨31, _⟩ => ⟨S2048, .f32⟩
  | .hbm, ⟨32, _⟩ => ⟨S128, .f32⟩
  | .hbm, ⟨33, _⟩ => ⟨S_, .i32⟩
  | .hbm, ⟨34, _⟩ => ⟨S_, .f32⟩
  | .hbm, ⟨35, _⟩ => ⟨S2048, .f32⟩
  | .hbm, ⟨36, _⟩ => ⟨S10240, .f32⟩
  | .hbm, ⟨37, _⟩ => ⟨S80x128, .f32⟩
  | .hbm, ⟨38, _⟩ => ⟨S512, .f32⟩
  | .hbm, ⟨39, _⟩ => ⟨S_, .i32⟩
  | .hbm, ⟨40, _⟩ => ⟨S_, .f32⟩
  | .hbm, ⟨41, _⟩ => ⟨S2048, .f32⟩
  | .hbm, ⟨42, _⟩ => ⟨S128, .f32⟩
  | .hbm, ⟨43, _⟩ => ⟨S_, .i32⟩
  | .hbm, ⟨44, _⟩ => ⟨S_, .f32⟩
  | .hbm, ⟨45, _⟩ => ⟨S2048, .f32⟩
  | .hbm, ⟨46, _⟩ => ⟨S128, .f32⟩
  | .hbm, ⟨47, _⟩ => ⟨S_, .i32⟩
  | .hbm, ⟨48, _⟩ => ⟨S_, .f32⟩
  | .hbm, ⟨49, _⟩ => ⟨S2048, .f32⟩
  | .hbm, ⟨50, _⟩ => ⟨S160, .f32⟩
  | .hbm, ⟨51, _⟩ => ⟨S_, .i32⟩
  | .hbm, ⟨52, _⟩ => ⟨S_, .f32⟩
  | .hbm, ⟨53, _⟩ => ⟨S2048, .f32⟩
  | .hbm, ⟨54, _⟩ => ⟨S128, .f32⟩
  | .hbm, ⟨55, _⟩ => ⟨S_, .i32⟩
  | .hbm, ⟨56, _⟩ => ⟨S_, .f32⟩
  | .hbm, ⟨57, _⟩ => ⟨S2048, .f32⟩
  | .hbm, ⟨58, _⟩ => ⟨S10240, .f32⟩
  | .hbm, ⟨59, _⟩ => ⟨S80x128, .f32⟩
  | .hbm, ⟨60, _⟩ => ⟨S512, .f32⟩
  | .hbm, ⟨61, _⟩ => ⟨S_, .i32⟩
  | .hbm, ⟨62, _⟩ => ⟨S_, .f32⟩
  | .hbm, ⟨63, _⟩ => ⟨S2048, .f32⟩
  | .hbm, ⟨64, _⟩ => ⟨S128, .f32⟩
  | .hbm, ⟨65, _⟩ => ⟨S_, .i32⟩
  | .hbm, ⟨66, _⟩ => ⟨S_, .f32⟩
  | .hbm, ⟨67, _⟩ => ⟨S2048, .f32⟩
  | .hbm, ⟨68, _⟩ => ⟨S128, .f32⟩
  | .hbm, ⟨69, _⟩ => ⟨S_, .i32⟩
  | .hbm, ⟨70, _⟩ => ⟨S_, .f32⟩
  | .hbm, ⟨71, _⟩ => ⟨S2048, .f32⟩
  | .hbm, ⟨72, _⟩ => ⟨S160, .f32⟩
  | .hbm, ⟨73, _⟩ => ⟨S_, .i32⟩
  | .hbm, ⟨74, _⟩ => ⟨S_, .f32⟩
  | .hbm, ⟨75, _⟩ => ⟨S2048, .f32⟩
  | .hbm, ⟨76, _⟩ => ⟨S128, .f32⟩
  | .hbm, ⟨77, _⟩ => ⟨S_, .i32⟩
  | .hbm, ⟨78, _⟩ => ⟨S_, .f32⟩
  | .hbm, ⟨79, _⟩ => ⟨S2048, .f32⟩
  | .hbm, ⟨80, _⟩ => ⟨S10240, .f32⟩
  | .hbm, ⟨81, _⟩ => ⟨S80x128, .f32⟩
  | .hbm, ⟨82, _⟩ => ⟨S1x80x128, .f32⟩
  | .hbm, ⟨83, _⟩ => ⟨S1x80x128, .f32⟩
  | .hbm, ⟨84, _⟩ => ⟨S1x80x128, .f32⟩
  | .hbm, ⟨85, _⟩ => ⟨S8x1x80x128, .f32⟩
  | .hbm, ⟨86, _⟩ => ⟨S1x80x128, .f32⟩
  | .hbm, ⟨87, _⟩ => ⟨S1x80x128, .f32⟩
  | .hbm, ⟨88, _⟩ => ⟨S1x80x128, .f32⟩
  | .hbm, ⟨89, _⟩ => ⟨S1x80x128, .f32⟩
  | .local _ .vmem, ⟨0, _⟩ => ⟨S8x1x80x128, .f32⟩
  | .local _ .vmem, ⟨1, _⟩ => ⟨S1x80x128, .f32⟩
  | .local _ .vmem, ⟨2, _⟩ => ⟨S1x80x128, .f32⟩
  | .local _ .vmem, ⟨3, _⟩ => ⟨S1x80x128, .f32⟩
  | .local _ .vmem, ⟨4, _⟩ => ⟨S1x80x128, .f32⟩
  | .local _ .vmem, ⟨5, _⟩ => ⟨S1x80x128, .f32⟩
  | .local _ .vmem, ⟨6, _⟩ => ⟨S1x80x128, .f32⟩
  | .local _ .vmem, ⟨7, _⟩ => ⟨S1x80x128, .f32⟩
  | _, _ => ⟨S8x80x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_call2_v0 : Ref sig .tc := ⟨.hbm, 26, rfl⟩
abbrev main_v5 : Ref sig .tc := ⟨.hbm, 27, rfl⟩
abbrev main_v6 : Ref sig .tc := ⟨.hbm, 28, rfl⟩
abbrev main_c_2 : Ref sig .tc := ⟨.hbm, 29, rfl⟩
abbrev main_call3_v0 : Ref sig .tc := ⟨.hbm, 30, rfl⟩
abbrev main_v7 : Ref sig .tc := ⟨.hbm, 31, rfl⟩
abbrev main_v8 : Ref sig .tc := ⟨.hbm, 32, rfl⟩
abbrev main_c_3 : Ref sig .tc := ⟨.hbm, 33, rfl⟩
abbrev main_call4_v0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_4 : Ref sig .tc := ⟨.hbm, 39, rfl⟩
abbrev main_call5_v0 : Ref sig .tc := ⟨.hbm, 40, rfl⟩
abbrev main_v13 : Ref sig .tc := ⟨.hbm, 41, rfl⟩
abbrev main_v14 : Ref sig .tc := ⟨.hbm, 42, rfl⟩
abbrev main_c_5 : Ref sig .tc := ⟨.hbm, 43, rfl⟩
abbrev main_call6_v0 : Ref sig .tc := ⟨.hbm, 44, rfl⟩
abbrev main_v15 : Ref sig .tc := ⟨.hbm, 45, rfl⟩
abbrev main_v16 : Ref sig .tc := ⟨.hbm, 46, rfl⟩
abbrev main_c_6 : Ref sig .tc := ⟨.hbm, 47, rfl⟩
abbrev main_call7_v0 : Ref sig .tc := ⟨.hbm, 48, rfl⟩
abbrev main_v17 : Ref sig .tc := ⟨.hbm, 49, rfl⟩
abbrev main_v18 : Ref sig .tc := ⟨.hbm, 50, rfl⟩
abbrev main_c_7 : Ref sig .tc := ⟨.hbm, 51, rfl⟩
abbrev main_call8_v0 : Ref sig .tc := ⟨.hbm, 52, rfl⟩
abbrev main_v19 : Ref sig .tc := ⟨.hbm, 53, rfl⟩
abbrev main_v20 : Ref sig .tc := ⟨.hbm, 54, rfl⟩
abbrev main_c_8 : Ref sig .tc := ⟨.hbm, 55, rfl⟩
abbrev main_call9_v0 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_9 : Ref sig .tc := ⟨.hbm, 61, rfl⟩
abbrev main_call10_v0 : Ref sig .tc := ⟨.hbm, 62, rfl⟩
abbrev main_v25 : Ref sig .tc := ⟨.hbm, 63, rfl⟩
abbrev main_v26 : Ref sig .tc := ⟨.hbm, 64, rfl⟩
abbrev main_c_10 : Ref sig .tc := ⟨.hbm, 65, rfl⟩
abbrev main_call11_v0 : Ref sig .tc := ⟨.hbm, 66, rfl⟩
abbrev main_v27 : Ref sig .tc := ⟨.hbm, 67, rfl⟩
abbrev main_v28 : Ref sig .tc := ⟨.hbm, 68, rfl⟩
abbrev main_c_11 : Ref sig .tc := ⟨.hbm, 69, rfl⟩
abbrev main_call12_v0 : Ref sig .tc := ⟨.hbm, 70, rfl⟩
abbrev main_v29 : Ref sig .tc := ⟨.hbm, 71, rfl⟩
abbrev main_v30 : Ref sig .tc := ⟨.hbm, 72, rfl⟩
abbrev main_c_12 : Ref sig .tc := ⟨.hbm, 73, rfl⟩
abbrev main_call13_v0 : Ref sig .tc := ⟨.hbm, 74, rfl⟩
abbrev main_v31 : Ref sig .tc := ⟨.hbm, 75, rfl⟩
abbrev main_v32 : Ref sig .tc := ⟨.hbm, 76, rfl⟩
abbrev main_c_13 : Ref sig .tc := ⟨.hbm, 77, rfl⟩
abbrev main_call14_v0 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40_0 : Ref sig .tc := ⟨.hbm, 86, rfl⟩
abbrev main_v40_1 : Ref sig .tc := ⟨.hbm, 87, rfl⟩
abbrev main_v40_2 : Ref sig .tc := ⟨.hbm, 88, rfl⟩
abbrev main_v40_3 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x80x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x80x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x80x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x80x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x80x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x80x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x80x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x80x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSmallIdeal.lean ====
abbrev S8x80x128 : Shape := ⟨3, ![8, 80, 128]⟩
abbrev S1x4x128 : Shape := ⟨3, ![1, 4, 128]⟩
abbrev S1x4x32 : Shape := ⟨3, ![1, 4, 32]⟩
abbrev S1x160 : Shape := ⟨2, ![1, 160]⟩
abbrev S1x128 : Shape := ⟨2, ![1, 128]⟩
abbrev S512 : Shape := ⟨1, ![512]⟩
abbrev S_ : Shape := ⟨0, ![]⟩
abbrev S2048 : Shape := ⟨1, ![2048]⟩
abbrev S128 : Shape := ⟨1, ![128]⟩
abbrev S160 : Shape := ⟨1, ![160]⟩
abbrev S10240 : Shape := ⟨1, ![10240]⟩
abbrev S80x128 : Shape := ⟨2, ![80, 128]⟩
abbrev S1x80x128 : Shape := ⟨3, ![1, 80, 128]⟩
abbrev S8x1x80x128 : Shape := ⟨4, ![8, 1, 80, 128]⟩
abbrev S1x1x80x128 : Shape := ⟨4, ![1, 1, 80, 128]⟩

abbrev nBuf : Space → Nat
  | .hbm => 90
  | .vmem => 8
  | .smem => 0
  | _ => 0

abbrev bufTy : (tb : Table) → Fin (tcTables nBuf tb) → BufTy
  | .hbm, ⟨0, _⟩ => ⟨S8x80x128, .f32⟩
  | .hbm, ⟨1, _⟩ => ⟨S1x4x128, .f32⟩
  | .hbm, ⟨2, _⟩ => ⟨S1x4x32, .f32⟩
  | .hbm, ⟨3, _⟩ => ⟨S1x4x32, .f32⟩
  | .hbm, ⟨4, _⟩ => ⟨S1x160, .f32⟩
  | .hbm, ⟨5, _⟩ => ⟨S1x128, .f32⟩
  | .hbm, ⟨6, _⟩ => ⟨S1x4x128, .f32⟩
  | .hbm, ⟨7, _⟩ => ⟨S1x4x32, .f32⟩
  | .hbm, ⟨8, _⟩ => ⟨S1x4x32, .f32⟩
  | .hbm, ⟨9, _⟩ => ⟨S1x160, .f32⟩
  | .hbm, ⟨10, _⟩ => ⟨S1x128, .f32⟩
  | .hbm, ⟨11, _⟩ => ⟨S1x4x128, .f32⟩
  | .hbm, ⟨12, _⟩ => ⟨S1x4x32, .f32⟩
  | .hbm, ⟨13, _⟩ => ⟨S1x4x32, .f32⟩
  | .hbm, ⟨14, _⟩ => ⟨S1x160, .f32⟩
  | .hbm, ⟨15, _⟩ => ⟨S1x128, .f32⟩
  | .hbm, ⟨16, _⟩ => ⟨S512, .f32⟩
  | .hbm, ⟨17, _⟩ => ⟨S_, .i32⟩
  | .hbm, ⟨18, _⟩ => ⟨S_, .f32⟩
  | .hbm, ⟨19, _⟩ => ⟨S2048, .f32⟩
  | .hbm, ⟨20, _⟩ => ⟨S128, .f32⟩
  | .hbm, ⟨21, _⟩ => ⟨S_, .i32⟩
  | .hbm, ⟨22, _⟩ => ⟨S_, .f32⟩
  | .hbm, ⟨23, _⟩ => ⟨S2048, .f32⟩
  | .hbm, ⟨24, _⟩ => ⟨S128, .f32⟩
  | .hbm, ⟨25, _⟩ => ⟨S_, .i32⟩
  | .hbm, ⟨26, _⟩ => ⟨S_, .f32⟩
  | .hbm, ⟨27, _⟩ => ⟨S2048, .f32⟩
  | .hbm, ⟨28, _⟩ => ⟨S160, .f32⟩
  | .hbm, ⟨29, _⟩ => ⟨S_, .i32⟩
  | .hbm, ⟨30, _⟩ => ⟨S_, .f32⟩
  | .hbm, ⟨31, _⟩ => ⟨S2048, .f32⟩
  | .hbm, ⟨32, _⟩ => ⟨S128, .f32⟩
  | .hbm, ⟨33, _⟩ => ⟨S_, .i32⟩
  | .hbm, ⟨34, _⟩ => ⟨S_, .f32⟩
  | .hbm, ⟨35, _⟩ => ⟨S2048, .f32⟩
  | .hbm, ⟨36, _⟩ => ⟨S10240, .f32⟩
  | .hbm, ⟨37, _⟩ => ⟨S80x128, .f32⟩
  | .hbm, ⟨38, _⟩ => ⟨S512, .f32⟩
  | .hbm, ⟨39, _⟩ => ⟨S_, .i32⟩
  | .hbm, ⟨40, _⟩ => ⟨S_, .f32⟩
  | .hbm, ⟨41, _⟩ => ⟨S2048, .f32⟩
  | .hbm, ⟨42, _⟩ => ⟨S128, .f32⟩
  | .hbm, ⟨43, _⟩ => ⟨S_, .i32⟩
  | .hbm, ⟨44, _⟩ => ⟨S_, .f32⟩
  | .hbm, ⟨45, _⟩ => ⟨S2048, .f32⟩
  | .hbm, ⟨46, _⟩ => ⟨S128, .f32⟩
  | .hbm, ⟨47, _⟩ => ⟨S_, .i32⟩
  | .hbm, ⟨48, _⟩ => ⟨S_, .f32⟩
  | .hbm, ⟨49, _⟩ => ⟨S2048, .f32⟩
  | .hbm, ⟨50, _⟩ => ⟨S160, .f32⟩
  | .hbm, ⟨51, _⟩ => ⟨S_, .i32⟩
  | .hbm, ⟨52, _⟩ => ⟨S_, .f32⟩
  | .hbm, ⟨53, _⟩ => ⟨S2048, .f32⟩
  | .hbm, ⟨54, _⟩ => ⟨S128, .f32⟩
  | .hbm, ⟨55, _⟩ => ⟨S_, .i32⟩
  | .hbm, ⟨56, _⟩ => ⟨S_, .f32⟩
  | .hbm, ⟨57, _⟩ => ⟨S2048, .f32⟩
  | .hbm, ⟨58, _⟩ => ⟨S10240, .f32⟩
  | .hbm, ⟨59, _⟩ => ⟨S80x128, .f32⟩
  | .hbm, ⟨60, _⟩ => ⟨S512, .f32⟩
  | .hbm, ⟨61, _⟩ => ⟨S_, .i32⟩
  | .hbm, ⟨62, _⟩ => ⟨S_, .f32⟩
  | .hbm, ⟨63, _⟩ => ⟨S2048, .f32⟩
  | .hbm, ⟨64, _⟩ => ⟨S128, .f32⟩
  | .hbm, ⟨65, _⟩ => ⟨S_, .i32⟩
  | .hbm, ⟨66, _⟩ => ⟨S_, .f32⟩
  | .hbm, ⟨67, _⟩ => ⟨S2048, .f32⟩
  | .hbm, ⟨68, _⟩ => ⟨S128, .f32⟩
  | .hbm, ⟨69, _⟩ => ⟨S_, .i32⟩
  | .hbm, ⟨70, _⟩ => ⟨S_, .f32⟩
  | .hbm, ⟨71, _⟩ => ⟨S2048, .f32⟩
  | .hbm, ⟨72, _⟩ => ⟨S160, .f32⟩
  | .hbm, ⟨73, _⟩ => ⟨S_, .i32⟩
  | .hbm, ⟨74, _⟩ => ⟨S_, .f32⟩
  | .hbm, ⟨75, _⟩ => ⟨S2048, .f32⟩
  | .hbm, ⟨76, _⟩ => ⟨S128, .f32⟩
  | .hbm, ⟨77, _⟩ => ⟨S_, .i32⟩
  | .hbm, ⟨78, _⟩ => ⟨S_, .f32⟩
  | .hbm, ⟨79, _⟩ => ⟨S2048, .f32⟩
  | .hbm, ⟨80, _⟩ => ⟨S10240, .f32⟩
  | .hbm, ⟨81, _⟩ => ⟨S80x128, .f32⟩
  | .hbm, ⟨82, _⟩ => ⟨S1x80x128, .f32⟩
  | .hbm, ⟨83, _⟩ => ⟨S1x80x128, .f32⟩
  | .hbm, ⟨84, _⟩ => ⟨S1x80x128, .f32⟩
  | .hbm, ⟨85, _⟩ => ⟨S8x1x80x128, .f32⟩
  | .hbm, ⟨86, _⟩ => ⟨S1x80x128, .f32⟩
  | .hbm, ⟨87, _⟩ => ⟨S1x80x128, .f32⟩
  | .hbm, ⟨88, _⟩ => ⟨S1x80x128, .f32⟩
  | .hbm, ⟨89, _⟩ => ⟨S1x80x128, .f32⟩
  | .local _ .vmem, ⟨0, _⟩ => ⟨S8x1x80x128, .f32⟩
  | .local _ .vmem, ⟨1, _⟩ => ⟨S1x80x128, .f32⟩
  | .local _ .vmem, ⟨2, _⟩ => ⟨S1x80x128, .f32⟩
  | .local _ .vmem, ⟨3, _⟩ => ⟨S1x80x128, .f32⟩
  | .local _ .vmem, ⟨4, _⟩ => ⟨S1x80x128, .f32⟩
  | .local _ .vmem, ⟨5, _⟩ => ⟨S1x80x128, .f32⟩
  | .local _ .vmem, ⟨6, _⟩ => ⟨S1x80x128, .f32⟩
  | .local _ .vmem, ⟨7, _⟩ => ⟨S1x80x128, .f32⟩
  | _, _ => ⟨S8x80x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_call2_v0 : Ref sig .tc := ⟨.hbm, 26, rfl⟩
abbrev main_v5 : Ref sig .tc := ⟨.hbm, 27, rfl⟩
abbrev main_v6 : Ref sig .tc := ⟨.hbm, 28, rfl⟩
abbrev main_c_2 : Ref sig .tc := ⟨.hbm, 29, rfl⟩
abbrev main_call3_v0 : Ref sig .tc := ⟨.hbm, 30, rfl⟩
abbrev main_v7 : Ref sig .tc := ⟨.hbm, 31, rfl⟩
abbrev main_v8 : Ref sig .tc := ⟨.hbm, 32, rfl⟩
abbrev main_c_3 : Ref sig .tc := ⟨.hbm, 33, rfl⟩
abbrev main_call4_v0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_4 : Ref sig .tc := ⟨.hbm, 39, rfl⟩
abbrev main_call5_v0 : Ref sig .tc := ⟨.hbm, 40, rfl⟩
abbrev main_v13 : Ref sig .tc := ⟨.hbm, 41, rfl⟩
abbrev main_v14 : Ref sig .tc := ⟨.hbm, 42, rfl⟩
abbrev main_c_5 : Ref sig .tc := ⟨.hbm, 43, rfl⟩
abbrev main_call6_v0 : Ref sig .tc := ⟨.hbm, 44, rfl⟩
abbrev main_v15 : Ref sig .tc := ⟨.hbm, 45, rfl⟩
abbrev main_v16 : Ref sig .tc := ⟨.hbm, 46, rfl⟩
abbrev main_c_6 : Ref sig .tc := ⟨.hbm, 47, rfl⟩
abbrev main_call7_v0 : Ref sig .tc := ⟨.hbm, 48, rfl⟩
abbrev main_v17 : Ref sig .tc := ⟨.hbm, 49, rfl⟩
abbrev main_v18 : Ref sig .tc := ⟨.hbm, 50, rfl⟩
abbrev main_c_7 : Ref sig .tc := ⟨.hbm, 51, rfl⟩
abbrev main_call8_v0 : Ref sig .tc := ⟨.hbm, 52, rfl⟩
abbrev main_v19 : Ref sig .tc := ⟨.hbm, 53, rfl⟩
abbrev main_v20 : Ref sig .tc := ⟨.hbm, 54, rfl⟩
abbrev main_c_8 : Ref sig .tc := ⟨.hbm, 55, rfl⟩
abbrev main_call9_v0 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_9 : Ref sig .tc := ⟨.hbm, 61, rfl⟩
abbrev main_call10_v0 : Ref sig .tc := ⟨.hbm, 62, rfl⟩
abbrev main_v25 : Ref sig .tc := ⟨.hbm, 63, rfl⟩
abbrev main_v26 : Ref sig .tc := ⟨.hbm, 64, rfl⟩
abbrev main_c_10 : Ref sig .tc := ⟨.hbm, 65, rfl⟩
abbrev main_call11_v0 : Ref sig .tc := ⟨.hbm, 66, rfl⟩
abbrev main_v27 : Ref sig .tc := ⟨.hbm, 67, rfl⟩
abbrev main_v28 : Ref sig .tc := ⟨.hbm, 68, rfl⟩
abbrev main_c_11 : Ref sig .tc := ⟨.hbm, 69, rfl⟩
abbrev main_call12_v0 : Ref sig .tc := ⟨.hbm, 70, rfl⟩
abbrev main_v29 : Ref sig .tc := ⟨.hbm, 71, rfl⟩
abbrev main_v30 : Ref sig .tc := ⟨.hbm, 72, rfl⟩
abbrev main_c_12 : Ref sig .tc := ⟨.hbm, 73, rfl⟩
abbrev main_call13_v0 : Ref sig .tc := ⟨.hbm, 74, rfl⟩
abbrev main_v31 : Ref sig .tc := ⟨.hbm, 75, rfl⟩
abbrev main_v32 : Ref sig .tc := ⟨.hbm, 76, rfl⟩
abbrev main_c_13 : Ref sig .tc := ⟨.hbm, 77, rfl⟩
abbrev main_call14_v0 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40_0 : Ref sig .tc := ⟨.hbm, 86, rfl⟩
abbrev main_v40_1 : Ref sig .tc := ⟨.hbm, 87, rfl⟩
abbrev main_v40_2 : Ref sig .tc := ⟨.hbm, 88, rfl⟩
abbrev main_v40_3 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x80x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x80x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x80x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x80x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x80x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x80x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x80x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x80x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSmallSpecIdeal.lean ====
abbrev S8x80x128 : Shape := ⟨3, ![8, 80, 128]⟩
abbrev S1x4x128 : Shape := ⟨3, ![1, 4, 128]⟩
abbrev S1x4x32 : Shape := ⟨3, ![1, 4, 32]⟩
abbrev S1x160 : Shape := ⟨2, ![1, 160]⟩
abbrev S1x128 : Shape := ⟨2, ![1, 128]⟩
abbrev S_ : Shape := ⟨0, ![]⟩
abbrev S80x128 : Shape := ⟨2, ![80, 128]⟩
abbrev S512 : Shape := ⟨1, ![512]⟩
abbrev S2048 : Shape := ⟨1, ![2048]⟩
abbrev S128 : Shape := ⟨1, ![128]⟩
abbrev S160 : Shape := ⟨1, ![160]⟩
abbrev S10240 : Shape := ⟨1, ![10240]⟩
abbrev S1x80x128 : Shape := ⟨3, ![1, 80, 128]⟩

abbrev nBuf : Space → Nat
  | .hbm => 121
  | .vmem => 0
  | .smem => 0
  | _ => 0

abbrev bufTy : (tb : Table) → Fin (tcTables nBuf tb) → BufTy
  | .hbm, ⟨0, _⟩ => ⟨S8x80x128, .f32⟩
  | .hbm, ⟨1, _⟩ => ⟨S1x4x128, .f32⟩
  | .hbm, ⟨2, _⟩ => ⟨S1x4x32, .f32⟩
  | .hbm, ⟨3, _⟩ => ⟨S1x4x32, .f32⟩
  | .hbm, ⟨4, _⟩ => ⟨S1x160, .f32⟩
  | .hbm, ⟨5, _⟩ => ⟨S1x128, .f32⟩
  | .hbm, ⟨6, _⟩ => ⟨S1x4x128, .f32⟩
  | .hbm, ⟨7, _⟩ => ⟨S1x4x32, .f32⟩
  | .hbm, ⟨8, _⟩ => ⟨S1x4x32, .f32⟩
  | .hbm, ⟨9, _⟩ => ⟨S1x160, .f32⟩
  | .hbm, ⟨10, _⟩ => ⟨S1x128, .f32⟩
  | .hbm, ⟨11, _⟩ => ⟨S1x4x128, .f32⟩
  | .hbm, ⟨12, _⟩ => ⟨S1x4x32, .f32⟩
  | .hbm, ⟨13, _⟩ => ⟨S1x4x32, .f32⟩
  | .hbm, ⟨14, _⟩ => ⟨S1x160, .f32⟩
  | .hbm, ⟨15, _⟩ => ⟨S1x128, .f32⟩
  | .hbm, ⟨16, _⟩ => ⟨S_, .f32⟩
  | .hbm, ⟨17, _⟩ => ⟨S80x128, .f32⟩
  | .hbm, ⟨18, _⟩ => ⟨S512, .f32⟩
  | .hbm, ⟨19, _⟩ => ⟨S_, .i32⟩
  | .hbm, ⟨20, _⟩ => ⟨S_, .f32⟩
  | .hbm, ⟨21, _⟩ => ⟨S2048, .f32⟩
  | .hbm, ⟨22, _⟩ => ⟨S128, .f32⟩
  | .hbm, ⟨23, _⟩ => ⟨S_, .i32⟩
  | .hbm, ⟨24, _⟩ => ⟨S_, .f32⟩
  | .hbm, ⟨25, _⟩ => ⟨S2048, .f32⟩
  | .hbm, ⟨26, _⟩ => ⟨S128, .f32⟩
  | .hbm, ⟨27, _⟩ => ⟨S_, .i32⟩
  | .hbm, ⟨28, _⟩ => ⟨S_, .f32⟩
  | .hbm, ⟨29, _⟩ => ⟨S2048, .f32⟩
  | .hbm, ⟨30, _⟩ => ⟨S160, .f32⟩
  | .hbm, ⟨31, _⟩ => ⟨S_, .i32⟩
  | .hbm, ⟨32, _⟩ => ⟨S_, .f32⟩
  | .hbm, ⟨33, _⟩ => ⟨S2048, .f32⟩
  | .hbm, ⟨34, _⟩ => ⟨S128, .f32⟩
  | .hbm, ⟨35, _⟩ => ⟨S_, .i32⟩
  | .hbm, ⟨36, _⟩ => ⟨S_, .f32⟩
  | .hbm, ⟨37, _⟩ => ⟨S2048, .f32⟩
  | .hbm, ⟨38, _⟩ => ⟨S10240, .f32⟩
  | .hbm, ⟨39, _⟩ => ⟨S80x128, .f32⟩
  | .hbm, ⟨40, _⟩ => ⟨S512, .f32⟩
  | .hbm, ⟨41, _⟩ => ⟨S_, .i32⟩
  | .hbm, ⟨42, _⟩ => ⟨S_, .f32⟩
  | .hbm, ⟨43, _⟩ => ⟨S2048, .f32⟩
  | .hbm, ⟨44, _⟩ => ⟨S128, .f32⟩
  | .hbm, ⟨45, _⟩ => ⟨S_, .i32⟩
  | .hbm, ⟨46, _⟩ => ⟨S_, .f32⟩
  | .hbm, ⟨47, _⟩ => ⟨S2048, .f32⟩
  | .hbm, ⟨48, _⟩ => ⟨S128, .f32⟩
  | .hbm, ⟨49, _⟩ => ⟨S_, .i32⟩
  | .hbm, ⟨50, _⟩ => ⟨S_, .f32⟩
  | .hbm, ⟨51, _⟩ => ⟨S2048, .f32⟩
  | .hbm, ⟨52, _⟩ => ⟨S160, .f32⟩
  | .hbm, ⟨53, _⟩ => ⟨S_, .i32⟩
  | .hbm, ⟨54, _⟩ => ⟨S_, .f32⟩
  | .hbm, ⟨55, _⟩ => ⟨S2048, .f32⟩
  | .hbm, ⟨56, _⟩ => ⟨S128, .f32⟩
  | .hbm, ⟨57, _⟩ => ⟨S_, .i32⟩
  | .hbm, ⟨58, _⟩ => ⟨S_, .f32⟩
  | .hbm, ⟨59, _⟩ => ⟨S2048, .f32⟩
  | .hbm, ⟨60, _⟩ => ⟨S10240, .f32⟩
  | .hbm, ⟨61, _⟩ => ⟨S80x128, .f32⟩
  | .hbm, ⟨62, _⟩ => ⟨S512, .f32⟩
  | .hbm, ⟨63, _⟩ => ⟨S_, .i32⟩
  | .hbm, ⟨64, _⟩ => ⟨S_, .f32⟩
  | .hbm, ⟨65, _⟩ => ⟨S2048, .f32⟩
  | .hbm, ⟨66, _⟩ => ⟨S128, .f32⟩
  | .hbm, ⟨67, _⟩ => ⟨S_, .i32⟩
  | .hbm, ⟨68, _⟩ => ⟨S_, .f32⟩
  | .hbm, ⟨69, _⟩ => ⟨S2048, .f32⟩
  | .hbm, ⟨70, _⟩ => ⟨S128, .f32⟩
  | .hbm, ⟨71, _⟩ => ⟨S_, .i32⟩
  | .hbm, ⟨72, _⟩ => ⟨S_, .f32⟩
  | .hbm, ⟨73, _⟩ => ⟨S2048, .f32⟩
  | .hbm, ⟨74, _⟩ => ⟨S160, .f32⟩
  | .hbm, ⟨75, _⟩ => ⟨S_, .i32⟩
  | .hbm, ⟨76, _⟩ => ⟨S_, .f32⟩
  | .hbm, ⟨77, _⟩ => ⟨S2048, .f32⟩
  | .hbm, ⟨78, _⟩ => ⟨S128, .f32⟩
  | .hbm, ⟨79, _⟩ => ⟨S_, .i32⟩
  | .hbm, ⟨80, _⟩ => ⟨S_, .f32⟩
  | .hbm, ⟨81, _⟩ => ⟨S2048, .f32⟩
  | .hbm, ⟨82, _⟩ => ⟨S10240, .f32⟩
  | .hbm, ⟨83, _⟩ => ⟨S80x128, .f32⟩
  | .hbm, ⟨84, _⟩ => ⟨S_, .f32⟩
  | .hbm, ⟨85, _⟩ => ⟨S80x128, .f32⟩
  | .hbm, ⟨86, _⟩ => ⟨S80x128, .f32⟩
  | .hbm, ⟨87, _⟩ => ⟨S_, .f32⟩
  | .hbm, ⟨88, _⟩ => ⟨S80x128, .f32⟩
  | .hbm, ⟨89, _⟩ => ⟨S80x128, .f32⟩
  | .hbm, ⟨90, _⟩ => ⟨S80x128, .f32⟩
  | .hbm, ⟨91, _⟩ => ⟨S_, .f32⟩
  | .hbm, ⟨92, _⟩ => ⟨S80x128, .f32⟩
  | .hbm, ⟨93, _⟩ => ⟨S80x128, .f32⟩
  | .hbm, ⟨94, _⟩ => ⟨S80x128, .f32⟩
  | .hbm, ⟨95, _⟩ => ⟨S_, .f32⟩
  | .hbm, ⟨96, _⟩ => ⟨S80x128, .f32⟩
  | .hbm, ⟨97, _⟩ => ⟨S80x128, .f32⟩
  | .hbm, ⟨98, _⟩ => ⟨S80x128, .f32⟩
  | .hbm, ⟨99, _⟩ => ⟨S_, .f32⟩
  | .hbm, ⟨100, _⟩ => ⟨S80x128, .f32⟩
  | .hbm, ⟨101, _⟩ => ⟨S80x128, .f32⟩
  | .hbm, ⟨102, _⟩ => ⟨S_, .f32⟩
  | .hbm, ⟨103, _⟩ => ⟨S80x128, .f32⟩
  | .hbm, ⟨104, _⟩ => ⟨S80x128, .f32⟩
  | .hbm, ⟨105, _⟩ => ⟨S80x128, .f32⟩
  | .hbm, ⟨106, _⟩ => ⟨S_, .f32⟩
  | .hbm, ⟨107, _⟩ => ⟨S80x128, .f32⟩
  | .hbm, ⟨108, _⟩ => ⟨S80x128, .f32⟩
  | .hbm, ⟨109, _⟩ => ⟨S80x128, .f32⟩
  | .hbm, ⟨110, _⟩ => ⟨S_, .f32⟩
  | .hbm, ⟨111, _⟩ => ⟨S80x128, .f32⟩
  | .hbm, ⟨112, _⟩ => ⟨S80x128, .f32⟩
  | .hbm, ⟨113, _⟩ => ⟨S80x128, .f32⟩
  | .hbm, ⟨114, _⟩ => ⟨S_, .f32⟩
  | .hbm, ⟨115, _⟩ => ⟨S80x128, .f32⟩
  | .hbm, ⟨116, _⟩ => ⟨S80x128, .f32⟩
  | .hbm, ⟨117, _⟩ => ⟨S1x80x128, .f32⟩
  | .hbm, ⟨118, _⟩ => ⟨S1x80x128, .f32⟩
  | .hbm, ⟨119, _⟩ => ⟨S1x80x128, .f32⟩
  | .hbm, ⟨120, _⟩ => ⟨S1x80x128, .f32⟩
  | _, _ => ⟨S8x80x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_call0_v0 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_call1_v0 : Ref sig .tc := ⟨.hbm, 24, rfl⟩
abbrev main_v4 : Ref sig .tc := ⟨.hbm, 25, rfl⟩
abbrev main_v5 : Ref sig .tc := ⟨.hbm, 26, rfl⟩
abbrev main_c_1 : Ref sig .tc := ⟨.hbm, 27, rfl⟩
abbrev main_call2_v0 : Ref sig .tc := ⟨.hbm, 28, rfl⟩
abbrev main_v6 : Ref sig .tc := ⟨.hbm, 29, rfl⟩
abbrev main_v7 : Ref sig .tc := ⟨.hbm, 30, rfl⟩
abbrev main_c_2 : Ref sig .tc := ⟨.hbm, 31, rfl⟩
abbrev main_call3_v0 : Ref sig .tc := ⟨.hbm, 32, rfl⟩
abbrev main_v8 : Ref sig .tc := ⟨.hbm, 33, rfl⟩
abbrev main_v9 : Ref sig .tc := ⟨.hbm, 34, rfl⟩
abbrev main_c_3 : Ref sig .tc := ⟨.hbm, 35, rfl⟩
abbrev main_call4_v0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_4 : Ref sig .tc := ⟨.hbm, 41, rfl⟩
abbrev main_call5_v0 : Ref sig .tc := ⟨.hbm, 42, rfl⟩
abbrev main_v14 : Ref sig .tc := ⟨.hbm, 43, rfl⟩
abbrev main_v15 : Ref sig .tc := ⟨.hbm, 44, rfl⟩
abbrev main_c_5 : Ref sig .tc := ⟨.hbm, 45, rfl⟩
abbrev main_call6_v0 : Ref sig .tc := ⟨.hbm, 46, rfl⟩
abbrev main_v16 : Ref sig .tc := ⟨.hbm, 47, rfl⟩
abbrev main_v17 : Ref sig .tc := ⟨.hbm, 48, rfl⟩
abbrev main_c_6 : Ref sig .tc := ⟨.hbm, 49, rfl⟩
abbrev main_call7_v0 : Ref sig .tc := ⟨.hbm, 50, rfl⟩
abbrev main_v18 : Ref sig .tc := ⟨.hbm, 51, rfl⟩
abbrev main_v19 : Ref sig .tc := ⟨.hbm, 52, rfl⟩
abbrev main_c_7 : Ref sig .tc := ⟨.hbm, 53, rfl⟩
abbrev main_call8_v0 : Ref sig .tc := ⟨.hbm, 54, rfl⟩
abbrev main_v20 : Ref sig .tc := ⟨.hbm, 55, rfl⟩
abbrev main_v21 : Ref sig .tc := ⟨.hbm, 56, rfl⟩
abbrev main_c_8 : Ref sig .tc := ⟨.hbm, 57, rfl⟩
abbrev main_call9_v0 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_9 : Ref sig .tc := ⟨.hbm, 63, rfl⟩
abbrev main_call10_v0 : Ref sig .tc := ⟨.hbm, 64, rfl⟩
abbrev main_v26 : Ref sig .tc := ⟨.hbm, 65, rfl⟩
abbrev main_v27 : Ref sig .tc := ⟨.hbm, 66, rfl⟩
abbrev main_c_10 : Ref sig .tc := ⟨.hbm, 67, rfl⟩
abbrev main_call11_v0 : Ref sig .tc := ⟨.hbm, 68, rfl⟩
abbrev main_v28 : Ref sig .tc := ⟨.hbm, 69, rfl⟩
abbrev main_v29 : Ref sig .tc := ⟨.hbm, 70, rfl⟩
abbrev main_c_11 : Ref sig .tc := ⟨.hbm, 71, rfl⟩
abbrev main_call12_v0 : Ref sig .tc := ⟨.hbm, 72, rfl⟩
abbrev main_v30 : Ref sig .tc := ⟨.hbm, 73, rfl⟩
abbrev main_v31 : Ref sig .tc := ⟨.hbm, 74, rfl⟩
abbrev main_c_12 : Ref sig .tc := ⟨.hbm, 75, rfl⟩
abbrev main_call13_v0 : Ref sig .tc := ⟨.hbm, 76, rfl⟩
abbrev main_v32 : Ref sig .tc := ⟨.hbm, 77, rfl⟩
abbrev main_v33 : Ref sig .tc := ⟨.hbm, 78, rfl⟩
abbrev main_c_13 : Ref sig .tc := ⟨.hbm, 79, rfl⟩
abbrev main_call14_v0 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_14 : Ref sig .tc := ⟨.hbm, 84, rfl⟩
abbrev main_v37 : Ref sig .tc := ⟨.hbm, 85, rfl⟩
abbrev main_v38 : Ref sig .tc := ⟨.hbm, 86, rfl⟩
abbrev main_cst_15 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_16 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_17 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_18 : Ref sig .tc := ⟨.hbm, 99, rfl⟩
abbrev main_v48 : Ref sig .tc := ⟨.hbm, 100, rfl⟩
abbrev main_v49 : Ref sig .tc := ⟨.hbm, 101, rfl⟩
abbrev main_cst_19 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_20 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_21 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_22 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩

abbrev nD : Nat := 1
abbrev τ : Topo := Topo.v7x

variable {F : FTy → Type} [FloatOps F]
-- ==== AdamReplicated.lean ====
abbrev S8x144x128 : Shape := ⟨3, ![8, 144, 128]⟩
abbrev S2x1024 : Shape := ⟨2, ![2, 1024]⟩
abbrev S1x1024 : Shape := ⟨2, ![1, 1024]⟩
abbrev S1x16 : Shape := ⟨2, ![1, 16]⟩
abbrev S1024 : Shape := ⟨1, ![1024]⟩
abbrev S1x1 : Shape := ⟨2, ![1, 1]⟩
abbrev S2048 : Shape := ⟨1, ![2048]⟩
abbrev S_ : Shape := ⟨0, ![]⟩
abbrev S16 : Shape := ⟨1, ![16]⟩
abbrev S1 : Shape := ⟨1, ![1]⟩
abbrev S18432 : Shape := ⟨1, ![18432]⟩
abbrev S144x128 : Shape := ⟨2, ![144, 128]⟩
abbrev S1x144x128 : Shape := ⟨3, ![1, 144, 128]⟩
abbrev S8x1x144x128 : Shape := ⟨4, ![8, 1, 144, 128]⟩
abbrev S1x1x144x128 : Shape := ⟨4, ![1, 1, 144, 128]⟩

abbrev nBuf : Space → Nat
  | .hbm => 111
  | .vmem => 8
  | .smem => 0
  | _ => 0

abbrev bufTy : (tb : Table) → Fin (tcTables nBuf tb) → BufTy
  | .hbm, ⟨0, _⟩ => ⟨S8x144x128, .f32⟩
  | .hbm, ⟨1, _⟩ => ⟨S2x1024, .f32⟩
  | .hbm, ⟨2, _⟩ => ⟨S1x1024, .f32⟩
  | .hbm, ⟨3, _⟩ => ⟨S1x1024, .f32⟩
  | .hbm, ⟨4, _⟩ => ⟨S1x16, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S1024, .f32⟩
  | .hbm, ⟨9, _⟩ => ⟨S1x1, .f32⟩
  | .hbm, ⟨10, _⟩ => ⟨S2x1024, .f32⟩
  | .hbm, ⟨11, _⟩ => ⟨S1x1024, .f32⟩
  | .hbm, ⟨12, _⟩ => ⟨S1x1024, .f32⟩
  | .hbm, ⟨13, _⟩ => ⟨S1x16, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S1024, .f32⟩
  | .hbm, ⟨18, _⟩ => ⟨S1x1, .f32⟩
  | .hbm, ⟨19, _⟩ => ⟨S2x1024, .f32⟩
  | .hbm, ⟨20, _⟩ => ⟨S1x1024, .f32⟩
  | .hbm, ⟨21, _⟩ => ⟨S1x1024, .f32⟩
  | .hbm, ⟨22, _⟩ => ⟨S1x16, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S1024, .f32⟩
  | .hbm, ⟨27, _⟩ => ⟨S1x1, .f32⟩
  | .hbm, ⟨28, _⟩ => ⟨S2048, .f32⟩
  | .hbm, ⟨29, _⟩ => ⟨S1024, .f32⟩
  | .hbm, ⟨30, _⟩ => ⟨S_, .i32⟩
  | .hbm, ⟨31, _⟩ => ⟨S_, .f32⟩
  | .hbm, ⟨32, _⟩ => ⟨S2048, .f32⟩
  | .hbm, ⟨33, _⟩ => ⟨S1024, .f32⟩
  | .hbm, ⟨34, _⟩ => ⟨S_, .i32⟩
  | .hbm, ⟨35, _⟩ => ⟨S_, .f32⟩
  | .hbm, ⟨36, _⟩ => ⟨S2048, .f32⟩
  | .hbm, ⟨37, _⟩ => ⟨S16, .f32⟩
  | .hbm, ⟨38, _⟩ => ⟨S_, .i32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S_, .i32⟩
  | .hbm, ⟨45, _⟩ => ⟨S_, .f32⟩
  | .hbm, ⟨46, _⟩ => ⟨S2048, .f32⟩
  | .hbm, ⟨47, _⟩ => ⟨S1, .f32⟩
  | .hbm, ⟨48, _⟩ => ⟨S_, .i32⟩
  | .hbm, ⟨49, _⟩ => ⟨S_, .f32⟩
  | .hbm, ⟨50, _⟩ => ⟨S2048, .f32⟩
  | .hbm, ⟨51, _⟩ => ⟨S18432, .f32⟩
  | .hbm, ⟨52, _⟩ => ⟨S144x128, .f32⟩
  | .hbm, ⟨53, _⟩ => ⟨S2048, .f32⟩
  | .hbm, ⟨54, _⟩ => ⟨S1024, .f32⟩
  | .hbm, ⟨55, _⟩ => ⟨S_, .i32⟩
  | .hbm, ⟨56, _⟩ => ⟨S_, .f32⟩
  | .hbm, ⟨57, _⟩ => ⟨S2048, .f32⟩
  | .hbm, ⟨58, _⟩ => ⟨S1024, .f32⟩
  | .hbm, ⟨59, _⟩ => ⟨S_, .i32⟩
  | .hbm, ⟨60, _⟩ => ⟨S_, .f32⟩
  | .hbm, ⟨61, _⟩ => ⟨S2048, .f32⟩
  | .hbm, ⟨62, _⟩ => ⟨S16, .f32⟩
  | .hbm, ⟨63, _⟩ => ⟨S_, .i32⟩
  | .hbm, ⟨64, _⟩ => ⟨S_, .f32⟩
  | .hbm, ⟨65, _⟩ => ⟨S2048, .f32⟩
  | .hbm, ⟨66, _⟩ => ⟨S2048, .f32⟩
  | .hbm, ⟨67, _⟩ => ⟨S2048, .f32⟩
  | .hbm, ⟨68, _⟩ => ⟨S2048, .f32⟩
  | .hbm, ⟨69, _⟩ => ⟨S_, .i32⟩
  | .hbm, ⟨70, _⟩ => ⟨S_, .f32⟩
  | .hbm, ⟨71, _⟩ => ⟨S2048, .f32⟩
  | .hbm, ⟨72, _⟩ => ⟨S1, .f32⟩
  | .hbm, ⟨73, _⟩ => ⟨S_, .i32⟩
  | .hbm, ⟨74, _⟩ => ⟨S_, .f32⟩
  | .hbm, ⟨75, _⟩ => ⟨S2048, .f32⟩
  | .hbm, ⟨76, _⟩ => ⟨S18432, .f32⟩
  | .hbm, ⟨77, _⟩ => ⟨S144x128, .f32⟩
  | .hbm, ⟨78, _⟩ => ⟨S2048, .f32⟩
  | .hbm, ⟨79, _⟩ => ⟨S1024, .f32⟩
  | .hbm, ⟨80, _⟩ => ⟨S_, .i32⟩
  | .hbm, ⟨81, _⟩ => ⟨S_, .f32⟩
  | .hbm, ⟨82, _⟩ => ⟨S2048, .f32⟩
  | .hbm, ⟨83, _⟩ => ⟨S1024, .f32⟩
  | .hbm, ⟨84, _⟩ => ⟨S_, .i32⟩
  | .hbm, ⟨85, _⟩ => ⟨S_, .f32⟩
  | .hbm, ⟨86, _⟩ => ⟨S2048, .f32⟩
  | .hbm, ⟨87, _⟩ => ⟨S16, .f32⟩
  | .hbm, ⟨88, _⟩ => ⟨S_, .i32⟩
  | .hbm, ⟨89, _⟩ => ⟨S_, .f32⟩
  | .hbm, ⟨90, _⟩ => ⟨S2048, .f32⟩
  | .hbm, ⟨91, _⟩ => ⟨S2048, .f32⟩
  | .hbm, ⟨92, _⟩ => ⟨S2048, .f32⟩
  | .hbm, ⟨93, _⟩ => ⟨S2048, .f32⟩
  | .hbm, ⟨94, _⟩ => ⟨S_, .i32⟩
  | .hbm, ⟨95, _⟩ => ⟨S_, .f32⟩
  | .hbm, ⟨96, _⟩ => ⟨S2048, .f32⟩
  | .hbm, ⟨97, _⟩ => ⟨S1, .f32⟩
  | .hbm, ⟨98, _⟩ => ⟨S_, .i32⟩
  | .hbm, ⟨99, _⟩ => ⟨S_, .f32⟩
  | .hbm, ⟨100, _⟩ => ⟨S2048, .f32⟩
  | .hbm, ⟨101, _⟩ => ⟨S18432, .f32⟩
  | .hbm, ⟨102, _⟩ => ⟨S144x128, .f32⟩
  | .hbm, ⟨103, _⟩ => ⟨S1x144x128, .f32⟩
  | .hbm, ⟨104, _⟩ => ⟨S1x144x128, .f32⟩
  | .hbm, ⟨105, _⟩ => ⟨S1x144x128, .f32⟩
  | .hbm, ⟨106, _⟩ => ⟨S8x1x144x128, .f32⟩
  | .hbm, ⟨107, _⟩ => ⟨S1x144x128, .f32⟩
  | .hbm, ⟨108, _⟩ => ⟨S1x144x128, .f32⟩
  | .hbm, ⟨109, _⟩ => ⟨S1x144x128, .f32⟩
  | .hbm, ⟨110, _⟩ => ⟨S1x144x128, .f32⟩
  | .local _ .vmem, ⟨0, _⟩ => ⟨S8x1x144x128, .f32⟩
  | .local _ .vmem, ⟨1, _⟩ => ⟨S1x144x128, .f32⟩
  | .local _ .vmem, ⟨2, _⟩ => ⟨S1x144x128, .f32⟩
  | .local _ .vmem, ⟨3, _⟩ => ⟨S1x144x128, .f32⟩
  | .local _ .vmem, ⟨4, _⟩ => ⟨S1x144x128, .f32⟩
  | .local _ .vmem, ⟨5, _⟩ => ⟨S1x144x128, .f32⟩
  | .local _ .vmem, ⟨6, _⟩ => ⟨S1x144x128, .f32⟩
  | .local _ .vmem, ⟨7, _⟩ => ⟨S1x144x128, .f32⟩
  | _, _ => ⟨S8x144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_c : Ref sig .tc := ⟨.hbm, 30, rfl⟩
abbrev main_call0_v0 : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_call1_v0 : Ref sig .tc := ⟨.hbm, 35, rfl⟩
abbrev main_v4 : Ref sig .tc := ⟨.hbm, 36, rfl⟩
abbrev main_v5 : Ref sig .tc := ⟨.hbm, 37, rfl⟩
abbrev main_c_1 : Ref sig .tc := ⟨.hbm, 38, rfl⟩
abbrev main_call2_v0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_c_2 : Ref sig .tc := ⟨.hbm, 44, rfl⟩
abbrev main_call3_v0 : Ref sig .tc := ⟨.hbm, 45, rfl⟩
abbrev main_v10 : Ref sig .tc := ⟨.hbm, 46, rfl⟩
abbrev main_v11 : Ref sig .tc := ⟨.hbm, 47, rfl⟩
abbrev main_c_3 : Ref sig .tc := ⟨.hbm, 48, rfl⟩
abbrev main_call4_v0 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_c_4 : Ref sig .tc := ⟨.hbm, 55, rfl⟩
abbrev main_call5_v0 : Ref sig .tc := ⟨.hbm, 56, rfl⟩
abbrev main_v17 : Ref sig .tc := ⟨.hbm, 57, rfl⟩
abbrev main_v18 : Ref sig .tc := ⟨.hbm, 58, rfl⟩
abbrev main_c_5 : Ref sig .tc := ⟨.hbm, 59, rfl⟩
abbrev main_call6_v0 : Ref sig .tc := ⟨.hbm, 60, rfl⟩
abbrev main_v19 : Ref sig .tc := ⟨.hbm, 61, rfl⟩
abbrev main_v20 : Ref sig .tc := ⟨.hbm, 62, rfl⟩
abbrev main_c_6 : Ref sig .tc := ⟨.hbm, 63, rfl⟩
abbrev main_call7_v0 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c_7 : Ref sig .tc := ⟨.hbm, 69, rfl⟩
abbrev main_call8_v0 : Ref sig .tc := ⟨.hbm, 70, rfl⟩
abbrev main_v25 : Ref sig .tc := ⟨.hbm, 71, rfl⟩
abbrev main_v26 : Ref sig .tc := ⟨.hbm, 72, rfl⟩
abbrev main_c_8 : Ref sig .tc := ⟨.hbm, 73, rfl⟩
abbrev main_call9_v0 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_c_9 : Ref sig .tc := ⟨.hbm, 80, rfl⟩
abbrev main_call10_v0 : Ref sig .tc := ⟨.hbm, 81, rfl⟩
abbrev main_v32 : Ref sig .tc := ⟨.hbm, 82, rfl⟩
abbrev main_v33 : Ref sig .tc := ⟨.hbm, 83, rfl⟩
abbrev main_c_10 : Ref sig .tc := ⟨.hbm, 84, rfl⟩
abbrev main_call11_v0 : Ref sig .tc := ⟨.hbm, 85, rfl⟩
abbrev main_v34 : Ref sig .tc := ⟨.hbm, 86, rfl⟩
abbrev main_v35 : Ref sig .tc := ⟨.hbm, 87, rfl⟩
abbrev main_c_11 : Ref sig .tc := ⟨.hbm, 88, rfl⟩
abbrev main_call12_v0 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_c_12 : Ref sig .tc := ⟨.hbm, 94, rfl⟩
abbrev main_call13_v0 : Ref sig .tc := ⟨.hbm, 95, rfl⟩
abbrev main_v40 : Ref sig .tc := ⟨.hbm, 96, rfl⟩
abbrev main_v41 : Ref sig .tc := ⟨.hbm, 97, rfl⟩
abbrev main_c_13 : Ref sig .tc := ⟨.hbm, 98, rfl⟩
abbrev main_call14_v0 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49_0 : Ref sig .tc := ⟨.hbm, 107, rfl⟩
abbrev main_v49_1 : Ref sig .tc := ⟨.hbm, 108, rfl⟩
abbrev main_v49_2 : Ref sig .tc := ⟨.hbm, 109, rfl⟩
abbrev main_v49_3 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x1x144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamReplicatedSpecIdeal.lean ====
abbrev S8x144x128 : Shape := ⟨3, ![8, 144, 128]⟩
abbrev S2x1024 : Shape := ⟨2, ![2, 1024]⟩
abbrev S1x1024 : Shape := ⟨2, ![1, 1024]⟩
abbrev S1x16 : Shape := ⟨2, ![1, 16]⟩
abbrev S1024 : Shape := ⟨1, ![1024]⟩
abbrev S1x1 : Shape := ⟨2, ![1, 1]⟩
abbrev S_ : Shape := ⟨0, ![]⟩
abbrev S144x128 : Shape := ⟨2, ![144, 128]⟩
abbrev S2048 : Shape := ⟨1, ![2048]⟩
abbrev S16 : Shape := ⟨1, ![16]⟩
abbrev S1 : Shape := ⟨1, ![1]⟩
abbrev S18432 : Shape := ⟨1, ![18432]⟩
abbrev S1x144x128 : Shape := ⟨3, ![1, 144, 128]⟩

abbrev nBuf : Space → Nat
  | .hbm => 142
  | .vmem => 0
  | .smem => 0
  | _ => 0

abbrev hbmTy0_0 (i : Nat) : BufTy := match i % 128 with
  | 0 => ⟨S8x144x128, .f32⟩
  | 1 => ⟨S2x1024, .f32⟩
  | 2 => ⟨S1x1024, .f32⟩
  | 3 => ⟨S1x1024, .f32⟩
  | 4 => ⟨S1x16, .f32⟩
  | 5 => ⟨S2x1024, .f32⟩
  | 6 => ⟨S2x1024, .f32⟩
  | 7 => ⟨S2x1024, .f32⟩
  | 8 => ⟨S1024, .f32⟩
  | 9 => ⟨S1x1, .f32⟩
  | 10 => ⟨S2x1024, .f32⟩
  | 11 => ⟨S1x1024, .f32⟩
  | 12 => ⟨S1x1024, .f32⟩
  | 13 => ⟨S1x16, .f32⟩
  | 14 => ⟨S2x1024, .f32⟩
  | 15 => ⟨S2x1024, .f32⟩
  | 16 => ⟨S2x1024, .f32⟩
  | 17 => ⟨S1024, .f32⟩
  | 18 => ⟨S1x1, .f32⟩
  | 19 => ⟨S2x1024, .f32⟩
  | 20 => ⟨S1x1024, .f32⟩
  | 21 => ⟨S1x1024, .f32⟩
  | 22 => ⟨S1x16, .f32⟩
  | 23 => ⟨S2x1024, .f32⟩
  | 24 => ⟨S2x1024, .f32⟩
  | 25 => ⟨S2x1024, .f32⟩
  | 26 => ⟨S1024, .f32⟩
  | 27 => ⟨S1x1, .f32⟩
  | 28 => ⟨S_, .f32⟩
  | 29 => ⟨S144x128, .f32⟩
  | 30 => ⟨S2048, .f32⟩
  | 31 => ⟨S1024, .f32⟩
  | 32 => ⟨S_, .i32⟩
  | 33 => ⟨S_, .f32⟩
  | 34 => ⟨S2048, .f32⟩
  | 35 => ⟨S1024, .f32⟩
  | 36 => ⟨S_, .i32⟩
  | 37 => ⟨S_, .f32⟩
  | 38 => ⟨S2048, .f32⟩
  | 39 => ⟨S16, .f32⟩
  | 40 => ⟨S_, .i32⟩
  | 41 => ⟨S_, .f32⟩
  | 42 => ⟨S2048, .f32⟩
  | 43 => ⟨S2048, .f32⟩
  | 44 => ⟨S2048, .f32⟩
  | 45 => ⟨S2048, .f32⟩
  | 46 => ⟨S_, .i32⟩
  | 47 => ⟨S_, .f32⟩
  | 48 => ⟨S2048, .f32⟩
  | 49 => ⟨S1, .f32⟩
  | 50 => ⟨S_, .i32⟩
  | 51 => ⟨S_, .f32⟩
  | 52 => ⟨S2048, .f32⟩
  | 53 => ⟨S18432, .f32⟩
  | 54 => ⟨S144x128, .f32⟩
  | 55 => ⟨S2048, .f32⟩
  | 56 => ⟨S1024, .f32⟩
  | 57 => ⟨S_, .i32⟩
  | 58 => ⟨S_, .f32⟩
  | 59 => ⟨S2048, .f32⟩
  | 60 => ⟨S1024, .f32⟩
  | 61 => ⟨S_, .i32⟩
  | 62 => ⟨S_, .f32⟩
  | 63 => ⟨S2048, .f32⟩
  | 64 => ⟨S16, .f32⟩
  | 65 => ⟨S_, .i32⟩
  | 66 => ⟨S_, .f32⟩
  | 67 => ⟨S2048, .f32⟩
  | 68 => ⟨S2048, .f32⟩
  | 69 => ⟨S2048, .f32⟩
  | 70 => ⟨S2048, .f32⟩
  | 71 => ⟨S_, .i32⟩
  | 72 => ⟨S_, .f32⟩
  | 73 => ⟨S2048, .f32⟩
  | 74 => ⟨S1, .f32⟩
  | 75 => ⟨S_, .i32⟩
  | 76 => ⟨S_, .f32⟩
  | 77 => ⟨S2048, .f32⟩
  | 78 => ⟨S18432, .f32⟩
  | 79 => ⟨S144x128, .f32⟩
  | 80 => ⟨S2048, .f32⟩
  | 81 => ⟨S1024, .f32⟩
  | 82 => ⟨S_, .i32⟩
  | 83 => ⟨S_, .f32⟩
  | 84 => ⟨S2048, .f32⟩
  | 85 => ⟨S1024, .f32⟩
  | 86 => ⟨S_, .i32⟩
  | 87 => ⟨S_, .f32⟩
  | 88 => ⟨S2048, .f32⟩
  | 89 => ⟨S16, .f32⟩
  | 90 => ⟨S_, .i32⟩
  | 91 => ⟨S_, .f32⟩
  | 92 => ⟨S2048, .f32⟩
  | 93 => ⟨S2048, .f32⟩
  | 94 => ⟨S2048, .f32⟩
  | 95 => ⟨S2048, .f32⟩
  | 96 => ⟨S_, .i32⟩
  | 97 => ⟨S_, .f32⟩
  | 98 => ⟨S2048, .f32⟩
  | 99 => ⟨S1, .f32⟩
  | 100 => ⟨S_, .i32⟩
  | 101 => ⟨S_, .f32⟩
  | 102 => ⟨S2048, .f32⟩
  | 103 => ⟨S18432, .f32⟩
  | 104 => ⟨S144x128, .f32⟩
  | 105 => ⟨S_, .f32⟩
  | 106 => ⟨S144x128, .f32⟩
  | 107 => ⟨S144x128, .f32⟩
  | 108 => ⟨S_, .f32⟩
  | 109 => ⟨S144x128, .f32⟩
  | 110 => ⟨S144x128, .f32⟩
  | 111 => ⟨S144x128, .f32⟩
  | 112 => ⟨S_, .f32⟩
  | 113 => ⟨S144x128, .f32⟩
  | 114 => ⟨S144x128, .f32⟩
  | 115 => ⟨S144x128, .f32⟩
  | 116 => ⟨S_, .f32⟩
  | 117 => ⟨S144x128, .f32⟩
  | 118 => ⟨S144x128, .f32⟩
  | 119 => ⟨S144x128, .f32⟩
  | 120 => ⟨S_, .f32⟩
  | 121 => ⟨S144x128, .f32⟩
  | 122 => ⟨S144x128, .f32⟩
  | 123 => ⟨S_, .f32⟩
  | 124 => ⟨S144x128, .f32⟩
  | 125 => ⟨S144x128, .f32⟩
  | 126 => ⟨S144x128, .f32⟩
  | 127 => ⟨S_, .f32⟩
  | _ => ⟨S8x144x128, .f32⟩

abbrev hbmTy0_1 (i : Nat) : BufTy := match i % 128 with
  | 0 => ⟨S144x128, .f32⟩
  | 1 => ⟨S144x128, .f32⟩
  | 2 => ⟨S144x128, .f32⟩
  | 3 => ⟨S_, .f32⟩
  | 4 => ⟨S144x128, .f32⟩
  | 5 => ⟨S144x128, .f32⟩
  | 6 => ⟨S144x128, .f32⟩
  | 7 => ⟨S_, .f32⟩
  | 8 => ⟨S144x128, .f32⟩
  | 9 => ⟨S144x128, .f32⟩
  | 10 => ⟨S1x144x128, .f32⟩
  | 11 => ⟨S1x144x128, .f32⟩
  | 12 => ⟨S1x144x128, .f32⟩
  | 13 => ⟨S1x144x128, .f32⟩
  | _ => ⟨S8x144x128, .f32⟩

abbrev hbmTy (i : Nat) : BufTy := match i / 128 with
  | 0 => hbmTy0_0 i
  | 1 => hbmTy0_1 i
  | _ => ⟨S8x144x128, .f32⟩

abbrev bufTy : (tb : Table) → Fin (tcTables nBuf tb) → BufTy
  | .hbm, ⟨i, _⟩ => hbmTy i
  | _, _ => ⟨S8x144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_c : Ref sig .tc := ⟨.hbm, 32, rfl⟩
abbrev main_call0_v0 : Ref sig .tc := ⟨.hbm, 33, rfl⟩
abbrev main_v3 : Ref sig .tc := ⟨.hbm, 34, rfl⟩
abbrev main_v4 : Ref sig .tc := ⟨.hbm, 35, rfl⟩
abbrev main_c_0 : Ref sig .tc := ⟨.hbm, 36, rfl⟩
abbrev main_call1_v0 : Ref sig .tc := ⟨.hbm, 37, rfl⟩
abbrev main_v5 : Ref sig .tc := ⟨.hbm, 38, rfl⟩
abbrev main_v6 : Ref sig .tc := ⟨.hbm, 39, rfl⟩
abbrev main_c_1 : Ref sig .tc := ⟨.hbm, 40, rfl⟩
abbrev main_call2_v0 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_c_2 : Ref sig .tc := ⟨.hbm, 46, rfl⟩
abbrev main_call3_v0 : Ref sig .tc := ⟨.hbm, 47, rfl⟩
abbrev main_v11 : Ref sig .tc := ⟨.hbm, 48, rfl⟩
abbrev main_v12 : Ref sig .tc := ⟨.hbm, 49, rfl⟩
abbrev main_c_3 : Ref sig .tc := ⟨.hbm, 50, rfl⟩
abbrev main_call4_v0 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_4 : Ref sig .tc := ⟨.hbm, 57, rfl⟩
abbrev main_call5_v0 : Ref sig .tc := ⟨.hbm, 58, rfl⟩
abbrev main_v18 : Ref sig .tc := ⟨.hbm, 59, rfl⟩
abbrev main_v19 : Ref sig .tc := ⟨.hbm, 60, rfl⟩
abbrev main_c_5 : Ref sig .tc := ⟨.hbm, 61, rfl⟩
abbrev main_call6_v0 : Ref sig .tc := ⟨.hbm, 62, rfl⟩
abbrev main_v20 : Ref sig .tc := ⟨.hbm, 63, rfl⟩
abbrev main_v21 : Ref sig .tc := ⟨.hbm, 64, rfl⟩
abbrev main_c_6 : Ref sig .tc := ⟨.hbm, 65, rfl⟩
abbrev main_call7_v0 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_7 : Ref sig .tc := ⟨.hbm, 71, rfl⟩
abbrev main_call8_v0 : Ref sig .tc := ⟨.hbm, 72, rfl⟩
abbrev main_v26 : Ref sig .tc := ⟨.hbm, 73, rfl⟩
abbrev main_v27 : Ref sig .tc := ⟨.hbm, 74, rfl⟩
abbrev main_c_8 : Ref sig .tc := ⟨.hbm, 75, rfl⟩
abbrev main_call9_v0 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_c_9 : Ref sig .tc := ⟨.hbm, 82, rfl⟩
abbrev main_call10_v0 : Ref sig .tc := ⟨.hbm, 83, rfl⟩
abbrev main_v33 : Ref sig .tc := ⟨.hbm, 84, rfl⟩
abbrev main_v34 : Ref sig .tc := ⟨.hbm, 85, rfl⟩
abbrev main_c_10 : Ref sig .tc := ⟨.hbm, 86, rfl⟩
abbrev main_call11_v0 : Ref sig .tc := ⟨.hbm, 87, rfl⟩
abbrev main_v35 : Ref sig .tc := ⟨.hbm, 88, rfl⟩
abbrev main_v36 : Ref sig .tc := ⟨.hbm, 89, rfl⟩
abbrev main_c_11 : Ref sig .tc := ⟨.hbm, 90, rfl⟩
abbrev main_call12_v0 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_c_12 : Ref sig .tc := ⟨.hbm, 96, rfl⟩
abbrev main_call13_v0 : Ref sig .tc := ⟨.hbm, 97, rfl⟩
abbrev main_v41 : Ref sig .tc := ⟨.hbm, 98, rfl⟩
abbrev main_v42 : Ref sig .tc := ⟨.hbm, 99, rfl⟩
abbrev main_c_13 : Ref sig .tc := ⟨.hbm, 100, rfl⟩
abbrev main_call14_v0 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_cst_14 : Ref sig .tc := ⟨.hbm, 105, rfl⟩
abbrev main_v46 : Ref sig .tc := ⟨.hbm, 106, rfl⟩
abbrev main_v47 : Ref sig .tc := ⟨.hbm, 107, rfl⟩
abbrev main_cst_15 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_cst_16 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_cst_17 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_cst_18 : Ref sig .tc := ⟨.hbm, 120, rfl⟩
abbrev main_v57 : Ref sig .tc := ⟨.hbm, 121, rfl⟩
abbrev main_v58 : Ref sig .tc := ⟨.hbm, 122, rfl⟩
abbrev main_cst_19 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_cst_20 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_cst_21 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_cst_22 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩

abbrev nD : Nat := 1
abbrev τ : Topo := Topo.v7x

variable {F : FTy → Type} [FloatOps F]
-- ==== Proof.Reals.lean ====
/- Sums and products of extended reals as the value proofs use them: a nonnegative real factor goes in and out of a sum, sums and products
   of real numbers are real numbers, and the row identity behind the gradient of a softmax. Nothing here mentions a program. -/
module

public import Idealize.ShloMosaic.Lib.Pointwise
public import Idealize.ShloMosaic.Lib.IdealHost

@[expose] public section

noncomputable section

namespace Cert.Reals

open Idealize.ShloMosaic

/-- A value is a real number: neither infinity. -/
def IsReal (x : EReal) : Prop := ∃ r : ℝ, x = (r : EReal)

theorem isReal_coe (r : ℝ) : IsReal (r : EReal) := ⟨r, rfl⟩

theorem isReal_zero : IsReal 0 := ⟨0, rfl⟩

theorem isReal_of_ne {x : EReal} (ht : x ≠ ⊤) (hb : x ≠ ⊥) : IsReal x := ⟨x.toReal, (EReal.coe_toReal ht hb).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sum {ι : Type*} (S : Finset ι) {f : ι → EReal} (h : ∀ i, IsReal (f i)) : IsReal (∑ i ∈ S, f i) := by
  classical
  induction S using Finset.induction_on with
  | empty => exact isReal_zero
  | insert a S ha ih => rw [Finset.sum_insert ha]; exact (h a).add ih

/-- The sum of real numbers, taken among the extended reals. -/
theorem coe_sum {ι : Type*} (S : Finset ι) (f : ι → ℝ) : (∑ i ∈ S, ((f i : ℝ) : EReal)) = ((∑ i ∈ S, f i : ℝ) : EReal) := by
  classical
  induction S using Finset.induction_on with
  | empty => rfl
  | insert a S ha ih => rw [Finset.sum_insert ha, Finset.sum_insert ha, ih, EReal.coe_add]

/-- A nonnegative real factor distributes over a sum of two extended reals. -/
theorem coe_mul_add {c : ℝ} (hc : 0 ≤ c) (x y : EReal) : (c : EReal) * (x + y) = c * x + c * y :=
  EReal.left_distrib_of_nonneg_of_ne_top (EReal.coe_nonneg.2 hc) (EReal.coe_ne_top c) x y

/-- A nonnegative real factor distributes over any finite sum of extended reals. -/
theorem coe_mul_sum {ι : Type*} (S : Finset ι) {c : ℝ} (hc : 0 ≤ c) (f : ι → EReal) : (c : EReal) * ∑ i ∈ S, f i = ∑ i ∈ S, (c : EReal) * f i := by
  classical
  induction S using Finset.induction_on with
  | empty => simp
  | insert a S ha ih => rw [Finset.sum_insert ha, Finset.sum_insert ha, coe_mul_add hc, ih]

theorem sum_mul_coe {ι : Type*} (S : Finset ι) {c : ℝ} (hc : 0 ≤ c) (f : ι → EReal) : (∑ i ∈ S, f i) * (c : EReal) = ∑ i ∈ S, f i * (c : EReal) := by
  rw [mul_comm, coe_mul_sum S hc]
  exact Finset.sum_congr rfl fun i _ => mul_comm _ _

/-- Division by a nonzero real is multiplication by its inverse. -/
theorem div_coe {d : ℝ} (hd : d ≠ 0) (x : EReal) : Ideal.div x (d : EReal) = x * ((d⁻¹ : ℝ) : EReal) := by
  rw [Ideal.div_coe hd, one_div]

/-- The largest of finitely many real numbers, at least one of them, is a real number. -/
theorem isReal_fold_max {n : ℕ} (hn : 0 < n) {s : Fin n → EReal} (hs : ∀ i, IsReal (s i)) : IsReal (Finset.univ.fold max ⊥ s) := by
  have hle : ∀ i, s i ≤ Finset.univ.fold max ⊥ s := fun i => (Finset.le_fold_max _).2 (Or.inr ⟨i, Finset.mem_univ i, le_rfl⟩)
  refine isReal_of_ne ?_ ?_
  · intro h
    have h' := (Finset.fold_max_le (f := s) (b := ⊥) (s := Finset.univ) (c := Finset.univ.fold max ⊥ s)).1 le_rfl
    have hlt : Finset.univ.fold max ⊥ s < ⊤ := by
      refine (Finset.fold_max_lt _).2 ⟨bot_lt_top, fun i _ => ?_⟩
      obtain ⟨r, hr⟩ := hs i
      rw [hr]
      exact EReal.coe_lt_top r
    exact absurd h hlt.ne
  · intro h
    obtain ⟨r, hr⟩ := hs ⟨0, hn⟩
    have := hle ⟨0, hn⟩
    rw [h, hr] at this
    exact absurd (le_bot_iff.1 this) (EReal.coe_ne_bot r)

/-- The exponentials of a row of real scores against its largest score, and their sum: positive real numbers. -/
theorem exp_row {n : ℕ} (hn : 0 < n) {s : Fin n → EReal} (hs : ∀ i, IsReal (s i)) :
    ∃ (x : Fin n → ℝ) (d : ℝ), (∀ i, 0 < x i) ∧ 0 < d ∧ (∀ i, Ideal.exp (s i - Finset.univ.fold max ⊥ s) = (x i : EReal))
      ∧ (∑ i, Ideal.exp (s i - Finset.univ.fold max ⊥ s)) = (d : EReal) := by
  obtain ⟨M, hM⟩ := isReal_fold_max hn hs
  choose r hr using hs
  rw [hM]
  have he : ∀ i, Ideal.exp (s i - (M : EReal)) = ((Real.exp (r i - M) : ℝ) : EReal) := by
    intro i
    rw [hr i, ← EReal.coe_sub]
    rfl
  refine ⟨fun i => Real.exp (r i - M), ∑ i, Real.exp (r i - M), fun i => Real.exp_pos _, ?_, he, ?_⟩
  · have : Nonempty (Fin n) := ⟨⟨0, hn⟩⟩
    exact Finset.sum_pos (fun i _ => Real.exp_pos _) Finset.univ_nonempty
  · rw [← coe_sum]
    exact Finset.sum_congr rfl fun i _ => he i

/-- THE GRADIENT OF A SOFTMAX ROW. With `x / d` the probabilities of the row and `t` any incoming gradient: the probability times
    (`t` less the mean of `t`) is what differentiating `x / d` by the quotient rule gives. -/
theorem softmax_row {n : ℕ} (x : Fin n → ℝ) {d : ℝ} (hx : ∀ i, 0 < x i) (hd : 0 < d) (t : Fin n → EReal) (i : Fin n) :
    Ideal.div (x i : EReal) (d : EReal) * (t i - ∑ j, Ideal.div (x j : EReal) (d : EReal) * t j)
      = (Ideal.div (t i) (d : EReal) + -(∑ j, t j * Ideal.div 1 ((d : EReal) * (d : EReal)) * (x j : EReal))) * (x i : EReal) := by
  have hi : 0 ≤ d⁻¹ := inv_nonneg.2 hd.le
  have hsum : (∑ j, t j * Ideal.div 1 ((d : EReal) * (d : EReal)) * (x j : EReal)) = ((d⁻¹ : ℝ) : EReal) * ∑ j, Ideal.div (x j : EReal) (d : EReal) * t j := by
    rw [coe_mul_sum _ hi]
    refine Finset.sum_congr rfl fun j _ => ?_
    rw [← EReal.coe_mul, div_coe (mul_pos hd hd).ne', div_coe hd.ne', one_mul, mul_inv, EReal.coe_mul]
    ac_rfl
  rw [hsum, div_coe hd.ne', div_coe hd.ne', sub_eq_add_neg]
  generalize (∑ j, Ideal.div (x j : EReal) (d : EReal) * t j) = S
  have hxi : 0 ≤ x i * d⁻¹ := mul_nonneg (hx i).le hi
  rw [← EReal.coe_mul, coe_mul_add hxi, mul_comm (_ + _) (x i : EReal), coe_mul_add (hx i).le, EReal.coe_mul, mul_neg, mul_neg]
  congr 1
  · ac_rfl
  · rw [mul_assoc]

/-! ## Constants -/

/-- The single-precision pattern of minus infinity. -/
theorem ofBits_lowest : Ideal.ofBits .f32 0xFF800000#32 = ⊥ := by simp [Ideal.ofBits, Ideal.ieee]

/-- The single-precision pattern of infinity. -/
theorem ofBits_inf : Ideal.ofBits .f32 0x7F800000#32 = ⊤ := by simp [Ideal.ofBits, Ideal.ieee]

/-- The scale of the scores is a nonnegative real number. -/
theorem ofBits_scale : ∃ r : ℝ, 0 ≤ r ∧ Ideal.ofBits .f32 0x3DB504F3#32 = (r : EReal) := by
  refine ⟨11863283 * (2 : ℝ) ^ (-27 : Int), by positivity, ?_⟩
  simp [Ideal.ofBits, Ideal.ieee, -EReal.coe_mul]

/-- An absolute value below infinity belongs to a real number. -/
theorem isReal_of_abs_lt {x : EReal} (h : max x (-x) < ⊤) : IsReal x := by
  refine isReal_of_ne ?_ ?_
  · rintro rfl
    simp at h
  · rintro rfl
    simp at h

/-- The comparison `|x| < ∞` that a precondition makes: it holds of real numbers. -/
theorem isReal_of_test {x : EReal} (h : BitVec.ofBool (decide ((FloatOps.absf (F := Ideal) (φ := .f32) x : EReal) < Ideal.ofBits .f32 0x7F800000#32)) = 1#1) : IsReal x := by
  rw [ofBits_inf] at h
  apply isReal_of_abs_lt
  by_contra hn
  have hd : decide ((FloatOps.absf (F := Ideal) (φ := .f32) x : EReal) < ⊤) = false := decide_eq_false hn
  rw [hd] at h
  exact absurd h (by decide)

end Cert.Reals

end
-- ==== Proof.XaMath.lean ====
/- One head of the cross-attention, in plain sums: scores, probabilities, and the gradients of queries, keys and values. -/
module

public import proofs.«01_k».proof.Proof.Reals

@[expose] public section

noncomputable section

namespace Cert.Xa

open Idealize.ShloMosaic Cert.Reals

/-- The scale the scores are multiplied by: the single-precision number next to 1 / √128. -/
abbrev scale : EReal := Ideal.ofBits .f32 0x3DB504F3#32

/-- The start of a row maximum. -/
abbrev lowest : EReal := Ideal.ofBits .f32 0xFF800000#32

theorem lowest_eq : lowest = ⊥ := ofBits_lowest

theorem scale_real : ∃ r : ℝ, 0 ≤ r ∧ scale = (r : EReal) := ofBits_scale

variable (Q DO : Fin 4096 → Fin 128 → EReal) (K V : Fin 256 → Fin 128 → EReal)

def score (l : Fin 4096) (j : Fin 256) : EReal := (∑ d, Q l d * K j d) * scale
def ex (l : Fin 4096) (j : Fin 256) : EReal := Ideal.exp (score Q K l j - Finset.univ.fold max lowest (score Q K l))
def den (l : Fin 4096) : EReal := ∑ j, ex Q K l j
def prob (l : Fin 4096) (j : Fin 256) : EReal := Ideal.div (ex Q K l j) (den Q K l)
def dprob (l : Fin 4096) (j : Fin 256) : EReal := ∑ d, DO l d * V j d
/-- The gradient of a score, as the kernel forms it: probability times (gradient less its mean). -/
def dscore (l : Fin 4096) (j : Fin 256) : EReal := prob Q K l j * (dprob DO V l j - ∑ j', prob Q K l j' * dprob DO V l j')

/-- With real queries and keys, the score gradient is the quotient rule's. -/
theorem dscore_eq (hQ : ∀ l d, IsReal (Q l d)) (hK : ∀ j d, IsReal (K j d)) (l : Fin 4096) (j : Fin 256) :
    (Ideal.div (dprob DO V l j) (den Q K l) + -(∑ j', dprob DO V l j' * Ideal.div 1 (den Q K l * den Q K l) * ex Q K l j')) * ex Q K l j = dscore Q DO K V l j := by
  have hs : ∀ j, IsReal (score Q K l j) := fun j => by
    obtain ⟨r, -, hr⟩ := scale_real
    exact (IsReal.sum _ fun d => (hQ l d).mul (hK j d)).mul ⟨r, hr⟩
  obtain ⟨x, d, hx, hd, he, hsum⟩ := exp_row (n := 256) (by decide) hs
  have hex : ∀ j, ex Q K l j = (x j : EReal) := fun j => by
    rw [← he j]
    unfold ex
    simp only [lowest_eq]
  have hden : den Q K l = (d : EReal) := by
    rw [← hsum]
    unfold den ex
    simp only [lowest_eq]
  unfold dscore prob
  simp only [hex, hden]
  exact (softmax_row x hx hd (dprob DO V l) j).symm

/-- Column `d` of head `h` in a row of four heads of 128 columns. -/
def col (h : Fin 4) (d : Fin 128) : Fin 512 := ⟨h.val * 128 + d.val, by omega⟩

/-- The same column of the keys, in a row that holds the keys and then the values. -/
def colK (h : Fin 4) (d : Fin 128) : Fin 1024 := ⟨h.val * 128 + d.val, by omega⟩

/-- The same column of the values. -/
def colV (h : Fin 4) (d : Fin 128) : Fin 1024 := ⟨512 + (h.val * 128 + d.val), by omega⟩

/-- The head and the column inside the head of a column. -/
def headOf (x : Fin 512) : Fin 4 := ⟨x.val / 128, by omega⟩
def laneOf (x : Fin 512) : Fin 128 := ⟨x.val % 128, by omega⟩

theorem headOf_col (h : Fin 4) (d : Fin 128) : headOf (col h d) = h := by
  apply Fin.ext
  simp only [headOf, col]
  omega

theorem laneOf_col (h : Fin 4) (d : Fin 128) : laneOf (col h d) = d := by
  apply Fin.ext
  simp only [laneOf, col]
  omega

variable (q dO : Fin 4096 → Fin 512 → EReal) (kv : Fin 256 → Fin 1024 → EReal)

/-- The score gradients of head `h`, from the whole arrays. -/
def headScore (h : Fin 4) : Fin 4096 → Fin 256 → EReal :=
  dscore (fun l d => q l (col h d)) (fun l d => dO l (col h d)) (fun j d => kv j (colK h d)) (fun j d => kv j (colV h d))

/-- The probabilities of head `h`, from the whole arrays. -/
def headProb (h : Fin 4) : Fin 4096 → Fin 256 → EReal := prob (fun l d => q l (col h d)) (fun j d => kv j (colK h d))

/-- The three gradients, at a row and a column of head `h`. -/
def dq (h : Fin 4) (l : Fin 4096) (d : Fin 128) : EReal := (∑ j, headScore q dO kv h l j * kv j (colK h d)) * scale
def dk (h : Fin 4) (j : Fin 256) (d : Fin 128) : EReal := (∑ l, headScore q dO kv h l j * q l (col h d)) * scale
def dv (h : Fin 4) (j : Fin 256) (d : Fin 128) : EReal := ∑ l, headProb q kv h l j * dO l (col h d)

end Cert.Xa

end
-- ==== Proof.XaBlock.lean ====
module

public import proofs.«01_k».proof.Proof.XaMath
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Xa

variable (x0 x3 : Vec Ideal S4096x128 .f32) (x1 x2 : Vec Ideal S256x128 .f32)

theorem prob_block (l : Fin 4096) (j : Fin 256) :
    k0_pay7 (F := Ideal) x0 x1 (ix2 l j) = prob (fun l d => x0 (ix2 l d)) (fun j d => x1 (ix2 j d)) l j := by
  pointwise [k0_pay7, k0_pay5, k0_pay6, prob, ex, den, score, scale, lowest]

theorem dscore_block (l : Fin 4096) (j : Fin 256) :
    k0_pay9 (F := Ideal) x0 x1 x2 x3 (ix2 l j) = dscore (fun l d => x0 (ix2 l d)) (fun l d => x3 (ix2 l d)) (fun j d => x1 (ix2 j d)) (fun j d => x2 (ix2 j d)) l j := by
  pointwise [k0_pay9, k0_pay8, prob_block, dscore, dprob]

theorem dq_block (l : Fin 4096) (d : Fin 128) :
    k0_pay10 (F := Ideal) x0 x1 x2 x3 (ix2 l d) = (∑ j, dscore (fun l d => x0 (ix2 l d)) (fun l d => x3 (ix2 l d)) (fun j d => x1 (ix2 j d)) (fun j d => x2 (ix2 j d)) l j * x1 (ix2 j d)) * scale := by
  pointwise [k0_pay10, k0_pay6, dscore_block, scale]

theorem dk_block (j : Fin 256) (d : Fin 128) :
    k0_pay1 (F := Ideal) (k0_pay5 x0) (k0_pay9 x0 x1 x2 x3) (k0_pay3 (F := Ideal)) (ix2 j d) = (∑ l, dscore (fun l d => x0 (ix2 l d)) (fun l d => x3 (ix2 l d)) (fun j d => x1 (ix2 j d)) (fun j d => x2 (ix2 j d)) l j * x0 (ix2 l d)) * scale := by
  pointwise [k0_pay1, k0_pay5, k0_pay3, dscore_block, scale]

theorem dv_block (j : Fin 256) (d : Fin 128) :
    k0_pay2 (F := Ideal) (k0_pay7 x0 x1) (k0_pay8 x3) (k0_pay4 (F := Ideal)) (ix2 j d) = ∑ l, prob (fun l d => x0 (ix2 l d)) (fun j d => x1 (ix2 j d)) l j * x3 (ix2 l d) := by
  pointwise [k0_pay2, k0_pay8, k0_pay4, prob_block]

/-! ## The arrays -/

variable (m : (ℓ : Loc nD τ sig) → Buf (Elt Ideal) ℓ)

abbrev argQ (c : Dev nD) : Fin 4096 → Fin 512 → EReal := fun l x => (m ((c : Thread nD τ).loc main_arg0) : Vec Ideal S4096x512 .f32) (ix2 l x)
abbrev argKV (c : Dev nD) : Fin 256 → Fin 1024 → EReal := fun l x => (m ((c : Thread nD τ).loc main_arg1) : Vec Ideal S256x1024 .f32) (ix2 l x)
abbrev argDO (c : Dev nD) : Fin 4096 → Fin 512 → EReal := fun l x => (m ((c : Thread nD τ).loc main_arg2) : Vec Ideal S4096x512 .f32) (ix2 l x)

theorem idx : ∀ t : Fin cfg0.N, win0_0.index t = ![0, t.val] ∧ win0_1.index t = ![0, t.val] ∧ win0_2.index t = ![0, t.val + 4] ∧ win0_3.index t = ![0, t.val]
    ∧ win0_4.index t = ![0, t.val] ∧ win0_5.index t = ![0, t.val] ∧ win0_6.index t = ![0, t.val] :=
  (by decide +kernel : ∀ t : Fin grid0.N, _)

/-- The head a grid point works on. -/
def hd (t : Fin cfg0.N) : Fin 4 := ⟨t.val, t.isLt⟩

theorem blk_q (c : Dev nD) (t : Fin cfg0.N) (l : Fin 4096) (d : Fin 128) : iblk m c 0 t (ix2 l d) = argQ m c l (col (hd t) d) := by
  blk_point [iblk, V, idx t, col, hd]

theorem blk_k (c : Dev nD) (t : Fin cfg0.N) (l : Fin 256) (d : Fin 128) : iblk m c 1 t (ix2 l d) = argKV m c l (colK (hd t) d) := by
  blk_point [iblk, V, idx t, colK, hd]

theorem blk_v (c : Dev nD) (t : Fin cfg0.N) (l : Fin 256) (d : Fin 128) : iblk m c 2 t (ix2 l d) = argKV m c l (colV (hd t) d) := by
  blk_point [iblk, V, idx t, colV, hd]

theorem blk_do (c : Dev nD) (t : Fin cfg0.N) (l : Fin 4096) (d : Fin 128) : iblk m c 3 t (ix2 l d) = argDO m c l (col (hd t) d) := by
  blk_point [iblk, V, idx t, col, hd]

/-- The three arrays of results. -/
def dqArr (c : Dev nD) : Vec Ideal S4096x512 .f32 := fun i => dq (argQ m c) (argDO m c) (argKV m c) (headOf (i 1)) (i 0) (laneOf (i 1))
def dkArr (c : Dev nD) : Vec Ideal S256x512 .f32 := fun i => dk (argQ m c) (argDO m c) (argKV m c) (headOf (i 1)) (i 0) (laneOf (i 1))
def dvArr (c : Dev nD) : Vec Ideal S256x512 .f32 := fun i => dv (argQ m c) (argDO m c) (argKV m c) (headOf (i 1)) (i 0) (laneOf (i 1))

theorem emb4 (t : Fin cfg0.N) (l : Fin 4096) (d : Fin 128) : ((cfg0.win 4).blk t).view.emb (ix2 l d) = ix2 l (col (hd t) d) := by
  blk_point [idx t, col, hd]

theorem emb5 (t : Fin cfg0.N) (l : Fin 256) (d : Fin 128) : ((cfg0.win 5).blk t).view.emb (ix2 l d) = ix2 l (col (hd t) d) := by
  blk_point [idx t, col, hd]

theorem emb6 (t : Fin cfg0.N) (l : Fin 256) (d : Fin 128) : ((cfg0.win 6).blk t).view.emb (ix2 l d) = ix2 l (col (hd t) d) := by
  blk_point [idx t, col, hd]

theorem point4 (c : Dev nD) (t : Fin cfg0.N) (l : Fin 4096) (d : Fin 128) :
    k0_pay10 (F := Ideal) (iblk m c 0 t) (iblk m c 1 t) (iblk m c 2 t) (iblk m c 3 t) (ix2 l d) = dqArr m c (((cfg0.win 4).blk t).view.emb (ix2 l d)) := by
  rw [emb4, dq_block]
  simp only [blk_q, blk_k, blk_v, blk_do]
  show _ = dq (argQ m c) (argDO m c) (argKV m c) (headOf (col (hd t) d)) l (laneOf (col (hd t) d))
  rw [headOf_col, laneOf_col]
  rfl

theorem final4 (c : Dev nD) : (dats m 0 c).arrAt 4 cfg0.N = dqArr m c := by
  refine (dats m 0 c).arrAt_eq_of_covers 4 _ (by decide +kernel) fun t _ y => ?_
  blk_simp
  rw [after0_4]
  simp only [outsAt0]
  frame_out
  idx_vars y
  exact point4 m c t y0 y1

theorem point5 (c : Dev nD) (t : Fin cfg0.N) (l : Fin 256) (d : Fin 128) :
    k0_pay1 (F := Ideal) (k0_pay5 (iblk m c 0 t)) (k0_pay9 (iblk m c 0 t) (iblk m c 1 t) (iblk m c 2 t) (iblk m c 3 t)) (k0_pay3 (F := Ideal)) (ix2 l d) = dkArr m c (((cfg0.win 5).blk t).view.emb (ix2 l d)) := by
  rw [emb5, dk_block]
  simp only [blk_q, blk_k, blk_v, blk_do]
  show _ = dk (argQ m c) (argDO m c) (argKV m c) (headOf (col (hd t) d)) l (laneOf (col (hd t) d))
  rw [headOf_col, laneOf_col]
  rfl

theorem final5 (c : Dev nD) : (dats m 0 c).arrAt 5 cfg0.N = dkArr m c := by
  refine (dats m 0 c).arrAt_eq_of_covers 5 _ (by decide +kernel) fun t _ y => ?_
  blk_simp
  rw [after0_5]
  simp only [outsAt0]
  frame_out
  idx_vars y
  exact point5 m c t y0 y1

theorem point6 (c : Dev nD) (t : Fin cfg0.N) (l : Fin 256) (d : Fin 128) :
    k0_pay2 (F := Ideal) (k0_pay7 (iblk m c 0 t) (iblk m c 1 t)) (k0_pay8 (iblk m c 3 t)) (k0_pay4 (F := Ideal)) (ix2 l d) = dvArr m c (((cfg0.win 6).blk t).view.emb (ix2 l d)) := by
  rw [emb6, dv_block]
  simp only [blk_q, blk_k, blk_v, blk_do]
  show _ = dv (argQ m c) (argDO m c) (argKV m c) (headOf (col (hd t) d)) l (laneOf (col (hd t) d))
  rw [headOf_col, laneOf_col]
  rfl

theorem final6 (c : Dev nD) : (dats m 0 c).arrAt 6 cfg0.N = dvArr m c := by
  refine (dats m 0 c).arrAt_eq_of_covers 6 _ (by decide +kernel) fun t _ y => ?_
  blk_simp
  rw [after0_6]
  simp only [outsAt0]
  frame_out
  idx_vars y
  exact point6 m c t y0 y1

end Cert.KernelIdeal.Value

end
-- ==== Proof.XaRef.lean ====
module

public import proofs.«01_k».proof.Proof.XaMath
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Xa

variable (q dO : Vec Ideal S4096x512 .f32) (kv : Vec Ideal S256x1024 .f32)

abbrev q4 : FVec Ideal S1x4096x4x128 .f32 := shapeCast _ q shapeCasts_S4096x512_S1x4096x4x128
abbrev k4 : FVec Ideal S1x256x4x128 .f32 := shapeCast _ (extractStridedSlice S256x512 ![0, 0] kv slices_S256x1024_S256x512_0_0) shapeCasts_S256x512_S1x256x4x128
abbrev v4 : FVec Ideal S1x256x4x128 .f32 := shapeCast _ (extractStridedSlice S256x512 ![0, 512] kv slices_S256x1024_S256x512_0_512) shapeCasts_S256x512_S1x256x4x128

/-- Scores, their row maximum, exponentials, their row sum, probabilities. -/
def rS : FVec Ideal S1x4x4096x256 .f32 :=
  mulf (Host.dotGeneral dot_S1x4096x4x128_S1x256x4x128_S1x4x4096x256_3_3_1_1_02_02 none (q4 q) (k4 kv)) (broadcastInDim S1x4x4096x256 ![] bcast_S_S1x4x4096x256 (constant S_ .f32 0x3DB504F3#32))
def rMax : FVec Ideal S1x4x4096 .f32 :=
  maximumf (broadcastInDim S1x4x4096 ![] bcast_S_S1x4x4096 (constant S_ .f32 0xFF800000#32)) (Host.reduce FloatOps.maximumf (rS q kv) (constant S_ .f32 0xFF800000#32) reducesTo_S1x4x4096x256_S1x4x4096_d3 h_S_)
def rE : FVec Ideal S1x4x4096x256 .f32 :=
  Host.exp (subf (rS q kv) (broadcastInDim S1x4x4096x256 ![0, 1, 2, 3] bcast_S1x4x4096x1_S1x4x4096x256_0_1_2_3 (broadcastInDim S1x4x4096x1 ![0, 1, 2] bcast_S1x4x4096_S1x4x4096x1_0_1_2 (rMax q kv))))
def rD : FVec Ideal S1x4x4096x1 .f32 :=
  broadcastInDim S1x4x4096x1 ![0, 1, 2] bcast_S1x4x4096_S1x4x4096x1_0_1_2 (Host.reduceAdd (rE q kv) (constant S_ .f32 0x00000000#32) reducesTo_S1x4x4096x256_S1x4x4096_d3 h_S_)
def rP : FVec Ideal S1x4x4096x256 .f32 := Host.divf (rE q kv) (broadcastInDim S1x4x4096x256 ![0, 1, 2, 3] bcast_S1x4x4096x1_S1x4x4096x256_0_1_2_3 (rD q kv))
abbrev do4 : FVec Ideal S1x4x128x4096 .f32 := transpose S1x4x128x4096 [0, 2, 3, 1] (shapeCast _ dO shapeCasts_S4096x512_S1x4096x4x128) transposes_S1x4096x4x128_S1x4x128x4096_0_2_3_1
/-- The gradient of the probabilities. -/
def rDP : FVec Ideal S1x4x4096x256 .f32 := Host.dotGeneral dot_S1x4x128x4096_S1x256x4x128_S1x4x4096x256_2_3_3_1_01_02 none (do4 dO) (v4 kv)
/-- The row sums that the quotient rule subtracts. -/
def rC : FVec Ideal S1x4x4096 .f32 :=
  Host.reduceAdd (mulf (mulf (rDP dO kv) (broadcastInDim S1x4x4096x256 ![0, 1, 2, 3] bcast_S1x4x4096x1_S1x4x4096x256_0_1_2_3 (Host.divf (broadcastInDim S1x4x4096x1 ![] bcast_S_S1x4x4096x1 (constant S_ .f32 0x3F800000#32)) (mulf (rD q kv) (rD q kv))))) (rE q kv)) (constant S_ .f32 0x00000000#32) reducesTo_S1x4x4096x256_S1x4x4096_d3 h_S_
/-- The gradient of the scores. -/
def rDS : FVec Ideal S1x4x4096x256 .f32 :=
  mulf (mulf (addf (Host.divf (rDP dO kv) (broadcastInDim S1x4x4096x256 ![0, 1, 2, 3] bcast_S1x4x4096x1_S1x4x4096x256_0_1_2_3 (rD q kv)))
    (broadcastInDim S1x4x4096x256 ![0, 1, 2] bcast_S1x4x4096_S1x4x4096x256_0_1_2 (broadcastInDim S1x4x4096 ![1, 2] bcast_S4x4096_S1x4x4096_1_2
      (Host.reduceAdd (Host.negf (shapeCast _ (rC q dO kv) shapeCasts_S1x4x4096_S1x4x4096x1)) (constant S_ .f32 0x00000000#32) reducesTo_S1x4x4096x1_S4x4096_d0_3 h_S_)))) (rE q kv))
    (broadcastInDim S1x4x4096x256 ![] bcast_S_S1x4x4096x256 (constant S_ .f32 0x3DB504F3#32))
def rDQ : FVec Ideal S4096x512 .f32 :=
  shapeCast _ (transpose S1x4096x4x128 [0, 2, 1, 3] (Host.dotGeneral dot_S1x4x4096x256_S1x256x4x128_S1x4x4096x128_3_1_2_3_01_02 none (rDS q dO kv) (k4 kv)) transposes_S1x4x4096x128_S1x4096x4x128_0_2_1_3) shapeCasts_S1x4096x4x128_S4096x512
def rDK : FVec Ideal S256x512 .f32 :=
  shapeCast _ (transpose S1x256x4x128 [0, 2, 1, 3] (Host.dotGeneral dot_S1x4x4096x256_S1x4096x4x128_S1x4x256x128_2_1_3_3_01_02 none (rDS q dO kv) (q4 q)) transposes_S1x4x256x128_S1x256x4x128_0_2_1_3) shapeCasts_S1x256x4x128_S256x512
def rDV : FVec Ideal S256x512 .f32 :=
  shapeCast _ (transpose S1x256x4x128 [0, 3, 1, 2] (Host.dotGeneral dot_S1x4x128x4096_S1x4x4096x256_S1x4x128x256_3_2_2_3_01_01 none (do4 dO) (rP q kv)) transposes_S1x4x128x256_S1x256x4x128_0_3_1_2) shapeCasts_S1x256x4x128_S256x512

section
variable (m : (ℓ : Loc nD τ sig) → Buf (Elt Ideal) ℓ) (c : Dev nD)
theorem res_dq : res_main_v65 m c = rDQ (m ((c.tc : Thread nD τ).loc main_arg0)) (m ((c.tc : Thread nD τ).loc main_arg2)) (m ((c.tc : Thread nD τ).loc main_arg1)) := rfl
theorem res_dk : res_main_v64 m c = rDK (m ((c.tc : Thread nD τ).loc main_arg0)) (m ((c.tc : Thread nD τ).loc main_arg2)) (m ((c.tc : Thread nD τ).loc main_arg1)) := rfl
end

theorem q4_at (h : Fin 4) (l : Fin 4096) (d : Fin 128) : q4 q (ix4 0 l h d) = q (ix2 l (col h d)) := by
  pointwise [q4, col]
theorem k4_at (h : Fin 4) (l : Fin 256) (d : Fin 128) : k4 kv (ix4 0 l h d) = kv (ix2 l (colK h d)) := by
  pointwise [k4, colK]
theorem v4_at (h : Fin 4) (l : Fin 256) (d : Fin 128) : v4 kv (ix4 0 l h d) = kv (ix2 l (colV h d)) := by
  pointwise [v4, colV]
theorem do4_at (h : Fin 4) (l : Fin 4096) (d : Fin 128) : do4 dO (ix4 0 h d l) = dO (ix2 l (col h d)) := by
  pointwise [do4, col]

abbrev headQ (h : Fin 4) : Fin 4096 → Fin 128 → EReal := fun l d => q (ix2 l (col h d))
abbrev headK (h : Fin 4) : Fin 256 → Fin 128 → EReal := fun j d => kv (ix2 j (colK h d))
abbrev headV (h : Fin 4) : Fin 256 → Fin 128 → EReal := fun j d => kv (ix2 j (colV h d))

theorem rS_at (h : Fin 4) (l : Fin 4096) (j : Fin 256) : rS q kv (ix4 0 h l j) = score (headQ q h) (headK kv h) l j := by
  unfold rS
  pointwise [score, scale, colK, col, headQ, headK]

theorem rowMax_at (s : FVec Ideal S1x4x4096x256 .f32) (h : Fin 4) (l : Fin 4096) :
    (Host.reduce FloatOps.maximumf s (constant S_ .f32 0xFF800000#32) reducesTo_S1x4x4096x256_S1x4x4096_d3 h_S_ : FVec Ideal S1x4x4096 .f32) (ix3 0 h l)
      = Finset.univ.fold max lowest (fun j => s (ix4 0 h l j)) := by
  pointwise [lowest]

theorem max_at (a b : FVec Ideal S1x4x4096 .f32) (h : Fin 4) (l : Fin 4096) : maximumf a b (ix3 0 h l) = max (a (ix3 0 h l)) (b (ix3 0 h l)) := by
  pointwise []

theorem lowest_at (h : Fin 4) (l : Fin 4096) :
    (broadcastInDim S1x4x4096 ![] bcast_S_S1x4x4096 (constant S_ .f32 0xFF800000#32) : FVec Ideal S1x4x4096 .f32) (ix3 0 h l) = lowest := by
  pointwise [lowest]

theorem rMax_at (h : Fin 4) (l : Fin 4096) :
    rMax q kv (ix3 0 h l) = max lowest (Finset.univ.fold max lowest (score (headQ q h) (headK kv h) l)) := by
  unfold rMax
  rw [max_at, lowest_at, rowMax_at]
  simp only [rS_at]

/-- A sum over two axes of one element each is that element. -/
theorem sum_unit_axes (x : FVec Ideal S1x4x4096x1 .f32) (h : Fin 4) (l : Fin 4096) :
    Ideal.hostReduceAdd reducesTo_S1x4x4096x1_S4x4096_d0_3 x 0 (ix2 h l) = x (ix4 0 h l 0) := by
  have hf : (Finset.univ.filter fun i => reducesTo_S1x4x4096x1_S4x4096_d0_3.drop i = ix2 h l) = {ix4 (0 : Fin 1) h l (0 : Fin 1)} := by
    ext i
    simp only [Finset.mem_filter, Finset.mem_univ, true_and, Finset.mem_singleton]
    constructor
    · intro e
      idx_vars i
      have e0 : i1 = h := congrFun e 0
      have e1 : i2 = l := congrFun e 1
      rw [e0, e1, Subsingleton.elim i0 0, Subsingleton.elim i3 0]
    · intro e
      rw [e]
      funext b
      refine Fin.cases rfl (fun b => ?_) b
      exact Fin.cases rfl (fun b => b.elim0) b
  unfold Ideal.hostReduceAdd
  rw [hf, Finset.sum_singleton, zero_add]

theorem rE_at (h : Fin 4) (l : Fin 4096) (j : Fin 256) :
    rE q kv (ix4 0 h l j) = Ideal.exp (score (headQ q h) (headK kv h) l j - max lowest (Finset.univ.fold max lowest (score (headQ q h) (headK kv h) l))) := by
  unfold rE
  pointwise [rS_at, rMax_at]

theorem rD_at (h : Fin 4) (l : Fin 4096) : rD q kv (ix4 0 h l 0) = ∑ j, rE q kv (ix4 0 h l j) := by
  pointwise [rD]

theorem rP_at (h : Fin 4) (l : Fin 4096) (j : Fin 256) : rP q kv (ix4 0 h l j) = Ideal.div (rE q kv (ix4 0 h l j)) (rD q kv (ix4 0 h l 0)) := by
  pointwise [rP]

theorem rDP_at (h : Fin 4) (l : Fin 4096) (j : Fin 256) : rDP dO kv (ix4 0 h l j) = dprob (headQ dO h) (headV kv h) l j := by
  pointwise [rDP, dprob, colV, col, headQ, headV]

theorem rC_at (h : Fin 4) (l : Fin 4096) : rC q dO kv (ix3 0 h l)
    = ∑ j, rDP dO kv (ix4 0 h l j) * Ideal.div 1 (rD q kv (ix4 0 h l 0) * rD q kv (ix4 0 h l 0)) * rE q kv (ix4 0 h l j) := by
  pointwise [rC]

theorem rDS_at (h : Fin 4) (l : Fin 4096) (j : Fin 256) : rDS q dO kv (ix4 0 h l j)
    = (Ideal.div (rDP dO kv (ix4 0 h l j)) (rD q kv (ix4 0 h l 0)) + -(rC q dO kv (ix3 0 h l))) * rE q kv (ix4 0 h l j) * scale := by
  pointwise [rDS, scale]
  rw [sum_unit_axes]
  pointwise []

theorem rDQ_at (h : Fin 4) (l : Fin 4096) (d : Fin 128) : rDQ q dO kv (ix2 l (col h d)) = ∑ j, rDS q dO kv (ix4 0 h l j) * kv (ix2 j (colK h d)) := by
  pointwise [rDQ, col, colK]

theorem rDK_at (h : Fin 4) (j : Fin 256) (d : Fin 128) : rDK q dO kv (ix2 j (col h d)) = ∑ l, rDS q dO kv (ix4 0 h l j) * q (ix2 l (col h d)) := by
  pointwise [rDK, col]

theorem rDV_at (h : Fin 4) (j : Fin 256) (d : Fin 128) : rDV q dO kv (ix2 j (col h d)) = ∑ l, dO (ix2 l (col h d)) * rP q kv (ix4 0 h l j) := by
  pointwise [rDV, col]

end Cert.ReferenceIdeal.Value

end
-- ==== Proof.XaEq.lean ====
/- The cross-attention's gradients: the reference's three arrays are the ones the kernel computes, for real queries, keys and values. -/
module

public import proofs.«01_k».proof.Proof.XaRef

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Xa Cert.Reals

variable (q dO : Vec Ideal S4096x512 .f32) (kv : Vec Ideal S256x1024 .f32)

abbrev rows (x : Vec Ideal S4096x512 .f32) : Fin 4096 → Fin 512 → EReal := fun l c => x (ix2 l c)
abbrev rowsKV (x : Vec Ideal S256x1024 .f32) : Fin 256 → Fin 1024 → EReal := fun l c => x (ix2 l c)

theorem rE_eq (h : Fin 4) (l : Fin 4096) (j : Fin 256) : rE q kv (ix4 0 h l j) = ex (headQ q h) (headK kv h) l j := by
  rw [rE_at, lowest_eq, max_eq_right bot_le]
  unfold ex
  rw [lowest_eq]

theorem rD_eq (h : Fin 4) (l : Fin 4096) : rD q kv (ix4 0 h l 0) = den (headQ q h) (headK kv h) l := by
  rw [rD_at]
  exact Finset.sum_congr rfl fun j _ => rE_eq q kv h l j

theorem rP_eq (h : Fin 4) (l : Fin 4096) (j : Fin 256) : rP q kv (ix4 0 h l j) = headProb (rows q) (rowsKV kv) h l j := by
  rw [rP_at, rE_eq, rD_eq]
  rfl

theorem rDS_eq (hq : ∀ i, IsReal (q i)) (hkv : ∀ i, IsReal (kv i)) (h : Fin 4) (l : Fin 4096) (j : Fin 256) :
    rDS q dO kv (ix4 0 h l j) = headScore (rows q) (rows dO) (rowsKV kv) h l j * scale := by
  rw [rDS_at, rC_at]
  simp only [rDP_at, rD_eq, rE_eq]
  rw [dscore_eq _ _ _ _ (fun l d => hq _) (fun j d => hkv _)]
  rfl

theorem rDQ_eq (hq : ∀ i, IsReal (q i)) (hkv : ∀ i, IsReal (kv i)) (h : Fin 4) (l : Fin 4096) (d : Fin 128) :
    rDQ q dO kv (ix2 l (col h d)) = dq (rows q) (rows dO) (rowsKV kv) h l d := by
  obtain ⟨r, hr, hs⟩ := scale_real
  rw [rDQ_at]
  unfold dq
  simp only [rDS_eq q dO kv hq hkv, hs]
  rw [sum_mul_coe _ hr]
  exact Finset.sum_congr rfl fun j _ => mul_right_comm _ _ _

theorem rDK_eq (hq : ∀ i, IsReal (q i)) (hkv : ∀ i, IsReal (kv i)) (h : Fin 4) (j : Fin 256) (d : Fin 128) :
    rDK q dO kv (ix2 j (col h d)) = dk (rows q) (rows dO) (rowsKV kv) h j d := by
  obtain ⟨r, hr, hs⟩ := scale_real
  rw [rDK_at]
  unfold dk
  simp only [rDS_eq q dO kv hq hkv, hs]
  rw [sum_mul_coe _ hr]
  exact Finset.sum_congr rfl fun j _ => mul_right_comm _ _ _

theorem rDV_eq (h : Fin 4) (j : Fin 256) (d : Fin 128) : rDV q dO kv (ix2 j (col h d)) = dv (rows q) (rows dO) (rowsKV kv) h j d := by
  rw [rDV_at]
  simp only [rP_eq]
  exact Finset.sum_congr rfl fun l _ => mul_comm _ _

/-- Every column is a column of its head. -/
theorem col_split (x : Fin 512) : x = col (headOf x) (laneOf x) := by
  apply Fin.ext
  simp only [col, headOf, laneOf]
  omega

theorem rDQ_arr (hq : ∀ i, IsReal (q i)) (hkv : ∀ i, IsReal (kv i)) :
    rDQ q dO kv = fun i => dq (rows q) (rows dO) (rowsKV kv) (headOf (i 1)) (i 0) (laneOf (i 1)) := by
  funext i
  idx_vars i
  conv_lhs => rw [col_split i1]
  exact rDQ_eq q dO kv hq hkv _ _ _

theorem rDK_arr (hq : ∀ i, IsReal (q i)) (hkv : ∀ i, IsReal (kv i)) :
    rDK q dO kv = fun i => dk (rows q) (rows dO) (rowsKV kv) (headOf (i 1)) (i 0) (laneOf (i 1)) := by
  funext i
  idx_vars i
  conv_lhs => rw [col_split i1]
  exact rDK_eq q dO kv hq hkv _ _ _

theorem rDV_arr : rDV q dO kv = fun i => dv (rows q) (rows dO) (rowsKV kv) (headOf (i 1)) (i 0) (laneOf (i 1)) := by
  funext i
  idx_vars i
  conv_lhs => rw [col_split i1]
  exact rDV_eq q dO kv _ _ _

end Cert.ReferenceIdeal.Value

end
-- ==== Proof.XaPre.lean ====
/- What the precondition says: every element of the queries and of the keys and values is a real number. -/
module

public import proofs.«01_k».proof.Proof.Reals
public import proofs.«01_k».proof.Proof.Gen.Pre_finite_q_kv
public import Idealize.ShloMosaic.Lib.Pipeline.ValueKit
public import Idealize.ShloMosaic.Lib.ReduceAll

@[expose] public section

set_option maxRecDepth 16384

noncomputable section

open Idealize.ShloMosaic

namespace Cert.Pre_finite_q_kv

open Cert.Pre_finite_q_kv.Gen Cert.Reals

theorem finite_of_fn (q dO : FVec Ideal S4096x512 .f32) (kv : FVec Ideal S256x1024 .f32) (i0 : S_.Idx) (h : fn (F := Ideal) q kv dO i0 = 1#1) :
    (∀ i, IsReal (q i)) ∧ ∀ i, IsReal (kv i) := by
  dsimp only [fn] at h
  have hand := IntOp.andi_eq_one.1 h
  have hS : Subsingleton S_.Idx := ⟨fun a b => funext fun x => x.elim0⟩
  refine ⟨fun i => ?_, fun i => ?_⟩
  · have test := Host.reduce_andi_all _ _ _ _ _ hand.1 i
    idx_vars i
    pointwise at test
    exact isReal_of_test test
  · have test := Host.reduce_andi_all _ _ _ _ _ hand.2 i
    idx_vars i
    pointwise at test
    exact isReal_of_test test

end Cert.Pre_finite_q_kv

end
-- ==== Proof.XaClaim.lean ====
/- The value claim of the cross-attention's backward call: both programs run and end with equal gradients. -/
module

public import proofs.«01_k».proof.Defs
public import proofs.«01_k».proof.Proof.XaBlock
public import proofs.«01_k».proof.Proof.XaEq
public import proofs.«01_k».proof.Proof.XaPre
public import Idealize.ShloMosaic.Lib.Claim

@[expose] public section

set_option maxRecDepth 16384

noncomputable section

namespace Cert.Xa

open Idealize.ShloMosaic Idealize.ShloMosaic.TcCoe Idealize.SL.Sem

theorem value : Cert.algebraic_KernelIdeal_ReferenceIdeal_pre_finite_q_kv := by
  intro m g m' g' hpre hargs
  have hfin := fun c => Cert.Pre_finite_q_kv.finite_of_fn _ _ _ (fun a => a.elim0) (congrFun (hpre c) (fun a => a.elim0))
  refine ⟨fun c => Cert.KernelIdeal.Value.dqArr m c, fun c => Cert.KernelIdeal.Value.dkArr m c, fun c => Cert.KernelIdeal.Value.dvArr m c, ?_, ?_⟩
  · refine (θ_run _ _ _).mono (fun r h c => ?_) (Cert.KernelIdeal.Value.run_blocks m g)
    obtain ⟨h0, h1, h2, h3⟩ := h c
    exact ⟨h0.trans (Cert.KernelIdeal.Value.final4 m c), h1.trans (Cert.KernelIdeal.Value.final5 m c), h2.trans (Cert.KernelIdeal.Value.final6 m c), h3⟩
  · refine (θ_run _ _ _).mono (fun r h c => ?_) (Cert.ReferenceIdeal.Value.run m' g')
    obtain ⟨h0, h1, h2, h3⟩ := h c
    obtain ⟨a0, a1, a2⟩ := hargs c
    refine ⟨h0.trans ?_, h1.trans ?_, h2.trans ?_, h3⟩
    · rw [Cert.ReferenceIdeal.Value.res_dq, a0, a1, a2]
      exact Cert.ReferenceIdeal.Value.rDQ_arr _ _ _ (hfin c).1 (hfin c).2
    · rw [Cert.ReferenceIdeal.Value.res_dk, a0, a1, a2]
      exact Cert.ReferenceIdeal.Value.rDK_arr _ _ _ (hfin c).1 (hfin c).2
    · rw [a0, a1, a2]
      exact Cert.ReferenceIdeal.Value.rDV_arr _ _ _

/-- The reference runs, leaves its arguments as they were and every counter at zero: it declares no semaphore. -/
theorem refFrame : Cert.quiescent_ReferenceIdeal := fun m g _ =>
  (θ_run _ _ _).mono (fun r h => ⟨fun c => (h c).2.2.2, sem_eq_zero_of_no_sems (by decide) r.2⟩) (Cert.ReferenceIdeal.Value.run m g)

end Cert.Xa

end
-- ==== Proof.FfnMath.lean ====
module

public import proofs.«01_k».proof.Proof.Reals

/-! The logistic function on the extended reals, and the two forms of the derivative of `g · sigmoid g`. -/

@[expose] public section

noncomputable section

open Idealize.ShloMosaic

namespace Cert.FfnMath

open Cert.Reals

/-- The logistic function, as both programs spell it. -/
def sg (x : EReal) : EReal := Ideal.div 1 (1 + Ideal.exp (-x))

theorem sg_top : sg ⊤ = 1 := by
  have h : (1 : EReal) + Ideal.exp (-⊤) = ((1 : ℝ) : EReal) := by
    rw [EReal.neg_top]
    show (1 : EReal) + 0 = _
    rw [add_zero]; rfl
  rw [sg, h, div_coe one_ne_zero]
  norm_num

theorem sg_bot : sg ⊥ = 0 := by
  have h : (1 : EReal) + Ideal.exp (-⊥) = ⊤ := by
    rw [EReal.neg_bot]
    show (1 : EReal) + ⊤ = ⊤
    exact EReal.add_top_of_ne_bot (EReal.coe_ne_bot 1)
  rw [sg, h]
  simp [Ideal.div]

theorem sg_coe (r : ℝ) : sg (r : EReal) = (((1 + Real.exp (-r))⁻¹ : ℝ) : EReal) := by
  have h : (1 : EReal) + Ideal.exp (-(r : EReal)) = ((1 + Real.exp (-r) : ℝ) : EReal) := by
    rw [← EReal.coe_neg]
    show (1 : EReal) + ((Real.exp (-r) : ℝ) : EReal) = _
    rw [EReal.coe_add]; rfl
  rw [sg, h, div_coe (by have := Real.exp_pos (-r); positivity), one_mul]

/-- The derivative of `g · sigmoid g` times a real number `x`: the closed form, and the two terms of the product
    rule.  It holds at every extended real `g`. -/
theorem swish_grad {x : EReal} (hx : IsReal x) (g : EReal) :
    x * (sg g * (1 + g * (1 - sg g))) = x * sg g + g * x * (sg g * (1 - sg g)) := by
  obtain ⟨a, rfl⟩ := hx
  induction g using EReal.rec with
  | bot =>
    have h : (1 : EReal) - 0 = 1 := by simp
    rw [sg_bot, h, zero_mul, zero_mul, mul_zero, mul_zero, add_zero]
  | top =>
    have h : (1 : EReal) - 1 = 0 := by
      rw [show (1 : EReal) = ((1 : ℝ) : EReal) from rfl, ← EReal.coe_sub]; norm_num
    rw [sg_top, h, mul_zero, add_zero, mul_zero, mul_zero, add_zero, mul_one]
  | coe r =>
    rw [sg_coe]
    generalize (1 + Real.exp (-r))⁻¹ = s
    rw [show (1 : EReal) = ((1 : ℝ) : EReal) from rfl]
    norm_cast
    ring

end Cert.FfnMath

end
-- ==== Proof.GateUp.lean ====
module

public import proofs.«01_k».proof.Proof.Gen.GateUpIdeal.Value
public import proofs.«01_k».proof.Proof.Gen.GateUpSpecIdeal.Run
public import proofs.«01_k».proof.Proof.Gen.GateUp.Frame
public import Idealize.ShloMosaic.Lib.Pipeline.ValueKit
public import proofs.«01_k».proof.Proof.FfnMath
public import Idealize.ShloMosaic.Lib.Claim
public import proofs.«01_k».proof.Defs

/-! The gate and up projections of the channel mixer and their SwiGLU product. -/

@[expose] public section

set_option maxRecDepth 16384

noncomputable section

open Idealize.ShloMosaic Idealize.ShloMosaic.TcCoe Idealize.SL.Sem
open Idealize.ShloMosaic.Pipeline (Dat)

namespace Cert.GateUpIdeal.Value

open Cert.GateUpIdeal Cert.GateUpIdeal.Gen Cert.FfnMath
/-- The columns of the joint weight that hold the gate's and the up half. -/
def lo (n : Fin 2816) : Fin 5632 := ⟨n.val, by omega⟩
def hi (n : Fin 2816) : Fin 5632 := ⟨2816 + n.val, by omega⟩

/-- The gate, the up projection and their SwiGLU product, entry by entry. -/
def gate (a : Vec Ideal S4096x1024 .f32) (w : Vec Ideal S1024x5632 .f32) : Vec Ideal S4096x2816 .f32 :=
  fun i => ∑ k, a (ix2 (i 0) k) * w (ix2 k (lo (i 1)))
def up (a : Vec Ideal S4096x1024 .f32) (w : Vec Ideal S1024x5632 .f32) : Vec Ideal S4096x2816 .f32 :=
  fun i => ∑ k, a (ix2 (i 0) k) * w (ix2 k (hi (i 1)))
def act (a : Vec Ideal S4096x1024 .f32) (w : Vec Ideal S1024x5632 .f32) : Vec Ideal S4096x2816 .bf16 :=
  fun i => gate a w i * sg (gate a w i) * up a w i

variable (m : (ℓ : Loc nD τ sig) → Buf (Elt Ideal) ℓ)

abbrev arg_a (c : Dev nD) : Vec Ideal S4096x1024 .f32 := m ((c : Thread nD τ).loc main_arg0)
abbrev arg_w (c : Dev nD) : Vec Ideal S1024x5632 .f32 := m ((c : Thread nD τ).loc main_arg1)

theorem idx : ∀ t : Fin cfg0.N, win0_0.index t = ![0, 0] ∧ win0_1.index t = ![t.val, 0] ∧ win0_2.index t = ![t.val + 11, 0] ∧ win0_3.index t = ![0, t.val] ∧ win0_4.index t = ![0, t.val] ∧ win0_5.index t = ![0, t.val] :=
  (by decide +kernel : ∀ t : Fin grid0.N, _)

/-- The column of the array at which a grid point works. -/
def col (t : Fin cfg0.N) (n : Fin 256) : Fin 2816 := ⟨t.val * 256 + n.val, by have := t.isLt; have : cfg0.N = 11 := rfl; omega⟩

theorem V_a (c : Dev nD) : @Eq (FVec Ideal S4096x1024 .bf16) (V m c main_v0) (truncf .bf16 (arg_a m c) bitsLt_bf16_f32) := by
  unfold_abbrev_sides
  after_results

theorem V_w (c : Dev nD) : @Eq (FVec Ideal S5632x1024 .bf16) (V m c main_v2) (truncf .bf16 (transpose S5632x1024 [1, 0] (arg_w m c) transposes_S1024x5632_S5632x1024_1_0) bitsLt_bf16_f32) := by
  unfold_abbrev_sides
  after_results

theorem blk_a (c : Dev nD) (t : Fin cfg0.N) (l : Fin 4096) (k : Fin 1024) : iblk m c 0 t (ix2 l k) = arg_a m c (ix2 l k) := by
  have h : iblk m c 0 t (ix2 l k) = V m c main_v0 (ix2 l k) := by
    blk_point [iblk, idx t]
  rw [h, V_a]
  rfl

theorem blk_g (c : Dev nD) (t : Fin cfg0.N) (n : Fin 256) (k : Fin 1024) :
    iblk m c 1 t (ix2 n k) = arg_w m c (ix2 k (lo (col t n))) := by
  have h : iblk m c 1 t (ix2 n k) = V m c main_v2 (ix2 (lo (col t n)) k) := by
    blk_point [iblk, idx t, col, lo, hi]
  rw [h, V_w]
  pointwise

theorem blk_u (c : Dev nD) (t : Fin cfg0.N) (n : Fin 256) (k : Fin 1024) :
    iblk m c 2 t (ix2 n k) = arg_w m c (ix2 k (hi (col t n))) := by
  have h : iblk m c 2 t (ix2 n k) = V m c main_v2 (ix2 (hi (col t n)) k) := by
    blk_point [iblk, idx t, col, lo, hi]
  rw [h, V_w]
  pointwise

/-- What one grid point computes. -/
theorem block_g (x0 : Vec Ideal S4096x1024 .bf16) (x1 : Vec Ideal S256x1024 .bf16) (l : Fin 4096) (n : Fin 256) :
    k0_pay2 (F := Ideal) x0 x1 (ix2 l n) = ∑ k, x0 (ix2 l k) * x1 (ix2 n k) := by
  pointwise [k0_pay2, k0_pay1]

theorem block_u (x0 : Vec Ideal S4096x1024 .bf16) (x1 : Vec Ideal S256x1024 .bf16) (l : Fin 4096) (n : Fin 256) :
    k0_pay3 (F := Ideal) x0 x1 (ix2 l n) = ∑ k, x0 (ix2 l k) * x1 (ix2 n k) := by
  pointwise [k0_pay3, k0_pay1]

theorem block_act (x0 : Vec Ideal S4096x1024 .bf16) (x1 x2 : Vec Ideal S256x1024 .bf16) (l : Fin 4096) (n : Fin 256) :
    k0_pay4 (F := Ideal) x0 x1 x2 (ix2 l n)
      = k0_pay2 (F := Ideal) x0 x1 (ix2 l n) * sg (k0_pay2 (F := Ideal) x0 x1 (ix2 l n)) * k0_pay3 (F := Ideal) x0 x2 (ix2 l n) := by
  pointwise [k0_pay4, sg]
  rw [zero_sub]

theorem emb3 (t : Fin cfg0.N) (l : Fin 4096) (n : Fin 256) : ((cfg0.win 3).blk t).view.emb (ix2 l n) = ix2 l (col t n) := by
  blk_point [idx t, col]

theorem emb4 (t : Fin cfg0.N) (l : Fin 4096) (n : Fin 256) : ((cfg0.win 4).blk t).view.emb (ix2 l n) = ix2 l (col t n) := by
  blk_point [idx t, col]

theorem emb5 (t : Fin cfg0.N) (l : Fin 4096) (n : Fin 256) : ((cfg0.win 5).blk t).view.emb (ix2 l n) = ix2 l (col t n) := by
  blk_point [idx t, col]

theorem gate_at (c : Dev nD) (t : Fin cfg0.N) (l : Fin 4096) (n : Fin 256) :
    k0_pay2 (F := Ideal) (iblk m c 0 t) (iblk m c 1 t) (ix2 l n) = gate (arg_a m c) (arg_w m c) (ix2 l (col t n)) := by
  rw [block_g]
  simp only [blk_a, blk_g]
  rfl

theorem up_at (c : Dev nD) (t : Fin cfg0.N) (l : Fin 4096) (n : Fin 256) :
    k0_pay3 (F := Ideal) (iblk m c 0 t) (iblk m c 2 t) (ix2 l n) = up (arg_a m c) (arg_w m c) (ix2 l (col t n)) := by
  rw [block_u]
  simp only [blk_a, blk_u]
  rfl

theorem act_at (c : Dev nD) (t : Fin cfg0.N) (l : Fin 4096) (n : Fin 256) :
    k0_pay4 (F := Ideal) (iblk m c 0 t) (iblk m c 1 t) (iblk m c 2 t) (ix2 l n) = act (arg_a m c) (arg_w m c) (ix2 l (col t n)) := by
  rw [block_act, gate_at, up_at]
  rfl

/-- The arrays the kernel leaves. -/
theorem final_gate (c : Dev nD) : (dats m 0 c).arrAt 3 cfg0.N = gate (arg_a m c) (arg_w m c) := by
  refine (dats m 0 c).arrAt_eq_of_covers 3 _ (by decide +kernel) fun t _ y => ?_
  blk_simp
  rw [after0_3]
  frame_out
  idx_vars y
  rw [emb3]
  exact gate_at m c t y0 y1

theorem final_up (c : Dev nD) : (dats m 0 c).arrAt 4 cfg0.N = up (arg_a m c) (arg_w m c) := by
  refine (dats m 0 c).arrAt_eq_of_covers 4 _ (by decide +kernel) fun t _ y => ?_
  blk_simp
  rw [after0_4]
  frame_out
  idx_vars y
  rw [emb4]
  exact up_at m c t y0 y1

theorem final_act (c : Dev nD) : (dats m 0 c).arrAt 5 cfg0.N = act (arg_a m c) (arg_w m c) := by
  refine (dats m 0 c).arrAt_eq_of_covers 5 _ (by decide +kernel) fun t _ y => ?_
  blk_simp
  rw [after0_5]
  frame_out
  idx_vars y
  rw [emb5]
  exact act_at m c t y0 y1

end Cert.GateUpIdeal.Value

namespace Cert.GateUpSpecIdeal.Value

open Cert.GateUpSpecIdeal Cert.GateUpSpecIdeal.Gen
open Cert.FfnMath

/-- What the reference computes are the same arrays. -/
abbrev rGate (a : Vec Ideal S4096x1024 .f32) (w : Vec Ideal S1024x5632 .f32) : FVec Ideal S4096x2816 .f32 :=
  extractStridedSlice S4096x2816 ![0, 0] (Host.dotGeneral (F := Ideal) (φ₁ := .f32) (φ₂ := .f32) dot_S4096x1024_S1024x5632_S4096x5632_1_0_0_1_n_n none a w) slices_S4096x5632_S4096x2816_0_0
abbrev rUp (a : Vec Ideal S4096x1024 .f32) (w : Vec Ideal S1024x5632 .f32) : FVec Ideal S4096x2816 .f32 :=
  extractStridedSlice S4096x2816 ![0, 2816] (Host.dotGeneral (F := Ideal) (φ₁ := .f32) (φ₂ := .f32) dot_S4096x1024_S1024x5632_S4096x5632_1_0_0_1_n_n none a w) slices_S4096x5632_S4096x2816_0_2816

theorem spec_gate (a : Vec Ideal S4096x1024 .f32) (w : Vec Ideal S1024x5632 .f32) : rGate a w = Cert.GateUpIdeal.Value.gate a w := by
  funext i
  idx_vars i
  pointwise [rGate, Cert.GateUpIdeal.Value.gate, Cert.GateUpIdeal.Value.lo]

theorem spec_up (a : Vec Ideal S4096x1024 .f32) (w : Vec Ideal S1024x5632 .f32) : rUp a w = Cert.GateUpIdeal.Value.up a w := by
  funext i
  idx_vars i
  pointwise [rUp, Cert.GateUpIdeal.Value.up, Cert.GateUpIdeal.Value.hi]

theorem spec_act (a : Vec Ideal S4096x1024 .f32) (w : Vec Ideal S1024x5632 .f32) :
    truncf .bf16 (mulf (mulf (rGate a w) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (rGate a w)))))) (rUp a w)) bitsLt_bf16_f32
      = Cert.GateUpIdeal.Value.act a w := by
  rw [spec_gate, spec_up]
  funext i
  idx_vars i
  pointwise [Cert.GateUpIdeal.Value.act, sg]

end Cert.GateUpSpecIdeal.Value

namespace Cert.GateUpClaim

open Cert.GateUpIdeal.Value

theorem specFrame : Cert.quiescent_GateUpSpecIdeal := fun m g _ =>
  (θ_run _ _ _).mono (fun r h => ⟨fun c => (h c).2.2.2, sem_eq_zero_of_no_sems (by decide) r.2⟩) (Cert.GateUpSpecIdeal.Value.run m g)

theorem value : Cert.algebraic_GateUpIdeal_GateUpSpecIdeal := by
  intro m g m' g' _ hargs
  refine ⟨fun c => gate (arg_a m c) (arg_w m c), fun c => up (arg_a m c) (arg_w m c), fun c => act (arg_a m c) (arg_w m c), ?_, ?_⟩
  · refine (θ_run _ _ _).mono (fun r h c => ?_) (Cert.GateUpIdeal.Value.run_blocks m g)
    exact ⟨(h c).1.trans (final_gate m c), (h c).2.1.trans (final_up m c), (h c).2.2.1.trans (final_act m c), (h c).2.2.2⟩
  · refine (θ_run _ _ _).mono (fun r h c => ?_) (Cert.GateUpSpecIdeal.Value.run m' g')
    obtain ⟨a0, a1⟩ := hargs c
    refine ⟨(h c).1.trans ?_, (h c).2.1.trans ?_, (h c).2.2.1.trans ?_, (h c).2.2.2⟩
    · rw [a0, a1]
      exact Cert.GateUpSpecIdeal.Value.spec_gate _ _
    · rw [a0, a1]
      exact Cert.GateUpSpecIdeal.Value.spec_up _ _
    · rw [a0, a1]
      exact Cert.GateUpSpecIdeal.Value.spec_act _ _

end Cert.GateUpClaim

end
-- ==== Proof.Down.lean ====
module

public import proofs.«01_k».proof.Proof.Gen.DownIdeal.Value
public import proofs.«01_k».proof.Proof.Gen.DownSpecIdeal.Run
public import proofs.«01_k».proof.Proof.Gen.Down.Frame
public import Idealize.ShloMosaic.Lib.Pipeline.ValueKit
public import Idealize.ShloMosaic.Lib.Claim
public import proofs.«01_k».proof.Defs

/-! The down projection of the channel mixer, added to the residual. -/

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen

/-- The result, entry by entry. -/
def out (a : Vec Ideal S4096x2816 .f32) (w : Vec Ideal S2816x1024 .f32) (h : Vec Ideal S4096x1024 .f32) : Vec Ideal S4096x1024 .f32 :=
  fun i => h i + ∑ k, a (ix2 (i 0) k) * w (ix2 k (i 1))

variable (m : (ℓ : Loc nD τ sig) → Buf (Elt Ideal) ℓ)

abbrev arg_a (c : Dev nD) : Vec Ideal S4096x2816 .f32 := m ((c : Thread nD τ).loc main_arg0)
abbrev arg_w (c : Dev nD) : Vec Ideal S2816x1024 .f32 := m ((c : Thread nD τ).loc main_arg1)
abbrev arg_h (c : Dev nD) : Vec Ideal S4096x1024 .f32 := m ((c : Thread nD τ).loc main_arg2)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row of the array at which a grid point works. -/
def row (t : Fin cfg0.N) (l : Fin 1024) : Fin 4096 := ⟨t.val * 1024 + l.val, by have := t.isLt; have : cfg0.N = 4 := rfl; omega⟩

theorem V_a (c : Dev nD) : @Eq (FVec Ideal S4096x2816 .bf16) (V m c main_v0) (truncf .bf16 (arg_a m c) bitsLt_bf16_f32) := by
  unfold_abbrev_sides
  after_results

theorem V_w (c : Dev nD) : @Eq (FVec Ideal S2816x1024 .bf16) (V m c main_v1) (truncf .bf16 (arg_w m c) bitsLt_bf16_f32) := by
  unfold_abbrev_sides
  after_results

theorem blk_a (c : Dev nD) (t : Fin cfg0.N) (l : Fin 1024) (k : Fin 2816) : iblk m c 0 t (ix2 l k) = arg_a m c (ix2 (row t l) k) := by
  have h : iblk m c 0 t (ix2 l k) = V m c main_v0 (ix2 (row t l) k) := by
    blk_point [iblk, idx t, row]
  rw [h, V_a]
  rfl

theorem blk_w (c : Dev nD) (t : Fin cfg0.N) (p : Fin 2816) (q : Fin 1024) : iblk m c 1 t (ix2 p q) = arg_w m c (ix2 p q) := by
  have h : iblk m c 1 t (ix2 p q) = V m c main_v1 (ix2 p q) := by
    blk_point [iblk, idx t]
  rw [h, V_w]
  rfl

theorem blk_h (c : Dev nD) (t : Fin cfg0.N) (l : Fin 1024) (n : Fin 1024) : iblk m c 2 t (ix2 l n) = arg_h m c (ix2 (row t l) n) := by
  blk_point [iblk, V, idx t, row]

/-- What one grid point computes. -/
theorem block (x0 : Vec Ideal S1024x2816 .bf16) (x1 : Vec Ideal S2816x1024 .bf16) (x2 : Vec Ideal S1024x1024 .f32) (l : Fin 1024) (n : Fin 1024) :
    k0_pay1 (F := Ideal) x0 x1 x2 (ix2 l n) = (∑ k, x0 (ix2 l k) * x1 (ix2 k n)) + x2 (ix2 l n) := by
  pointwise [k0_pay1]

theorem emb (t : Fin cfg0.N) (l : Fin 1024) (n : Fin 1024) : ((cfg0.win 3).blk t).view.emb (ix2 l n) = ix2 (row t l) n := by
  blk_point [idx t, row]

theorem point (c : Dev nD) (t : Fin cfg0.N) (l : Fin 1024) (n : Fin 1024) :
    k0_pay1 (F := Ideal) (iblk m c 0 t) (iblk m c 1 t) (iblk m c 2 t) (ix2 l n) = out (arg_a m c) (arg_w m c) (arg_h m c) (((cfg0.win 3).blk t).view.emb (ix2 l n)) := by
  rw [emb, block]
  simp only [blk_a, blk_w, blk_h]
  exact add_comm _ _

/-- The array the kernel leaves. -/
theorem final (c : Dev nD) : (dats m 0 c).arrAt 3 cfg0.N = out (arg_a m c) (arg_w m c) (arg_h m c) := by
  refine (dats m 0 c).arrAt_eq_of_covers 3 _ (by decide +kernel) fun t _ y => ?_
  blk_simp
  rw [after0_3]
  frame_out
  idx_vars y
  exact point m c t y0 y1

end Cert.DownIdeal.Value

namespace Cert.DownSpecIdeal.Value

open Cert.DownSpecIdeal Cert.DownSpecIdeal.Gen

/-- What the reference computes is the same array. -/
theorem spec (a : Vec Ideal S4096x2816 .f32) (w : Vec Ideal S2816x1024 .f32) (h : Vec Ideal S4096x1024 .f32) :
    addf h (Host.dotGeneral (F := Ideal) (φ₁ := .f32) (φ₂ := .f32) dot_S4096x2816_S2816x1024_S4096x1024_1_0_0_1_n_n none a w) = Cert.DownIdeal.Value.out a w h := by
  funext i
  idx_vars i
  pointwise [Cert.DownIdeal.Value.out]

end Cert.DownSpecIdeal.Value

namespace Cert.DownClaim

open Cert.DownIdeal.Value

theorem specFrame : Cert.quiescent_DownSpecIdeal := fun m g _ =>
  (θ_run _ _ _).mono (fun r h => ⟨fun c => (h c).2, sem_eq_zero_of_no_sems (by decide) r.2⟩) (Cert.DownSpecIdeal.Value.run m g)

theorem value : Cert.algebraic_DownIdeal_DownSpecIdeal := by
  intro m g m' g' _ hargs
  refine ⟨fun c => out (arg_a m c) (arg_w m c) (arg_h m c), ?_, ?_⟩
  · refine (θ_run _ _ _).mono (fun r h c => ?_) (Cert.DownIdeal.Value.run_blocks m g)
    exact ⟨(h c).1.trans (final m c), (h c).2⟩
  · refine (θ_run _ _ _).mono (fun r h c => ?_) (Cert.DownSpecIdeal.Value.run m' g')
    obtain ⟨a0, a1, a2⟩ := hargs c
    refine ⟨(h c).1.trans ?_, (h c).2⟩
    rw [a0, a1, a2]
    exact Cert.DownSpecIdeal.Value.spec _ _ _

end Cert.DownClaim

end
-- ==== Proof.DownDa.lean ====
module

public import proofs.«01_k».proof.Proof.Gen.DownDaIdeal.Value
public import proofs.«01_k».proof.Proof.Gen.DownDaSpecIdeal.Run
public import proofs.«01_k».proof.Proof.Gen.DownDa.Frame
public import Idealize.ShloMosaic.Lib.Pipeline.ValueKit
public import Idealize.ShloMosaic.Lib.ReduceAll
public import proofs.«01_k».proof.Proof.FfnMath
public import proofs.«01_k».proof.Proof.Gen.Pre_finite_down_da
public import Idealize.ShloMosaic.Lib.Claim
public import proofs.«01_k».proof.Defs

/-! The gradient through the down projection and the SwiGLU product, for the gate and the up half. -/

@[expose] public section

set_option maxRecDepth 16384

noncomputable section

open Idealize.ShloMosaic Idealize.ShloMosaic.TcCoe Idealize.SL.Sem
open Idealize.ShloMosaic.Pipeline (Dat)

namespace Cert.Pre_finite_down_da

open Cert.Pre_finite_down_da.Gen Cert.Reals

/-- What the precondition says: the gradient, the weight and the up projection hold real numbers. -/
theorem finite_of_fn (a : FVec Ideal S4096x1024 .f32) (w : FVec Ideal S2816x1024 .f32) (g u : FVec Ideal S4096x2816 .f32) (i0 : S_.Idx)
    (h : fn (F := Ideal) a w g u i0 = 1#1) : (∀ i, IsReal (a i)) ∧ (∀ i, IsReal (w i)) ∧ ∀ i, IsReal (u i) := by
  dsimp only [fn] at h
  have hand := IntOp.andi_eq_one.1 h
  have hand' := IntOp.andi_eq_one.1 hand.1
  have hS : Subsingleton S_.Idx := ⟨fun a b => funext fun x => x.elim0⟩
  refine ⟨fun i => ?_, fun i => ?_, fun i => ?_⟩
  · have test := Host.reduce_andi_all _ _ _ _ _ hand'.1 i
    idx_vars i
    pointwise at test
    exact isReal_of_test test
  · have test := Host.reduce_andi_all _ _ _ _ _ hand'.2 i
    idx_vars i
    pointwise at test
    exact isReal_of_test test
  · have test := Host.reduce_andi_all _ _ _ _ _ hand.2 i
    idx_vars i
    pointwise at test
    exact isReal_of_test test

end Cert.Pre_finite_down_da

namespace Cert.DownDaIdeal.Value

open Cert.DownDaIdeal Cert.DownDaIdeal.Gen Cert.FfnMath

/-- The gradient of the SwiGLU product. -/
def d (a : Vec Ideal S4096x1024 .f32) (w : Vec Ideal S2816x1024 .f32) (l : Fin 4096) (n : Fin 2816) : EReal :=
  ∑ k, a (ix2 l k) * w (ix2 n k)

/-- The gradient of the gate (plane 0) and of the up projection (plane 1), entry by entry. -/
def outAt (a : Vec Ideal S4096x1024 .f32) (w : Vec Ideal S2816x1024 .f32) (g u : Vec Ideal S4096x2816 .f32) (p : Fin 2) (l : Fin 4096) (n : Fin 2816) : EReal :=
  if p = 0 then d a w l n * u (ix2 l n) * (sg (g (ix2 l n)) * (1 + g (ix2 l n) * (1 - sg (g (ix2 l n)))))
  else d a w l n * (g (ix2 l n) * sg (g (ix2 l n)))

def out (a : Vec Ideal S4096x1024 .f32) (w : Vec Ideal S2816x1024 .f32) (g u : Vec Ideal S4096x2816 .f32) : Vec Ideal S2x4096x2816 .bf16 :=
  fun i => outAt a w g u (i 0) (i 1) (i 2)

variable (m : (ℓ : Loc nD τ sig) → Buf (Elt Ideal) ℓ)

abbrev arg_a (c : Dev nD) : Vec Ideal S4096x1024 .f32 := m ((c : Thread nD τ).loc main_arg0)
abbrev arg_w (c : Dev nD) : Vec Ideal S2816x1024 .f32 := m ((c : Thread nD τ).loc main_arg1)
abbrev arg_g (c : Dev nD) : Vec Ideal S4096x2816 .f32 := m ((c : Thread nD τ).loc main_arg2)
abbrev arg_u (c : Dev nD) : Vec Ideal S4096x2816 .f32 := m ((c : Thread nD τ).loc main_arg3)

theorem idx : ∀ t : Fin cfg0.N, win0_0.index t = ![t.val / 11, 0] ∧ win0_1.index t = ![t.val % 11, 0] ∧ win0_2.index t = ![t.val / 11, t.val % 11] ∧ win0_3.index t = ![t.val / 11, t.val % 11] ∧ win0_4.index t = ![0, t.val / 11, t.val % 11] :=
  (by decide +kernel : ∀ t : Fin grid0.N, _)

/-- The row and the column of the array at which a grid point works. -/
def row (t : Fin cfg0.N) (l : Fin 2048) : Fin 4096 := ⟨t.val / 11 * 2048 + l.val, by have := t.isLt; have : cfg0.N = 22 := rfl; omega⟩
def col (t : Fin cfg0.N) (n : Fin 256) : Fin 2816 := ⟨t.val % 11 * 256 + n.val, by omega⟩

theorem V_w (c : Dev nD) : @Eq (FVec Ideal S2816x1024 .bf16) (V m c main_v0) (truncf .bf16 (arg_w m c) bitsLt_bf16_f32) := by
  unfold_abbrev_sides
  after_results

theorem blk_a (c : Dev nD) (t : Fin cfg0.N) (l : Fin 2048) (k : Fin 1024) : iblk m c 0 t (ix2 l k) = arg_a m c (ix2 (row t l) k) := by
  blk_point [iblk, V, idx t, row]

theorem blk_w (c : Dev nD) (t : Fin cfg0.N) (n : Fin 256) (k : Fin 1024) : iblk m c 1 t (ix2 n k) = arg_w m c (ix2 (col t n) k) := by
  have h : iblk m c 1 t (ix2 n k) = V m c main_v0 (ix2 (col t n) k) := by
    blk_point [iblk, idx t, col]
  rw [h, V_w]
  rfl

theorem blk_g (c : Dev nD) (t : Fin cfg0.N) (l : Fin 2048) (n : Fin 256) : iblk m c 2 t (ix2 l n) = arg_g m c (ix2 (row t l) (col t n)) := by
  blk_point [iblk, V, idx t, row, col]

theorem blk_u (c : Dev nD) (t : Fin cfg0.N) (l : Fin 2048) (n : Fin 256) : iblk m c 3 t (ix2 l n) = arg_u m c (ix2 (row t l) (col t n)) := by
  blk_point [iblk, V, idx t, row, col]

/-- What one grid point computes. -/
theorem block_d (x0 : Vec Ideal S2048x1024 .f32) (x1 : Vec Ideal S256x1024 .bf16) (l : Fin 2048) (n : Fin 256) :
    k0_pay1 (F := Ideal) x0 x1 (ix2 l n) = ∑ k, x0 (ix2 l k) * x1 (ix2 n k) := by
  pointwise [k0_pay1]

theorem block_s (x2 : Vec Ideal S2048x256 .f32) (l : Fin 2048) (n : Fin 256) : k0_pay2 (F := Ideal) x2 (ix2 l n) = sg (x2 (ix2 l n)) := by
  pointwise [k0_pay2, sg]
  rw [zero_sub]

theorem block_g (x0 : Vec Ideal S2048x1024 .f32) (x1 : Vec Ideal S256x1024 .bf16) (x2 x3 : Vec Ideal S2048x256 .f32) (l : Fin 2048) (n : Fin 256) :
    k0_pay3 (F := Ideal) x0 x1 x2 x3 (ix3 (0 : Fin 1) l n)
      = k0_pay1 (F := Ideal) x0 x1 (ix2 l n) * x3 (ix2 l n)
          * (k0_pay2 (F := Ideal) x2 (ix2 l n) * (1 + x2 (ix2 l n) * (1 - k0_pay2 (F := Ideal) x2 (ix2 l n)))) := by
  pointwise [k0_pay3]

theorem block_u (x0 : Vec Ideal S2048x1024 .f32) (x1 : Vec Ideal S256x1024 .bf16) (x2 : Vec Ideal S2048x256 .f32) (l : Fin 2048) (n : Fin 256) :
    k0_pay4 (F := Ideal) x0 x1 x2 (ix3 (0 : Fin 1) l n)
      = k0_pay1 (F := Ideal) x0 x1 (ix2 l n) * (x2 (ix2 l n) * k0_pay2 (F := Ideal) x2 (ix2 l n)) := by
  pointwise [k0_pay4]

theorem emb (t : Fin cfg0.N) (p : Fin 2) (l : Fin 2048) (n : Fin 256) : ((cfg0.win 4).blk t).view.emb (ix3 p l n) = ix3 p (row t l) (col t n) := by
  blk_point [idx t, row, col]

theorem d_at (c : Dev nD) (t : Fin cfg0.N) (l : Fin 2048) (n : Fin 256) :
    k0_pay1 (F := Ideal) (iblk m c 0 t) (iblk m c 1 t) (ix2 l n) = d (arg_a m c) (arg_w m c) (row t l) (col t n) := by
  rw [block_d]
  simp only [blk_a, blk_w]
  rfl

theorem gate_at (c : Dev nD) (t : Fin cfg0.N) (l : Fin 2048) (n : Fin 256) :
    k0_pay3 (F := Ideal) (iblk m c 0 t) (iblk m c 1 t) (iblk m c 2 t) (iblk m c 3 t) (ix3 (0 : Fin 1) l n)
      = outAt (arg_a m c) (arg_w m c) (arg_g m c) (arg_u m c) 0 (row t l) (col t n) := by
  rw [block_g, block_s, d_at, blk_g, blk_u, outAt, if_pos rfl]

theorem up_at (c : Dev nD) (t : Fin cfg0.N) (l : Fin 2048) (n : Fin 256) :
    k0_pay4 (F := Ideal) (iblk m c 0 t) (iblk m c 1 t) (iblk m c 2 t) (ix3 (0 : Fin 1) l n)
      = outAt (arg_a m c) (arg_w m c) (arg_g m c) (arg_u m c) 1 (row t l) (col t n) := by
  rw [block_u, block_s, d_at, blk_g, outAt, if_neg (by decide)]

/-- The array the kernel leaves. -/
theorem final (c : Dev nD) : (dats m 0 c).arrAt 4 cfg0.N = out (arg_a m c) (arg_w m c) (arg_g m c) (arg_u m c) := by
  refine (dats m 0 c).arrAt_eq_of_covers 4 _ (by decide +kernel) fun t _ y => ?_
  blk_simp
  rw [after0_4]
  idx_vars y
  rw [emb]
  canon_tiles x h
  · idx_vars x
    obtain rfl : x0 = 0 := by omega
    obtain rfl : y0 = 1 := Fin.ext h0
    obtain rfl : y1 = x1 := Fin.ext h1
    obtain rfl : y2 = x2 := Fin.ext h2
    frame_out
    exact up_at m c t y1 y2
  · idx_vars x
    obtain rfl : x0 = 0 := by omega
    obtain rfl : y0 = 0 := Fin.ext h0
    obtain rfl : y1 = x1 := Fin.ext h1
    obtain rfl : y2 = x2 := Fin.ext h2
    frame_out
    exact gate_at m c t y1 y2

end Cert.DownDaIdeal.Value

namespace Cert.DownDaSpecIdeal.Value

open Cert.DownDaSpecIdeal Cert.DownDaSpecIdeal.Gen
open Cert.FfnMath Cert.Reals

/-- The parts of the reference: the logistic function of the gate, the gradient of the product, its product with
    the up projection, and the two planes. -/
abbrev rSig (g : Vec Ideal S4096x2816 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf g)))
abbrev rD (a : Vec Ideal S4096x1024 .f32) (w : Vec Ideal S2816x1024 .f32) : FVec Ideal S4096x2816 .f32 :=
  Host.dotGeneral (F := Ideal) (φ₁ := .f32) (φ₂ := .f32) dot_S4096x1024_S2816x1024_S4096x2816_1_1_0_0_n_n none a w
abbrev rGate (a : Vec Ideal S4096x1024 .f32) (w : Vec Ideal S2816x1024 .f32) (g u : Vec Ideal S4096x2816 .f32) : FVec Ideal S4096x2816 .f32 :=
  addf (mulf (mulf (rD a w) u) (rSig g)) (mulf (mulf g (mulf (rD a w) u)) (mulf (rSig g) (subf (broadcastInDim S4096x2816 ![] bcast_S_S4096x2816 (constant S_ .f32 0x3F800000#32)) (rSig g))))
abbrev rUp (a : Vec Ideal S4096x1024 .f32) (w : Vec Ideal S2816x1024 .f32) (g : Vec Ideal S4096x2816 .f32) : FVec Ideal S4096x2816 .f32 :=
  mulf (mulf g (rSig g)) (rD a w)
abbrev rOut (a : Vec Ideal S4096x1024 .f32) (w : Vec Ideal S2816x1024 .f32) (g u : Vec Ideal S4096x2816 .f32) : FVec Ideal S2x4096x2816 .bf16 :=
  truncf .bf16 (concatenate S2x4096x2816 0 [⟨S1x4096x2816, (broadcastInDim S1x4096x2816 ![1, 2] bcast_S4096x2816_S1x4096x2816_1_2 (rGate a w g u))⟩, ⟨S1x4096x2816, (broadcastInDim S1x4096x2816 ![1, 2] bcast_S4096x2816_S1x4096x2816_1_2 (rUp a w g))⟩] concatenates_S1x4096x2816_S1x4096x2816_S2x4096x2816_d0) bitsLt_bf16_f32

theorem rSig_at (g : Vec Ideal S4096x2816 .f32) (l : Fin 4096) (n : Fin 2816) : rSig g (ix2 l n) = sg (g (ix2 l n)) := by
  pointwise [rSig, sg]

theorem rD_at (a : Vec Ideal S4096x1024 .f32) (w : Vec Ideal S2816x1024 .f32) (l : Fin 4096) (n : Fin 2816) :
    rD a w (ix2 l n) = Cert.DownDaIdeal.Value.d a w l n := by
  pointwise [rD, Cert.DownDaIdeal.Value.d]

theorem rGate_at (a : Vec Ideal S4096x1024 .f32) (w : Vec Ideal S2816x1024 .f32) (g u : Vec Ideal S4096x2816 .f32) (ha : ∀ i, IsReal (a i)) (hw : ∀ i, IsReal (w i)) (hu : ∀ i, IsReal (u i))
    (l : Fin 4096) (n : Fin 2816) : rGate a w g u (ix2 l n) = Cert.DownDaIdeal.Value.outAt a w g u 0 l n := by
  have h : rGate a w g u (ix2 l n) = rD a w (ix2 l n) * u (ix2 l n) * rSig g (ix2 l n)
      + g (ix2 l n) * (rD a w (ix2 l n) * u (ix2 l n)) * (rSig g (ix2 l n) * (1 - rSig g (ix2 l n))) := by
    rw [rGate]
    generalize rD a w = x
    generalize rSig g = s
    pointwise
  rw [h, rD_at, rSig_at, Cert.DownDaIdeal.Value.outAt, if_pos rfl]
  refine (swish_grad ?_ _).symm
  exact (IsReal.sum _ fun k => (ha _).mul (hw _)).mul (hu _)

theorem rUp_at (a : Vec Ideal S4096x1024 .f32) (w : Vec Ideal S2816x1024 .f32) (g u : Vec Ideal S4096x2816 .f32) (l : Fin 4096) (n : Fin 2816) :
    rUp a w g (ix2 l n) = Cert.DownDaIdeal.Value.outAt a w g u 1 l n := by
  have h : rUp a w g (ix2 l n) = g (ix2 l n) * rSig g (ix2 l n) * rD a w (ix2 l n) := by
    rw [rUp]
    generalize rD a w = x
    generalize rSig g = s
    pointwise
  rw [h, rD_at, rSig_at, Cert.DownDaIdeal.Value.outAt, if_neg (by decide), mul_comm]

/-- What the reference computes is the same array, where the precondition holds. -/
theorem spec (a : Vec Ideal S4096x1024 .f32) (w : Vec Ideal S2816x1024 .f32) (g u : Vec Ideal S4096x2816 .f32) (ha : ∀ i, IsReal (a i)) (hw : ∀ i, IsReal (w i)) (hu : ∀ i, IsReal (u i)) :
    rOut a w g u = Cert.DownDaIdeal.Value.out a w g u := by
  funext i
  idx_vars i
  have h0 := rGate_at a w g u ha hw hu i1 i2
  have h1 := rUp_at a w g u i1 i2
  rw [rOut]
  generalize rGate a w g u = x at h0
  generalize rUp a w g = y at h1
  obtain rfl | rfl : i0 = 0 ∨ i0 = 1 := by omega
  · refine Eq.trans ?_ h0
    pointwise
  · refine Eq.trans ?_ h1
    pointwise

end Cert.DownDaSpecIdeal.Value

namespace Cert.DownDaClaim

open Cert.DownDaIdeal.Value

theorem specFrame : Cert.quiescent_DownDaSpecIdeal := fun m g _ =>
  (θ_run _ _ _).mono (fun r h => ⟨fun c => (h c).2, sem_eq_zero_of_no_sems (by decide) r.2⟩) (Cert.DownDaSpecIdeal.Value.run m g)

theorem value : Cert.algebraic_DownDaIdeal_DownDaSpecIdeal_pre_finite_down_da := by
  intro m g m' g' hpre hargs
  refine ⟨fun c => out (arg_a m c) (arg_w m c) (arg_g m c) (arg_u m c), ?_, ?_⟩
  · refine (θ_run _ _ _).mono (fun r h c => ?_) (Cert.DownDaIdeal.Value.run_blocks m g)
    exact ⟨(h c).1.trans (final m c), (h c).2⟩
  · refine (θ_run _ _ _).mono (fun r h c => ?_) (Cert.DownDaSpecIdeal.Value.run m' g')
    obtain ⟨a0, a1, a2, a3⟩ := hargs c
    refine ⟨(h c).1.trans ?_, (h c).2⟩
    rw [a0, a1, a2, a3]
    obtain ⟨ha, hw, hu⟩ := Cert.Pre_finite_down_da.finite_of_fn _ _ _ _ (fun a => a.elim0) (congrFun (hpre c) (fun a => a.elim0))
    exact Cert.DownDaSpecIdeal.Value.spec _ _ _ _ ha hw hu

end Cert.DownDaClaim

end
-- ==== Proof.DownDw.lean ====
module

public import proofs.«01_k».proof.Proof.Gen.DownDwIdeal.Value
public import proofs.«01_k».proof.Proof.Gen.DownDwSpecIdeal.Run
public import proofs.«01_k».proof.Proof.Gen.DownDw.Frame
public import Idealize.ShloMosaic.Lib.Pipeline.ValueKit
public import Idealize.ShloMosaic.Lib.Pipeline.ReadBack
public import Idealize.ShloMosaic.Lib.Claim
public import proofs.«01_k».proof.Defs

/-! The gradient of the down projection with respect to its weight. -/

@[expose] public section

set_option maxRecDepth 16384

noncomputable section

open Idealize.ShloMosaic Idealize.ShloMosaic.TcCoe Idealize.SL.Sem
open Idealize.ShloMosaic.Pipeline (Dat)

namespace Cert.DownDwIdeal.Value

open Cert.DownDwIdeal Cert.DownDwIdeal.Gen

/-- The gradient, entry by entry: a sum over the rows. -/
def out (a : Vec Ideal S4096x2816 .f32) (g : Vec Ideal S4096x1024 .f32) : Vec Ideal S2816x1024 .f32 :=
  fun i => ∑ l, a (ix2 l (i 0)) * g (ix2 l (i 1))

variable (m : (ℓ : Loc nD τ sig) → Buf (Elt Ideal) ℓ)

abbrev arg_a (c : Dev nD) : Vec Ideal S4096x2816 .f32 := m ((c : Thread nD τ).loc main_arg0)
abbrev arg_g (c : Dev nD) : Vec Ideal S4096x1024 .f32 := m ((c : Thread nD τ).loc main_arg1)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The row of both arrays a grid point reads as its `k`-th. -/
def row (t : Fin cfg0.N) (k : Fin 1024) : Fin 4096 := ⟨t.val % 4 * 1024 + k.val, by omega⟩
/-- The row of the result a grid point works on. -/
def col (t : Fin cfg0.N) (p : Fin 1408) : Fin 2816 := ⟨t.val / 4 * 1408 + p.val, by have := t.isLt; have : cfg0.N = 8 := rfl; omega⟩

theorem V_a (c : Dev nD) : @Eq (FVec Ideal S4096x2816 .bf16) (V m c main_v0) (truncf .bf16 (arg_a m c) bitsLt_bf16_f32) := by
  unfold_abbrev_sides
  after_results

theorem blk_a (c : Dev nD) (t : Fin cfg0.N) (k : Fin 1024) (p : Fin 1408) : iblk m c 0 t (ix2 k p) = arg_a m c (ix2 (row t k) (col t p)) := by
  have h : iblk m c 0 t (ix2 k p) = V m c main_v0 (ix2 (row t k) (col t p)) := by
    blk_point [iblk, idx t, row, col]
  rw [h, V_a]
  rfl

theorem blk_g (c : Dev nD) (t : Fin cfg0.N) (k : Fin 1024) (p : Fin 1024) : iblk m c 1 t (ix2 k p) = arg_g m c (ix2 (row t k) p) := by
  blk_point [iblk, V, idx t, row, col]

theorem first (x0 : Vec Ideal S1024x1408 .bf16) (x1 : Vec Ideal S1024x1024 .f32) (p : Fin 1408) (q : Fin 1024) : k0_pay2 (F := Ideal) x0 x1 (ix2 p q) = ∑ k, x0 (ix2 k p) * x1 (ix2 k q) := by
  pointwise [k0_pay2, k0_pay1]

theorem next (x0 : Vec Ideal S1024x1408 .bf16) (x1 : Vec Ideal S1024x1024 .f32) (acc : Vec Ideal S1408x1024 .f32) (p : Fin 1408) (q : Fin 1024) : k0_pay3 (F := Ideal) x0 x1 acc (ix2 p q) = acc (ix2 p q) + ∑ k, x0 (ix2 k p) * x1 (ix2 k q) := by
  pointwise [k0_pay3, k0_pay1]

theorem last (x0 : Vec Ideal S1024x1408 .bf16) (x1 : Vec Ideal S1024x1024 .f32) (acc : Vec Ideal S1408x1024 .f32) (p : Fin 1408) (q : Fin 1024) : k0_pay4 (F := Ideal) x0 x1 acc (ix2 p q) = acc (ix2 p q) + ∑ k, x0 (ix2 k p) * x1 (ix2 k q) := by
  pointwise [k0_pay4, k0_pay1]

/-- What a grid point adds. -/
def part (c : Dev nD) (t : Fin cfg0.N) (j : S1408x1024.Idx) : EReal := ∑ k, arg_a m c (ix2 (row t k) (col t (j 0))) * arg_g m c (ix2 (row t k) (j 1))

theorem first_blk (c : Dev nD) (t : Fin cfg0.N) (p : Fin 1408) (q : Fin 1024) :
    k0_pay2 (F := Ideal) (iblk m c 0 t) (iblk m c 1 t) (ix2 p q) = part m c t (ix2 p q) := by
  rw [first]
  simp only [blk_a, blk_g]
  rfl

theorem next_blk (c : Dev nD) (t : Fin cfg0.N) (acc : Vec Ideal S1408x1024 .f32) (p : Fin 1408) (q : Fin 1024) :
    k0_pay3 (F := Ideal) (iblk m c 0 t) (iblk m c 1 t) acc (ix2 p q) = acc (ix2 p q) + part m c t (ix2 p q) := by
  rw [next]
  simp only [blk_a, blk_g]
  rfl

theorem last_blk (c : Dev nD) (t : Fin cfg0.N) (acc : Vec Ideal S1408x1024 .f32) (p : Fin 1408) (q : Fin 1024) :
    k0_pay4 (F := Ideal) (iblk m c 0 t) (iblk m c 1 t) acc (ix2 p q) = acc (ix2 p q) + part m c t (ix2 p q) := by
  rw [last]
  simp only [blk_a, blk_g]
  rfl

/-- The running sum: the scratch, and at the last point of a run the result. -/
def run_sum (c : Dev nD) (n : ℕ) (h : n < cfg0.N) (j : S1408x1024.Idx) : EReal :=
  if n % 4 = 3 then (outsAt0 m c n h).1 j else (outsAt0 m c n h).2 j

theorem run_zero (c : Dev nD) (t : Fin cfg0.N) (h : t.val % 4 = 0) (j : S1408x1024.Idx) : run_sum m c t.val t.isLt j = 0 + part m c t j := by
  have h2 : ¬ t.val % 4 = 3 := by omega
  rw [run_sum, if_neg h2, outsAt0_A m c t h (by omega) h2]
  frame_out
  idx_vars j
  rw [first_blk, zero_add]

theorem run_step (c : Dev nD) (t : Fin cfg0.N) (h : ¬ t.val % 4 = 0) (j : S1408x1024.Idx) :
    run_sum m c t.val t.isLt j = run_sum m c (t.val - 1) (Nat.lt_of_le_of_lt (Nat.sub_le _ _) t.isLt) j + part m c t j := by
  have hp : ¬ (t.val - 1) % 4 = 3 := by omega
  rw [run_sum, run_sum, if_neg hp]
  by_cases h2 : t.val % 4 = 3
  · rw [if_pos h2, outsAt0_C m c t h (by omega) h2]
    frame_out
    idx_vars j
    rw [last_blk, read_unread_whole]
  · rw [if_neg h2, outsAt0_B m c t h (by omega) h2]
    frame_out
    idx_vars j
    rw [next_blk, read_unread_whole]

theorem emb (t : Fin cfg0.N) (p : Fin 1408) (q : Fin 1024) : ((cfg0.win 2).blk t).view.emb (ix2 p q) = ix2 (col t p) q := by
  blk_point [idx t, col]

/-- At the last point of a run the parts make up the whole sum over the rows. -/
theorem point (c : Dev nD) (t : Fin cfg0.N) (h : t.val % 4 = 4 - 1) (p : Fin 1408) (q : Fin 1024) :
    (outsAt0 m c t.val t.isLt).1 (ix2 p q) = out (arg_a m c) (arg_g m c) (((cfg0.win 2).blk t).view.emb (ix2 p q)) := by
  have sum := Pipeline.eq_sum_fin_of_reset_step_apply_of_flush (M := EReal) (run_sum m c) 4 (fun _ => 0) (part m c)
    (run_zero m c) (run_step m c) t h (ix2 p q)
  rw [run_sum, if_pos h] at sum
  rw [emb, sum, zero_add]
  refine Fin.sum_mul_add_congr fun s k hl => ?_
  have hr : row ⟨4 * (t.val / 4) + s.val, Pipeline.run_point_lt_of_flush t h s⟩ k = ⟨s.val * 1024 + k.val, hl⟩ := by
    apply Fin.ext
    show (4 * (t.val / 4) + s.val) % 4 * 1024 + k.val = s.val * 1024 + k.val
    have := s.isLt
    omega
  have hc : col ⟨4 * (t.val / 4) + s.val, Pipeline.run_point_lt_of_flush t h s⟩ p = col t p := by
    apply Fin.ext
    show (4 * (t.val / 4) + s.val) / 4 * 1408 + p.val = t.val / 4 * 1408 + p.val
    have := s.isLt
    omega
  rw [hr]
  show _ * _ = arg_a m c (ix2 _ (col t p)) * _
  rw [← hc]
  rfl

/-- The array the kernel leaves. -/
theorem final (c : Dev nD) : (dats m 0 c).arrAt 2 cfg0.N = out (arg_a m c) (arg_g m c) := by
  refine (dats m 0 c).arrAt_eq_of_covers 2 _ (by decide +kernel) fun t hf y => ?_
  blk_simp
  rw [after0_2]
  idx_vars y
  exact point m c t ((flush0_2 t).mp hf) y0 y1

end Cert.DownDwIdeal.Value

namespace Cert.DownDwSpecIdeal.Value

open Cert.DownDwSpecIdeal Cert.DownDwSpecIdeal.Gen

/-- What the reference computes is the same array. -/
theorem spec (a : Vec Ideal S4096x2816 .f32) (g : Vec Ideal S4096x1024 .f32) :
    transpose S2816x1024 [1, 0] (Host.dotGeneral (F := Ideal) (φ₁ := .f32) (φ₂ := .f32) dot_S4096x1024_S4096x2816_S1024x2816_0_0_1_1_n_n none g a) transposes_S1024x2816_S2816x1024_1_0 = Cert.DownDwIdeal.Value.out a g := by
  funext i
  idx_vars i
  pointwise [Cert.DownDwIdeal.Value.out]
  exact Finset.sum_congr rfl fun l _ => mul_comm _ _

end Cert.DownDwSpecIdeal.Value

namespace Cert.DownDwClaim

open Cert.DownDwIdeal.Value

theorem specFrame : Cert.quiescent_DownDwSpecIdeal := fun m g _ =>
  (θ_run _ _ _).mono (fun r h => ⟨fun c => (h c).2, sem_eq_zero_of_no_sems (by decide) r.2⟩) (Cert.DownDwSpecIdeal.Value.run m g)

theorem value : Cert.algebraic_DownDwIdeal_DownDwSpecIdeal := by
  intro m g m' g' _ hargs
  refine ⟨fun c => out (arg_a m c) (arg_g m c), ?_, ?_⟩
  · refine (θ_run _ _ _).mono (fun r h c => ?_) (Cert.DownDwIdeal.Value.run_blocks m g)
    exact ⟨(h c).1.trans (final m c), (h c).2⟩
  · refine (θ_run _ _ _).mono (fun r h c => ?_) (Cert.DownDwSpecIdeal.Value.run m' g')
    obtain ⟨a0, a1⟩ := hargs c
    refine ⟨(h c).1.trans ?_, (h c).2⟩
    rw [a0, a1]
    exact Cert.DownDwSpecIdeal.Value.spec _ _

end Cert.DownDwClaim

end
-- ==== Proof.GateUpDw.lean ====
module

public import proofs.«01_k».proof.Proof.Gen.GateUpDwIdeal.Value
public import proofs.«01_k».proof.Proof.Gen.GateUpDwSpecIdeal.Run
public import proofs.«01_k».proof.Proof.Gen.GateUpDw.Frame
public import Idealize.ShloMosaic.Lib.Pipeline.ValueKit
public import Idealize.ShloMosaic.Lib.Pipeline.ReadBack
public import Idealize.ShloMosaic.Lib.Claim
public import proofs.«01_k».proof.Defs

/-! The gradient of the gate and up projections with respect to their weight, transposed: the gate's half of the rows, then the up half. -/

@[expose] public section

set_option maxRecDepth 16384

noncomputable section

open Idealize.ShloMosaic Idealize.ShloMosaic.TcCoe Idealize.SL.Sem
open Idealize.ShloMosaic.Pipeline (Dat)

namespace Cert.GateUpDwIdeal.Value

open Cert.GateUpDwIdeal Cert.GateUpDwIdeal.Gen

/-- The half a row of the result belongs to, and its place there. -/
def half (r : Fin 5632) : Fin 2 := ⟨r.val / 2816, by omega⟩
def lane (r : Fin 5632) : Fin 2816 := ⟨r.val % 2816, by omega⟩

/-- The gradient, entry by entry: a sum over the rows. -/
def out (a : Vec Ideal S2x4096x2816 .f32) (g : Vec Ideal S4096x1024 .f32) : Vec Ideal S5632x1024 .f32 :=
  fun i => ∑ l, a (ix3 (half (i 0)) l (lane (i 0))) * g (ix2 l (i 1))

variable (m : (ℓ : Loc nD τ sig) → Buf (Elt Ideal) ℓ)

abbrev arg_a (c : Dev nD) : Vec Ideal S2x4096x2816 .f32 := m ((c : Thread nD τ).loc main_arg0)
abbrev arg_g (c : Dev nD) : Vec Ideal S4096x1024 .f32 := m ((c : Thread nD τ).loc main_arg1)

theorem idx : ∀ t : Fin cfg0.N, win0_0.index t = ![t.val / 4, t.val % 2, t.val / 2 % 2] ∧ win0_1.index t = ![t.val % 2, 0] ∧ win0_2.index t = ![t.val / 2, 0] :=
  (by decide +kernel : ∀ t : Fin grid0.N, _)

/-- The row of both arrays a grid point reads as its `k`-th. -/
def row (t : Fin cfg0.N) (k : Fin 2048) : Fin 4096 := ⟨t.val % 2 * 2048 + k.val, by omega⟩
/-- The row of the result a grid point works on. -/
def col (t : Fin cfg0.N) (p : Fin 1408) : Fin 5632 := ⟨t.val / 2 * 1408 + p.val, by have := t.isLt; have : cfg0.N = 8 := rfl; omega⟩

theorem V_a (c : Dev nD) : @Eq (FVec Ideal S2x4096x2816 .bf16) (V m c main_v0) (truncf .bf16 (arg_a m c) bitsLt_bf16_f32) := by
  unfold_abbrev_sides
  after_results

theorem blk_a (c : Dev nD) (t : Fin cfg0.N) (k : Fin 2048) (p : Fin 1408) :
    iblk m c 0 t (ix3 (0 : Fin 1) k p) = arg_a m c (ix3 (half (col t p)) (row t k) (lane (col t p))) := by
  have h : iblk m c 0 t (ix3 (0 : Fin 1) k p) = V m c main_v0 (ix3 (half (col t p)) (row t k) (lane (col t p))) := by
    blk_point [iblk, idx t, row, col, half, lane]
  rw [h, V_a]
  rfl

theorem V_g (c : Dev nD) : @Eq (FVec Ideal S4096x1024 .bf16) (V m c main_v1) (truncf .bf16 (arg_g m c) bitsLt_bf16_f32) := by
  unfold_abbrev_sides
  after_results

theorem blk_g (c : Dev nD) (t : Fin cfg0.N) (k : Fin 2048) (p : Fin 1024) : iblk m c 1 t (ix2 k p) = arg_g m c (ix2 (row t k) p) := by
  have h : iblk m c 1 t (ix2 k p) = V m c main_v1 (ix2 (row t k) p) := by
    blk_point [iblk, idx t, row, col]
  rw [h, V_g]
  rfl

theorem first (x0 : Vec Ideal S1x2048x1408 .bf16) (x1 : Vec Ideal S2048x1024 .bf16) (p : Fin 1408) (q : Fin 1024) : k0_pay2 (F := Ideal) x0 x1 (ix2 p q) = ∑ k, x0 (ix3 (0 : Fin 1) k p) * x1 (ix2 k q) := by
  pointwise [k0_pay2, k0_pay1]

theorem next (x0 : Vec Ideal S1x2048x1408 .bf16) (x1 : Vec Ideal S2048x1024 .bf16) (acc : Vec Ideal S1408x1024 .f32) (p : Fin 1408) (q : Fin 1024) : k0_pay3 (F := Ideal) x0 x1 acc (ix2 p q) = acc (ix2 p q) + ∑ k, x0 (ix3 (0 : Fin 1) k p) * x1 (ix2 k q) := by
  pointwise [k0_pay3, k0_pay1]

theorem last (x0 : Vec Ideal S1x2048x1408 .bf16) (x1 : Vec Ideal S2048x1024 .bf16) (acc : Vec Ideal S1408x1024 .f32) (p : Fin 1408) (q : Fin 1024) : k0_pay4 (F := Ideal) x0 x1 acc (ix2 p q) = acc (ix2 p q) + ∑ k, x0 (ix3 (0 : Fin 1) k p) * x1 (ix2 k q) := by
  pointwise [k0_pay4, k0_pay1]

/-- What a grid point adds. -/
def part (c : Dev nD) (t : Fin cfg0.N) (j : S1408x1024.Idx) : EReal := ∑ k, arg_a m c (ix3 (half (col t (j 0))) (row t k) (lane (col t (j 0)))) * arg_g m c (ix2 (row t k) (j 1))

theorem first_blk (c : Dev nD) (t : Fin cfg0.N) (p : Fin 1408) (q : Fin 1024) :
    k0_pay2 (F := Ideal) (iblk m c 0 t) (iblk m c 1 t) (ix2 p q) = part m c t (ix2 p q) := by
  rw [first]
  simp only [blk_a, blk_g]
  rfl

theorem next_blk (c : Dev nD) (t : Fin cfg0.N) (acc : Vec Ideal S1408x1024 .f32) (p : Fin 1408) (q : Fin 1024) :
    k0_pay3 (F := Ideal) (iblk m c 0 t) (iblk m c 1 t) acc (ix2 p q) = acc (ix2 p q) + part m c t (ix2 p q) := by
  rw [next]
  simp only [blk_a, blk_g]
  rfl

theorem last_blk (c : Dev nD) (t : Fin cfg0.N) (acc : Vec Ideal S1408x1024 .f32) (p : Fin 1408) (q : Fin 1024) :
    k0_pay4 (F := Ideal) (iblk m c 0 t) (iblk m c 1 t) acc (ix2 p q) = acc (ix2 p q) + part m c t (ix2 p q) := by
  rw [last]
  simp only [blk_a, blk_g]
  rfl

/-- The running sum: the scratch, and at the last point of a run the result. -/
def run_sum (c : Dev nD) (n : ℕ) (h : n < cfg0.N) (j : S1408x1024.Idx) : EReal :=
  if n % 2 = 1 then (outsAt0 m c n h).1 j else (outsAt0 m c n h).2 j

theorem run_zero (c : Dev nD) (t : Fin cfg0.N) (h : t.val % 2 = 0) (j : S1408x1024.Idx) : run_sum m c t.val t.isLt j = 0 + part m c t j := by
  have h2 : ¬ t.val % 2 = 1 := by omega
  rw [run_sum, if_neg h2, outsAt0_A m c t h h2]
  frame_out
  idx_vars j
  rw [first_blk, zero_add]

theorem run_step (c : Dev nD) (t : Fin cfg0.N) (h : ¬ t.val % 2 = 0) (j : S1408x1024.Idx) :
    run_sum m c t.val t.isLt j = run_sum m c (t.val - 1) (Nat.lt_of_le_of_lt (Nat.sub_le _ _) t.isLt) j + part m c t j := by
  have hp : ¬ (t.val - 1) % 2 = 1 := by omega
  have h2 : t.val % 2 = 1 := by omega
  rw [run_sum, run_sum, if_neg hp, if_pos h2, outsAt0_B m c t h h2]
  frame_out
  idx_vars j
  rw [last_blk, read_unread_whole]

theorem emb (t : Fin cfg0.N) (p : Fin 1408) (q : Fin 1024) : ((cfg0.win 2).blk t).view.emb (ix2 p q) = ix2 (col t p) q := by
  blk_point [idx t, col]

/-- At the last point of a run the parts make up the whole sum over the rows. -/
theorem point (c : Dev nD) (t : Fin cfg0.N) (h : t.val % 2 = 2 - 1) (p : Fin 1408) (q : Fin 1024) :
    (outsAt0 m c t.val t.isLt).1 (ix2 p q) = out (arg_a m c) (arg_g m c) (((cfg0.win 2).blk t).view.emb (ix2 p q)) := by
  have sum := Pipeline.eq_sum_fin_of_reset_step_apply_of_flush (M := EReal) (run_sum m c) 2 (fun _ => 0) (part m c)
    (run_zero m c) (run_step m c) t h (ix2 p q)
  rw [run_sum, if_pos h] at sum
  rw [emb, sum, zero_add]
  refine Fin.sum_mul_add_congr fun s k hl => ?_
  have hr : row ⟨2 * (t.val / 2) + s.val, Pipeline.run_point_lt_of_flush t h s⟩ k = ⟨s.val * 2048 + k.val, hl⟩ := by
    apply Fin.ext
    show (2 * (t.val / 2) + s.val) % 2 * 2048 + k.val = s.val * 2048 + k.val
    have := s.isLt
    omega
  have hc : col ⟨2 * (t.val / 2) + s.val, Pipeline.run_point_lt_of_flush t h s⟩ p = col t p := by
    apply Fin.ext
    show (2 * (t.val / 2) + s.val) / 2 * 1408 + p.val = t.val / 2 * 1408 + p.val
    have := s.isLt
    omega
  rw [hr]
  show _ * _ = arg_a m c (ix3 (half (col t p)) _ (lane (col t p))) * _
  rw [← hc]
  rfl

/-- The array the kernel leaves. -/
theorem final (c : Dev nD) : (dats m 0 c).arrAt 2 cfg0.N = out (arg_a m c) (arg_g m c) := by
  refine (dats m 0 c).arrAt_eq_of_covers 2 _ (by decide +kernel) fun t hf y => ?_
  blk_simp
  rw [after0_2]
  idx_vars y
  exact point m c t ((flush0_2 t).mp hf) y0 y1

end Cert.GateUpDwIdeal.Value

namespace Cert.GateUpDwSpecIdeal.Value

open Cert.GateUpDwSpecIdeal Cert.GateUpDwSpecIdeal.Gen

/-- The gate's and the up half beside each other. -/
abbrev joined (a : Vec Ideal S2x4096x2816 .f32) : FVec Ideal S4096x5632 .f32 :=
  concatenate S4096x5632 1 [⟨S4096x2816, (shapeCast _ (extractStridedSlice S1x4096x2816 ![0, 0, 0] a slices_S2x4096x2816_S1x4096x2816_0_0_0) shapeCasts_S1x4096x2816_S4096x2816)⟩, ⟨S4096x2816, (shapeCast _ (extractStridedSlice S1x4096x2816 ![1, 0, 0] a slices_S2x4096x2816_S1x4096x2816_1_0_0) shapeCasts_S1x4096x2816_S4096x2816)⟩] concatenates_S4096x2816_S4096x2816_S4096x5632_d1

theorem joined_at (a : Vec Ideal S2x4096x2816 .f32) (l : Fin 4096) (r : Fin 5632) :
    joined a (ix2 l r) = a (ix3 (Cert.GateUpDwIdeal.Value.half r) l (Cert.GateUpDwIdeal.Value.lane r)) := by
  pointwise [joined]
  blk_point [Cert.GateUpDwIdeal.Value.half, Cert.GateUpDwIdeal.Value.lane]

/-- What the reference computes is the same array. -/
theorem spec (a : Vec Ideal S2x4096x2816 .f32) (g : Vec Ideal S4096x1024 .f32) :
    transpose S5632x1024 [1, 0] (transpose S1024x5632 [1, 0] (Host.dotGeneral (F := Ideal) (φ₁ := .f32) (φ₂ := .f32) dot_S4096x5632_S4096x1024_S5632x1024_0_0_1_1_n_n none (joined a) g) transposes_S5632x1024_S1024x5632_1_0) transposes_S1024x5632_S5632x1024_1_0 = Cert.GateUpDwIdeal.Value.out a g := by
  funext i
  idx_vars i
  pointwise [joined_at, Cert.GateUpDwIdeal.Value.out]

end Cert.GateUpDwSpecIdeal.Value

namespace Cert.GateUpDwClaim

open Cert.GateUpDwIdeal.Value

theorem specFrame : Cert.quiescent_GateUpDwSpecIdeal := fun m g _ =>
  (θ_run _ _ _).mono (fun r h => ⟨fun c => (h c).2, sem_eq_zero_of_no_sems (by decide) r.2⟩) (Cert.GateUpDwSpecIdeal.Value.run m g)

theorem value : Cert.algebraic_GateUpDwIdeal_GateUpDwSpecIdeal := by
  intro m g m' g' _ hargs
  refine ⟨fun c => out (arg_a m c) (arg_g m c), ?_, ?_⟩
  · refine (θ_run _ _ _).mono (fun r h c => ?_) (Cert.GateUpDwIdeal.Value.run_blocks m g)
    exact ⟨(h c).1.trans (final m c), (h c).2⟩
  · refine (θ_run _ _ _).mono (fun r h c => ?_) (Cert.GateUpDwSpecIdeal.Value.run m' g')
    obtain ⟨a0, a1⟩ := hargs c
    refine ⟨(h c).1.trans ?_, (h c).2⟩
    rw [a0, a1]
    exact Cert.GateUpDwSpecIdeal.Value.spec _ _

end Cert.GateUpDwClaim

end
-- ==== Proof.RmsMath.lean ====
module

public import proofs.«01_k».proof.Proof.Reals

/-! The gradient of the root-mean-square norm of a row: the closed form, and the terms of the chain rule. -/

@[expose] public section

noncomputable section

open Idealize.ShloMosaic

namespace Cert.RmsMath

open Cert.Reals

/-- The length of a row, the small number under the root, and the factor of the root's derivative, as both programs
    spell them. -/
abbrev cN : EReal := Ideal.ofBits .f32 0x44800000#32
abbrev eps : EReal := Ideal.ofBits .f32 0x358637BD#32
abbrev mhalf : EReal := Ideal.ofBits .f32 0xBF000000#32

theorem cN_eq : cN = ((1024 : ℝ) : EReal) := by
  simp [Ideal.ofBits, Ideal.ieee, -EReal.coe_mul]; norm_num

theorem mhalf_eq : mhalf = ((-(1 / 2) : ℝ) : EReal) := by
  simp [Ideal.ofBits, Ideal.ieee, -EReal.coe_mul, -EReal.coe_neg]; norm_num

theorem eps_pos : ∃ r : ℝ, 0 < r ∧ eps = (r : EReal) := by
  refine ⟨8796093 * (2 : ℝ) ^ (-43 : Int), by positivity, ?_⟩
  simp [Ideal.ofBits, Ideal.ieee, -EReal.coe_mul]

/-- The mean of the squares of a row plus the small number, and the root's reciprocal. -/
def ms {n : ℕ} (x : Fin n → EReal) : EReal := Ideal.div (∑ j, x j * x j) cN + eps
def rr {n : ℕ} (x : Fin n → EReal) : EReal := Ideal.rsqrt (ms x)

/-- The closed form of the gradient at place `k`: `y` is the incoming gradient times the norm's weight. -/
def dx {n : ℕ} (x y : Fin n → EReal) (k : Fin n) : EReal :=
  rr x * (y k - x k * rr x * Ideal.div (∑ j, y j * (x j * rr x)) cN)

/-- The factor through the mean of the squares. -/
def qq {n : ℕ} (x y : Fin n → EReal) : EReal :=
  Ideal.div ((∑ j, x j * y j) * (mhalf * Ideal.div (rr x) (ms x))) cN

theorem rms_row {n : ℕ} (X : Fin n → ℝ) : ∃ M : ℝ, 0 < M ∧ ms (fun j => (X j : EReal)) = (M : EReal)
    ∧ rr (fun j => (X j : EReal)) = (((Real.sqrt M)⁻¹ : ℝ) : EReal) := by
  obtain ⟨e, he, hE⟩ := eps_pos
  have hS : 0 ≤ ∑ j, X j * X j := Finset.sum_nonneg fun j _ => mul_self_nonneg _
  have hm : ms (fun j => (X j : EReal)) = (((∑ j, X j * X j) * 1024⁻¹ + e : ℝ) : EReal) := by
    rw [ms, hE, cN_eq, div_coe (by norm_num), EReal.coe_add, EReal.coe_mul, ← coe_sum]
    simp only [EReal.coe_mul]
  have hM : 0 < (∑ j, X j * X j) * 1024⁻¹ + e := by positivity
  refine ⟨_, hM, hm, ?_⟩
  rw [rr, hm]
  show (if _ then _ else if _ then _ else _) = _
  rw [if_neg (not_lt.2 hM.le), if_neg hM.ne']

/-- The terms of the chain rule add up to the closed form. -/
theorem chain_eq {n : ℕ} {x y : Fin n → EReal} (hx : ∀ j, IsReal (x j)) (hy : ∀ j, IsReal (y j)) (e : EReal) (k : Fin n) :
    ((e + y k * rr x) + x k * qq x y) + qq x y * x k = dx x y k + e := by
  choose X hX using hx
  choose Y hY using hy
  obtain rfl : x = fun j => (X j : EReal) := funext hX
  obtain rfl : y = fun j => (Y j : EReal) := funext hY
  obtain ⟨M, hM, hm, hr⟩ := rms_row X
  have hR : (Real.sqrt M)⁻¹ * (Real.sqrt M)⁻¹ = M⁻¹ := by
    rw [← mul_inv, Real.mul_self_sqrt hM.le]
  have hq : qq (fun j => (X j : EReal)) (fun j => (Y j : EReal))
      = (((∑ j, X j * Y j) * (-(1 / 2) * ((Real.sqrt M)⁻¹ * M⁻¹)) * 1024⁻¹ : ℝ) : EReal) := by
    rw [qq, hr, hm, cN_eq, mhalf_eq, div_coe (by norm_num), div_coe hM.ne']
    simp only [EReal.coe_mul, ← coe_sum]
  have hd : dx (fun j => (X j : EReal)) (fun j => (Y j : EReal)) k
      = (((Real.sqrt M)⁻¹ * (Y k - X k * (Real.sqrt M)⁻¹ * ((∑ j, Y j * (X j * (Real.sqrt M)⁻¹)) * 1024⁻¹)) : ℝ) : EReal) := by
    rw [dx, hr, cN_eq, div_coe (by norm_num)]
    simp only [EReal.coe_mul, EReal.coe_sub, ← coe_sum]
  rw [hq, hd, hr, add_assoc, add_assoc, add_comm]
  dsimp only
  rw [← EReal.coe_mul, ← EReal.coe_mul, ← EReal.coe_mul, ← EReal.coe_add, ← EReal.coe_add]
  congr 2
  have hs : ∑ j, Y j * (X j * (Real.sqrt M)⁻¹) = (∑ j, X j * Y j) * (Real.sqrt M)⁻¹ := by
    rw [Finset.sum_mul]
    exact Finset.sum_congr rfl fun j _ => by ring
  rw [hs, ← hR]
  ring

end Cert.RmsMath

end
-- ==== Proof.GateUpDa.lean ====
module

public import proofs.«01_k».proof.Proof.Gen.GateUpDaIdeal.Value
public import proofs.«01_k».proof.Proof.Gen.GateUpDaSpecIdeal.Run
public import proofs.«01_k».proof.Proof.Gen.GateUpDa.Frame
public import Idealize.ShloMosaic.Lib.Pipeline.ValueKit
public import Idealize.ShloMosaic.Lib.Pipeline.ReadBack
public import Idealize.ShloMosaic.Lib.Claim
public import Idealize.ShloMosaic.Lib.ReduceAll
public import proofs.«01_k».proof.Proof.RmsMath
public import proofs.«01_k».proof.Proof.Gen.Pre_finite_gate_up_da
public import proofs.«01_k».proof.Defs

/-! The gradient through the gate and up projections and the norm before them, with the gradient of the norm's weight. -/

@[expose] public section

set_option maxRecDepth 16384

noncomputable section

open Idealize.ShloMosaic Idealize.ShloMosaic.TcCoe Idealize.SL.Sem
open Idealize.ShloMosaic.Pipeline (Dat)

namespace Cert.Pre_finite_gate_up_da

open Cert.Pre_finite_gate_up_da.Gen Cert.Reals

/-- What the precondition says: the gradient, the weight, the norm's input and the norm's weight hold real numbers. -/
theorem finite_of_fn (a : FVec Ideal S2x4096x2816 .f32) (w : FVec Ideal S1024x5632 .f32) (x : FVec Ideal S4096x1024 .f32) (g : FVec Ideal S1024 .f32) (r : FVec Ideal S4096x1024 .f32) (i0 : S_.Idx)
    (h : fn (F := Ideal) a w x g r i0 = 1#1) : (∀ i, IsReal (a i)) ∧ (∀ i, IsReal (w i)) ∧ (∀ i, IsReal (x i)) ∧ ∀ i, IsReal (g i) := by
  dsimp only [fn, fn_part1] at h
  have hand := IntOp.andi_eq_one.1 h
  have hand' := IntOp.andi_eq_one.1 hand.1
  have hand'' := IntOp.andi_eq_one.1 hand'.1
  have hS : Subsingleton S_.Idx := ⟨fun a b => funext fun x => x.elim0⟩
  refine ⟨fun i => ?_, fun i => ?_, fun i => ?_, fun i => ?_⟩
  · have test := Host.reduce_andi_all _ _ _ _ _ hand''.1 i
    idx_vars i
    pointwise at test
    exact isReal_of_test test
  · have test := Host.reduce_andi_all _ _ _ _ _ hand''.2 i
    idx_vars i
    pointwise at test
    exact isReal_of_test test
  · have test := Host.reduce_andi_all _ _ _ _ _ hand'.2 i
    idx_vars i
    pointwise at test
    exact isReal_of_test test
  · have test := Host.reduce_andi_all _ _ _ _ _ hand.2 i
    idx_vars i
    pointwise at test
    exact isReal_of_test test

end Cert.Pre_finite_gate_up_da

namespace Cert.GateUpDaIdeal.Value

open Cert.GateUpDaIdeal Cert.GateUpDaIdeal.Gen Cert.RmsMath

/-- The half of the joint gradient a column belongs to, and its place there. -/
def half (k : Fin 5632) : Fin 2 := ⟨k.val / 2816, by omega⟩
def lane (k : Fin 5632) : Fin 2816 := ⟨k.val % 2816, by omega⟩

/-- The gradient at the norm's output. -/
def d (a : Vec Ideal S2x4096x2816 .f32) (w : Vec Ideal S1024x5632 .f32) (l : Fin 4096) (q : Fin 1024) : EReal :=
  ∑ k, a (ix3 (half (k)) (l) (lane (k))) * w (ix2 q k)

/-- A row of the norm's input, and the row of the gradient times the norm's weight. -/
def xRow (x : Vec Ideal S4096x1024 .f32) (l : Fin 4096) (j : Fin 1024) : EReal := x (ix2 l j)
def yRow (a : Vec Ideal S2x4096x2816 .f32) (w : Vec Ideal S1024x5632 .f32) (g : Vec Ideal S1024 .f32) (l : Fin 4096) (j : Fin 1024) : EReal := d a w l j * g (ix1 j)

/-- The gradient at the norm's input plus the residual's, entry by entry. -/
def outX (a : Vec Ideal S2x4096x2816 .f32) (w : Vec Ideal S1024x5632 .f32) (x : Vec Ideal S4096x1024 .f32) (g : Vec Ideal S1024 .f32) (r : Vec Ideal S4096x1024 .f32) : Vec Ideal S4096x1024 .f32 :=
  fun i => dx (xRow x (i 0)) (yRow a w g (i 0)) (i 1) + r i

/-- The gradient of the norm's weight, entry by entry: a sum over the rows. -/
def outG (a : Vec Ideal S2x4096x2816 .f32) (w : Vec Ideal S1024x5632 .f32) (x : Vec Ideal S4096x1024 .f32) : Vec Ideal S1x1024 .f32 :=
  fun i => ∑ l, d a w l (i 1) * (xRow x l (i 1) * rr (xRow x l))

variable (m : (ℓ : Loc nD τ sig) → Buf (Elt Ideal) ℓ)

abbrev arg_a (c : Dev nD) : Vec Ideal S2x4096x2816 .f32 := m ((c : Thread nD τ).loc main_arg0)
abbrev arg_w (c : Dev nD) : Vec Ideal S1024x5632 .f32 := m ((c : Thread nD τ).loc main_arg1)
abbrev arg_x (c : Dev nD) : Vec Ideal S4096x1024 .f32 := m ((c : Thread nD τ).loc main_arg2)
abbrev arg_g (c : Dev nD) : Vec Ideal S1024 .f32 := m ((c : Thread nD τ).loc main_arg3)
abbrev arg_r (c : Dev nD) : Vec Ideal S4096x1024 .f32 := m ((c : Thread nD τ).loc main_arg4)

theorem idx : ∀ t : Fin cfg0.N, win0_0.index t = ![t.val % 4 / 2, t.val / 4, t.val % 4 % 2] ∧ win0_1.index t = ![t.val % 4, 0] ∧ win0_2.index t = ![t.val / 4, 0] ∧ win0_3.index t = ![0, 0] ∧ win0_4.index t = ![t.val / 4, 0] ∧ win0_5.index t = ![t.val / 4, 0] ∧ win0_6.index t = ![0, 0] :=
  (by decide +kernel : ∀ t : Fin grid0.N, _)

/-- The row of the arrays and the place on the summed axis at which a grid point works. -/
def row (t : Fin cfg0.N) (l : Fin 1024) : Fin 4096 := ⟨t.val / 4 * 1024 + l.val, by have := t.isLt; have : cfg0.N = 16 := rfl; omega⟩
def sub (t : Fin cfg0.N) (k : Fin 1408) : Fin 5632 := ⟨t.val % 4 * 1408 + k.val, by omega⟩

theorem V_a (c : Dev nD) : @Eq (FVec Ideal S2x4096x2816 .bf16) (V m c main_v0) (truncf .bf16 (arg_a m c) bitsLt_bf16_f32) := by
  unfold_abbrev_sides
  after_results

theorem V_w (c : Dev nD) : @Eq (FVec Ideal S5632x1024 .bf16) (V m c main_v2) (truncf .bf16 (transpose S5632x1024 [1, 0] (arg_w m c) transposes_S1024x5632_S5632x1024_1_0) bitsLt_bf16_f32) := by
  unfold_abbrev_sides
  after_results

theorem V_g (c : Dev nD) : @Eq (FVec Ideal S1x1024 .f32) (V m c main_v3) (shapeCast _ (arg_g m c) shapeCasts_S1024_S1x1024) := by
  unfold_abbrev_sides
  after_results
  rfl

theorem blk_a (c : Dev nD) (t : Fin cfg0.N) (p : Fin 1024) (k : Fin 1408) : iblk m c 0 t (ix3 (0 : Fin 1) p k) = arg_a m c (ix3 (half (sub t k)) (row t p) (lane (sub t k))) := by
  have h : iblk m c 0 t (ix3 (0 : Fin 1) p k) = V m c main_v0 (ix3 (half (sub t k)) (row t p) (lane (sub t k))) := by
    blk_point [iblk, idx t, row, sub, half, lane]
  rw [h, V_a]
  rfl

theorem blk_w (c : Dev nD) (t : Fin cfg0.N) (k : Fin 1408) (q : Fin 1024) : iblk m c 1 t (ix2 k q) = arg_w m c (ix2 q (sub t k)) := by
  have h : iblk m c 1 t (ix2 k q) = V m c main_v2 (ix2 (sub t k) q) := by
    blk_point [iblk, idx t, sub]
  rw [h, V_w]
  pointwise

theorem blk_x (c : Dev nD) (t : Fin cfg0.N) (p q : Fin 1024) : iblk m c 2 t (ix2 p q) = xRow (arg_x m c) (row t p) q := by
  rw [xRow]
  blk_point [iblk, V, idx t, row]

theorem blk_g (c : Dev nD) (t : Fin cfg0.N) (q : Fin 1024) : iblk m c 3 t (ix2 (0 : Fin 1) q) = arg_g m c (ix1 q) := by
  have h : iblk m c 3 t (ix2 (0 : Fin 1) q) = V m c main_v3 (ix2 (0 : Fin 1) q) := by
    blk_point [iblk, idx t]
  rw [h, V_g]
  pointwise

theorem blk_r (c : Dev nD) (t : Fin cfg0.N) (p q : Fin 1024) : iblk m c 4 t (ix2 p q) = arg_r m c (ix2 (row t p) q) := by
  blk_point [iblk, V, idx t, row]

/-- What one grid point computes. -/
theorem first (x0 : Vec Ideal S1x1024x1408 .bf16) (x1 : Vec Ideal S1408x1024 .bf16) (p q : Fin 1024) : k0_pay2 (F := Ideal) x0 x1 (ix2 p q) = ∑ k, x0 (ix3 (0 : Fin 1) p k) * x1 (ix2 k q) := by
  pointwise [k0_pay2, k0_pay1]

theorem next (x0 : Vec Ideal S1x1024x1408 .bf16) (x1 : Vec Ideal S1408x1024 .bf16) (acc : Vec Ideal S1024x1024 .f32) (p q : Fin 1024) : k0_pay3 (F := Ideal) x0 x1 acc (ix2 p q) = acc (ix2 p q) + ∑ k, x0 (ix3 (0 : Fin 1) p k) * x1 (ix2 k q) := by
  pointwise [k0_pay3, k0_pay1]

theorem last (x0 : Vec Ideal S1x1024x1408 .bf16) (x1 : Vec Ideal S1408x1024 .bf16) (acc : Vec Ideal S1024x1024 .f32) (p q : Fin 1024) : k0_pay5 (F := Ideal) x0 x1 acc (ix2 p q) = acc (ix2 p q) + ∑ k, x0 (ix3 (0 : Fin 1) p k) * x1 (ix2 k q) := by
  pointwise [k0_pay5, k0_pay1]

theorem root (x2 : Vec Ideal S1024x1024 .f32) (p : Fin 1024) : k0_pay6 (F := Ideal) x2 (ix2 p (0 : Fin 1)) = rr fun j : Fin 1024 => x2 (ix2 p j) := by
  pointwise [k0_pay6, rr, ms]

theorem norm (x2 : Vec Ideal S1024x1024 .f32) (p q : Fin 1024) : k0_pay7 (F := Ideal) x2 (ix2 p q) = x2 (ix2 p q) * k0_pay6 (F := Ideal) x2 (ix2 p (0 : Fin 1)) := by
  pointwise [k0_pay7]

theorem grad_x (x0 : Vec Ideal S1x1024x1408 .bf16) (x1 : Vec Ideal S1408x1024 .bf16) (acc x2 : Vec Ideal S1024x1024 .f32) (x3 : Vec Ideal S1x1024 .f32) (x4 : Vec Ideal S1024x1024 .f32) (p q : Fin 1024) :
    k0_pay8 (F := Ideal) x0 x1 acc x2 x3 x4 (ix2 p q)
      = dx (fun j : Fin 1024 => x2 (ix2 p j)) (fun j : Fin 1024 => k0_pay5 (F := Ideal) x0 x1 acc (ix2 p j) * x3 (ix2 (0 : Fin 1) j)) q + x4 (ix2 p q) := by
  pointwise [k0_pay8]
  simp only [norm, root]
  rfl

theorem grad_g (x0 : Vec Ideal S1x1024x1408 .bf16) (x1 : Vec Ideal S1408x1024 .bf16) (acc x2 : Vec Ideal S1024x1024 .f32) (o : Vec Ideal S1x1024 .f32) (q : Fin 1024) :
    k0_pay9 (F := Ideal) x0 x1 acc x2 o (ix2 (0 : Fin 1) q)
      = o (ix2 (0 : Fin 1) q) + ∑ p : Fin 1024, k0_pay5 (F := Ideal) x0 x1 acc (ix2 p q) * (x2 (ix2 p q) * rr fun j : Fin 1024 => x2 (ix2 p j)) := by
  pointwise [k0_pay9]
  simp only [norm, root]

theorem zero_g (q : Fin 1024) : k0_pay4 (F := Ideal) (ix2 (0 : Fin 1) q) = 0 := by
  pointwise [k0_pay4]

/-- What a grid point adds to the product. -/
def part (c : Dev nD) (t : Fin cfg0.N) (j : S1024x1024.Idx) : EReal := ∑ k, arg_a m c (ix3 (half (sub t k)) (row t (j 0)) (lane (sub t k))) * arg_w m c (ix2 (j 1) (sub t k))

theorem first_blk (c : Dev nD) (t : Fin cfg0.N) (p q : Fin 1024) :
    k0_pay2 (F := Ideal) (iblk m c 0 t) (iblk m c 1 t) (ix2 p q) = part m c t (ix2 p q) := by
  rw [first]
  simp only [blk_a, blk_w]
  rfl

theorem next_blk (c : Dev nD) (t : Fin cfg0.N) (acc : Vec Ideal S1024x1024 .f32) (p q : Fin 1024) :
    k0_pay3 (F := Ideal) (iblk m c 0 t) (iblk m c 1 t) acc (ix2 p q) = acc (ix2 p q) + part m c t (ix2 p q) := by
  rw [next]
  simp only [blk_a, blk_w]
  rfl

theorem last_blk (c : Dev nD) (t : Fin cfg0.N) (acc : Vec Ideal S1024x1024 .f32) (p q : Fin 1024) :
    k0_pay5 (F := Ideal) (iblk m c 0 t) (iblk m c 1 t) acc (ix2 p q) = acc (ix2 p q) + part m c t (ix2 p q) := by
  rw [last]
  simp only [blk_a, blk_w]
  rfl

/-- The running sum: the scratch, and at the last point of a run the scratch of the point before plus the last part. -/
def run_sum (c : Dev nD) (n : ℕ) (h : n < cfg0.N) (j : S1024x1024.Idx) : EReal :=
  if n % 4 = 3 then (outsAt0 m c (n - 1) (Nat.lt_of_le_of_lt (Nat.sub_le _ _) h)).2.2 j + part m c ⟨n, h⟩ j else (outsAt0 m c n h).2.2 j

theorem run_zero (c : Dev nD) (t : Fin cfg0.N) (h : t.val % 4 = 0) (j : S1024x1024.Idx) : run_sum m c t.val t.isLt j = 0 + part m c t j := by
  have h1 : ¬ (1 ≤ t.val % 4 ∧ t.val % 4 ≤ 2) := by omega
  have h3 : ¬ t.val % 4 = 3 := by omega
  rw [run_sum, if_neg h3]
  by_cases h2 : t.val % 16 = 0
  · rw [outsAt0_A m c t h h1 h2 h3]
    frame_out
    idx_vars j
    rw [first_blk, zero_add]
  · rw [outsAt0_D m c t h h1 h2 h3]
    frame_out
    idx_vars j
    rw [first_blk, zero_add]

theorem run_step (c : Dev nD) (t : Fin cfg0.N) (h : ¬ t.val % 4 = 0) (j : S1024x1024.Idx) :
    run_sum m c t.val t.isLt j = run_sum m c (t.val - 1) (Nat.lt_of_le_of_lt (Nat.sub_le _ _) t.isLt) j + part m c t j := by
  have hp : ¬ (t.val - 1) % 4 = 3 := by omega
  rw [run_sum, run_sum, if_neg hp]
  by_cases h3 : t.val % 4 = 3
  · rw [if_pos h3]
  · have h1 : 1 ≤ t.val % 4 ∧ t.val % 4 ≤ 2 := by omega
    have h2 : ¬ t.val % 16 = 0 := by omega
    rw [if_neg h3, outsAt0_B m c t h h1 h2 h3]
    frame_out
    idx_vars j
    rw [next_blk, read_unread_whole]

/-- At the last point of a run the parts make up the whole product. -/
theorem acc_at (c : Dev nD) (t : Fin cfg0.N) (h : t.val % 4 = 4 - 1) (p q : Fin 1024) :
    (outsAt0 m c (t.val - 1) (Nat.lt_of_le_of_lt (Nat.sub_le _ _) t.isLt)).2.2 (ix2 p q) + part m c t (ix2 p q) = d (arg_a m c) (arg_w m c) (row t p) q := by
  have sum := Pipeline.eq_sum_fin_of_reset_step_apply_of_flush (M := EReal) (run_sum m c) 4 (fun _ => 0) (part m c)
    (run_zero m c) (run_step m c) t h (ix2 p q)
  rw [run_sum, if_pos h, zero_add] at sum
  refine sum.trans ?_
  refine Fin.sum_mul_add_congr fun s k hl => ?_
  have hk : sub ⟨4 * (t.val / 4) + s.val, Pipeline.run_point_lt_of_flush t h s⟩ k = ⟨s.val * 1408 + k.val, hl⟩ := by
    apply Fin.ext
    show (4 * (t.val / 4) + s.val) % 4 * 1408 + k.val = s.val * 1408 + k.val
    have := s.isLt
    omega
  have hr : row ⟨4 * (t.val / 4) + s.val, Pipeline.run_point_lt_of_flush t h s⟩ p = row t p := by
    apply Fin.ext
    show (4 * (t.val / 4) + s.val) / 4 * 1024 + p.val = t.val / 4 * 1024 + p.val
    have := s.isLt
    omega
  rw [hk]
  show arg_a m c (ix3 (half (_)) (row ⟨4 * (t.val / 4) + s.val, Pipeline.run_point_lt_of_flush t h s⟩ p) (lane (_))) * _ = _
  rw [hr]
  rfl

theorem emb_x (t : Fin cfg0.N) (p q : Fin 1024) : ((cfg0.win 5).blk t).view.emb (ix2 p q) = ix2 (row t p) q := by
  blk_point [idx t, row]

theorem emb_g (t : Fin cfg0.N) (q : Fin 1024) : ((cfg0.win 6).blk t).view.emb (ix2 (0 : Fin 1) q) = ix2 (0 : Fin 1) q := by
  blk_point [idx t]

theorem point_x (c : Dev nD) (t : Fin cfg0.N) (h : t.val % 4 = 3) (p q : Fin 1024) :
    (outsAt0 m c t.val t.isLt).1 (ix2 p q) = outX (arg_a m c) (arg_w m c) (arg_x m c) (arg_g m c) (arg_r m c) (ix2 (row t p) q) := by
  rw [outsAt0_C m c t (by omega) (by omega) (by omega) h]
  frame_out
  rw [grad_x]
  simp only [last_blk, read_unread_whole, blk_x, blk_g, blk_r, acc_at m c t h]
  rfl

/-- What the rows of one run add to the gradient of the norm's weight. -/
def rows (c : Dev nD) (i : ℕ) (q : Fin 1024) : EReal :=
  ∑ p : Fin 1024, d (arg_a m c) (arg_w m c) (Fin.ofNat 4096 (i * 1024 + p.val)) q
    * (xRow (arg_x m c) (Fin.ofNat 4096 (i * 1024 + p.val)) q * rr (xRow (arg_x m c) (Fin.ofNat 4096 (i * 1024 + p.val))))

theorem row_eq (t : Fin cfg0.N) (p : Fin 1024) : row t p = Fin.ofNat 4096 (t.val / 4 * 1024 + p.val) := by
  apply Fin.ext
  show t.val / 4 * 1024 + p.val = (t.val / 4 * 1024 + p.val) % 4096
  have := t.isLt
  have : cfg0.N = 16 := rfl
  omega

theorem step_g (c : Dev nD) (t : Fin cfg0.N) (h : t.val % 4 = 3) (q : Fin 1024) :
    (outsAt0 m c t.val t.isLt).2.1 (ix2 (0 : Fin 1) q)
      = (outsAt0 m c (t.val - 1) (Nat.lt_of_le_of_lt (Nat.sub_le _ _) t.isLt)).2.1 (ix2 (0 : Fin 1) q) + rows m c (t.val / 4) q := by
  rw [outsAt0_C m c t (by omega) (by omega) (by omega) h]
  frame_out
  rw [grad_g]
  simp only [last_blk, read_unread_whole, blk_x, acc_at m c t h, row_eq]
  rfl

theorem zero_at (c : Dev nD) (t : Fin cfg0.N) (h : t.val % 16 = 0) (q : Fin 1024) : (outsAt0 m c t.val t.isLt).2.1 (ix2 (0 : Fin 1) q) = 0 := by
  rw [outsAt0_A m c t (by omega) (by omega) h (by omega)]
  frame_out
  exact zero_g q

theorem keep_g (c : Dev nD) (t : Fin cfg0.N) (h : ¬ t.val % 4 = 3) (h2 : ¬ t.val % 16 = 0) (q : Fin 1024) :
    (outsAt0 m c t.val t.isLt).2.1 (ix2 (0 : Fin 1) q)
      = (outsAt0 m c (t.val - 1) (Nat.lt_of_le_of_lt (Nat.sub_le _ _) t.isLt)).2.1 (ix2 (0 : Fin 1) q) := by
  by_cases h0 : t.val % 4 = 0
  · rw [outsAt0_D m c t h0 (by omega) h2 h]
    rfl
  · rw [outsAt0_B m c t h0 (by omega) h2 h]
    rfl

/-- After each point the second result holds the sum over the runs that are done. -/
theorem sum_g (c : Dev nD) (q : Fin 1024) : ∀ (n : ℕ) (h : n < cfg0.N),
    (outsAt0 m c n h).2.1 (ix2 (0 : Fin 1) q) = ∑ i ∈ Finset.range ((n + 1) / 4), rows m c i q := by
  intro n
  induction n with
  | zero =>
    intro h
    rw [zero_at m c ⟨0, h⟩ rfl q]
    rfl
  | succ n ih =>
    intro h
    have hN : n + 1 < 16 := h
    by_cases h3 : (n + 1) % 4 = 3
    · rw [step_g m c ⟨n + 1, h⟩ h3 q, show (n + 1 + 1) / 4 = (n + 1) / 4 + 1 by omega, Finset.sum_range_succ]
      exact congrArg (· + _) (ih _)
    · rw [keep_g m c ⟨n + 1, h⟩ h3 (by show ¬ (n + 1) % 16 = 0; omega) q, show (n + 1 + 1) / 4 = (n + 1) / 4 by omega]
      exact ih _

theorem point_g (c : Dev nD) (t : Fin cfg0.N) (h : t.val = 15) (q : Fin 1024) :
    (outsAt0 m c t.val t.isLt).2.1 (ix2 (0 : Fin 1) q) = outG (arg_a m c) (arg_w m c) (arg_x m c) (ix2 (0 : Fin 1) q) := by
  rw [sum_g, h, show (15 + 1) / 4 = 4 from rfl, Finset.sum_range]
  refine Fin.sum_mul_add_congr fun s k hl => ?_
  have hr : Fin.ofNat 4096 (s.val * 1024 + k.val) = ⟨s.val * 1024 + k.val, hl⟩ := Fin.ext (Nat.mod_eq_of_lt hl)
  rw [hr]
  rfl

/-- The arrays the kernel leaves. -/
theorem final_x (c : Dev nD) : (dats m 0 c).arrAt 5 cfg0.N = outX (arg_a m c) (arg_w m c) (arg_x m c) (arg_g m c) (arg_r m c) := by
  refine (dats m 0 c).arrAt_eq_of_covers 5 _ (by decide +kernel) fun t hf y => ?_
  blk_simp
  rw [after0_5]
  idx_vars y
  rw [emb_x]
  exact point_x m c t ((flush0_5 t).mp hf) y0 y1

theorem final_g (c : Dev nD) : (dats m 0 c).arrAt 6 cfg0.N = outG (arg_a m c) (arg_w m c) (arg_x m c) := by
  refine (dats m 0 c).arrAt_eq_of_covers 6 _ (by decide +kernel) fun t hf y => ?_
  blk_simp
  rw [after0_6]
  idx_vars y
  obtain rfl : y0 = 0 := by omega
  rw [emb_g]
  exact point_g m c t (by have := (flush0_6 t).mp hf; have := t.isLt; have : cfg0.N = 16 := rfl; omega) y1

end Cert.GateUpDaIdeal.Value

namespace Cert.GateUpDaSpecIdeal.Value

open Cert.GateUpDaSpecIdeal Cert.GateUpDaSpecIdeal.Gen
open Cert.RmsMath Cert.Reals
open Cert.GateUpDaIdeal.Value (half lane d xRow yRow outX outG)

/-- The gate's and the up half beside each other. -/
abbrev joined (a : Vec Ideal S2x4096x2816 .f32) : FVec Ideal S4096x5632 .f32 :=
  concatenate S4096x5632 1 [⟨S4096x2816, (shapeCast _ (extractStridedSlice S1x4096x2816 ![0, 0, 0] a slices_S2x4096x2816_S1x4096x2816_0_0_0) shapeCasts_S1x4096x2816_S4096x2816)⟩, ⟨S4096x2816, (shapeCast _ (extractStridedSlice S1x4096x2816 ![1, 0, 0] a slices_S2x4096x2816_S1x4096x2816_1_0_0) shapeCasts_S1x4096x2816_S4096x2816)⟩] concatenates_S4096x2816_S4096x2816_S4096x5632_d1

theorem joined_at (a : Vec Ideal S2x4096x2816 .f32) (l : Fin 4096) (r : Fin 5632) :
    joined a (ix2 l r) = a (ix3 (half r) l (lane r)) := by
  pointwise [joined]
  blk_point [half, lane]

/-- The reference in steps: the gradient at the norm's output and its product with the norm's weight, the mean of the
    squares and the root's reciprocal, the factor through the mean of the squares, and the two results. -/
abbrev rD (a : Vec Ideal S2x4096x2816 .f32) (w : Vec Ideal S1024x5632 .f32) : FVec Ideal S4096x1024 .f32 :=
  Host.dotGeneral (F := Ideal) (φ₁ := .f32) (φ₂ := .f32) dot_S4096x5632_S1024x5632_S4096x1024_1_1_0_0_n_n none (joined a) w
abbrev rY (a : Vec Ideal S2x4096x2816 .f32) (w : Vec Ideal S1024x5632 .f32) (g : Vec Ideal S1024 .f32) : FVec Ideal S4096x1024 .f32 :=
  mulf (rD a w) (broadcastInDim S4096x1024 ![0, 1] bcast_S1x1024_S4096x1024_0_1 (broadcastInDim S1x1024 ![1] bcast_S1024_S1x1024_1 g))
abbrev rMs (x : Vec Ideal S4096x1024 .f32) : FVec Ideal S4096x1 .f32 :=
  addf (Host.divf (broadcastInDim S4096x1 ![0] bcast_S4096_S4096x1_0 (Host.reduceAdd (F := Ideal) (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
abbrev rR (x : Vec Ideal S4096x1024 .f32) : FVec Ideal S4096x1 .f32 := Host.rsqrt (rMs x)
abbrev rS (x y : FVec Ideal S4096x1024 .f32) : FVec Ideal S4096x1 .f32 :=
  shapeCast _ (Host.reduceAdd (F := Ideal) (mulf x y) (constant S_ .f32 0x00000000#32) reducesTo_S4096x1024_S4096_d1 h_S_) shapeCasts_S4096_S4096x1
abbrev rQ (s ms r : FVec Ideal S4096x1 .f32) : FVec Ideal S4096 .f32 :=
  Host.reduceAdd (F := Ideal) (Host.divf (mulf s (mulf (broadcastInDim S4096x1 ![] bcast_S_S4096x1 (constant S_ .f32 0xBF000000#32)) (Host.divf r ms))) (broadcastInDim S4096x1 ![] bcast_S_S4096x1 (constant S_ .f32 0x44800000#32))) (constant S_ .f32 0x00000000#32) reducesTo_S4096x1_S4096_d1 h_S_
abbrev rX (x y r : FVec Ideal S4096x1024 .f32) (i : FVec Ideal S4096x1 .f32) (q : FVec Ideal S4096 .f32) : FVec Ideal S4096x1024 .f32 :=
  addf (addf (addf r (mulf y (broadcastInDim S4096x1024 ![0, 1] bcast_S4096x1_S4096x1024_0_1 i))) (mulf x (broadcastInDim S4096x1024 ![0] bcast_S4096_S4096x1024_0 q))) (mulf (broadcastInDim S4096x1024 ![0] bcast_S4096_S4096x1024_0 q) x)
abbrev rG (x dd : FVec Ideal S4096x1024 .f32) (i : FVec Ideal S4096x1 .f32) : FVec Ideal S1x1024 .f32 :=
  shapeCast _ (Host.reduceAdd (F := Ideal) (shapeCast _ (Host.reduceAdd (F := Ideal) (mulf (mulf x (broadcastInDim S4096x1024 ![0, 1] bcast_S4096x1_S4096x1024_0_1 i)) dd) (constant S_ .f32 0x00000000#32) reducesTo_S4096x1024_S1024_d0 h_S_) shapeCasts_S1024_S1x1024) (constant S_ .f32 0x00000000#32) reducesTo_S1x1024_S1024_d0 h_S_) shapeCasts_S1024_S1x1024

theorem rD_at (a : Vec Ideal S2x4096x2816 .f32) (w : Vec Ideal S1024x5632 .f32) (l : Fin 4096) (q : Fin 1024) : rD a w (ix2 l q) = d a w l q := by
  pointwise [joined_at, d]

theorem rY_at (a : Vec Ideal S2x4096x2816 .f32) (w : Vec Ideal S1024x5632 .f32) (g : Vec Ideal S1024 .f32) (l : Fin 4096) (q : Fin 1024) : rY a w g (ix2 l q) = yRow a w g l q := by
  have h : rY a w g (ix2 l q) = rD a w (ix2 l q) * g (ix1 q) := by
    rw [rY]
    generalize rD a w = x
    pointwise
  rw [h, rD_at, yRow]

theorem rMs_at (x : Vec Ideal S4096x1024 .f32) (l : Fin 4096) : rMs x (ix2 l (0 : Fin 1)) = ms (xRow x l) := by
  pointwise [rMs, ms, xRow]

theorem rR_at (x : Vec Ideal S4096x1024 .f32) (l : Fin 4096) : rR x (ix2 l (0 : Fin 1)) = rr (xRow x l) := by
  have h : rR x (ix2 l (0 : Fin 1)) = Ideal.rsqrt (rMs x (ix2 l (0 : Fin 1))) := by
    rw [rR]
    generalize rMs x = v
    pointwise
  rw [h, rMs_at, rr]

theorem rS_at (x y : FVec Ideal S4096x1024 .f32) (l : Fin 4096) : rS x y (ix2 l (0 : Fin 1)) = ∑ j : Fin 1024, x (ix2 l j) * y (ix2 l j) := by
  pointwise [rS]

theorem rQ_at (s v r : FVec Ideal S4096x1 .f32) (l : Fin 4096) :
    rQ s v r (ix1 l) = Ideal.div (s (ix2 l (0 : Fin 1)) * (mhalf * Ideal.div (r (ix2 l (0 : Fin 1))) (v (ix2 l (0 : Fin 1))))) cN := by
  pointwise [rQ]
  exact Fin.sum_univ_one _

theorem rX_at (x y r : FVec Ideal S4096x1024 .f32) (i : FVec Ideal S4096x1 .f32) (q : FVec Ideal S4096 .f32) (l : Fin 4096) (k : Fin 1024) :
    rX x y r i q (ix2 l k) = ((r (ix2 l k) + y (ix2 l k) * i (ix2 l (0 : Fin 1))) + x (ix2 l k) * q (ix1 l)) + q (ix1 l) * x (ix2 l k) := by
  pointwise [rX]

theorem rG_at (x dd : FVec Ideal S4096x1024 .f32) (i : FVec Ideal S4096x1 .f32) (q : Fin 1024) :
    rG x dd i (ix2 (0 : Fin 1) q) = ∑ l : Fin 4096, x (ix2 l q) * i (ix2 l (0 : Fin 1)) * dd (ix2 l q) := by
  pointwise [rG]
  exact Fin.sum_univ_one _

/-- What the reference computes are the same arrays: the first where the precondition holds, the second everywhere. -/
theorem spec_x (a : Vec Ideal S2x4096x2816 .f32) (w : Vec Ideal S1024x5632 .f32) (x : Vec Ideal S4096x1024 .f32) (g : Vec Ideal S1024 .f32) (r : Vec Ideal S4096x1024 .f32) (ha : ∀ i, IsReal (a i)) (hw : ∀ i, IsReal (w i)) (hx : ∀ i, IsReal (x i)) (hg : ∀ i, IsReal (g i)) :
    rX x (rY a w g) r (rR x) (rQ (rS x (rY a w g)) (rMs x) (rR x)) = outX a w x g r := by
  funext i
  idx_vars i
  rw [rX_at, rQ_at, rS_at, rY_at, rR_at, rMs_at]
  simp only [rY_at]
  refine chain_eq (x := xRow x i0) (y := yRow a w g i0) (fun j => hx _) (fun j => ?_) _ _
  exact (IsReal.sum _ fun k => (ha _).mul (hw _)).mul (hg _)

theorem spec_g (a : Vec Ideal S2x4096x2816 .f32) (w : Vec Ideal S1024x5632 .f32) (x : Vec Ideal S4096x1024 .f32) : rG x (rD a w) (rR x) = outG a w x := by
  funext i
  idx_vars i
  obtain rfl : i0 = 0 := by omega
  rw [rG_at]
  simp only [rD_at, rR_at]
  exact Finset.sum_congr rfl fun l _ => mul_comm _ _

end Cert.GateUpDaSpecIdeal.Value

namespace Cert.GateUpDaClaim

open Cert.GateUpDaIdeal.Value

theorem specFrame : Cert.quiescent_GateUpDaSpecIdeal := fun m g _ =>
  (θ_run _ _ _).mono (fun r h => ⟨fun c => (h c).2.2, sem_eq_zero_of_no_sems (by decide) r.2⟩) (Cert.GateUpDaSpecIdeal.Value.run m g)

theorem value : Cert.algebraic_GateUpDaIdeal_GateUpDaSpecIdeal_pre_finite_gate_up_da := by
  intro m g m' g' hpre hargs
  refine ⟨fun c => outX (arg_a m c) (arg_w m c) (arg_x m c) (arg_g m c) (arg_r m c), fun c => outG (arg_a m c) (arg_w m c) (arg_x m c), ?_, ?_⟩
  · refine (θ_run _ _ _).mono (fun r h c => ?_) (Cert.GateUpDaIdeal.Value.run_blocks m g)
    exact ⟨(h c).1.trans (final_x m c), (h c).2.1.trans (final_g m c), (h c).2.2⟩
  · refine (θ_run _ _ _).mono (fun r h c => ?_) (Cert.GateUpDaSpecIdeal.Value.run m' g')
    obtain ⟨a0, a1, a2, a3, a4⟩ := hargs c
    refine ⟨(h c).1.trans ?_, (h c).2.1.trans ?_, (h c).2.2⟩
    · unfold Cert.GateUpDaSpecIdeal.Value.res_main_v45
      rw [a0, a1, a2, a3, a4]
      obtain ⟨ha, hw, hx, hg⟩ := Cert.Pre_finite_gate_up_da.finite_of_fn _ _ _ _ _ (fun a => a.elim0) (congrFun (hpre c) (fun a => a.elim0))
      exact Cert.GateUpDaSpecIdeal.Value.spec_x _ _ _ _ _ ha hw hx hg
    · rw [a0, a1, a2]
      exact Cert.GateUpDaSpecIdeal.Value.spec_g _ _ _

end Cert.GateUpDaClaim

end
-- ==== Proof.InPiece.lean ====
module

public import proofs.«01_k».proof.Proof.Gen.InPieceIdeal.Value
public import proofs.«01_k».proof.Proof.Gen.InPieceSpecIdeal.Run
public import proofs.«01_k».proof.Proof.Gen.InPiece.Frame
public import Idealize.ShloMosaic.Lib.Pipeline.ValueKit
public import Idealize.ShloMosaic.Lib.Claim
public import proofs.«01_k».proof.Defs

/-! One piece of layer 0's input projection: the rows times one stretch of the weight. -/

@[expose] public section

set_option maxRecDepth 16384

noncomputable section

open Idealize.ShloMosaic Idealize.ShloMosaic.TcCoe Idealize.SL.Sem
open Idealize.ShloMosaic.Pipeline (Dat)

namespace Cert.InPieceIdeal.Value

open Cert.InPieceIdeal Cert.InPieceIdeal.Gen

/-- The product of the rows and the weight. -/
def prod (a : Vec Ideal S4096x1024 .f32) (w : Vec Ideal S1024x1024 .f32) : Vec Ideal S4096x1024 .f32 :=
  fun i => ∑ k, a (ix2 (i 0) k) * w (ix2 k (i 1))

variable (m : (ℓ : Loc nD τ sig) → Buf (Elt Ideal) ℓ)

abbrev argA (c : Dev nD) : Vec Ideal S4096x1024 .f32 := m ((c : Thread nD τ).loc main_arg0)
abbrev argW (c : Dev nD) : Vec Ideal S1024x1024 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

def row (t : Fin cfg0.N) (l : Fin 2048) : Fin 4096 := ⟨t.val * 2048 + l.val, by have := t.isLt; have : cfg0.N = 2 := rfl; omega⟩

theorem V_a (c : Dev nD) : @Eq (FVec Ideal S4096x1024 .bf16) (V m c main_v0) (truncf .bf16 (argA m c) bitsLt_bf16_f32) := by
  unfold_abbrev_sides
  after_results

theorem V_w (c : Dev nD) : @Eq (FVec Ideal S1024x1024 .bf16) (V m c main_v2) (truncf .bf16 (transpose S1024x1024 [1, 0] (argW m c) transposes_S1024x1024_S1024x1024_1_0) bitsLt_bf16_f32) := by
  unfold_abbrev_sides
  after_results

theorem blk_a (c : Dev nD) (t : Fin cfg0.N) (l : Fin 2048) (k : Fin 1024) : iblk m c 0 t (ix2 l k) = argA m c (ix2 (row t l) k) := by
  have h : iblk m c 0 t (ix2 l k) = V m c main_v0 (ix2 (row t l) k) := by
    blk_point [iblk, idx t, row]
  rw [h, V_a]
  rfl

theorem blk_w (c : Dev nD) (t : Fin cfg0.N) (n : Fin 1024) (k : Fin 1024) : iblk m c 1 t (ix2 n k) = argW m c (ix2 k n) := by
  have h : iblk m c 1 t (ix2 n k) = V m c main_v2 (ix2 n k) := by
    blk_point [iblk, idx t]
  rw [h, V_w]
  pointwise

theorem block (x0 : Vec Ideal S2048x1024 .bf16) (x1 : Vec Ideal S1024x1024 .bf16) (l : Fin 2048) (n : Fin 1024) :
    k0_pay1 (F := Ideal) x0 x1 (ix2 l n) = ∑ k, x0 (ix2 l k) * x1 (ix2 n k) := by
  pointwise [k0_pay1]

theorem emb (t : Fin cfg0.N) (l : Fin 2048) (n : Fin 1024) : ((cfg0.win 2).blk t).view.emb (ix2 l n) = ix2 (row t l) n := by
  blk_point [idx t, row]

theorem point (c : Dev nD) (t : Fin cfg0.N) (l : Fin 2048) (n : Fin 1024) :
    k0_pay1 (F := Ideal) (iblk m c 0 t) (iblk m c 1 t) (ix2 l n) = prod (argA m c) (argW m c) (((cfg0.win 2).blk t).view.emb (ix2 l n)) := by
  rw [emb, block]
  simp only [blk_a, blk_w]
  rfl

theorem final (c : Dev nD) : (dats m 0 c).arrAt 2 cfg0.N = prod (argA m c) (argW m c) := by
  refine (dats m 0 c).arrAt_eq_of_covers 2 _ (by decide +kernel) fun t _ y => ?_
  blk_simp
  rw [after0_2]
  frame_out
  idx_vars y
  exact point m c t y0 y1

end Cert.InPieceIdeal.Value

namespace Cert.InPieceSpecIdeal.Value

open Cert.InPieceSpecIdeal

theorem spec (a : Vec Ideal S4096x1024 .f32) (w : Vec Ideal S1024x1024 .f32) :
    Host.dotGeneral (F := Ideal) (φ₁ := .f32) (φ₂ := .f32) dot_S4096x1024_S1024x1024_S4096x1024_1_0_0_1_n_n none a w = Cert.InPieceIdeal.Value.prod a w := by
  funext i
  idx_vars i
  pointwise [Cert.InPieceIdeal.Value.prod]

end Cert.InPieceSpecIdeal.Value

namespace Cert.InPieceClaim

open Cert.InPieceIdeal.Value

theorem specFrame : Cert.quiescent_InPieceSpecIdeal := fun m g _ =>
  (θ_run _ _ _).mono (fun r h => ⟨fun c => (h c).2, sem_eq_zero_of_no_sems (by decide) r.2⟩) (Cert.InPieceSpecIdeal.Value.run m g)

theorem value : Cert.algebraic_InPieceIdeal_InPieceSpecIdeal := by
  intro m g m' g' _ hargs
  refine ⟨fun c => prod (argA m c) (argW m c), ?_, ?_⟩
  · refine (θ_run _ _ _).mono (fun r h c => ?_) (Cert.InPieceIdeal.Value.run_blocks m g)
    exact ⟨(h c).1.trans (final m c), (h c).2⟩
  · refine (θ_run _ _ _).mono (fun r h c => ?_) (Cert.InPieceSpecIdeal.Value.run m' g')
    obtain ⟨a0, a1⟩ := hargs c
    refine ⟨(h c).1.trans ?_, (h c).2⟩
    rw [a0, a1]
    exact Cert.InPieceSpecIdeal.Value.spec _ _

end Cert.InPieceClaim

end
-- ==== Proof.InDw.lean ====
module

public import proofs.«01_k».proof.Proof.Gen.InDwIdeal.Value
public import proofs.«01_k».proof.Proof.Gen.InDwSpecIdeal.Run
public import proofs.«01_k».proof.Proof.Gen.InDw.Frame
public import Idealize.ShloMosaic.Lib.Pipeline.ValueKit
public import Idealize.ShloMosaic.Lib.Pipeline.ReadBack
public import Idealize.ShloMosaic.Lib.Claim
public import proofs.«01_k».proof.Defs

/-! The gradient of layer 0's input projection with respect to its weight. -/

@[expose] public section

set_option maxRecDepth 16384

noncomputable section

open Idealize.ShloMosaic Idealize.ShloMosaic.TcCoe Idealize.SL.Sem
open Idealize.ShloMosaic.Pipeline (Dat)

namespace Cert.InDwIdeal.Value

open Cert.InDwIdeal Cert.InDwIdeal.Gen

/-- The gradient, entry by entry: a sum over the rows. -/
def out (a : Vec Ideal S4096x3584 .f32) (g : Vec Ideal S4096x1024 .f32) : Vec Ideal S3584x1024 .f32 :=
  fun i => ∑ l, a (ix2 l (i 0)) * g (ix2 l (i 1))

variable (m : (ℓ : Loc nD τ sig) → Buf (Elt Ideal) ℓ)

abbrev arg_a (c : Dev nD) : Vec Ideal S4096x3584 .f32 := m ((c : Thread nD τ).loc main_arg0)
abbrev arg_g (c : Dev nD) : Vec Ideal S4096x1024 .f32 := m ((c : Thread nD τ).loc main_arg1)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The row of both arrays a grid point reads as its `k`-th. -/
def row (t : Fin cfg0.N) (k : Fin 2048) : Fin 4096 := ⟨t.val % 2 * 2048 + k.val, by omega⟩
/-- The row of the result a grid point works on. -/
def col (t : Fin cfg0.N) (p : Fin 896) : Fin 3584 := ⟨t.val / 2 * 896 + p.val, by have := t.isLt; have : cfg0.N = 8 := rfl; omega⟩

theorem V_a (c : Dev nD) : @Eq (FVec Ideal S4096x3584 .bf16) (V m c main_v0) (truncf .bf16 (arg_a m c) bitsLt_bf16_f32) := by
  unfold_abbrev_sides
  after_results

theorem blk_a (c : Dev nD) (t : Fin cfg0.N) (k : Fin 2048) (p : Fin 896) : iblk m c 0 t (ix2 k p) = arg_a m c (ix2 (row t k) (col t p)) := by
  have h : iblk m c 0 t (ix2 k p) = V m c main_v0 (ix2 (row t k) (col t p)) := by
    blk_point [iblk, idx t, row, col]
  rw [h, V_a]
  rfl

theorem V_g (c : Dev nD) : @Eq (FVec Ideal S4096x1024 .bf16) (V m c main_v1) (truncf .bf16 (arg_g m c) bitsLt_bf16_f32) := by
  unfold_abbrev_sides
  after_results

theorem blk_g (c : Dev nD) (t : Fin cfg0.N) (k : Fin 2048) (p : Fin 1024) : iblk m c 1 t (ix2 k p) = arg_g m c (ix2 (row t k) p) := by
  have h : iblk m c 1 t (ix2 k p) = V m c main_v1 (ix2 (row t k) p) := by
    blk_point [iblk, idx t, row, col]
  rw [h, V_g]
  rfl

theorem first (x0 : Vec Ideal S2048x896 .bf16) (x1 : Vec Ideal S2048x1024 .bf16) (p : Fin 896) (q : Fin 1024) : k0_pay2 (F := Ideal) x0 x1 (ix2 p q) = ∑ k, x0 (ix2 k p) * x1 (ix2 k q) := by
  pointwise [k0_pay2, k0_pay1]

theorem next (x0 : Vec Ideal S2048x896 .bf16) (x1 : Vec Ideal S2048x1024 .bf16) (acc : Vec Ideal S896x1024 .f32) (p : Fin 896) (q : Fin 1024) : k0_pay3 (F := Ideal) x0 x1 acc (ix2 p q) = acc (ix2 p q) + ∑ k, x0 (ix2 k p) * x1 (ix2 k q) := by
  pointwise [k0_pay3, k0_pay1]

theorem last (x0 : Vec Ideal S2048x896 .bf16) (x1 : Vec Ideal S2048x1024 .bf16) (acc : Vec Ideal S896x1024 .f32) (p : Fin 896) (q : Fin 1024) : k0_pay4 (F := Ideal) x0 x1 acc (ix2 p q) = acc (ix2 p q) + ∑ k, x0 (ix2 k p) * x1 (ix2 k q) := by
  pointwise [k0_pay4, k0_pay1]

/-- What a grid point adds. -/
def part (c : Dev nD) (t : Fin cfg0.N) (j : S896x1024.Idx) : EReal := ∑ k, arg_a m c (ix2 (row t k) (col t (j 0))) * arg_g m c (ix2 (row t k) (j 1))

theorem first_blk (c : Dev nD) (t : Fin cfg0.N) (p : Fin 896) (q : Fin 1024) :
    k0_pay2 (F := Ideal) (iblk m c 0 t) (iblk m c 1 t) (ix2 p q) = part m c t (ix2 p q) := by
  rw [first]
  simp only [blk_a, blk_g]
  rfl

theorem next_blk (c : Dev nD) (t : Fin cfg0.N) (acc : Vec Ideal S896x1024 .f32) (p : Fin 896) (q : Fin 1024) :
    k0_pay3 (F := Ideal) (iblk m c 0 t) (iblk m c 1 t) acc (ix2 p q) = acc (ix2 p q) + part m c t (ix2 p q) := by
  rw [next]
  simp only [blk_a, blk_g]
  rfl

theorem last_blk (c : Dev nD) (t : Fin cfg0.N) (acc : Vec Ideal S896x1024 .f32) (p : Fin 896) (q : Fin 1024) :
    k0_pay4 (F := Ideal) (iblk m c 0 t) (iblk m c 1 t) acc (ix2 p q) = acc (ix2 p q) + part m c t (ix2 p q) := by
  rw [last]
  simp only [blk_a, blk_g]
  rfl

/-- The running sum: the scratch, and at the last point of a run the result. -/
def run_sum (c : Dev nD) (n : ℕ) (h : n < cfg0.N) (j : S896x1024.Idx) : EReal :=
  if n % 2 = 1 then (outsAt0 m c n h).1 j else (outsAt0 m c n h).2 j

theorem run_zero (c : Dev nD) (t : Fin cfg0.N) (h : t.val % 2 = 0) (j : S896x1024.Idx) : run_sum m c t.val t.isLt j = 0 + part m c t j := by
  have h2 : ¬ t.val % 2 = 1 := by omega
  rw [run_sum, if_neg h2, outsAt0_A m c t h h2]
  frame_out
  idx_vars j
  rw [first_blk, zero_add]

theorem run_step (c : Dev nD) (t : Fin cfg0.N) (h : ¬ t.val % 2 = 0) (j : S896x1024.Idx) :
    run_sum m c t.val t.isLt j = run_sum m c (t.val - 1) (Nat.lt_of_le_of_lt (Nat.sub_le _ _) t.isLt) j + part m c t j := by
  have hp : ¬ (t.val - 1) % 2 = 1 := by omega
  have h2 : t.val % 2 = 1 := by omega
  rw [run_sum, run_sum, if_neg hp, if_pos h2, outsAt0_B m c t h h2]
  frame_out
  idx_vars j
  rw [last_blk, read_unread_whole]

theorem emb (t : Fin cfg0.N) (p : Fin 896) (q : Fin 1024) : ((cfg0.win 2).blk t).view.emb (ix2 p q) = ix2 (col t p) q := by
  blk_point [idx t, col]

/-- At the last point of a run the parts make up the whole sum over the rows. -/
theorem point (c : Dev nD) (t : Fin cfg0.N) (h : t.val % 2 = 2 - 1) (p : Fin 896) (q : Fin 1024) :
    (outsAt0 m c t.val t.isLt).1 (ix2 p q) = out (arg_a m c) (arg_g m c) (((cfg0.win 2).blk t).view.emb (ix2 p q)) := by
  have sum := Pipeline.eq_sum_fin_of_reset_step_apply_of_flush (M := EReal) (run_sum m c) 2 (fun _ => 0) (part m c)
    (run_zero m c) (run_step m c) t h (ix2 p q)
  rw [run_sum, if_pos h] at sum
  rw [emb, sum, zero_add]
  refine Fin.sum_mul_add_congr fun s k hl => ?_
  have hr : row ⟨2 * (t.val / 2) + s.val, Pipeline.run_point_lt_of_flush t h s⟩ k = ⟨s.val * 2048 + k.val, hl⟩ := by
    apply Fin.ext
    show (2 * (t.val / 2) + s.val) % 2 * 2048 + k.val = s.val * 2048 + k.val
    have := s.isLt
    omega
  have hc : col ⟨2 * (t.val / 2) + s.val, Pipeline.run_point_lt_of_flush t h s⟩ p = col t p := by
    apply Fin.ext
    show (2 * (t.val / 2) + s.val) / 2 * 896 + p.val = t.val / 2 * 896 + p.val
    have := s.isLt
    omega
  rw [hr]
  show _ * _ = arg_a m c (ix2 _ (col t p)) * _
  rw [← hc]
  rfl

/-- The array the kernel leaves. -/
theorem final (c : Dev nD) : (dats m 0 c).arrAt 2 cfg0.N = out (arg_a m c) (arg_g m c) := by
  refine (dats m 0 c).arrAt_eq_of_covers 2 _ (by decide +kernel) fun t hf y => ?_
  blk_simp
  rw [after0_2]
  idx_vars y
  exact point m c t ((flush0_2 t).mp hf) y0 y1

end Cert.InDwIdeal.Value

namespace Cert.InDwSpecIdeal.Value

open Cert.InDwSpecIdeal Cert.InDwSpecIdeal.Gen

/-- What the reference computes is the same array. -/
theorem spec (a : Vec Ideal S4096x3584 .f32) (g : Vec Ideal S4096x1024 .f32) :
    transpose S3584x1024 [1, 0] (transpose S1024x3584 [1, 0] (Host.dotGeneral (F := Ideal) (φ₁ := .f32) (φ₂ := .f32) dot_S4096x3584_S4096x1024_S3584x1024_0_0_1_1_n_n none a g) transposes_S3584x1024_S1024x3584_1_0) transposes_S1024x3584_S3584x1024_1_0 = Cert.InDwIdeal.Value.out a g := by
  funext i
  idx_vars i
  pointwise [Cert.InDwIdeal.Value.out]

end Cert.InDwSpecIdeal.Value

namespace Cert.InDwClaim

open Cert.InDwIdeal.Value

theorem specFrame : Cert.quiescent_InDwSpecIdeal := fun m g _ =>
  (θ_run _ _ _).mono (fun r h => ⟨fun c => (h c).2, sem_eq_zero_of_no_sems (by decide) r.2⟩) (Cert.InDwSpecIdeal.Value.run m g)

theorem value : Cert.algebraic_InDwIdeal_InDwSpecIdeal := by
  intro m g m' g' _ hargs
  refine ⟨fun c => out (arg_a m c) (arg_g m c), ?_, ?_⟩
  · refine (θ_run _ _ _).mono (fun r h c => ?_) (Cert.InDwIdeal.Value.run_blocks m g)
    exact ⟨(h c).1.trans (final m c), (h c).2⟩
  · refine (θ_run _ _ _).mono (fun r h c => ?_) (Cert.InDwSpecIdeal.Value.run m' g')
    obtain ⟨a0, a1⟩ := hargs c
    refine ⟨(h c).1.trans ?_, (h c).2⟩
    rw [a0, a1]
    exact Cert.InDwSpecIdeal.Value.spec _ _

end Cert.InDwClaim

end
-- ==== Proof.InDa.lean ====
module

public import proofs.«01_k».proof.Proof.Gen.InDaIdeal.Value
public import proofs.«01_k».proof.Proof.Gen.InDaSpecIdeal.Run
public import proofs.«01_k».proof.Proof.Gen.InDa.Frame
public import Idealize.ShloMosaic.Lib.Pipeline.ValueKit
public import Idealize.ShloMosaic.Lib.Pipeline.ReadBack
public import Idealize.ShloMosaic.Lib.Claim
public import Idealize.ShloMosaic.Lib.ReduceAll
public import proofs.«01_k».proof.Proof.RmsMath
public import proofs.«01_k».proof.Proof.Gen.Pre_finite_in_da
public import proofs.«01_k».proof.Defs

/-! The gradient through the input projection and the norm before it, with the gradient of the norm's weight. -/

@[expose] public section

set_option maxRecDepth 16384

noncomputable section

open Idealize.ShloMosaic Idealize.ShloMosaic.TcCoe Idealize.SL.Sem
open Idealize.ShloMosaic.Pipeline (Dat)

namespace Cert.Pre_finite_in_da

open Cert.Pre_finite_in_da.Gen Cert.Reals

/-- What the precondition says: the gradient, the weight, the norm's input and the norm's weight hold real numbers. -/
theorem finite_of_fn (a : FVec Ideal S4096x3584 .f32) (w : FVec Ideal S1024x3584 .f32) (x : FVec Ideal S4096x1024 .f32) (g : FVec Ideal S1024 .f32) (r : FVec Ideal S4096x1024 .f32) (i0 : S_.Idx)
    (h : fn (F := Ideal) a w x g r i0 = 1#1) : (∀ i, IsReal (a i)) ∧ (∀ i, IsReal (w i)) ∧ (∀ i, IsReal (x i)) ∧ ∀ i, IsReal (g i) := by
  dsimp only [fn, fn_part1] at h
  have hand := IntOp.andi_eq_one.1 h
  have hand' := IntOp.andi_eq_one.1 hand.1
  have hand'' := IntOp.andi_eq_one.1 hand'.1
  have hS : Subsingleton S_.Idx := ⟨fun a b => funext fun x => x.elim0⟩
  refine ⟨fun i => ?_, fun i => ?_, fun i => ?_, fun i => ?_⟩
  · have test := Host.reduce_andi_all _ _ _ _ _ hand''.1 i
    idx_vars i
    pointwise at test
    exact isReal_of_test test
  · have test := Host.reduce_andi_all _ _ _ _ _ hand''.2 i
    idx_vars i
    pointwise at test
    exact isReal_of_test test
  · have test := Host.reduce_andi_all _ _ _ _ _ hand'.2 i
    idx_vars i
    pointwise at test
    exact isReal_of_test test
  · have test := Host.reduce_andi_all _ _ _ _ _ hand.2 i
    idx_vars i
    pointwise at test
    exact isReal_of_test test

end Cert.Pre_finite_in_da

namespace Cert.InDaIdeal.Value

open Cert.InDaIdeal Cert.InDaIdeal.Gen Cert.RmsMath

/-- The gradient at the norm's output. -/
def d (a : Vec Ideal S4096x3584 .f32) (w : Vec Ideal S1024x3584 .f32) (l : Fin 4096) (q : Fin 1024) : EReal :=
  ∑ k, a (ix2 (l) (k)) * w (ix2 q k)

/-- A row of the norm's input, and the row of the gradient times the norm's weight. -/
def xRow (x : Vec Ideal S4096x1024 .f32) (l : Fin 4096) (j : Fin 1024) : EReal := x (ix2 l j)
def yRow (a : Vec Ideal S4096x3584 .f32) (w : Vec Ideal S1024x3584 .f32) (g : Vec Ideal S1024 .f32) (l : Fin 4096) (j : Fin 1024) : EReal := d a w l j * g (ix1 j)

/-- The gradient at the norm's input plus the residual's, entry by entry. -/
def outX (a : Vec Ideal S4096x3584 .f32) (w : Vec Ideal S1024x3584 .f32) (x : Vec Ideal S4096x1024 .f32) (g : Vec Ideal S1024 .f32) (r : Vec Ideal S4096x1024 .f32) : Vec Ideal S4096x1024 .f32 :=
  fun i => dx (xRow x (i 0)) (yRow a w g (i 0)) (i 1) + r i

/-- The gradient of the norm's weight, entry by entry: a sum over the rows. -/
def outG (a : Vec Ideal S4096x3584 .f32) (w : Vec Ideal S1024x3584 .f32) (x : Vec Ideal S4096x1024 .f32) : Vec Ideal S1x1024 .f32 :=
  fun i => ∑ l, d a w l (i 1) * (xRow x l (i 1) * rr (xRow x l))

variable (m : (ℓ : Loc nD τ sig) → Buf (Elt Ideal) ℓ)

abbrev arg_a (c : Dev nD) : Vec Ideal S4096x3584 .f32 := m ((c : Thread nD τ).loc main_arg0)
abbrev arg_w (c : Dev nD) : Vec Ideal S1024x3584 .f32 := m ((c : Thread nD τ).loc main_arg1)
abbrev arg_x (c : Dev nD) : Vec Ideal S4096x1024 .f32 := m ((c : Thread nD τ).loc main_arg2)
abbrev arg_g (c : Dev nD) : Vec Ideal S1024 .f32 := m ((c : Thread nD τ).loc main_arg3)
abbrev arg_r (c : Dev nD) : Vec Ideal S4096x1024 .f32 := m ((c : Thread nD τ).loc main_arg4)

theorem idx : ∀ t : Fin cfg0.N, win0_0.index t = ![t.val / 4, t.val % 4] ∧ win0_1.index t = ![t.val % 4, 0] ∧ win0_2.index t = ![t.val / 4, 0] ∧ win0_3.index t = ![0, 0] ∧ win0_4.index t = ![t.val / 4, 0] ∧ win0_5.index t = ![t.val / 4, 0] ∧ win0_6.index t = ![0, 0] :=
  (by decide +kernel : ∀ t : Fin grid0.N, _)

/-- The row of the arrays and the place on the summed axis at which a grid point works. -/
def row (t : Fin cfg0.N) (l : Fin 1024) : Fin 4096 := ⟨t.val / 4 * 1024 + l.val, by have := t.isLt; have : cfg0.N = 16 := rfl; omega⟩
def sub (t : Fin cfg0.N) (k : Fin 896) : Fin 3584 := ⟨t.val % 4 * 896 + k.val, by omega⟩

theorem V_a (c : Dev nD) : @Eq (FVec Ideal S4096x3584 .bf16) (V m c main_v0) (truncf .bf16 (arg_a m c) bitsLt_bf16_f32) := by
  unfold_abbrev_sides
  after_results

theorem V_w (c : Dev nD) : @Eq (FVec Ideal S3584x1024 .bf16) (V m c main_v2) (truncf .bf16 (transpose S3584x1024 [1, 0] (arg_w m c) transposes_S1024x3584_S3584x1024_1_0) bitsLt_bf16_f32) := by
  unfold_abbrev_sides
  after_results

theorem V_g (c : Dev nD) : @Eq (FVec Ideal S1x1024 .f32) (V m c main_v3) (shapeCast _ (arg_g m c) shapeCasts_S1024_S1x1024) := by
  unfold_abbrev_sides
  after_results
  rfl

theorem blk_a (c : Dev nD) (t : Fin cfg0.N) (p : Fin 1024) (k : Fin 896) : iblk m c 0 t (ix2 p k) = arg_a m c (ix2 (row t p) (sub t k)) := by
  have h : iblk m c 0 t (ix2 p k) = V m c main_v0 (ix2 (row t p) (sub t k)) := by
    blk_point [iblk, idx t, row, sub]
  rw [h, V_a]
  rfl

theorem blk_w (c : Dev nD) (t : Fin cfg0.N) (k : Fin 896) (q : Fin 1024) : iblk m c 1 t (ix2 k q) = arg_w m c (ix2 q (sub t k)) := by
  have h : iblk m c 1 t (ix2 k q) = V m c main_v2 (ix2 (sub t k) q) := by
    blk_point [iblk, idx t, sub]
  rw [h, V_w]
  pointwise

theorem blk_x (c : Dev nD) (t : Fin cfg0.N) (p q : Fin 1024) : iblk m c 2 t (ix2 p q) = xRow (arg_x m c) (row t p) q := by
  rw [xRow]
  blk_point [iblk, V, idx t, row]

theorem blk_g (c : Dev nD) (t : Fin cfg0.N) (q : Fin 1024) : iblk m c 3 t (ix2 (0 : Fin 1) q) = arg_g m c (ix1 q) := by
  have h : iblk m c 3 t (ix2 (0 : Fin 1) q) = V m c main_v3 (ix2 (0 : Fin 1) q) := by
    blk_point [iblk, idx t]
  rw [h, V_g]
  pointwise

theorem blk_r (c : Dev nD) (t : Fin cfg0.N) (p q : Fin 1024) : iblk m c 4 t (ix2 p q) = arg_r m c (ix2 (row t p) q) := by
  blk_point [iblk, V, idx t, row]

/-- What one grid point computes. -/
theorem first (x0 : Vec Ideal S1024x896 .bf16) (x1 : Vec Ideal S896x1024 .bf16) (p q : Fin 1024) : k0_pay2 (F := Ideal) x0 x1 (ix2 p q) = ∑ k, x0 (ix2 p k) * x1 (ix2 k q) := by
  pointwise [k0_pay2, k0_pay1]

theorem next (x0 : Vec Ideal S1024x896 .bf16) (x1 : Vec Ideal S896x1024 .bf16) (acc : Vec Ideal S1024x1024 .f32) (p q : Fin 1024) : k0_pay3 (F := Ideal) x0 x1 acc (ix2 p q) = acc (ix2 p q) + ∑ k, x0 (ix2 p k) * x1 (ix2 k q) := by
  pointwise [k0_pay3, k0_pay1]

theorem last (x0 : Vec Ideal S1024x896 .bf16) (x1 : Vec Ideal S896x1024 .bf16) (acc : Vec Ideal S1024x1024 .f32) (p q : Fin 1024) : k0_pay5 (F := Ideal) x0 x1 acc (ix2 p q) = acc (ix2 p q) + ∑ k, x0 (ix2 p k) * x1 (ix2 k q) := by
  pointwise [k0_pay5, k0_pay1]

theorem root (x2 : Vec Ideal S1024x1024 .f32) (p : Fin 1024) : k0_pay6 (F := Ideal) x2 (ix2 p (0 : Fin 1)) = rr fun j : Fin 1024 => x2 (ix2 p j) := by
  pointwise [k0_pay6, rr, ms]

theorem norm (x2 : Vec Ideal S1024x1024 .f32) (p q : Fin 1024) : k0_pay7 (F := Ideal) x2 (ix2 p q) = x2 (ix2 p q) * k0_pay6 (F := Ideal) x2 (ix2 p (0 : Fin 1)) := by
  pointwise [k0_pay7]

theorem grad_x (x0 : Vec Ideal S1024x896 .bf16) (x1 : Vec Ideal S896x1024 .bf16) (acc x2 : Vec Ideal S1024x1024 .f32) (x3 : Vec Ideal S1x1024 .f32) (x4 : Vec Ideal S1024x1024 .f32) (p q : Fin 1024) :
    k0_pay8 (F := Ideal) x0 x1 acc x2 x3 x4 (ix2 p q)
      = dx (fun j : Fin 1024 => x2 (ix2 p j)) (fun j : Fin 1024 => k0_pay5 (F := Ideal) x0 x1 acc (ix2 p j) * x3 (ix2 (0 : Fin 1) j)) q + x4 (ix2 p q) := by
  pointwise [k0_pay8]
  simp only [norm, root]
  rfl

theorem grad_g (x0 : Vec Ideal S1024x896 .bf16) (x1 : Vec Ideal S896x1024 .bf16) (acc x2 : Vec Ideal S1024x1024 .f32) (o : Vec Ideal S1x1024 .f32) (q : Fin 1024) :
    k0_pay9 (F := Ideal) x0 x1 acc x2 o (ix2 (0 : Fin 1) q)
      = o (ix2 (0 : Fin 1) q) + ∑ p : Fin 1024, k0_pay5 (F := Ideal) x0 x1 acc (ix2 p q) * (x2 (ix2 p q) * rr fun j : Fin 1024 => x2 (ix2 p j)) := by
  pointwise [k0_pay9]
  simp only [norm, root]

theorem zero_g (q : Fin 1024) : k0_pay4 (F := Ideal) (ix2 (0 : Fin 1) q) = 0 := by
  pointwise [k0_pay4]

/-- What a grid point adds to the product. -/
def part (c : Dev nD) (t : Fin cfg0.N) (j : S1024x1024.Idx) : EReal := ∑ k, arg_a m c (ix2 (row t (j 0)) (sub t k)) * arg_w m c (ix2 (j 1) (sub t k))

theorem first_blk (c : Dev nD) (t : Fin cfg0.N) (p q : Fin 1024) :
    k0_pay2 (F := Ideal) (iblk m c 0 t) (iblk m c 1 t) (ix2 p q) = part m c t (ix2 p q) := by
  rw [first]
  simp only [blk_a, blk_w]
  rfl

theorem next_blk (c : Dev nD) (t : Fin cfg0.N) (acc : Vec Ideal S1024x1024 .f32) (p q : Fin 1024) :
    k0_pay3 (F := Ideal) (iblk m c 0 t) (iblk m c 1 t) acc (ix2 p q) = acc (ix2 p q) + part m c t (ix2 p q) := by
  rw [next]
  simp only [blk_a, blk_w]
  rfl

theorem last_blk (c : Dev nD) (t : Fin cfg0.N) (acc : Vec Ideal S1024x1024 .f32) (p q : Fin 1024) :
    k0_pay5 (F := Ideal) (iblk m c 0 t) (iblk m c 1 t) acc (ix2 p q) = acc (ix2 p q) + part m c t (ix2 p q) := by
  rw [last]
  simp only [blk_a, blk_w]
  rfl

/-- The running sum: the scratch, and at the last point of a run the scratch of the point before plus the last part. -/
def run_sum (c : Dev nD) (n : ℕ) (h : n < cfg0.N) (j : S1024x1024.Idx) : EReal :=
  if n % 4 = 3 then (outsAt0 m c (n - 1) (Nat.lt_of_le_of_lt (Nat.sub_le _ _) h)).2.2 j + part m c ⟨n, h⟩ j else (outsAt0 m c n h).2.2 j

theorem run_zero (c : Dev nD) (t : Fin cfg0.N) (h : t.val % 4 = 0) (j : S1024x1024.Idx) : run_sum m c t.val t.isLt j = 0 + part m c t j := by
  have h1 : ¬ (1 ≤ t.val % 4 ∧ t.val % 4 ≤ 2) := by omega
  have h3 : ¬ t.val % 4 = 3 := by omega
  rw [run_sum, if_neg h3]
  by_cases h2 : t.val % 16 = 0
  · rw [outsAt0_A m c t h h1 h2 h3]
    frame_out
    idx_vars j
    rw [first_blk, zero_add]
  · rw [outsAt0_D m c t h h1 h2 h3]
    frame_out
    idx_vars j
    rw [first_blk, zero_add]

theorem run_step (c : Dev nD) (t : Fin cfg0.N) (h : ¬ t.val % 4 = 0) (j : S1024x1024.Idx) :
    run_sum m c t.val t.isLt j = run_sum m c (t.val - 1) (Nat.lt_of_le_of_lt (Nat.sub_le _ _) t.isLt) j + part m c t j := by
  have hp : ¬ (t.val - 1) % 4 = 3 := by omega
  rw [run_sum, run_sum, if_neg hp]
  by_cases h3 : t.val % 4 = 3
  · rw [if_pos h3]
  · have h1 : 1 ≤ t.val % 4 ∧ t.val % 4 ≤ 2 := by omega
    have h2 : ¬ t.val % 16 = 0 := by omega
    rw [if_neg h3, outsAt0_B m c t h h1 h2 h3]
    frame_out
    idx_vars j
    rw [next_blk, read_unread_whole]

/-- At the last point of a run the parts make up the whole product. -/
theorem acc_at (c : Dev nD) (t : Fin cfg0.N) (h : t.val % 4 = 4 - 1) (p q : Fin 1024) :
    (outsAt0 m c (t.val - 1) (Nat.lt_of_le_of_lt (Nat.sub_le _ _) t.isLt)).2.2 (ix2 p q) + part m c t (ix2 p q) = d (arg_a m c) (arg_w m c) (row t p) q := by
  have sum := Pipeline.eq_sum_fin_of_reset_step_apply_of_flush (M := EReal) (run_sum m c) 4 (fun _ => 0) (part m c)
    (run_zero m c) (run_step m c) t h (ix2 p q)
  rw [run_sum, if_pos h, zero_add] at sum
  refine sum.trans ?_
  refine Fin.sum_mul_add_congr fun s k hl => ?_
  have hk : sub ⟨4 * (t.val / 4) + s.val, Pipeline.run_point_lt_of_flush t h s⟩ k = ⟨s.val * 896 + k.val, hl⟩ := by
    apply Fin.ext
    show (4 * (t.val / 4) + s.val) % 4 * 896 + k.val = s.val * 896 + k.val
    have := s.isLt
    omega
  have hr : row ⟨4 * (t.val / 4) + s.val, Pipeline.run_point_lt_of_flush t h s⟩ p = row t p := by
    apply Fin.ext
    show (4 * (t.val / 4) + s.val) / 4 * 1024 + p.val = t.val / 4 * 1024 + p.val
    have := s.isLt
    omega
  rw [hk]
  show arg_a m c (ix2 (row ⟨4 * (t.val / 4) + s.val, Pipeline.run_point_lt_of_flush t h s⟩ p) (_)) * _ = _
  rw [hr]
  rfl

theorem emb_x (t : Fin cfg0.N) (p q : Fin 1024) : ((cfg0.win 5).blk t).view.emb (ix2 p q) = ix2 (row t p) q := by
  blk_point [idx t, row]

theorem emb_g (t : Fin cfg0.N) (q : Fin 1024) : ((cfg0.win 6).blk t).view.emb (ix2 (0 : Fin 1) q) = ix2 (0 : Fin 1) q := by
  blk_point [idx t]

theorem point_x (c : Dev nD) (t : Fin cfg0.N) (h : t.val % 4 = 3) (p q : Fin 1024) :
    (outsAt0 m c t.val t.isLt).1 (ix2 p q) = outX (arg_a m c) (arg_w m c) (arg_x m c) (arg_g m c) (arg_r m c) (ix2 (row t p) q) := by
  rw [outsAt0_C m c t (by omega) (by omega) (by omega) h]
  frame_out
  rw [grad_x]
  simp only [last_blk, read_unread_whole, blk_x, blk_g, blk_r, acc_at m c t h]
  rfl

/-- What the rows of one run add to the gradient of the norm's weight. -/
def rows (c : Dev nD) (i : ℕ) (q : Fin 1024) : EReal :=
  ∑ p : Fin 1024, d (arg_a m c) (arg_w m c) (Fin.ofNat 4096 (i * 1024 + p.val)) q
    * (xRow (arg_x m c) (Fin.ofNat 4096 (i * 1024 + p.val)) q * rr (xRow (arg_x m c) (Fin.ofNat 4096 (i * 1024 + p.val))))

theorem row_eq (t : Fin cfg0.N) (p : Fin 1024) : row t p = Fin.ofNat 4096 (t.val / 4 * 1024 + p.val) := by
  apply Fin.ext
  show t.val / 4 * 1024 + p.val = (t.val / 4 * 1024 + p.val) % 4096
  have := t.isLt
  have : cfg0.N = 16 := rfl
  omega

theorem step_g (c : Dev nD) (t : Fin cfg0.N) (h : t.val % 4 = 3) (q : Fin 1024) :
    (outsAt0 m c t.val t.isLt).2.1 (ix2 (0 : Fin 1) q)
      = (outsAt0 m c (t.val - 1) (Nat.lt_of_le_of_lt (Nat.sub_le _ _) t.isLt)).2.1 (ix2 (0 : Fin 1) q) + rows m c (t.val / 4) q := by
  rw [outsAt0_C m c t (by omega) (by omega) (by omega) h]
  frame_out
  rw [grad_g]
  simp only [last_blk, read_unread_whole, blk_x, acc_at m c t h, row_eq]
  rfl

theorem zero_at (c : Dev nD) (t : Fin cfg0.N) (h : t.val % 16 = 0) (q : Fin 1024) : (outsAt0 m c t.val t.isLt).2.1 (ix2 (0 : Fin 1) q) = 0 := by
  rw [outsAt0_A m c t (by omega) (by omega) h (by omega)]
  frame_out
  exact zero_g q

theorem keep_g (c : Dev nD) (t : Fin cfg0.N) (h : ¬ t.val % 4 = 3) (h2 : ¬ t.val % 16 = 0) (q : Fin 1024) :
    (outsAt0 m c t.val t.isLt).2.1 (ix2 (0 : Fin 1) q)
      = (outsAt0 m c (t.val - 1) (Nat.lt_of_le_of_lt (Nat.sub_le _ _) t.isLt)).2.1 (ix2 (0 : Fin 1) q) := by
  by_cases h0 : t.val % 4 = 0
  · rw [outsAt0_D m c t h0 (by omega) h2 h]
    rfl
  · rw [outsAt0_B m c t h0 (by omega) h2 h]
    rfl

/-- After each point the second result holds the sum over the runs that are done. -/
theorem sum_g (c : Dev nD) (q : Fin 1024) : ∀ (n : ℕ) (h : n < cfg0.N),
    (outsAt0 m c n h).2.1 (ix2 (0 : Fin 1) q) = ∑ i ∈ Finset.range ((n + 1) / 4), rows m c i q := by
  intro n
  induction n with
  | zero =>
    intro h
    rw [zero_at m c ⟨0, h⟩ rfl q]
    rfl
  | succ n ih =>
    intro h
    have hN : n + 1 < 16 := h
    by_cases h3 : (n + 1) % 4 = 3
    · rw [step_g m c ⟨n + 1, h⟩ h3 q, show (n + 1 + 1) / 4 = (n + 1) / 4 + 1 by omega, Finset.sum_range_succ]
      exact congrArg (· + _) (ih _)
    · rw [keep_g m c ⟨n + 1, h⟩ h3 (by show ¬ (n + 1) % 16 = 0; omega) q, show (n + 1 + 1) / 4 = (n + 1) / 4 by omega]
      exact ih _

theorem point_g (c : Dev nD) (t : Fin cfg0.N) (h : t.val = 15) (q : Fin 1024) :
    (outsAt0 m c t.val t.isLt).2.1 (ix2 (0 : Fin 1) q) = outG (arg_a m c) (arg_w m c) (arg_x m c) (ix2 (0 : Fin 1) q) := by
  rw [sum_g, h, show (15 + 1) / 4 = 4 from rfl, Finset.sum_range]
  refine Fin.sum_mul_add_congr fun s k hl => ?_
  have hr : Fin.ofNat 4096 (s.val * 1024 + k.val) = ⟨s.val * 1024 + k.val, hl⟩ := Fin.ext (Nat.mod_eq_of_lt hl)
  rw [hr]
  rfl

/-- The arrays the kernel leaves. -/
theorem final_x (c : Dev nD) : (dats m 0 c).arrAt 5 cfg0.N = outX (arg_a m c) (arg_w m c) (arg_x m c) (arg_g m c) (arg_r m c) := by
  refine (dats m 0 c).arrAt_eq_of_covers 5 _ (by decide +kernel) fun t hf y => ?_
  blk_simp
  rw [after0_5]
  idx_vars y
  rw [emb_x]
  exact point_x m c t ((flush0_5 t).mp hf) y0 y1

theorem final_g (c : Dev nD) : (dats m 0 c).arrAt 6 cfg0.N = outG (arg_a m c) (arg_w m c) (arg_x m c) := by
  refine (dats m 0 c).arrAt_eq_of_covers 6 _ (by decide +kernel) fun t hf y => ?_
  blk_simp
  rw [after0_6]
  idx_vars y
  obtain rfl : y0 = 0 := by omega
  rw [emb_g]
  exact point_g m c t (by have := (flush0_6 t).mp hf; have := t.isLt; have : cfg0.N = 16 := rfl; omega) y1

end Cert.InDaIdeal.Value

namespace Cert.InDaSpecIdeal.Value

open Cert.InDaSpecIdeal Cert.InDaSpecIdeal.Gen
open Cert.RmsMath Cert.Reals
open Cert.InDaIdeal.Value (d xRow yRow outX outG)

/-- The reference in steps: the gradient at the norm's output and its product with the norm's weight, the mean of the
    squares and the root's reciprocal, the factor through the mean of the squares, and the two results. -/
abbrev rD (a : Vec Ideal S4096x3584 .f32) (w : Vec Ideal S1024x3584 .f32) : FVec Ideal S4096x1024 .f32 :=
  Host.dotGeneral (F := Ideal) (φ₁ := .f32) (φ₂ := .f32) dot_S4096x3584_S1024x3584_S4096x1024_1_1_0_0_n_n none a w
abbrev rY (a : Vec Ideal S4096x3584 .f32) (w : Vec Ideal S1024x3584 .f32) (g : Vec Ideal S1024 .f32) : FVec Ideal S4096x1024 .f32 :=
  mulf (rD a w) (broadcastInDim S4096x1024 ![0, 1] bcast_S1x1024_S4096x1024_0_1 (broadcastInDim S1x1024 ![1] bcast_S1024_S1x1024_1 g))
abbrev rMs (x : Vec Ideal S4096x1024 .f32) : FVec Ideal S4096x1 .f32 :=
  addf (Host.divf (broadcastInDim S4096x1 ![0] bcast_S4096_S4096x1_0 (Host.reduceAdd (F := Ideal) (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
abbrev rR (x : Vec Ideal S4096x1024 .f32) : FVec Ideal S4096x1 .f32 := Host.rsqrt (rMs x)
abbrev rS (x y : FVec Ideal S4096x1024 .f32) : FVec Ideal S4096x1 .f32 :=
  shapeCast _ (Host.reduceAdd (F := Ideal) (mulf x y) (constant S_ .f32 0x00000000#32) reducesTo_S4096x1024_S4096_d1 h_S_) shapeCasts_S4096_S4096x1
abbrev rQ (s ms r : FVec Ideal S4096x1 .f32) : FVec Ideal S4096 .f32 :=
  Host.reduceAdd (F := Ideal) (Host.divf (mulf s (mulf (broadcastInDim S4096x1 ![] bcast_S_S4096x1 (constant S_ .f32 0xBF000000#32)) (Host.divf r ms))) (broadcastInDim S4096x1 ![] bcast_S_S4096x1 (constant S_ .f32 0x44800000#32))) (constant S_ .f32 0x00000000#32) reducesTo_S4096x1_S4096_d1 h_S_
abbrev rX (x y r : FVec Ideal S4096x1024 .f32) (i : FVec Ideal S4096x1 .f32) (q : FVec Ideal S4096 .f32) : FVec Ideal S4096x1024 .f32 :=
  addf (addf (addf r (mulf y (broadcastInDim S4096x1024 ![0, 1] bcast_S4096x1_S4096x1024_0_1 i))) (mulf x (broadcastInDim S4096x1024 ![0] bcast_S4096_S4096x1024_0 q))) (mulf (broadcastInDim S4096x1024 ![0] bcast_S4096_S4096x1024_0 q) x)
abbrev rG (x dd : FVec Ideal S4096x1024 .f32) (i : FVec Ideal S4096x1 .f32) : FVec Ideal S1x1024 .f32 :=
  shapeCast _ (Host.reduceAdd (F := Ideal) (shapeCast _ (Host.reduceAdd (F := Ideal) (mulf (mulf x (broadcastInDim S4096x1024 ![0, 1] bcast_S4096x1_S4096x1024_0_1 i)) dd) (constant S_ .f32 0x00000000#32) reducesTo_S4096x1024_S1024_d0 h_S_) shapeCasts_S1024_S1x1024) (constant S_ .f32 0x00000000#32) reducesTo_S1x1024_S1024_d0 h_S_) shapeCasts_S1024_S1x1024

theorem rD_at (a : Vec Ideal S4096x3584 .f32) (w : Vec Ideal S1024x3584 .f32) (l : Fin 4096) (q : Fin 1024) : rD a w (ix2 l q) = d a w l q := by
  pointwise [d]

theorem rY_at (a : Vec Ideal S4096x3584 .f32) (w : Vec Ideal S1024x3584 .f32) (g : Vec Ideal S1024 .f32) (l : Fin 4096) (q : Fin 1024) : rY a w g (ix2 l q) = yRow a w g l q := by
  have h : rY a w g (ix2 l q) = rD a w (ix2 l q) * g (ix1 q) := by
    rw [rY]
    generalize rD a w = x
    pointwise
  rw [h, rD_at, yRow]

theorem rMs_at (x : Vec Ideal S4096x1024 .f32) (l : Fin 4096) : rMs x (ix2 l (0 : Fin 1)) = ms (xRow x l) := by
  pointwise [rMs, ms, xRow]

theorem rR_at (x : Vec Ideal S4096x1024 .f32) (l : Fin 4096) : rR x (ix2 l (0 : Fin 1)) = rr (xRow x l) := by
  have h : rR x (ix2 l (0 : Fin 1)) = Ideal.rsqrt (rMs x (ix2 l (0 : Fin 1))) := by
    rw [rR]
    generalize rMs x = v
    pointwise
  rw [h, rMs_at, rr]

theorem rS_at (x y : FVec Ideal S4096x1024 .f32) (l : Fin 4096) : rS x y (ix2 l (0 : Fin 1)) = ∑ j : Fin 1024, x (ix2 l j) * y (ix2 l j) := by
  pointwise [rS]

theorem rQ_at (s v r : FVec Ideal S4096x1 .f32) (l : Fin 4096) :
    rQ s v r (ix1 l) = Ideal.div (s (ix2 l (0 : Fin 1)) * (mhalf * Ideal.div (r (ix2 l (0 : Fin 1))) (v (ix2 l (0 : Fin 1))))) cN := by
  pointwise [rQ]
  exact Fin.sum_univ_one _

theorem rX_at (x y r : FVec Ideal S4096x1024 .f32) (i : FVec Ideal S4096x1 .f32) (q : FVec Ideal S4096 .f32) (l : Fin 4096) (k : Fin 1024) :
    rX x y r i q (ix2 l k) = ((r (ix2 l k) + y (ix2 l k) * i (ix2 l (0 : Fin 1))) + x (ix2 l k) * q (ix1 l)) + q (ix1 l) * x (ix2 l k) := by
  pointwise [rX]

theorem rG_at (x dd : FVec Ideal S4096x1024 .f32) (i : FVec Ideal S4096x1 .f32) (q : Fin 1024) :
    rG x dd i (ix2 (0 : Fin 1) q) = ∑ l : Fin 4096, x (ix2 l q) * i (ix2 l (0 : Fin 1)) * dd (ix2 l q) := by
  pointwise [rG]
  exact Fin.sum_univ_one _

/-- What the reference computes are the same arrays: the first where the precondition holds, the second everywhere. -/
theorem spec_x (a : Vec Ideal S4096x3584 .f32) (w : Vec Ideal S1024x3584 .f32) (x : Vec Ideal S4096x1024 .f32) (g : Vec Ideal S1024 .f32) (r : Vec Ideal S4096x1024 .f32) (ha : ∀ i, IsReal (a i)) (hw : ∀ i, IsReal (w i)) (hx : ∀ i, IsReal (x i)) (hg : ∀ i, IsReal (g i)) :
    rX x (rY a w g) r (rR x) (rQ (rS x (rY a w g)) (rMs x) (rR x)) = outX a w x g r := by
  funext i
  idx_vars i
  rw [rX_at, rQ_at, rS_at, rY_at, rR_at, rMs_at]
  simp only [rY_at]
  refine chain_eq (x := xRow x i0) (y := yRow a w g i0) (fun j => hx _) (fun j => ?_) _ _
  exact (IsReal.sum _ fun k => (ha _).mul (hw _)).mul (hg _)

theorem spec_g (a : Vec Ideal S4096x3584 .f32) (w : Vec Ideal S1024x3584 .f32) (x : Vec Ideal S4096x1024 .f32) : rG x (rD a w) (rR x) = outG a w x := by
  funext i
  idx_vars i
  obtain rfl : i0 = 0 := by omega
  rw [rG_at]
  simp only [rD_at, rR_at]
  exact Finset.sum_congr rfl fun l _ => mul_comm _ _

end Cert.InDaSpecIdeal.Value

namespace Cert.InDaClaim

open Cert.InDaIdeal.Value

theorem specFrame : Cert.quiescent_InDaSpecIdeal := fun m g _ =>
  (θ_run _ _ _).mono (fun r h => ⟨fun c => (h c).2.2, sem_eq_zero_of_no_sems (by decide) r.2⟩) (Cert.InDaSpecIdeal.Value.run m g)

theorem value : Cert.algebraic_InDaIdeal_InDaSpecIdeal_pre_finite_in_da := by
  intro m g m' g' hpre hargs
  refine ⟨fun c => outX (arg_a m c) (arg_w m c) (arg_x m c) (arg_g m c) (arg_r m c), fun c => outG (arg_a m c) (arg_w m c) (arg_x m c), ?_, ?_⟩
  · refine (θ_run _ _ _).mono (fun r h c => ?_) (Cert.InDaIdeal.Value.run_blocks m g)
    exact ⟨(h c).1.trans (final_x m c), (h c).2.1.trans (final_g m c), (h c).2.2⟩
  · refine (θ_run _ _ _).mono (fun r h c => ?_) (Cert.InDaSpecIdeal.Value.run m' g')
    obtain ⟨a0, a1, a2, a3, a4⟩ := hargs c
    refine ⟨(h c).1.trans ?_, (h c).2.1.trans ?_, (h c).2.2⟩
    · unfold Cert.InDaSpecIdeal.Value.res_main_v38
      rw [a0, a1, a2, a3, a4]
      obtain ⟨ha, hw, hx, hg⟩ := Cert.Pre_finite_in_da.finite_of_fn _ _ _ _ _ (fun a => a.elim0) (congrFun (hpre c) (fun a => a.elim0))
      exact Cert.InDaSpecIdeal.Value.spec_x _ _ _ _ _ ha hw hx hg
    · rw [a0, a1, a2]
      exact Cert.InDaSpecIdeal.Value.spec_g _ _ _

end Cert.InDaClaim

end
-- ==== Proof.OutNarrow.lean ====
module

public import proofs.«01_k».proof.Proof.Gen.OutNarrowIdeal.Value
public import proofs.«01_k».proof.Proof.Gen.OutNarrowSpecIdeal.Run
public import proofs.«01_k».proof.Proof.Gen.OutNarrow.Frame
public import Idealize.ShloMosaic.Lib.Pipeline.ValueKit
public import Idealize.ShloMosaic.Lib.Claim
public import proofs.«01_k».proof.Defs

/-! An output projection 512 wide (the dilated attention's, the cross-attention's), added to the residual. -/

@[expose] public section

set_option maxRecDepth 16384

noncomputable section

open Idealize.ShloMosaic Idealize.ShloMosaic.TcCoe Idealize.SL.Sem
open Idealize.ShloMosaic.Pipeline (Dat)

namespace Cert.OutNarrowIdeal.Value

open Cert.OutNarrowIdeal Cert.OutNarrowIdeal.Gen

/-- The result, entry by entry. -/
def out (a : Vec Ideal S4096x512 .f32) (w : Vec Ideal S512x1024 .f32) (h : Vec Ideal S4096x1024 .f32) : Vec Ideal S4096x1024 .f32 :=
  fun i => h i + ∑ k, a (ix2 (i 0) k) * w (ix2 k (i 1))

variable (m : (ℓ : Loc nD τ sig) → Buf (Elt Ideal) ℓ)

abbrev arg_a (c : Dev nD) : Vec Ideal S4096x512 .f32 := m ((c : Thread nD τ).loc main_arg0)
abbrev arg_w (c : Dev nD) : Vec Ideal S512x1024 .f32 := m ((c : Thread nD τ).loc main_arg1)
abbrev arg_h (c : Dev nD) : Vec Ideal S4096x1024 .f32 := m ((c : Thread nD τ).loc main_arg2)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row of the array at which a grid point works. -/
def row (t : Fin cfg0.N) (l : Fin 1024) : Fin 4096 := ⟨t.val * 1024 + l.val, by have := t.isLt; have : cfg0.N = 4 := rfl; omega⟩

theorem V_w (c : Dev nD) : @Eq (FVec Ideal S512x1024 .bf16) (V m c main_v0) (truncf .bf16 (arg_w m c) bitsLt_bf16_f32) := by
  unfold_abbrev_sides
  after_results

theorem blk_a (c : Dev nD) (t : Fin cfg0.N) (l : Fin 1024) (k : Fin 512) : iblk m c 0 t (ix2 l k) = arg_a m c (ix2 (row t l) k) := by
  blk_point [iblk, V, idx t, row]

theorem blk_w (c : Dev nD) (t : Fin cfg0.N) (p : Fin 512) (q : Fin 1024) : iblk m c 1 t (ix2 p q) = arg_w m c (ix2 p q) := by
  have h : iblk m c 1 t (ix2 p q) = V m c main_v0 (ix2 p q) := by
    blk_point [iblk, idx t]
  rw [h, V_w]
  rfl

theorem blk_h (c : Dev nD) (t : Fin cfg0.N) (l : Fin 1024) (n : Fin 1024) : iblk m c 2 t (ix2 l n) = arg_h m c (ix2 (row t l) n) := by
  blk_point [iblk, V, idx t, row]

/-- What one grid point computes. -/
theorem block (x0 : Vec Ideal S1024x512 .f32) (x1 : Vec Ideal S512x1024 .bf16) (x2 : Vec Ideal S1024x1024 .f32) (l : Fin 1024) (n : Fin 1024) :
    k0_pay1 (F := Ideal) x0 x1 x2 (ix2 l n) = (∑ k, x0 (ix2 l k) * x1 (ix2 k n)) + x2 (ix2 l n) := by
  pointwise [k0_pay1]

theorem emb (t : Fin cfg0.N) (l : Fin 1024) (n : Fin 1024) : ((cfg0.win 3).blk t).view.emb (ix2 l n) = ix2 (row t l) n := by
  blk_point [idx t, row]

theorem point (c : Dev nD) (t : Fin cfg0.N) (l : Fin 1024) (n : Fin 1024) :
    k0_pay1 (F := Ideal) (iblk m c 0 t) (iblk m c 1 t) (iblk m c 2 t) (ix2 l n) = out (arg_a m c) (arg_w m c) (arg_h m c) (((cfg0.win 3).blk t).view.emb (ix2 l n)) := by
  rw [emb, block]
  simp only [blk_a, blk_w, blk_h]
  exact add_comm _ _

/-- The array the kernel leaves. -/
theorem final (c : Dev nD) : (dats m 0 c).arrAt 3 cfg0.N = out (arg_a m c) (arg_w m c) (arg_h m c) := by
  refine (dats m 0 c).arrAt_eq_of_covers 3 _ (by decide +kernel) fun t _ y => ?_
  blk_simp
  rw [after0_3]
  frame_out
  idx_vars y
  exact point m c t y0 y1

end Cert.OutNarrowIdeal.Value

namespace Cert.OutNarrowSpecIdeal.Value

open Cert.OutNarrowSpecIdeal Cert.OutNarrowSpecIdeal.Gen

/-- What the reference computes is the same array. -/
theorem spec (a : Vec Ideal S4096x512 .f32) (w : Vec Ideal S512x1024 .f32) (h : Vec Ideal S4096x1024 .f32) :
    addf h (Host.dotGeneral (F := Ideal) (φ₁ := .f32) (φ₂ := .f32) dot_S4096x512_S512x1024_S4096x1024_1_0_0_1_n_n none a w) = Cert.OutNarrowIdeal.Value.out a w h := by
  funext i
  idx_vars i
  pointwise [Cert.OutNarrowIdeal.Value.out]

end Cert.OutNarrowSpecIdeal.Value

namespace Cert.OutNarrowClaim

open Cert.OutNarrowIdeal.Value

theorem specFrame : Cert.quiescent_OutNarrowSpecIdeal := fun m g _ =>
  (θ_run _ _ _).mono (fun r h => ⟨fun c => (h c).2, sem_eq_zero_of_no_sems (by decide) r.2⟩) (Cert.OutNarrowSpecIdeal.Value.run m g)

theorem value : Cert.algebraic_OutNarrowIdeal_OutNarrowSpecIdeal := by
  intro m g m' g' _ hargs
  refine ⟨fun c => out (arg_a m c) (arg_w m c) (arg_h m c), ?_, ?_⟩
  · refine (θ_run _ _ _).mono (fun r h c => ?_) (Cert.OutNarrowIdeal.Value.run_blocks m g)
    exact ⟨(h c).1.trans (final m c), (h c).2⟩
  · refine (θ_run _ _ _).mono (fun r h c => ?_) (Cert.OutNarrowSpecIdeal.Value.run m' g')
    obtain ⟨a0, a1, a2⟩ := hargs c
    refine ⟨(h c).1.trans ?_, (h c).2⟩
    rw [a0, a1, a2]
    exact Cert.OutNarrowSpecIdeal.Value.spec _ _ _

end Cert.OutNarrowClaim

end
-- ==== Proof.OutWide.lean ====
module

public import proofs.«01_k».proof.Proof.Gen.OutWideIdeal.Value
public import proofs.«01_k».proof.Proof.Gen.OutWideSpecIdeal.Run
public import proofs.«01_k».proof.Proof.Gen.OutWide.Frame
public import Idealize.ShloMosaic.Lib.Pipeline.ValueKit
public import Idealize.ShloMosaic.Lib.Claim
public import proofs.«01_k».proof.Defs

/-! The output projection of the recurrence, added to the residual. -/

@[expose] public section

set_option maxRecDepth 16384

noncomputable section

open Idealize.ShloMosaic Idealize.ShloMosaic.TcCoe Idealize.SL.Sem
open Idealize.ShloMosaic.Pipeline (Dat)

namespace Cert.OutWideIdeal.Value

open Cert.OutWideIdeal Cert.OutWideIdeal.Gen

/-- The result, entry by entry. -/
def out (a : Vec Ideal S4096x1024 .f32) (w : Vec Ideal S1024x1024 .f32) (h : Vec Ideal S4096x1024 .f32) : Vec Ideal S4096x1024 .f32 :=
  fun i => h i + ∑ k, a (ix2 (i 0) k) * w (ix2 k (i 1))

variable (m : (ℓ : Loc nD τ sig) → Buf (Elt Ideal) ℓ)

abbrev arg_a (c : Dev nD) : Vec Ideal S4096x1024 .f32 := m ((c : Thread nD τ).loc main_arg0)
abbrev arg_w (c : Dev nD) : Vec Ideal S1024x1024 .f32 := m ((c : Thread nD τ).loc main_arg1)
abbrev arg_h (c : Dev nD) : Vec Ideal S4096x1024 .f32 := m ((c : Thread nD τ).loc main_arg2)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row of the array at which a grid point works. -/
def row (t : Fin cfg0.N) (l : Fin 1024) : Fin 4096 := ⟨t.val * 1024 + l.val, by have := t.isLt; have : cfg0.N = 4 := rfl; omega⟩

theorem V_w (c : Dev nD) : @Eq (FVec Ideal S1024x1024 .bf16) (V m c main_v0) (truncf .bf16 (arg_w m c) bitsLt_bf16_f32) := by
  unfold_abbrev_sides
  after_results

theorem blk_a (c : Dev nD) (t : Fin cfg0.N) (l : Fin 1024) (k : Fin 1024) : iblk m c 0 t (ix2 l k) = arg_a m c (ix2 (row t l) k) := by
  blk_point [iblk, V, idx t, row]

theorem blk_w (c : Dev nD) (t : Fin cfg0.N) (p : Fin 1024) (q : Fin 1024) : iblk m c 1 t (ix2 p q) = arg_w m c (ix2 p q) := by
  have h : iblk m c 1 t (ix2 p q) = V m c main_v0 (ix2 p q) := by
    blk_point [iblk, idx t]
  rw [h, V_w]
  rfl

theorem blk_h (c : Dev nD) (t : Fin cfg0.N) (l : Fin 1024) (n : Fin 1024) : iblk m c 2 t (ix2 l n) = arg_h m c (ix2 (row t l) n) := by
  blk_point [iblk, V, idx t, row]

/-- What one grid point computes. -/
theorem block (x0 : Vec Ideal S1024x1024 .f32) (x1 : Vec Ideal S1024x1024 .bf16) (x2 : Vec Ideal S1024x1024 .f32) (l : Fin 1024) (n : Fin 1024) :
    k0_pay1 (F := Ideal) x0 x1 x2 (ix2 l n) = (∑ k, x0 (ix2 l k) * x1 (ix2 k n)) + x2 (ix2 l n) := by
  pointwise [k0_pay1]

theorem emb (t : Fin cfg0.N) (l : Fin 1024) (n : Fin 1024) : ((cfg0.win 3).blk t).view.emb (ix2 l n) = ix2 (row t l) n := by
  blk_point [idx t, row]

theorem point (c : Dev nD) (t : Fin cfg0.N) (l : Fin 1024) (n : Fin 1024) :
    k0_pay1 (F := Ideal) (iblk m c 0 t) (iblk m c 1 t) (iblk m c 2 t) (ix2 l n) = out (arg_a m c) (arg_w m c) (arg_h m c) (((cfg0.win 3).blk t).view.emb (ix2 l n)) := by
  rw [emb, block]
  simp only [blk_a, blk_w, blk_h]
  exact add_comm _ _

/-- The array the kernel leaves. -/
theorem final (c : Dev nD) : (dats m 0 c).arrAt 3 cfg0.N = out (arg_a m c) (arg_w m c) (arg_h m c) := by
  refine (dats m 0 c).arrAt_eq_of_covers 3 _ (by decide +kernel) fun t _ y => ?_
  blk_simp
  rw [after0_3]
  frame_out
  idx_vars y
  exact point m c t y0 y1

end Cert.OutWideIdeal.Value

namespace Cert.OutWideSpecIdeal.Value

open Cert.OutWideSpecIdeal Cert.OutWideSpecIdeal.Gen

/-- What the reference computes is the same array. -/
theorem spec (a : Vec Ideal S4096x1024 .f32) (w : Vec Ideal S1024x1024 .f32) (h : Vec Ideal S4096x1024 .f32) :
    addf h (Host.dotGeneral (F := Ideal) (φ₁ := .f32) (φ₂ := .f32) dot_S4096x1024_S1024x1024_S4096x1024_1_0_0_1_n_n none a w) = Cert.OutWideIdeal.Value.out a w h := by
  funext i
  idx_vars i
  pointwise [Cert.OutWideIdeal.Value.out]

end Cert.OutWideSpecIdeal.Value

namespace Cert.OutWideClaim

open Cert.OutWideIdeal.Value

theorem specFrame : Cert.quiescent_OutWideSpecIdeal := fun m g _ =>
  (θ_run _ _ _).mono (fun r h => ⟨fun c => (h c).2, sem_eq_zero_of_no_sems (by decide) r.2⟩) (Cert.OutWideSpecIdeal.Value.run m g)

theorem value : Cert.algebraic_OutWideIdeal_OutWideSpecIdeal := by
  intro m g m' g' _ hargs
  refine ⟨fun c => out (arg_a m c) (arg_w m c) (arg_h m c), ?_, ?_⟩
  · refine (θ_run _ _ _).mono (fun r h c => ?_) (Cert.OutWideIdeal.Value.run_blocks m g)
    exact ⟨(h c).1.trans (final m c), (h c).2⟩
  · refine (θ_run _ _ _).mono (fun r h c => ?_) (Cert.OutWideSpecIdeal.Value.run m' g')
    obtain ⟨a0, a1, a2⟩ := hargs c
    refine ⟨(h c).1.trans ?_, (h c).2⟩
    rw [a0, a1, a2]
    exact Cert.OutWideSpecIdeal.Value.spec _ _ _

end Cert.OutWideClaim

end
-- ==== Proof.OutBias.lean ====
module

public import proofs.«01_k».proof.Proof.Gen.OutBiasIdeal.Value
public import proofs.«01_k».proof.Proof.Gen.OutBiasSpecIdeal.Run
public import proofs.«01_k».proof.Proof.Gen.OutBias.Frame
public import Idealize.ShloMosaic.Lib.Pipeline.ValueKit
public import Idealize.ShloMosaic.Lib.Claim
public import proofs.«01_k».proof.Defs

/-! The output projection of the attention with sinks: product, bias, residual. -/

@[expose] public section

set_option maxRecDepth 16384

noncomputable section

open Idealize.ShloMosaic Idealize.ShloMosaic.TcCoe Idealize.SL.Sem
open Idealize.ShloMosaic.Pipeline (Dat)

namespace Cert.OutBiasIdeal.Value

open Cert.OutBiasIdeal Cert.OutBiasIdeal.Gen

/-- The result, entry by entry. -/
def out (a : Vec Ideal S4096x1024 .f32) (w : Vec Ideal S1024x1024 .f32) (b : Vec Ideal S1024 .f32) (h : Vec Ideal S4096x1024 .f32) : Vec Ideal S4096x1024 .f32 :=
  fun i => h i + (∑ k, a (ix2 (i 0) k) * w (ix2 k (i 1)) + b (ix1 (i 1)))

variable (m : (ℓ : Loc nD τ sig) → Buf (Elt Ideal) ℓ)

abbrev arg_a (c : Dev nD) : Vec Ideal S4096x1024 .f32 := m ((c : Thread nD τ).loc main_arg0)
abbrev arg_w (c : Dev nD) : Vec Ideal S1024x1024 .f32 := m ((c : Thread nD τ).loc main_arg1)
abbrev arg_b (c : Dev nD) : Vec Ideal S1024 .f32 := m ((c : Thread nD τ).loc main_arg2)
abbrev arg_h (c : Dev nD) : Vec Ideal S4096x1024 .f32 := m ((c : Thread nD τ).loc main_arg3)

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- The row of the array at which a grid point works. -/
def row (t : Fin cfg0.N) (l : Fin 1024) : Fin 4096 := ⟨t.val * 1024 + l.val, by have := t.isLt; have : cfg0.N = 4 := rfl; omega⟩

theorem V_w (c : Dev nD) : @Eq (FVec Ideal S1024x1024 .bf16) (V m c main_v0) (truncf .bf16 (arg_w m c) bitsLt_bf16_f32) := by
  unfold_abbrev_sides
  after_results

theorem V_b (c : Dev nD) : @Eq (FVec Ideal S1x1024 .f32) (V m c main_v1) (shapeCast S1x1024 (arg_b m c) shapeCasts_S1024_S1x1024) := by
  unfold_abbrev_sides
  after_results
  rfl

theorem blk_a (c : Dev nD) (t : Fin cfg0.N) (l : Fin 1024) (k : Fin 1024) : iblk m c 0 t (ix2 l k) = arg_a m c (ix2 (row t l) k) := by
  blk_point [iblk, V, idx t, row]

theorem blk_w (c : Dev nD) (t : Fin cfg0.N) (p : Fin 1024) (q : Fin 1024) : iblk m c 1 t (ix2 p q) = arg_w m c (ix2 p q) := by
  have h : iblk m c 1 t (ix2 p q) = V m c main_v0 (ix2 p q) := by
    blk_point [iblk, idx t]
  rw [h, V_w]
  rfl

theorem blk_b (c : Dev nD) (t : Fin cfg0.N) (n : Fin 1024) : iblk m c 2 t (ix2 (0 : Fin 1) n) = arg_b m c (ix1 n) := by
  have h : iblk m c 2 t (ix2 (0 : Fin 1) n) = V m c main_v1 (ix2 (0 : Fin 1) n) := by
    blk_point [iblk, idx t]
  rw [h, V_b]
  pointwise

theorem blk_h (c : Dev nD) (t : Fin cfg0.N) (l : Fin 1024) (n : Fin 1024) : iblk m c 3 t (ix2 l n) = arg_h m c (ix2 (row t l) n) := by
  blk_point [iblk, V, idx t, row]

/-- What one grid point computes. -/
theorem block (x0 : Vec Ideal S1024x1024 .f32) (x1 : Vec Ideal S1024x1024 .bf16) (x2 : Vec Ideal S1x1024 .f32) (x3 : Vec Ideal S1024x1024 .f32) (l : Fin 1024) (n : Fin 1024) :
    k0_pay1 (F := Ideal) x0 x1 x2 x3 (ix2 l n) = ((∑ k, x0 (ix2 l k) * x1 (ix2 k n)) + x2 (ix2 (0 : Fin 1) n)) + x3 (ix2 l n) := by
  pointwise [k0_pay1]

theorem emb (t : Fin cfg0.N) (l : Fin 1024) (n : Fin 1024) : ((cfg0.win 4).blk t).view.emb (ix2 l n) = ix2 (row t l) n := by
  blk_point [idx t, row]

theorem point (c : Dev nD) (t : Fin cfg0.N) (l : Fin 1024) (n : Fin 1024) :
    k0_pay1 (F := Ideal) (iblk m c 0 t) (iblk m c 1 t) (iblk m c 2 t) (iblk m c 3 t) (ix2 l n) = out (arg_a m c) (arg_w m c) (arg_b m c) (arg_h m c) (((cfg0.win 4).blk t).view.emb (ix2 l n)) := by
  rw [emb, block]
  simp only [blk_a, blk_w, blk_b, blk_h]
  exact add_comm _ _

/-- The array the kernel leaves. -/
theorem final (c : Dev nD) : (dats m 0 c).arrAt 4 cfg0.N = out (arg_a m c) (arg_w m c) (arg_b m c) (arg_h m c) := by
  refine (dats m 0 c).arrAt_eq_of_covers 4 _ (by decide +kernel) fun t _ y => ?_
  blk_simp
  rw [after0_4]
  frame_out
  idx_vars y
  exact point m c t y0 y1

end Cert.OutBiasIdeal.Value

namespace Cert.OutBiasSpecIdeal.Value

open Cert.OutBiasSpecIdeal Cert.OutBiasSpecIdeal.Gen

/-- What the reference computes is the same array. -/
theorem spec (a : Vec Ideal S4096x1024 .f32) (w : Vec Ideal S1024x1024 .f32) (b : Vec Ideal S1024 .f32) (h : Vec Ideal S4096x1024 .f32) :
    addf h (addf (Host.dotGeneral (F := Ideal) (φ₁ := .f32) (φ₂ := .f32) dot_S4096x1024_S1024x1024_S4096x1024_1_0_0_1_n_n none a w) (broadcastInDim S4096x1024 ![0, 1] bcast_S1x1024_S4096x1024_0_1 (broadcastInDim S1x1024 ![1] bcast_S1024_S1x1024_1 b))) = Cert.OutBiasIdeal.Value.out a w b h := by
  funext i
  idx_vars i
  pointwise [Cert.OutBiasIdeal.Value.out]

end Cert.OutBiasSpecIdeal.Value

namespace Cert.OutBiasClaim

open Cert.OutBiasIdeal.Value

theorem specFrame : Cert.quiescent_OutBiasSpecIdeal := fun m g _ =>
  (θ_run _ _ _).mono (fun r h => ⟨fun c => (h c).2, sem_eq_zero_of_no_sems (by decide) r.2⟩) (Cert.OutBiasSpecIdeal.Value.run m g)

theorem value : Cert.algebraic_OutBiasIdeal_OutBiasSpecIdeal := by
  intro m g m' g' _ hargs
  refine ⟨fun c => out (arg_a m c) (arg_w m c) (arg_b m c) (arg_h m c), ?_, ?_⟩
  · refine (θ_run _ _ _).mono (fun r h c => ?_) (Cert.OutBiasIdeal.Value.run_blocks m g)
    exact ⟨(h c).1.trans (final m c), (h c).2⟩
  · refine (θ_run _ _ _).mono (fun r h c => ?_) (Cert.OutBiasSpecIdeal.Value.run m' g')
    obtain ⟨a0, a1, a2, a3⟩ := hargs c
    refine ⟨(h c).1.trans ?_, (h c).2⟩
    rw [a0, a1, a2, a3]
    exact Cert.OutBiasSpecIdeal.Value.spec _ _ _ _

end Cert.OutBiasClaim

end
-- ==== Proof.OutNarrowDa.lean ====
module

public import proofs.«01_k».proof.Proof.Gen.OutNarrowDaIdeal.Value
public import proofs.«01_k».proof.Proof.Gen.OutNarrowDaSpecIdeal.Run
public import proofs.«01_k».proof.Proof.Gen.OutNarrowDa.Frame
public import Idealize.ShloMosaic.Lib.Pipeline.ValueKit
public import Idealize.ShloMosaic.Lib.Claim
public import proofs.«01_k».proof.Defs

/-! The gradient of a 512 wide output projection with respect to its rows. -/

@[expose] public section

set_option maxRecDepth 16384

noncomputable section

open Idealize.ShloMosaic Idealize.ShloMosaic.TcCoe Idealize.SL.Sem
open Idealize.ShloMosaic.Pipeline (Dat)

namespace Cert.OutNarrowDaIdeal.Value

open Cert.OutNarrowDaIdeal Cert.OutNarrowDaIdeal.Gen

/-- The result, entry by entry. -/
def out (a : Vec Ideal S4096x1024 .f32) (w : Vec Ideal S512x1024 .f32) : Vec Ideal S4096x512 .f32 :=
  fun i => ∑ k, a (ix2 (i 0) k) * w (ix2 (i 1) k)

variable (m : (ℓ : Loc nD τ sig) → Buf (Elt Ideal) ℓ)

abbrev arg_a (c : Dev nD) : Vec Ideal S4096x1024 .f32 := m ((c : Thread nD τ).loc main_arg0)
abbrev arg_w (c : Dev nD) : Vec Ideal S512x1024 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- The row of the array at which a grid point works. -/
def row (t : Fin cfg0.N) (l : Fin 1024) : Fin 4096 := ⟨t.val * 1024 + l.val, by have := t.isLt; have : cfg0.N = 4 := rfl; omega⟩

theorem V_w (c : Dev nD) : @Eq (FVec Ideal S512x1024 .bf16) (V m c main_v0) (truncf .bf16 (arg_w m c) bitsLt_bf16_f32) := by
  unfold_abbrev_sides
  after_results

theorem blk_a (c : Dev nD) (t : Fin cfg0.N) (l : Fin 1024) (k : Fin 1024) : iblk m c 0 t (ix2 l k) = arg_a m c (ix2 (row t l) k) := by
  blk_point [iblk, V, idx t, row]

theorem blk_w (c : Dev nD) (t : Fin cfg0.N) (p : Fin 512) (q : Fin 1024) : iblk m c 1 t (ix2 p q) = arg_w m c (ix2 p q) := by
  have h : iblk m c 1 t (ix2 p q) = V m c main_v0 (ix2 p q) := by
    blk_point [iblk, idx t]
  rw [h, V_w]
  rfl

/-- What one grid point computes. -/
theorem block (x0 : Vec Ideal S1024x1024 .f32) (x1 : Vec Ideal S512x1024 .bf16) (l : Fin 1024) (n : Fin 512) :
    k0_pay1 (F := Ideal) x0 x1 (ix2 l n) = ∑ k, x0 (ix2 l k) * x1 (ix2 n k) := by
  pointwise [k0_pay1]

theorem emb (t : Fin cfg0.N) (l : Fin 1024) (n : Fin 512) : ((cfg0.win 2).blk t).view.emb (ix2 l n) = ix2 (row t l) n := by
  blk_point [idx t, row]

theorem point (c : Dev nD) (t : Fin cfg0.N) (l : Fin 1024) (n : Fin 512) :
    k0_pay1 (F := Ideal) (iblk m c 0 t) (iblk m c 1 t) (ix2 l n) = out (arg_a m c) (arg_w m c) (((cfg0.win 2).blk t).view.emb (ix2 l n)) := by
  rw [emb, block]
  simp only [blk_a, blk_w]
  rfl

/-- The array the kernel leaves. -/
theorem final (c : Dev nD) : (dats m 0 c).arrAt 2 cfg0.N = out (arg_a m c) (arg_w m c) := by
  refine (dats m 0 c).arrAt_eq_of_covers 2 _ (by decide +kernel) fun t _ y => ?_
  blk_simp
  rw [after0_2]
  frame_out
  idx_vars y
  exact point m c t y0 y1

end Cert.OutNarrowDaIdeal.Value

namespace Cert.OutNarrowDaSpecIdeal.Value

open Cert.OutNarrowDaSpecIdeal Cert.OutNarrowDaSpecIdeal.Gen

/-- What the reference computes is the same array. -/
theorem spec (a : Vec Ideal S4096x1024 .f32) (w : Vec Ideal S512x1024 .f32) :
    Host.dotGeneral (F := Ideal) (φ₁ := .f32) (φ₂ := .f32) dot_S4096x1024_S512x1024_S4096x512_1_1_0_0_n_n none a w = Cert.OutNarrowDaIdeal.Value.out a w := by
  funext i
  idx_vars i
  pointwise [Cert.OutNarrowDaIdeal.Value.out]

end Cert.OutNarrowDaSpecIdeal.Value

namespace Cert.OutNarrowDaClaim

open Cert.OutNarrowDaIdeal.Value

theorem specFrame : Cert.quiescent_OutNarrowDaSpecIdeal := fun m g _ =>
  (θ_run _ _ _).mono (fun r h => ⟨fun c => (h c).2, sem_eq_zero_of_no_sems (by decide) r.2⟩) (Cert.OutNarrowDaSpecIdeal.Value.run m g)

theorem value : Cert.algebraic_OutNarrowDaIdeal_OutNarrowDaSpecIdeal := by
  intro m g m' g' _ hargs
  refine ⟨fun c => out (arg_a m c) (arg_w m c), ?_, ?_⟩
  · refine (θ_run _ _ _).mono (fun r h c => ?_) (Cert.OutNarrowDaIdeal.Value.run_blocks m g)
    exact ⟨(h c).1.trans (final m c), (h c).2⟩
  · refine (θ_run _ _ _).mono (fun r h c => ?_) (Cert.OutNarrowDaSpecIdeal.Value.run m' g')
    obtain ⟨a0, a1⟩ := hargs c
    refine ⟨(h c).1.trans ?_, (h c).2⟩
    rw [a0, a1]
    exact Cert.OutNarrowDaSpecIdeal.Value.spec _ _

end Cert.OutNarrowDaClaim

end
-- ==== Proof.OutWideDa.lean ====
module

public import proofs.«01_k».proof.Proof.Gen.OutWideDaIdeal.Value
public import proofs.«01_k».proof.Proof.Gen.OutWideDaSpecIdeal.Run
public import proofs.«01_k».proof.Proof.Gen.OutWideDa.Frame
public import Idealize.ShloMosaic.Lib.Pipeline.ValueKit
public import Idealize.ShloMosaic.Lib.Claim
public import proofs.«01_k».proof.Defs

/-! The gradient of a 1024 wide output projection with respect to its rows. -/

@[expose] public section

set_option maxRecDepth 16384

noncomputable section

open Idealize.ShloMosaic Idealize.ShloMosaic.TcCoe Idealize.SL.Sem
open Idealize.ShloMosaic.Pipeline (Dat)

namespace Cert.OutWideDaIdeal.Value

open Cert.OutWideDaIdeal Cert.OutWideDaIdeal.Gen

/-- The result, entry by entry. -/
def out (a : Vec Ideal S4096x1024 .f32) (w : Vec Ideal S1024x1024 .f32) : Vec Ideal S4096x1024 .f32 :=
  fun i => ∑ k, a (ix2 (i 0) k) * w (ix2 (i 1) k)

variable (m : (ℓ : Loc nD τ sig) → Buf (Elt Ideal) ℓ)

abbrev arg_a (c : Dev nD) : Vec Ideal S4096x1024 .f32 := m ((c : Thread nD τ).loc main_arg0)
abbrev arg_w (c : Dev nD) : Vec Ideal S1024x1024 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- The row of the array at which a grid point works. -/
def row (t : Fin cfg0.N) (l : Fin 1024) : Fin 4096 := ⟨t.val * 1024 + l.val, by have := t.isLt; have : cfg0.N = 4 := rfl; omega⟩

theorem V_w (c : Dev nD) : @Eq (FVec Ideal S1024x1024 .bf16) (V m c main_v0) (truncf .bf16 (arg_w m c) bitsLt_bf16_f32) := by
  unfold_abbrev_sides
  after_results

theorem blk_a (c : Dev nD) (t : Fin cfg0.N) (l : Fin 1024) (k : Fin 1024) : iblk m c 0 t (ix2 l k) = arg_a m c (ix2 (row t l) k) := by
  blk_point [iblk, V, idx t, row]

theorem blk_w (c : Dev nD) (t : Fin cfg0.N) (p : Fin 1024) (q : Fin 1024) : iblk m c 1 t (ix2 p q) = arg_w m c (ix2 p q) := by
  have h : iblk m c 1 t (ix2 p q) = V m c main_v0 (ix2 p q) := by
    blk_point [iblk, idx t]
  rw [h, V_w]
  rfl

/-- What one grid point computes. -/
theorem block (x0 : Vec Ideal S1024x1024 .f32) (x1 : Vec Ideal S1024x1024 .bf16) (l : Fin 1024) (n : Fin 1024) :
    k0_pay1 (F := Ideal) x0 x1 (ix2 l n) = ∑ k, x0 (ix2 l k) * x1 (ix2 n k) := by
  pointwise [k0_pay1]

theorem emb (t : Fin cfg0.N) (l : Fin 1024) (n : Fin 1024) : ((cfg0.win 2).blk t).view.emb (ix2 l n) = ix2 (row t l) n := by
  blk_point [idx t, row]

theorem point (c : Dev nD) (t : Fin cfg0.N) (l : Fin 1024) (n : Fin 1024) :
    k0_pay1 (F := Ideal) (iblk m c 0 t) (iblk m c 1 t) (ix2 l n) = out (arg_a m c) (arg_w m c) (((cfg0.win 2).blk t).view.emb (ix2 l n)) := by
  rw [emb, block]
  simp only [blk_a, blk_w]
  rfl

/-- The array the kernel leaves. -/
theorem final (c : Dev nD) : (dats m 0 c).arrAt 2 cfg0.N = out (arg_a m c) (arg_w m c) := by
  refine (dats m 0 c).arrAt_eq_of_covers 2 _ (by decide +kernel) fun t _ y => ?_
  blk_simp
  rw [after0_2]
  frame_out
  idx_vars y
  exact point m c t y0 y1

end Cert.OutWideDaIdeal.Value

namespace Cert.OutWideDaSpecIdeal.Value

open Cert.OutWideDaSpecIdeal Cert.OutWideDaSpecIdeal.Gen

/-- What the reference computes is the same array. -/
theorem spec (a : Vec Ideal S4096x1024 .f32) (w : Vec Ideal S1024x1024 .f32) :
    Host.dotGeneral (F := Ideal) (φ₁ := .f32) (φ₂ := .f32) dot_S4096x1024_S1024x1024_S4096x1024_1_1_0_0_n_n none a w = Cert.OutWideDaIdeal.Value.out a w := by
  funext i
  idx_vars i
  pointwise [Cert.OutWideDaIdeal.Value.out]

end Cert.OutWideDaSpecIdeal.Value

namespace Cert.OutWideDaClaim

open Cert.OutWideDaIdeal.Value

theorem specFrame : Cert.quiescent_OutWideDaSpecIdeal := fun m g _ =>
  (θ_run _ _ _).mono (fun r h => ⟨fun c => (h c).2, sem_eq_zero_of_no_sems (by decide) r.2⟩) (Cert.OutWideDaSpecIdeal.Value.run m g)

theorem value : Cert.algebraic_OutWideDaIdeal_OutWideDaSpecIdeal := by
  intro m g m' g' _ hargs
  refine ⟨fun c => out (arg_a m c) (arg_w m c), ?_, ?_⟩
  · refine (θ_run _ _ _).mono (fun r h c => ?_) (Cert.OutWideDaIdeal.Value.run_blocks m g)
    exact ⟨(h c).1.trans (final m c), (h c).2⟩
  · refine (θ_run _ _ _).mono (fun r h c => ?_) (Cert.OutWideDaSpecIdeal.Value.run m' g')
    obtain ⟨a0, a1⟩ := hargs c
    refine ⟨(h c).1.trans ?_, (h c).2⟩
    rw [a0, a1]
    exact Cert.OutWideDaSpecIdeal.Value.spec _ _

end Cert.OutWideDaClaim

end
-- ==== Proof.OutNarrowDw.lean ====
module

public import proofs.«01_k».proof.Proof.Gen.OutNarrowDwIdeal.Value
public import proofs.«01_k».proof.Proof.Gen.OutNarrowDwSpecIdeal.Run
public import proofs.«01_k».proof.Proof.Gen.OutNarrowDw.Frame
public import Idealize.ShloMosaic.Lib.Pipeline.ValueKit
public import Idealize.ShloMosaic.Lib.Pipeline.ReadBack
public import Idealize.ShloMosaic.Lib.Claim
public import proofs.«01_k».proof.Defs

/-! The gradient of a 512 wide output projection with respect to its weight. -/

@[expose] public section

set_option maxRecDepth 16384

noncomputable section

open Idealize.ShloMosaic Idealize.ShloMosaic.TcCoe Idealize.SL.Sem
open Idealize.ShloMosaic.Pipeline (Dat)

namespace Cert.OutNarrowDwIdeal.Value

open Cert.OutNarrowDwIdeal Cert.OutNarrowDwIdeal.Gen

/-- The gradient, entry by entry: a sum over the rows. -/
def out (a : Vec Ideal S4096x512 .f32) (g : Vec Ideal S4096x1024 .f32) : Vec Ideal S512x1024 .f32 :=
  fun i => ∑ l, a (ix2 l (i 0)) * g (ix2 l (i 1))

variable (m : (ℓ : Loc nD τ sig) → Buf (Elt Ideal) ℓ)

abbrev arg_a (c : Dev nD) : Vec Ideal S4096x512 .f32 := m ((c : Thread nD τ).loc main_arg0)
abbrev arg_g (c : Dev nD) : Vec Ideal S4096x1024 .f32 := m ((c : Thread nD τ).loc main_arg1)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The row of both arrays a grid point reads as its `k`-th. -/
def row (t : Fin cfg0.N) (k : Fin 1024) : Fin 4096 := ⟨t.val % 4 * 1024 + k.val, by omega⟩
/-- The row of the result a grid point works on. -/
def col (t : Fin cfg0.N) (p : Fin 512) : Fin 512 := ⟨t.val / 4 * 512 + p.val, by have := t.isLt; have : cfg0.N = 4 := rfl; omega⟩

theorem blk_a (c : Dev nD) (t : Fin cfg0.N) (k : Fin 1024) (p : Fin 512) : iblk m c 0 t (ix2 k p) = arg_a m c (ix2 (row t k) (col t p)) := by
  blk_point [iblk, V, idx t, row, col]

theorem blk_g (c : Dev nD) (t : Fin cfg0.N) (k : Fin 1024) (p : Fin 1024) : iblk m c 1 t (ix2 k p) = arg_g m c (ix2 (row t k) p) := by
  blk_point [iblk, V, idx t, row, col]

theorem first (x0 : Vec Ideal S1024x512 .f32) (x1 : Vec Ideal S1024x1024 .f32) (p : Fin 512) (q : Fin 1024) : k0_pay2 (F := Ideal) x0 x1 (ix2 p q) = ∑ k, x0 (ix2 k p) * x1 (ix2 k q) := by
  pointwise [k0_pay2, k0_pay1]

theorem next (x0 : Vec Ideal S1024x512 .f32) (x1 : Vec Ideal S1024x1024 .f32) (acc : Vec Ideal S512x1024 .f32) (p : Fin 512) (q : Fin 1024) : k0_pay3 (F := Ideal) x0 x1 acc (ix2 p q) = acc (ix2 p q) + ∑ k, x0 (ix2 k p) * x1 (ix2 k q) := by
  pointwise [k0_pay3, k0_pay1]

theorem last (x0 : Vec Ideal S1024x512 .f32) (x1 : Vec Ideal S1024x1024 .f32) (acc : Vec Ideal S512x1024 .f32) (p : Fin 512) (q : Fin 1024) : k0_pay4 (F := Ideal) x0 x1 acc (ix2 p q) = acc (ix2 p q) + ∑ k, x0 (ix2 k p) * x1 (ix2 k q) := by
  pointwise [k0_pay4, k0_pay1]

/-- What a grid point adds. -/
def part (c : Dev nD) (t : Fin cfg0.N) (j : S512x1024.Idx) : EReal := ∑ k, arg_a m c (ix2 (row t k) (col t (j 0))) * arg_g m c (ix2 (row t k) (j 1))

theorem first_blk (c : Dev nD) (t : Fin cfg0.N) (p : Fin 512) (q : Fin 1024) :
    k0_pay2 (F := Ideal) (iblk m c 0 t) (iblk m c 1 t) (ix2 p q) = part m c t (ix2 p q) := by
  rw [first]
  simp only [blk_a, blk_g]
  rfl

theorem next_blk (c : Dev nD) (t : Fin cfg0.N) (acc : Vec Ideal S512x1024 .f32) (p : Fin 512) (q : Fin 1024) :
    k0_pay3 (F := Ideal) (iblk m c 0 t) (iblk m c 1 t) acc (ix2 p q) = acc (ix2 p q) + part m c t (ix2 p q) := by
  rw [next]
  simp only [blk_a, blk_g]
  rfl

theorem last_blk (c : Dev nD) (t : Fin cfg0.N) (acc : Vec Ideal S512x1024 .f32) (p : Fin 512) (q : Fin 1024) :
    k0_pay4 (F := Ideal) (iblk m c 0 t) (iblk m c 1 t) acc (ix2 p q) = acc (ix2 p q) + part m c t (ix2 p q) := by
  rw [last]
  simp only [blk_a, blk_g]
  rfl

/-- The running sum: the scratch, and at the last point of a run the result. -/
def run_sum (c : Dev nD) (n : ℕ) (h : n < cfg0.N) (j : S512x1024.Idx) : EReal :=
  if n % 4 = 3 then (outsAt0 m c n h).1 j else (outsAt0 m c n h).2 j

theorem run_zero (c : Dev nD) (t : Fin cfg0.N) (h : t.val % 4 = 0) (j : S512x1024.Idx) : run_sum m c t.val t.isLt j = 0 + part m c t j := by
  have h2 : ¬ t.val % 4 = 3 := by omega
  rw [run_sum, if_neg h2, outsAt0_A m c t h (by omega) h2]
  frame_out
  idx_vars j
  rw [first_blk, zero_add]

theorem run_step (c : Dev nD) (t : Fin cfg0.N) (h : ¬ t.val % 4 = 0) (j : S512x1024.Idx) :
    run_sum m c t.val t.isLt j = run_sum m c (t.val - 1) (Nat.lt_of_le_of_lt (Nat.sub_le _ _) t.isLt) j + part m c t j := by
  have hp : ¬ (t.val - 1) % 4 = 3 := by omega
  rw [run_sum, run_sum, if_neg hp]
  by_cases h2 : t.val % 4 = 3
  · rw [if_pos h2, outsAt0_C m c t h (by omega) h2]
    frame_out
    idx_vars j
    rw [last_blk, read_unread_whole]
  · rw [if_neg h2, outsAt0_B m c t h (by omega) h2]
    frame_out
    idx_vars j
    rw [next_blk, read_unread_whole]

theorem emb (t : Fin cfg0.N) (p : Fin 512) (q : Fin 1024) : ((cfg0.win 2).blk t).view.emb (ix2 p q) = ix2 (col t p) q := by
  blk_point [idx t, col]

/-- At the last point of a run the parts make up the whole sum over the rows. -/
theorem point (c : Dev nD) (t : Fin cfg0.N) (h : t.val % 4 = 4 - 1) (p : Fin 512) (q : Fin 1024) :
    (outsAt0 m c t.val t.isLt).1 (ix2 p q) = out (arg_a m c) (arg_g m c) (((cfg0.win 2).blk t).view.emb (ix2 p q)) := by
  have sum := Pipeline.eq_sum_fin_of_reset_step_apply_of_flush (M := EReal) (run_sum m c) 4 (fun _ => 0) (part m c)
    (run_zero m c) (run_step m c) t h (ix2 p q)
  rw [run_sum, if_pos h] at sum
  rw [emb, sum, zero_add]
  refine Fin.sum_mul_add_congr fun s k hl => ?_
  have hr : row ⟨4 * (t.val / 4) + s.val, Pipeline.run_point_lt_of_flush t h s⟩ k = ⟨s.val * 1024 + k.val, hl⟩ := by
    apply Fin.ext
    show (4 * (t.val / 4) + s.val) % 4 * 1024 + k.val = s.val * 1024 + k.val
    have := s.isLt
    omega
  have hc : col ⟨4 * (t.val / 4) + s.val, Pipeline.run_point_lt_of_flush t h s⟩ p = col t p := by
    apply Fin.ext
    show (4 * (t.val / 4) + s.val) / 4 * 512 + p.val = t.val / 4 * 512 + p.val
    have := s.isLt
    omega
  rw [hr]
  show _ * _ = arg_a m c (ix2 _ (col t p)) * _
  rw [← hc]
  rfl

/-- The array the kernel leaves. -/
theorem final (c : Dev nD) : (dats m 0 c).arrAt 2 cfg0.N = out (arg_a m c) (arg_g m c) := by
  refine (dats m 0 c).arrAt_eq_of_covers 2 _ (by decide +kernel) fun t hf y => ?_
  blk_simp
  rw [after0_2]
  idx_vars y
  exact point m c t ((flush0_2 t).mp hf) y0 y1

end Cert.OutNarrowDwIdeal.Value

namespace Cert.OutNarrowDwSpecIdeal.Value

open Cert.OutNarrowDwSpecIdeal Cert.OutNarrowDwSpecIdeal.Gen

/-- What the reference computes is the same array. -/
theorem spec (a : Vec Ideal S4096x512 .f32) (g : Vec Ideal S4096x1024 .f32) :
    transpose S512x1024 [1, 0] (Host.dotGeneral (F := Ideal) (φ₁ := .f32) (φ₂ := .f32) dot_S4096x1024_S4096x512_S1024x512_0_0_1_1_n_n none g a) transposes_S1024x512_S512x1024_1_0 = Cert.OutNarrowDwIdeal.Value.out a g := by
  funext i
  idx_vars i
  pointwise [Cert.OutNarrowDwIdeal.Value.out]
  exact Finset.sum_congr rfl fun l _ => mul_comm _ _

end Cert.OutNarrowDwSpecIdeal.Value

namespace Cert.OutNarrowDwClaim

open Cert.OutNarrowDwIdeal.Value

theorem specFrame : Cert.quiescent_OutNarrowDwSpecIdeal := fun m g _ =>
  (θ_run _ _ _).mono (fun r h => ⟨fun c => (h c).2, sem_eq_zero_of_no_sems (by decide) r.2⟩) (Cert.OutNarrowDwSpecIdeal.Value.run m g)

theorem value : Cert.algebraic_OutNarrowDwIdeal_OutNarrowDwSpecIdeal := by
  intro m g m' g' _ hargs
  refine ⟨fun c => out (arg_a m c) (arg_g m c), ?_, ?_⟩
  · refine (θ_run _ _ _).mono (fun r h c => ?_) (Cert.OutNarrowDwIdeal.Value.run_blocks m g)
    exact ⟨(h c).1.trans (final m c), (h c).2⟩
  · refine (θ_run _ _ _).mono (fun r h c => ?_) (Cert.OutNarrowDwSpecIdeal.Value.run m' g')
    obtain ⟨a0, a1⟩ := hargs c
    refine ⟨(h c).1.trans ?_, (h c).2⟩
    rw [a0, a1]
    exact Cert.OutNarrowDwSpecIdeal.Value.spec _ _

end Cert.OutNarrowDwClaim

end
-- ==== Proof.OutWideDw.lean ====
module

public import proofs.«01_k».proof.Proof.Gen.OutWideDwIdeal.Value
public import proofs.«01_k».proof.Proof.Gen.OutWideDwSpecIdeal.Run
public import proofs.«01_k».proof.Proof.Gen.OutWideDw.Frame
public import Idealize.ShloMosaic.Lib.Pipeline.ValueKit
public import Idealize.ShloMosaic.Lib.Pipeline.ReadBack
public import Idealize.ShloMosaic.Lib.Claim
public import proofs.«01_k».proof.Defs

/-! The gradient of a 1024 wide output projection with respect to its weight. -/

@[expose] public section

set_option maxRecDepth 16384

noncomputable section

open Idealize.ShloMosaic Idealize.ShloMosaic.TcCoe Idealize.SL.Sem
open Idealize.ShloMosaic.Pipeline (Dat)

namespace Cert.OutWideDwIdeal.Value

open Cert.OutWideDwIdeal Cert.OutWideDwIdeal.Gen

/-- The gradient, entry by entry: a sum over the rows. -/
def out (a : Vec Ideal S4096x1024 .f32) (g : Vec Ideal S4096x1024 .f32) : Vec Ideal S1024x1024 .f32 :=
  fun i => ∑ l, a (ix2 l (i 0)) * g (ix2 l (i 1))

variable (m : (ℓ : Loc nD τ sig) → Buf (Elt Ideal) ℓ)

abbrev arg_a (c : Dev nD) : Vec Ideal S4096x1024 .f32 := m ((c : Thread nD τ).loc main_arg0)
abbrev arg_g (c : Dev nD) : Vec Ideal S4096x1024 .f32 := m ((c : Thread nD τ).loc main_arg1)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The row of both arrays a grid point reads as its `k`-th. -/
def row (t : Fin cfg0.N) (k : Fin 1024) : Fin 4096 := ⟨t.val % 4 * 1024 + k.val, by omega⟩
/-- The row of the result a grid point works on. -/
def col (t : Fin cfg0.N) (p : Fin 1024) : Fin 1024 := ⟨t.val / 4 * 1024 + p.val, by have := t.isLt; have : cfg0.N = 4 := rfl; omega⟩

theorem blk_a (c : Dev nD) (t : Fin cfg0.N) (k : Fin 1024) (p : Fin 1024) : iblk m c 0 t (ix2 k p) = arg_a m c (ix2 (row t k) (col t p)) := by
  blk_point [iblk, V, idx t, row, col]

theorem blk_g (c : Dev nD) (t : Fin cfg0.N) (k : Fin 1024) (p : Fin 1024) : iblk m c 1 t (ix2 k p) = arg_g m c (ix2 (row t k) p) := by
  blk_point [iblk, V, idx t, row, col]

theorem first (x0 : Vec Ideal S1024x1024 .f32) (x1 : Vec Ideal S1024x1024 .f32) (p : Fin 1024) (q : Fin 1024) : k0_pay2 (F := Ideal) x0 x1 (ix2 p q) = ∑ k, x0 (ix2 k p) * x1 (ix2 k q) := by
  pointwise [k0_pay2, k0_pay1]

theorem next (x0 : Vec Ideal S1024x1024 .f32) (x1 : Vec Ideal S1024x1024 .f32) (acc : Vec Ideal S1024x1024 .f32) (p : Fin 1024) (q : Fin 1024) : k0_pay3 (F := Ideal) x0 x1 acc (ix2 p q) = acc (ix2 p q) + ∑ k, x0 (ix2 k p) * x1 (ix2 k q) := by
  pointwise [k0_pay3, k0_pay1]

theorem last (x0 : Vec Ideal S1024x1024 .f32) (x1 : Vec Ideal S1024x1024 .f32) (acc : Vec Ideal S1024x1024 .f32) (p : Fin 1024) (q : Fin 1024) : k0_pay4 (F := Ideal) x0 x1 acc (ix2 p q) = acc (ix2 p q) + ∑ k, x0 (ix2 k p) * x1 (ix2 k q) := by
  pointwise [k0_pay4, k0_pay1]

/-- What a grid point adds. -/
def part (c : Dev nD) (t : Fin cfg0.N) (j : S1024x1024.Idx) : EReal := ∑ k, arg_a m c (ix2 (row t k) (col t (j 0))) * arg_g m c (ix2 (row t k) (j 1))

theorem first_blk (c : Dev nD) (t : Fin cfg0.N) (p : Fin 1024) (q : Fin 1024) :
    k0_pay2 (F := Ideal) (iblk m c 0 t) (iblk m c 1 t) (ix2 p q) = part m c t (ix2 p q) := by
  rw [first]
  simp only [blk_a, blk_g]
  rfl

theorem next_blk (c : Dev nD) (t : Fin cfg0.N) (acc : Vec Ideal S1024x1024 .f32) (p : Fin 1024) (q : Fin 1024) :
    k0_pay3 (F := Ideal) (iblk m c 0 t) (iblk m c 1 t) acc (ix2 p q) = acc (ix2 p q) + part m c t (ix2 p q) := by
  rw [next]
  simp only [blk_a, blk_g]
  rfl

theorem last_blk (c : Dev nD) (t : Fin cfg0.N) (acc : Vec Ideal S1024x1024 .f32) (p : Fin 1024) (q : Fin 1024) :
    k0_pay4 (F := Ideal) (iblk m c 0 t) (iblk m c 1 t) acc (ix2 p q) = acc (ix2 p q) + part m c t (ix2 p q) := by
  rw [last]
  simp only [blk_a, blk_g]
  rfl

/-- The running sum: the scratch, and at the last point of a run the result. -/
def run_sum (c : Dev nD) (n : ℕ) (h : n < cfg0.N) (j : S1024x1024.Idx) : EReal :=
  if n % 4 = 3 then (outsAt0 m c n h).1 j else (outsAt0 m c n h).2 j

theorem run_zero (c : Dev nD) (t : Fin cfg0.N) (h : t.val % 4 = 0) (j : S1024x1024.Idx) : run_sum m c t.val t.isLt j = 0 + part m c t j := by
  have h2 : ¬ t.val % 4 = 3 := by omega
  rw [run_sum, if_neg h2, outsAt0_A m c t h (by omega) h2]
  frame_out
  idx_vars j
  rw [first_blk, zero_add]

theorem run_step (c : Dev nD) (t : Fin cfg0.N) (h : ¬ t.val % 4 = 0) (j : S1024x1024.Idx) :
    run_sum m c t.val t.isLt j = run_sum m c (t.val - 1) (Nat.lt_of_le_of_lt (Nat.sub_le _ _) t.isLt) j + part m c t j := by
  have hp : ¬ (t.val - 1) % 4 = 3 := by omega
  rw [run_sum, run_sum, if_neg hp]
  by_cases h2 : t.val % 4 = 3
  · rw [if_pos h2, outsAt0_C m c t h (by omega) h2]
    frame_out
    idx_vars j
    rw [last_blk, read_unread_whole]
  · rw [if_neg h2, outsAt0_B m c t h (by omega) h2]
    frame_out
    idx_vars j
    rw [next_blk, read_unread_whole]

theorem emb (t : Fin cfg0.N) (p : Fin 1024) (q : Fin 1024) : ((cfg0.win 2).blk t).view.emb (ix2 p q) = ix2 (col t p) q := by
  blk_point [idx t, col]

/-- At the last point of a run the parts make up the whole sum over the rows. -/
theorem point (c : Dev nD) (t : Fin cfg0.N) (h : t.val % 4 = 4 - 1) (p : Fin 1024) (q : Fin 1024) :
    (outsAt0 m c t.val t.isLt).1 (ix2 p q) = out (arg_a m c) (arg_g m c) (((cfg0.win 2).blk t).view.emb (ix2 p q)) := by
  have sum := Pipeline.eq_sum_fin_of_reset_step_apply_of_flush (M := EReal) (run_sum m c) 4 (fun _ => 0) (part m c)
    (run_zero m c) (run_step m c) t h (ix2 p q)
  rw [run_sum, if_pos h] at sum
  rw [emb, sum, zero_add]
  refine Fin.sum_mul_add_congr fun s k hl => ?_
  have hr : row ⟨4 * (t.val / 4) + s.val, Pipeline.run_point_lt_of_flush t h s⟩ k = ⟨s.val * 1024 + k.val, hl⟩ := by
    apply Fin.ext
    show (4 * (t.val / 4) + s.val) % 4 * 1024 + k.val = s.val * 1024 + k.val
    have := s.isLt
    omega
  have hc : col ⟨4 * (t.val / 4) + s.val, Pipeline.run_point_lt_of_flush t h s⟩ p = col t p := by
    apply Fin.ext
    show (4 * (t.val / 4) + s.val) / 4 * 1024 + p.val = t.val / 4 * 1024 + p.val
    have := s.isLt
    omega
  rw [hr]
  show _ * _ = arg_a m c (ix2 _ (col t p)) * _
  rw [← hc]
  rfl

/-- The array the kernel leaves. -/
theorem final (c : Dev nD) : (dats m 0 c).arrAt 2 cfg0.N = out (arg_a m c) (arg_g m c) := by
  refine (dats m 0 c).arrAt_eq_of_covers 2 _ (by decide +kernel) fun t hf y => ?_
  blk_simp
  rw [after0_2]
  idx_vars y
  exact point m c t ((flush0_2 t).mp hf) y0 y1

end Cert.OutWideDwIdeal.Value

namespace Cert.OutWideDwSpecIdeal.Value

open Cert.OutWideDwSpecIdeal Cert.OutWideDwSpecIdeal.Gen

/-- What the reference computes is the same array. -/
theorem spec (a : Vec Ideal S4096x1024 .f32) (g : Vec Ideal S4096x1024 .f32) :
    transpose S1024x1024 [1, 0] (Host.dotGeneral (F := Ideal) (φ₁ := .f32) (φ₂ := .f32) dot_S4096x1024_S4096x1024_S1024x1024_0_0_1_1_n_n none g a) transposes_S1024x1024_S1024x1024_1_0 = Cert.OutWideDwIdeal.Value.out a g := by
  funext i
  idx_vars i
  pointwise [Cert.OutWideDwIdeal.Value.out]
  exact Finset.sum_congr rfl fun l _ => mul_comm _ _

end Cert.OutWideDwSpecIdeal.Value

namespace Cert.OutWideDwClaim

open Cert.OutWideDwIdeal.Value

theorem specFrame : Cert.quiescent_OutWideDwSpecIdeal := fun m g _ =>
  (θ_run _ _ _).mono (fun r h => ⟨fun c => (h c).2, sem_eq_zero_of_no_sems (by decide) r.2⟩) (Cert.OutWideDwSpecIdeal.Value.run m g)

theorem value : Cert.algebraic_OutWideDwIdeal_OutWideDwSpecIdeal := by
  intro m g m' g' _ hargs
  refine ⟨fun c => out (arg_a m c) (arg_g m c), ?_, ?_⟩
  · refine (θ_run _ _ _).mono (fun r h c => ?_) (Cert.OutWideDwIdeal.Value.run_blocks m g)
    exact ⟨(h c).1.trans (final m c), (h c).2⟩
  · refine (θ_run _ _ _).mono (fun r h c => ?_) (Cert.OutWideDwSpecIdeal.Value.run m' g')
    obtain ⟨a0, a1⟩ := hargs c
    refine ⟨(h c).1.trans ?_, (h c).2⟩
    rw [a0, a1]
    exact Cert.OutWideDwSpecIdeal.Value.spec _ _

end Cert.OutWideDwClaim

end
-- ==== Proof.Norm.lean ====
module

public import proofs.«01_k».proof.Proof.Gen.NormIdeal.Value
public import proofs.«01_k».proof.Proof.Gen.NormSpecIdeal.Run
public import proofs.«01_k».proof.Proof.Gen.Norm.Frame
public import Idealize.ShloMosaic.Lib.Pipeline.ValueKit
public import Idealize.ShloMosaic.Lib.Claim
public import proofs.«01_k».proof.Proof.RmsMath
public import proofs.«01_k».proof.Defs

/-! The root-mean-square norm of the rows, forward. -/

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen
open Cert.RmsMath

/-- The normed rows times the norm's weight. -/
def normed (x : Vec Ideal S4096x1024 .f32) (g : Vec Ideal S1024 .f32) : Vec Ideal S4096x1024 .bf16 :=
  fun i => x i * rr (fun k : Fin 1024 => x (ix2 (i 0) k)) * g (ix1 (i 1))

variable (m : (ℓ : Loc nD τ sig) → Buf (Elt Ideal) ℓ)

abbrev arg_x (c : Dev nD) : Vec Ideal S4096x1024 .f32 := m ((c : Thread nD τ).loc main_arg0)
abbrev arg_g (c : Dev nD) : Vec Ideal S1024 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- The row at which a grid point works. -/
def row (t : Fin cfg0.N) (p : Fin 2048) : Fin 4096 := ⟨t.val * 2048 + p.val, by have := t.isLt; have : cfg0.N = 2 := rfl; omega⟩

theorem V_g (c : Dev nD) : @Eq (FVec Ideal S1x1024 .f32) (V m c main_v0) (shapeCast S1x1024 (arg_g m c) shapeCasts_S1024_S1x1024) := by
  unfold_abbrev_sides
  after_results
  rfl

theorem blk_x (c : Dev nD) (t : Fin cfg0.N) (p : Fin 2048) (k : Fin 1024) : iblk m c 0 t (ix2 p k) = arg_x m c (ix2 (row t p) k) := by
  blk_point [iblk, idx t, row]

theorem blk_g (c : Dev nD) (t : Fin cfg0.N) (k : Fin 1024) : iblk m c 1 t (ix2 (0 : Fin 1) k) = arg_g m c (ix1 k) := by
  have h : iblk m c 1 t (ix2 (0 : Fin 1) k) = V m c main_v0 (ix2 (0 : Fin 1) k) := by
    blk_point [iblk, idx t]
  rw [h, V_g]
  pointwise

theorem block (x0 : Vec Ideal S2048x1024 .f32) (x1 : Vec Ideal S1x1024 .f32) (p : Fin 2048) (k : Fin 1024) :
    k0_pay1 (F := Ideal) x0 x1 (ix2 p k) = x0 (ix2 p k) * rr (fun j : Fin 1024 => x0 (ix2 p j)) * x1 (ix2 (0 : Fin 1) k) := by
  pointwise [k0_pay1, rr, ms]

theorem emb (t : Fin cfg0.N) (p : Fin 2048) (k : Fin 1024) : ((cfg0.win 2).blk t).view.emb (ix2 p k) = ix2 (row t p) k := by
  blk_point [idx t, row]

theorem point_y (c : Dev nD) (t : Fin cfg0.N) (p : Fin 2048) (k : Fin 1024) :
    k0_pay1 (F := Ideal) (iblk m c 0 t) (iblk m c 1 t) (ix2 p k) = normed (arg_x m c) (arg_g m c) (((cfg0.win 2).blk t).view.emb (ix2 p k)) := by
  rw [emb, block]
  simp only [blk_x, blk_g]
  rfl

theorem final_y (c : Dev nD) : (dats m 0 c).arrAt 2 cfg0.N = normed (arg_x m c) (arg_g m c) := by
  refine (dats m 0 c).arrAt_eq_of_covers 2 _ (by decide +kernel) fun t _ y => ?_
  blk_simp
  rw [after0_2]
  frame_out
  idx_vars y
  exact point_y m c t y0 y1

end Cert.NormIdeal.Value

namespace Cert.NormSpecIdeal.Value

open Cert.NormSpecIdeal Cert.NormSpecIdeal.Gen Cert.RmsMath

theorem spec_y (x : Vec Ideal S4096x1024 .f32) (g : Vec Ideal S1024 .f32) :
    (truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32 : FVec Ideal S4096x1024 .bf16)
      = Cert.NormIdeal.Value.normed x g := by
  funext i
  idx_vars i
  pointwise [Cert.NormIdeal.Value.normed, rr, ms]

end Cert.NormSpecIdeal.Value

namespace Cert.NormClaim

open Cert.NormIdeal.Value

theorem specFrame : Cert.quiescent_NormSpecIdeal := fun m g _ =>
  (θ_run _ _ _).mono (fun r h => ⟨fun c => (h c).2, sem_eq_zero_of_no_sems (by decide) r.2⟩) (Cert.NormSpecIdeal.Value.run m g)

theorem value : Cert.algebraic_NormIdeal_NormSpecIdeal := by
  intro m g m' g' _ hargs
  refine ⟨fun c => normed (arg_x m c) (arg_g m c), ?_, ?_⟩
  · refine (θ_run _ _ _).mono (fun r h c => ?_) (Cert.NormIdeal.Value.run_blocks m g)
    exact ⟨(h c).1.trans (final_y m c), (h c).2⟩
  · refine (θ_run _ _ _).mono (fun r h c => ?_) (Cert.NormSpecIdeal.Value.run m' g')
    obtain ⟨a0, a1⟩ := hargs c
    refine ⟨(h c).1.trans ?_, (h c).2⟩
    rw [a0, a1]
    exact Cert.NormSpecIdeal.Value.spec_y _ _

end Cert.NormClaim

end
-- ==== Proof.GatesMath.lean ====
module

public import Idealize.ShloMosaic.Lib.Pipeline.ValueKit

/-! The 1024 columns of the recurrence as four heads of 256. -/

@[expose] public section

noncomputable section

namespace Cert.GatesMath

/-- The head of a column, its place in the head, and the column of a place in a head. -/
def hd (n : Fin 1024) : Fin 4 := ⟨n.val / 256, by omega⟩
def lo (n : Fin 1024) : Fin 256 := ⟨n.val % 256, by omega⟩
def cc (h : Fin 4) (k : Fin 256) : Fin 1024 := ⟨h.val * 256 + k.val, by omega⟩

theorem hd_cc (h : Fin 4) (k : Fin 256) : hd (cc h k) = h := Fin.ext (by simp only [hd, cc]; omega)

theorem lo_cc (h : Fin 4) (k : Fin 256) : lo (cc h k) = k := Fin.ext (by simp only [lo, cc]; omega)

theorem cc_hd_lo (n : Fin 1024) : cc (hd n) (lo n) = n := Fin.ext (by simp only [hd, lo, cc]; omega)

end Cert.GatesMath

end
-- ==== Proof.Gates.lean ====
module

public import proofs.«01_k».proof.Proof.Gen.GatesIdeal.Value
public import proofs.«01_k».proof.Proof.Gen.GatesSpecIdeal.Run
public import proofs.«01_k».proof.Proof.Gen.Gates.Frame
public import Idealize.ShloMosaic.Lib.Pipeline.ValueKit
public import Idealize.ShloMosaic.Lib.Claim
public import proofs.«01_k».proof.Proof.GatesMath
public import proofs.«01_k».proof.Defs

/-! The products of the recurrence's two gates before their sigmoids: for each head of 256 columns a matrix and a bias. -/

@[expose] public section

set_option maxRecDepth 16384

noncomputable section

open Idealize.ShloMosaic Idealize.ShloMosaic.TcCoe Idealize.SL.Sem
open Idealize.ShloMosaic.Pipeline (Dat)

namespace Cert.GatesIdeal.Value

open Cert.GatesIdeal Cert.GatesIdeal.Gen
open Cert.GatesMath

/-- The product of each head's columns with its matrix, plus its bias. -/
def gate (x : Vec Ideal S4096x1024 .f32) (w : Vec Ideal S4x256x256 .f32) (b : Vec Ideal S4x256 .f32) : Vec Ideal S4096x1024 .f32 :=
  fun i => (∑ k : Fin 256, x (ix2 (i 0) (cc (hd (i 1)) k)) * w (ix3 (hd (i 1)) k (lo (i 1)))) + b (ix2 (hd (i 1)) (lo (i 1)))

variable (m : (ℓ : Loc nD τ sig) → Buf (Elt Ideal) ℓ)

abbrev arg_x (c : Dev nD) : Vec Ideal S4096x1024 .f32 := m ((c : Thread nD τ).loc main_arg0)
abbrev arg_wa (c : Dev nD) : Vec Ideal S4x256x256 .f32 := m ((c : Thread nD τ).loc main_arg1)
abbrev arg_ba (c : Dev nD) : Vec Ideal S4x256 .f32 := m ((c : Thread nD τ).loc main_arg2)
abbrev arg_wx (c : Dev nD) : Vec Ideal S4x256x256 .f32 := m ((c : Thread nD τ).loc main_arg3)
abbrev arg_bx (c : Dev nD) : Vec Ideal S4x256 .f32 := m ((c : Thread nD τ).loc main_arg4)

theorem idx : ∀ t : Fin cfg0.N, win0_0.index t = ![t.val / 4, t.val % 4] ∧ win0_1.index t = ![t.val % 4, 0, 0] ∧ win0_2.index t = ![0, t.val % 4] ∧ win0_3.index t = ![t.val % 4, 0, 0] ∧ win0_4.index t = ![0, t.val % 4] ∧ win0_5.index t = ![t.val / 4, t.val % 4] ∧ win0_6.index t = ![t.val / 4, t.val % 4] :=
  (by decide +kernel : ∀ t : Fin grid0.N, _)

/-- The rows and the head at which a grid point works. -/
def row (t : Fin cfg0.N) (p : Fin 2048) : Fin 4096 := ⟨t.val / 4 * 2048 + p.val, by have := t.isLt; have : cfg0.N = 8 := rfl; omega⟩
def hh (t : Fin cfg0.N) : Fin 4 := ⟨t.val % 4, by omega⟩

theorem V_ba (c : Dev nD) : @Eq (FVec Ideal S1x1024 .f32) (V m c main_v0) (shapeCast S1x1024 (arg_ba m c) shapeCasts_S4x256_S1x1024) := by
  unfold_abbrev_sides
  after_results
  rfl

theorem blk_ba (c : Dev nD) (t : Fin cfg0.N) (q : Fin 256) : iblk m c 2 t (ix2 (0 : Fin 1) q) = arg_ba m c (ix2 (hh t) q) := by
  have h : iblk m c 2 t (ix2 (0 : Fin 1) q) = V m c main_v0 (ix2 (0 : Fin 1) (cc (hh t) q)) := by
    blk_point [iblk, idx t, hh, cc]
  rw [h, V_ba]
  generalize hh t = h
  pointwise [cc]

theorem V_bx (c : Dev nD) : @Eq (FVec Ideal S1x1024 .f32) (V m c main_v1) (shapeCast S1x1024 (arg_bx m c) shapeCasts_S4x256_S1x1024) := by
  unfold_abbrev_sides
  after_results
  rfl

theorem blk_bx (c : Dev nD) (t : Fin cfg0.N) (q : Fin 256) : iblk m c 4 t (ix2 (0 : Fin 1) q) = arg_bx m c (ix2 (hh t) q) := by
  have h : iblk m c 4 t (ix2 (0 : Fin 1) q) = V m c main_v1 (ix2 (0 : Fin 1) (cc (hh t) q)) := by
    blk_point [iblk, idx t, hh, cc]
  rw [h, V_bx]
  generalize hh t = h
  pointwise [cc]

theorem blk_x (c : Dev nD) (t : Fin cfg0.N) (p : Fin 2048) (k : Fin 256) : iblk m c 0 t (ix2 p k) = arg_x m c (ix2 (row t p) (cc (hh t) k)) := by
  blk_point [iblk, idx t, row, hh, cc]

theorem blk_wa (c : Dev nD) (t : Fin cfg0.N) (k q : Fin 256) : iblk m c 1 t (ix3 (0 : Fin 1) k q) = arg_wa m c (ix3 (hh t) k q) := by
  blk_point [iblk, idx t, hh]

theorem blk_wx (c : Dev nD) (t : Fin cfg0.N) (k q : Fin 256) : iblk m c 3 t (ix3 (0 : Fin 1) k q) = arg_wx m c (ix3 (hh t) k q) := by
  blk_point [iblk, idx t, hh]

theorem block_a (x0 : Vec Ideal S2048x256 .f32) (x1 : Vec Ideal S1x256x256 .f32) (x2 : Vec Ideal S1x256 .f32) (p : Fin 2048) (q : Fin 256) :
    k0_pay2 (F := Ideal) x0 x1 x2 (ix2 p q) = (∑ k : Fin 256, x0 (ix2 p k) * x1 (ix3 (0 : Fin 1) k q)) + x2 (ix2 (0 : Fin 1) q) := by
  pointwise [k0_pay2, k0_pay1]

theorem emb_a (t : Fin cfg0.N) (p : Fin 2048) (q : Fin 256) : ((cfg0.win 5).blk t).view.emb (ix2 p q) = ix2 (row t p) (cc (hh t) q) := by
  blk_point [idx t, row, hh, cc]

theorem point_a (c : Dev nD) (t : Fin cfg0.N) (p : Fin 2048) (q : Fin 256) :
    k0_pay2 (F := Ideal) (iblk m c 0 t) (iblk m c 1 t) (iblk m c 2 t) (ix2 p q)
      = gate (arg_x m c) (arg_wa m c) (arg_ba m c) (((cfg0.win 5).blk t).view.emb (ix2 p q)) := by
  rw [emb_a, block_a]
  simp only [blk_x, blk_wa, blk_ba]
  show _ = (∑ k : Fin 256, arg_x m c (ix2 (row t p) (cc (hd (cc (hh t) q)) k)) * arg_wa m c (ix3 (hd (cc (hh t) q)) k (lo (cc (hh t) q)))) + arg_ba m c (ix2 (hd (cc (hh t) q)) (lo (cc (hh t) q)))
  rw [hd_cc, lo_cc]

theorem final_a (c : Dev nD) : (dats m 0 c).arrAt 5 cfg0.N = gate (arg_x m c) (arg_wa m c) (arg_ba m c) := by
  refine (dats m 0 c).arrAt_eq_of_covers 5 _ (by decide +kernel) fun t _ y => ?_
  blk_simp
  rw [after0_5]
  frame_out
  idx_vars y
  exact point_a m c t y0 y1

theorem block_x (x0 : Vec Ideal S2048x256 .f32) (x1 : Vec Ideal S1x256x256 .f32) (x2 : Vec Ideal S1x256 .f32) (p : Fin 2048) (q : Fin 256) :
    k0_pay3 (F := Ideal) x0 x1 x2 (ix2 p q) = (∑ k : Fin 256, x0 (ix2 p k) * x1 (ix3 (0 : Fin 1) k q)) + x2 (ix2 (0 : Fin 1) q) := by
  pointwise [k0_pay3, k0_pay1]

theorem emb_x (t : Fin cfg0.N) (p : Fin 2048) (q : Fin 256) : ((cfg0.win 6).blk t).view.emb (ix2 p q) = ix2 (row t p) (cc (hh t) q) := by
  blk_point [idx t, row, hh, cc]

theorem point_x (c : Dev nD) (t : Fin cfg0.N) (p : Fin 2048) (q : Fin 256) :
    k0_pay3 (F := Ideal) (iblk m c 0 t) (iblk m c 3 t) (iblk m c 4 t) (ix2 p q)
      = gate (arg_x m c) (arg_wx m c) (arg_bx m c) (((cfg0.win 6).blk t).view.emb (ix2 p q)) := by
  rw [emb_x, block_x]
  simp only [blk_x, blk_wx, blk_bx]
  show _ = (∑ k : Fin 256, arg_x m c (ix2 (row t p) (cc (hd (cc (hh t) q)) k)) * arg_wx m c (ix3 (hd (cc (hh t) q)) k (lo (cc (hh t) q)))) + arg_bx m c (ix2 (hd (cc (hh t) q)) (lo (cc (hh t) q)))
  rw [hd_cc, lo_cc]

theorem final_x (c : Dev nD) : (dats m 0 c).arrAt 6 cfg0.N = gate (arg_x m c) (arg_wx m c) (arg_bx m c) := by
  refine (dats m 0 c).arrAt_eq_of_covers 6 _ (by decide +kernel) fun t _ y => ?_
  blk_simp
  rw [after0_6]
  frame_out
  idx_vars y
  exact point_x m c t y0 y1

end Cert.GatesIdeal.Value

namespace Cert.GatesSpecIdeal.Value

open Cert.GatesSpecIdeal Cert.GatesSpecIdeal.Gen Cert.GatesMath

abbrev r3 (x : Vec Ideal S4096x1024 .f32) (w : Vec Ideal S4x256x256 .f32) (b : Vec Ideal S4x256 .f32) : FVec Ideal S4096x4x256 .f32 :=
  addf (transpose S4096x4x256 [2, 0, 1] (Host.dotGeneral (F := Ideal) (φ₁ := .f32) (φ₂ := .f32) dot_S4x256x256_S4096x4x256_S4x256x4096_1_2_2_0_0_1 none w (shapeCast S4096x4x256 x shapeCasts_S4096x1024_S4096x4x256)) transposes_S4x256x4096_S4096x4x256_2_0_1) (broadcastInDim S4096x4x256 ![0, 1, 2] bcast_S1x4x256_S4096x4x256_0_1_2 (broadcastInDim S1x4x256 ![1, 2] bcast_S4x256_S1x4x256_1_2 b))

theorem split_at (x : Vec Ideal S4096x1024 .f32) (l : Fin 4096) (h : Fin 4) (k : Fin 256) :
    (shapeCast S4096x4x256 x shapeCasts_S4096x1024_S4096x4x256 : FVec Ideal S4096x4x256 .f32) (ix3 l h k) = x (ix2 l (cc h k)) := by
  pointwise [cc]

theorem join_at (y : FVec Ideal S4096x4x256 .f32) (l : Fin 4096) (n : Fin 1024) :
    (shapeCast S4096x1024 y shapeCasts_S4096x4x256_S4096x1024 : FVec Ideal S4096x1024 .f32) (ix2 l n) = y (ix3 l (hd n) (lo n)) := by
  pointwise [hd, lo]

theorem r3_at (x : Vec Ideal S4096x1024 .f32) (w : Vec Ideal S4x256x256 .f32) (b : Vec Ideal S4x256 .f32) (l : Fin 4096) (h : Fin 4) (q : Fin 256) :
    r3 x w b (ix3 l h q) = (∑ k : Fin 256, x (ix2 l (cc h k)) * w (ix3 h k q)) + b (ix2 h q) := by
  have e : ∀ y : FVec Ideal S4096x4x256 .f32, (addf (transpose S4096x4x256 [2, 0, 1] (Host.dotGeneral (F := Ideal) (φ₁ := .f32) (φ₂ := .f32) dot_S4x256x256_S4096x4x256_S4x256x4096_1_2_2_0_0_1 none w y) transposes_S4x256x4096_S4096x4x256_2_0_1) (broadcastInDim S4096x4x256 ![0, 1, 2] bcast_S1x4x256_S4096x4x256_0_1_2 (broadcastInDim S1x4x256 ![1, 2] bcast_S4x256_S1x4x256_1_2 b)) : FVec Ideal S4096x4x256 .f32) (ix3 l h q)
      = (∑ k : Fin 256, w (ix3 h k q) * y (ix3 l h k)) + b (ix2 h q) := by
    intro y
    pointwise
  refine (e _).trans ?_
  congr 1
  exact Finset.sum_congr rfl fun k _ => by rw [split_at, mul_comm]

theorem spec (x : Vec Ideal S4096x1024 .f32) (w : Vec Ideal S4x256x256 .f32) (b : Vec Ideal S4x256 .f32) : shapeCast S4096x1024 (r3 x w b) shapeCasts_S4096x4x256_S4096x1024 = Cert.GatesIdeal.Value.gate x w b := by
  funext i
  idx_vars i
  rw [join_at, r3_at]
  rfl

end Cert.GatesSpecIdeal.Value

namespace Cert.GatesClaim

open Cert.GatesIdeal.Value

theorem specFrame : Cert.quiescent_GatesSpecIdeal := fun m g _ =>
  (θ_run _ _ _).mono (fun r h => ⟨fun c => (h c).2.2, sem_eq_zero_of_no_sems (by decide) r.2⟩) (Cert.GatesSpecIdeal.Value.run m g)

theorem value : Cert.algebraic_GatesIdeal_GatesSpecIdeal := by
  intro m g m' g' _ hargs
  refine ⟨fun c => gate (arg_x m c) (arg_wa m c) (arg_ba m c), fun c => gate (arg_x m c) (arg_wx m c) (arg_bx m c), ?_, ?_⟩
  · refine (θ_run _ _ _).mono (fun r h c => ?_) (Cert.GatesIdeal.Value.run_blocks m g)
    exact ⟨(h c).1.trans (final_a m c), (h c).2.1.trans (final_x m c), (h c).2.2⟩
  · refine (θ_run _ _ _).mono (fun r h c => ?_) (Cert.GatesSpecIdeal.Value.run m' g')
    obtain ⟨a0, a1, a2, a3, a4⟩ := hargs c
    refine ⟨(h c).1.trans ?_, (h c).2.1.trans ?_, (h c).2.2⟩
    · rw [a0, a1, a2]
      exact Cert.GatesSpecIdeal.Value.spec _ _ _
    · rw [a0, a3, a4]
      exact Cert.GatesSpecIdeal.Value.spec _ _ _

end Cert.GatesClaim

end
-- ==== Proof.GatesDx.lean ====
module

public import proofs.«01_k».proof.Proof.Gen.GatesDxIdeal.Value
public import proofs.«01_k».proof.Proof.Gen.GatesDxSpecIdeal.Run
public import proofs.«01_k».proof.Proof.Gen.GatesDx.Frame
public import Idealize.ShloMosaic.Lib.Pipeline.ValueKit
public import Idealize.ShloMosaic.Lib.Claim
public import proofs.«01_k».proof.Proof.GatesMath
public import proofs.«01_k».proof.Defs

/-! The gradient of the gates' input: through both gates' matrices, plus what reaches it elsewhere. -/

@[expose] public section

set_option maxRecDepth 16384

noncomputable section

open Idealize.ShloMosaic Idealize.ShloMosaic.TcCoe Idealize.SL.Sem
open Idealize.ShloMosaic.Pipeline (Dat)

namespace Cert.GatesDxIdeal.Value

open Cert.GatesDxIdeal Cert.GatesDxIdeal.Gen
open Cert.GatesMath

/-- The gradient of one gate's input: each head's columns times its matrix transposed. -/
def back (d : Vec Ideal S4096x1024 .f32) (w : Vec Ideal S4x256x256 .f32) : Vec Ideal S4096x1024 .f32 :=
  fun i => ∑ k : Fin 256, d (ix2 (i 0) (cc (hd (i 1)) k)) * w (ix3 (hd (i 1)) (lo (i 1)) k)

/-- Both gates' gradients and the rest. -/
def total (da dx : Vec Ideal S4096x1024 .f32) (wa wx : Vec Ideal S4x256x256 .f32) (r : Vec Ideal S4096x1024 .f32) : Vec Ideal S4096x1024 .f32 :=
  fun i => back da wa i + back dx wx i + r i

variable (m : (ℓ : Loc nD τ sig) → Buf (Elt Ideal) ℓ)

abbrev arg_da (c : Dev nD) : Vec Ideal S4096x1024 .f32 := m ((c : Thread nD τ).loc main_arg0)
abbrev arg_dx (c : Dev nD) : Vec Ideal S4096x1024 .f32 := m ((c : Thread nD τ).loc main_arg1)
abbrev arg_wa (c : Dev nD) : Vec Ideal S4x256x256 .f32 := m ((c : Thread nD τ).loc main_arg2)
abbrev arg_wx (c : Dev nD) : Vec Ideal S4x256x256 .f32 := m ((c : Thread nD τ).loc main_arg3)
abbrev arg_r (c : Dev nD) : Vec Ideal S4096x1024 .f32 := m ((c : Thread nD τ).loc main_arg4)

theorem idx : ∀ t : Fin cfg0.N, win0_0.index t = ![t.val / 4, t.val % 4] ∧ win0_1.index t = ![t.val / 4, t.val % 4] ∧ win0_2.index t = ![t.val % 4, 0, 0] ∧ win0_3.index t = ![t.val % 4, 0, 0] ∧ win0_4.index t = ![t.val / 4, t.val % 4] ∧ win0_5.index t = ![t.val / 4, t.val % 4] :=
  (by decide +kernel : ∀ t : Fin grid0.N, _)

/-- The rows and the head at which a grid point works. -/
def row (t : Fin cfg0.N) (p : Fin 2048) : Fin 4096 := ⟨t.val / 4 * 2048 + p.val, by have := t.isLt; have : cfg0.N = 8 := rfl; omega⟩
def hh (t : Fin cfg0.N) : Fin 4 := ⟨t.val % 4, by omega⟩

theorem blk_da (c : Dev nD) (t : Fin cfg0.N) (p : Fin 2048) (k : Fin 256) : iblk m c 0 t (ix2 p k) = arg_da m c (ix2 (row t p) (cc (hh t) k)) := by
  blk_point [iblk, idx t, row, hh, cc]

theorem blk_dx (c : Dev nD) (t : Fin cfg0.N) (p : Fin 2048) (k : Fin 256) : iblk m c 1 t (ix2 p k) = arg_dx m c (ix2 (row t p) (cc (hh t) k)) := by
  blk_point [iblk, idx t, row, hh, cc]

theorem blk_wa (c : Dev nD) (t : Fin cfg0.N) (k q : Fin 256) : iblk m c 2 t (ix3 (0 : Fin 1) k q) = arg_wa m c (ix3 (hh t) k q) := by
  blk_point [iblk, idx t, hh]

theorem blk_wx (c : Dev nD) (t : Fin cfg0.N) (k q : Fin 256) : iblk m c 3 t (ix3 (0 : Fin 1) k q) = arg_wx m c (ix3 (hh t) k q) := by
  blk_point [iblk, idx t, hh]

theorem blk_r (c : Dev nD) (t : Fin cfg0.N) (p : Fin 2048) (k : Fin 256) : iblk m c 4 t (ix2 p k) = arg_r m c (ix2 (row t p) (cc (hh t) k)) := by
  blk_point [iblk, idx t, row, hh, cc]

theorem block (x0 : Vec Ideal S2048x256 .f32) (x1 : Vec Ideal S1x256x256 .f32) (x2 : Vec Ideal S2048x256 .f32) (x3 : Vec Ideal S1x256x256 .f32) (x4 : Vec Ideal S2048x256 .f32) (p : Fin 2048) (q : Fin 256) :
    k0_pay1 (F := Ideal) x0 x1 x2 x3 x4 (ix2 p q)
      = (∑ k : Fin 256, x0 (ix2 p k) * x1 (ix3 (0 : Fin 1) q k)) + (∑ k : Fin 256, x2 (ix2 p k) * x3 (ix3 (0 : Fin 1) q k)) + x4 (ix2 p q) := by
  pointwise [k0_pay1]

theorem emb (t : Fin cfg0.N) (p : Fin 2048) (q : Fin 256) : ((cfg0.win 5).blk t).view.emb (ix2 p q) = ix2 (row t p) (cc (hh t) q) := by
  blk_point [idx t, row, hh, cc]

theorem back_at (d : Vec Ideal S4096x1024 .f32) (w : Vec Ideal S4x256x256 .f32) (l : Fin 4096) (h : Fin 4) (q : Fin 256) :
    back d w (ix2 l (cc h q)) = ∑ k : Fin 256, d (ix2 l (cc h k)) * w (ix3 h q k) := by
  show ∑ k : Fin 256, d (ix2 l (cc (hd (cc h q)) k)) * w (ix3 (hd (cc h q)) (lo (cc h q)) k) = _
  rw [hd_cc, lo_cc]

theorem point_y (c : Dev nD) (t : Fin cfg0.N) (p : Fin 2048) (q : Fin 256) :
    k0_pay1 (F := Ideal) (iblk m c 0 t) (iblk m c 2 t) (iblk m c 1 t) (iblk m c 3 t) (iblk m c 4 t) (ix2 p q)
      = total (arg_da m c) (arg_dx m c) (arg_wa m c) (arg_wx m c) (arg_r m c) (((cfg0.win 5).blk t).view.emb (ix2 p q)) := by
  rw [emb, block]
  simp only [blk_da, blk_dx, blk_wa, blk_wx, blk_r]
  show _ = back (arg_da m c) (arg_wa m c) (ix2 (row t p) (cc (hh t) q)) + back (arg_dx m c) (arg_wx m c) (ix2 (row t p) (cc (hh t) q)) + _
  rw [back_at, back_at]

theorem final_y (c : Dev nD) : (dats m 0 c).arrAt 5 cfg0.N = total (arg_da m c) (arg_dx m c) (arg_wa m c) (arg_wx m c) (arg_r m c) := by
  refine (dats m 0 c).arrAt_eq_of_covers 5 _ (by decide +kernel) fun t _ y => ?_
  blk_simp
  rw [after0_5]
  frame_out
  idx_vars y
  exact point_y m c t y0 y1

end Cert.GatesDxIdeal.Value

namespace Cert.GatesDxSpecIdeal.Value

open Cert.GatesDxSpecIdeal Cert.GatesDxSpecIdeal.Gen Cert.GatesMath

abbrev rB (d : Vec Ideal S4096x1024 .f32) (w : Vec Ideal S4x256x256 .f32) : FVec Ideal S4096x1024 .f32 :=
  shapeCast S4096x1024 (transpose S4096x4x256 [1, 0, 2] (Host.dotGeneral (F := Ideal) (φ₁ := .f32) (φ₂ := .f32) dot_S4x256x4096_S4x256x256_S4x4096x256_1_2_2_1_0_0 none (transpose S4x256x4096 [1, 2, 0] (shapeCast S4096x4x256 d shapeCasts_S4096x1024_S4096x4x256) transposes_S4096x4x256_S4x256x4096_1_2_0) w) transposes_S4x4096x256_S4096x4x256_1_0_2) shapeCasts_S4096x4x256_S4096x1024

theorem split_at (x : Vec Ideal S4096x1024 .f32) (l : Fin 4096) (h : Fin 4) (k : Fin 256) :
    (shapeCast S4096x4x256 x shapeCasts_S4096x1024_S4096x4x256 : FVec Ideal S4096x4x256 .f32) (ix3 l h k) = x (ix2 l (cc h k)) := by
  pointwise [cc]

theorem join_at (y : FVec Ideal S4096x4x256 .f32) (l : Fin 4096) (n : Fin 1024) :
    (shapeCast S4096x1024 y shapeCasts_S4096x4x256_S4096x1024 : FVec Ideal S4096x1024 .f32) (ix2 l n) = y (ix3 l (hd n) (lo n)) := by
  pointwise [hd, lo]

theorem mid_at (y : FVec Ideal S4096x4x256 .f32) (w : Vec Ideal S4x256x256 .f32) (l : Fin 4096) (h : Fin 4) (q : Fin 256) :
    (transpose S4096x4x256 [1, 0, 2] (Host.dotGeneral (F := Ideal) (φ₁ := .f32) (φ₂ := .f32) dot_S4x256x4096_S4x256x256_S4x4096x256_1_2_2_1_0_0 none (transpose S4x256x4096 [1, 2, 0] y transposes_S4096x4x256_S4x256x4096_1_2_0) w) transposes_S4x4096x256_S4096x4x256_1_0_2 : FVec Ideal S4096x4x256 .f32) (ix3 l h q)
      = ∑ k : Fin 256, y (ix3 l h k) * w (ix3 h q k) := by
  pointwise

theorem rB_at (d : Vec Ideal S4096x1024 .f32) (w : Vec Ideal S4x256x256 .f32) (l : Fin 4096) (n : Fin 1024) : rB d w (ix2 l n) = Cert.GatesDxIdeal.Value.back d w (ix2 l n) := by
  refine ((join_at _ l n).trans (mid_at _ w l (hd n) (lo n))).trans ?_
  exact Finset.sum_congr rfl fun k _ => by rw [split_at]; rfl

theorem spec (da dx : Vec Ideal S4096x1024 .f32) (wa wx : Vec Ideal S4x256x256 .f32) (r : Vec Ideal S4096x1024 .f32) : addf (addf r (rB dx wx)) (rB da wa) = Cert.GatesDxIdeal.Value.total da dx wa wx r := by
  funext i
  idx_vars i
  show r (ix2 i0 i1) + rB dx wx (ix2 i0 i1) + rB da wa (ix2 i0 i1) = Cert.GatesDxIdeal.Value.back da wa (ix2 i0 i1) + Cert.GatesDxIdeal.Value.back dx wx (ix2 i0 i1) + r (ix2 i0 i1)
  rw [rB_at, rB_at]
  ac_rfl

end Cert.GatesDxSpecIdeal.Value

namespace Cert.GatesDxClaim

open Cert.GatesDxIdeal.Value

theorem specFrame : Cert.quiescent_GatesDxSpecIdeal := fun m g _ =>
  (θ_run _ _ _).mono (fun r h => ⟨fun c => (h c).2, sem_eq_zero_of_no_sems (by decide) r.2⟩) (Cert.GatesDxSpecIdeal.Value.run m g)

theorem value : Cert.algebraic_GatesDxIdeal_GatesDxSpecIdeal := by
  intro m g m' g' _ hargs
  refine ⟨fun c => total (arg_da m c) (arg_dx m c) (arg_wa m c) (arg_wx m c) (arg_r m c), ?_, ?_⟩
  · refine (θ_run _ _ _).mono (fun r h c => ?_) (Cert.GatesDxIdeal.Value.run_blocks m g)
    exact ⟨(h c).1.trans (final_y m c), (h c).2⟩
  · refine (θ_run _ _ _).mono (fun r h c => ?_) (Cert.GatesDxSpecIdeal.Value.run m' g')
    obtain ⟨a0, a1, a2, a3, a4⟩ := hargs c
    refine ⟨(h c).1.trans ?_, (h c).2⟩
    rw [a0, a1, a2, a3, a4]
    exact Cert.GatesDxSpecIdeal.Value.spec _ _ _ _ _

end Cert.GatesDxClaim

end
-- ==== Proof.GatesDw.lean ====
module

public import proofs.«01_k».proof.Proof.Gen.GatesDwIdeal.Value
public import proofs.«01_k».proof.Proof.Gen.GatesDwSpecIdeal.Run
public import proofs.«01_k».proof.Proof.Gen.GatesDw.Frame
public import Idealize.ShloMosaic.Lib.Pipeline.ValueKit
public import Idealize.ShloMosaic.Lib.Claim
public import proofs.«01_k».proof.Proof.GatesMath
public import proofs.«01_k».proof.Defs

/-! The gradients of the two gates' weights and biases: for each head of 256 columns the product of the input's transpose with the gate's gradient, and that gradient's column sums. The kernel adds them up over two blocks of rows. -/

@[expose] public section

set_option maxRecDepth 16384

noncomputable section

open Idealize.ShloMosaic Idealize.ShloMosaic.TcCoe Idealize.SL.Sem
open Idealize.ShloMosaic.Pipeline (Dat)

namespace Cert.GatesDwIdeal.Value

open Cert.GatesDwIdeal Cert.GatesDwIdeal.Gen
open Cert.GatesMath

/-- The gradient of the heads' matrices, from the input and the gate's gradient. -/
def outW (x g : Vec Ideal S4096x1024 .f32) : Vec Ideal S4x256x256 .f32 :=
  fun i => ∑ l : Fin 4096, x (ix2 l (cc (i 0) (i 1))) * g (ix2 l (cc (i 0) (i 2)))

/-- The gradient of the biases. -/
def outB (g : Vec Ideal S4096x1024 .f32) : Vec Ideal S1x1024 .f32 := fun i => ∑ l : Fin 4096, g (ix2 l (i 1))

variable (m : (ℓ : Loc nD τ sig) → Buf (Elt Ideal) ℓ)

abbrev arg_x (c : Dev nD) : Vec Ideal S4096x1024 .f32 := m ((c : Thread nD τ).loc main_arg0)
abbrev arg_ga (c : Dev nD) : Vec Ideal S4096x1024 .f32 := m ((c : Thread nD τ).loc main_arg1)
abbrev arg_gx (c : Dev nD) : Vec Ideal S4096x1024 .f32 := m ((c : Thread nD τ).loc main_arg2)

theorem idx : ∀ t : Fin cfg0.N, win0_0.index t = ![t.val % 2, t.val / 2] ∧ win0_1.index t = ![t.val % 2, t.val / 2] ∧ win0_2.index t = ![t.val % 2, t.val / 2]
    ∧ win0_3.index t = ![t.val / 2, 0, 0] ∧ win0_4.index t = ![t.val / 2, 0, 0] ∧ win0_5.index t = ![0, t.val / 2] ∧ win0_6.index t = ![0, t.val / 2] :=
  (by decide +kernel : ∀ t : Fin grid0.N, _)

/-- The rows and the head at which a grid point works, and the grid point of a head and a block of rows. -/
def row (s : Fin 2) (p : Fin 2048) : Fin 4096 := ⟨s.val * 2048 + p.val, by omega⟩
def hh (t : Fin cfg0.N) : Fin 4 := ⟨t.val / 2, by have := t.isLt; have : cfg0.N = 8 := rfl; omega⟩
def pt (h : Fin 4) (s : Fin 2) : Fin cfg0.N := ⟨2 * h.val + s.val, by have : cfg0.N = 8 := rfl; omega⟩

theorem blk_x (c : Dev nD) (h : Fin 4) (s : Fin 2) (p : Fin 2048) (k : Fin 256) : iblk m c 0 (pt h s) (ix2 p k) = arg_x m c (ix2 (row s p) (cc h k)) := by
  have e : iblk m c 0 (pt h s) (ix2 p k) = arg_x m c (ix2 (⟨(pt h s).val % 2 * 2048 + p.val, by omega⟩ : Fin 4096) (⟨(pt h s).val / 2 * 256 + k.val, by show (2 * h.val + s.val) / 2 * 256 + k.val < 1024; omega⟩ : Fin 1024)) := by
    blk_point [iblk, idx (pt h s)]
  rw [e]
  congr 1
  have h0 : (pt h s).val % 2 = s.val := by show (2 * h.val + s.val) % 2 = s.val; omega
  have h1 : (pt h s).val / 2 = h.val := by show (2 * h.val + s.val) / 2 = h.val; omega
  simp only [h0, h1]
  rfl

theorem blk_ga (c : Dev nD) (h : Fin 4) (s : Fin 2) (p : Fin 2048) (k : Fin 256) : iblk m c 1 (pt h s) (ix2 p k) = arg_ga m c (ix2 (row s p) (cc h k)) := by
  have e : iblk m c 1 (pt h s) (ix2 p k) = arg_ga m c (ix2 (⟨(pt h s).val % 2 * 2048 + p.val, by omega⟩ : Fin 4096) (⟨(pt h s).val / 2 * 256 + k.val, by show (2 * h.val + s.val) / 2 * 256 + k.val < 1024; omega⟩ : Fin 1024)) := by
    blk_point [iblk, idx (pt h s)]
  rw [e]
  congr 1
  have h0 : (pt h s).val % 2 = s.val := by show (2 * h.val + s.val) % 2 = s.val; omega
  have h1 : (pt h s).val / 2 = h.val := by show (2 * h.val + s.val) / 2 = h.val; omega
  simp only [h0, h1]
  rfl

theorem blk_gx (c : Dev nD) (h : Fin 4) (s : Fin 2) (p : Fin 2048) (k : Fin 256) : iblk m c 2 (pt h s) (ix2 p k) = arg_gx m c (ix2 (row s p) (cc h k)) := by
  have e : iblk m c 2 (pt h s) (ix2 p k) = arg_gx m c (ix2 (⟨(pt h s).val % 2 * 2048 + p.val, by omega⟩ : Fin 4096) (⟨(pt h s).val / 2 * 256 + k.val, by show (2 * h.val + s.val) / 2 * 256 + k.val < 1024; omega⟩ : Fin 1024)) := by
    blk_point [iblk, idx (pt h s)]
  rw [e]
  congr 1
  have h0 : (pt h s).val % 2 = s.val := by show (2 * h.val + s.val) % 2 = s.val; omega
  have h1 : (pt h s).val / 2 = h.val := by show (2 * h.val + s.val) / 2 = h.val; omega
  simp only [h0, h1]
  rfl

/-- One block of rows' part of a product or of a column sum, added to what was there. -/
theorem sum_rows (f : Fin 4096 → EReal) : (0 + ∑ p : Fin 2048, f (row 0 p)) + ∑ p : Fin 2048, f (row 1 p) = ∑ l : Fin 4096, f l := by
  rw [zero_add, ← Fin.sum_univ_two (f := fun s : Fin 2 => ∑ p : Fin 2048, f (row s p))]
  exact Fin.sum_mul_add_congr fun s k hl => rfl

theorem odd_eq (t : Fin cfg0.N) (hf : t.val % 2 = 1) : t = pt (hh t) 1 := Fin.ext (by show t.val = 2 * (t.val / 2) + 1; omega)

theorem hh_pt (h : Fin 4) (s : Fin 2) : hh (pt h s) = h := Fin.ext (by show (2 * h.val + s.val) / 2 = h.val; omega)

theorem step_3 (x0 x1 : Vec Ideal S2048x256 .f32) (acc : Vec Ideal S1x256x256 .f32) (k q : Fin 256) :
    k0_pay7 (F := Ideal) x0 x1 acc (ix3 (0 : Fin 1) k q) = acc (ix3 (0 : Fin 1) k q) + ∑ p : Fin 2048, x0 (ix2 p k) * x1 (ix2 p q) := by
  pointwise [k0_pay7, k0_pay6]

theorem zero_3 (k q : Fin 256) : k0_pay2 (F := Ideal) (ix3 (0 : Fin 1) k q) = 0 := by
  pointwise [k0_pay2]

theorem acc_3 (c : Dev nD) (h : Fin 4) :
    (outsAt0 m c (pt h 1).val (pt h 1).isLt).1 = step3 m c (pt h 1).val (pt h 1).isLt (reset3 m c (pt h 0).val (pt h 0).isLt) := by
  rw [outsAt_3_eq]
  have e : ∀ (b j : ℕ) (hb : b + j < cfg0.N) (hl : b = (pt h 0).val) (hj : j = 1),
      Pipeline.accAt (reset3 m c) (step3 m c) b j hb = step3 m c (pt h 1).val (pt h 1).isLt (reset3 m c (pt h 0).val (pt h 0).isLt) := by
    intro b j hb hl hj
    subst hl
    subst hj
    rfl
  exact e _ _ _ (by show 2 * ((2 * h.val + 1) / 2) = 2 * h.val + 0; omega) (by show (2 * h.val + 1) % 2 = 1; omega)

theorem emb_3 (t : Fin cfg0.N) (k q : Fin 256) : ((cfg0.win 3).blk t).view.emb (ix3 (0 : Fin 1) k q) = ix3 (hh t) k q := by
  blk_point [idx t, hh]

theorem point_3 (c : Dev nD) (h : Fin 4) (k q : Fin 256) :
    (outsAt0 m c (pt h 1).val (pt h 1).isLt).1 (ix3 (0 : Fin 1) k q) = outW (arg_x m c) (arg_ga m c) (ix3 h k q) := by
  have e : reset3 m c (pt h 0).val (pt h 0).isLt (ix3 (0 : Fin 1) k q) = 0 + ∑ p : Fin 2048, arg_x m c (ix2 (row 0 p) (cc h k)) * arg_ga m c (ix2 (row 0 p) (cc h q)) := by
    refine (step_3 (iblk m c 0 (pt h 0)) (iblk m c 1 (pt h 0)) _ k q).trans ?_
    rw [zero_3]
    simp only [blk_x, blk_ga]
  rw [acc_3]
  refine (step_3 (iblk m c 0 (pt h 1)) (iblk m c 1 (pt h 1)) _ k q).trans ?_
  rw [e]
  simp only [blk_x, blk_ga]
  exact sum_rows fun l => arg_x m c (ix2 l (cc h k)) * arg_ga m c (ix2 l (cc h q))

theorem final_3 (c : Dev nD) : (dats m 0 c).arrAt 3 cfg0.N = outW (arg_x m c) (arg_ga m c) := by
  refine (dats m 0 c).arrAt_eq_of_covers 3 _ (by decide +kernel) fun t hf y => ?_
  blk_simp
  rw [after0_3]
  idx_vars y
  obtain rfl : y0 = 0 := by omega
  rw [emb_3]
  have e := odd_eq t ((flush0_3 t).mp hf)
  generalize hh t = h at e
  subst e
  exact point_3 m c h y1 y2

theorem step_4 (x0 x1 : Vec Ideal S2048x256 .f32) (acc : Vec Ideal S1x256x256 .f32) (k q : Fin 256) :
    k0_pay8 (F := Ideal) x0 x1 acc (ix3 (0 : Fin 1) k q) = acc (ix3 (0 : Fin 1) k q) + ∑ p : Fin 2048, x0 (ix2 p k) * x1 (ix2 p q) := by
  pointwise [k0_pay8, k0_pay6]

theorem zero_4 (k q : Fin 256) : k0_pay3 (F := Ideal) (ix3 (0 : Fin 1) k q) = 0 := by
  pointwise [k0_pay3]

theorem acc_4 (c : Dev nD) (h : Fin 4) :
    (outsAt0 m c (pt h 1).val (pt h 1).isLt).2.1 = step4 m c (pt h 1).val (pt h 1).isLt (reset4 m c (pt h 0).val (pt h 0).isLt) := by
  rw [outsAt_4_eq]
  have e : ∀ (b j : ℕ) (hb : b + j < cfg0.N) (hl : b = (pt h 0).val) (hj : j = 1),
      Pipeline.accAt (reset4 m c) (step4 m c) b j hb = step4 m c (pt h 1).val (pt h 1).isLt (reset4 m c (pt h 0).val (pt h 0).isLt) := by
    intro b j hb hl hj
    subst hl
    subst hj
    rfl
  exact e _ _ _ (by show 2 * ((2 * h.val + 1) / 2) = 2 * h.val + 0; omega) (by show (2 * h.val + 1) % 2 = 1; omega)

theorem emb_4 (t : Fin cfg0.N) (k q : Fin 256) : ((cfg0.win 4).blk t).view.emb (ix3 (0 : Fin 1) k q) = ix3 (hh t) k q := by
  blk_point [idx t, hh]

theorem point_4 (c : Dev nD) (h : Fin 4) (k q : Fin 256) :
    (outsAt0 m c (pt h 1).val (pt h 1).isLt).2.1 (ix3 (0 : Fin 1) k q) = outW (arg_x m c) (arg_gx m c) (ix3 h k q) := by
  have e : reset4 m c (pt h 0).val (pt h 0).isLt (ix3 (0 : Fin 1) k q) = 0 + ∑ p : Fin 2048, arg_x m c (ix2 (row 0 p) (cc h k)) * arg_gx m c (ix2 (row 0 p) (cc h q)) := by
    refine (step_4 (iblk m c 0 (pt h 0)) (iblk m c 2 (pt h 0)) _ k q).trans ?_
    rw [zero_4]
    simp only [blk_x, blk_gx]
  rw [acc_4]
  refine (step_4 (iblk m c 0 (pt h 1)) (iblk m c 2 (pt h 1)) _ k q).trans ?_
  rw [e]
  simp only [blk_x, blk_gx]
  exact sum_rows fun l => arg_x m c (ix2 l (cc h k)) * arg_gx m c (ix2 l (cc h q))

theorem final_4 (c : Dev nD) : (dats m 0 c).arrAt 4 cfg0.N = outW (arg_x m c) (arg_gx m c) := by
  refine (dats m 0 c).arrAt_eq_of_covers 4 _ (by decide +kernel) fun t hf y => ?_
  blk_simp
  rw [after0_4]
  idx_vars y
  obtain rfl : y0 = 0 := by omega
  rw [emb_4]
  have e := odd_eq t ((flush0_4 t).mp hf)
  generalize hh t = h at e
  subst e
  exact point_4 m c h y1 y2

theorem step_5 (x1 : Vec Ideal S2048x256 .f32) (acc : Vec Ideal S1x256 .f32) (q : Fin 256) :
    k0_pay9 (F := Ideal) x1 acc (ix2 (0 : Fin 1) q) = acc (ix2 (0 : Fin 1) q) + ∑ p : Fin 2048, x1 (ix2 p q) := by
  pointwise [k0_pay9]

theorem zero_5 (q : Fin 256) : k0_pay4 (F := Ideal) (ix2 (0 : Fin 1) q) = 0 := by
  pointwise [k0_pay4]

theorem acc_5 (c : Dev nD) (h : Fin 4) :
    (outsAt0 m c (pt h 1).val (pt h 1).isLt).2.2.1 = step5 m c (pt h 1).val (pt h 1).isLt (reset5 m c (pt h 0).val (pt h 0).isLt) := by
  rw [outsAt_5_eq]
  have e : ∀ (b j : ℕ) (hb : b + j < cfg0.N) (hl : b = (pt h 0).val) (hj : j = 1),
      Pipeline.accAt (reset5 m c) (step5 m c) b j hb = step5 m c (pt h 1).val (pt h 1).isLt (reset5 m c (pt h 0).val (pt h 0).isLt) := by
    intro b j hb hl hj
    subst hl
    subst hj
    rfl
  exact e _ _ _ (by show 2 * ((2 * h.val + 1) / 2) = 2 * h.val + 0; omega) (by show (2 * h.val + 1) % 2 = 1; omega)

theorem emb_5 (t : Fin cfg0.N) (q : Fin 256) : ((cfg0.win 5).blk t).view.emb (ix2 (0 : Fin 1) q) = ix2 (0 : Fin 1) (cc (hh t) q) := by
  blk_point [idx t, hh, cc]

theorem point_5 (c : Dev nD) (h : Fin 4) (q : Fin 256) :
    (outsAt0 m c (pt h 1).val (pt h 1).isLt).2.2.1 (ix2 (0 : Fin 1) q) = outB (arg_ga m c) (ix2 (0 : Fin 1) (cc h q)) := by
  have e : reset5 m c (pt h 0).val (pt h 0).isLt (ix2 (0 : Fin 1) q) = 0 + ∑ p : Fin 2048, arg_ga m c (ix2 (row 0 p) (cc h q)) := by
    refine (step_5 (iblk m c 1 (pt h 0)) _ q).trans ?_
    rw [zero_5]
    simp only [blk_ga]
  rw [acc_5]
  refine (step_5 (iblk m c 1 (pt h 1)) _ q).trans ?_
  rw [e]
  simp only [blk_ga]
  exact sum_rows fun l => arg_ga m c (ix2 l (cc h q))

theorem final_5 (c : Dev nD) : (dats m 0 c).arrAt 5 cfg0.N = outB (arg_ga m c) := by
  refine (dats m 0 c).arrAt_eq_of_covers 5 _ (by decide +kernel) fun t hf y => ?_
  blk_simp
  rw [after0_5]
  idx_vars y
  obtain rfl : y0 = 0 := by omega
  rw [emb_5]
  have e := odd_eq t ((flush0_5 t).mp hf)
  generalize hh t = h at e
  subst e
  exact point_5 m c h y1

theorem step_6 (x1 : Vec Ideal S2048x256 .f32) (acc : Vec Ideal S1x256 .f32) (q : Fin 256) :
    k0_pay1 (F := Ideal) x1 acc (ix2 (0 : Fin 1) q) = acc (ix2 (0 : Fin 1) q) + ∑ p : Fin 2048, x1 (ix2 p q) := by
  pointwise [k0_pay1]

theorem zero_6 (q : Fin 256) : k0_pay5 (F := Ideal) (ix2 (0 : Fin 1) q) = 0 := by
  pointwise [k0_pay5]

theorem acc_6 (c : Dev nD) (h : Fin 4) :
    (outsAt0 m c (pt h 1).val (pt h 1).isLt).2.2.2 = step6 m c (pt h 1).val (pt h 1).isLt (reset6 m c (pt h 0).val (pt h 0).isLt) := by
  rw [outsAt_6_eq]
  have e : ∀ (b j : ℕ) (hb : b + j < cfg0.N) (hl : b = (pt h 0).val) (hj : j = 1),
      Pipeline.accAt (reset6 m c) (step6 m c) b j hb = step6 m c (pt h 1).val (pt h 1).isLt (reset6 m c (pt h 0).val (pt h 0).isLt) := by
    intro b j hb hl hj
    subst hl
    subst hj
    rfl
  exact e _ _ _ (by show 2 * ((2 * h.val + 1) / 2) = 2 * h.val + 0; omega) (by show (2 * h.val + 1) % 2 = 1; omega)

theorem emb_6 (t : Fin cfg0.N) (q : Fin 256) : ((cfg0.win 6).blk t).view.emb (ix2 (0 : Fin 1) q) = ix2 (0 : Fin 1) (cc (hh t) q) := by
  blk_point [idx t, hh, cc]

theorem point_6 (c : Dev nD) (h : Fin 4) (q : Fin 256) :
    (outsAt0 m c (pt h 1).val (pt h 1).isLt).2.2.2 (ix2 (0 : Fin 1) q) = outB (arg_gx m c) (ix2 (0 : Fin 1) (cc h q)) := by
  have e : reset6 m c (pt h 0).val (pt h 0).isLt (ix2 (0 : Fin 1) q) = 0 + ∑ p : Fin 2048, arg_gx m c (ix2 (row 0 p) (cc h q)) := by
    refine (step_6 (iblk m c 2 (pt h 0)) _ q).trans ?_
    rw [zero_6]
    simp only [blk_gx]
  rw [acc_6]
  refine (step_6 (iblk m c 2 (pt h 1)) _ q).trans ?_
  rw [e]
  simp only [blk_gx]
  exact sum_rows fun l => arg_gx m c (ix2 l (cc h q))

theorem final_6 (c : Dev nD) : (dats m 0 c).arrAt 6 cfg0.N = outB (arg_gx m c) := by
  refine (dats m 0 c).arrAt_eq_of_covers 6 _ (by decide +kernel) fun t hf y => ?_
  blk_simp
  rw [after0_6]
  idx_vars y
  obtain rfl : y0 = 0 := by omega
  rw [emb_6]
  have e := odd_eq t ((flush0_6 t).mp hf)
  generalize hh t = h at e
  subst e
  exact point_6 m c h y1

end Cert.GatesDwIdeal.Value

namespace Cert.GatesDwSpecIdeal.Value

open Cert.GatesDwSpecIdeal Cert.GatesDwSpecIdeal.Gen Cert.GatesMath

theorem split_at (x : Vec Ideal S4096x1024 .f32) (l : Fin 4096) (h : Fin 4) (k : Fin 256) :
    (shapeCast S4096x4x256 x shapeCasts_S4096x1024_S4096x4x256 : FVec Ideal S4096x4x256 .f32) (ix3 l h k) = x (ix2 l (cc h k)) := by
  pointwise [cc]

theorem prod_at (g x : FVec Ideal S4096x4x256 .f32) (h : Fin 4) (k q : Fin 256) :
    (transpose S4x256x256 [0, 2, 1] (Host.dotGeneral (F := Ideal) (φ₁ := .f32) (φ₂ := .f32) dot_S4x256x4096_S4096x4x256_S4x256x256_2_0_1_2_0_1 none (transpose S4x256x4096 [1, 2, 0] g transposes_S4096x4x256_S4x256x4096_1_2_0) x) transposes_S4x256x256_S4x256x256_0_2_1 : FVec Ideal S4x256x256 .f32) (ix3 h k q)
      = ∑ l : Fin 4096, g (ix3 l h q) * x (ix3 l h k) := by
  pointwise

theorem spec_w (x g : Vec Ideal S4096x1024 .f32) :
    transpose S4x256x256 [0, 2, 1] (Host.dotGeneral (F := Ideal) (φ₁ := .f32) (φ₂ := .f32) dot_S4x256x4096_S4096x4x256_S4x256x256_2_0_1_2_0_1 none (transpose S4x256x4096 [1, 2, 0] (shapeCast S4096x4x256 g shapeCasts_S4096x1024_S4096x4x256) transposes_S4096x4x256_S4x256x4096_1_2_0) (shapeCast S4096x4x256 x shapeCasts_S4096x1024_S4096x4x256)) transposes_S4x256x256_S4x256x256_0_2_1
      = Cert.GatesDwIdeal.Value.outW x g := by
  funext i
  idx_vars i
  refine (prod_at _ _ _ _ _).trans ?_
  exact Finset.sum_congr rfl fun l _ => by rw [split_at, split_at, mul_comm]; rfl

theorem sum_at (g : FVec Ideal S4096x4x256 .f32) (h : Fin 4) (q : Fin 256) :
    (Host.reduceAdd g (constant S_ .f32 0x00000000#32) reducesTo_S4096x4x256_S4x256_d0 h_S_ : FVec Ideal S4x256 .f32) (ix2 h q) = ∑ l : Fin 4096, g (ix3 l h q) := by
  pointwise

theorem unit_at (b : FVec Ideal S4x256 .f32) (h : Fin 4) (q : Fin 256) :
    (Host.reduceAdd (shapeCast S1x4x256 b shapeCasts_S4x256_S1x4x256) (constant S_ .f32 0x00000000#32) reducesTo_S1x4x256_S4x256_d0 h_S_ : FVec Ideal S4x256 .f32) (ix2 h q) = b (ix2 h q) := by
  have e : ∀ y : FVec Ideal S1x4x256 .f32, (Host.reduceAdd y (constant S_ .f32 0x00000000#32) reducesTo_S1x4x256_S4x256_d0 h_S_ : FVec Ideal S4x256 .f32) (ix2 h q) = ∑ u : Fin 1, y (ix3 u h q) := by
    intro y
    pointwise
  rw [e, Fin.sum_univ_one]
  pointwise

theorem join_at (b : FVec Ideal S4x256 .f32) (n : Fin 1024) : (shapeCast S1x1024 b shapeCasts_S4x256_S1x1024 : FVec Ideal S1x1024 .f32) (ix2 (0 : Fin 1) n) = b (ix2 (hd n) (lo n)) := by
  pointwise [hd, lo]

theorem spec_b (g : Vec Ideal S4096x1024 .f32) :
    shapeCast S1x1024 (Host.reduceAdd (F := Ideal) (shapeCast S1x4x256 (Host.reduceAdd (F := Ideal) (shapeCast S4096x4x256 g shapeCasts_S4096x1024_S4096x4x256) (constant S_ .f32 0x00000000#32) reducesTo_S4096x4x256_S4x256_d0 h_S_) shapeCasts_S4x256_S1x4x256) (constant S_ .f32 0x00000000#32) reducesTo_S1x4x256_S4x256_d0 h_S_) shapeCasts_S4x256_S1x1024
      = Cert.GatesDwIdeal.Value.outB g := by
  funext i
  idx_vars i
  obtain rfl : i0 = 0 := by omega
  rw [join_at, unit_at, sum_at]
  exact Finset.sum_congr rfl fun l _ => by rw [split_at, cc_hd_lo]; rfl

end Cert.GatesDwSpecIdeal.Value

namespace Cert.GatesDwClaim

open Cert.GatesDwIdeal.Value

theorem specFrame : Cert.quiescent_GatesDwSpecIdeal := fun m g _ =>
  (θ_run _ _ _).mono (fun r h => ⟨fun c => (h c).2.2.2.2, sem_eq_zero_of_no_sems (by decide) r.2⟩) (Cert.GatesDwSpecIdeal.Value.run m g)

theorem value : Cert.algebraic_GatesDwIdeal_GatesDwSpecIdeal := by
  intro m g m' g' _ hargs
  refine ⟨fun c => outW (arg_x m c) (arg_ga m c), fun c => outW (arg_x m c) (arg_gx m c), fun c => outB (arg_ga m c), fun c => outB (arg_gx m c), ?_, ?_⟩
  · refine (θ_run _ _ _).mono (fun r h c => ?_) (Cert.GatesDwIdeal.Value.run_blocks m g)
    exact ⟨(h c).1.trans (final_3 m c), (h c).2.1.trans (final_4 m c), (h c).2.2.1.trans (final_5 m c), (h c).2.2.2.1.trans (final_6 m c), (h c).2.2.2.2⟩
  · refine (θ_run _ _ _).mono (fun r h c => ?_) (Cert.GatesDwSpecIdeal.Value.run m' g')
    obtain ⟨a0, a1, a2⟩ := hargs c
    refine ⟨(h c).1.trans ?_, (h c).2.1.trans ?_, (h c).2.2.1.trans ?_, (h c).2.2.2.1.trans ?_, (h c).2.2.2.2⟩
    · rw [a0, a1]
      exact Cert.GatesDwSpecIdeal.Value.spec_w _ _
    · rw [a0, a2]
      exact Cert.GatesDwSpecIdeal.Value.spec_w _ _
    · rw [a1]
      exact Cert.GatesDwSpecIdeal.Value.spec_b _
    · rw [a2]
      exact Cert.GatesDwSpecIdeal.Value.spec_b _

end Cert.GatesDwClaim

end
-- ==== Proof.Merge.lean ====
module

public import proofs.«01_k».proof.Proof.Gen.MergeIdeal.Frame
public import proofs.«01_k».proof.Proof.Gen.MergeSpecIdeal.Run
public import proofs.«01_k».proof.Proof.Gen.Merge.Frame
public import Idealize.ShloMosaic.Lib.Pipeline.ValueKit
public import Idealize.ShloMosaic.Lib.Claim
public import proofs.«01_k».proof.Proof.Gen.Pre_finite_merge
public import proofs.«01_k».proof.Proof.Reals
public import Idealize.ShloMosaic.Lib.ReduceAll
public import Idealize.ShloMosaic.Lib.IdealHost
public import proofs.«01_k».proof.Defs

/-! The merge of the three dilations of an attention: their outputs averaged by the softmax of the logarithms of their denominators. The kernel multiplies by the reciprocal of the sum; the reference divides by it. -/

@[expose] public section

set_option maxRecDepth 16384

noncomputable section

open Idealize.ShloMosaic Idealize.ShloMosaic.TcCoe Idealize.SL.Sem
open Idealize.ShloMosaic.Pipeline (Dat)

namespace Cert.Pre_finite_merge

open Cert.Pre_finite_merge.Gen Cert.Reals

/-- What the precondition says: the largest of the three logarithms is a real number everywhere. -/
theorem finite_of_fn (o0 o1 o2 l0 l1 l2 : FVec Ideal S4096x512 .f32) (i0 : S_.Idx) (h : fn (F := Ideal) o0 o1 o2 l0 l1 l2 i0 = 1#1) (i : S4096x512.Idx) :
    IsReal (max (max (l0 i) (l1 i)) (l2 i)) := by
  dsimp only [fn] at h
  have hS : Subsingleton S_.Idx := ⟨fun a b => funext fun x => x.elim0⟩
  have test := Host.reduce_andi_all _ _ _ _ _ h i
  idx_vars i
  pointwise at test
  exact isReal_of_test test

end Cert.Pre_finite_merge

namespace Cert.MergeMath

open Cert.Reals

/-- The average of three numbers by the softmax of three others. -/
def average (o0 o1 o2 l0 l1 l2 : EReal) : EReal :=
  let top := max (max l0 l1) l2
  let e0 := Ideal.exp (l0 - top)
  let e1 := Ideal.exp (l1 - top)
  let e2 := Ideal.exp (l2 - top)
  let s := e0 + e1 + e2
  Ideal.div e0 s * o0 + Ideal.div e1 s * o1 + Ideal.div e2 s * o2

theorem exp_nonneg (x : EReal) : 0 ≤ Ideal.exp x := by
  induction x using EReal.rec with
  | bot => exact le_refl 0
  | top => exact le_top
  | coe r => exact EReal.coe_nonneg.2 (Real.exp_pos r).le

theorem exp_self {x : EReal} (h : IsReal x) : Ideal.exp (x - x) = 1 := by
  obtain ⟨r, rfl⟩ := h
  rw [← EReal.coe_sub, sub_self]
  show ((Real.exp 0 : ℝ) : EReal) = 1
  rw [Real.exp_zero, EReal.coe_one]

/-- With the largest of the three a real number, the sum of the three exponentials is at least one. -/
theorem sum_ne_zero {l0 l1 l2 top : EReal} (ht : top = max (max l0 l1) l2) (h : IsReal top) :
    Ideal.exp (l0 - top) + Ideal.exp (l1 - top) + Ideal.exp (l2 - top) ≠ 0 := by
  have h0 := exp_nonneg (l0 - top)
  have h1 := exp_nonneg (l1 - top)
  have h2 := exp_nonneg (l2 - top)
  have one : (1 : EReal) ≤ Ideal.exp (l0 - top) + Ideal.exp (l1 - top) + Ideal.exp (l2 - top) := by
    have hc : top = l0 ∨ top = l1 ∨ top = l2 := by
      rcases max_choice (max l0 l1) l2 with e | e
      · rcases max_choice l0 l1 with e' | e'
        · exact Or.inl (ht.trans (e.trans e'))
        · exact Or.inr (Or.inl (ht.trans (e.trans e')))
      · exact Or.inr (Or.inr (ht.trans e))
    rcases hc with e | e | e
    · have hx : Ideal.exp (l0 - top) = 1 := by rw [← e]; exact exp_self h
      rw [hx]
      exact le_add_of_le_of_nonneg (le_add_of_nonneg_right h1) h2
    · have hx : Ideal.exp (l1 - top) = 1 := by rw [← e]; exact exp_self h
      rw [hx]
      exact le_add_of_le_of_nonneg (le_add_of_nonneg_left h0) h2
    · have hx : Ideal.exp (l2 - top) = 1 := by rw [← e]; exact exp_self h
      rw [hx]
      exact le_add_of_nonneg_left (add_nonneg h0 h1)
  exact (lt_of_lt_of_le zero_lt_one one).ne'

theorem mul_div_one {s : EReal} (hs : s ≠ 0) (x : EReal) : x * Ideal.div 1 s = Ideal.div x s := by
  unfold Ideal.div
  rw [if_neg hs, if_neg hs, one_mul]

/-- The largest of three, from the start of a row maximum. -/
theorem fold_three (f : Fin 3 → EReal) :
    max (Ideal.ofBits .f32 0xFF800000#32) (Finset.univ.fold max (Ideal.ofBits .f32 0xFF800000#32) f) = max (max (f 0) (f 1)) (f 2) := by
  rw [ofBits_lowest, max_eq_right bot_le, show (Finset.univ : Finset (Fin 3)) = {0, 1, 2} from rfl,
    Finset.fold_insert (by decide), Finset.fold_insert (by decide), Finset.fold_singleton, max_eq_left (bot_le : ⊥ ≤ f 2), max_assoc]

end Cert.MergeMath

namespace Cert.MergeIdeal.Value

open Cert.MergeIdeal Cert.MergeIdeal.Gen Cert.MergeMath Cert.Reals

/-- The three outputs averaged. -/
def out (o0 o1 o2 l0 l1 l2 : Vec Ideal S4096x512 .f32) : Vec Ideal S4096x512 .f32 := fun i => average (o0 i) (o1 i) (o2 i) (l0 i) (l1 i) (l2 i)

variable (m : (ℓ : Loc nD τ sig) → Buf (Elt Ideal) ℓ) (ρ : Dev nD → PrngReg)

abbrev arg_o0 (c : Dev nD) : Vec Ideal S4096x512 .f32 := m ((c : Thread nD τ).loc main_arg0)
abbrev arg_o1 (c : Dev nD) : Vec Ideal S4096x512 .f32 := m ((c : Thread nD τ).loc main_arg1)
abbrev arg_o2 (c : Dev nD) : Vec Ideal S4096x512 .f32 := m ((c : Thread nD τ).loc main_arg2)
abbrev arg_l0 (c : Dev nD) : Vec Ideal S4096x512 .f32 := m ((c : Thread nD τ).loc main_arg3)
abbrev arg_l1 (c : Dev nD) : Vec Ideal S4096x512 .f32 := m ((c : Thread nD τ).loc main_arg4)
abbrev arg_l2 (c : Dev nD) : Vec Ideal S4096x512 .f32 := m ((c : Thread nD τ).loc main_arg5)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The rows at which a grid point works. -/
def row (t : Fin cfg0.N) (p : Fin 1024) : Fin 4096 := ⟨t.val * 1024 + p.val, by have := t.isLt; have : cfg0.N = 4 := rfl; omega⟩

theorem blk_o0 (c : Dev nD) (t : Fin cfg0.N) (p : Fin 1024) (q : Fin 512) : iblk m c 0 t (ix2 p q) = arg_o0 m c (ix2 (row t p) q) := by
  blk_point [iblk, idx t, row]

theorem blk_o1 (c : Dev nD) (t : Fin cfg0.N) (p : Fin 1024) (q : Fin 512) : iblk m c 1 t (ix2 p q) = arg_o1 m c (ix2 (row t p) q) := by
  blk_point [iblk, idx t, row]

theorem blk_o2 (c : Dev nD) (t : Fin cfg0.N) (p : Fin 1024) (q : Fin 512) : iblk m c 2 t (ix2 p q) = arg_o2 m c (ix2 (row t p) q) := by
  blk_point [iblk, idx t, row]

theorem blk_l0 (c : Dev nD) (t : Fin cfg0.N) (p : Fin 1024) (q : Fin 512) : iblk m c 3 t (ix2 p q) = arg_l0 m c (ix2 (row t p) q) := by
  blk_point [iblk, idx t, row]

theorem blk_l1 (c : Dev nD) (t : Fin cfg0.N) (p : Fin 1024) (q : Fin 512) : iblk m c 4 t (ix2 p q) = arg_l1 m c (ix2 (row t p) q) := by
  blk_point [iblk, idx t, row]

theorem blk_l2 (c : Dev nD) (t : Fin cfg0.N) (p : Fin 1024) (q : Fin 512) : iblk m c 5 t (ix2 p q) = arg_l2 m c (ix2 (row t p) q) := by
  blk_point [iblk, idx t, row]

/-- What the kernel leaves in a block is that average where the largest logarithm is real. -/
theorem block (l0 l1 l2 o0 o1 o2 : Vec Ideal S1024x512 .f32) (p : Fin 1024) (q : Fin 512) (h : IsReal (max (max (l0 (ix2 p q)) (l1 (ix2 p q))) (l2 (ix2 p q)))) :
    k0_pay1 (F := Ideal) l0 l1 l2 o0 o1 o2 (ix2 p q) = average (o0 (ix2 p q)) (o1 (ix2 p q)) (o2 (ix2 p q)) (l0 (ix2 p q)) (l1 (ix2 p q)) (l2 (ix2 p q)) := by
  have hs := sum_ne_zero (l0 := l0 (ix2 p q)) (l1 := l1 (ix2 p q)) (l2 := l2 (ix2 p q)) rfl h
  show Ideal.exp (l0 (ix2 p q) - max (max (l0 (ix2 p q)) (l1 (ix2 p q))) (l2 (ix2 p q))) * Ideal.div (Ideal.ofBits .f32 0x3F800000#32) (Ideal.exp (l0 (ix2 p q) - max (max (l0 (ix2 p q)) (l1 (ix2 p q))) (l2 (ix2 p q))) + Ideal.exp (l1 (ix2 p q) - max (max (l0 (ix2 p q)) (l1 (ix2 p q))) (l2 (ix2 p q))) + Ideal.exp (l2 (ix2 p q) - max (max (l0 (ix2 p q)) (l1 (ix2 p q))) (l2 (ix2 p q)))) * o0 (ix2 p q) + Ideal.exp (l1 (ix2 p q) - max (max (l0 (ix2 p q)) (l1 (ix2 p q))) (l2 (ix2 p q))) * Ideal.div (Ideal.ofBits .f32 0x3F800000#32) (Ideal.exp (l0 (ix2 p q) - max (max (l0 (ix2 p q)) (l1 (ix2 p q))) (l2 (ix2 p q))) + Ideal.exp (l1 (ix2 p q) - max (max (l0 (ix2 p q)) (l1 (ix2 p q))) (l2 (ix2 p q))) + Ideal.exp (l2 (ix2 p q) - max (max (l0 (ix2 p q)) (l1 (ix2 p q))) (l2 (ix2 p q)))) * o1 (ix2 p q) + Ideal.exp (l2 (ix2 p q) - max (max (l0 (ix2 p q)) (l1 (ix2 p q))) (l2 (ix2 p q))) * Ideal.div (Ideal.ofBits .f32 0x3F800000#32) (Ideal.exp (l0 (ix2 p q) - max (max (l0 (ix2 p q)) (l1 (ix2 p q))) (l2 (ix2 p q))) + Ideal.exp (l1 (ix2 p q) - max (max (l0 (ix2 p q)) (l1 (ix2 p q))) (l2 (ix2 p q))) + Ideal.exp (l2 (ix2 p q) - max (max (l0 (ix2 p q)) (l1 (ix2 p q))) (l2 (ix2 p q)))) * o2 (ix2 p q) = average (o0 (ix2 p q)) (o1 (ix2 p q)) (o2 (ix2 p q)) (l0 (ix2 p q)) (l1 (ix2 p q)) (l2 (ix2 p q))
  rw [Ideal.ofBits_one_f32, mul_div_one hs, mul_div_one hs, mul_div_one hs]
  rfl

theorem emb (t : Fin cfg0.N) (p : Fin 1024) (q : Fin 512) : ((cfg0.win 6).blk t).view.emb (ix2 p q) = ix2 (row t p) q := by
  blk_point [idx t, row]

theorem final (c : Dev nD) (h : ∀ i, IsReal (max (max (arg_l0 m c i) (arg_l1 m c i)) (arg_l2 m c i))) :
    (dats m 0 c).arrAt 6 cfg0.N = out (arg_o0 m c) (arg_o1 m c) (arg_o2 m c) (arg_l0 m c) (arg_l1 m c) (arg_l2 m c) := by
  refine (dats m 0 c).arrAt_eq_of_covers 6 _ (by decide +kernel) fun t _ y => ?_
  blk_simp
  rw [after0_6]
  frame_out
  idx_vars y
  rw [emb]
  refine (block (iblk m c 3 t) (iblk m c 4 t) (iblk m c 5 t) (iblk m c 0 t) (iblk m c 1 t) (iblk m c 2 t) y0 y1 ?_).trans ?_
  · rw [blk_l0, blk_l1, blk_l2]
    exact h _
  · rw [blk_o0, blk_o1, blk_o2, blk_l0, blk_l1, blk_l2]
    rfl

/-- After the run the result is the array the pipeline leaves and the arguments are as they were. -/
theorem run : θ_run defs (onTc (τ := τ) (main (F := Ideal))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.MergeIdeal.Value

namespace Cert.MergeSpecIdeal.Value

open Cert.MergeSpecIdeal Cert.MergeSpecIdeal.Gen Cert.MergeMath

/-- Three arrays stacked. -/
abbrev st (a b c : Vec Ideal S4096x512 .f32) : FVec Ideal S3x4096x512 .f32 := (concatenate S3x4096x512 0 [⟨S1x4096x512, ((broadcastInDim S1x4096x512 ![1, 2] bcast_S4096x512_S1x4096x512_1_2 a) : (⟨S1x4096x512, .f32⟩ : BufTy).Contents (Elt Ideal))⟩, ⟨S1x4096x512, ((broadcastInDim S1x4096x512 ![1, 2] bcast_S4096x512_S1x4096x512_1_2 b) : (⟨S1x4096x512, .f32⟩ : BufTy).Contents (Elt Ideal))⟩, ⟨S1x4096x512, ((broadcastInDim S1x4096x512 ![1, 2] bcast_S4096x512_S1x4096x512_1_2 c) : (⟨S1x4096x512, .f32⟩ : BufTy).Contents (Elt Ideal))⟩] concatenates_S1x4096x512_S1x4096x512_S1x4096x512_S3x4096x512_d0)

/-- The largest of each three, repeated for the three. -/
abbrev rTop (s : FVec Ideal S3x4096x512 .f32) : FVec Ideal S3x4096x512 .f32 :=
  broadcastInDim S3x4096x512 ![0, 1, 2] bcast_S1x4096x512_S3x4096x512_0_1_2 (broadcastInDim S1x4096x512 ![1, 2] bcast_S4096x512_S1x4096x512_1_2 (maximumf (broadcastInDim S4096x512 ![] bcast_S_S4096x512 (constant S_ .f32 0xFF800000#32)) (Host.reduce FloatOps.maximumf s (constant S_ .f32 0xFF800000#32) reducesTo_S3x4096x512_S4096x512_d0 h_S_)))

/-- The sum of each three, repeated for the three. -/
abbrev rSum (e : FVec Ideal S3x4096x512 .f32) : FVec Ideal S3x4096x512 .f32 :=
  broadcastInDim S3x4096x512 ![0, 1, 2] bcast_S1x4096x512_S3x4096x512_0_1_2 (broadcastInDim S1x4096x512 ![1, 2] bcast_S4096x512_S1x4096x512_1_2 (Host.reduceAdd e (constant S_ .f32 0x00000000#32) reducesTo_S3x4096x512_S4096x512_d0 h_S_))

/-- The exponentials. -/
abbrev rE (s : FVec Ideal S3x4096x512 .f32) : FVec Ideal S3x4096x512 .f32 := Host.exp (subf s (rTop s))

/-- The reference's result. -/
abbrev rOut (s o : FVec Ideal S3x4096x512 .f32) : FVec Ideal S4096x512 .f32 :=
  Host.reduceAdd (mulf (Host.divf (rE s) (rSum (rE s))) o) (constant S_ .f32 0x00000000#32) reducesTo_S3x4096x512_S4096x512_d0 h_S_

theorem st_0 (a b c : Vec Ideal S4096x512 .f32) (y : Fin 4096) (z : Fin 512) : st a b c (ix3 (0 : Fin 3) y z) = a (ix2 y z) := by
  pointwise

theorem st_1 (a b c : Vec Ideal S4096x512 .f32) (y : Fin 4096) (z : Fin 512) : st a b c (ix3 (1 : Fin 3) y z) = b (ix2 y z) := by
  pointwise

theorem st_2 (a b c : Vec Ideal S4096x512 .f32) (y : Fin 4096) (z : Fin 512) : st a b c (ix3 (2 : Fin 3) y z) = c (ix2 y z) := by
  pointwise

theorem max_at (s : FVec Ideal S3x4096x512 .f32) (y : Fin 4096) (z : Fin 512) :
    (Host.reduce FloatOps.maximumf s (constant S_ .f32 0xFF800000#32) reducesTo_S3x4096x512_S4096x512_d0 h_S_ : FVec Ideal S4096x512 .f32) (ix2 y z) = Finset.univ.fold max (Ideal.ofBits .f32 0xFF800000#32) (fun j : Fin 3 => s (ix3 j y z)) := by
  pointwise

theorem over_at (u : FVec Ideal S4096x512 .f32) (j : Fin 3) (y : Fin 4096) (z : Fin 512) :
    (broadcastInDim S3x4096x512 ![0, 1, 2] bcast_S1x4096x512_S3x4096x512_0_1_2 (broadcastInDim S1x4096x512 ![1, 2] bcast_S4096x512_S1x4096x512_1_2 (maximumf (broadcastInDim S4096x512 ![] bcast_S_S4096x512 (constant S_ .f32 0xFF800000#32)) u)) : FVec Ideal S3x4096x512 .f32) (ix3 j y z) = max (Ideal.ofBits .f32 0xFF800000#32) (u (ix2 y z)) := by
  pointwise

theorem rTop_at (s : FVec Ideal S3x4096x512 .f32) (j : Fin 3) (y : Fin 4096) (z : Fin 512) :
    rTop s (ix3 j y z) = max (max (s (ix3 0 y z)) (s (ix3 1 y z))) (s (ix3 2 y z)) := by
  refine (over_at _ j y z).trans ?_
  rw [max_at]
  exact fold_three fun j => s (ix3 j y z)

theorem rSum_at (e : FVec Ideal S3x4096x512 .f32) (j : Fin 3) (y : Fin 4096) (z : Fin 512) :
    rSum e (ix3 j y z) = e (ix3 0 y z) + e (ix3 1 y z) + e (ix3 2 y z) := by
  have h : rSum e (ix3 j y z) = ∑ k : Fin 3, e (ix3 k y z) := by
    pointwise
  rw [h, Fin.sum_univ_three]

theorem rE_at (s : FVec Ideal S3x4096x512 .f32) (j : Fin 3) (y : Fin 4096) (z : Fin 512) :
    rE s (ix3 j y z) = Ideal.exp (s (ix3 j y z) - max (max (s (ix3 0 y z)) (s (ix3 1 y z))) (s (ix3 2 y z))) := by
  have h : ∀ t : FVec Ideal S3x4096x512 .f32, Host.exp (subf s t) (ix3 j y z) = Ideal.exp (s (ix3 j y z) - t (ix3 j y z)) := by
    intro t
    pointwise
  refine (h _).trans ?_
  rw [rTop_at]

theorem rOut_at (s o : FVec Ideal S3x4096x512 .f32) (y : Fin 4096) (z : Fin 512) :
    rOut s o (ix2 y z) = average (o (ix3 0 y z)) (o (ix3 1 y z)) (o (ix3 2 y z)) (s (ix3 0 y z)) (s (ix3 1 y z)) (s (ix3 2 y z)) := by
  have h : ∀ e d : FVec Ideal S3x4096x512 .f32,
      (Host.reduceAdd (mulf (Host.divf e d) o) (constant S_ .f32 0x00000000#32) reducesTo_S3x4096x512_S4096x512_d0 h_S_ : FVec Ideal S4096x512 .f32) (ix2 y z)
        = ∑ k : Fin 3, Ideal.div (e (ix3 k y z)) (d (ix3 k y z)) * o (ix3 k y z) := by
    intro e d
    pointwise
  refine (h _ _).trans ?_
  rw [Fin.sum_univ_three]
  simp only [rSum_at, rE_at]
  rfl

theorem spec (o0 o1 o2 l0 l1 l2 : Vec Ideal S4096x512 .f32) : rOut (st l0 l1 l2) (st o0 o1 o2) = Cert.MergeIdeal.Value.out o0 o1 o2 l0 l1 l2 := by
  funext i
  idx_vars i
  rw [rOut_at, st_0, st_1, st_2, st_0, st_1, st_2]
  rfl

end Cert.MergeSpecIdeal.Value

namespace Cert.MergeClaim

open Cert.MergeIdeal Cert.MergeIdeal.Value

theorem specFrame : Cert.quiescent_MergeSpecIdeal := fun m g _ =>
  (θ_run _ _ _).mono (fun r h => ⟨fun c => (h c).2, sem_eq_zero_of_no_sems (by decide) r.2⟩) (Cert.MergeSpecIdeal.Value.run m g)

theorem value : Cert.algebraic_MergeIdeal_MergeSpecIdeal_pre_finite_merge := by
  intro m g m' g' hpre hargs
  refine ⟨fun c => out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), ?_, ?_⟩
  · refine (θ_run _ _ _).mono (fun r h c => ?_) (Cert.MergeIdeal.Value.run m g)
    exact ⟨(h c).1.trans (final m c (Cert.Pre_finite_merge.finite_of_fn _ _ _ _ _ _ (fun a => a.elim0) (congrFun (hpre c) (fun a => a.elim0)))), (h c).2⟩
  · refine (θ_run _ _ _).mono (fun r h c => ?_) (Cert.MergeSpecIdeal.Value.run m' g')
    obtain ⟨a0, a1, a2, a3, a4, a5⟩ := hargs c
    refine ⟨(h c).1.trans ?_, (h c).2⟩
    unfold Cert.MergeSpecIdeal.Value.res_main_v20
    rw [a0, a1, a2, a3, a4, a5]
    exact Cert.MergeSpecIdeal.Value.spec _ _ _ _ _ _

end Cert.MergeClaim

end
-- ==== Proof.AdamMath.lean ====
module

public import Idealize.ShloMosaic.Lib.Pipeline.ValueKit
public import proofs.«01_k».proof.Defs

/-! One AdamW step on one number: the two moving averages and the change of the weight. -/

@[expose] public section

noncomputable section

open Idealize.ShloMosaic

namespace Cert.AdamMath

/-- The new first moment. -/
def newM (m g : EReal) : EReal :=
  (Scalar.ofBits .f32 0x3F666666#32 : Ideal .f32) * m + (Scalar.ofBits .f32 0x3DCCCCCD#32 : Ideal .f32) * g

/-- The new second moment. -/
def newV (v g : EReal) : EReal :=
  (Scalar.ofBits .f32 0x3F7FBE77#32 : Ideal .f32) * v + (Scalar.ofBits .f32 0x3A83126F#32 : Ideal .f32) * (g * g)

/-- The change of the weight. -/
def delta (w m v g : EReal) : EReal :=
  (Scalar.ofBits .f32 0xBA83126F#32 : Ideal .f32) *
    (Ideal.div (Ideal.div (newM m g) (Scalar.ofBits .f32 0x3F26BD02#32 : Ideal .f32))
        (Ideal.sqrt (Ideal.div (newV v g) (Scalar.ofBits .f32 0x3C231ACC#32 : Ideal .f32)) +
          (Scalar.ofBits .f32 0x322BCC77#32 : Ideal .f32)) +
      (Scalar.ofBits .f32 0x3C23D70A#32 : Ideal .f32) * w)

/-- The parts of eight devices added one after the other are their sum. -/
theorem sum8 (p : Fin 8 → EReal) : p 0 + p 1 + p 2 + p 3 + p 4 + p 5 + p 6 + p 7 = ∑ k, p k :=
  (Fin.sum_univ_eight p).symm

end Cert.AdamMath

end
-- ==== Proof.AdamAbIn.lean ====
module

public import proofs.«01_k».proof.Proof.Gen.AdamAbInIdeal.Value
public import proofs.«01_k».proof.Proof.Gen.AdamAbInSpecIdeal.Run
public import proofs.«01_k».proof.Proof.Gen.AdamAbIn.Frame
public import Idealize.ShloMosaic.Lib.Pipeline.ValueKit
public import Idealize.ShloMosaic.Lib.Pipeline.ReadBack
public import Idealize.ShloMosaic.Lib.Claim
public import proofs.«01_k».proof.Proof.AdamMath

/-! The optimiser's step for one weight matrix: the sum of the eight devices' parts of its gradient, then AdamW. -/

@[expose] public section

set_option maxRecDepth 16384

noncomputable section

open Idealize.ShloMosaic Idealize.ShloMosaic.TcCoe Idealize.SL.Sem
open Idealize.ShloMosaic.Pipeline (Dat)

namespace Cert.AdamAbInIdeal.Value

open Cert.AdamAbInIdeal Cert.AdamAbInIdeal.Gen

/-- The gradient: the sum of the parts of the eight devices. -/
def gOut (p : Vec Ideal S8x448x1024 .f32) : Vec Ideal S1x448x1024 .f32 := fun i => ∑ k : Fin 8, p (ix3 k (i 1) (i 2))

/-- The new first moment. -/
def mOut (p : Vec Ideal S8x448x1024 .f32) (a : Vec Ideal S1x1024x448 .f32) : Vec Ideal S1x448x1024 .f32 :=
  fun i => AdamMath.newM (a (ix3 (0 : Fin 1) (i 2) (i 1))) (gOut p i)

/-- The new second moment. -/
def vOut (p : Vec Ideal S8x448x1024 .f32) (b : Vec Ideal S1x1024x448 .f32) : Vec Ideal S1x448x1024 .f32 :=
  fun i => AdamMath.newV (b (ix3 (0 : Fin 1) (i 2) (i 1))) (gOut p i)

/-- The change of the weight. -/
def dOut (p : Vec Ideal S8x448x1024 .f32) (w a b : Vec Ideal S1x1024x448 .f32) : Vec Ideal S1x448x1024 .f32 :=
  fun i => AdamMath.delta (w (ix3 (0 : Fin 1) (i 2) (i 1))) (a (ix3 (0 : Fin 1) (i 2) (i 1))) (b (ix3 (0 : Fin 1) (i 2) (i 1))) (gOut p i)

variable (m : (ℓ : Loc nD τ sig) → Buf (Elt Ideal) ℓ)

abbrev arg_p (c : Dev nD) : Vec Ideal S8x448x1024 .f32 := m ((c : Thread nD τ).loc main_arg0)
abbrev arg_w (c : Dev nD) : Vec Ideal S1x1024x448 .f32 := m ((c : Thread nD τ).loc main_arg1)
abbrev arg_a (c : Dev nD) : Vec Ideal S1x1024x448 .f32 := m ((c : Thread nD τ).loc main_arg2)
abbrev arg_b (c : Dev nD) : Vec Ideal S1x1024x448 .f32 := m ((c : Thread nD τ).loc main_arg3)

theorem idx : ∀ t : Fin cfg0.N, win0_0.index t = ![0, 0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row at which a grid point works. -/
def row (t : Fin cfg0.N) (p : Fin 224) : Fin 448 := ⟨t.val * 224 + p.val, by have := t.isLt; have : cfg0.N = 2 := rfl; omega⟩

theorem V_w (c : Dev nD) : @Eq (FVec Ideal S1x448x1024 .f32) (V m c main_v0) (transpose S1x448x1024 [0, 2, 1] (arg_w m c) transposes_S1x1024x448_S1x448x1024_0_2_1) := by
  unfold_abbrev_sides
  after_results

theorem V_a (c : Dev nD) : @Eq (FVec Ideal S1x448x1024 .f32) (V m c main_v1) (transpose S1x448x1024 [0, 2, 1] (arg_a m c) transposes_S1x1024x448_S1x448x1024_0_2_1) := by
  unfold_abbrev_sides
  after_results

theorem V_b (c : Dev nD) : @Eq (FVec Ideal S1x448x1024 .f32) (V m c main_v2) (transpose S1x448x1024 [0, 2, 1] (arg_b m c) transposes_S1x1024x448_S1x448x1024_0_2_1) := by
  unfold_abbrev_sides
  after_results

theorem V_p (c : Dev nD) : @Eq (FVec Ideal S8x1x448x1024 .f32) (V m c main_v3) (shapeCast S8x1x448x1024 (arg_p m c) shapeCasts_S8x448x1024_S8x1x448x1024) := by
  unfold_abbrev_sides
  after_results
  rfl

theorem blk_p (c : Dev nD) (t : Fin cfg0.N) (k : Fin 8) (p : Fin 224) (q : Fin 1024) :
    iblk m c 0 t (ix4 k (0 : Fin 1) p q) = arg_p m c (ix3 k (row t p) q) := by
  have h : iblk m c 0 t (ix4 k (0 : Fin 1) p q) = V m c main_v3 (ix4 k (0 : Fin 1) (row t p) q) := by
    blk_point [iblk, idx t, row]
  rw [h, V_p]
  pointwise

theorem blk_w (c : Dev nD) (t : Fin cfg0.N) (p : Fin 224) (q : Fin 1024) :
    iblk m c 1 t (ix3 (0 : Fin 1) p q) = arg_w m c (ix3 (0 : Fin 1) q (row t p)) := by
  have h : iblk m c 1 t (ix3 (0 : Fin 1) p q) = V m c main_v0 (ix3 (0 : Fin 1) (row t p) q) := by
    blk_point [iblk, idx t, row]
  rw [h, V_w]
  pointwise

theorem blk_a (c : Dev nD) (t : Fin cfg0.N) (p : Fin 224) (q : Fin 1024) :
    iblk m c 2 t (ix3 (0 : Fin 1) p q) = arg_a m c (ix3 (0 : Fin 1) q (row t p)) := by
  have h : iblk m c 2 t (ix3 (0 : Fin 1) p q) = V m c main_v1 (ix3 (0 : Fin 1) (row t p) q) := by
    blk_point [iblk, idx t, row]
  rw [h, V_a]
  pointwise

theorem blk_b (c : Dev nD) (t : Fin cfg0.N) (p : Fin 224) (q : Fin 1024) :
    iblk m c 3 t (ix3 (0 : Fin 1) p q) = arg_b m c (ix3 (0 : Fin 1) q (row t p)) := by
  have h : iblk m c 3 t (ix3 (0 : Fin 1) p q) = V m c main_v2 (ix3 (0 : Fin 1) (row t p) q) := by
    blk_point [iblk, idx t, row]
  rw [h, V_b]
  pointwise

/-- The sum of the eight parts at one grid point. -/
theorem pay_g (x0 : Vec Ideal S8x1x224x1024 .f32) (x1 x2 x3 : Vec Ideal S1x224x1024 .f32) (p : Fin 224) (q : Fin 1024) :
    k0_pay5 (F := Ideal) x0 x1 x2 x3 (ix3 (0 : Fin 1) p q) = (∑ k : Fin 8, x0 (ix4 k (0 : Fin 1) p q)) := by
  refine Eq.trans ?_ (AdamMath.sum8 fun k => x0 (ix4 k (0 : Fin 1) p q))
  pointwise [k0_pay5, k0_pay1]

theorem pay_m (g x : Vec Ideal S1x224x1024 .f32) (p : Fin 224) (q : Fin 1024) :
    k0_pay2 (F := Ideal) g x (ix3 (0 : Fin 1) p q) = AdamMath.newM (x (ix3 (0 : Fin 1) p q)) (g (ix3 (0 : Fin 1) p q)) := by
  pointwise [k0_pay2, AdamMath.newM]

theorem pay_v (g x : Vec Ideal S1x224x1024 .f32) (p : Fin 224) (q : Fin 1024) :
    k0_pay3 (F := Ideal) g x (ix3 (0 : Fin 1) p q) = AdamMath.newV (x (ix3 (0 : Fin 1) p q)) (g (ix3 (0 : Fin 1) p q)) := by
  pointwise [k0_pay3, AdamMath.newV]

theorem pay_d (g x y z : Vec Ideal S1x224x1024 .f32) (p : Fin 224) (q : Fin 1024) :
    k0_pay4 (F := Ideal) g y z x (ix3 (0 : Fin 1) p q) =
      AdamMath.delta (x (ix3 (0 : Fin 1) p q)) (y (ix3 (0 : Fin 1) p q)) (z (ix3 (0 : Fin 1) p q)) (g (ix3 (0 : Fin 1) p q)) := by
  pointwise [k0_pay4, k0_pay2, k0_pay3, AdamMath.delta, AdamMath.newM, AdamMath.newV]

theorem emb_g (t : Fin cfg0.N) (p : Fin 224) (q : Fin 1024) :
    ((cfg0.win 4).blk t).view.emb (ix3 (0 : Fin 1) p q) = ix3 (0 : Fin 1) (row t p) q := by
  blk_point [idx t, row]

theorem point_g (c : Dev nD) (t : Fin cfg0.N) (l : Fin 1) (p : Fin 224) (q : Fin 1024) :
    k0_pay5 (F := Ideal) (iblk m c 0 t) (iblk m c 1 t) (iblk m c 2 t) (iblk m c 3 t) (ix3 l p q) = gOut (arg_p m c) (((cfg0.win 4).blk t).view.emb (ix3 l p q)) := by
  obtain rfl : l = 0 := Subsingleton.elim _ _
  rw [emb_g, pay_g]
  simp only [blk_p]
  rfl

theorem final_g (c : Dev nD) : (dats m 0 c).arrAt 4 cfg0.N = gOut (arg_p m c) := by
  refine (dats m 0 c).arrAt_eq_of_covers 4 _ (by decide +kernel) fun t _ y => ?_
  blk_simp
  rw [after0_4]
  frame_out
  idx_vars y
  exact point_g m c t y0 y1 y2

theorem emb_d (t : Fin cfg0.N) (p : Fin 224) (q : Fin 1024) :
    ((cfg0.win 5).blk t).view.emb (ix3 (0 : Fin 1) p q) = ix3 (0 : Fin 1) (row t p) q := by
  blk_point [idx t, row]

theorem point_d (c : Dev nD) (t : Fin cfg0.N) (l : Fin 1) (p : Fin 224) (q : Fin 1024) :
    k0_pay4 (F := Ideal) (k0_pay5 (iblk m c 0 t) (iblk m c 1 t) (iblk m c 2 t) (iblk m c 3 t)) (iblk m c 2 t) (iblk m c 3 t) (iblk m c 1 t) (ix3 l p q) = dOut (arg_p m c) (arg_w m c) (arg_a m c) (arg_b m c) (((cfg0.win 5).blk t).view.emb (ix3 l p q)) := by
  obtain rfl : l = 0 := Subsingleton.elim _ _
  rw [emb_d, pay_d, pay_g]
  simp only [blk_p, blk_w, blk_a, blk_b]
  rfl

theorem final_d (c : Dev nD) : (dats m 0 c).arrAt 5 cfg0.N = dOut (arg_p m c) (arg_w m c) (arg_a m c) (arg_b m c) := by
  refine (dats m 0 c).arrAt_eq_of_covers 5 _ (by decide +kernel) fun t _ y => ?_
  blk_simp
  rw [after0_5]
  frame_out
  idx_vars y
  exact point_d m c t y0 y1 y2

theorem emb_m (t : Fin cfg0.N) (p : Fin 224) (q : Fin 1024) :
    ((cfg0.win 6).blk t).view.emb (ix3 (0 : Fin 1) p q) = ix3 (0 : Fin 1) (row t p) q := by
  blk_point [idx t, row]

theorem point_m (c : Dev nD) (t : Fin cfg0.N) (l : Fin 1) (p : Fin 224) (q : Fin 1024) :
    k0_pay2 (F := Ideal) (k0_pay5 (iblk m c 0 t) (iblk m c 1 t) (iblk m c 2 t) (iblk m c 3 t)) (iblk m c 2 t) (ix3 l p q) = mOut (arg_p m c) (arg_a m c) (((cfg0.win 6).blk t).view.emb (ix3 l p q)) := by
  obtain rfl : l = 0 := Subsingleton.elim _ _
  rw [emb_m, pay_m, pay_g]
  simp only [blk_p, blk_a]
  rfl

theorem final_m (c : Dev nD) : (dats m 0 c).arrAt 6 cfg0.N = mOut (arg_p m c) (arg_a m c) := by
  refine (dats m 0 c).arrAt_eq_of_covers 6 _ (by decide +kernel) fun t _ y => ?_
  blk_simp
  rw [after0_6]
  frame_out
  idx_vars y
  exact point_m m c t y0 y1 y2

theorem emb_v (t : Fin cfg0.N) (p : Fin 224) (q : Fin 1024) :
    ((cfg0.win 7).blk t).view.emb (ix3 (0 : Fin 1) p q) = ix3 (0 : Fin 1) (row t p) q := by
  blk_point [idx t, row]

theorem point_v (c : Dev nD) (t : Fin cfg0.N) (l : Fin 1) (p : Fin 224) (q : Fin 1024) :
    k0_pay3 (F := Ideal) (k0_pay5 (iblk m c 0 t) (iblk m c 1 t) (iblk m c 2 t) (iblk m c 3 t)) (iblk m c 3 t) (ix3 l p q) = vOut (arg_p m c) (arg_b m c) (((cfg0.win 7).blk t).view.emb (ix3 l p q)) := by
  obtain rfl : l = 0 := Subsingleton.elim _ _
  rw [emb_v, pay_v, pay_g]
  simp only [blk_p, blk_b]
  rfl

theorem final_v (c : Dev nD) : (dats m 0 c).arrAt 7 cfg0.N = vOut (arg_p m c) (arg_b m c) := by
  refine (dats m 0 c).arrAt_eq_of_covers 7 _ (by decide +kernel) fun t _ y => ?_
  blk_simp
  rw [after0_7]
  frame_out
  idx_vars y
  exact point_v m c t y0 y1 y2

end Cert.AdamAbInIdeal.Value

namespace Cert.AdamAbInSpecIdeal.Value

open Cert.AdamAbInSpecIdeal Cert.AdamAbInSpecIdeal.Gen

/-- The sum of the parts, laid out as the weight is. -/
abbrev rG (p : Vec Ideal S8x448x1024 .f32) : FVec Ideal S1x1024x448 .f32 := transpose S1x1024x448 [0, 2, 1] (broadcastInDim S1x448x1024 ![1, 2] bcast_S448x1024_S1x448x1024_1_2 (Host.reduceAdd p (constant S_ .f32 0x00000000#32) reducesTo_S8x448x1024_S448x1024_d0 h_S_)) transposes_S1x448x1024_S1x1024x448_0_2_1

/-- The reference's new first moment. -/
abbrev rM (p : Vec Ideal S8x448x1024 .f32) (a : Vec Ideal S1x1024x448 .f32) : FVec Ideal S1x1024x448 .f32 :=
  addf (mulf (broadcastInDim S1x1024x448 ![] bcast_S_S1x1024x448 (constant S_ .f32 0x3F666666#32)) a) (mulf (broadcastInDim S1x1024x448 ![] bcast_S_S1x1024x448 (constant S_ .f32 0x3DCCCCCD#32)) (rG p))

/-- The reference's new second moment. -/
abbrev rV (p : Vec Ideal S8x448x1024 .f32) (b : Vec Ideal S1x1024x448 .f32) : FVec Ideal S1x1024x448 .f32 :=
  addf (mulf (broadcastInDim S1x1024x448 ![] bcast_S_S1x1024x448 (constant S_ .f32 0x3F7FBE77#32)) b) (mulf (broadcastInDim S1x1024x448 ![] bcast_S_S1x1024x448 (constant S_ .f32 0x3A83126F#32)) (mulf (rG p) (rG p)))

/-- The reference's change of the weight. -/
abbrev rD (p : Vec Ideal S8x448x1024 .f32) (w a b : Vec Ideal S1x1024x448 .f32) : FVec Ideal S1x1024x448 .f32 :=
  mulf (broadcastInDim S1x1024x448 ![] bcast_S_S1x1024x448 (constant S_ .f32 0xBA83126F#32)) (addf (Host.divf (Host.divf (rM p a) (broadcastInDim S1x1024x448 ![] bcast_S_S1x1024x448 (constant S_ .f32 0x3F26BD02#32))) (addf (Host.sqrt (Host.divf (rV p b) (broadcastInDim S1x1024x448 ![] bcast_S_S1x1024x448 (constant S_ .f32 0x3C231ACC#32)))) (broadcastInDim S1x1024x448 ![] bcast_S_S1x1024x448 (constant S_ .f32 0x322BCC77#32)))) (mulf (broadcastInDim S1x1024x448 ![] bcast_S_S1x1024x448 (constant S_ .f32 0x3C23D70A#32)) w))

theorem rG_at (p : Vec Ideal S8x448x1024 .f32) (l : Fin 1) (y : Fin 448) (z : Fin 1024) : rG p (ix3 l z y) = Cert.AdamAbInIdeal.Value.gOut p (ix3 l y z) := by
  pointwise [Cert.AdamAbInIdeal.Value.gOut]

theorem spec_g (p : Vec Ideal S8x448x1024 .f32) : transpose S1x448x1024 [0, 2, 1] (rG p) transposes_S1x1024x448_S1x448x1024_0_2_1 = Cert.AdamAbInIdeal.Value.gOut p := by
  funext i
  idx_vars i
  pointwise [Cert.AdamAbInIdeal.Value.gOut]

theorem spec_m (p : Vec Ideal S8x448x1024 .f32) (a : Vec Ideal S1x1024x448 .f32) : transpose S1x448x1024 [0, 2, 1] (rM p a) transposes_S1x1024x448_S1x448x1024_0_2_1 = Cert.AdamAbInIdeal.Value.mOut p a := by
  funext i
  idx_vars i
  have h := rG_at p i0 i1 i2
  pointwise [Cert.AdamAbInIdeal.Value.mOut, Cert.AdamAbInIdeal.Value.gOut, AdamMath.newM]

theorem spec_v (p : Vec Ideal S8x448x1024 .f32) (b : Vec Ideal S1x1024x448 .f32) : transpose S1x448x1024 [0, 2, 1] (rV p b) transposes_S1x1024x448_S1x448x1024_0_2_1 = Cert.AdamAbInIdeal.Value.vOut p b := by
  funext i
  idx_vars i
  pointwise [Cert.AdamAbInIdeal.Value.vOut, Cert.AdamAbInIdeal.Value.gOut, AdamMath.newV]

theorem spec_d (p : Vec Ideal S8x448x1024 .f32) (w a b : Vec Ideal S1x1024x448 .f32) : transpose S1x448x1024 [0, 2, 1] (rD p w a b) transposes_S1x1024x448_S1x448x1024_0_2_1 = Cert.AdamAbInIdeal.Value.dOut p w a b := by
  funext i
  idx_vars i
  pointwise [Cert.AdamAbInIdeal.Value.dOut, Cert.AdamAbInIdeal.Value.gOut, AdamMath.delta, AdamMath.newM, AdamMath.newV]

end Cert.AdamAbInSpecIdeal.Value

namespace Cert.AdamAbInClaim

open Cert.AdamAbInIdeal.Value

theorem specFrame : Cert.quiescent_AdamAbInSpecIdeal := fun m g _ =>
  (θ_run _ _ _).mono (fun r h => ⟨fun c => (h c).2.2.2.2, sem_eq_zero_of_no_sems (by decide) r.2⟩) (Cert.AdamAbInSpecIdeal.Value.run m g)

theorem value : Cert.algebraic_AdamAbInIdeal_AdamAbInSpecIdeal := by
  intro m g m' g' _ hargs
  refine ⟨fun c => gOut (arg_p m c), fun c => dOut (arg_p m c) (arg_w m c) (arg_a m c) (arg_b m c),
    fun c => mOut (arg_p m c) (arg_a m c), fun c => vOut (arg_p m c) (arg_b m c), ?_, ?_⟩
  · refine (θ_run _ _ _).mono (fun r h c => ?_) (Cert.AdamAbInIdeal.Value.run_blocks m g)
    obtain ⟨h0, h1, h2, h3, hk⟩ := h c
    exact ⟨h0.trans (final_g m c), h1.trans (final_d m c), h2.trans (final_m m c), h3.trans (final_v m c), hk⟩
  · refine (θ_run _ _ _).mono (fun r h c => ?_) (Cert.AdamAbInSpecIdeal.Value.run m' g')
    obtain ⟨a0, a1, a2, a3⟩ := hargs c
    obtain ⟨h0, h1, h2, h3, hk⟩ := h c
    refine ⟨h0.trans ?_, h1.trans ?_, h2.trans ?_, h3.trans ?_, hk⟩
    · rw [a0]
      exact Cert.AdamAbInSpecIdeal.Value.spec_g _
    · rw [a0, a1, a2, a3]
      exact Cert.AdamAbInSpecIdeal.Value.spec_d _ _ _ _
    · rw [a0, a2]
      exact Cert.AdamAbInSpecIdeal.Value.spec_m _ _
    · rw [a0, a3]
      exact Cert.AdamAbInSpecIdeal.Value.spec_v _ _

end Cert.AdamAbInClaim

end
-- ==== Proof.AdamLru.lean ====
module

public import proofs.«01_k».proof.Proof.Gen.AdamLruIdeal.Value
public import proofs.«01_k».proof.Proof.Gen.AdamLruSpecIdeal.Run
public import proofs.«01_k».proof.Proof.Gen.AdamLru.Frame
public import Idealize.ShloMosaic.Lib.Pipeline.ValueKit
public import Idealize.ShloMosaic.Lib.Pipeline.ReadBack
public import Idealize.ShloMosaic.Lib.Claim
public import proofs.«01_k».proof.Proof.AdamMath

/-! The optimiser's step for one weight matrix: the sum of the eight devices' parts of its gradient, then AdamW. -/

@[expose] public section

set_option maxRecDepth 16384

noncomputable section

open Idealize.ShloMosaic Idealize.ShloMosaic.TcCoe Idealize.SL.Sem
open Idealize.ShloMosaic.Pipeline (Dat)

namespace Cert.AdamLruIdeal.Value

open Cert.AdamLruIdeal Cert.AdamLruIdeal.Gen

/-- The gradient: the sum of the parts of the eight devices. -/
def gOut (p : Vec Ideal S8x4x32x256 .f32) : Vec Ideal S4x32x256 .f32 := fun i => ∑ k : Fin 8, p (ix4 k (i 0) (i 1) (i 2))

/-- The new first moment. -/
def mOut (p : Vec Ideal S8x4x32x256 .f32) (a : Vec Ideal S1x4x32x256 .f32) : Vec Ideal S4x32x256 .f32 :=
  fun i => AdamMath.newM (a (ix4 (0 : Fin 1) (i 0) (i 1) (i 2))) (gOut p i)

/-- The new second moment. -/
def vOut (p : Vec Ideal S8x4x32x256 .f32) (b : Vec Ideal S1x4x32x256 .f32) : Vec Ideal S4x32x256 .f32 :=
  fun i => AdamMath.newV (b (ix4 (0 : Fin 1) (i 0) (i 1) (i 2))) (gOut p i)

/-- The change of the weight. -/
def dOut (p : Vec Ideal S8x4x32x256 .f32) (w a b : Vec Ideal S1x4x32x256 .f32) : Vec Ideal S4x32x256 .f32 :=
  fun i => AdamMath.delta (w (ix4 (0 : Fin 1) (i 0) (i 1) (i 2))) (a (ix4 (0 : Fin 1) (i 0) (i 1) (i 2))) (b (ix4 (0 : Fin 1) (i 0) (i 1) (i 2))) (gOut p i)

variable (m : (ℓ : Loc nD τ sig) → Buf (Elt Ideal) ℓ)

abbrev arg_p (c : Dev nD) : Vec Ideal S8x4x32x256 .f32 := m ((c : Thread nD τ).loc main_arg0)
abbrev arg_w (c : Dev nD) : Vec Ideal S1x4x32x256 .f32 := m ((c : Thread nD τ).loc main_arg1)
abbrev arg_a (c : Dev nD) : Vec Ideal S1x4x32x256 .f32 := m ((c : Thread nD τ).loc main_arg2)
abbrev arg_b (c : Dev nD) : Vec Ideal S1x4x32x256 .f32 := m ((c : Thread nD τ).loc main_arg3)

theorem idx : ∀ t : Fin cfg0.N, win0_0.index t = ![0, t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

/-- The head at which a grid point works. -/
def lead (t : Fin cfg0.N) : Fin 4 := ⟨t.val, t.isLt⟩

theorem V_w (c : Dev nD) : @Eq (FVec Ideal S4x32x256 .f32) (V m c main_v0) (shapeCast S4x32x256 (arg_w m c) shapeCasts_S1x4x32x256_S4x32x256) := by
  unfold_abbrev_sides
  after_results
  rfl

theorem V_a (c : Dev nD) : @Eq (FVec Ideal S4x32x256 .f32) (V m c main_v1) (shapeCast S4x32x256 (arg_a m c) shapeCasts_S1x4x32x256_S4x32x256) := by
  unfold_abbrev_sides
  after_results
  rfl

theorem V_b (c : Dev nD) : @Eq (FVec Ideal S4x32x256 .f32) (V m c main_v2) (shapeCast S4x32x256 (arg_b m c) shapeCasts_S1x4x32x256_S4x32x256) := by
  unfold_abbrev_sides
  after_results
  rfl

theorem blk_p (c : Dev nD) (t : Fin cfg0.N) (k : Fin 8) (p : Fin 32) (q : Fin 256) :
    iblk m c 0 t (ix4 k (0 : Fin 1) p q) = arg_p m c (ix4 k (lead t) p q) := by
  blk_point [iblk, V, idx t, lead]

theorem blk_w (c : Dev nD) (t : Fin cfg0.N) (p : Fin 32) (q : Fin 256) :
    iblk m c 1 t (ix3 (0 : Fin 1) p q) = arg_w m c (ix4 (0 : Fin 1) (lead t) p q) := by
  have h : iblk m c 1 t (ix3 (0 : Fin 1) p q) = V m c main_v0 (ix3 (lead t) p q) := by
    blk_point [iblk, idx t, lead]
  rw [h, V_w]
  pointwise

theorem blk_a (c : Dev nD) (t : Fin cfg0.N) (p : Fin 32) (q : Fin 256) :
    iblk m c 2 t (ix3 (0 : Fin 1) p q) = arg_a m c (ix4 (0 : Fin 1) (lead t) p q) := by
  have h : iblk m c 2 t (ix3 (0 : Fin 1) p q) = V m c main_v1 (ix3 (lead t) p q) := by
    blk_point [iblk, idx t, lead]
  rw [h, V_a]
  pointwise

theorem blk_b (c : Dev nD) (t : Fin cfg0.N) (p : Fin 32) (q : Fin 256) :
    iblk m c 3 t (ix3 (0 : Fin 1) p q) = arg_b m c (ix4 (0 : Fin 1) (lead t) p q) := by
  have h : iblk m c 3 t (ix3 (0 : Fin 1) p q) = V m c main_v2 (ix3 (lead t) p q) := by
    blk_point [iblk, idx t, lead]
  rw [h, V_b]
  pointwise

/-- The sum of the eight parts at one grid point. -/
theorem pay_g (x0 : Vec Ideal S8x1x32x256 .f32) (x1 x2 x3 : Vec Ideal S1x32x256 .f32) (p : Fin 32) (q : Fin 256) :
    k0_pay5 (F := Ideal) x0 x1 x2 x3 (ix3 (0 : Fin 1) p q) = (∑ k : Fin 8, x0 (ix4 k (0 : Fin 1) p q)) := by
  refine Eq.trans ?_ (AdamMath.sum8 fun k => x0 (ix4 k (0 : Fin 1) p q))
  pointwise [k0_pay5, k0_pay1]

theorem pay_m (g x : Vec Ideal S1x32x256 .f32) (p : Fin 32) (q : Fin 256) :
    k0_pay2 (F := Ideal) g x (ix3 (0 : Fin 1) p q) = AdamMath.newM (x (ix3 (0 : Fin 1) p q)) (g (ix3 (0 : Fin 1) p q)) := by
  pointwise [k0_pay2, AdamMath.newM]

theorem pay_v (g x : Vec Ideal S1x32x256 .f32) (p : Fin 32) (q : Fin 256) :
    k0_pay3 (F := Ideal) g x (ix3 (0 : Fin 1) p q) = AdamMath.newV (x (ix3 (0 : Fin 1) p q)) (g (ix3 (0 : Fin 1) p q)) := by
  pointwise [k0_pay3, AdamMath.newV]

theorem pay_d (g x y z : Vec Ideal S1x32x256 .f32) (p : Fin 32) (q : Fin 256) :
    k0_pay4 (F := Ideal) g y z x (ix3 (0 : Fin 1) p q) =
      AdamMath.delta (x (ix3 (0 : Fin 1) p q)) (y (ix3 (0 : Fin 1) p q)) (z (ix3 (0 : Fin 1) p q)) (g (ix3 (0 : Fin 1) p q)) := by
  pointwise [k0_pay4, k0_pay2, k0_pay3, AdamMath.delta, AdamMath.newM, AdamMath.newV]

theorem emb_g (t : Fin cfg0.N) (p : Fin 32) (q : Fin 256) :
    ((cfg0.win 4).blk t).view.emb (ix3 (0 : Fin 1) p q) = ix3 (lead t) p q := by
  blk_point [idx t, lead]

theorem point_g (c : Dev nD) (t : Fin cfg0.N) (l : Fin 1) (p : Fin 32) (q : Fin 256) :
    k0_pay5 (F := Ideal) (iblk m c 0 t) (iblk m c 1 t) (iblk m c 2 t) (iblk m c 3 t) (ix3 l p q) = gOut (arg_p m c) (((cfg0.win 4).blk t).view.emb (ix3 l p q)) := by
  obtain rfl : l = 0 := Subsingleton.elim _ _
  rw [emb_g, pay_g]
  simp only [blk_p]
  rfl

theorem final_g (c : Dev nD) : (dats m 0 c).arrAt 4 cfg0.N = gOut (arg_p m c) := by
  refine (dats m 0 c).arrAt_eq_of_covers 4 _ (by decide +kernel) fun t _ y => ?_
  blk_simp
  rw [after0_4]
  frame_out
  idx_vars y
  exact point_g m c t y0 y1 y2

theorem emb_d (t : Fin cfg0.N) (p : Fin 32) (q : Fin 256) :
    ((cfg0.win 5).blk t).view.emb (ix3 (0 : Fin 1) p q) = ix3 (lead t) p q := by
  blk_point [idx t, lead]

theorem point_d (c : Dev nD) (t : Fin cfg0.N) (l : Fin 1) (p : Fin 32) (q : Fin 256) :
    k0_pay4 (F := Ideal) (k0_pay5 (iblk m c 0 t) (iblk m c 1 t) (iblk m c 2 t) (iblk m c 3 t)) (iblk m c 2 t) (iblk m c 3 t) (iblk m c 1 t) (ix3 l p q) = dOut (arg_p m c) (arg_w m c) (arg_a m c) (arg_b m c) (((cfg0.win 5).blk t).view.emb (ix3 l p q)) := by
  obtain rfl : l = 0 := Subsingleton.elim _ _
  rw [emb_d, pay_d, pay_g]
  simp only [blk_p, blk_w, blk_a, blk_b]
  rfl

theorem final_d (c : Dev nD) : (dats m 0 c).arrAt 5 cfg0.N = dOut (arg_p m c) (arg_w m c) (arg_a m c) (arg_b m c) := by
  refine (dats m 0 c).arrAt_eq_of_covers 5 _ (by decide +kernel) fun t _ y => ?_
  blk_simp
  rw [after0_5]
  frame_out
  idx_vars y
  exact point_d m c t y0 y1 y2

theorem emb_m (t : Fin cfg0.N) (p : Fin 32) (q : Fin 256) :
    ((cfg0.win 6).blk t).view.emb (ix3 (0 : Fin 1) p q) = ix3 (lead t) p q := by
  blk_point [idx t, lead]

theorem point_m (c : Dev nD) (t : Fin cfg0.N) (l : Fin 1) (p : Fin 32) (q : Fin 256) :
    k0_pay2 (F := Ideal) (k0_pay5 (iblk m c 0 t) (iblk m c 1 t) (iblk m c 2 t) (iblk m c 3 t)) (iblk m c 2 t) (ix3 l p q) = mOut (arg_p m c) (arg_a m c) (((cfg0.win 6).blk t).view.emb (ix3 l p q)) := by
  obtain rfl : l = 0 := Subsingleton.elim _ _
  rw [emb_m, pay_m, pay_g]
  simp only [blk_p, blk_a]
  rfl

theorem final_m (c : Dev nD) : (dats m 0 c).arrAt 6 cfg0.N = mOut (arg_p m c) (arg_a m c) := by
  refine (dats m 0 c).arrAt_eq_of_covers 6 _ (by decide +kernel) fun t _ y => ?_
  blk_simp
  rw [after0_6]
  frame_out
  idx_vars y
  exact point_m m c t y0 y1 y2

theorem emb_v (t : Fin cfg0.N) (p : Fin 32) (q : Fin 256) :
    ((cfg0.win 7).blk t).view.emb (ix3 (0 : Fin 1) p q) = ix3 (lead t) p q := by
  blk_point [idx t, lead]

theorem point_v (c : Dev nD) (t : Fin cfg0.N) (l : Fin 1) (p : Fin 32) (q : Fin 256) :
    k0_pay3 (F := Ideal) (k0_pay5 (iblk m c 0 t) (iblk m c 1 t) (iblk m c 2 t) (iblk m c 3 t)) (iblk m c 3 t) (ix3 l p q) = vOut (arg_p m c) (arg_b m c) (((cfg0.win 7).blk t).view.emb (ix3 l p q)) := by
  obtain rfl : l = 0 := Subsingleton.elim _ _
  rw [emb_v, pay_v, pay_g]
  simp only [blk_p, blk_b]
  rfl

theorem final_v (c : Dev nD) : (dats m 0 c).arrAt 7 cfg0.N = vOut (arg_p m c) (arg_b m c) := by
  refine (dats m 0 c).arrAt_eq_of_covers 7 _ (by decide +kernel) fun t _ y => ?_
  blk_simp
  rw [after0_7]
  frame_out
  idx_vars y
  exact point_v m c t y0 y1 y2

end Cert.AdamLruIdeal.Value

namespace Cert.AdamLruSpecIdeal.Value

open Cert.AdamLruSpecIdeal Cert.AdamLruSpecIdeal.Gen

/-- The sum of the parts, laid out as the weight is. -/
abbrev rG (p : Vec Ideal S8x4x32x256 .f32) : FVec Ideal S1x4x32x256 .f32 := broadcastInDim S1x4x32x256 ![1, 2, 3] bcast_S4x32x256_S1x4x32x256_1_2_3 (Host.reduceAdd p (constant S_ .f32 0x00000000#32) reducesTo_S8x4x32x256_S4x32x256_d0 h_S_)

/-- The reference's new first moment. -/
abbrev rM (p : Vec Ideal S8x4x32x256 .f32) (a : Vec Ideal S1x4x32x256 .f32) : FVec Ideal S1x4x32x256 .f32 :=
  addf (mulf (broadcastInDim S1x4x32x256 ![] bcast_S_S1x4x32x256 (constant S_ .f32 0x3F666666#32)) a) (mulf (broadcastInDim S1x4x32x256 ![] bcast_S_S1x4x32x256 (constant S_ .f32 0x3DCCCCCD#32)) (rG p))

/-- The reference's new second moment. -/
abbrev rV (p : Vec Ideal S8x4x32x256 .f32) (b : Vec Ideal S1x4x32x256 .f32) : FVec Ideal S1x4x32x256 .f32 :=
  addf (mulf (broadcastInDim S1x4x32x256 ![] bcast_S_S1x4x32x256 (constant S_ .f32 0x3F7FBE77#32)) b) (mulf (broadcastInDim S1x4x32x256 ![] bcast_S_S1x4x32x256 (constant S_ .f32 0x3A83126F#32)) (mulf (rG p) (rG p)))

/-- The reference's change of the weight. -/
abbrev rD (p : Vec Ideal S8x4x32x256 .f32) (w a b : Vec Ideal S1x4x32x256 .f32) : FVec Ideal S1x4x32x256 .f32 :=
  mulf (broadcastInDim S1x4x32x256 ![] bcast_S_S1x4x32x256 (constant S_ .f32 0xBA83126F#32)) (addf (Host.divf (Host.divf (rM p a) (broadcastInDim S1x4x32x256 ![] bcast_S_S1x4x32x256 (constant S_ .f32 0x3F26BD02#32))) (addf (Host.sqrt (Host.divf (rV p b) (broadcastInDim S1x4x32x256 ![] bcast_S_S1x4x32x256 (constant S_ .f32 0x3C231ACC#32)))) (broadcastInDim S1x4x32x256 ![] bcast_S_S1x4x32x256 (constant S_ .f32 0x322BCC77#32)))) (mulf (broadcastInDim S1x4x32x256 ![] bcast_S_S1x4x32x256 (constant S_ .f32 0x3C23D70A#32)) w))

theorem rG_at (p : Vec Ideal S8x4x32x256 .f32) (l : Fin 4) (y : Fin 32) (z : Fin 256) : rG p (ix4 (0 : Fin 1) l y z) = Cert.AdamLruIdeal.Value.gOut p (ix3 l y z) := by
  pointwise [Cert.AdamLruIdeal.Value.gOut]

theorem spec_g (p : Vec Ideal S8x4x32x256 .f32) : shapeCast S4x32x256 (rG p) shapeCasts_S1x4x32x256_S4x32x256 = Cert.AdamLruIdeal.Value.gOut p := by
  funext i
  idx_vars i
  pointwise [Cert.AdamLruIdeal.Value.gOut]

theorem spec_m (p : Vec Ideal S8x4x32x256 .f32) (a : Vec Ideal S1x4x32x256 .f32) : shapeCast S4x32x256 (rM p a) shapeCasts_S1x4x32x256_S4x32x256 = Cert.AdamLruIdeal.Value.mOut p a := by
  funext i
  idx_vars i
  have h := rG_at p i0 i1 i2
  pointwise [Cert.AdamLruIdeal.Value.mOut, Cert.AdamLruIdeal.Value.gOut, AdamMath.newM]

theorem spec_v (p : Vec Ideal S8x4x32x256 .f32) (b : Vec Ideal S1x4x32x256 .f32) : shapeCast S4x32x256 (rV p b) shapeCasts_S1x4x32x256_S4x32x256 = Cert.AdamLruIdeal.Value.vOut p b := by
  funext i
  idx_vars i
  pointwise [Cert.AdamLruIdeal.Value.vOut, Cert.AdamLruIdeal.Value.gOut, AdamMath.newV]

theorem spec_d (p : Vec Ideal S8x4x32x256 .f32) (w a b : Vec Ideal S1x4x32x256 .f32) : shapeCast S4x32x256 (rD p w a b) shapeCasts_S1x4x32x256_S4x32x256 = Cert.AdamLruIdeal.Value.dOut p w a b := by
  funext i
  idx_vars i
  pointwise [Cert.AdamLruIdeal.Value.dOut, Cert.AdamLruIdeal.Value.gOut, AdamMath.delta, AdamMath.newM, AdamMath.newV]

end Cert.AdamLruSpecIdeal.Value

namespace Cert.AdamLruClaim

open Cert.AdamLruIdeal.Value

theorem specFrame : Cert.quiescent_AdamLruSpecIdeal := fun m g _ =>
  (θ_run _ _ _).mono (fun r h => ⟨fun c => (h c).2.2.2.2, sem_eq_zero_of_no_sems (by decide) r.2⟩) (Cert.AdamLruSpecIdeal.Value.run m g)

theorem value : Cert.algebraic_AdamLruIdeal_AdamLruSpecIdeal := by
  intro m g m' g' _ hargs
  refine ⟨fun c => gOut (arg_p m c), fun c => dOut (arg_p m c) (arg_w m c) (arg_a m c) (arg_b m c),
    fun c => mOut (arg_p m c) (arg_a m c), fun c => vOut (arg_p m c) (arg_b m c), ?_, ?_⟩
  · refine (θ_run _ _ _).mono (fun r h c => ?_) (Cert.AdamLruIdeal.Value.run_blocks m g)
    obtain ⟨h0, h1, h2, h3, hk⟩ := h c
    exact ⟨h0.trans (final_g m c), h1.trans (final_d m c), h2.trans (final_m m c), h3.trans (final_v m c), hk⟩
  · refine (θ_run _ _ _).mono (fun r h c => ?_) (Cert.AdamLruSpecIdeal.Value.run m' g')
    obtain ⟨a0, a1, a2, a3⟩ := hargs c
    obtain ⟨h0, h1, h2, h3, hk⟩ := h c
    refine ⟨h0.trans ?_, h1.trans ?_, h2.trans ?_, h3.trans ?_, hk⟩
    · rw [a0]
      exact Cert.AdamLruSpecIdeal.Value.spec_g _
    · rw [a0, a1, a2, a3]
      exact Cert.AdamLruSpecIdeal.Value.spec_d _ _ _ _
    · rw [a0, a2]
      exact Cert.AdamLruSpecIdeal.Value.spec_m _ _
    · rw [a0, a3]
      exact Cert.AdamLruSpecIdeal.Value.spec_v _ _

end Cert.AdamLruClaim

end
-- ==== Proof.AdamAbOut.lean ====
module

public import proofs.«01_k».proof.Proof.Gen.AdamAbOutIdeal.Value
public import proofs.«01_k».proof.Proof.Gen.AdamAbOutSpecIdeal.Run
public import proofs.«01_k».proof.Proof.Gen.AdamAbOut.Frame
public import Idealize.ShloMosaic.Lib.Pipeline.ValueKit
public import Idealize.ShloMosaic.Lib.Pipeline.ReadBack
public import Idealize.ShloMosaic.Lib.Claim
public import proofs.«01_k».proof.Proof.AdamMath

/-! The optimiser's step for one weight matrix: the sum of the eight devices' parts of its gradient, then AdamW. -/

@[expose] public section

set_option maxRecDepth 16384

noncomputable section

open Idealize.ShloMosaic Idealize.ShloMosaic.TcCoe Idealize.SL.Sem
open Idealize.ShloMosaic.Pipeline (Dat)

namespace Cert.AdamAbOutIdeal.Value

open Cert.AdamAbOutIdeal Cert.AdamAbOutIdeal.Gen

/-- The gradient: the sum of the parts of the eight devices. -/
def gOut (p : Vec Ideal S8x192x1024 .f32) : Vec Ideal S1x192x1024 .f32 := fun i => ∑ k : Fin 8, p (ix3 k (i 1) (i 2))

/-- The new first moment. -/
def mOut (p : Vec Ideal S8x192x1024 .f32) (a : Vec Ideal S1x192x1024 .f32) : Vec Ideal S1x192x1024 .f32 :=
  fun i => AdamMath.newM (a (i)) (gOut p i)

/-- The new second moment. -/
def vOut (p : Vec Ideal S8x192x1024 .f32) (b : Vec Ideal S1x192x1024 .f32) : Vec Ideal S1x192x1024 .f32 :=
  fun i => AdamMath.newV (b (i)) (gOut p i)

/-- The change of the weight. -/
def dOut (p : Vec Ideal S8x192x1024 .f32) (w a b : Vec Ideal S1x192x1024 .f32) : Vec Ideal S1x192x1024 .f32 :=
  fun i => AdamMath.delta (w (i)) (a (i)) (b (i)) (gOut p i)

variable (m : (ℓ : Loc nD τ sig) → Buf (Elt Ideal) ℓ)

abbrev arg_p (c : Dev nD) : Vec Ideal S8x192x1024 .f32 := m ((c : Thread nD τ).loc main_arg0)
abbrev arg_w (c : Dev nD) : Vec Ideal S1x192x1024 .f32 := m ((c : Thread nD τ).loc main_arg1)
abbrev arg_a (c : Dev nD) : Vec Ideal S1x192x1024 .f32 := m ((c : Thread nD τ).loc main_arg2)
abbrev arg_b (c : Dev nD) : Vec Ideal S1x192x1024 .f32 := m ((c : Thread nD τ).loc main_arg3)

theorem idx : ∀ t : Fin cfg0.N, win0_0.index t = ![0, 0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row at which a grid point works. -/
def row (t : Fin cfg0.N) (p : Fin 192) : Fin 192 := ⟨t.val * 192 + p.val, by have := t.isLt; have : cfg0.N = 1 := rfl; omega⟩

theorem V_p (c : Dev nD) : @Eq (FVec Ideal S8x1x192x1024 .f32) (V m c main_v0) (shapeCast S8x1x192x1024 (arg_p m c) shapeCasts_S8x192x1024_S8x1x192x1024) := by
  unfold_abbrev_sides
  after_results
  rfl

theorem blk_p (c : Dev nD) (t : Fin cfg0.N) (k : Fin 8) (p : Fin 192) (q : Fin 1024) :
    iblk m c 0 t (ix4 k (0 : Fin 1) p q) = arg_p m c (ix3 k (row t p) q) := by
  have h : iblk m c 0 t (ix4 k (0 : Fin 1) p q) = V m c main_v0 (ix4 k (0 : Fin 1) (row t p) q) := by
    blk_point [iblk, idx t, row]
  rw [h, V_p]
  pointwise

theorem blk_w (c : Dev nD) (t : Fin cfg0.N) (p : Fin 192) (q : Fin 1024) :
    iblk m c 1 t (ix3 (0 : Fin 1) p q) = arg_w m c (ix3 (0 : Fin 1) (row t p) q) := by
  blk_point [iblk, V, idx t, row]

theorem blk_a (c : Dev nD) (t : Fin cfg0.N) (p : Fin 192) (q : Fin 1024) :
    iblk m c 2 t (ix3 (0 : Fin 1) p q) = arg_a m c (ix3 (0 : Fin 1) (row t p) q) := by
  blk_point [iblk, V, idx t, row]

theorem blk_b (c : Dev nD) (t : Fin cfg0.N) (p : Fin 192) (q : Fin 1024) :
    iblk m c 3 t (ix3 (0 : Fin 1) p q) = arg_b m c (ix3 (0 : Fin 1) (row t p) q) := by
  blk_point [iblk, V, idx t, row]

/-- The sum of the eight parts at one grid point. -/
theorem pay_g (x0 : Vec Ideal S8x1x192x1024 .f32) (x1 x2 x3 : Vec Ideal S1x192x1024 .f32) (p : Fin 192) (q : Fin 1024) :
    k0_pay5 (F := Ideal) x0 x1 x2 x3 (ix3 (0 : Fin 1) p q) = (∑ k : Fin 8, x0 (ix4 k (0 : Fin 1) p q)) := by
  refine Eq.trans ?_ (AdamMath.sum8 fun k => x0 (ix4 k (0 : Fin 1) p q))
  pointwise [k0_pay5, k0_pay1]

theorem pay_m (g x : Vec Ideal S1x192x1024 .f32) (p : Fin 192) (q : Fin 1024) :
    k0_pay2 (F := Ideal) g x (ix3 (0 : Fin 1) p q) = AdamMath.newM (x (ix3 (0 : Fin 1) p q)) (g (ix3 (0 : Fin 1) p q)) := by
  pointwise [k0_pay2, AdamMath.newM]

theorem pay_v (g x : Vec Ideal S1x192x1024 .f32) (p : Fin 192) (q : Fin 1024) :
    k0_pay3 (F := Ideal) g x (ix3 (0 : Fin 1) p q) = AdamMath.newV (x (ix3 (0 : Fin 1) p q)) (g (ix3 (0 : Fin 1) p q)) := by
  pointwise [k0_pay3, AdamMath.newV]

theorem pay_d (g x y z : Vec Ideal S1x192x1024 .f32) (p : Fin 192) (q : Fin 1024) :
    k0_pay4 (F := Ideal) g y z x (ix3 (0 : Fin 1) p q) =
      AdamMath.delta (x (ix3 (0 : Fin 1) p q)) (y (ix3 (0 : Fin 1) p q)) (z (ix3 (0 : Fin 1) p q)) (g (ix3 (0 : Fin 1) p q)) := by
  pointwise [k0_pay4, k0_pay2, k0_pay3, AdamMath.delta, AdamMath.newM, AdamMath.newV]

theorem emb_g (t : Fin cfg0.N) (p : Fin 192) (q : Fin 1024) :
    ((cfg0.win 4).blk t).view.emb (ix3 (0 : Fin 1) p q) = ix3 (0 : Fin 1) (row t p) q := by
  blk_point [idx t, row]

theorem point_g (c : Dev nD) (t : Fin cfg0.N) (l : Fin 1) (p : Fin 192) (q : Fin 1024) :
    k0_pay5 (F := Ideal) (iblk m c 0 t) (iblk m c 1 t) (iblk m c 2 t) (iblk m c 3 t) (ix3 l p q) = gOut (arg_p m c) (((cfg0.win 4).blk t).view.emb (ix3 l p q)) := by
  obtain rfl : l = 0 := Subsingleton.elim _ _
  rw [emb_g, pay_g]
  simp only [blk_p]
  rfl

theorem final_g (c : Dev nD) : (dats m 0 c).arrAt 4 cfg0.N = gOut (arg_p m c) := by
  refine (dats m 0 c).arrAt_eq_of_covers 4 _ (by decide +kernel) fun t _ y => ?_
  blk_simp
  rw [after0_4]
  frame_out
  idx_vars y
  exact point_g m c t y0 y1 y2

theorem emb_d (t : Fin cfg0.N) (p : Fin 192) (q : Fin 1024) :
    ((cfg0.win 5).blk t).view.emb (ix3 (0 : Fin 1) p q) = ix3 (0 : Fin 1) (row t p) q := by
  blk_point [idx t, row]

theorem point_d (c : Dev nD) (t : Fin cfg0.N) (l : Fin 1) (p : Fin 192) (q : Fin 1024) :
    k0_pay4 (F := Ideal) (k0_pay5 (iblk m c 0 t) (iblk m c 1 t) (iblk m c 2 t) (iblk m c 3 t)) (iblk m c 2 t) (iblk m c 3 t) (iblk m c 1 t) (ix3 l p q) = dOut (arg_p m c) (arg_w m c) (arg_a m c) (arg_b m c) (((cfg0.win 5).blk t).view.emb (ix3 l p q)) := by
  obtain rfl : l = 0 := Subsingleton.elim _ _
  rw [emb_d, pay_d, pay_g]
  simp only [blk_p, blk_w, blk_a, blk_b]
  rfl

theorem final_d (c : Dev nD) : (dats m 0 c).arrAt 5 cfg0.N = dOut (arg_p m c) (arg_w m c) (arg_a m c) (arg_b m c) := by
  refine (dats m 0 c).arrAt_eq_of_covers 5 _ (by decide +kernel) fun t _ y => ?_
  blk_simp
  rw [after0_5]
  frame_out
  idx_vars y
  exact point_d m c t y0 y1 y2

theorem emb_m (t : Fin cfg0.N) (p : Fin 192) (q : Fin 1024) :
    ((cfg0.win 6).blk t).view.emb (ix3 (0 : Fin 1) p q) = ix3 (0 : Fin 1) (row t p) q := by
  blk_point [idx t, row]

theorem point_m (c : Dev nD) (t : Fin cfg0.N) (l : Fin 1) (p : Fin 192) (q : Fin 1024) :
    k0_pay2 (F := Ideal) (k0_pay5 (iblk m c 0 t) (iblk m c 1 t) (iblk m c 2 t) (iblk m c 3 t)) (iblk m c 2 t) (ix3 l p q) = mOut (arg_p m c) (arg_a m c) (((cfg0.win 6).blk t).view.emb (ix3 l p q)) := by
  obtain rfl : l = 0 := Subsingleton.elim _ _
  rw [emb_m, pay_m, pay_g]
  simp only [blk_p, blk_a]
  rfl

theorem final_m (c : Dev nD) : (dats m 0 c).arrAt 6 cfg0.N = mOut (arg_p m c) (arg_a m c) := by
  refine (dats m 0 c).arrAt_eq_of_covers 6 _ (by decide +kernel) fun t _ y => ?_
  blk_simp
  rw [after0_6]
  frame_out
  idx_vars y
  exact point_m m c t y0 y1 y2

theorem emb_v (t : Fin cfg0.N) (p : Fin 192) (q : Fin 1024) :
    ((cfg0.win 7).blk t).view.emb (ix3 (0 : Fin 1) p q) = ix3 (0 : Fin 1) (row t p) q := by
  blk_point [idx t, row]

theorem point_v (c : Dev nD) (t : Fin cfg0.N) (l : Fin 1) (p : Fin 192) (q : Fin 1024) :
    k0_pay3 (F := Ideal) (k0_pay5 (iblk m c 0 t) (iblk m c 1 t) (iblk m c 2 t) (iblk m c 3 t)) (iblk m c 3 t) (ix3 l p q) = vOut (arg_p m c) (arg_b m c) (((cfg0.win 7).blk t).view.emb (ix3 l p q)) := by
  obtain rfl : l = 0 := Subsingleton.elim _ _
  rw [emb_v, pay_v, pay_g]
  simp only [blk_p, blk_b]
  rfl

theorem final_v (c : Dev nD) : (dats m 0 c).arrAt 7 cfg0.N = vOut (arg_p m c) (arg_b m c) := by
  refine (dats m 0 c).arrAt_eq_of_covers 7 _ (by decide +kernel) fun t _ y => ?_
  blk_simp
  rw [after0_7]
  frame_out
  idx_vars y
  exact point_v m c t y0 y1 y2

end Cert.AdamAbOutIdeal.Value

namespace Cert.AdamAbOutSpecIdeal.Value

open Cert.AdamAbOutSpecIdeal Cert.AdamAbOutSpecIdeal.Gen

/-- The sum of the parts, laid out as the weight is. -/
abbrev rG (p : Vec Ideal S8x192x1024 .f32) : FVec Ideal S1x192x1024 .f32 := broadcastInDim S1x192x1024 ![1, 2] bcast_S192x1024_S1x192x1024_1_2 (Host.reduceAdd p (constant S_ .f32 0x00000000#32) reducesTo_S8x192x1024_S192x1024_d0 h_S_)

/-- The reference's new first moment. -/
abbrev rM (p : Vec Ideal S8x192x1024 .f32) (a : Vec Ideal S1x192x1024 .f32) : FVec Ideal S1x192x1024 .f32 :=
  addf (mulf (broadcastInDim S1x192x1024 ![] bcast_S_S1x192x1024 (constant S_ .f32 0x3F666666#32)) a) (mulf (broadcastInDim S1x192x1024 ![] bcast_S_S1x192x1024 (constant S_ .f32 0x3DCCCCCD#32)) (rG p))

/-- The reference's new second moment. -/
abbrev rV (p : Vec Ideal S8x192x1024 .f32) (b : Vec Ideal S1x192x1024 .f32) : FVec Ideal S1x192x1024 .f32 :=
  addf (mulf (broadcastInDim S1x192x1024 ![] bcast_S_S1x192x1024 (constant S_ .f32 0x3F7FBE77#32)) b) (mulf (broadcastInDim S1x192x1024 ![] bcast_S_S1x192x1024 (constant S_ .f32 0x3A83126F#32)) (mulf (rG p) (rG p)))

/-- The reference's change of the weight. -/
abbrev rD (p : Vec Ideal S8x192x1024 .f32) (w a b : Vec Ideal S1x192x1024 .f32) : FVec Ideal S1x192x1024 .f32 :=
  mulf (broadcastInDim S1x192x1024 ![] bcast_S_S1x192x1024 (constant S_ .f32 0xBA83126F#32)) (addf (Host.divf (Host.divf (rM p a) (broadcastInDim S1x192x1024 ![] bcast_S_S1x192x1024 (constant S_ .f32 0x3F26BD02#32))) (addf (Host.sqrt (Host.divf (rV p b) (broadcastInDim S1x192x1024 ![] bcast_S_S1x192x1024 (constant S_ .f32 0x3C231ACC#32)))) (broadcastInDim S1x192x1024 ![] bcast_S_S1x192x1024 (constant S_ .f32 0x322BCC77#32)))) (mulf (broadcastInDim S1x192x1024 ![] bcast_S_S1x192x1024 (constant S_ .f32 0x3C23D70A#32)) w))

theorem rG_at (p : Vec Ideal S8x192x1024 .f32) (l : Fin 1) (y : Fin 192) (z : Fin 1024) : rG p (ix3 l y z) = Cert.AdamAbOutIdeal.Value.gOut p (ix3 l y z) := by
  pointwise [Cert.AdamAbOutIdeal.Value.gOut]

theorem spec_g (p : Vec Ideal S8x192x1024 .f32) : rG p = Cert.AdamAbOutIdeal.Value.gOut p := by
  funext i
  idx_vars i
  pointwise [Cert.AdamAbOutIdeal.Value.gOut]

theorem spec_m (p : Vec Ideal S8x192x1024 .f32) (a : Vec Ideal S1x192x1024 .f32) : rM p a = Cert.AdamAbOutIdeal.Value.mOut p a := by
  funext i
  idx_vars i
  have h := rG_at p i0 i1 i2
  pointwise [Cert.AdamAbOutIdeal.Value.mOut, Cert.AdamAbOutIdeal.Value.gOut, AdamMath.newM]

theorem spec_v (p : Vec Ideal S8x192x1024 .f32) (b : Vec Ideal S1x192x1024 .f32) : rV p b = Cert.AdamAbOutIdeal.Value.vOut p b := by
  funext i
  idx_vars i
  pointwise [Cert.AdamAbOutIdeal.Value.vOut, Cert.AdamAbOutIdeal.Value.gOut, AdamMath.newV]

theorem spec_d (p : Vec Ideal S8x192x1024 .f32) (w a b : Vec Ideal S1x192x1024 .f32) : rD p w a b = Cert.AdamAbOutIdeal.Value.dOut p w a b := by
  funext i
  idx_vars i
  pointwise [Cert.AdamAbOutIdeal.Value.dOut, Cert.AdamAbOutIdeal.Value.gOut, AdamMath.delta, AdamMath.newM, AdamMath.newV]

end Cert.AdamAbOutSpecIdeal.Value

namespace Cert.AdamAbOutClaim

open Cert.AdamAbOutIdeal.Value

theorem specFrame : Cert.quiescent_AdamAbOutSpecIdeal := fun m g _ =>
  (θ_run _ _ _).mono (fun r h => ⟨fun c => (h c).2.2.2.2, sem_eq_zero_of_no_sems (by decide) r.2⟩) (Cert.AdamAbOutSpecIdeal.Value.run m g)

theorem value : Cert.algebraic_AdamAbOutIdeal_AdamAbOutSpecIdeal := by
  intro m g m' g' _ hargs
  refine ⟨fun c => gOut (arg_p m c), fun c => dOut (arg_p m c) (arg_w m c) (arg_a m c) (arg_b m c),
    fun c => mOut (arg_p m c) (arg_a m c), fun c => vOut (arg_p m c) (arg_b m c), ?_, ?_⟩
  · refine (θ_run _ _ _).mono (fun r h c => ?_) (Cert.AdamAbOutIdeal.Value.run_blocks m g)
    obtain ⟨h0, h1, h2, h3, hk⟩ := h c
    exact ⟨h0.trans (final_g m c), h1.trans (final_d m c), h2.trans (final_m m c), h3.trans (final_v m c), hk⟩
  · refine (θ_run _ _ _).mono (fun r h c => ?_) (Cert.AdamAbOutSpecIdeal.Value.run m' g')
    obtain ⟨a0, a1, a2, a3⟩ := hargs c
    obtain ⟨h0, h1, h2, h3, hk⟩ := h c
    refine ⟨h0.trans ?_, h1.trans ?_, h2.trans ?_, h3.trans ?_, hk⟩
    · rw [a0]
      exact Cert.AdamAbOutSpecIdeal.Value.spec_g _
    · rw [a0, a1, a2, a3]
      exact Cert.AdamAbOutSpecIdeal.Value.spec_d _ _ _ _
    · rw [a0, a2]
      exact Cert.AdamAbOutSpecIdeal.Value.spec_m _ _
    · rw [a0, a3]
      exact Cert.AdamAbOutSpecIdeal.Value.spec_v _ _

end Cert.AdamAbOutClaim

end
-- ==== Proof.AdamCQkv.lean ====
module

public import proofs.«01_k».proof.Proof.Gen.AdamCQkvIdeal.Value
public import proofs.«01_k».proof.Proof.Gen.AdamCQkvSpecIdeal.Run
public import proofs.«01_k».proof.Proof.Gen.AdamCQkv.Frame
public import Idealize.ShloMosaic.Lib.Pipeline.ValueKit
public import Idealize.ShloMosaic.Lib.Pipeline.ReadBack
public import Idealize.ShloMosaic.Lib.Claim
public import proofs.«01_k».proof.Proof.AdamMath

/-! The optimiser's step for one weight matrix: the sum of the eight devices' parts of its gradient, then AdamW. -/

@[expose] public section

set_option maxRecDepth 16384

noncomputable section

open Idealize.ShloMosaic Idealize.ShloMosaic.TcCoe Idealize.SL.Sem
open Idealize.ShloMosaic.Pipeline (Dat)

namespace Cert.AdamCQkvIdeal.Value

open Cert.AdamCQkvIdeal Cert.AdamCQkvIdeal.Gen

/-- The gradient: the sum of the parts of the eight devices. -/
def gOut (p : Vec Ideal S8x160x1024 .f32) : Vec Ideal S1x160x1024 .f32 := fun i => ∑ k : Fin 8, p (ix3 k (i 1) (i 2))

/-- The new first moment. -/
def mOut (p : Vec Ideal S8x160x1024 .f32) (a : Vec Ideal S1x1024x160 .f32) : Vec Ideal S1x160x1024 .f32 :=
  fun i => AdamMath.newM (a (ix3 (0 : Fin 1) (i 2) (i 1))) (gOut p i)

/-- The new second moment. -/
def vOut (p : Vec Ideal S8x160x1024 .f32) (b : Vec Ideal S1x1024x160 .f32) : Vec Ideal S1x160x1024 .f32 :=
  fun i => AdamMath.newV (b (ix3 (0 : Fin 1) (i 2) (i 1))) (gOut p i)

/-- The change of the weight. -/
def dOut (p : Vec Ideal S8x160x1024 .f32) (w a b : Vec Ideal S1x1024x160 .f32) : Vec Ideal S1x160x1024 .f32 :=
  fun i => AdamMath.delta (w (ix3 (0 : Fin 1) (i 2) (i 1))) (a (ix3 (0 : Fin 1) (i 2) (i 1))) (b (ix3 (0 : Fin 1) (i 2) (i 1))) (gOut p i)

variable (m : (ℓ : Loc nD τ sig) → Buf (Elt Ideal) ℓ)

abbrev arg_p (c : Dev nD) : Vec Ideal S8x160x1024 .f32 := m ((c : Thread nD τ).loc main_arg0)
abbrev arg_w (c : Dev nD) : Vec Ideal S1x1024x160 .f32 := m ((c : Thread nD τ).loc main_arg1)
abbrev arg_a (c : Dev nD) : Vec Ideal S1x1024x160 .f32 := m ((c : Thread nD τ).loc main_arg2)
abbrev arg_b (c : Dev nD) : Vec Ideal S1x1024x160 .f32 := m ((c : Thread nD τ).loc main_arg3)

theorem idx : ∀ t : Fin cfg0.N, win0_0.index t = ![0, 0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row at which a grid point works. -/
def row (t : Fin cfg0.N) (p : Fin 160) : Fin 160 := ⟨t.val * 160 + p.val, by have := t.isLt; have : cfg0.N = 1 := rfl; omega⟩

theorem V_w (c : Dev nD) : @Eq (FVec Ideal S1x160x1024 .f32) (V m c main_v0) (transpose S1x160x1024 [0, 2, 1] (arg_w m c) transposes_S1x1024x160_S1x160x1024_0_2_1) := by
  unfold_abbrev_sides
  after_results

theorem V_a (c : Dev nD) : @Eq (FVec Ideal S1x160x1024 .f32) (V m c main_v1) (transpose S1x160x1024 [0, 2, 1] (arg_a m c) transposes_S1x1024x160_S1x160x1024_0_2_1) := by
  unfold_abbrev_sides
  after_results

theorem V_b (c : Dev nD) : @Eq (FVec Ideal S1x160x1024 .f32) (V m c main_v2) (transpose S1x160x1024 [0, 2, 1] (arg_b m c) transposes_S1x1024x160_S1x160x1024_0_2_1) := by
  unfold_abbrev_sides
  after_results

theorem V_p (c : Dev nD) : @Eq (FVec Ideal S8x1x160x1024 .f32) (V m c main_v3) (shapeCast S8x1x160x1024 (arg_p m c) shapeCasts_S8x160x1024_S8x1x160x1024) := by
  unfold_abbrev_sides
  after_results
  rfl

theorem blk_p (c : Dev nD) (t : Fin cfg0.N) (k : Fin 8) (p : Fin 160) (q : Fin 1024) :
    iblk m c 0 t (ix4 k (0 : Fin 1) p q) = arg_p m c (ix3 k (row t p) q) := by
  have h : iblk m c 0 t (ix4 k (0 : Fin 1) p q) = V m c main_v3 (ix4 k (0 : Fin 1) (row t p) q) := by
    blk_point [iblk, idx t, row]
  rw [h, V_p]
  pointwise

theorem blk_w (c : Dev nD) (t : Fin cfg0.N) (p : Fin 160) (q : Fin 1024) :
    iblk m c 1 t (ix3 (0 : Fin 1) p q) = arg_w m c (ix3 (0 : Fin 1) q (row t p)) := by
  have h : iblk m c 1 t (ix3 (0 : Fin 1) p q) = V m c main_v0 (ix3 (0 : Fin 1) (row t p) q) := by
    blk_point [iblk, idx t, row]
  rw [h, V_w]
  pointwise

theorem blk_a (c : Dev nD) (t : Fin cfg0.N) (p : Fin 160) (q : Fin 1024) :
    iblk m c 2 t (ix3 (0 : Fin 1) p q) = arg_a m c (ix3 (0 : Fin 1) q (row t p)) := by
  have h : iblk m c 2 t (ix3 (0 : Fin 1) p q) = V m c main_v1 (ix3 (0 : Fin 1) (row t p) q) := by
    blk_point [iblk, idx t, row]
  rw [h, V_a]
  pointwise

theorem blk_b (c : Dev nD) (t : Fin cfg0.N) (p : Fin 160) (q : Fin 1024) :
    iblk m c 3 t (ix3 (0 : Fin 1) p q) = arg_b m c (ix3 (0 : Fin 1) q (row t p)) := by
  have h : iblk m c 3 t (ix3 (0 : Fin 1) p q) = V m c main_v2 (ix3 (0 : Fin 1) (row t p) q) := by
    blk_point [iblk, idx t, row]
  rw [h, V_b]
  pointwise

/-- The sum of the eight parts at one grid point. -/
theorem pay_g (x0 : Vec Ideal S8x1x160x1024 .f32) (x1 x2 x3 : Vec Ideal S1x160x1024 .f32) (p : Fin 160) (q : Fin 1024) :
    k0_pay5 (F := Ideal) x0 x1 x2 x3 (ix3 (0 : Fin 1) p q) = (∑ k : Fin 8, x0 (ix4 k (0 : Fin 1) p q)) := by
  refine Eq.trans ?_ (AdamMath.sum8 fun k => x0 (ix4 k (0 : Fin 1) p q))
  pointwise [k0_pay5, k0_pay1]

theorem pay_m (g x : Vec Ideal S1x160x1024 .f32) (p : Fin 160) (q : Fin 1024) :
    k0_pay2 (F := Ideal) g x (ix3 (0 : Fin 1) p q) = AdamMath.newM (x (ix3 (0 : Fin 1) p q)) (g (ix3 (0 : Fin 1) p q)) := by
  pointwise [k0_pay2, AdamMath.newM]

theorem pay_v (g x : Vec Ideal S1x160x1024 .f32) (p : Fin 160) (q : Fin 1024) :
    k0_pay3 (F := Ideal) g x (ix3 (0 : Fin 1) p q) = AdamMath.newV (x (ix3 (0 : Fin 1) p q)) (g (ix3 (0 : Fin 1) p q)) := by
  pointwise [k0_pay3, AdamMath.newV]

theorem pay_d (g x y z : Vec Ideal S1x160x1024 .f32) (p : Fin 160) (q : Fin 1024) :
    k0_pay4 (F := Ideal) g y z x (ix3 (0 : Fin 1) p q) =
      AdamMath.delta (x (ix3 (0 : Fin 1) p q)) (y (ix3 (0 : Fin 1) p q)) (z (ix3 (0 : Fin 1) p q)) (g (ix3 (0 : Fin 1) p q)) := by
  pointwise [k0_pay4, k0_pay2, k0_pay3, AdamMath.delta, AdamMath.newM, AdamMath.newV]

theorem emb_g (t : Fin cfg0.N) (p : Fin 160) (q : Fin 1024) :
    ((cfg0.win 4).blk t).view.emb (ix3 (0 : Fin 1) p q) = ix3 (0 : Fin 1) (row t p) q := by
  blk_point [idx t, row]

theorem point_g (c : Dev nD) (t : Fin cfg0.N) (l : Fin 1) (p : Fin 160) (q : Fin 1024) :
    k0_pay5 (F := Ideal) (iblk m c 0 t) (iblk m c 1 t) (iblk m c 2 t) (iblk m c 3 t) (ix3 l p q) = gOut (arg_p m c) (((cfg0.win 4).blk t).view.emb (ix3 l p q)) := by
  obtain rfl : l = 0 := Subsingleton.elim _ _
  rw [emb_g, pay_g]
  simp only [blk_p]
  rfl

theorem final_g (c : Dev nD) : (dats m 0 c).arrAt 4 cfg0.N = gOut (arg_p m c) := by
  refine (dats m 0 c).arrAt_eq_of_covers 4 _ (by decide +kernel) fun t _ y => ?_
  blk_simp
  rw [after0_4]
  frame_out
  idx_vars y
  exact point_g m c t y0 y1 y2

theorem emb_d (t : Fin cfg0.N) (p : Fin 160) (q : Fin 1024) :
    ((cfg0.win 5).blk t).view.emb (ix3 (0 : Fin 1) p q) = ix3 (0 : Fin 1) (row t p) q := by
  blk_point [idx t, row]

theorem point_d (c : Dev nD) (t : Fin cfg0.N) (l : Fin 1) (p : Fin 160) (q : Fin 1024) :
    k0_pay4 (F := Ideal) (k0_pay5 (iblk m c 0 t) (iblk m c 1 t) (iblk m c 2 t) (iblk m c 3 t)) (iblk m c 2 t) (iblk m c 3 t) (iblk m c 1 t) (ix3 l p q) = dOut (arg_p m c) (arg_w m c) (arg_a m c) (arg_b m c) (((cfg0.win 5).blk t).view.emb (ix3 l p q)) := by
  obtain rfl : l = 0 := Subsingleton.elim _ _
  rw [emb_d, pay_d, pay_g]
  simp only [blk_p, blk_w, blk_a, blk_b]
  rfl

theorem final_d (c : Dev nD) : (dats m 0 c).arrAt 5 cfg0.N = dOut (arg_p m c) (arg_w m c) (arg_a m c) (arg_b m c) := by
  refine (dats m 0 c).arrAt_eq_of_covers 5 _ (by decide +kernel) fun t _ y => ?_
  blk_simp
  rw [after0_5]
  frame_out
  idx_vars y
  exact point_d m c t y0 y1 y2

theorem emb_m (t : Fin cfg0.N) (p : Fin 160) (q : Fin 1024) :
    ((cfg0.win 6).blk t).view.emb (ix3 (0 : Fin 1) p q) = ix3 (0 : Fin 1) (row t p) q := by
  blk_point [idx t, row]

theorem point_m (c : Dev nD) (t : Fin cfg0.N) (l : Fin 1) (p : Fin 160) (q : Fin 1024) :
    k0_pay2 (F := Ideal) (k0_pay5 (iblk m c 0 t) (iblk m c 1 t) (iblk m c 2 t) (iblk m c 3 t)) (iblk m c 2 t) (ix3 l p q) = mOut (arg_p m c) (arg_a m c) (((cfg0.win 6).blk t).view.emb (ix3 l p q)) := by
  obtain rfl : l = 0 := Subsingleton.elim _ _
  rw [emb_m, pay_m, pay_g]
  simp only [blk_p, blk_a]
  rfl

theorem final_m (c : Dev nD) : (dats m 0 c).arrAt 6 cfg0.N = mOut (arg_p m c) (arg_a m c) := by
  refine (dats m 0 c).arrAt_eq_of_covers 6 _ (by decide +kernel) fun t _ y => ?_
  blk_simp
  rw [after0_6]
  frame_out
  idx_vars y
  exact point_m m c t y0 y1 y2

theorem emb_v (t : Fin cfg0.N) (p : Fin 160) (q : Fin 1024) :
    ((cfg0.win 7).blk t).view.emb (ix3 (0 : Fin 1) p q) = ix3 (0 : Fin 1) (row t p) q := by
  blk_point [idx t, row]

theorem point_v (c : Dev nD) (t : Fin cfg0.N) (l : Fin 1) (p : Fin 160) (q : Fin 1024) :
    k0_pay3 (F := Ideal) (k0_pay5 (iblk m c 0 t) (iblk m c 1 t) (iblk m c 2 t) (iblk m c 3 t)) (iblk m c 3 t) (ix3 l p q) = vOut (arg_p m c) (arg_b m c) (((cfg0.win 7).blk t).view.emb (ix3 l p q)) := by
  obtain rfl : l = 0 := Subsingleton.elim _ _
  rw [emb_v, pay_v, pay_g]
  simp only [blk_p, blk_b]
  rfl

theorem final_v (c : Dev nD) : (dats m 0 c).arrAt 7 cfg0.N = vOut (arg_p m c) (arg_b m c) := by
  refine (dats m 0 c).arrAt_eq_of_covers 7 _ (by decide +kernel) fun t _ y => ?_
  blk_simp
  rw [after0_7]
  frame_out
  idx_vars y
  exact point_v m c t y0 y1 y2

end Cert.AdamCQkvIdeal.Value

namespace Cert.AdamCQkvSpecIdeal.Value

open Cert.AdamCQkvSpecIdeal Cert.AdamCQkvSpecIdeal.Gen

/-- The sum of the parts, laid out as the weight is. -/
abbrev rG (p : Vec Ideal S8x160x1024 .f32) : FVec Ideal S1x1024x160 .f32 := transpose S1x1024x160 [0, 2, 1] (broadcastInDim S1x160x1024 ![1, 2] bcast_S160x1024_S1x160x1024_1_2 (Host.reduceAdd p (constant S_ .f32 0x00000000#32) reducesTo_S8x160x1024_S160x1024_d0 h_S_)) transposes_S1x160x1024_S1x1024x160_0_2_1

/-- The reference's new first moment. -/
abbrev rM (p : Vec Ideal S8x160x1024 .f32) (a : Vec Ideal S1x1024x160 .f32) : FVec Ideal S1x1024x160 .f32 :=
  addf (mulf (broadcastInDim S1x1024x160 ![] bcast_S_S1x1024x160 (constant S_ .f32 0x3F666666#32)) a) (mulf (broadcastInDim S1x1024x160 ![] bcast_S_S1x1024x160 (constant S_ .f32 0x3DCCCCCD#32)) (rG p))

/-- The reference's new second moment. -/
abbrev rV (p : Vec Ideal S8x160x1024 .f32) (b : Vec Ideal S1x1024x160 .f32) : FVec Ideal S1x1024x160 .f32 :=
  addf (mulf (broadcastInDim S1x1024x160 ![] bcast_S_S1x1024x160 (constant S_ .f32 0x3F7FBE77#32)) b) (mulf (broadcastInDim S1x1024x160 ![] bcast_S_S1x1024x160 (constant S_ .f32 0x3A83126F#32)) (mulf (rG p) (rG p)))

/-- The reference's change of the weight. -/
abbrev rD (p : Vec Ideal S8x160x1024 .f32) (w a b : Vec Ideal S1x1024x160 .f32) : FVec Ideal S1x1024x160 .f32 :=
  mulf (broadcastInDim S1x1024x160 ![] bcast_S_S1x1024x160 (constant S_ .f32 0xBA83126F#32)) (addf (Host.divf (Host.divf (rM p a) (broadcastInDim S1x1024x160 ![] bcast_S_S1x1024x160 (constant S_ .f32 0x3F26BD02#32))) (addf (Host.sqrt (Host.divf (rV p b) (broadcastInDim S1x1024x160 ![] bcast_S_S1x1024x160 (constant S_ .f32 0x3C231ACC#32)))) (broadcastInDim S1x1024x160 ![] bcast_S_S1x1024x160 (constant S_ .f32 0x322BCC77#32)))) (mulf (broadcastInDim S1x1024x160 ![] bcast_S_S1x1024x160 (constant S_ .f32 0x3C23D70A#32)) w))

theorem rG_at (p : Vec Ideal S8x160x1024 .f32) (l : Fin 1) (y : Fin 160) (z : Fin 1024) : rG p (ix3 l z y) = Cert.AdamCQkvIdeal.Value.gOut p (ix3 l y z) := by
  pointwise [Cert.AdamCQkvIdeal.Value.gOut]

theorem spec_g (p : Vec Ideal S8x160x1024 .f32) : transpose S1x160x1024 [0, 2, 1] (rG p) transposes_S1x1024x160_S1x160x1024_0_2_1 = Cert.AdamCQkvIdeal.Value.gOut p := by
  funext i
  idx_vars i
  pointwise [Cert.AdamCQkvIdeal.Value.gOut]

theorem spec_m (p : Vec Ideal S8x160x1024 .f32) (a : Vec Ideal S1x1024x160 .f32) : transpose S1x160x1024 [0, 2, 1] (rM p a) transposes_S1x1024x160_S1x160x1024_0_2_1 = Cert.AdamCQkvIdeal.Value.mOut p a := by
  funext i
  idx_vars i
  have h := rG_at p i0 i1 i2
  pointwise [Cert.AdamCQkvIdeal.Value.mOut, Cert.AdamCQkvIdeal.Value.gOut, AdamMath.newM]

theorem spec_v (p : Vec Ideal S8x160x1024 .f32) (b : Vec Ideal S1x1024x160 .f32) : transpose S1x160x1024 [0, 2, 1] (rV p b) transposes_S1x1024x160_S1x160x1024_0_2_1 = Cert.AdamCQkvIdeal.Value.vOut p b := by
  funext i
  idx_vars i
  pointwise [Cert.AdamCQkvIdeal.Value.vOut, Cert.AdamCQkvIdeal.Value.gOut, AdamMath.newV]

theorem spec_d (p : Vec Ideal S8x160x1024 .f32) (w a b : Vec Ideal S1x1024x160 .f32) : transpose S1x160x1024 [0, 2, 1] (rD p w a b) transposes_S1x1024x160_S1x160x1024_0_2_1 = Cert.AdamCQkvIdeal.Value.dOut p w a b := by
  funext i
  idx_vars i
  pointwise [Cert.AdamCQkvIdeal.Value.dOut, Cert.AdamCQkvIdeal.Value.gOut, AdamMath.delta, AdamMath.newM, AdamMath.newV]

end Cert.AdamCQkvSpecIdeal.Value

namespace Cert.AdamCQkvClaim

open Cert.AdamCQkvIdeal.Value

theorem specFrame : Cert.quiescent_AdamCQkvSpecIdeal := fun m g _ =>
  (θ_run _ _ _).mono (fun r h => ⟨fun c => (h c).2.2.2.2, sem_eq_zero_of_no_sems (by decide) r.2⟩) (Cert.AdamCQkvSpecIdeal.Value.run m g)

theorem value : Cert.algebraic_AdamCQkvIdeal_AdamCQkvSpecIdeal := by
  intro m g m' g' _ hargs
  refine ⟨fun c => gOut (arg_p m c), fun c => dOut (arg_p m c) (arg_w m c) (arg_a m c) (arg_b m c),
    fun c => mOut (arg_p m c) (arg_a m c), fun c => vOut (arg_p m c) (arg_b m c), ?_, ?_⟩
  · refine (θ_run _ _ _).mono (fun r h c => ?_) (Cert.AdamCQkvIdeal.Value.run_blocks m g)
    obtain ⟨h0, h1, h2, h3, hk⟩ := h c
    exact ⟨h0.trans (final_g m c), h1.trans (final_d m c), h2.trans (final_m m c), h3.trans (final_v m c), hk⟩
  · refine (θ_run _ _ _).mono (fun r h c => ?_) (Cert.AdamCQkvSpecIdeal.Value.run m' g')
    obtain ⟨a0, a1, a2, a3⟩ := hargs c
    obtain ⟨h0, h1, h2, h3, hk⟩ := h c
    refine ⟨h0.trans ?_, h1.trans ?_, h2.trans ?_, h3.trans ?_, hk⟩
    · rw [a0]
      exact Cert.AdamCQkvSpecIdeal.Value.spec_g _
    · rw [a0, a1, a2, a3]
      exact Cert.AdamCQkvSpecIdeal.Value.spec_d _ _ _ _
    · rw [a0, a2]
      exact Cert.AdamCQkvSpecIdeal.Value.spec_m _ _
    · rw [a0, a3]
      exact Cert.AdamCQkvSpecIdeal.Value.spec_v _ _

end Cert.AdamCQkvClaim

end
-- ==== Proof.AdamCOut.lean ====
module

public import proofs.«01_k».proof.Proof.Gen.AdamCOutIdeal.Value
public import proofs.«01_k».proof.Proof.Gen.AdamCOutSpecIdeal.Run
public import proofs.«01_k».proof.Proof.Gen.AdamCOut.Frame
public import Idealize.ShloMosaic.Lib.Pipeline.ValueKit
public import Idealize.ShloMosaic.Lib.Pipeline.ReadBack
public import Idealize.ShloMosaic.Lib.Claim
public import proofs.«01_k».proof.Proof.AdamMath

/-! The optimiser's step for one weight matrix: the sum of the eight devices' parts of its gradient, then AdamW. -/

@[expose] public section

set_option maxRecDepth 16384

noncomputable section

open Idealize.ShloMosaic Idealize.ShloMosaic.TcCoe Idealize.SL.Sem
open Idealize.ShloMosaic.Pipeline (Dat)

namespace Cert.AdamCOutIdeal.Value

open Cert.AdamCOutIdeal Cert.AdamCOutIdeal.Gen

/-- The gradient: the sum of the parts of the eight devices. -/
def gOut (p : Vec Ideal S8x128x1024 .f32) : Vec Ideal S1x128x1024 .f32 := fun i => ∑ k : Fin 8, p (ix3 k (i 1) (i 2))

/-- The new first moment. -/
def mOut (p : Vec Ideal S8x128x1024 .f32) (a : Vec Ideal S1x128x1024 .f32) : Vec Ideal S1x128x1024 .f32 :=
  fun i => AdamMath.newM (a (i)) (gOut p i)

/-- The new second moment. -/
def vOut (p : Vec Ideal S8x128x1024 .f32) (b : Vec Ideal S1x128x1024 .f32) : Vec Ideal S1x128x1024 .f32 :=
  fun i => AdamMath.newV (b (i)) (gOut p i)

/-- The change of the weight. -/
def dOut (p : Vec Ideal S8x128x1024 .f32) (w a b : Vec Ideal S1x128x1024 .f32) : Vec Ideal S1x128x1024 .f32 :=
  fun i => AdamMath.delta (w (i)) (a (i)) (b (i)) (gOut p i)

variable (m : (ℓ : Loc nD τ sig) → Buf (Elt Ideal) ℓ)

abbrev arg_p (c : Dev nD) : Vec Ideal S8x128x1024 .f32 := m ((c : Thread nD τ).loc main_arg0)
abbrev arg_w (c : Dev nD) : Vec Ideal S1x128x1024 .f32 := m ((c : Thread nD τ).loc main_arg1)
abbrev arg_a (c : Dev nD) : Vec Ideal S1x128x1024 .f32 := m ((c : Thread nD τ).loc main_arg2)
abbrev arg_b (c : Dev nD) : Vec Ideal S1x128x1024 .f32 := m ((c : Thread nD τ).loc main_arg3)

theorem idx : ∀ t : Fin cfg0.N, win0_0.index t = ![0, 0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row at which a grid point works. -/
def row (t : Fin cfg0.N) (p : Fin 128) : Fin 128 := ⟨t.val * 128 + p.val, by have := t.isLt; have : cfg0.N = 1 := rfl; omega⟩

theorem V_p (c : Dev nD) : @Eq (FVec Ideal S8x1x128x1024 .f32) (V m c main_v0) (shapeCast S8x1x128x1024 (arg_p m c) shapeCasts_S8x128x1024_S8x1x128x1024) := by
  unfold_abbrev_sides
  after_results
  rfl

theorem blk_p (c : Dev nD) (t : Fin cfg0.N) (k : Fin 8) (p : Fin 128) (q : Fin 1024) :
    iblk m c 0 t (ix4 k (0 : Fin 1) p q) = arg_p m c (ix3 k (row t p) q) := by
  have h : iblk m c 0 t (ix4 k (0 : Fin 1) p q) = V m c main_v0 (ix4 k (0 : Fin 1) (row t p) q) := by
    blk_point [iblk, idx t, row]
  rw [h, V_p]
  pointwise

theorem blk_w (c : Dev nD) (t : Fin cfg0.N) (p : Fin 128) (q : Fin 1024) :
    iblk m c 1 t (ix3 (0 : Fin 1) p q) = arg_w m c (ix3 (0 : Fin 1) (row t p) q) := by
  blk_point [iblk, V, idx t, row]

theorem blk_a (c : Dev nD) (t : Fin cfg0.N) (p : Fin 128) (q : Fin 1024) :
    iblk m c 2 t (ix3 (0 : Fin 1) p q) = arg_a m c (ix3 (0 : Fin 1) (row t p) q) := by
  blk_point [iblk, V, idx t, row]

theorem blk_b (c : Dev nD) (t : Fin cfg0.N) (p : Fin 128) (q : Fin 1024) :
    iblk m c 3 t (ix3 (0 : Fin 1) p q) = arg_b m c (ix3 (0 : Fin 1) (row t p) q) := by
  blk_point [iblk, V, idx t, row]

/-- The sum of the eight parts at one grid point. -/
theorem pay_g (x0 : Vec Ideal S8x1x128x1024 .f32) (x1 x2 x3 : Vec Ideal S1x128x1024 .f32) (p : Fin 128) (q : Fin 1024) :
    k0_pay5 (F := Ideal) x0 x1 x2 x3 (ix3 (0 : Fin 1) p q) = (∑ k : Fin 8, x0 (ix4 k (0 : Fin 1) p q)) := by
  refine Eq.trans ?_ (AdamMath.sum8 fun k => x0 (ix4 k (0 : Fin 1) p q))
  pointwise [k0_pay5, k0_pay1]

theorem pay_m (g x : Vec Ideal S1x128x1024 .f32) (p : Fin 128) (q : Fin 1024) :
    k0_pay2 (F := Ideal) g x (ix3 (0 : Fin 1) p q) = AdamMath.newM (x (ix3 (0 : Fin 1) p q)) (g (ix3 (0 : Fin 1) p q)) := by
  pointwise [k0_pay2, AdamMath.newM]

theorem pay_v (g x : Vec Ideal S1x128x1024 .f32) (p : Fin 128) (q : Fin 1024) :
    k0_pay3 (F := Ideal) g x (ix3 (0 : Fin 1) p q) = AdamMath.newV (x (ix3 (0 : Fin 1) p q)) (g (ix3 (0 : Fin 1) p q)) := by
  pointwise [k0_pay3, AdamMath.newV]

theorem pay_d (g x y z : Vec Ideal S1x128x1024 .f32) (p : Fin 128) (q : Fin 1024) :
    k0_pay4 (F := Ideal) g y z x (ix3 (0 : Fin 1) p q) =
      AdamMath.delta (x (ix3 (0 : Fin 1) p q)) (y (ix3 (0 : Fin 1) p q)) (z (ix3 (0 : Fin 1) p q)) (g (ix3 (0 : Fin 1) p q)) := by
  pointwise [k0_pay4, k0_pay2, k0_pay3, AdamMath.delta, AdamMath.newM, AdamMath.newV]

theorem emb_g (t : Fin cfg0.N) (p : Fin 128) (q : Fin 1024) :
    ((cfg0.win 4).blk t).view.emb (ix3 (0 : Fin 1) p q) = ix3 (0 : Fin 1) (row t p) q := by
  blk_point [idx t, row]

theorem point_g (c : Dev nD) (t : Fin cfg0.N) (l : Fin 1) (p : Fin 128) (q : Fin 1024) :
    k0_pay5 (F := Ideal) (iblk m c 0 t) (iblk m c 1 t) (iblk m c 2 t) (iblk m c 3 t) (ix3 l p q) = gOut (arg_p m c) (((cfg0.win 4).blk t).view.emb (ix3 l p q)) := by
  obtain rfl : l = 0 := Subsingleton.elim _ _
  rw [emb_g, pay_g]
  simp only [blk_p]
  rfl

theorem final_g (c : Dev nD) : (dats m 0 c).arrAt 4 cfg0.N = gOut (arg_p m c) := by
  refine (dats m 0 c).arrAt_eq_of_covers 4 _ (by decide +kernel) fun t _ y => ?_
  blk_simp
  rw [after0_4]
  frame_out
  idx_vars y
  exact point_g m c t y0 y1 y2

theorem emb_d (t : Fin cfg0.N) (p : Fin 128) (q : Fin 1024) :
    ((cfg0.win 5).blk t).view.emb (ix3 (0 : Fin 1) p q) = ix3 (0 : Fin 1) (row t p) q := by
  blk_point [idx t, row]

theorem point_d (c : Dev nD) (t : Fin cfg0.N) (l : Fin 1) (p : Fin 128) (q : Fin 1024) :
    k0_pay4 (F := Ideal) (k0_pay5 (iblk m c 0 t) (iblk m c 1 t) (iblk m c 2 t) (iblk m c 3 t)) (iblk m c 2 t) (iblk m c 3 t) (iblk m c 1 t) (ix3 l p q) = dOut (arg_p m c) (arg_w m c) (arg_a m c) (arg_b m c) (((cfg0.win 5).blk t).view.emb (ix3 l p q)) := by
  obtain rfl : l = 0 := Subsingleton.elim _ _
  rw [emb_d, pay_d, pay_g]
  simp only [blk_p, blk_w, blk_a, blk_b]
  rfl

theorem final_d (c : Dev nD) : (dats m 0 c).arrAt 5 cfg0.N = dOut (arg_p m c) (arg_w m c) (arg_a m c) (arg_b m c) := by
  refine (dats m 0 c).arrAt_eq_of_covers 5 _ (by decide +kernel) fun t _ y => ?_
  blk_simp
  rw [after0_5]
  frame_out
  idx_vars y
  exact point_d m c t y0 y1 y2

theorem emb_m (t : Fin cfg0.N) (p : Fin 128) (q : Fin 1024) :
    ((cfg0.win 6).blk t).view.emb (ix3 (0 : Fin 1) p q) = ix3 (0 : Fin 1) (row t p) q := by
  blk_point [idx t, row]

theorem point_m (c : Dev nD) (t : Fin cfg0.N) (l : Fin 1) (p : Fin 128) (q : Fin 1024) :
    k0_pay2 (F := Ideal) (k0_pay5 (iblk m c 0 t) (iblk m c 1 t) (iblk m c 2 t) (iblk m c 3 t)) (iblk m c 2 t) (ix3 l p q) = mOut (arg_p m c) (arg_a m c) (((cfg0.win 6).blk t).view.emb (ix3 l p q)) := by
  obtain rfl : l = 0 := Subsingleton.elim _ _
  rw [emb_m, pay_m, pay_g]
  simp only [blk_p, blk_a]
  rfl

theorem final_m (c : Dev nD) : (dats m 0 c).arrAt 6 cfg0.N = mOut (arg_p m c) (arg_a m c) := by
  refine (dats m 0 c).arrAt_eq_of_covers 6 _ (by decide +kernel) fun t _ y => ?_
  blk_simp
  rw [after0_6]
  frame_out
  idx_vars y
  exact point_m m c t y0 y1 y2

theorem emb_v (t : Fin cfg0.N) (p : Fin 128) (q : Fin 1024) :
    ((cfg0.win 7).blk t).view.emb (ix3 (0 : Fin 1) p q) = ix3 (0 : Fin 1) (row t p) q := by
  blk_point [idx t, row]

theorem point_v (c : Dev nD) (t : Fin cfg0.N) (l : Fin 1) (p : Fin 128) (q : Fin 1024) :
    k0_pay3 (F := Ideal) (k0_pay5 (iblk m c 0 t) (iblk m c 1 t) (iblk m c 2 t) (iblk m c 3 t)) (iblk m c 3 t) (ix3 l p q) = vOut (arg_p m c) (arg_b m c) (((cfg0.win 7).blk t).view.emb (ix3 l p q)) := by
  obtain rfl : l = 0 := Subsingleton.elim _ _
  rw [emb_v, pay_v, pay_g]
  simp only [blk_p, blk_b]
  rfl

theorem final_v (c : Dev nD) : (dats m 0 c).arrAt 7 cfg0.N = vOut (arg_p m c) (arg_b m c) := by
  refine (dats m 0 c).arrAt_eq_of_covers 7 _ (by decide +kernel) fun t _ y => ?_
  blk_simp
  rw [after0_7]
  frame_out
  idx_vars y
  exact point_v m c t y0 y1 y2

end Cert.AdamCOutIdeal.Value

namespace Cert.AdamCOutSpecIdeal.Value

open Cert.AdamCOutSpecIdeal Cert.AdamCOutSpecIdeal.Gen

/-- The sum of the parts, laid out as the weight is. -/
abbrev rG (p : Vec Ideal S8x128x1024 .f32) : FVec Ideal S1x128x1024 .f32 := broadcastInDim S1x128x1024 ![1, 2] bcast_S128x1024_S1x128x1024_1_2 (Host.reduceAdd p (constant S_ .f32 0x00000000#32) reducesTo_S8x128x1024_S128x1024_d0 h_S_)

/-- The reference's new first moment. -/
abbrev rM (p : Vec Ideal S8x128x1024 .f32) (a : Vec Ideal S1x128x1024 .f32) : FVec Ideal S1x128x1024 .f32 :=
  addf (mulf (broadcastInDim S1x128x1024 ![] bcast_S_S1x128x1024 (constant S_ .f32 0x3F666666#32)) a) (mulf (broadcastInDim S1x128x1024 ![] bcast_S_S1x128x1024 (constant S_ .f32 0x3DCCCCCD#32)) (rG p))

/-- The reference's new second moment. -/
abbrev rV (p : Vec Ideal S8x128x1024 .f32) (b : Vec Ideal S1x128x1024 .f32) : FVec Ideal S1x128x1024 .f32 :=
  addf (mulf (broadcastInDim S1x128x1024 ![] bcast_S_S1x128x1024 (constant S_ .f32 0x3F7FBE77#32)) b) (mulf (broadcastInDim S1x128x1024 ![] bcast_S_S1x128x1024 (constant S_ .f32 0x3A83126F#32)) (mulf (rG p) (rG p)))

/-- The reference's change of the weight. -/
abbrev rD (p : Vec Ideal S8x128x1024 .f32) (w a b : Vec Ideal S1x128x1024 .f32) : FVec Ideal S1x128x1024 .f32 :=
  mulf (broadcastInDim S1x128x1024 ![] bcast_S_S1x128x1024 (constant S_ .f32 0xBA83126F#32)) (addf (Host.divf (Host.divf (rM p a) (broadcastInDim S1x128x1024 ![] bcast_S_S1x128x1024 (constant S_ .f32 0x3F26BD02#32))) (addf (Host.sqrt (Host.divf (rV p b) (broadcastInDim S1x128x1024 ![] bcast_S_S1x128x1024 (constant S_ .f32 0x3C231ACC#32)))) (broadcastInDim S1x128x1024 ![] bcast_S_S1x128x1024 (constant S_ .f32 0x322BCC77#32)))) (mulf (broadcastInDim S1x128x1024 ![] bcast_S_S1x128x1024 (constant S_ .f32 0x3C23D70A#32)) w))

theorem rG_at (p : Vec Ideal S8x128x1024 .f32) (l : Fin 1) (y : Fin 128) (z : Fin 1024) : rG p (ix3 l y z) = Cert.AdamCOutIdeal.Value.gOut p (ix3 l y z) := by
  pointwise [Cert.AdamCOutIdeal.Value.gOut]

theorem spec_g (p : Vec Ideal S8x128x1024 .f32) : rG p = Cert.AdamCOutIdeal.Value.gOut p := by
  funext i
  idx_vars i
  pointwise [Cert.AdamCOutIdeal.Value.gOut]

theorem spec_m (p : Vec Ideal S8x128x1024 .f32) (a : Vec Ideal S1x128x1024 .f32) : rM p a = Cert.AdamCOutIdeal.Value.mOut p a := by
  funext i
  idx_vars i
  have h := rG_at p i0 i1 i2
  pointwise [Cert.AdamCOutIdeal.Value.mOut, Cert.AdamCOutIdeal.Value.gOut, AdamMath.newM]

theorem spec_v (p : Vec Ideal S8x128x1024 .f32) (b : Vec Ideal S1x128x1024 .f32) : rV p b = Cert.AdamCOutIdeal.Value.vOut p b := by
  funext i
  idx_vars i
  pointwise [Cert.AdamCOutIdeal.Value.vOut, Cert.AdamCOutIdeal.Value.gOut, AdamMath.newV]

theorem spec_d (p : Vec Ideal S8x128x1024 .f32) (w a b : Vec Ideal S1x128x1024 .f32) : rD p w a b = Cert.AdamCOutIdeal.Value.dOut p w a b := by
  funext i
  idx_vars i
  pointwise [Cert.AdamCOutIdeal.Value.dOut, Cert.AdamCOutIdeal.Value.gOut, AdamMath.delta, AdamMath.newM, AdamMath.newV]

end Cert.AdamCOutSpecIdeal.Value

namespace Cert.AdamCOutClaim

open Cert.AdamCOutIdeal.Value

theorem specFrame : Cert.quiescent_AdamCOutSpecIdeal := fun m g _ =>
  (θ_run _ _ _).mono (fun r h => ⟨fun c => (h c).2.2.2.2, sem_eq_zero_of_no_sems (by decide) r.2⟩) (Cert.AdamCOutSpecIdeal.Value.run m g)

theorem value : Cert.algebraic_AdamCOutIdeal_AdamCOutSpecIdeal := by
  intro m g m' g' _ hargs
  refine ⟨fun c => gOut (arg_p m c), fun c => dOut (arg_p m c) (arg_w m c) (arg_a m c) (arg_b m c),
    fun c => mOut (arg_p m c) (arg_a m c), fun c => vOut (arg_p m c) (arg_b m c), ?_, ?_⟩
  · refine (θ_run _ _ _).mono (fun r h c => ?_) (Cert.AdamCOutIdeal.Value.run_blocks m g)
    obtain ⟨h0, h1, h2, h3, hk⟩ := h c
    exact ⟨h0.trans (final_g m c), h1.trans (final_d m c), h2.trans (final_m m c), h3.trans (final_v m c), hk⟩
  · refine (θ_run _ _ _).mono (fun r h c => ?_) (Cert.AdamCOutSpecIdeal.Value.run m' g')
    obtain ⟨a0, a1, a2, a3⟩ := hargs c
    obtain ⟨h0, h1, h2, h3, hk⟩ := h c
    refine ⟨h0.trans ?_, h1.trans ?_, h2.trans ?_, h3.trans ?_, hk⟩
    · rw [a0]
      exact Cert.AdamCOutSpecIdeal.Value.spec_g _
    · rw [a0, a1, a2, a3]
      exact Cert.AdamCOutSpecIdeal.Value.spec_d _ _ _ _
    · rw [a0, a2]
      exact Cert.AdamCOutSpecIdeal.Value.spec_m _ _
    · rw [a0, a3]
      exact Cert.AdamCOutSpecIdeal.Value.spec_v _ _

end Cert.AdamCOutClaim

end
-- ==== Proof.AdamXaWq.lean ====
module

public import proofs.«01_k».proof.Proof.Gen.AdamXaWqIdeal.Frame
public import proofs.«01_k».proof.Proof.Gen.AdamXaWqSpecIdeal.Run
public import proofs.«01_k».proof.Proof.Gen.AdamXaWq.Frame
public import Idealize.ShloMosaic.Lib.Pipeline.ValueKit
public import Idealize.ShloMosaic.Lib.Pipeline.ReadBack
public import Idealize.ShloMosaic.Lib.Claim
public import proofs.«01_k».proof.Proof.AdamMath

/-! The optimiser's step for one weight of both layers, one call a layer, the second writing into the first's results: the sums of the eight
    devices' parts of the gradients, then AdamW. -/

@[expose] public section

set_option maxRecDepth 16384

noncomputable section

open Idealize.ShloMosaic Idealize.ShloMosaic.TcCoe Idealize.SL.Sem
open Idealize.ShloMosaic.Pipeline (Dat)

namespace Cert.AdamXaWqIdeal.Value

open Cert.AdamXaWqIdeal Cert.AdamXaWqIdeal.Gen

/-- The gradient: for each of the two layers the sum of the parts of the eight devices. -/
def gOut (p0 p1 : Vec Ideal S8x128x512 .f32) : Vec Ideal S2x128x512 .f32 :=
  fun i => if (i 0).val = 0 then ∑ k : Fin 8, p0 (ix3 k (i 1) (i 2)) else ∑ k : Fin 8, p1 (ix3 k (i 1) (i 2))

/-- The new first moment. -/
def mOut (p0 p1 : Vec Ideal S8x128x512 .f32) (a : Vec Ideal S2x128x512 .f32) : Vec Ideal S2x128x512 .f32 :=
  fun i => AdamMath.newM (a (i)) (gOut p0 p1 i)

/-- The new second moment. -/
def vOut (p0 p1 : Vec Ideal S8x128x512 .f32) (b : Vec Ideal S2x128x512 .f32) : Vec Ideal S2x128x512 .f32 :=
  fun i => AdamMath.newV (b (i)) (gOut p0 p1 i)

/-- The change of the weight. -/
def dOut (p0 p1 : Vec Ideal S8x128x512 .f32) (w a b : Vec Ideal S2x128x512 .f32) : Vec Ideal S2x128x512 .f32 :=
  fun i => AdamMath.delta (w (i)) (a (i)) (b (i)) (gOut p0 p1 i)

theorem gOut_0 (p0 p1 : Vec Ideal S8x128x512 .f32) (y : Fin 128) (z : Fin 512) : gOut p0 p1 (ix3 (0 : Fin 2) y z) = ∑ k : Fin 8, p0 (ix3 k y z) := if_pos rfl

theorem gOut_1 (p0 p1 : Vec Ideal S8x128x512 .f32) (y : Fin 128) (z : Fin 512) : gOut p0 p1 (ix3 (1 : Fin 2) y z) = ∑ k : Fin 8, p1 (ix3 k y z) :=
  if_neg (fun h => absurd (show (1 : ℕ) = 0 from h) one_ne_zero)

section Values

variable (m : (ℓ : Loc nD τ sig) → Buf (Elt Ideal) ℓ) (ρ : Dev nD → PrngReg)
variable (V : (c : Dev nD) → (b : Ref sig .tc) → Buf (Elt Ideal) ((c : Thread nD τ).loc b))

abbrev arg_p0 (c : Dev nD) : Vec Ideal S8x128x512 .f32 := m ((c : Thread nD τ).loc main_arg0)
abbrev arg_p1 (c : Dev nD) : Vec Ideal S8x128x512 .f32 := m ((c : Thread nD τ).loc main_arg1)
abbrev arg_w (c : Dev nD) : Vec Ideal S2x128x512 .f32 := m ((c : Thread nD τ).loc main_arg2)
abbrev arg_a (c : Dev nD) : Vec Ideal S2x128x512 .f32 := m ((c : Thread nD τ).loc main_arg3)
abbrev arg_b (c : Dev nD) : Vec Ideal S2x128x512 .f32 := m ((c : Thread nD τ).loc main_arg4)

theorem idx0 : ∀ t : Fin cfg0.N, win0_0.index t = ![0, 0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row at which a grid point of call 0 works. -/
def row0 (t : Fin cfg0.N) (p : Fin 128) : Fin 128 := ⟨t.val * 128 + p.val, by have := t.isLt; have : cfg0.N = 1 := rfl; omega⟩

theorem idx1 : ∀ t : Fin cfg1.N, win1_0.index t = ![0, 0, t.val, 0] ∧ win1_1.index t = ![1, t.val, 0] ∧ win1_2.index t = ![1, t.val, 0] ∧ win1_3.index t = ![1, t.val, 0] ∧ win1_4.index t = ![1, t.val, 0] ∧ win1_5.index t = ![1, t.val, 0] ∧ win1_6.index t = ![1, t.val, 0] ∧ win1_7.index t = ![1, t.val, 0] :=
  (by decide +kernel : ∀ t : Fin grid1.N, _)

/-- The row at which a grid point of call 1 works. -/
def row1 (t : Fin cfg1.N) (p : Fin 128) : Fin 128 := ⟨t.val * 128 + p.val, by have := t.isLt; have : cfg1.N = 1 := rfl; omega⟩

theorem V1_p (c : Dev nD) : @Eq (FVec Ideal S8x1x128x512 .f32) (V1 m ρ c main_v0) (shapeCast S8x1x128x512 (arg_p0 m c) shapeCasts_S8x128x512_S8x1x128x512) := by
  unfold_abbrev_sides
  after_results
  rfl

theorem V3_p (c : Dev nD) : @Eq (FVec Ideal S8x1x128x512 .f32) (V3 m ρ c main_v2) (shapeCast S8x1x128x512 (arg_p1 m c) shapeCasts_S8x128x512_S8x1x128x512) := by
  have h : @Eq (FVec Ideal S8x1x128x512 .f32) (V3 m ρ c main_v2) (shapeCast S8x1x128x512 (show Vec Ideal S8x128x512 .f32 from W2 m ρ c (Proc.devRef .tc main_arg1)) shapeCasts_S8x128x512_S8x1x128x512) := by
    unfold_abbrev_sides
    after_results
    rfl
  rw [h, W2_args m ρ c main_arg1 (by decide)]

theorem V1_w (c : Dev nD) : @Eq (FVec Ideal S2x128x512 .f32) (V1 m ρ c main_arg2) (arg_w m c) := W1_args m ρ c main_arg2 (by decide)

theorem V3_w (c : Dev nD) : @Eq (FVec Ideal S2x128x512 .f32) (V3 m ρ c main_arg2) (arg_w m c) := W3_args m ρ c main_arg2 (by decide)

theorem V1_a (c : Dev nD) : @Eq (FVec Ideal S2x128x512 .f32) (V1 m ρ c main_arg3) (arg_a m c) := W1_args m ρ c main_arg3 (by decide)

theorem V3_a (c : Dev nD) : @Eq (FVec Ideal S2x128x512 .f32) (V3 m ρ c main_arg3) (arg_a m c) := W3_args m ρ c main_arg3 (by decide)

theorem V1_b (c : Dev nD) : @Eq (FVec Ideal S2x128x512 .f32) (V1 m ρ c main_arg4) (arg_b m c) := W1_args m ρ c main_arg4 (by decide)

theorem V3_b (c : Dev nD) : @Eq (FVec Ideal S2x128x512 .f32) (V3 m ρ c main_arg4) (arg_b m c) := W3_args m ρ c main_arg4 (by decide)

theorem blk0_p (c : Dev nD) (t : Fin cfg0.N) (k : Fin 8) (p : Fin 128) (q : Fin 512) :
    iblk0 (V1 m ρ) c 0 t (ix4 k (0 : Fin 1) p q) = arg_p0 m c (ix3 k (row0 t p) q) := by
  have h : iblk0 (V1 m ρ) c 0 t (ix4 k (0 : Fin 1) p q) = V1 m ρ c main_v0 (ix4 k (0 : Fin 1) (row0 t p) q) := by
    generalize V1 m ρ = V
    blk_point [iblk0, idx0 t, row0]
  rw [h, V1_p]
  pointwise

theorem blk0_w (c : Dev nD) (t : Fin cfg0.N) (p : Fin 128) (q : Fin 512) :
    iblk0 (V1 m ρ) c 1 t (ix3 (0 : Fin 1) p q) = arg_w m c (ix3 (0 : Fin 2) (row0 t p) q) := by
  have h : iblk0 (V1 m ρ) c 1 t (ix3 (0 : Fin 1) p q) = V1 m ρ c main_arg2 (ix3 (0 : Fin 2) (row0 t p) q) := by
    generalize V1 m ρ = V
    blk_point [iblk0, idx0 t, row0]
  rw [h, V1_w]

theorem blk0_a (c : Dev nD) (t : Fin cfg0.N) (p : Fin 128) (q : Fin 512) :
    iblk0 (V1 m ρ) c 2 t (ix3 (0 : Fin 1) p q) = arg_a m c (ix3 (0 : Fin 2) (row0 t p) q) := by
  have h : iblk0 (V1 m ρ) c 2 t (ix3 (0 : Fin 1) p q) = V1 m ρ c main_arg3 (ix3 (0 : Fin 2) (row0 t p) q) := by
    generalize V1 m ρ = V
    blk_point [iblk0, idx0 t, row0]
  rw [h, V1_a]

theorem blk0_b (c : Dev nD) (t : Fin cfg0.N) (p : Fin 128) (q : Fin 512) :
    iblk0 (V1 m ρ) c 3 t (ix3 (0 : Fin 1) p q) = arg_b m c (ix3 (0 : Fin 2) (row0 t p) q) := by
  have h : iblk0 (V1 m ρ) c 3 t (ix3 (0 : Fin 1) p q) = V1 m ρ c main_arg4 (ix3 (0 : Fin 2) (row0 t p) q) := by
    generalize V1 m ρ = V
    blk_point [iblk0, idx0 t, row0]
  rw [h, V1_b]

theorem blk1_p (c : Dev nD) (t : Fin cfg1.N) (k : Fin 8) (p : Fin 128) (q : Fin 512) :
    iblk1 (V3 m ρ) c 0 t (ix4 k (0 : Fin 1) p q) = arg_p1 m c (ix3 k (row1 t p) q) := by
  have h : iblk1 (V3 m ρ) c 0 t (ix4 k (0 : Fin 1) p q) = V3 m ρ c main_v2 (ix4 k (0 : Fin 1) (row1 t p) q) := by
    generalize V3 m ρ = V
    blk_point [iblk1, idx1 t, row1]
  rw [h, V3_p]
  pointwise

theorem blk1_w (c : Dev nD) (t : Fin cfg1.N) (p : Fin 128) (q : Fin 512) :
    iblk1 (V3 m ρ) c 1 t (ix3 (0 : Fin 1) p q) = arg_w m c (ix3 (1 : Fin 2) (row1 t p) q) := by
  have h : iblk1 (V3 m ρ) c 1 t (ix3 (0 : Fin 1) p q) = V3 m ρ c main_arg2 (ix3 (1 : Fin 2) (row1 t p) q) := by
    generalize V3 m ρ = V
    blk_point [iblk1, idx1 t, row1]
  rw [h, V3_w]

theorem blk1_a (c : Dev nD) (t : Fin cfg1.N) (p : Fin 128) (q : Fin 512) :
    iblk1 (V3 m ρ) c 2 t (ix3 (0 : Fin 1) p q) = arg_a m c (ix3 (1 : Fin 2) (row1 t p) q) := by
  have h : iblk1 (V3 m ρ) c 2 t (ix3 (0 : Fin 1) p q) = V3 m ρ c main_arg3 (ix3 (1 : Fin 2) (row1 t p) q) := by
    generalize V3 m ρ = V
    blk_point [iblk1, idx1 t, row1]
  rw [h, V3_a]

theorem blk1_b (c : Dev nD) (t : Fin cfg1.N) (p : Fin 128) (q : Fin 512) :
    iblk1 (V3 m ρ) c 3 t (ix3 (0 : Fin 1) p q) = arg_b m c (ix3 (1 : Fin 2) (row1 t p) q) := by
  have h : iblk1 (V3 m ρ) c 3 t (ix3 (0 : Fin 1) p q) = V3 m ρ c main_arg4 (ix3 (1 : Fin 2) (row1 t p) q) := by
    generalize V3 m ρ = V
    blk_point [iblk1, idx1 t, row1]
  rw [h, V3_b]

/-- The sum of the eight parts at one grid point of call 0. -/
theorem pay0_g (x0 : Vec Ideal S8x1x128x512 .f32) (x1 x2 x3 : Vec Ideal S1x128x512 .f32) (p : Fin 128) (q : Fin 512) :
    k0_pay5 (F := Ideal) x0 x1 x2 x3 (ix3 (0 : Fin 1) p q) = ∑ k : Fin 8, x0 (ix4 k (0 : Fin 1) p q) := by
  refine Eq.trans ?_ (AdamMath.sum8 fun k => x0 (ix4 k (0 : Fin 1) p q))
  pointwise [k0_pay5, k0_pay1]

theorem pay0_m (g x : Vec Ideal S1x128x512 .f32) (p : Fin 128) (q : Fin 512) :
    k0_pay2 (F := Ideal) g x (ix3 (0 : Fin 1) p q) = AdamMath.newM (x (ix3 (0 : Fin 1) p q)) (g (ix3 (0 : Fin 1) p q)) := by
  pointwise [k0_pay2, AdamMath.newM]

theorem pay0_v (g x : Vec Ideal S1x128x512 .f32) (p : Fin 128) (q : Fin 512) :
    k0_pay3 (F := Ideal) g x (ix3 (0 : Fin 1) p q) = AdamMath.newV (x (ix3 (0 : Fin 1) p q)) (g (ix3 (0 : Fin 1) p q)) := by
  pointwise [k0_pay3, AdamMath.newV]

theorem pay0_d (g x y z : Vec Ideal S1x128x512 .f32) (p : Fin 128) (q : Fin 512) :
    k0_pay4 (F := Ideal) g y z x (ix3 (0 : Fin 1) p q) = AdamMath.delta (x (ix3 (0 : Fin 1) p q)) (y (ix3 (0 : Fin 1) p q)) (z (ix3 (0 : Fin 1) p q)) (g (ix3 (0 : Fin 1) p q)) := by
  pointwise [k0_pay4, k0_pay2, k0_pay3, AdamMath.delta, AdamMath.newM, AdamMath.newV]

/-- The sum of the eight parts at one grid point of call 1. -/
theorem pay1_g (x0 : Vec Ideal S8x1x128x512 .f32) (p : Fin 128) (q : Fin 512) :
    k1_pay1 (F := Ideal) (View.ld x0 r0_0) (View.ld x0 r0_1) (View.ld x0 r0_2) (View.ld x0 r0_3) (View.ld x0 r0_4) (View.ld x0 r0_5) (View.ld x0 r0_6) (View.ld x0 r0_7) (ix3 (0 : Fin 1) p q) = ∑ k : Fin 8, x0 (ix4 k (0 : Fin 1) p q) := by
  refine Eq.trans ?_ (AdamMath.sum8 fun k => x0 (ix4 k (0 : Fin 1) p q))
  pointwise [k1_pay1]

theorem pay1_m (g x : Vec Ideal S1x128x512 .f32) (p : Fin 128) (q : Fin 512) :
    k1_pay2 (F := Ideal) g x (ix3 (0 : Fin 1) p q) = AdamMath.newM (x (ix3 (0 : Fin 1) p q)) (g (ix3 (0 : Fin 1) p q)) := by
  pointwise [k1_pay2, AdamMath.newM]

theorem pay1_v (g x : Vec Ideal S1x128x512 .f32) (p : Fin 128) (q : Fin 512) :
    k1_pay3 (F := Ideal) g x (ix3 (0 : Fin 1) p q) = AdamMath.newV (x (ix3 (0 : Fin 1) p q)) (g (ix3 (0 : Fin 1) p q)) := by
  pointwise [k1_pay3, AdamMath.newV]

theorem pay1_d (g x y z : Vec Ideal S1x128x512 .f32) (p : Fin 128) (q : Fin 512) :
    k1_pay4 (F := Ideal) g y z x (ix3 (0 : Fin 1) p q) = AdamMath.delta (x (ix3 (0 : Fin 1) p q)) (y (ix3 (0 : Fin 1) p q)) (z (ix3 (0 : Fin 1) p q)) (g (ix3 (0 : Fin 1) p q)) := by
  pointwise [k1_pay4, k1_pay2, k1_pay3, AdamMath.delta, AdamMath.newM, AdamMath.newV]

theorem sum0 (c : Dev nD) (t : Fin cfg0.N) (p : Fin 128) (q : Fin 512) :
    k0_pay5 (F := Ideal) (iblk0 (V1 m ρ) c 0 t) (iblk0 (V1 m ρ) c 1 t) (iblk0 (V1 m ρ) c 2 t) (iblk0 (V1 m ρ) c 3 t) (ix3 (0 : Fin 1) p q) = ∑ k : Fin 8, arg_p0 m c (ix3 k (row0 t p) q) :=
  (pay0_g (iblk0 (V1 m ρ) c 0 t) (iblk0 (V1 m ρ) c 1 t) (iblk0 (V1 m ρ) c 2 t) (iblk0 (V1 m ρ) c 3 t) p q).trans (Finset.sum_congr rfl fun k _ => blk0_p m ρ c t k p q)

theorem emb0_g (t : Fin cfg0.N) (p : Fin 128) (q : Fin 512) :
    ((cfg0.win 4).blk t).view.emb (ix3 (0 : Fin 1) p q) = ix3 (0 : Fin 2) (row0 t p) q := by
  blk_point [idx0 t, row0]

theorem point0_g (c : Dev nD) (t : Fin cfg0.N) (l : Fin 1) (p : Fin 128) (q : Fin 512) :
    k0_pay5 (F := Ideal) (iblk0 (V1 m ρ) c 0 t) (iblk0 (V1 m ρ) c 1 t) (iblk0 (V1 m ρ) c 2 t) (iblk0 (V1 m ρ) c 3 t) (ix3 l p q) = gOut (arg_p0 m c) (arg_p1 m c) (((cfg0.win 4).blk t).view.emb (ix3 l p q)) := by
  obtain rfl : l = 0 := Subsingleton.elim _ _
  rw [emb0_g, sum0]
  show _ = gOut (arg_p0 m c) (arg_p1 m c) (ix3 (0 : Fin 2) (row0 t p) q)
  rw [gOut_0]

theorem reg0_g (c : Dev nD) : (dat0 (V1 m ρ) c).arrAt 4 cfg0.N =
    fun i => if (i (0 : Fin 3)).val = 0 then gOut (arg_p0 m c) (arg_p1 m c) i else (dat0 (V1 m ρ) c).A 4 i := by
  refine (dat0 (V1 m ρ) c).arrAt_eq_of_coversWhere 4 (gOut (arg_p0 m c) (arg_p1 m c)) (fun β => β (0 : Fin 3) = 0) (by decide +kernel) (fun t hf y => ?_)
    (fun j => by blk_simp [Pipeline.Window.cell_apply]; omega)
  blk_simp
  rw [after0_4]
  frame_out
  idx_vars y
  exact point0_g m ρ c t y0 y1 y2

theorem emb0_d (t : Fin cfg0.N) (p : Fin 128) (q : Fin 512) :
    ((cfg0.win 5).blk t).view.emb (ix3 (0 : Fin 1) p q) = ix3 (0 : Fin 2) (row0 t p) q := by
  blk_point [idx0 t, row0]

theorem point0_d (c : Dev nD) (t : Fin cfg0.N) (l : Fin 1) (p : Fin 128) (q : Fin 512) :
    k0_pay4 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 2 t) (iblk0 (V1 m ρ) c 3 t) (iblk0 (V1 m ρ) c 1 t) (ix3 l p q) = dOut (arg_p0 m c) (arg_p1 m c) (arg_w m c) (arg_a m c) (arg_b m c) (((cfg0.win 5).blk t).view.emb (ix3 l p q)) := by
  obtain rfl : l = 0 := Subsingleton.elim _ _
  rw [emb0_d, pay0_d, sum0]
  show _ = AdamMath.delta (arg_w m c (ix3 (0 : Fin 2) (row0 t p) q)) (arg_a m c (ix3 (0 : Fin 2) (row0 t p) q)) (arg_b m c (ix3 (0 : Fin 2) (row0 t p) q)) (gOut (arg_p0 m c) (arg_p1 m c) (ix3 (0 : Fin 2) (row0 t p) q))
  rw [gOut_0]
  simp only [blk0_w, blk0_a, blk0_b]

theorem reg0_d (c : Dev nD) : (dat0 (V1 m ρ) c).arrAt 5 cfg0.N =
    fun i => if (i (0 : Fin 3)).val = 0 then dOut (arg_p0 m c) (arg_p1 m c) (arg_w m c) (arg_a m c) (arg_b m c) i else (dat0 (V1 m ρ) c).A 5 i := by
  refine (dat0 (V1 m ρ) c).arrAt_eq_of_coversWhere 5 (dOut (arg_p0 m c) (arg_p1 m c) (arg_w m c) (arg_a m c) (arg_b m c)) (fun β => β (0 : Fin 3) = 0) (by decide +kernel) (fun t hf y => ?_)
    (fun j => by blk_simp [Pipeline.Window.cell_apply]; omega)
  blk_simp
  rw [after0_5]
  frame_out
  idx_vars y
  exact point0_d m ρ c t y0 y1 y2

theorem emb0_m (t : Fin cfg0.N) (p : Fin 128) (q : Fin 512) :
    ((cfg0.win 6).blk t).view.emb (ix3 (0 : Fin 1) p q) = ix3 (0 : Fin 2) (row0 t p) q := by
  blk_point [idx0 t, row0]

theorem point0_m (c : Dev nD) (t : Fin cfg0.N) (l : Fin 1) (p : Fin 128) (q : Fin 512) :
    k0_pay2 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 2 t) (ix3 l p q) = mOut (arg_p0 m c) (arg_p1 m c) (arg_a m c) (((cfg0.win 6).blk t).view.emb (ix3 l p q)) := by
  obtain rfl : l = 0 := Subsingleton.elim _ _
  rw [emb0_m, pay0_m, sum0]
  show _ = AdamMath.newM (arg_a m c (ix3 (0 : Fin 2) (row0 t p) q)) (gOut (arg_p0 m c) (arg_p1 m c) (ix3 (0 : Fin 2) (row0 t p) q))
  rw [gOut_0]
  simp only [blk0_a]

theorem reg0_m (c : Dev nD) : (dat0 (V1 m ρ) c).arrAt 6 cfg0.N =
    fun i => if (i (0 : Fin 3)).val = 0 then mOut (arg_p0 m c) (arg_p1 m c) (arg_a m c) i else (dat0 (V1 m ρ) c).A 6 i := by
  refine (dat0 (V1 m ρ) c).arrAt_eq_of_coversWhere 6 (mOut (arg_p0 m c) (arg_p1 m c) (arg_a m c)) (fun β => β (0 : Fin 3) = 0) (by decide +kernel) (fun t hf y => ?_)
    (fun j => by blk_simp [Pipeline.Window.cell_apply]; omega)
  blk_simp
  rw [after0_6]
  frame_out
  idx_vars y
  exact point0_m m ρ c t y0 y1 y2

theorem emb0_v (t : Fin cfg0.N) (p : Fin 128) (q : Fin 512) :
    ((cfg0.win 7).blk t).view.emb (ix3 (0 : Fin 1) p q) = ix3 (0 : Fin 2) (row0 t p) q := by
  blk_point [idx0 t, row0]

theorem point0_v (c : Dev nD) (t : Fin cfg0.N) (l : Fin 1) (p : Fin 128) (q : Fin 512) :
    k0_pay3 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 3 t) (ix3 l p q) = vOut (arg_p0 m c) (arg_p1 m c) (arg_b m c) (((cfg0.win 7).blk t).view.emb (ix3 l p q)) := by
  obtain rfl : l = 0 := Subsingleton.elim _ _
  rw [emb0_v, pay0_v, sum0]
  show _ = AdamMath.newV (arg_b m c (ix3 (0 : Fin 2) (row0 t p) q)) (gOut (arg_p0 m c) (arg_p1 m c) (ix3 (0 : Fin 2) (row0 t p) q))
  rw [gOut_0]
  simp only [blk0_b]

theorem reg0_v (c : Dev nD) : (dat0 (V1 m ρ) c).arrAt 7 cfg0.N =
    fun i => if (i (0 : Fin 3)).val = 0 then vOut (arg_p0 m c) (arg_p1 m c) (arg_b m c) i else (dat0 (V1 m ρ) c).A 7 i := by
  refine (dat0 (V1 m ρ) c).arrAt_eq_of_coversWhere 7 (vOut (arg_p0 m c) (arg_p1 m c) (arg_b m c)) (fun β => β (0 : Fin 3) = 0) (by decide +kernel) (fun t hf y => ?_)
    (fun j => by blk_simp [Pipeline.Window.cell_apply]; omega)
  blk_simp
  rw [after0_7]
  frame_out
  idx_vars y
  exact point0_v m ρ c t y0 y1 y2

theorem sum1 (c : Dev nD) (t : Fin cfg1.N) (p : Fin 128) (q : Fin 512) :
    k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7) (ix3 (0 : Fin 1) p q) = ∑ k : Fin 8, arg_p1 m c (ix3 k (row1 t p) q) :=
  (pay1_g (iblk1 (V3 m ρ) c 0 t)  p q).trans (Finset.sum_congr rfl fun k _ => blk1_p m ρ c t k p q)

theorem emb1_g (t : Fin cfg1.N) (p : Fin 128) (q : Fin 512) :
    ((cfg1.win 4).blk t).view.emb (ix3 (0 : Fin 1) p q) = ix3 (1 : Fin 2) (row1 t p) q := by
  blk_point [idx1 t, row1]

theorem point1_g (c : Dev nD) (t : Fin cfg1.N) (l : Fin 1) (p : Fin 128) (q : Fin 512) :
    k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7) (ix3 l p q) = gOut (arg_p0 m c) (arg_p1 m c) (((cfg1.win 4).blk t).view.emb (ix3 l p q)) := by
  obtain rfl : l = 0 := Subsingleton.elim _ _
  rw [emb1_g, sum1]
  show _ = gOut (arg_p0 m c) (arg_p1 m c) (ix3 (1 : Fin 2) (row1 t p) q)
  rw [gOut_1]

theorem reg1_g (c : Dev nD) : (dat1 (V3 m ρ) c).arrAt 4 cfg1.N =
    fun i => if (i (0 : Fin 3)).val = 1 then gOut (arg_p0 m c) (arg_p1 m c) i else (dat1 (V3 m ρ) c).A 4 i := by
  refine (dat1 (V3 m ρ) c).arrAt_eq_of_coversWhere 4 (gOut (arg_p0 m c) (arg_p1 m c)) (fun β => β (0 : Fin 3) = 1) (by decide +kernel) (fun t hf y => ?_)
    (fun j => by blk_simp [Pipeline.Window.cell_apply]; omega)
  blk_simp
  rw [after1_4]
  unfold outsAt1
  frame_out
  idx_vars y
  exact point1_g m ρ c t y0 y1 y2

theorem emb1_d (t : Fin cfg1.N) (p : Fin 128) (q : Fin 512) :
    ((cfg1.win 5).blk t).view.emb (ix3 (0 : Fin 1) p q) = ix3 (1 : Fin 2) (row1 t p) q := by
  blk_point [idx1 t, row1]

theorem point1_d (c : Dev nD) (t : Fin cfg1.N) (l : Fin 1) (p : Fin 128) (q : Fin 512) :
    k1_pay4 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 2 t) (iblk1 (V3 m ρ) c 3 t) (iblk1 (V3 m ρ) c 1 t) (ix3 l p q) = dOut (arg_p0 m c) (arg_p1 m c) (arg_w m c) (arg_a m c) (arg_b m c) (((cfg1.win 5).blk t).view.emb (ix3 l p q)) := by
  obtain rfl : l = 0 := Subsingleton.elim _ _
  rw [emb1_d, pay1_d, sum1]
  show _ = AdamMath.delta (arg_w m c (ix3 (1 : Fin 2) (row1 t p) q)) (arg_a m c (ix3 (1 : Fin 2) (row1 t p) q)) (arg_b m c (ix3 (1 : Fin 2) (row1 t p) q)) (gOut (arg_p0 m c) (arg_p1 m c) (ix3 (1 : Fin 2) (row1 t p) q))
  rw [gOut_1]
  simp only [blk1_w, blk1_a, blk1_b]

theorem reg1_d (c : Dev nD) : (dat1 (V3 m ρ) c).arrAt 5 cfg1.N =
    fun i => if (i (0 : Fin 3)).val = 1 then dOut (arg_p0 m c) (arg_p1 m c) (arg_w m c) (arg_a m c) (arg_b m c) i else (dat1 (V3 m ρ) c).A 5 i := by
  refine (dat1 (V3 m ρ) c).arrAt_eq_of_coversWhere 5 (dOut (arg_p0 m c) (arg_p1 m c) (arg_w m c) (arg_a m c) (arg_b m c)) (fun β => β (0 : Fin 3) = 1) (by decide +kernel) (fun t hf y => ?_)
    (fun j => by blk_simp [Pipeline.Window.cell_apply]; omega)
  blk_simp
  rw [after1_5]
  unfold outsAt1
  frame_out
  idx_vars y
  exact point1_d m ρ c t y0 y1 y2

theorem emb1_m (t : Fin cfg1.N) (p : Fin 128) (q : Fin 512) :
    ((cfg1.win 6).blk t).view.emb (ix3 (0 : Fin 1) p q) = ix3 (1 : Fin 2) (row1 t p) q := by
  blk_point [idx1 t, row1]

theorem point1_m (c : Dev nD) (t : Fin cfg1.N) (l : Fin 1) (p : Fin 128) (q : Fin 512) :
    k1_pay2 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 2 t) (ix3 l p q) = mOut (arg_p0 m c) (arg_p1 m c) (arg_a m c) (((cfg1.win 6).blk t).view.emb (ix3 l p q)) := by
  obtain rfl : l = 0 := Subsingleton.elim _ _
  rw [emb1_m, pay1_m, sum1]
  show _ = AdamMath.newM (arg_a m c (ix3 (1 : Fin 2) (row1 t p) q)) (gOut (arg_p0 m c) (arg_p1 m c) (ix3 (1 : Fin 2) (row1 t p) q))
  rw [gOut_1]
  simp only [blk1_a]

theorem reg1_m (c : Dev nD) : (dat1 (V3 m ρ) c).arrAt 6 cfg1.N =
    fun i => if (i (0 : Fin 3)).val = 1 then mOut (arg_p0 m c) (arg_p1 m c) (arg_a m c) i else (dat1 (V3 m ρ) c).A 6 i := by
  refine (dat1 (V3 m ρ) c).arrAt_eq_of_coversWhere 6 (mOut (arg_p0 m c) (arg_p1 m c) (arg_a m c)) (fun β => β (0 : Fin 3) = 1) (by decide +kernel) (fun t hf y => ?_)
    (fun j => by blk_simp [Pipeline.Window.cell_apply]; omega)
  blk_simp
  rw [after1_6]
  unfold outsAt1
  frame_out
  idx_vars y
  exact point1_m m ρ c t y0 y1 y2

theorem emb1_v (t : Fin cfg1.N) (p : Fin 128) (q : Fin 512) :
    ((cfg1.win 7).blk t).view.emb (ix3 (0 : Fin 1) p q) = ix3 (1 : Fin 2) (row1 t p) q := by
  blk_point [idx1 t, row1]

theorem point1_v (c : Dev nD) (t : Fin cfg1.N) (l : Fin 1) (p : Fin 128) (q : Fin 512) :
    k1_pay3 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 3 t) (ix3 l p q) = vOut (arg_p0 m c) (arg_p1 m c) (arg_b m c) (((cfg1.win 7).blk t).view.emb (ix3 l p q)) := by
  obtain rfl : l = 0 := Subsingleton.elim _ _
  rw [emb1_v, pay1_v, sum1]
  show _ = AdamMath.newV (arg_b m c (ix3 (1 : Fin 2) (row1 t p) q)) (gOut (arg_p0 m c) (arg_p1 m c) (ix3 (1 : Fin 2) (row1 t p) q))
  rw [gOut_1]
  simp only [blk1_b]

theorem reg1_v (c : Dev nD) : (dat1 (V3 m ρ) c).arrAt 7 cfg1.N =
    fun i => if (i (0 : Fin 3)).val = 1 then vOut (arg_p0 m c) (arg_p1 m c) (arg_b m c) i else (dat1 (V3 m ρ) c).A 7 i := by
  refine (dat1 (V3 m ρ) c).arrAt_eq_of_coversWhere 7 (vOut (arg_p0 m c) (arg_p1 m c) (arg_b m c)) (fun β => β (0 : Fin 3) = 1) (by decide +kernel) (fun t hf y => ?_)
    (fun j => by blk_simp [Pipeline.Window.cell_apply]; omega)
  blk_simp
  rw [after1_7]
  unfold outsAt1
  frame_out
  idx_vars y
  exact point1_v m ρ c t y0 y1 y2

theorem final_g (c : Dev nD) : W4 m ρ c (Proc.devRef .tc main_v3_0) = gOut (arg_p0 m c) (arg_p1 m c) := by
  refine (W4_arr m ρ c 4).trans ?_
  rw [reg1_g]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_0 = V2 m ρ c main_v1_0 := by
      unfold_abbrev_sides
      after_results
      rfl
    refine (if_neg h).trans ?_
    rw [A_eq1]
    refine (congrFun (e.trans (W2_arr m ρ c 4)) i).trans ?_
    rw [reg0_g]
    exact if_pos h0

theorem final_d (c : Dev nD) : W4 m ρ c (Proc.devRef .tc main_v3_1) = dOut (arg_p0 m c) (arg_p1 m c) (arg_w m c) (arg_a m c) (arg_b m c) := by
  refine (W4_arr m ρ c 5).trans ?_
  rw [reg1_d]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_1 = V2 m ρ c main_v1_1 := by
      unfold_abbrev_sides
      after_results
      rfl
    refine (if_neg h).trans ?_
    rw [A_eq1]
    refine (congrFun (e.trans (W2_arr m ρ c 5)) i).trans ?_
    rw [reg0_d]
    exact if_pos h0

theorem final_m (c : Dev nD) : W4 m ρ c (Proc.devRef .tc main_v3_2) = mOut (arg_p0 m c) (arg_p1 m c) (arg_a m c) := by
  refine (W4_arr m ρ c 6).trans ?_
  rw [reg1_m]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_2 = V2 m ρ c main_v1_2 := by
      unfold_abbrev_sides
      after_results
      rfl
    refine (if_neg h).trans ?_
    rw [A_eq1]
    refine (congrFun (e.trans (W2_arr m ρ c 6)) i).trans ?_
    rw [reg0_m]
    exact if_pos h0

theorem final_v (c : Dev nD) : W4 m ρ c (Proc.devRef .tc main_v3_3) = vOut (arg_p0 m c) (arg_p1 m c) (arg_b m c) := by
  refine (W4_arr m ρ c 7).trans ?_
  rw [reg1_v]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_3 = V2 m ρ c main_v1_3 := by
      unfold_abbrev_sides
      after_results
      rfl
    refine (if_neg h).trans ?_
    rw [A_eq1]
    refine (congrFun (e.trans (W2_arr m ρ c 7)) i).trans ?_
    rw [reg0_v]
    exact if_pos h0

end Values

section Run

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

/-- What the program leaves in its four results; its arguments are unchanged. -/
theorem run : θ_run defs (onTc (τ := τ) (main (F := Ideal))) ⟨m, fun _ => 0, ρ⟩ (fun r => ∀ c : Dev nD,
      r.2.mem ((c.tc : Thread nD τ).loc main_v3_0) = gOut (arg_p0 m c) (arg_p1 m c)
      ∧ r.2.mem ((c.tc : Thread nD τ).loc main_v3_1) = dOut (arg_p0 m c) (arg_p1 m c) (arg_w m c) (arg_a m c) (arg_b m c)
      ∧ r.2.mem ((c.tc : Thread nD τ).loc main_v3_2) = mOut (arg_p0 m c) (arg_p1 m c) (arg_a m c)
      ∧ r.2.mem ((c.tc : Thread nD τ).loc main_v3_3) = vOut (arg_p0 m c) (arg_p1 m c) (arg_b m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v3_0 (by decide))).trans (final_g m ρ c),
       (h c _ (mem_uc main_v3_1 (by decide))).trans (final_d m ρ c),
       (h c _ (mem_uc main_v3_2 (by decide))).trans (final_m m ρ c),
       (h c _ (mem_uc main_v3_3 (by decide))).trans (final_v m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Run

end Cert.AdamXaWqIdeal.Value

namespace Cert.AdamXaWqSpecIdeal.Value

open Cert.AdamXaWqSpecIdeal Cert.AdamXaWqSpecIdeal.Gen

/-- The sums of the two layers' parts, stacked. -/
abbrev rS (p0 p1 : Vec Ideal S8x128x512 .f32) : FVec Ideal S2x128x512 .f32 := concatenate S2x128x512 0 [⟨S1x128x512, (broadcastInDim S1x128x512 ![1, 2] bcast_S128x512_S1x128x512_1_2 (Host.reduceAdd p0 (constant S_ .f32 0x00000000#32) reducesTo_S8x128x512_S128x512_d0 h_S_))⟩, ⟨S1x128x512, (broadcastInDim S1x128x512 ![1, 2] bcast_S128x512_S1x128x512_1_2 (Host.reduceAdd p1 (constant S_ .f32 0x00000000#32) reducesTo_S8x128x512_S128x512_d0 h_S_))⟩] concatenates_S1x128x512_S1x128x512_S2x128x512_d0

/-- The same, laid out as the weight is. -/
abbrev rG (p0 p1 : Vec Ideal S8x128x512 .f32) : FVec Ideal S2x128x512 .f32 := rS p0 p1

/-- The reference's new first moment. -/
abbrev rM (p0 p1 : Vec Ideal S8x128x512 .f32) (a : Vec Ideal S2x128x512 .f32) : FVec Ideal S2x128x512 .f32 :=
  addf (mulf (broadcastInDim S2x128x512 ![] bcast_S_S2x128x512 (constant S_ .f32 0x3F666666#32)) a) (mulf (broadcastInDim S2x128x512 ![] bcast_S_S2x128x512 (constant S_ .f32 0x3DCCCCCD#32)) (rG p0 p1))

/-- The reference's new second moment. -/
abbrev rV (p0 p1 : Vec Ideal S8x128x512 .f32) (b : Vec Ideal S2x128x512 .f32) : FVec Ideal S2x128x512 .f32 :=
  addf (mulf (broadcastInDim S2x128x512 ![] bcast_S_S2x128x512 (constant S_ .f32 0x3F7FBE77#32)) b) (mulf (broadcastInDim S2x128x512 ![] bcast_S_S2x128x512 (constant S_ .f32 0x3A83126F#32)) (mulf (rG p0 p1) (rG p0 p1)))

/-- The reference's change of the weight. -/
abbrev rD (p0 p1 : Vec Ideal S8x128x512 .f32) (w a b : Vec Ideal S2x128x512 .f32) : FVec Ideal S2x128x512 .f32 :=
  mulf (broadcastInDim S2x128x512 ![] bcast_S_S2x128x512 (constant S_ .f32 0xBA83126F#32)) (addf (Host.divf (Host.divf (rM p0 p1 a) (broadcastInDim S2x128x512 ![] bcast_S_S2x128x512 (constant S_ .f32 0x3F26BD02#32))) (addf (Host.sqrt (Host.divf (rV p0 p1 b) (broadcastInDim S2x128x512 ![] bcast_S_S2x128x512 (constant S_ .f32 0x3C231ACC#32)))) (broadcastInDim S2x128x512 ![] bcast_S_S2x128x512 (constant S_ .f32 0x322BCC77#32)))) (mulf (broadcastInDim S2x128x512 ![] bcast_S_S2x128x512 (constant S_ .f32 0x3C23D70A#32)) w))

theorem rS_0 (p0 p1 : Vec Ideal S8x128x512 .f32) (y : Fin 128) (z : Fin 512) : rS p0 p1 (ix3 (0 : Fin 2) y z) = ∑ k : Fin 8, p0 (ix3 k y z) := by
  pointwise

theorem rS_1 (p0 p1 : Vec Ideal S8x128x512 .f32) (y : Fin 128) (z : Fin 512) : rS p0 p1 (ix3 (1 : Fin 2) y z) = ∑ k : Fin 8, p1 (ix3 k y z) := by
  pointwise

theorem rS_at (p0 p1 : Vec Ideal S8x128x512 .f32) (l : Fin 2) (y : Fin 128) (z : Fin 512) : rS p0 p1 (ix3 l y z) = Cert.AdamXaWqIdeal.Value.gOut p0 p1 (ix3 l y z) := by
  obtain rfl | rfl : l = 0 ∨ l = 1 := by omega
  · rw [rS_0, Cert.AdamXaWqIdeal.Value.gOut_0]
  · rw [rS_1, Cert.AdamXaWqIdeal.Value.gOut_1]

/-- The pointwise part of the step, at any gradient. -/
theorem m_at (g : FVec Ideal S2x128x512 .f32) (a : Vec Ideal S2x128x512 .f32) (l : Fin 2) (y : Fin 128) (z : Fin 512) :
    addf (mulf (broadcastInDim S2x128x512 ![] bcast_S_S2x128x512 (constant S_ .f32 0x3F666666#32)) a) (mulf (broadcastInDim S2x128x512 ![] bcast_S_S2x128x512 (constant S_ .f32 0x3DCCCCCD#32)) g) (ix3 l y z) = AdamMath.newM (a (ix3 l y z)) (g (ix3 l y z)) := by
  pointwise [AdamMath.newM]

theorem v_at (g : FVec Ideal S2x128x512 .f32) (b : Vec Ideal S2x128x512 .f32) (l : Fin 2) (y : Fin 128) (z : Fin 512) :
    addf (mulf (broadcastInDim S2x128x512 ![] bcast_S_S2x128x512 (constant S_ .f32 0x3F7FBE77#32)) b) (mulf (broadcastInDim S2x128x512 ![] bcast_S_S2x128x512 (constant S_ .f32 0x3A83126F#32)) (mulf g g)) (ix3 l y z) = AdamMath.newV (b (ix3 l y z)) (g (ix3 l y z)) := by
  pointwise [AdamMath.newV]

theorem d_at (g : FVec Ideal S2x128x512 .f32) (w a b : Vec Ideal S2x128x512 .f32) (l : Fin 2) (y : Fin 128) (z : Fin 512) :
    mulf (broadcastInDim S2x128x512 ![] bcast_S_S2x128x512 (constant S_ .f32 0xBA83126F#32)) (addf (Host.divf (Host.divf (addf (mulf (broadcastInDim S2x128x512 ![] bcast_S_S2x128x512 (constant S_ .f32 0x3F666666#32)) a) (mulf (broadcastInDim S2x128x512 ![] bcast_S_S2x128x512 (constant S_ .f32 0x3DCCCCCD#32)) g)) (broadcastInDim S2x128x512 ![] bcast_S_S2x128x512 (constant S_ .f32 0x3F26BD02#32))) (addf (Host.sqrt (Host.divf (addf (mulf (broadcastInDim S2x128x512 ![] bcast_S_S2x128x512 (constant S_ .f32 0x3F7FBE77#32)) b) (mulf (broadcastInDim S2x128x512 ![] bcast_S_S2x128x512 (constant S_ .f32 0x3A83126F#32)) (mulf g g))) (broadcastInDim S2x128x512 ![] bcast_S_S2x128x512 (constant S_ .f32 0x3C231ACC#32)))) (broadcastInDim S2x128x512 ![] bcast_S_S2x128x512 (constant S_ .f32 0x322BCC77#32)))) (mulf (broadcastInDim S2x128x512 ![] bcast_S_S2x128x512 (constant S_ .f32 0x3C23D70A#32)) w)) (ix3 l y z) =
      AdamMath.delta (w (ix3 l y z)) (a (ix3 l y z)) (b (ix3 l y z)) (g (ix3 l y z)) := by
  pointwise [AdamMath.delta, AdamMath.newM, AdamMath.newV]

theorem rG_at (p0 p1 : Vec Ideal S8x128x512 .f32) (l : Fin 2) (y : Fin 128) (z : Fin 512) : rG p0 p1 (ix3 l y z) = Cert.AdamXaWqIdeal.Value.gOut p0 p1 (ix3 l y z) := rS_at p0 p1 l y z

theorem spec_g (p0 p1 : Vec Ideal S8x128x512 .f32) : rG p0 p1 = Cert.AdamXaWqIdeal.Value.gOut p0 p1  := by
  funext i
  idx_vars i
  exact rG_at p0 p1 i0 i1 i2

theorem spec_m (p0 p1 : Vec Ideal S8x128x512 .f32) (a : Vec Ideal S2x128x512 .f32) : rM p0 p1 a = Cert.AdamXaWqIdeal.Value.mOut p0 p1 a := by
  funext i
  idx_vars i
  rw [rM, m_at, rG_at]
  rfl

theorem spec_v (p0 p1 : Vec Ideal S8x128x512 .f32) (b : Vec Ideal S2x128x512 .f32) : rV p0 p1 b = Cert.AdamXaWqIdeal.Value.vOut p0 p1 b := by
  funext i
  idx_vars i
  rw [rV, v_at, rG_at]
  rfl

theorem spec_d (p0 p1 : Vec Ideal S8x128x512 .f32) (w a b : Vec Ideal S2x128x512 .f32) : rD p0 p1 w a b = Cert.AdamXaWqIdeal.Value.dOut p0 p1 w a b := by
  funext i
  idx_vars i
  rw [rD, d_at, rG_at]
  rfl

end Cert.AdamXaWqSpecIdeal.Value

namespace Cert.AdamXaWqClaim

open Cert.AdamXaWqIdeal.Value

theorem specFrame : Cert.quiescent_AdamXaWqSpecIdeal := fun m g _ =>
  (θ_run _ _ _).mono (fun r h => ⟨fun c => (h c).2.2.2.2, sem_eq_zero_of_no_sems (by decide) r.2⟩) (Cert.AdamXaWqSpecIdeal.Value.run m g)

theorem value : Cert.algebraic_AdamXaWqIdeal_AdamXaWqSpecIdeal := by
  intro m g m' g' _ hargs
  refine ⟨fun c => gOut (arg_p0 m c) (arg_p1 m c), fun c => dOut (arg_p0 m c) (arg_p1 m c) (arg_w m c) (arg_a m c) (arg_b m c),
    fun c => mOut (arg_p0 m c) (arg_p1 m c) (arg_a m c), fun c => vOut (arg_p0 m c) (arg_p1 m c) (arg_b m c), ?_, ?_⟩
  · exact Cert.AdamXaWqIdeal.Value.run m g
  · refine (θ_run _ _ _).mono (fun r h c => ?_) (Cert.AdamXaWqSpecIdeal.Value.run m' g')
    obtain ⟨a0, a1, a2, a3, a4⟩ := hargs c
    obtain ⟨h0, h1, h2, h3, hk⟩ := h c
    refine ⟨h0.trans ?_, h1.trans ?_, h2.trans ?_, h3.trans ?_, hk⟩
    · rw [a0, a1]
      exact Cert.AdamXaWqSpecIdeal.Value.spec_g _ _
    · rw [a0, a1, a2, a3, a4]
      exact Cert.AdamXaWqSpecIdeal.Value.spec_d _ _ _ _ _
    · rw [a0, a1, a3]
      exact Cert.AdamXaWqSpecIdeal.Value.spec_m _ _ _
    · rw [a0, a1, a4]
      exact Cert.AdamXaWqSpecIdeal.Value.spec_v _ _ _

end Cert.AdamXaWqClaim

end
-- ==== Proof.AdamXaWkv.lean ====
module

public import proofs.«01_k».proof.Proof.Gen.AdamXaWkvIdeal.Frame
public import proofs.«01_k».proof.Proof.Gen.AdamXaWkvSpecIdeal.Run
public import proofs.«01_k».proof.Proof.Gen.AdamXaWkv.Frame
public import Idealize.ShloMosaic.Lib.Pipeline.ValueKit
public import Idealize.ShloMosaic.Lib.Pipeline.ReadBack
public import Idealize.ShloMosaic.Lib.Claim
public import proofs.«01_k».proof.Proof.AdamMath

/-! The optimiser's step for one weight of both layers, one call a layer, the second writing into the first's results: the sums of the eight
    devices' parts of the gradients, then AdamW. -/

@[expose] public section

set_option maxRecDepth 16384

noncomputable section

open Idealize.ShloMosaic Idealize.ShloMosaic.TcCoe Idealize.SL.Sem
open Idealize.ShloMosaic.Pipeline (Dat)

namespace Cert.AdamXaWkvIdeal.Value

open Cert.AdamXaWkvIdeal Cert.AdamXaWkvIdeal.Gen

/-- The gradient: for each of the two layers the sum of the parts of the eight devices. -/
def gOut (p0 p1 : Vec Ideal S8x128x1024 .f32) : Vec Ideal S2x128x1024 .f32 :=
  fun i => if (i 0).val = 0 then ∑ k : Fin 8, p0 (ix3 k (i 1) (i 2)) else ∑ k : Fin 8, p1 (ix3 k (i 1) (i 2))

/-- The new first moment. -/
def mOut (p0 p1 : Vec Ideal S8x128x1024 .f32) (a : Vec Ideal S2x128x1024 .f32) : Vec Ideal S2x128x1024 .f32 :=
  fun i => AdamMath.newM (a (i)) (gOut p0 p1 i)

/-- The new second moment. -/
def vOut (p0 p1 : Vec Ideal S8x128x1024 .f32) (b : Vec Ideal S2x128x1024 .f32) : Vec Ideal S2x128x1024 .f32 :=
  fun i => AdamMath.newV (b (i)) (gOut p0 p1 i)

/-- The change of the weight. -/
def dOut (p0 p1 : Vec Ideal S8x128x1024 .f32) (w a b : Vec Ideal S2x128x1024 .f32) : Vec Ideal S2x128x1024 .f32 :=
  fun i => AdamMath.delta (w (i)) (a (i)) (b (i)) (gOut p0 p1 i)

theorem gOut_0 (p0 p1 : Vec Ideal S8x128x1024 .f32) (y : Fin 128) (z : Fin 1024) : gOut p0 p1 (ix3 (0 : Fin 2) y z) = ∑ k : Fin 8, p0 (ix3 k y z) := if_pos rfl

theorem gOut_1 (p0 p1 : Vec Ideal S8x128x1024 .f32) (y : Fin 128) (z : Fin 1024) : gOut p0 p1 (ix3 (1 : Fin 2) y z) = ∑ k : Fin 8, p1 (ix3 k y z) :=
  if_neg (fun h => absurd (show (1 : ℕ) = 0 from h) one_ne_zero)

section Values

variable (m : (ℓ : Loc nD τ sig) → Buf (Elt Ideal) ℓ) (ρ : Dev nD → PrngReg)
variable (V : (c : Dev nD) → (b : Ref sig .tc) → Buf (Elt Ideal) ((c : Thread nD τ).loc b))

abbrev arg_p0 (c : Dev nD) : Vec Ideal S8x128x1024 .f32 := m ((c : Thread nD τ).loc main_arg0)
abbrev arg_p1 (c : Dev nD) : Vec Ideal S8x128x1024 .f32 := m ((c : Thread nD τ).loc main_arg1)
abbrev arg_w (c : Dev nD) : Vec Ideal S2x128x1024 .f32 := m ((c : Thread nD τ).loc main_arg2)
abbrev arg_a (c : Dev nD) : Vec Ideal S2x128x1024 .f32 := m ((c : Thread nD τ).loc main_arg3)
abbrev arg_b (c : Dev nD) : Vec Ideal S2x128x1024 .f32 := m ((c : Thread nD τ).loc main_arg4)

theorem idx0 : ∀ t : Fin cfg0.N, win0_0.index t = ![0, 0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row at which a grid point of call 0 works. -/
def row0 (t : Fin cfg0.N) (p : Fin 128) : Fin 128 := ⟨t.val * 128 + p.val, by have := t.isLt; have : cfg0.N = 1 := rfl; omega⟩

theorem idx1 : ∀ t : Fin cfg1.N, win1_0.index t = ![0, 0, t.val, 0] ∧ win1_1.index t = ![1, t.val, 0] ∧ win1_2.index t = ![1, t.val, 0] ∧ win1_3.index t = ![1, t.val, 0] ∧ win1_4.index t = ![1, t.val, 0] ∧ win1_5.index t = ![1, t.val, 0] ∧ win1_6.index t = ![1, t.val, 0] ∧ win1_7.index t = ![1, t.val, 0] :=
  (by decide +kernel : ∀ t : Fin grid1.N, _)

/-- The row at which a grid point of call 1 works. -/
def row1 (t : Fin cfg1.N) (p : Fin 128) : Fin 128 := ⟨t.val * 128 + p.val, by have := t.isLt; have : cfg1.N = 1 := rfl; omega⟩

theorem V1_p (c : Dev nD) : @Eq (FVec Ideal S8x1x128x1024 .f32) (V1 m ρ c main_v0) (shapeCast S8x1x128x1024 (arg_p0 m c) shapeCasts_S8x128x1024_S8x1x128x1024) := by
  unfold_abbrev_sides
  after_results
  rfl

theorem V3_p (c : Dev nD) : @Eq (FVec Ideal S8x1x128x1024 .f32) (V3 m ρ c main_v2) (shapeCast S8x1x128x1024 (arg_p1 m c) shapeCasts_S8x128x1024_S8x1x128x1024) := by
  have h : @Eq (FVec Ideal S8x1x128x1024 .f32) (V3 m ρ c main_v2) (shapeCast S8x1x128x1024 (show Vec Ideal S8x128x1024 .f32 from W2 m ρ c (Proc.devRef .tc main_arg1)) shapeCasts_S8x128x1024_S8x1x128x1024) := by
    unfold_abbrev_sides
    after_results
    rfl
  rw [h, W2_args m ρ c main_arg1 (by decide)]

theorem V1_w (c : Dev nD) : @Eq (FVec Ideal S2x128x1024 .f32) (V1 m ρ c main_arg2) (arg_w m c) := W1_args m ρ c main_arg2 (by decide)

theorem V3_w (c : Dev nD) : @Eq (FVec Ideal S2x128x1024 .f32) (V3 m ρ c main_arg2) (arg_w m c) := W3_args m ρ c main_arg2 (by decide)

theorem V1_a (c : Dev nD) : @Eq (FVec Ideal S2x128x1024 .f32) (V1 m ρ c main_arg3) (arg_a m c) := W1_args m ρ c main_arg3 (by decide)

theorem V3_a (c : Dev nD) : @Eq (FVec Ideal S2x128x1024 .f32) (V3 m ρ c main_arg3) (arg_a m c) := W3_args m ρ c main_arg3 (by decide)

theorem V1_b (c : Dev nD) : @Eq (FVec Ideal S2x128x1024 .f32) (V1 m ρ c main_arg4) (arg_b m c) := W1_args m ρ c main_arg4 (by decide)

theorem V3_b (c : Dev nD) : @Eq (FVec Ideal S2x128x1024 .f32) (V3 m ρ c main_arg4) (arg_b m c) := W3_args m ρ c main_arg4 (by decide)

theorem blk0_p (c : Dev nD) (t : Fin cfg0.N) (k : Fin 8) (p : Fin 128) (q : Fin 1024) :
    iblk0 (V1 m ρ) c 0 t (ix4 k (0 : Fin 1) p q) = arg_p0 m c (ix3 k (row0 t p) q) := by
  have h : iblk0 (V1 m ρ) c 0 t (ix4 k (0 : Fin 1) p q) = V1 m ρ c main_v0 (ix4 k (0 : Fin 1) (row0 t p) q) := by
    generalize V1 m ρ = V
    blk_point [iblk0, idx0 t, row0]
  rw [h, V1_p]
  pointwise

theorem blk0_w (c : Dev nD) (t : Fin cfg0.N) (p : Fin 128) (q : Fin 1024) :
    iblk0 (V1 m ρ) c 1 t (ix3 (0 : Fin 1) p q) = arg_w m c (ix3 (0 : Fin 2) (row0 t p) q) := by
  have h : iblk0 (V1 m ρ) c 1 t (ix3 (0 : Fin 1) p q) = V1 m ρ c main_arg2 (ix3 (0 : Fin 2) (row0 t p) q) := by
    generalize V1 m ρ = V
    blk_point [iblk0, idx0 t, row0]
  rw [h, V1_w]

theorem blk0_a (c : Dev nD) (t : Fin cfg0.N) (p : Fin 128) (q : Fin 1024) :
    iblk0 (V1 m ρ) c 2 t (ix3 (0 : Fin 1) p q) = arg_a m c (ix3 (0 : Fin 2) (row0 t p) q) := by
  have h : iblk0 (V1 m ρ) c 2 t (ix3 (0 : Fin 1) p q) = V1 m ρ c main_arg3 (ix3 (0 : Fin 2) (row0 t p) q) := by
    generalize V1 m ρ = V
    blk_point [iblk0, idx0 t, row0]
  rw [h, V1_a]

theorem blk0_b (c : Dev nD) (t : Fin cfg0.N) (p : Fin 128) (q : Fin 1024) :
    iblk0 (V1 m ρ) c 3 t (ix3 (0 : Fin 1) p q) = arg_b m c (ix3 (0 : Fin 2) (row0 t p) q) := by
  have h : iblk0 (V1 m ρ) c 3 t (ix3 (0 : Fin 1) p q) = V1 m ρ c main_arg4 (ix3 (0 : Fin 2) (row0 t p) q) := by
    generalize V1 m ρ = V
    blk_point [iblk0, idx0 t, row0]
  rw [h, V1_b]

theorem blk1_p (c : Dev nD) (t : Fin cfg1.N) (k : Fin 8) (p : Fin 128) (q : Fin 1024) :
    iblk1 (V3 m ρ) c 0 t (ix4 k (0 : Fin 1) p q) = arg_p1 m c (ix3 k (row1 t p) q) := by
  have h : iblk1 (V3 m ρ) c 0 t (ix4 k (0 : Fin 1) p q) = V3 m ρ c main_v2 (ix4 k (0 : Fin 1) (row1 t p) q) := by
    generalize V3 m ρ = V
    blk_point [iblk1, idx1 t, row1]
  rw [h, V3_p]
  pointwise

theorem blk1_w (c : Dev nD) (t : Fin cfg1.N) (p : Fin 128) (q : Fin 1024) :
    iblk1 (V3 m ρ) c 1 t (ix3 (0 : Fin 1) p q) = arg_w m c (ix3 (1 : Fin 2) (row1 t p) q) := by
  have h : iblk1 (V3 m ρ) c 1 t (ix3 (0 : Fin 1) p q) = V3 m ρ c main_arg2 (ix3 (1 : Fin 2) (row1 t p) q) := by
    generalize V3 m ρ = V
    blk_point [iblk1, idx1 t, row1]
  rw [h, V3_w]

theorem blk1_a (c : Dev nD) (t : Fin cfg1.N) (p : Fin 128) (q : Fin 1024) :
    iblk1 (V3 m ρ) c 2 t (ix3 (0 : Fin 1) p q) = arg_a m c (ix3 (1 : Fin 2) (row1 t p) q) := by
  have h : iblk1 (V3 m ρ) c 2 t (ix3 (0 : Fin 1) p q) = V3 m ρ c main_arg3 (ix3 (1 : Fin 2) (row1 t p) q) := by
    generalize V3 m ρ = V
    blk_point [iblk1, idx1 t, row1]
  rw [h, V3_a]

theorem blk1_b (c : Dev nD) (t : Fin cfg1.N) (p : Fin 128) (q : Fin 1024) :
    iblk1 (V3 m ρ) c 3 t (ix3 (0 : Fin 1) p q) = arg_b m c (ix3 (1 : Fin 2) (row1 t p) q) := by
  have h : iblk1 (V3 m ρ) c 3 t (ix3 (0 : Fin 1) p q) = V3 m ρ c main_arg4 (ix3 (1 : Fin 2) (row1 t p) q) := by
    generalize V3 m ρ = V
    blk_point [iblk1, idx1 t, row1]
  rw [h, V3_b]

/-- The sum of the eight parts at one grid point of call 0. -/
theorem pay0_g (x0 : Vec Ideal S8x1x128x1024 .f32) (x1 x2 x3 : Vec Ideal S1x128x1024 .f32) (p : Fin 128) (q : Fin 1024) :
    k0_pay5 (F := Ideal) x0 x1 x2 x3 (ix3 (0 : Fin 1) p q) = ∑ k : Fin 8, x0 (ix4 k (0 : Fin 1) p q) := by
  refine Eq.trans ?_ (AdamMath.sum8 fun k => x0 (ix4 k (0 : Fin 1) p q))
  pointwise [k0_pay5, k0_pay1]

theorem pay0_m (g x : Vec Ideal S1x128x1024 .f32) (p : Fin 128) (q : Fin 1024) :
    k0_pay2 (F := Ideal) g x (ix3 (0 : Fin 1) p q) = AdamMath.newM (x (ix3 (0 : Fin 1) p q)) (g (ix3 (0 : Fin 1) p q)) := by
  pointwise [k0_pay2, AdamMath.newM]

theorem pay0_v (g x : Vec Ideal S1x128x1024 .f32) (p : Fin 128) (q : Fin 1024) :
    k0_pay3 (F := Ideal) g x (ix3 (0 : Fin 1) p q) = AdamMath.newV (x (ix3 (0 : Fin 1) p q)) (g (ix3 (0 : Fin 1) p q)) := by
  pointwise [k0_pay3, AdamMath.newV]

theorem pay0_d (g x y z : Vec Ideal S1x128x1024 .f32) (p : Fin 128) (q : Fin 1024) :
    k0_pay4 (F := Ideal) g y z x (ix3 (0 : Fin 1) p q) = AdamMath.delta (x (ix3 (0 : Fin 1) p q)) (y (ix3 (0 : Fin 1) p q)) (z (ix3 (0 : Fin 1) p q)) (g (ix3 (0 : Fin 1) p q)) := by
  pointwise [k0_pay4, k0_pay2, k0_pay3, AdamMath.delta, AdamMath.newM, AdamMath.newV]

/-- The sum of the eight parts at one grid point of call 1. -/
theorem pay1_g (x0 : Vec Ideal S8x1x128x1024 .f32) (p : Fin 128) (q : Fin 1024) :
    k1_pay1 (F := Ideal) (View.ld x0 r0_0) (View.ld x0 r0_1) (View.ld x0 r0_2) (View.ld x0 r0_3) (View.ld x0 r0_4) (View.ld x0 r0_5) (View.ld x0 r0_6) (View.ld x0 r0_7) (ix3 (0 : Fin 1) p q) = ∑ k : Fin 8, x0 (ix4 k (0 : Fin 1) p q) := by
  refine Eq.trans ?_ (AdamMath.sum8 fun k => x0 (ix4 k (0 : Fin 1) p q))
  pointwise [k1_pay1]

theorem pay1_m (g x : Vec Ideal S1x128x1024 .f32) (p : Fin 128) (q : Fin 1024) :
    k1_pay2 (F := Ideal) g x (ix3 (0 : Fin 1) p q) = AdamMath.newM (x (ix3 (0 : Fin 1) p q)) (g (ix3 (0 : Fin 1) p q)) := by
  pointwise [k1_pay2, AdamMath.newM]

theorem pay1_v (g x : Vec Ideal S1x128x1024 .f32) (p : Fin 128) (q : Fin 1024) :
    k1_pay3 (F := Ideal) g x (ix3 (0 : Fin 1) p q) = AdamMath.newV (x (ix3 (0 : Fin 1) p q)) (g (ix3 (0 : Fin 1) p q)) := by
  pointwise [k1_pay3, AdamMath.newV]

theorem pay1_d (g x y z : Vec Ideal S1x128x1024 .f32) (p : Fin 128) (q : Fin 1024) :
    k1_pay4 (F := Ideal) g y z x (ix3 (0 : Fin 1) p q) = AdamMath.delta (x (ix3 (0 : Fin 1) p q)) (y (ix3 (0 : Fin 1) p q)) (z (ix3 (0 : Fin 1) p q)) (g (ix3 (0 : Fin 1) p q)) := by
  pointwise [k1_pay4, k1_pay2, k1_pay3, AdamMath.delta, AdamMath.newM, AdamMath.newV]

theorem sum0 (c : Dev nD) (t : Fin cfg0.N) (p : Fin 128) (q : Fin 1024) :
    k0_pay5 (F := Ideal) (iblk0 (V1 m ρ) c 0 t) (iblk0 (V1 m ρ) c 1 t) (iblk0 (V1 m ρ) c 2 t) (iblk0 (V1 m ρ) c 3 t) (ix3 (0 : Fin 1) p q) = ∑ k : Fin 8, arg_p0 m c (ix3 k (row0 t p) q) :=
  (pay0_g (iblk0 (V1 m ρ) c 0 t) (iblk0 (V1 m ρ) c 1 t) (iblk0 (V1 m ρ) c 2 t) (iblk0 (V1 m ρ) c 3 t) p q).trans (Finset.sum_congr rfl fun k _ => blk0_p m ρ c t k p q)

theorem emb0_g (t : Fin cfg0.N) (p : Fin 128) (q : Fin 1024) :
    ((cfg0.win 4).blk t).view.emb (ix3 (0 : Fin 1) p q) = ix3 (0 : Fin 2) (row0 t p) q := by
  blk_point [idx0 t, row0]

theorem point0_g (c : Dev nD) (t : Fin cfg0.N) (l : Fin 1) (p : Fin 128) (q : Fin 1024) :
    k0_pay5 (F := Ideal) (iblk0 (V1 m ρ) c 0 t) (iblk0 (V1 m ρ) c 1 t) (iblk0 (V1 m ρ) c 2 t) (iblk0 (V1 m ρ) c 3 t) (ix3 l p q) = gOut (arg_p0 m c) (arg_p1 m c) (((cfg0.win 4).blk t).view.emb (ix3 l p q)) := by
  obtain rfl : l = 0 := Subsingleton.elim _ _
  rw [emb0_g, sum0]
  show _ = gOut (arg_p0 m c) (arg_p1 m c) (ix3 (0 : Fin 2) (row0 t p) q)
  rw [gOut_0]

theorem reg0_g (c : Dev nD) : (dat0 (V1 m ρ) c).arrAt 4 cfg0.N =
    fun i => if (i (0 : Fin 3)).val = 0 then gOut (arg_p0 m c) (arg_p1 m c) i else (dat0 (V1 m ρ) c).A 4 i := by
  refine (dat0 (V1 m ρ) c).arrAt_eq_of_coversWhere 4 (gOut (arg_p0 m c) (arg_p1 m c)) (fun β => β (0 : Fin 3) = 0) (by decide +kernel) (fun t hf y => ?_)
    (fun j => by blk_simp [Pipeline.Window.cell_apply]; omega)
  blk_simp
  rw [after0_4]
  frame_out
  idx_vars y
  exact point0_g m ρ c t y0 y1 y2

theorem emb0_d (t : Fin cfg0.N) (p : Fin 128) (q : Fin 1024) :
    ((cfg0.win 5).blk t).view.emb (ix3 (0 : Fin 1) p q) = ix3 (0 : Fin 2) (row0 t p) q := by
  blk_point [idx0 t, row0]

theorem point0_d (c : Dev nD) (t : Fin cfg0.N) (l : Fin 1) (p : Fin 128) (q : Fin 1024) :
    k0_pay4 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 2 t) (iblk0 (V1 m ρ) c 3 t) (iblk0 (V1 m ρ) c 1 t) (ix3 l p q) = dOut (arg_p0 m c) (arg_p1 m c) (arg_w m c) (arg_a m c) (arg_b m c) (((cfg0.win 5).blk t).view.emb (ix3 l p q)) := by
  obtain rfl : l = 0 := Subsingleton.elim _ _
  rw [emb0_d, pay0_d, sum0]
  show _ = AdamMath.delta (arg_w m c (ix3 (0 : Fin 2) (row0 t p) q)) (arg_a m c (ix3 (0 : Fin 2) (row0 t p) q)) (arg_b m c (ix3 (0 : Fin 2) (row0 t p) q)) (gOut (arg_p0 m c) (arg_p1 m c) (ix3 (0 : Fin 2) (row0 t p) q))
  rw [gOut_0]
  simp only [blk0_w, blk0_a, blk0_b]

theorem reg0_d (c : Dev nD) : (dat0 (V1 m ρ) c).arrAt 5 cfg0.N =
    fun i => if (i (0 : Fin 3)).val = 0 then dOut (arg_p0 m c) (arg_p1 m c) (arg_w m c) (arg_a m c) (arg_b m c) i else (dat0 (V1 m ρ) c).A 5 i := by
  refine (dat0 (V1 m ρ) c).arrAt_eq_of_coversWhere 5 (dOut (arg_p0 m c) (arg_p1 m c) (arg_w m c) (arg_a m c) (arg_b m c)) (fun β => β (0 : Fin 3) = 0) (by decide +kernel) (fun t hf y => ?_)
    (fun j => by blk_simp [Pipeline.Window.cell_apply]; omega)
  blk_simp
  rw [after0_5]
  frame_out
  idx_vars y
  exact point0_d m ρ c t y0 y1 y2

theorem emb0_m (t : Fin cfg0.N) (p : Fin 128) (q : Fin 1024) :
    ((cfg0.win 6).blk t).view.emb (ix3 (0 : Fin 1) p q) = ix3 (0 : Fin 2) (row0 t p) q := by
  blk_point [idx0 t, row0]

theorem point0_m (c : Dev nD) (t : Fin cfg0.N) (l : Fin 1) (p : Fin 128) (q : Fin 1024) :
    k0_pay2 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 2 t) (ix3 l p q) = mOut (arg_p0 m c) (arg_p1 m c) (arg_a m c) (((cfg0.win 6).blk t).view.emb (ix3 l p q)) := by
  obtain rfl : l = 0 := Subsingleton.elim _ _
  rw [emb0_m, pay0_m, sum0]
  show _ = AdamMath.newM (arg_a m c (ix3 (0 : Fin 2) (row0 t p) q)) (gOut (arg_p0 m c) (arg_p1 m c) (ix3 (0 : Fin 2) (row0 t p) q))
  rw [gOut_0]
  simp only [blk0_a]

theorem reg0_m (c : Dev nD) : (dat0 (V1 m ρ) c).arrAt 6 cfg0.N =
    fun i => if (i (0 : Fin 3)).val = 0 then mOut (arg_p0 m c) (arg_p1 m c) (arg_a m c) i else (dat0 (V1 m ρ) c).A 6 i := by
  refine (dat0 (V1 m ρ) c).arrAt_eq_of_coversWhere 6 (mOut (arg_p0 m c) (arg_p1 m c) (arg_a m c)) (fun β => β (0 : Fin 3) = 0) (by decide +kernel) (fun t hf y => ?_)
    (fun j => by blk_simp [Pipeline.Window.cell_apply]; omega)
  blk_simp
  rw [after0_6]
  frame_out
  idx_vars y
  exact point0_m m ρ c t y0 y1 y2

theorem emb0_v (t : Fin cfg0.N) (p : Fin 128) (q : Fin 1024) :
    ((cfg0.win 7).blk t).view.emb (ix3 (0 : Fin 1) p q) = ix3 (0 : Fin 2) (row0 t p) q := by
  blk_point [idx0 t, row0]

theorem point0_v (c : Dev nD) (t : Fin cfg0.N) (l : Fin 1) (p : Fin 128) (q : Fin 1024) :
    k0_pay3 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 3 t) (ix3 l p q) = vOut (arg_p0 m c) (arg_p1 m c) (arg_b m c) (((cfg0.win 7).blk t).view.emb (ix3 l p q)) := by
  obtain rfl : l = 0 := Subsingleton.elim _ _
  rw [emb0_v, pay0_v, sum0]
  show _ = AdamMath.newV (arg_b m c (ix3 (0 : Fin 2) (row0 t p) q)) (gOut (arg_p0 m c) (arg_p1 m c) (ix3 (0 : Fin 2) (row0 t p) q))
  rw [gOut_0]
  simp only [blk0_b]

theorem reg0_v (c : Dev nD) : (dat0 (V1 m ρ) c).arrAt 7 cfg0.N =
    fun i => if (i (0 : Fin 3)).val = 0 then vOut (arg_p0 m c) (arg_p1 m c) (arg_b m c) i else (dat0 (V1 m ρ) c).A 7 i := by
  refine (dat0 (V1 m ρ) c).arrAt_eq_of_coversWhere 7 (vOut (arg_p0 m c) (arg_p1 m c) (arg_b m c)) (fun β => β (0 : Fin 3) = 0) (by decide +kernel) (fun t hf y => ?_)
    (fun j => by blk_simp [Pipeline.Window.cell_apply]; omega)
  blk_simp
  rw [after0_7]
  frame_out
  idx_vars y
  exact point0_v m ρ c t y0 y1 y2

theorem sum1 (c : Dev nD) (t : Fin cfg1.N) (p : Fin 128) (q : Fin 1024) :
    k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7) (ix3 (0 : Fin 1) p q) = ∑ k : Fin 8, arg_p1 m c (ix3 k (row1 t p) q) :=
  (pay1_g (iblk1 (V3 m ρ) c 0 t)  p q).trans (Finset.sum_congr rfl fun k _ => blk1_p m ρ c t k p q)

theorem emb1_g (t : Fin cfg1.N) (p : Fin 128) (q : Fin 1024) :
    ((cfg1.win 4).blk t).view.emb (ix3 (0 : Fin 1) p q) = ix3 (1 : Fin 2) (row1 t p) q := by
  blk_point [idx1 t, row1]

theorem point1_g (c : Dev nD) (t : Fin cfg1.N) (l : Fin 1) (p : Fin 128) (q : Fin 1024) :
    k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7) (ix3 l p q) = gOut (arg_p0 m c) (arg_p1 m c) (((cfg1.win 4).blk t).view.emb (ix3 l p q)) := by
  obtain rfl : l = 0 := Subsingleton.elim _ _
  rw [emb1_g, sum1]
  show _ = gOut (arg_p0 m c) (arg_p1 m c) (ix3 (1 : Fin 2) (row1 t p) q)
  rw [gOut_1]

theorem reg1_g (c : Dev nD) : (dat1 (V3 m ρ) c).arrAt 4 cfg1.N =
    fun i => if (i (0 : Fin 3)).val = 1 then gOut (arg_p0 m c) (arg_p1 m c) i else (dat1 (V3 m ρ) c).A 4 i := by
  refine (dat1 (V3 m ρ) c).arrAt_eq_of_coversWhere 4 (gOut (arg_p0 m c) (arg_p1 m c)) (fun β => β (0 : Fin 3) = 1) (by decide +kernel) (fun t hf y => ?_)
    (fun j => by blk_simp [Pipeline.Window.cell_apply]; omega)
  blk_simp
  rw [after1_4]
  unfold outsAt1
  frame_out
  idx_vars y
  exact point1_g m ρ c t y0 y1 y2

theorem emb1_d (t : Fin cfg1.N) (p : Fin 128) (q : Fin 1024) :
    ((cfg1.win 5).blk t).view.emb (ix3 (0 : Fin 1) p q) = ix3 (1 : Fin 2) (row1 t p) q := by
  blk_point [idx1 t, row1]

theorem point1_d (c : Dev nD) (t : Fin cfg1.N) (l : Fin 1) (p : Fin 128) (q : Fin 1024) :
    k1_pay4 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 2 t) (iblk1 (V3 m ρ) c 3 t) (iblk1 (V3 m ρ) c 1 t) (ix3 l p q) = dOut (arg_p0 m c) (arg_p1 m c) (arg_w m c) (arg_a m c) (arg_b m c) (((cfg1.win 5).blk t).view.emb (ix3 l p q)) := by
  obtain rfl : l = 0 := Subsingleton.elim _ _
  rw [emb1_d, pay1_d, sum1]
  show _ = AdamMath.delta (arg_w m c (ix3 (1 : Fin 2) (row1 t p) q)) (arg_a m c (ix3 (1 : Fin 2) (row1 t p) q)) (arg_b m c (ix3 (1 : Fin 2) (row1 t p) q)) (gOut (arg_p0 m c) (arg_p1 m c) (ix3 (1 : Fin 2) (row1 t p) q))
  rw [gOut_1]
  simp only [blk1_w, blk1_a, blk1_b]

theorem reg1_d (c : Dev nD) : (dat1 (V3 m ρ) c).arrAt 5 cfg1.N =
    fun i => if (i (0 : Fin 3)).val = 1 then dOut (arg_p0 m c) (arg_p1 m c) (arg_w m c) (arg_a m c) (arg_b m c) i else (dat1 (V3 m ρ) c).A 5 i := by
  refine (dat1 (V3 m ρ) c).arrAt_eq_of_coversWhere 5 (dOut (arg_p0 m c) (arg_p1 m c) (arg_w m c) (arg_a m c) (arg_b m c)) (fun β => β (0 : Fin 3) = 1) (by decide +kernel) (fun t hf y => ?_)
    (fun j => by blk_simp [Pipeline.Window.cell_apply]; omega)
  blk_simp
  rw [after1_5]
  unfold outsAt1
  frame_out
  idx_vars y
  exact point1_d m ρ c t y0 y1 y2

theorem emb1_m (t : Fin cfg1.N) (p : Fin 128) (q : Fin 1024) :
    ((cfg1.win 6).blk t).view.emb (ix3 (0 : Fin 1) p q) = ix3 (1 : Fin 2) (row1 t p) q := by
  blk_point [idx1 t, row1]

theorem point1_m (c : Dev nD) (t : Fin cfg1.N) (l : Fin 1) (p : Fin 128) (q : Fin 1024) :
    k1_pay2 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 2 t) (ix3 l p q) = mOut (arg_p0 m c) (arg_p1 m c) (arg_a m c) (((cfg1.win 6).blk t).view.emb (ix3 l p q)) := by
  obtain rfl : l = 0 := Subsingleton.elim _ _
  rw [emb1_m, pay1_m, sum1]
  show _ = AdamMath.newM (arg_a m c (ix3 (1 : Fin 2) (row1 t p) q)) (gOut (arg_p0 m c) (arg_p1 m c) (ix3 (1 : Fin 2) (row1 t p) q))
  rw [gOut_1]
  simp only [blk1_a]

theorem reg1_m (c : Dev nD) : (dat1 (V3 m ρ) c).arrAt 6 cfg1.N =
    fun i => if (i (0 : Fin 3)).val = 1 then mOut (arg_p0 m c) (arg_p1 m c) (arg_a m c) i else (dat1 (V3 m ρ) c).A 6 i := by
  refine (dat1 (V3 m ρ) c).arrAt_eq_of_coversWhere 6 (mOut (arg_p0 m c) (arg_p1 m c) (arg_a m c)) (fun β => β (0 : Fin 3) = 1) (by decide +kernel) (fun t hf y => ?_)
    (fun j => by blk_simp [Pipeline.Window.cell_apply]; omega)
  blk_simp
  rw [after1_6]
  unfold outsAt1
  frame_out
  idx_vars y
  exact point1_m m ρ c t y0 y1 y2

theorem emb1_v (t : Fin cfg1.N) (p : Fin 128) (q : Fin 1024) :
    ((cfg1.win 7).blk t).view.emb (ix3 (0 : Fin 1) p q) = ix3 (1 : Fin 2) (row1 t p) q := by
  blk_point [idx1 t, row1]

theorem point1_v (c : Dev nD) (t : Fin cfg1.N) (l : Fin 1) (p : Fin 128) (q : Fin 1024) :
    k1_pay3 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 3 t) (ix3 l p q) = vOut (arg_p0 m c) (arg_p1 m c) (arg_b m c) (((cfg1.win 7).blk t).view.emb (ix3 l p q)) := by
  obtain rfl : l = 0 := Subsingleton.elim _ _
  rw [emb1_v, pay1_v, sum1]
  show _ = AdamMath.newV (arg_b m c (ix3 (1 : Fin 2) (row1 t p) q)) (gOut (arg_p0 m c) (arg_p1 m c) (ix3 (1 : Fin 2) (row1 t p) q))
  rw [gOut_1]
  simp only [blk1_b]

theorem reg1_v (c : Dev nD) : (dat1 (V3 m ρ) c).arrAt 7 cfg1.N =
    fun i => if (i (0 : Fin 3)).val = 1 then vOut (arg_p0 m c) (arg_p1 m c) (arg_b m c) i else (dat1 (V3 m ρ) c).A 7 i := by
  refine (dat1 (V3 m ρ) c).arrAt_eq_of_coversWhere 7 (vOut (arg_p0 m c) (arg_p1 m c) (arg_b m c)) (fun β => β (0 : Fin 3) = 1) (by decide +kernel) (fun t hf y => ?_)
    (fun j => by blk_simp [Pipeline.Window.cell_apply]; omega)
  blk_simp
  rw [after1_7]
  unfold outsAt1
  frame_out
  idx_vars y
  exact point1_v m ρ c t y0 y1 y2

theorem final_g (c : Dev nD) : W4 m ρ c (Proc.devRef .tc main_v3_0) = gOut (arg_p0 m c) (arg_p1 m c) := by
  refine (W4_arr m ρ c 4).trans ?_
  rw [reg1_g]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_0 = V2 m ρ c main_v1_0 := by
      unfold_abbrev_sides
      after_results
      rfl
    refine (if_neg h).trans ?_
    rw [A_eq1]
    refine (congrFun (e.trans (W2_arr m ρ c 4)) i).trans ?_
    rw [reg0_g]
    exact if_pos h0

theorem final_d (c : Dev nD) : W4 m ρ c (Proc.devRef .tc main_v3_1) = dOut (arg_p0 m c) (arg_p1 m c) (arg_w m c) (arg_a m c) (arg_b m c) := by
  refine (W4_arr m ρ c 5).trans ?_
  rw [reg1_d]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_1 = V2 m ρ c main_v1_1 := by
      unfold_abbrev_sides
      after_results
      rfl
    refine (if_neg h).trans ?_
    rw [A_eq1]
    refine (congrFun (e.trans (W2_arr m ρ c 5)) i).trans ?_
    rw [reg0_d]
    exact if_pos h0

theorem final_m (c : Dev nD) : W4 m ρ c (Proc.devRef .tc main_v3_2) = mOut (arg_p0 m c) (arg_p1 m c) (arg_a m c) := by
  refine (W4_arr m ρ c 6).trans ?_
  rw [reg1_m]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_2 = V2 m ρ c main_v1_2 := by
      unfold_abbrev_sides
      after_results
      rfl
    refine (if_neg h).trans ?_
    rw [A_eq1]
    refine (congrFun (e.trans (W2_arr m ρ c 6)) i).trans ?_
    rw [reg0_m]
    exact if_pos h0

theorem final_v (c : Dev nD) : W4 m ρ c (Proc.devRef .tc main_v3_3) = vOut (arg_p0 m c) (arg_p1 m c) (arg_b m c) := by
  refine (W4_arr m ρ c 7).trans ?_
  rw [reg1_v]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_3 = V2 m ρ c main_v1_3 := by
      unfold_abbrev_sides
      after_results
      rfl
    refine (if_neg h).trans ?_
    rw [A_eq1]
    refine (congrFun (e.trans (W2_arr m ρ c 7)) i).trans ?_
    rw [reg0_v]
    exact if_pos h0

end Values

section Run

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

/-- What the program leaves in its four results; its arguments are unchanged. -/
theorem run : θ_run defs (onTc (τ := τ) (main (F := Ideal))) ⟨m, fun _ => 0, ρ⟩ (fun r => ∀ c : Dev nD,
      r.2.mem ((c.tc : Thread nD τ).loc main_v3_0) = gOut (arg_p0 m c) (arg_p1 m c)
      ∧ r.2.mem ((c.tc : Thread nD τ).loc main_v3_1) = dOut (arg_p0 m c) (arg_p1 m c) (arg_w m c) (arg_a m c) (arg_b m c)
      ∧ r.2.mem ((c.tc : Thread nD τ).loc main_v3_2) = mOut (arg_p0 m c) (arg_p1 m c) (arg_a m c)
      ∧ r.2.mem ((c.tc : Thread nD τ).loc main_v3_3) = vOut (arg_p0 m c) (arg_p1 m c) (arg_b m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v3_0 (by decide))).trans (final_g m ρ c),
       (h c _ (mem_uc main_v3_1 (by decide))).trans (final_d m ρ c),
       (h c _ (mem_uc main_v3_2 (by decide))).trans (final_m m ρ c),
       (h c _ (mem_uc main_v3_3 (by decide))).trans (final_v m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Run

end Cert.AdamXaWkvIdeal.Value

namespace Cert.AdamXaWkvSpecIdeal.Value

open Cert.AdamXaWkvSpecIdeal Cert.AdamXaWkvSpecIdeal.Gen

/-- The sums of the two layers' parts, stacked. -/
abbrev rS (p0 p1 : Vec Ideal S8x128x1024 .f32) : FVec Ideal S2x128x1024 .f32 := concatenate S2x128x1024 0 [⟨S1x128x1024, (broadcastInDim S1x128x1024 ![1, 2] bcast_S128x1024_S1x128x1024_1_2 (Host.reduceAdd p0 (constant S_ .f32 0x00000000#32) reducesTo_S8x128x1024_S128x1024_d0 h_S_))⟩, ⟨S1x128x1024, (broadcastInDim S1x128x1024 ![1, 2] bcast_S128x1024_S1x128x1024_1_2 (Host.reduceAdd p1 (constant S_ .f32 0x00000000#32) reducesTo_S8x128x1024_S128x1024_d0 h_S_))⟩] concatenates_S1x128x1024_S1x128x1024_S2x128x1024_d0

/-- The same, laid out as the weight is. -/
abbrev rG (p0 p1 : Vec Ideal S8x128x1024 .f32) : FVec Ideal S2x128x1024 .f32 := rS p0 p1

/-- The reference's new first moment. -/
abbrev rM (p0 p1 : Vec Ideal S8x128x1024 .f32) (a : Vec Ideal S2x128x1024 .f32) : FVec Ideal S2x128x1024 .f32 :=
  addf (mulf (broadcastInDim S2x128x1024 ![] bcast_S_S2x128x1024 (constant S_ .f32 0x3F666666#32)) a) (mulf (broadcastInDim S2x128x1024 ![] bcast_S_S2x128x1024 (constant S_ .f32 0x3DCCCCCD#32)) (rG p0 p1))

/-- The reference's new second moment. -/
abbrev rV (p0 p1 : Vec Ideal S8x128x1024 .f32) (b : Vec Ideal S2x128x1024 .f32) : FVec Ideal S2x128x1024 .f32 :=
  addf (mulf (broadcastInDim S2x128x1024 ![] bcast_S_S2x128x1024 (constant S_ .f32 0x3F7FBE77#32)) b) (mulf (broadcastInDim S2x128x1024 ![] bcast_S_S2x128x1024 (constant S_ .f32 0x3A83126F#32)) (mulf (rG p0 p1) (rG p0 p1)))

/-- The reference's change of the weight. -/
abbrev rD (p0 p1 : Vec Ideal S8x128x1024 .f32) (w a b : Vec Ideal S2x128x1024 .f32) : FVec Ideal S2x128x1024 .f32 :=
  mulf (broadcastInDim S2x128x1024 ![] bcast_S_S2x128x1024 (constant S_ .f32 0xBA83126F#32)) (addf (Host.divf (Host.divf (rM p0 p1 a) (broadcastInDim S2x128x1024 ![] bcast_S_S2x128x1024 (constant S_ .f32 0x3F26BD02#32))) (addf (Host.sqrt (Host.divf (rV p0 p1 b) (broadcastInDim S2x128x1024 ![] bcast_S_S2x128x1024 (constant S_ .f32 0x3C231ACC#32)))) (broadcastInDim S2x128x1024 ![] bcast_S_S2x128x1024 (constant S_ .f32 0x322BCC77#32)))) (mulf (broadcastInDim S2x128x1024 ![] bcast_S_S2x128x1024 (constant S_ .f32 0x3C23D70A#32)) w))

theorem rS_0 (p0 p1 : Vec Ideal S8x128x1024 .f32) (y : Fin 128) (z : Fin 1024) : rS p0 p1 (ix3 (0 : Fin 2) y z) = ∑ k : Fin 8, p0 (ix3 k y z) := by
  pointwise

theorem rS_1 (p0 p1 : Vec Ideal S8x128x1024 .f32) (y : Fin 128) (z : Fin 1024) : rS p0 p1 (ix3 (1 : Fin 2) y z) = ∑ k : Fin 8, p1 (ix3 k y z) := by
  pointwise

theorem rS_at (p0 p1 : Vec Ideal S8x128x1024 .f32) (l : Fin 2) (y : Fin 128) (z : Fin 1024) : rS p0 p1 (ix3 l y z) = Cert.AdamXaWkvIdeal.Value.gOut p0 p1 (ix3 l y z) := by
  obtain rfl | rfl : l = 0 ∨ l = 1 := by omega
  · rw [rS_0, Cert.AdamXaWkvIdeal.Value.gOut_0]
  · rw [rS_1, Cert.AdamXaWkvIdeal.Value.gOut_1]

/-- The pointwise part of the step, at any gradient. -/
theorem m_at (g : FVec Ideal S2x128x1024 .f32) (a : Vec Ideal S2x128x1024 .f32) (l : Fin 2) (y : Fin 128) (z : Fin 1024) :
    addf (mulf (broadcastInDim S2x128x1024 ![] bcast_S_S2x128x1024 (constant S_ .f32 0x3F666666#32)) a) (mulf (broadcastInDim S2x128x1024 ![] bcast_S_S2x128x1024 (constant S_ .f32 0x3DCCCCCD#32)) g) (ix3 l y z) = AdamMath.newM (a (ix3 l y z)) (g (ix3 l y z)) := by
  pointwise [AdamMath.newM]

theorem v_at (g : FVec Ideal S2x128x1024 .f32) (b : Vec Ideal S2x128x1024 .f32) (l : Fin 2) (y : Fin 128) (z : Fin 1024) :
    addf (mulf (broadcastInDim S2x128x1024 ![] bcast_S_S2x128x1024 (constant S_ .f32 0x3F7FBE77#32)) b) (mulf (broadcastInDim S2x128x1024 ![] bcast_S_S2x128x1024 (constant S_ .f32 0x3A83126F#32)) (mulf g g)) (ix3 l y z) = AdamMath.newV (b (ix3 l y z)) (g (ix3 l y z)) := by
  pointwise [AdamMath.newV]

theorem d_at (g : FVec Ideal S2x128x1024 .f32) (w a b : Vec Ideal S2x128x1024 .f32) (l : Fin 2) (y : Fin 128) (z : Fin 1024) :
    mulf (broadcastInDim S2x128x1024 ![] bcast_S_S2x128x1024 (constant S_ .f32 0xBA83126F#32)) (addf (Host.divf (Host.divf (addf (mulf (broadcastInDim S2x128x1024 ![] bcast_S_S2x128x1024 (constant S_ .f32 0x3F666666#32)) a) (mulf (broadcastInDim S2x128x1024 ![] bcast_S_S2x128x1024 (constant S_ .f32 0x3DCCCCCD#32)) g)) (broadcastInDim S2x128x1024 ![] bcast_S_S2x128x1024 (constant S_ .f32 0x3F26BD02#32))) (addf (Host.sqrt (Host.divf (addf (mulf (broadcastInDim S2x128x1024 ![] bcast_S_S2x128x1024 (constant S_ .f32 0x3F7FBE77#32)) b) (mulf (broadcastInDim S2x128x1024 ![] bcast_S_S2x128x1024 (constant S_ .f32 0x3A83126F#32)) (mulf g g))) (broadcastInDim S2x128x1024 ![] bcast_S_S2x128x1024 (constant S_ .f32 0x3C231ACC#32)))) (broadcastInDim S2x128x1024 ![] bcast_S_S2x128x1024 (constant S_ .f32 0x322BCC77#32)))) (mulf (broadcastInDim S2x128x1024 ![] bcast_S_S2x128x1024 (constant S_ .f32 0x3C23D70A#32)) w)) (ix3 l y z) =
      AdamMath.delta (w (ix3 l y z)) (a (ix3 l y z)) (b (ix3 l y z)) (g (ix3 l y z)) := by
  pointwise [AdamMath.delta, AdamMath.newM, AdamMath.newV]

theorem rG_at (p0 p1 : Vec Ideal S8x128x1024 .f32) (l : Fin 2) (y : Fin 128) (z : Fin 1024) : rG p0 p1 (ix3 l y z) = Cert.AdamXaWkvIdeal.Value.gOut p0 p1 (ix3 l y z) := rS_at p0 p1 l y z

theorem spec_g (p0 p1 : Vec Ideal S8x128x1024 .f32) : rG p0 p1 = Cert.AdamXaWkvIdeal.Value.gOut p0 p1  := by
  funext i
  idx_vars i
  exact rG_at p0 p1 i0 i1 i2

theorem spec_m (p0 p1 : Vec Ideal S8x128x1024 .f32) (a : Vec Ideal S2x128x1024 .f32) : rM p0 p1 a = Cert.AdamXaWkvIdeal.Value.mOut p0 p1 a := by
  funext i
  idx_vars i
  rw [rM, m_at, rG_at]
  rfl

theorem spec_v (p0 p1 : Vec Ideal S8x128x1024 .f32) (b : Vec Ideal S2x128x1024 .f32) : rV p0 p1 b = Cert.AdamXaWkvIdeal.Value.vOut p0 p1 b := by
  funext i
  idx_vars i
  rw [rV, v_at, rG_at]
  rfl

theorem spec_d (p0 p1 : Vec Ideal S8x128x1024 .f32) (w a b : Vec Ideal S2x128x1024 .f32) : rD p0 p1 w a b = Cert.AdamXaWkvIdeal.Value.dOut p0 p1 w a b := by
  funext i
  idx_vars i
  rw [rD, d_at, rG_at]
  rfl

end Cert.AdamXaWkvSpecIdeal.Value

namespace Cert.AdamXaWkvClaim

open Cert.AdamXaWkvIdeal.Value

theorem specFrame : Cert.quiescent_AdamXaWkvSpecIdeal := fun m g _ =>
  (θ_run _ _ _).mono (fun r h => ⟨fun c => (h c).2.2.2.2, sem_eq_zero_of_no_sems (by decide) r.2⟩) (Cert.AdamXaWkvSpecIdeal.Value.run m g)

theorem value : Cert.algebraic_AdamXaWkvIdeal_AdamXaWkvSpecIdeal := by
  intro m g m' g' _ hargs
  refine ⟨fun c => gOut (arg_p0 m c) (arg_p1 m c), fun c => dOut (arg_p0 m c) (arg_p1 m c) (arg_w m c) (arg_a m c) (arg_b m c),
    fun c => mOut (arg_p0 m c) (arg_p1 m c) (arg_a m c), fun c => vOut (arg_p0 m c) (arg_p1 m c) (arg_b m c), ?_, ?_⟩
  · exact Cert.AdamXaWkvIdeal.Value.run m g
  · refine (θ_run _ _ _).mono (fun r h c => ?_) (Cert.AdamXaWkvSpecIdeal.Value.run m' g')
    obtain ⟨a0, a1, a2, a3, a4⟩ := hargs c
    obtain ⟨h0, h1, h2, h3, hk⟩ := h c
    refine ⟨h0.trans ?_, h1.trans ?_, h2.trans ?_, h3.trans ?_, hk⟩
    · rw [a0, a1]
      exact Cert.AdamXaWkvSpecIdeal.Value.spec_g _ _
    · rw [a0, a1, a2, a3, a4]
      exact Cert.AdamXaWkvSpecIdeal.Value.spec_d _ _ _ _ _
    · rw [a0, a1, a3]
      exact Cert.AdamXaWkvSpecIdeal.Value.spec_m _ _ _
    · rw [a0, a1, a4]
      exact Cert.AdamXaWkvSpecIdeal.Value.spec_v _ _ _

end Cert.AdamXaWkvClaim

end
-- ==== Proof.AdamXaWo.lean ====
module

public import proofs.«01_k».proof.Proof.Gen.AdamXaWoIdeal.Frame
public import proofs.«01_k».proof.Proof.Gen.AdamXaWoSpecIdeal.Run
public import proofs.«01_k».proof.Proof.Gen.AdamXaWo.Frame
public import Idealize.ShloMosaic.Lib.Pipeline.ValueKit
public import Idealize.ShloMosaic.Lib.Pipeline.ReadBack
public import Idealize.ShloMosaic.Lib.Claim
public import proofs.«01_k».proof.Proof.AdamMath

/-! The optimiser's step for one weight of both layers, one call a layer, the second writing into the first's results: the sums of the eight
    devices' parts of the gradients, then AdamW. -/

@[expose] public section

set_option maxRecDepth 16384

noncomputable section

open Idealize.ShloMosaic Idealize.ShloMosaic.TcCoe Idealize.SL.Sem
open Idealize.ShloMosaic.Pipeline (Dat)

namespace Cert.AdamXaWoIdeal.Value

open Cert.AdamXaWoIdeal Cert.AdamXaWoIdeal.Gen

/-- The gradient: for each of the two layers the sum of the parts of the eight devices. -/
def gOut (p0 p1 : Vec Ideal S8x512x128 .f32) : Vec Ideal S2x512x128 .f32 :=
  fun i => if (i 0).val = 0 then ∑ k : Fin 8, p0 (ix3 k (i 1) (i 2)) else ∑ k : Fin 8, p1 (ix3 k (i 1) (i 2))

/-- The new first moment. -/
def mOut (p0 p1 : Vec Ideal S8x512x128 .f32) (a : Vec Ideal S2x512x128 .f32) : Vec Ideal S2x512x128 .f32 :=
  fun i => AdamMath.newM (a (i)) (gOut p0 p1 i)

/-- The new second moment. -/
def vOut (p0 p1 : Vec Ideal S8x512x128 .f32) (b : Vec Ideal S2x512x128 .f32) : Vec Ideal S2x512x128 .f32 :=
  fun i => AdamMath.newV (b (i)) (gOut p0 p1 i)

/-- The change of the weight. -/
def dOut (p0 p1 : Vec Ideal S8x512x128 .f32) (w a b : Vec Ideal S2x512x128 .f32) : Vec Ideal S2x512x128 .f32 :=
  fun i => AdamMath.delta (w (i)) (a (i)) (b (i)) (gOut p0 p1 i)

theorem gOut_0 (p0 p1 : Vec Ideal S8x512x128 .f32) (y : Fin 512) (z : Fin 128) : gOut p0 p1 (ix3 (0 : Fin 2) y z) = ∑ k : Fin 8, p0 (ix3 k y z) := if_pos rfl

theorem gOut_1 (p0 p1 : Vec Ideal S8x512x128 .f32) (y : Fin 512) (z : Fin 128) : gOut p0 p1 (ix3 (1 : Fin 2) y z) = ∑ k : Fin 8, p1 (ix3 k y z) :=
  if_neg (fun h => absurd (show (1 : ℕ) = 0 from h) one_ne_zero)

section Values

variable (m : (ℓ : Loc nD τ sig) → Buf (Elt Ideal) ℓ) (ρ : Dev nD → PrngReg)
variable (V : (c : Dev nD) → (b : Ref sig .tc) → Buf (Elt Ideal) ((c : Thread nD τ).loc b))

abbrev arg_p0 (c : Dev nD) : Vec Ideal S8x512x128 .f32 := m ((c : Thread nD τ).loc main_arg0)
abbrev arg_p1 (c : Dev nD) : Vec Ideal S8x512x128 .f32 := m ((c : Thread nD τ).loc main_arg1)
abbrev arg_w (c : Dev nD) : Vec Ideal S2x512x128 .f32 := m ((c : Thread nD τ).loc main_arg2)
abbrev arg_a (c : Dev nD) : Vec Ideal S2x512x128 .f32 := m ((c : Thread nD τ).loc main_arg3)
abbrev arg_b (c : Dev nD) : Vec Ideal S2x512x128 .f32 := m ((c : Thread nD τ).loc main_arg4)

theorem idx0 : ∀ t : Fin cfg0.N, win0_0.index t = ![0, 0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row at which a grid point of call 0 works. -/
def row0 (t : Fin cfg0.N) (p : Fin 512) : Fin 512 := ⟨t.val * 512 + p.val, by have := t.isLt; have : cfg0.N = 1 := rfl; omega⟩

theorem idx1 : ∀ t : Fin cfg1.N, win1_0.index t = ![0, 0, t.val, 0] ∧ win1_1.index t = ![1, t.val, 0] ∧ win1_2.index t = ![1, t.val, 0] ∧ win1_3.index t = ![1, t.val, 0] ∧ win1_4.index t = ![1, t.val, 0] ∧ win1_5.index t = ![1, t.val, 0] ∧ win1_6.index t = ![1, t.val, 0] ∧ win1_7.index t = ![1, t.val, 0] :=
  (by decide +kernel : ∀ t : Fin grid1.N, _)

/-- The row at which a grid point of call 1 works. -/
def row1 (t : Fin cfg1.N) (p : Fin 512) : Fin 512 := ⟨t.val * 512 + p.val, by have := t.isLt; have : cfg1.N = 1 := rfl; omega⟩

theorem V1_p (c : Dev nD) : @Eq (FVec Ideal S8x1x512x128 .f32) (V1 m ρ c main_v0) (shapeCast S8x1x512x128 (arg_p0 m c) shapeCasts_S8x512x128_S8x1x512x128) := by
  unfold_abbrev_sides
  after_results
  rfl

theorem V3_p (c : Dev nD) : @Eq (FVec Ideal S8x1x512x128 .f32) (V3 m ρ c main_v2) (shapeCast S8x1x512x128 (arg_p1 m c) shapeCasts_S8x512x128_S8x1x512x128) := by
  have h : @Eq (FVec Ideal S8x1x512x128 .f32) (V3 m ρ c main_v2) (shapeCast S8x1x512x128 (show Vec Ideal S8x512x128 .f32 from W2 m ρ c (Proc.devRef .tc main_arg1)) shapeCasts_S8x512x128_S8x1x512x128) := by
    unfold_abbrev_sides
    after_results
    rfl
  rw [h, W2_args m ρ c main_arg1 (by decide)]

theorem V1_w (c : Dev nD) : @Eq (FVec Ideal S2x512x128 .f32) (V1 m ρ c main_arg2) (arg_w m c) := W1_args m ρ c main_arg2 (by decide)

theorem V3_w (c : Dev nD) : @Eq (FVec Ideal S2x512x128 .f32) (V3 m ρ c main_arg2) (arg_w m c) := W3_args m ρ c main_arg2 (by decide)

theorem V1_a (c : Dev nD) : @Eq (FVec Ideal S2x512x128 .f32) (V1 m ρ c main_arg3) (arg_a m c) := W1_args m ρ c main_arg3 (by decide)

theorem V3_a (c : Dev nD) : @Eq (FVec Ideal S2x512x128 .f32) (V3 m ρ c main_arg3) (arg_a m c) := W3_args m ρ c main_arg3 (by decide)

theorem V1_b (c : Dev nD) : @Eq (FVec Ideal S2x512x128 .f32) (V1 m ρ c main_arg4) (arg_b m c) := W1_args m ρ c main_arg4 (by decide)

theorem V3_b (c : Dev nD) : @Eq (FVec Ideal S2x512x128 .f32) (V3 m ρ c main_arg4) (arg_b m c) := W3_args m ρ c main_arg4 (by decide)

theorem blk0_p (c : Dev nD) (t : Fin cfg0.N) (k : Fin 8) (p : Fin 512) (q : Fin 128) :
    iblk0 (V1 m ρ) c 0 t (ix4 k (0 : Fin 1) p q) = arg_p0 m c (ix3 k (row0 t p) q) := by
  have h : iblk0 (V1 m ρ) c 0 t (ix4 k (0 : Fin 1) p q) = V1 m ρ c main_v0 (ix4 k (0 : Fin 1) (row0 t p) q) := by
    generalize V1 m ρ = V
    blk_point [iblk0, idx0 t, row0]
  rw [h, V1_p]
  pointwise

theorem blk0_w (c : Dev nD) (t : Fin cfg0.N) (p : Fin 512) (q : Fin 128) :
    iblk0 (V1 m ρ) c 1 t (ix3 (0 : Fin 1) p q) = arg_w m c (ix3 (0 : Fin 2) (row0 t p) q) := by
  have h : iblk0 (V1 m ρ) c 1 t (ix3 (0 : Fin 1) p q) = V1 m ρ c main_arg2 (ix3 (0 : Fin 2) (row0 t p) q) := by
    generalize V1 m ρ = V
    blk_point [iblk0, idx0 t, row0]
  rw [h, V1_w]

theorem blk0_a (c : Dev nD) (t : Fin cfg0.N) (p : Fin 512) (q : Fin 128) :
    iblk0 (V1 m ρ) c 2 t (ix3 (0 : Fin 1) p q) = arg_a m c (ix3 (0 : Fin 2) (row0 t p) q) := by
  have h : iblk0 (V1 m ρ) c 2 t (ix3 (0 : Fin 1) p q) = V1 m ρ c main_arg3 (ix3 (0 : Fin 2) (row0 t p) q) := by
    generalize V1 m ρ = V
    blk_point [iblk0, idx0 t, row0]
  rw [h, V1_a]

theorem blk0_b (c : Dev nD) (t : Fin cfg0.N) (p : Fin 512) (q : Fin 128) :
    iblk0 (V1 m ρ) c 3 t (ix3 (0 : Fin 1) p q) = arg_b m c (ix3 (0 : Fin 2) (row0 t p) q) := by
  have h : iblk0 (V1 m ρ) c 3 t (ix3 (0 : Fin 1) p q) = V1 m ρ c main_arg4 (ix3 (0 : Fin 2) (row0 t p) q) := by
    generalize V1 m ρ = V
    blk_point [iblk0, idx0 t, row0]
  rw [h, V1_b]

theorem blk1_p (c : Dev nD) (t : Fin cfg1.N) (k : Fin 8) (p : Fin 512) (q : Fin 128) :
    iblk1 (V3 m ρ) c 0 t (ix4 k (0 : Fin 1) p q) = arg_p1 m c (ix3 k (row1 t p) q) := by
  have h : iblk1 (V3 m ρ) c 0 t (ix4 k (0 : Fin 1) p q) = V3 m ρ c main_v2 (ix4 k (0 : Fin 1) (row1 t p) q) := by
    generalize V3 m ρ = V
    blk_point [iblk1, idx1 t, row1]
  rw [h, V3_p]
  pointwise

theorem blk1_w (c : Dev nD) (t : Fin cfg1.N) (p : Fin 512) (q : Fin 128) :
    iblk1 (V3 m ρ) c 1 t (ix3 (0 : Fin 1) p q) = arg_w m c (ix3 (1 : Fin 2) (row1 t p) q) := by
  have h : iblk1 (V3 m ρ) c 1 t (ix3 (0 : Fin 1) p q) = V3 m ρ c main_arg2 (ix3 (1 : Fin 2) (row1 t p) q) := by
    generalize V3 m ρ = V
    blk_point [iblk1, idx1 t, row1]
  rw [h, V3_w]

theorem blk1_a (c : Dev nD) (t : Fin cfg1.N) (p : Fin 512) (q : Fin 128) :
    iblk1 (V3 m ρ) c 2 t (ix3 (0 : Fin 1) p q) = arg_a m c (ix3 (1 : Fin 2) (row1 t p) q) := by
  have h : iblk1 (V3 m ρ) c 2 t (ix3 (0 : Fin 1) p q) = V3 m ρ c main_arg3 (ix3 (1 : Fin 2) (row1 t p) q) := by
    generalize V3 m ρ = V
    blk_point [iblk1, idx1 t, row1]
  rw [h, V3_a]

theorem blk1_b (c : Dev nD) (t : Fin cfg1.N) (p : Fin 512) (q : Fin 128) :
    iblk1 (V3 m ρ) c 3 t (ix3 (0 : Fin 1) p q) = arg_b m c (ix3 (1 : Fin 2) (row1 t p) q) := by
  have h : iblk1 (V3 m ρ) c 3 t (ix3 (0 : Fin 1) p q) = V3 m ρ c main_arg4 (ix3 (1 : Fin 2) (row1 t p) q) := by
    generalize V3 m ρ = V
    blk_point [iblk1, idx1 t, row1]
  rw [h, V3_b]

/-- The sum of the eight parts at one grid point of call 0. -/
theorem pay0_g (x0 : Vec Ideal S8x1x512x128 .f32) (x1 x2 x3 : Vec Ideal S1x512x128 .f32) (p : Fin 512) (q : Fin 128) :
    k0_pay5 (F := Ideal) x0 x1 x2 x3 (ix3 (0 : Fin 1) p q) = ∑ k : Fin 8, x0 (ix4 k (0 : Fin 1) p q) := by
  refine Eq.trans ?_ (AdamMath.sum8 fun k => x0 (ix4 k (0 : Fin 1) p q))
  pointwise [k0_pay5, k0_pay1]

theorem pay0_m (g x : Vec Ideal S1x512x128 .f32) (p : Fin 512) (q : Fin 128) :
    k0_pay2 (F := Ideal) g x (ix3 (0 : Fin 1) p q) = AdamMath.newM (x (ix3 (0 : Fin 1) p q)) (g (ix3 (0 : Fin 1) p q)) := by
  pointwise [k0_pay2, AdamMath.newM]

theorem pay0_v (g x : Vec Ideal S1x512x128 .f32) (p : Fin 512) (q : Fin 128) :
    k0_pay3 (F := Ideal) g x (ix3 (0 : Fin 1) p q) = AdamMath.newV (x (ix3 (0 : Fin 1) p q)) (g (ix3 (0 : Fin 1) p q)) := by
  pointwise [k0_pay3, AdamMath.newV]

theorem pay0_d (g x y z : Vec Ideal S1x512x128 .f32) (p : Fin 512) (q : Fin 128) :
    k0_pay4 (F := Ideal) g y z x (ix3 (0 : Fin 1) p q) = AdamMath.delta (x (ix3 (0 : Fin 1) p q)) (y (ix3 (0 : Fin 1) p q)) (z (ix3 (0 : Fin 1) p q)) (g (ix3 (0 : Fin 1) p q)) := by
  pointwise [k0_pay4, k0_pay2, k0_pay3, AdamMath.delta, AdamMath.newM, AdamMath.newV]

/-- The sum of the eight parts at one grid point of call 1. -/
theorem pay1_g (x0 : Vec Ideal S8x1x512x128 .f32) (p : Fin 512) (q : Fin 128) :
    k1_pay1 (F := Ideal) (View.ld x0 r0_0) (View.ld x0 r0_1) (View.ld x0 r0_2) (View.ld x0 r0_3) (View.ld x0 r0_4) (View.ld x0 r0_5) (View.ld x0 r0_6) (View.ld x0 r0_7) (ix3 (0 : Fin 1) p q) = ∑ k : Fin 8, x0 (ix4 k (0 : Fin 1) p q) := by
  refine Eq.trans ?_ (AdamMath.sum8 fun k => x0 (ix4 k (0 : Fin 1) p q))
  pointwise [k1_pay1]

theorem pay1_m (g x : Vec Ideal S1x512x128 .f32) (p : Fin 512) (q : Fin 128) :
    k1_pay2 (F := Ideal) g x (ix3 (0 : Fin 1) p q) = AdamMath.newM (x (ix3 (0 : Fin 1) p q)) (g (ix3 (0 : Fin 1) p q)) := by
  pointwise [k1_pay2, AdamMath.newM]

theorem pay1_v (g x : Vec Ideal S1x512x128 .f32) (p : Fin 512) (q : Fin 128) :
    k1_pay3 (F := Ideal) g x (ix3 (0 : Fin 1) p q) = AdamMath.newV (x (ix3 (0 : Fin 1) p q)) (g (ix3 (0 : Fin 1) p q)) := by
  pointwise [k1_pay3, AdamMath.newV]

theorem pay1_d (g x y z : Vec Ideal S1x512x128 .f32) (p : Fin 512) (q : Fin 128) :
    k1_pay4 (F := Ideal) g y z x (ix3 (0 : Fin 1) p q) = AdamMath.delta (x (ix3 (0 : Fin 1) p q)) (y (ix3 (0 : Fin 1) p q)) (z (ix3 (0 : Fin 1) p q)) (g (ix3 (0 : Fin 1) p q)) := by
  pointwise [k1_pay4, k1_pay2, k1_pay3, AdamMath.delta, AdamMath.newM, AdamMath.newV]

theorem sum0 (c : Dev nD) (t : Fin cfg0.N) (p : Fin 512) (q : Fin 128) :
    k0_pay5 (F := Ideal) (iblk0 (V1 m ρ) c 0 t) (iblk0 (V1 m ρ) c 1 t) (iblk0 (V1 m ρ) c 2 t) (iblk0 (V1 m ρ) c 3 t) (ix3 (0 : Fin 1) p q) = ∑ k : Fin 8, arg_p0 m c (ix3 k (row0 t p) q) :=
  (pay0_g (iblk0 (V1 m ρ) c 0 t) (iblk0 (V1 m ρ) c 1 t) (iblk0 (V1 m ρ) c 2 t) (iblk0 (V1 m ρ) c 3 t) p q).trans (Finset.sum_congr rfl fun k _ => blk0_p m ρ c t k p q)

theorem emb0_g (t : Fin cfg0.N) (p : Fin 512) (q : Fin 128) :
    ((cfg0.win 4).blk t).view.emb (ix3 (0 : Fin 1) p q) = ix3 (0 : Fin 2) (row0 t p) q := by
  blk_point [idx0 t, row0]

theorem point0_g (c : Dev nD) (t : Fin cfg0.N) (l : Fin 1) (p : Fin 512) (q : Fin 128) :
    k0_pay5 (F := Ideal) (iblk0 (V1 m ρ) c 0 t) (iblk0 (V1 m ρ) c 1 t) (iblk0 (V1 m ρ) c 2 t) (iblk0 (V1 m ρ) c 3 t) (ix3 l p q) = gOut (arg_p0 m c) (arg_p1 m c) (((cfg0.win 4).blk t).view.emb (ix3 l p q)) := by
  obtain rfl : l = 0 := Subsingleton.elim _ _
  rw [emb0_g, sum0]
  show _ = gOut (arg_p0 m c) (arg_p1 m c) (ix3 (0 : Fin 2) (row0 t p) q)
  rw [gOut_0]

theorem reg0_g (c : Dev nD) : (dat0 (V1 m ρ) c).arrAt 4 cfg0.N =
    fun i => if (i (0 : Fin 3)).val = 0 then gOut (arg_p0 m c) (arg_p1 m c) i else (dat0 (V1 m ρ) c).A 4 i := by
  refine (dat0 (V1 m ρ) c).arrAt_eq_of_coversWhere 4 (gOut (arg_p0 m c) (arg_p1 m c)) (fun β => β (0 : Fin 3) = 0) (by decide +kernel) (fun t hf y => ?_)
    (fun j => by blk_simp [Pipeline.Window.cell_apply]; omega)
  blk_simp
  rw [after0_4]
  frame_out
  idx_vars y
  exact point0_g m ρ c t y0 y1 y2

theorem emb0_d (t : Fin cfg0.N) (p : Fin 512) (q : Fin 128) :
    ((cfg0.win 5).blk t).view.emb (ix3 (0 : Fin 1) p q) = ix3 (0 : Fin 2) (row0 t p) q := by
  blk_point [idx0 t, row0]

theorem point0_d (c : Dev nD) (t : Fin cfg0.N) (l : Fin 1) (p : Fin 512) (q : Fin 128) :
    k0_pay4 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 2 t) (iblk0 (V1 m ρ) c 3 t) (iblk0 (V1 m ρ) c 1 t) (ix3 l p q) = dOut (arg_p0 m c) (arg_p1 m c) (arg_w m c) (arg_a m c) (arg_b m c) (((cfg0.win 5).blk t).view.emb (ix3 l p q)) := by
  obtain rfl : l = 0 := Subsingleton.elim _ _
  rw [emb0_d, pay0_d, sum0]
  show _ = AdamMath.delta (arg_w m c (ix3 (0 : Fin 2) (row0 t p) q)) (arg_a m c (ix3 (0 : Fin 2) (row0 t p) q)) (arg_b m c (ix3 (0 : Fin 2) (row0 t p) q)) (gOut (arg_p0 m c) (arg_p1 m c) (ix3 (0 : Fin 2) (row0 t p) q))
  rw [gOut_0]
  simp only [blk0_w, blk0_a, blk0_b]

theorem reg0_d (c : Dev nD) : (dat0 (V1 m ρ) c).arrAt 5 cfg0.N =
    fun i => if (i (0 : Fin 3)).val = 0 then dOut (arg_p0 m c) (arg_p1 m c) (arg_w m c) (arg_a m c) (arg_b m c) i else (dat0 (V1 m ρ) c).A 5 i := by
  refine (dat0 (V1 m ρ) c).arrAt_eq_of_coversWhere 5 (dOut (arg_p0 m c) (arg_p1 m c) (arg_w m c) (arg_a m c) (arg_b m c)) (fun β => β (0 : Fin 3) = 0) (by decide +kernel) (fun t hf y => ?_)
    (fun j => by blk_simp [Pipeline.Window.cell_apply]; omega)
  blk_simp
  rw [after0_5]
  frame_out
  idx_vars y
  exact point0_d m ρ c t y0 y1 y2

theorem emb0_m (t : Fin cfg0.N) (p : Fin 512) (q : Fin 128) :
    ((cfg0.win 6).blk t).view.emb (ix3 (0 : Fin 1) p q) = ix3 (0 : Fin 2) (row0 t p) q := by
  blk_point [idx0 t, row0]

theorem point0_m (c : Dev nD) (t : Fin cfg0.N) (l : Fin 1) (p : Fin 512) (q : Fin 128) :
    k0_pay2 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 2 t) (ix3 l p q) = mOut (arg_p0 m c) (arg_p1 m c) (arg_a m c) (((cfg0.win 6).blk t).view.emb (ix3 l p q)) := by
  obtain rfl : l = 0 := Subsingleton.elim _ _
  rw [emb0_m, pay0_m, sum0]
  show _ = AdamMath.newM (arg_a m c (ix3 (0 : Fin 2) (row0 t p) q)) (gOut (arg_p0 m c) (arg_p1 m c) (ix3 (0 : Fin 2) (row0 t p) q))
  rw [gOut_0]
  simp only [blk0_a]

theorem reg0_m (c : Dev nD) : (dat0 (V1 m ρ) c).arrAt 6 cfg0.N =
    fun i => if (i (0 : Fin 3)).val = 0 then mOut (arg_p0 m c) (arg_p1 m c) (arg_a m c) i else (dat0 (V1 m ρ) c).A 6 i := by
  refine (dat0 (V1 m ρ) c).arrAt_eq_of_coversWhere 6 (mOut (arg_p0 m c) (arg_p1 m c) (arg_a m c)) (fun β => β (0 : Fin 3) = 0) (by decide +kernel) (fun t hf y => ?_)
    (fun j => by blk_simp [Pipeline.Window.cell_apply]; omega)
  blk_simp
  rw [after0_6]
  frame_out
  idx_vars y
  exact point0_m m ρ c t y0 y1 y2

theorem emb0_v (t : Fin cfg0.N) (p : Fin 512) (q : Fin 128) :
    ((cfg0.win 7).blk t).view.emb (ix3 (0 : Fin 1) p q) = ix3 (0 : Fin 2) (row0 t p) q := by
  blk_point [idx0 t, row0]

theorem point0_v (c : Dev nD) (t : Fin cfg0.N) (l : Fin 1) (p : Fin 512) (q : Fin 128) :
    k0_pay3 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 3 t) (ix3 l p q) = vOut (arg_p0 m c) (arg_p1 m c) (arg_b m c) (((cfg0.win 7).blk t).view.emb (ix3 l p q)) := by
  obtain rfl : l = 0 := Subsingleton.elim _ _
  rw [emb0_v, pay0_v, sum0]
  show _ = AdamMath.newV (arg_b m c (ix3 (0 : Fin 2) (row0 t p) q)) (gOut (arg_p0 m c) (arg_p1 m c) (ix3 (0 : Fin 2) (row0 t p) q))
  rw [gOut_0]
  simp only [blk0_b]

theorem reg0_v (c : Dev nD) : (dat0 (V1 m ρ) c).arrAt 7 cfg0.N =
    fun i => if (i (0 : Fin 3)).val = 0 then vOut (arg_p0 m c) (arg_p1 m c) (arg_b m c) i else (dat0 (V1 m ρ) c).A 7 i := by
  refine (dat0 (V1 m ρ) c).arrAt_eq_of_coversWhere 7 (vOut (arg_p0 m c) (arg_p1 m c) (arg_b m c)) (fun β => β (0 : Fin 3) = 0) (by decide +kernel) (fun t hf y => ?_)
    (fun j => by blk_simp [Pipeline.Window.cell_apply]; omega)
  blk_simp
  rw [after0_7]
  frame_out
  idx_vars y
  exact point0_v m ρ c t y0 y1 y2

theorem sum1 (c : Dev nD) (t : Fin cfg1.N) (p : Fin 512) (q : Fin 128) :
    k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7) (ix3 (0 : Fin 1) p q) = ∑ k : Fin 8, arg_p1 m c (ix3 k (row1 t p) q) :=
  (pay1_g (iblk1 (V3 m ρ) c 0 t)  p q).trans (Finset.sum_congr rfl fun k _ => blk1_p m ρ c t k p q)

theorem emb1_g (t : Fin cfg1.N) (p : Fin 512) (q : Fin 128) :
    ((cfg1.win 4).blk t).view.emb (ix3 (0 : Fin 1) p q) = ix3 (1 : Fin 2) (row1 t p) q := by
  blk_point [idx1 t, row1]

theorem point1_g (c : Dev nD) (t : Fin cfg1.N) (l : Fin 1) (p : Fin 512) (q : Fin 128) :
    k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7) (ix3 l p q) = gOut (arg_p0 m c) (arg_p1 m c) (((cfg1.win 4).blk t).view.emb (ix3 l p q)) := by
  obtain rfl : l = 0 := Subsingleton.elim _ _
  rw [emb1_g, sum1]
  show _ = gOut (arg_p0 m c) (arg_p1 m c) (ix3 (1 : Fin 2) (row1 t p) q)
  rw [gOut_1]

theorem reg1_g (c : Dev nD) : (dat1 (V3 m ρ) c).arrAt 4 cfg1.N =
    fun i => if (i (0 : Fin 3)).val = 1 then gOut (arg_p0 m c) (arg_p1 m c) i else (dat1 (V3 m ρ) c).A 4 i := by
  refine (dat1 (V3 m ρ) c).arrAt_eq_of_coversWhere 4 (gOut (arg_p0 m c) (arg_p1 m c)) (fun β => β (0 : Fin 3) = 1) (by decide +kernel) (fun t hf y => ?_)
    (fun j => by blk_simp [Pipeline.Window.cell_apply]; omega)
  blk_simp
  rw [after1_4]
  unfold outsAt1
  frame_out
  idx_vars y
  exact point1_g m ρ c t y0 y1 y2

theorem emb1_d (t : Fin cfg1.N) (p : Fin 512) (q : Fin 128) :
    ((cfg1.win 5).blk t).view.emb (ix3 (0 : Fin 1) p q) = ix3 (1 : Fin 2) (row1 t p) q := by
  blk_point [idx1 t, row1]

theorem point1_d (c : Dev nD) (t : Fin cfg1.N) (l : Fin 1) (p : Fin 512) (q : Fin 128) :
    k1_pay4 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 2 t) (iblk1 (V3 m ρ) c 3 t) (iblk1 (V3 m ρ) c 1 t) (ix3 l p q) = dOut (arg_p0 m c) (arg_p1 m c) (arg_w m c) (arg_a m c) (arg_b m c) (((cfg1.win 5).blk t).view.emb (ix3 l p q)) := by
  obtain rfl : l = 0 := Subsingleton.elim _ _
  rw [emb1_d, pay1_d, sum1]
  show _ = AdamMath.delta (arg_w m c (ix3 (1 : Fin 2) (row1 t p) q)) (arg_a m c (ix3 (1 : Fin 2) (row1 t p) q)) (arg_b m c (ix3 (1 : Fin 2) (row1 t p) q)) (gOut (arg_p0 m c) (arg_p1 m c) (ix3 (1 : Fin 2) (row1 t p) q))
  rw [gOut_1]
  simp only [blk1_w, blk1_a, blk1_b]

theorem reg1_d (c : Dev nD) : (dat1 (V3 m ρ) c).arrAt 5 cfg1.N =
    fun i => if (i (0 : Fin 3)).val = 1 then dOut (arg_p0 m c) (arg_p1 m c) (arg_w m c) (arg_a m c) (arg_b m c) i else (dat1 (V3 m ρ) c).A 5 i := by
  refine (dat1 (V3 m ρ) c).arrAt_eq_of_coversWhere 5 (dOut (arg_p0 m c) (arg_p1 m c) (arg_w m c) (arg_a m c) (arg_b m c)) (fun β => β (0 : Fin 3) = 1) (by decide +kernel) (fun t hf y => ?_)
    (fun j => by blk_simp [Pipeline.Window.cell_apply]; omega)
  blk_simp
  rw [after1_5]
  unfold outsAt1
  frame_out
  idx_vars y
  exact point1_d m ρ c t y0 y1 y2

theorem emb1_m (t : Fin cfg1.N) (p : Fin 512) (q : Fin 128) :
    ((cfg1.win 6).blk t).view.emb (ix3 (0 : Fin 1) p q) = ix3 (1 : Fin 2) (row1 t p) q := by
  blk_point [idx1 t, row1]

theorem point1_m (c : Dev nD) (t : Fin cfg1.N) (l : Fin 1) (p : Fin 512) (q : Fin 128) :
    k1_pay2 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 2 t) (ix3 l p q) = mOut (arg_p0 m c) (arg_p1 m c) (arg_a m c) (((cfg1.win 6).blk t).view.emb (ix3 l p q)) := by
  obtain rfl : l = 0 := Subsingleton.elim _ _
  rw [emb1_m, pay1_m, sum1]
  show _ = AdamMath.newM (arg_a m c (ix3 (1 : Fin 2) (row1 t p) q)) (gOut (arg_p0 m c) (arg_p1 m c) (ix3 (1 : Fin 2) (row1 t p) q))
  rw [gOut_1]
  simp only [blk1_a]

theorem reg1_m (c : Dev nD) : (dat1 (V3 m ρ) c).arrAt 6 cfg1.N =
    fun i => if (i (0 : Fin 3)).val = 1 then mOut (arg_p0 m c) (arg_p1 m c) (arg_a m c) i else (dat1 (V3 m ρ) c).A 6 i := by
  refine (dat1 (V3 m ρ) c).arrAt_eq_of_coversWhere 6 (mOut (arg_p0 m c) (arg_p1 m c) (arg_a m c)) (fun β => β (0 : Fin 3) = 1) (by decide +kernel) (fun t hf y => ?_)
    (fun j => by blk_simp [Pipeline.Window.cell_apply]; omega)
  blk_simp
  rw [after1_6]
  unfold outsAt1
  frame_out
  idx_vars y
  exact point1_m m ρ c t y0 y1 y2

theorem emb1_v (t : Fin cfg1.N) (p : Fin 512) (q : Fin 128) :
    ((cfg1.win 7).blk t).view.emb (ix3 (0 : Fin 1) p q) = ix3 (1 : Fin 2) (row1 t p) q := by
  blk_point [idx1 t, row1]

theorem point1_v (c : Dev nD) (t : Fin cfg1.N) (l : Fin 1) (p : Fin 512) (q : Fin 128) :
    k1_pay3 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 3 t) (ix3 l p q) = vOut (arg_p0 m c) (arg_p1 m c) (arg_b m c) (((cfg1.win 7).blk t).view.emb (ix3 l p q)) := by
  obtain rfl : l = 0 := Subsingleton.elim _ _
  rw [emb1_v, pay1_v, sum1]
  show _ = AdamMath.newV (arg_b m c (ix3 (1 : Fin 2) (row1 t p) q)) (gOut (arg_p0 m c) (arg_p1 m c) (ix3 (1 : Fin 2) (row1 t p) q))
  rw [gOut_1]
  simp only [blk1_b]

theorem reg1_v (c : Dev nD) : (dat1 (V3 m ρ) c).arrAt 7 cfg1.N =
    fun i => if (i (0 : Fin 3)).val = 1 then vOut (arg_p0 m c) (arg_p1 m c) (arg_b m c) i else (dat1 (V3 m ρ) c).A 7 i := by
  refine (dat1 (V3 m ρ) c).arrAt_eq_of_coversWhere 7 (vOut (arg_p0 m c) (arg_p1 m c) (arg_b m c)) (fun β => β (0 : Fin 3) = 1) (by decide +kernel) (fun t hf y => ?_)
    (fun j => by blk_simp [Pipeline.Window.cell_apply]; omega)
  blk_simp
  rw [after1_7]
  unfold outsAt1
  frame_out
  idx_vars y
  exact point1_v m ρ c t y0 y1 y2

theorem final_g (c : Dev nD) : W4 m ρ c (Proc.devRef .tc main_v3_0) = gOut (arg_p0 m c) (arg_p1 m c) := by
  refine (W4_arr m ρ c 4).trans ?_
  rw [reg1_g]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_0 = V2 m ρ c main_v1_0 := by
      unfold_abbrev_sides
      after_results
      rfl
    refine (if_neg h).trans ?_
    rw [A_eq1]
    refine (congrFun (e.trans (W2_arr m ρ c 4)) i).trans ?_
    rw [reg0_g]
    exact if_pos h0

theorem final_d (c : Dev nD) : W4 m ρ c (Proc.devRef .tc main_v3_1) = dOut (arg_p0 m c) (arg_p1 m c) (arg_w m c) (arg_a m c) (arg_b m c) := by
  refine (W4_arr m ρ c 5).trans ?_
  rw [reg1_d]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_1 = V2 m ρ c main_v1_1 := by
      unfold_abbrev_sides
      after_results
      rfl
    refine (if_neg h).trans ?_
    rw [A_eq1]
    refine (congrFun (e.trans (W2_arr m ρ c 5)) i).trans ?_
    rw [reg0_d]
    exact if_pos h0

theorem final_m (c : Dev nD) : W4 m ρ c (Proc.devRef .tc main_v3_2) = mOut (arg_p0 m c) (arg_p1 m c) (arg_a m c) := by
  refine (W4_arr m ρ c 6).trans ?_
  rw [reg1_m]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_2 = V2 m ρ c main_v1_2 := by
      unfold_abbrev_sides
      after_results
      rfl
    refine (if_neg h).trans ?_
    rw [A_eq1]
    refine (congrFun (e.trans (W2_arr m ρ c 6)) i).trans ?_
    rw [reg0_m]
    exact if_pos h0

theorem final_v (c : Dev nD) : W4 m ρ c (Proc.devRef .tc main_v3_3) = vOut (arg_p0 m c) (arg_p1 m c) (arg_b m c) := by
  refine (W4_arr m ρ c 7).trans ?_
  rw [reg1_v]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_3 = V2 m ρ c main_v1_3 := by
      unfold_abbrev_sides
      after_results
      rfl
    refine (if_neg h).trans ?_
    rw [A_eq1]
    refine (congrFun (e.trans (W2_arr m ρ c 7)) i).trans ?_
    rw [reg0_v]
    exact if_pos h0

end Values

section Run

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

/-- What the program leaves in its four results; its arguments are unchanged. -/
theorem run : θ_run defs (onTc (τ := τ) (main (F := Ideal))) ⟨m, fun _ => 0, ρ⟩ (fun r => ∀ c : Dev nD,
      r.2.mem ((c.tc : Thread nD τ).loc main_v3_0) = gOut (arg_p0 m c) (arg_p1 m c)
      ∧ r.2.mem ((c.tc : Thread nD τ).loc main_v3_1) = dOut (arg_p0 m c) (arg_p1 m c) (arg_w m c) (arg_a m c) (arg_b m c)
      ∧ r.2.mem ((c.tc : Thread nD τ).loc main_v3_2) = mOut (arg_p0 m c) (arg_p1 m c) (arg_a m c)
      ∧ r.2.mem ((c.tc : Thread nD τ).loc main_v3_3) = vOut (arg_p0 m c) (arg_p1 m c) (arg_b m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v3_0 (by decide))).trans (final_g m ρ c),
       (h c _ (mem_uc main_v3_1 (by decide))).trans (final_d m ρ c),
       (h c _ (mem_uc main_v3_2 (by decide))).trans (final_m m ρ c),
       (h c _ (mem_uc main_v3_3 (by decide))).trans (final_v m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Run

end Cert.AdamXaWoIdeal.Value

namespace Cert.AdamXaWoSpecIdeal.Value

open Cert.AdamXaWoSpecIdeal Cert.AdamXaWoSpecIdeal.Gen

/-- The sums of the two layers' parts, stacked. -/
abbrev rS (p0 p1 : Vec Ideal S8x512x128 .f32) : FVec Ideal S2x512x128 .f32 := concatenate S2x512x128 0 [⟨S1x512x128, (broadcastInDim S1x512x128 ![1, 2] bcast_S512x128_S1x512x128_1_2 (Host.reduceAdd p0 (constant S_ .f32 0x00000000#32) reducesTo_S8x512x128_S512x128_d0 h_S_))⟩, ⟨S1x512x128, (broadcastInDim S1x512x128 ![1, 2] bcast_S512x128_S1x512x128_1_2 (Host.reduceAdd p1 (constant S_ .f32 0x00000000#32) reducesTo_S8x512x128_S512x128_d0 h_S_))⟩] concatenates_S1x512x128_S1x512x128_S2x512x128_d0

/-- The same, laid out as the weight is. -/
abbrev rG (p0 p1 : Vec Ideal S8x512x128 .f32) : FVec Ideal S2x512x128 .f32 := rS p0 p1

/-- The reference's new first moment. -/
abbrev rM (p0 p1 : Vec Ideal S8x512x128 .f32) (a : Vec Ideal S2x512x128 .f32) : FVec Ideal S2x512x128 .f32 :=
  addf (mulf (broadcastInDim S2x512x128 ![] bcast_S_S2x512x128 (constant S_ .f32 0x3F666666#32)) a) (mulf (broadcastInDim S2x512x128 ![] bcast_S_S2x512x128 (constant S_ .f32 0x3DCCCCCD#32)) (rG p0 p1))

/-- The reference's new second moment. -/
abbrev rV (p0 p1 : Vec Ideal S8x512x128 .f32) (b : Vec Ideal S2x512x128 .f32) : FVec Ideal S2x512x128 .f32 :=
  addf (mulf (broadcastInDim S2x512x128 ![] bcast_S_S2x512x128 (constant S_ .f32 0x3F7FBE77#32)) b) (mulf (broadcastInDim S2x512x128 ![] bcast_S_S2x512x128 (constant S_ .f32 0x3A83126F#32)) (mulf (rG p0 p1) (rG p0 p1)))

/-- The reference's change of the weight. -/
abbrev rD (p0 p1 : Vec Ideal S8x512x128 .f32) (w a b : Vec Ideal S2x512x128 .f32) : FVec Ideal S2x512x128 .f32 :=
  mulf (broadcastInDim S2x512x128 ![] bcast_S_S2x512x128 (constant S_ .f32 0xBA83126F#32)) (addf (Host.divf (Host.divf (rM p0 p1 a) (broadcastInDim S2x512x128 ![] bcast_S_S2x512x128 (constant S_ .f32 0x3F26BD02#32))) (addf (Host.sqrt (Host.divf (rV p0 p1 b) (broadcastInDim S2x512x128 ![] bcast_S_S2x512x128 (constant S_ .f32 0x3C231ACC#32)))) (broadcastInDim S2x512x128 ![] bcast_S_S2x512x128 (constant S_ .f32 0x322BCC77#32)))) (mulf (broadcastInDim S2x512x128 ![] bcast_S_S2x512x128 (constant S_ .f32 0x3C23D70A#32)) w))

theorem rS_0 (p0 p1 : Vec Ideal S8x512x128 .f32) (y : Fin 512) (z : Fin 128) : rS p0 p1 (ix3 (0 : Fin 2) y z) = ∑ k : Fin 8, p0 (ix3 k y z) := by
  pointwise

theorem rS_1 (p0 p1 : Vec Ideal S8x512x128 .f32) (y : Fin 512) (z : Fin 128) : rS p0 p1 (ix3 (1 : Fin 2) y z) = ∑ k : Fin 8, p1 (ix3 k y z) := by
  pointwise

theorem rS_at (p0 p1 : Vec Ideal S8x512x128 .f32) (l : Fin 2) (y : Fin 512) (z : Fin 128) : rS p0 p1 (ix3 l y z) = Cert.AdamXaWoIdeal.Value.gOut p0 p1 (ix3 l y z) := by
  obtain rfl | rfl : l = 0 ∨ l = 1 := by omega
  · rw [rS_0, Cert.AdamXaWoIdeal.Value.gOut_0]
  · rw [rS_1, Cert.AdamXaWoIdeal.Value.gOut_1]

/-- The pointwise part of the step, at any gradient. -/
theorem m_at (g : FVec Ideal S2x512x128 .f32) (a : Vec Ideal S2x512x128 .f32) (l : Fin 2) (y : Fin 512) (z : Fin 128) :
    addf (mulf (broadcastInDim S2x512x128 ![] bcast_S_S2x512x128 (constant S_ .f32 0x3F666666#32)) a) (mulf (broadcastInDim S2x512x128 ![] bcast_S_S2x512x128 (constant S_ .f32 0x3DCCCCCD#32)) g) (ix3 l y z) = AdamMath.newM (a (ix3 l y z)) (g (ix3 l y z)) := by
  pointwise [AdamMath.newM]

theorem v_at (g : FVec Ideal S2x512x128 .f32) (b : Vec Ideal S2x512x128 .f32) (l : Fin 2) (y : Fin 512) (z : Fin 128) :
    addf (mulf (broadcastInDim S2x512x128 ![] bcast_S_S2x512x128 (constant S_ .f32 0x3F7FBE77#32)) b) (mulf (broadcastInDim S2x512x128 ![] bcast_S_S2x512x128 (constant S_ .f32 0x3A83126F#32)) (mulf g g)) (ix3 l y z) = AdamMath.newV (b (ix3 l y z)) (g (ix3 l y z)) := by
  pointwise [AdamMath.newV]

theorem d_at (g : FVec Ideal S2x512x128 .f32) (w a b : Vec Ideal S2x512x128 .f32) (l : Fin 2) (y : Fin 512) (z : Fin 128) :
    mulf (broadcastInDim S2x512x128 ![] bcast_S_S2x512x128 (constant S_ .f32 0xBA83126F#32)) (addf (Host.divf (Host.divf (addf (mulf (broadcastInDim S2x512x128 ![] bcast_S_S2x512x128 (constant S_ .f32 0x3F666666#32)) a) (mulf (broadcastInDim S2x512x128 ![] bcast_S_S2x512x128 (constant S_ .f32 0x3DCCCCCD#32)) g)) (broadcastInDim S2x512x128 ![] bcast_S_S2x512x128 (constant S_ .f32 0x3F26BD02#32))) (addf (Host.sqrt (Host.divf (addf (mulf (broadcastInDim S2x512x128 ![] bcast_S_S2x512x128 (constant S_ .f32 0x3F7FBE77#32)) b) (mulf (broadcastInDim S2x512x128 ![] bcast_S_S2x512x128 (constant S_ .f32 0x3A83126F#32)) (mulf g g))) (broadcastInDim S2x512x128 ![] bcast_S_S2x512x128 (constant S_ .f32 0x3C231ACC#32)))) (broadcastInDim S2x512x128 ![] bcast_S_S2x512x128 (constant S_ .f32 0x322BCC77#32)))) (mulf (broadcastInDim S2x512x128 ![] bcast_S_S2x512x128 (constant S_ .f32 0x3C23D70A#32)) w)) (ix3 l y z) =
      AdamMath.delta (w (ix3 l y z)) (a (ix3 l y z)) (b (ix3 l y z)) (g (ix3 l y z)) := by
  pointwise [AdamMath.delta, AdamMath.newM, AdamMath.newV]

theorem rG_at (p0 p1 : Vec Ideal S8x512x128 .f32) (l : Fin 2) (y : Fin 512) (z : Fin 128) : rG p0 p1 (ix3 l y z) = Cert.AdamXaWoIdeal.Value.gOut p0 p1 (ix3 l y z) := rS_at p0 p1 l y z

theorem spec_g (p0 p1 : Vec Ideal S8x512x128 .f32) : rG p0 p1 = Cert.AdamXaWoIdeal.Value.gOut p0 p1  := by
  funext i
  idx_vars i
  exact rG_at p0 p1 i0 i1 i2

theorem spec_m (p0 p1 : Vec Ideal S8x512x128 .f32) (a : Vec Ideal S2x512x128 .f32) : rM p0 p1 a = Cert.AdamXaWoIdeal.Value.mOut p0 p1 a := by
  funext i
  idx_vars i
  rw [rM, m_at, rG_at]
  rfl

theorem spec_v (p0 p1 : Vec Ideal S8x512x128 .f32) (b : Vec Ideal S2x512x128 .f32) : rV p0 p1 b = Cert.AdamXaWoIdeal.Value.vOut p0 p1 b := by
  funext i
  idx_vars i
  rw [rV, v_at, rG_at]
  rfl

theorem spec_d (p0 p1 : Vec Ideal S8x512x128 .f32) (w a b : Vec Ideal S2x512x128 .f32) : rD p0 p1 w a b = Cert.AdamXaWoIdeal.Value.dOut p0 p1 w a b := by
  funext i
  idx_vars i
  rw [rD, d_at, rG_at]
  rfl

end Cert.AdamXaWoSpecIdeal.Value

namespace Cert.AdamXaWoClaim

open Cert.AdamXaWoIdeal.Value

theorem specFrame : Cert.quiescent_AdamXaWoSpecIdeal := fun m g _ =>
  (θ_run _ _ _).mono (fun r h => ⟨fun c => (h c).2.2.2.2, sem_eq_zero_of_no_sems (by decide) r.2⟩) (Cert.AdamXaWoSpecIdeal.Value.run m g)

theorem value : Cert.algebraic_AdamXaWoIdeal_AdamXaWoSpecIdeal := by
  intro m g m' g' _ hargs
  refine ⟨fun c => gOut (arg_p0 m c) (arg_p1 m c), fun c => dOut (arg_p0 m c) (arg_p1 m c) (arg_w m c) (arg_a m c) (arg_b m c),
    fun c => mOut (arg_p0 m c) (arg_p1 m c) (arg_a m c), fun c => vOut (arg_p0 m c) (arg_p1 m c) (arg_b m c), ?_, ?_⟩
  · exact Cert.AdamXaWoIdeal.Value.run m g
  · refine (θ_run _ _ _).mono (fun r h c => ?_) (Cert.AdamXaWoSpecIdeal.Value.run m' g')
    obtain ⟨a0, a1, a2, a3, a4⟩ := hargs c
    obtain ⟨h0, h1, h2, h3, hk⟩ := h c
    refine ⟨h0.trans ?_, h1.trans ?_, h2.trans ?_, h3.trans ?_, hk⟩
    · rw [a0, a1]
      exact Cert.AdamXaWoSpecIdeal.Value.spec_g _ _
    · rw [a0, a1, a2, a3, a4]
      exact Cert.AdamXaWoSpecIdeal.Value.spec_d _ _ _ _ _
    · rw [a0, a1, a3]
      exact Cert.AdamXaWoSpecIdeal.Value.spec_m _ _ _
    · rw [a0, a1, a4]
      exact Cert.AdamXaWoSpecIdeal.Value.spec_v _ _ _

end Cert.AdamXaWoClaim

end
-- ==== Proof.AdamGateUp.lean ====
module

public import proofs.«01_k».proof.Proof.Gen.AdamGateUpIdeal.Frame
public import proofs.«01_k».proof.Proof.Gen.AdamGateUpSpecIdeal.Run
public import proofs.«01_k».proof.Proof.Gen.AdamGateUp.Frame
public import Idealize.ShloMosaic.Lib.Pipeline.ValueKit
public import Idealize.ShloMosaic.Lib.Pipeline.ReadBack
public import Idealize.ShloMosaic.Lib.Claim
public import proofs.«01_k».proof.Proof.AdamMath

/-! The optimiser's step for one weight of both layers, one call a layer, the second writing into the first's results: the sums of the eight
    devices' parts of the gradients, then AdamW. -/

@[expose] public section

set_option maxRecDepth 16384

noncomputable section

open Idealize.ShloMosaic Idealize.ShloMosaic.TcCoe Idealize.SL.Sem
open Idealize.ShloMosaic.Pipeline (Dat)

namespace Cert.AdamGateUpIdeal.Value

open Cert.AdamGateUpIdeal Cert.AdamGateUpIdeal.Gen

/-- The gradient: for each of the two layers the sum of the parts of the eight devices. -/
def gOut (p0 p1 : Vec Ideal S8x704x1024 .f32) : Vec Ideal S2x704x1024 .f32 :=
  fun i => if (i 0).val = 0 then ∑ k : Fin 8, p0 (ix3 k (i 1) (i 2)) else ∑ k : Fin 8, p1 (ix3 k (i 1) (i 2))

/-- The new first moment. -/
def mOut (p0 p1 : Vec Ideal S8x704x1024 .f32) (a : Vec Ideal S2x1024x704 .f32) : Vec Ideal S2x704x1024 .f32 :=
  fun i => AdamMath.newM (a (ix3 (i 0) (i 2) (i 1))) (gOut p0 p1 i)

/-- The new second moment. -/
def vOut (p0 p1 : Vec Ideal S8x704x1024 .f32) (b : Vec Ideal S2x1024x704 .f32) : Vec Ideal S2x704x1024 .f32 :=
  fun i => AdamMath.newV (b (ix3 (i 0) (i 2) (i 1))) (gOut p0 p1 i)

/-- The change of the weight. -/
def dOut (p0 p1 : Vec Ideal S8x704x1024 .f32) (w a b : Vec Ideal S2x1024x704 .f32) : Vec Ideal S2x704x1024 .f32 :=
  fun i => AdamMath.delta (w (ix3 (i 0) (i 2) (i 1))) (a (ix3 (i 0) (i 2) (i 1))) (b (ix3 (i 0) (i 2) (i 1))) (gOut p0 p1 i)

theorem gOut_0 (p0 p1 : Vec Ideal S8x704x1024 .f32) (y : Fin 704) (z : Fin 1024) : gOut p0 p1 (ix3 (0 : Fin 2) y z) = ∑ k : Fin 8, p0 (ix3 k y z) := if_pos rfl

theorem gOut_1 (p0 p1 : Vec Ideal S8x704x1024 .f32) (y : Fin 704) (z : Fin 1024) : gOut p0 p1 (ix3 (1 : Fin 2) y z) = ∑ k : Fin 8, p1 (ix3 k y z) :=
  if_neg (fun h => absurd (show (1 : ℕ) = 0 from h) one_ne_zero)

section Values

variable (m : (ℓ : Loc nD τ sig) → Buf (Elt Ideal) ℓ) (ρ : Dev nD → PrngReg)
variable (V : (c : Dev nD) → (b : Ref sig .tc) → Buf (Elt Ideal) ((c : Thread nD τ).loc b))

abbrev arg_p0 (c : Dev nD) : Vec Ideal S8x704x1024 .f32 := m ((c : Thread nD τ).loc main_arg0)
abbrev arg_p1 (c : Dev nD) : Vec Ideal S8x704x1024 .f32 := m ((c : Thread nD τ).loc main_arg1)
abbrev arg_w (c : Dev nD) : Vec Ideal S2x1024x704 .f32 := m ((c : Thread nD τ).loc main_arg2)
abbrev arg_a (c : Dev nD) : Vec Ideal S2x1024x704 .f32 := m ((c : Thread nD τ).loc main_arg3)
abbrev arg_b (c : Dev nD) : Vec Ideal S2x1024x704 .f32 := m ((c : Thread nD τ).loc main_arg4)

theorem idx0 : ∀ t : Fin cfg0.N, win0_0.index t = ![0, 0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row at which a grid point of call 0 works. -/
def row0 (t : Fin cfg0.N) (p : Fin 176) : Fin 704 := ⟨t.val * 176 + p.val, by have := t.isLt; have : cfg0.N = 4 := rfl; omega⟩

theorem idx1 : ∀ t : Fin cfg1.N, win1_0.index t = ![0, 0, t.val, 0] ∧ win1_1.index t = ![1, t.val, 0] ∧ win1_2.index t = ![1, t.val, 0] ∧ win1_3.index t = ![1, t.val, 0] ∧ win1_4.index t = ![1, t.val, 0] ∧ win1_5.index t = ![1, t.val, 0] ∧ win1_6.index t = ![1, t.val, 0] ∧ win1_7.index t = ![1, t.val, 0] :=
  (by decide +kernel : ∀ t : Fin grid1.N, _)

/-- The row at which a grid point of call 1 works. -/
def row1 (t : Fin cfg1.N) (p : Fin 176) : Fin 704 := ⟨t.val * 176 + p.val, by have := t.isLt; have : cfg1.N = 4 := rfl; omega⟩

theorem V1_p (c : Dev nD) : @Eq (FVec Ideal S8x1x704x1024 .f32) (V1 m ρ c main_v3) (shapeCast S8x1x704x1024 (arg_p0 m c) shapeCasts_S8x704x1024_S8x1x704x1024) := by
  unfold_abbrev_sides
  after_results
  rfl

theorem V3_p (c : Dev nD) : @Eq (FVec Ideal S8x1x704x1024 .f32) (V3 m ρ c main_v5) (shapeCast S8x1x704x1024 (arg_p1 m c) shapeCasts_S8x704x1024_S8x1x704x1024) := by
  have h : @Eq (FVec Ideal S8x1x704x1024 .f32) (V3 m ρ c main_v5) (shapeCast S8x1x704x1024 (show Vec Ideal S8x704x1024 .f32 from W2 m ρ c (Proc.devRef .tc main_arg1)) shapeCasts_S8x704x1024_S8x1x704x1024) := by
    unfold_abbrev_sides
    after_results
    rfl
  rw [h, W2_args m ρ c main_arg1 (by decide)]

theorem V1_w (c : Dev nD) : @Eq (FVec Ideal S2x704x1024 .f32) (V1 m ρ c main_v0) (transpose S2x704x1024 [0, 2, 1] (arg_w m c) transposes_S2x1024x704_S2x704x1024_0_2_1) := by
  unfold_abbrev_sides
  after_results

theorem V3_w (c : Dev nD) : @Eq (FVec Ideal S2x704x1024 .f32) (V3 m ρ c main_v0) (transpose S2x704x1024 [0, 2, 1] (arg_w m c) transposes_S2x1024x704_S2x704x1024_0_2_1) :=
  ((W3_of m ρ c main_v0 (by decide)).trans (W2_of m ρ c main_v0 (by decide +kernel))).trans (V1_w m ρ c)

theorem V1_a (c : Dev nD) : @Eq (FVec Ideal S2x704x1024 .f32) (V1 m ρ c main_v1) (transpose S2x704x1024 [0, 2, 1] (arg_a m c) transposes_S2x1024x704_S2x704x1024_0_2_1) := by
  unfold_abbrev_sides
  after_results

theorem V3_a (c : Dev nD) : @Eq (FVec Ideal S2x704x1024 .f32) (V3 m ρ c main_v1) (transpose S2x704x1024 [0, 2, 1] (arg_a m c) transposes_S2x1024x704_S2x704x1024_0_2_1) :=
  ((W3_of m ρ c main_v1 (by decide)).trans (W2_of m ρ c main_v1 (by decide +kernel))).trans (V1_a m ρ c)

theorem V1_b (c : Dev nD) : @Eq (FVec Ideal S2x704x1024 .f32) (V1 m ρ c main_v2) (transpose S2x704x1024 [0, 2, 1] (arg_b m c) transposes_S2x1024x704_S2x704x1024_0_2_1) := by
  unfold_abbrev_sides
  after_results

theorem V3_b (c : Dev nD) : @Eq (FVec Ideal S2x704x1024 .f32) (V3 m ρ c main_v2) (transpose S2x704x1024 [0, 2, 1] (arg_b m c) transposes_S2x1024x704_S2x704x1024_0_2_1) :=
  ((W3_of m ρ c main_v2 (by decide)).trans (W2_of m ρ c main_v2 (by decide +kernel))).trans (V1_b m ρ c)

theorem blk0_p (c : Dev nD) (t : Fin cfg0.N) (k : Fin 8) (p : Fin 176) (q : Fin 1024) :
    iblk0 (V1 m ρ) c 0 t (ix4 k (0 : Fin 1) p q) = arg_p0 m c (ix3 k (row0 t p) q) := by
  have h : iblk0 (V1 m ρ) c 0 t (ix4 k (0 : Fin 1) p q) = V1 m ρ c main_v3 (ix4 k (0 : Fin 1) (row0 t p) q) := by
    generalize V1 m ρ = V
    blk_point [iblk0, idx0 t, row0]
  rw [h, V1_p]
  pointwise

theorem blk0_w (c : Dev nD) (t : Fin cfg0.N) (p : Fin 176) (q : Fin 1024) :
    iblk0 (V1 m ρ) c 1 t (ix3 (0 : Fin 1) p q) = arg_w m c (ix3 (0 : Fin 2) q (row0 t p)) := by
  have h : iblk0 (V1 m ρ) c 1 t (ix3 (0 : Fin 1) p q) = V1 m ρ c main_v0 (ix3 (0 : Fin 2) (row0 t p) q) := by
    generalize V1 m ρ = V
    blk_point [iblk0, idx0 t, row0]
  rw [h, V1_w]
  pointwise

theorem blk0_a (c : Dev nD) (t : Fin cfg0.N) (p : Fin 176) (q : Fin 1024) :
    iblk0 (V1 m ρ) c 2 t (ix3 (0 : Fin 1) p q) = arg_a m c (ix3 (0 : Fin 2) q (row0 t p)) := by
  have h : iblk0 (V1 m ρ) c 2 t (ix3 (0 : Fin 1) p q) = V1 m ρ c main_v1 (ix3 (0 : Fin 2) (row0 t p) q) := by
    generalize V1 m ρ = V
    blk_point [iblk0, idx0 t, row0]
  rw [h, V1_a]
  pointwise

theorem blk0_b (c : Dev nD) (t : Fin cfg0.N) (p : Fin 176) (q : Fin 1024) :
    iblk0 (V1 m ρ) c 3 t (ix3 (0 : Fin 1) p q) = arg_b m c (ix3 (0 : Fin 2) q (row0 t p)) := by
  have h : iblk0 (V1 m ρ) c 3 t (ix3 (0 : Fin 1) p q) = V1 m ρ c main_v2 (ix3 (0 : Fin 2) (row0 t p) q) := by
    generalize V1 m ρ = V
    blk_point [iblk0, idx0 t, row0]
  rw [h, V1_b]
  pointwise

theorem blk1_p (c : Dev nD) (t : Fin cfg1.N) (k : Fin 8) (p : Fin 176) (q : Fin 1024) :
    iblk1 (V3 m ρ) c 0 t (ix4 k (0 : Fin 1) p q) = arg_p1 m c (ix3 k (row1 t p) q) := by
  have h : iblk1 (V3 m ρ) c 0 t (ix4 k (0 : Fin 1) p q) = V3 m ρ c main_v5 (ix4 k (0 : Fin 1) (row1 t p) q) := by
    generalize V3 m ρ = V
    blk_point [iblk1, idx1 t, row1]
  rw [h, V3_p]
  pointwise

theorem blk1_w (c : Dev nD) (t : Fin cfg1.N) (p : Fin 176) (q : Fin 1024) :
    iblk1 (V3 m ρ) c 1 t (ix3 (0 : Fin 1) p q) = arg_w m c (ix3 (1 : Fin 2) q (row1 t p)) := by
  have h : iblk1 (V3 m ρ) c 1 t (ix3 (0 : Fin 1) p q) = V3 m ρ c main_v0 (ix3 (1 : Fin 2) (row1 t p) q) := by
    generalize V3 m ρ = V
    blk_point [iblk1, idx1 t, row1]
  rw [h, V3_w]
  pointwise

theorem blk1_a (c : Dev nD) (t : Fin cfg1.N) (p : Fin 176) (q : Fin 1024) :
    iblk1 (V3 m ρ) c 2 t (ix3 (0 : Fin 1) p q) = arg_a m c (ix3 (1 : Fin 2) q (row1 t p)) := by
  have h : iblk1 (V3 m ρ) c 2 t (ix3 (0 : Fin 1) p q) = V3 m ρ c main_v1 (ix3 (1 : Fin 2) (row1 t p) q) := by
    generalize V3 m ρ = V
    blk_point [iblk1, idx1 t, row1]
  rw [h, V3_a]
  pointwise

theorem blk1_b (c : Dev nD) (t : Fin cfg1.N) (p : Fin 176) (q : Fin 1024) :
    iblk1 (V3 m ρ) c 3 t (ix3 (0 : Fin 1) p q) = arg_b m c (ix3 (1 : Fin 2) q (row1 t p)) := by
  have h : iblk1 (V3 m ρ) c 3 t (ix3 (0 : Fin 1) p q) = V3 m ρ c main_v2 (ix3 (1 : Fin 2) (row1 t p) q) := by
    generalize V3 m ρ = V
    blk_point [iblk1, idx1 t, row1]
  rw [h, V3_b]
  pointwise

/-- The sum of the eight parts at one grid point of call 0. -/
theorem pay0_g (x0 : Vec Ideal S8x1x176x1024 .f32) (x1 x2 x3 : Vec Ideal S1x176x1024 .f32) (p : Fin 176) (q : Fin 1024) :
    k0_pay5 (F := Ideal) x0 x1 x2 x3 (ix3 (0 : Fin 1) p q) = ∑ k : Fin 8, x0 (ix4 k (0 : Fin 1) p q) := by
  refine Eq.trans ?_ (AdamMath.sum8 fun k => x0 (ix4 k (0 : Fin 1) p q))
  pointwise [k0_pay5, k0_pay1]

theorem pay0_m (g x : Vec Ideal S1x176x1024 .f32) (p : Fin 176) (q : Fin 1024) :
    k0_pay2 (F := Ideal) g x (ix3 (0 : Fin 1) p q) = AdamMath.newM (x (ix3 (0 : Fin 1) p q)) (g (ix3 (0 : Fin 1) p q)) := by
  pointwise [k0_pay2, AdamMath.newM]

theorem pay0_v (g x : Vec Ideal S1x176x1024 .f32) (p : Fin 176) (q : Fin 1024) :
    k0_pay3 (F := Ideal) g x (ix3 (0 : Fin 1) p q) = AdamMath.newV (x (ix3 (0 : Fin 1) p q)) (g (ix3 (0 : Fin 1) p q)) := by
  pointwise [k0_pay3, AdamMath.newV]

theorem pay0_d (g x y z : Vec Ideal S1x176x1024 .f32) (p : Fin 176) (q : Fin 1024) :
    k0_pay4 (F := Ideal) g y z x (ix3 (0 : Fin 1) p q) = AdamMath.delta (x (ix3 (0 : Fin 1) p q)) (y (ix3 (0 : Fin 1) p q)) (z (ix3 (0 : Fin 1) p q)) (g (ix3 (0 : Fin 1) p q)) := by
  pointwise [k0_pay4, k0_pay2, k0_pay3, AdamMath.delta, AdamMath.newM, AdamMath.newV]

/-- The sum of the eight parts at one grid point of call 1. -/
theorem pay1_g (x0 : Vec Ideal S8x1x176x1024 .f32) (p : Fin 176) (q : Fin 1024) :
    k1_pay1 (F := Ideal) (View.ld x0 r0_0) (View.ld x0 r0_1) (View.ld x0 r0_2) (View.ld x0 r0_3) (View.ld x0 r0_4) (View.ld x0 r0_5) (View.ld x0 r0_6) (View.ld x0 r0_7) (ix3 (0 : Fin 1) p q) = ∑ k : Fin 8, x0 (ix4 k (0 : Fin 1) p q) := by
  refine Eq.trans ?_ (AdamMath.sum8 fun k => x0 (ix4 k (0 : Fin 1) p q))
  pointwise [k1_pay1]

theorem pay1_m (g x : Vec Ideal S1x176x1024 .f32) (p : Fin 176) (q : Fin 1024) :
    k1_pay2 (F := Ideal) g x (ix3 (0 : Fin 1) p q) = AdamMath.newM (x (ix3 (0 : Fin 1) p q)) (g (ix3 (0 : Fin 1) p q)) := by
  pointwise [k1_pay2, AdamMath.newM]

theorem pay1_v (g x : Vec Ideal S1x176x1024 .f32) (p : Fin 176) (q : Fin 1024) :
    k1_pay3 (F := Ideal) g x (ix3 (0 : Fin 1) p q) = AdamMath.newV (x (ix3 (0 : Fin 1) p q)) (g (ix3 (0 : Fin 1) p q)) := by
  pointwise [k1_pay3, AdamMath.newV]

theorem pay1_d (g x y z : Vec Ideal S1x176x1024 .f32) (p : Fin 176) (q : Fin 1024) :
    k1_pay4 (F := Ideal) g y z x (ix3 (0 : Fin 1) p q) = AdamMath.delta (x (ix3 (0 : Fin 1) p q)) (y (ix3 (0 : Fin 1) p q)) (z (ix3 (0 : Fin 1) p q)) (g (ix3 (0 : Fin 1) p q)) := by
  pointwise [k1_pay4, k1_pay2, k1_pay3, AdamMath.delta, AdamMath.newM, AdamMath.newV]

theorem sum0 (c : Dev nD) (t : Fin cfg0.N) (p : Fin 176) (q : Fin 1024) :
    k0_pay5 (F := Ideal) (iblk0 (V1 m ρ) c 0 t) (iblk0 (V1 m ρ) c 1 t) (iblk0 (V1 m ρ) c 2 t) (iblk0 (V1 m ρ) c 3 t) (ix3 (0 : Fin 1) p q) = ∑ k : Fin 8, arg_p0 m c (ix3 k (row0 t p) q) :=
  (pay0_g (iblk0 (V1 m ρ) c 0 t) (iblk0 (V1 m ρ) c 1 t) (iblk0 (V1 m ρ) c 2 t) (iblk0 (V1 m ρ) c 3 t) p q).trans (Finset.sum_congr rfl fun k _ => blk0_p m ρ c t k p q)

theorem emb0_g (t : Fin cfg0.N) (p : Fin 176) (q : Fin 1024) :
    ((cfg0.win 4).blk t).view.emb (ix3 (0 : Fin 1) p q) = ix3 (0 : Fin 2) (row0 t p) q := by
  blk_point [idx0 t, row0]

theorem point0_g (c : Dev nD) (t : Fin cfg0.N) (l : Fin 1) (p : Fin 176) (q : Fin 1024) :
    k0_pay5 (F := Ideal) (iblk0 (V1 m ρ) c 0 t) (iblk0 (V1 m ρ) c 1 t) (iblk0 (V1 m ρ) c 2 t) (iblk0 (V1 m ρ) c 3 t) (ix3 l p q) = gOut (arg_p0 m c) (arg_p1 m c) (((cfg0.win 4).blk t).view.emb (ix3 l p q)) := by
  obtain rfl : l = 0 := Subsingleton.elim _ _
  rw [emb0_g, sum0]
  show _ = gOut (arg_p0 m c) (arg_p1 m c) (ix3 (0 : Fin 2) (row0 t p) q)
  rw [gOut_0]

theorem reg0_g (c : Dev nD) : (dat0 (V1 m ρ) c).arrAt 4 cfg0.N =
    fun i => if (i (0 : Fin 3)).val = 0 then gOut (arg_p0 m c) (arg_p1 m c) i else (dat0 (V1 m ρ) c).A 4 i := by
  refine (dat0 (V1 m ρ) c).arrAt_eq_of_coversWhere 4 (gOut (arg_p0 m c) (arg_p1 m c)) (fun β => β (0 : Fin 3) = 0) (by decide +kernel) (fun t hf y => ?_)
    (fun j => by blk_simp [Pipeline.Window.cell_apply]; omega)
  blk_simp
  rw [after0_4]
  frame_out
  idx_vars y
  exact point0_g m ρ c t y0 y1 y2

theorem emb0_d (t : Fin cfg0.N) (p : Fin 176) (q : Fin 1024) :
    ((cfg0.win 5).blk t).view.emb (ix3 (0 : Fin 1) p q) = ix3 (0 : Fin 2) (row0 t p) q := by
  blk_point [idx0 t, row0]

theorem point0_d (c : Dev nD) (t : Fin cfg0.N) (l : Fin 1) (p : Fin 176) (q : Fin 1024) :
    k0_pay4 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 2 t) (iblk0 (V1 m ρ) c 3 t) (iblk0 (V1 m ρ) c 1 t) (ix3 l p q) = dOut (arg_p0 m c) (arg_p1 m c) (arg_w m c) (arg_a m c) (arg_b m c) (((cfg0.win 5).blk t).view.emb (ix3 l p q)) := by
  obtain rfl : l = 0 := Subsingleton.elim _ _
  rw [emb0_d, pay0_d, sum0]
  show _ = AdamMath.delta (arg_w m c (ix3 (0 : Fin 2) q (row0 t p))) (arg_a m c (ix3 (0 : Fin 2) q (row0 t p))) (arg_b m c (ix3 (0 : Fin 2) q (row0 t p))) (gOut (arg_p0 m c) (arg_p1 m c) (ix3 (0 : Fin 2) (row0 t p) q))
  rw [gOut_0]
  simp only [blk0_w, blk0_a, blk0_b]

theorem reg0_d (c : Dev nD) : (dat0 (V1 m ρ) c).arrAt 5 cfg0.N =
    fun i => if (i (0 : Fin 3)).val = 0 then dOut (arg_p0 m c) (arg_p1 m c) (arg_w m c) (arg_a m c) (arg_b m c) i else (dat0 (V1 m ρ) c).A 5 i := by
  refine (dat0 (V1 m ρ) c).arrAt_eq_of_coversWhere 5 (dOut (arg_p0 m c) (arg_p1 m c) (arg_w m c) (arg_a m c) (arg_b m c)) (fun β => β (0 : Fin 3) = 0) (by decide +kernel) (fun t hf y => ?_)
    (fun j => by blk_simp [Pipeline.Window.cell_apply]; omega)
  blk_simp
  rw [after0_5]
  frame_out
  idx_vars y
  exact point0_d m ρ c t y0 y1 y2

theorem emb0_m (t : Fin cfg0.N) (p : Fin 176) (q : Fin 1024) :
    ((cfg0.win 6).blk t).view.emb (ix3 (0 : Fin 1) p q) = ix3 (0 : Fin 2) (row0 t p) q := by
  blk_point [idx0 t, row0]

theorem point0_m (c : Dev nD) (t : Fin cfg0.N) (l : Fin 1) (p : Fin 176) (q : Fin 1024) :
    k0_pay2 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 2 t) (ix3 l p q) = mOut (arg_p0 m c) (arg_p1 m c) (arg_a m c) (((cfg0.win 6).blk t).view.emb (ix3 l p q)) := by
  obtain rfl : l = 0 := Subsingleton.elim _ _
  rw [emb0_m, pay0_m, sum0]
  show _ = AdamMath.newM (arg_a m c (ix3 (0 : Fin 2) q (row0 t p))) (gOut (arg_p0 m c) (arg_p1 m c) (ix3 (0 : Fin 2) (row0 t p) q))
  rw [gOut_0]
  simp only [blk0_a]

theorem reg0_m (c : Dev nD) : (dat0 (V1 m ρ) c).arrAt 6 cfg0.N =
    fun i => if (i (0 : Fin 3)).val = 0 then mOut (arg_p0 m c) (arg_p1 m c) (arg_a m c) i else (dat0 (V1 m ρ) c).A 6 i := by
  refine (dat0 (V1 m ρ) c).arrAt_eq_of_coversWhere 6 (mOut (arg_p0 m c) (arg_p1 m c) (arg_a m c)) (fun β => β (0 : Fin 3) = 0) (by decide +kernel) (fun t hf y => ?_)
    (fun j => by blk_simp [Pipeline.Window.cell_apply]; omega)
  blk_simp
  rw [after0_6]
  frame_out
  idx_vars y
  exact point0_m m ρ c t y0 y1 y2

theorem emb0_v (t : Fin cfg0.N) (p : Fin 176) (q : Fin 1024) :
    ((cfg0.win 7).blk t).view.emb (ix3 (0 : Fin 1) p q) = ix3 (0 : Fin 2) (row0 t p) q := by
  blk_point [idx0 t, row0]

theorem point0_v (c : Dev nD) (t : Fin cfg0.N) (l : Fin 1) (p : Fin 176) (q : Fin 1024) :
    k0_pay3 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 3 t) (ix3 l p q) = vOut (arg_p0 m c) (arg_p1 m c) (arg_b m c) (((cfg0.win 7).blk t).view.emb (ix3 l p q)) := by
  obtain rfl : l = 0 := Subsingleton.elim _ _
  rw [emb0_v, pay0_v, sum0]
  show _ = AdamMath.newV (arg_b m c (ix3 (0 : Fin 2) q (row0 t p))) (gOut (arg_p0 m c) (arg_p1 m c) (ix3 (0 : Fin 2) (row0 t p) q))
  rw [gOut_0]
  simp only [blk0_b]

theorem reg0_v (c : Dev nD) : (dat0 (V1 m ρ) c).arrAt 7 cfg0.N =
    fun i => if (i (0 : Fin 3)).val = 0 then vOut (arg_p0 m c) (arg_p1 m c) (arg_b m c) i else (dat0 (V1 m ρ) c).A 7 i := by
  refine (dat0 (V1 m ρ) c).arrAt_eq_of_coversWhere 7 (vOut (arg_p0 m c) (arg_p1 m c) (arg_b m c)) (fun β => β (0 : Fin 3) = 0) (by decide +kernel) (fun t hf y => ?_)
    (fun j => by blk_simp [Pipeline.Window.cell_apply]; omega)
  blk_simp
  rw [after0_7]
  frame_out
  idx_vars y
  exact point0_v m ρ c t y0 y1 y2

theorem sum1 (c : Dev nD) (t : Fin cfg1.N) (p : Fin 176) (q : Fin 1024) :
    k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7) (ix3 (0 : Fin 1) p q) = ∑ k : Fin 8, arg_p1 m c (ix3 k (row1 t p) q) :=
  (pay1_g (iblk1 (V3 m ρ) c 0 t)  p q).trans (Finset.sum_congr rfl fun k _ => blk1_p m ρ c t k p q)

theorem emb1_g (t : Fin cfg1.N) (p : Fin 176) (q : Fin 1024) :
    ((cfg1.win 4).blk t).view.emb (ix3 (0 : Fin 1) p q) = ix3 (1 : Fin 2) (row1 t p) q := by
  blk_point [idx1 t, row1]

theorem point1_g (c : Dev nD) (t : Fin cfg1.N) (l : Fin 1) (p : Fin 176) (q : Fin 1024) :
    k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7) (ix3 l p q) = gOut (arg_p0 m c) (arg_p1 m c) (((cfg1.win 4).blk t).view.emb (ix3 l p q)) := by
  obtain rfl : l = 0 := Subsingleton.elim _ _
  rw [emb1_g, sum1]
  show _ = gOut (arg_p0 m c) (arg_p1 m c) (ix3 (1 : Fin 2) (row1 t p) q)
  rw [gOut_1]

theorem reg1_g (c : Dev nD) : (dat1 (V3 m ρ) c).arrAt 4 cfg1.N =
    fun i => if (i (0 : Fin 3)).val = 1 then gOut (arg_p0 m c) (arg_p1 m c) i else (dat1 (V3 m ρ) c).A 4 i := by
  refine (dat1 (V3 m ρ) c).arrAt_eq_of_coversWhere 4 (gOut (arg_p0 m c) (arg_p1 m c)) (fun β => β (0 : Fin 3) = 1) (by decide +kernel) (fun t hf y => ?_)
    (fun j => by blk_simp [Pipeline.Window.cell_apply]; omega)
  blk_simp
  rw [after1_4]
  unfold outsAt1
  frame_out
  idx_vars y
  exact point1_g m ρ c t y0 y1 y2

theorem emb1_d (t : Fin cfg1.N) (p : Fin 176) (q : Fin 1024) :
    ((cfg1.win 5).blk t).view.emb (ix3 (0 : Fin 1) p q) = ix3 (1 : Fin 2) (row1 t p) q := by
  blk_point [idx1 t, row1]

theorem point1_d (c : Dev nD) (t : Fin cfg1.N) (l : Fin 1) (p : Fin 176) (q : Fin 1024) :
    k1_pay4 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 2 t) (iblk1 (V3 m ρ) c 3 t) (iblk1 (V3 m ρ) c 1 t) (ix3 l p q) = dOut (arg_p0 m c) (arg_p1 m c) (arg_w m c) (arg_a m c) (arg_b m c) (((cfg1.win 5).blk t).view.emb (ix3 l p q)) := by
  obtain rfl : l = 0 := Subsingleton.elim _ _
  rw [emb1_d, pay1_d, sum1]
  show _ = AdamMath.delta (arg_w m c (ix3 (1 : Fin 2) q (row1 t p))) (arg_a m c (ix3 (1 : Fin 2) q (row1 t p))) (arg_b m c (ix3 (1 : Fin 2) q (row1 t p))) (gOut (arg_p0 m c) (arg_p1 m c) (ix3 (1 : Fin 2) (row1 t p) q))
  rw [gOut_1]
  simp only [blk1_w, blk1_a, blk1_b]

theorem reg1_d (c : Dev nD) : (dat1 (V3 m ρ) c).arrAt 5 cfg1.N =
    fun i => if (i (0 : Fin 3)).val = 1 then dOut (arg_p0 m c) (arg_p1 m c) (arg_w m c) (arg_a m c) (arg_b m c) i else (dat1 (V3 m ρ) c).A 5 i := by
  refine (dat1 (V3 m ρ) c).arrAt_eq_of_coversWhere 5 (dOut (arg_p0 m c) (arg_p1 m c) (arg_w m c) (arg_a m c) (arg_b m c)) (fun β => β (0 : Fin 3) = 1) (by decide +kernel) (fun t hf y => ?_)
    (fun j => by blk_simp [Pipeline.Window.cell_apply]; omega)
  blk_simp
  rw [after1_5]
  unfold outsAt1
  frame_out
  idx_vars y
  exact point1_d m ρ c t y0 y1 y2

theorem emb1_m (t : Fin cfg1.N) (p : Fin 176) (q : Fin 1024) :
    ((cfg1.win 6).blk t).view.emb (ix3 (0 : Fin 1) p q) = ix3 (1 : Fin 2) (row1 t p) q := by
  blk_point [idx1 t, row1]

theorem point1_m (c : Dev nD) (t : Fin cfg1.N) (l : Fin 1) (p : Fin 176) (q : Fin 1024) :
    k1_pay2 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 2 t) (ix3 l p q) = mOut (arg_p0 m c) (arg_p1 m c) (arg_a m c) (((cfg1.win 6).blk t).view.emb (ix3 l p q)) := by
  obtain rfl : l = 0 := Subsingleton.elim _ _
  rw [emb1_m, pay1_m, sum1]
  show _ = AdamMath.newM (arg_a m c (ix3 (1 : Fin 2) q (row1 t p))) (gOut (arg_p0 m c) (arg_p1 m c) (ix3 (1 : Fin 2) (row1 t p) q))
  rw [gOut_1]
  simp only [blk1_a]

theorem reg1_m (c : Dev nD) : (dat1 (V3 m ρ) c).arrAt 6 cfg1.N =
    fun i => if (i (0 : Fin 3)).val = 1 then mOut (arg_p0 m c) (arg_p1 m c) (arg_a m c) i else (dat1 (V3 m ρ) c).A 6 i := by
  refine (dat1 (V3 m ρ) c).arrAt_eq_of_coversWhere 6 (mOut (arg_p0 m c) (arg_p1 m c) (arg_a m c)) (fun β => β (0 : Fin 3) = 1) (by decide +kernel) (fun t hf y => ?_)
    (fun j => by blk_simp [Pipeline.Window.cell_apply]; omega)
  blk_simp
  rw [after1_6]
  unfold outsAt1
  frame_out
  idx_vars y
  exact point1_m m ρ c t y0 y1 y2

theorem emb1_v (t : Fin cfg1.N) (p : Fin 176) (q : Fin 1024) :
    ((cfg1.win 7).blk t).view.emb (ix3 (0 : Fin 1) p q) = ix3 (1 : Fin 2) (row1 t p) q := by
  blk_point [idx1 t, row1]

theorem point1_v (c : Dev nD) (t : Fin cfg1.N) (l : Fin 1) (p : Fin 176) (q : Fin 1024) :
    k1_pay3 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 3 t) (ix3 l p q) = vOut (arg_p0 m c) (arg_p1 m c) (arg_b m c) (((cfg1.win 7).blk t).view.emb (ix3 l p q)) := by
  obtain rfl : l = 0 := Subsingleton.elim _ _
  rw [emb1_v, pay1_v, sum1]
  show _ = AdamMath.newV (arg_b m c (ix3 (1 : Fin 2) q (row1 t p))) (gOut (arg_p0 m c) (arg_p1 m c) (ix3 (1 : Fin 2) (row1 t p) q))
  rw [gOut_1]
  simp only [blk1_b]

theorem reg1_v (c : Dev nD) : (dat1 (V3 m ρ) c).arrAt 7 cfg1.N =
    fun i => if (i (0 : Fin 3)).val = 1 then vOut (arg_p0 m c) (arg_p1 m c) (arg_b m c) i else (dat1 (V3 m ρ) c).A 7 i := by
  refine (dat1 (V3 m ρ) c).arrAt_eq_of_coversWhere 7 (vOut (arg_p0 m c) (arg_p1 m c) (arg_b m c)) (fun β => β (0 : Fin 3) = 1) (by decide +kernel) (fun t hf y => ?_)
    (fun j => by blk_simp [Pipeline.Window.cell_apply]; omega)
  blk_simp
  rw [after1_7]
  unfold outsAt1
  frame_out
  idx_vars y
  exact point1_v m ρ c t y0 y1 y2

theorem final_g (c : Dev nD) : W4 m ρ c (Proc.devRef .tc main_v6_0) = gOut (arg_p0 m c) (arg_p1 m c) := by
  refine (W4_arr m ρ c 4).trans ?_
  rw [reg1_g]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v6_0 = V2 m ρ c main_v4_0 := by
      unfold_abbrev_sides
      after_results
      rfl
    refine (if_neg h).trans ?_
    rw [A_eq1]
    refine (congrFun (e.trans (W2_arr m ρ c 4)) i).trans ?_
    rw [reg0_g]
    exact if_pos h0

theorem final_d (c : Dev nD) : W4 m ρ c (Proc.devRef .tc main_v6_1) = dOut (arg_p0 m c) (arg_p1 m c) (arg_w m c) (arg_a m c) (arg_b m c) := by
  refine (W4_arr m ρ c 5).trans ?_
  rw [reg1_d]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v6_1 = V2 m ρ c main_v4_1 := by
      unfold_abbrev_sides
      after_results
      rfl
    refine (if_neg h).trans ?_
    rw [A_eq1]
    refine (congrFun (e.trans (W2_arr m ρ c 5)) i).trans ?_
    rw [reg0_d]
    exact if_pos h0

theorem final_m (c : Dev nD) : W4 m ρ c (Proc.devRef .tc main_v6_2) = mOut (arg_p0 m c) (arg_p1 m c) (arg_a m c) := by
  refine (W4_arr m ρ c 6).trans ?_
  rw [reg1_m]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v6_2 = V2 m ρ c main_v4_2 := by
      unfold_abbrev_sides
      after_results
      rfl
    refine (if_neg h).trans ?_
    rw [A_eq1]
    refine (congrFun (e.trans (W2_arr m ρ c 6)) i).trans ?_
    rw [reg0_m]
    exact if_pos h0

theorem final_v (c : Dev nD) : W4 m ρ c (Proc.devRef .tc main_v6_3) = vOut (arg_p0 m c) (arg_p1 m c) (arg_b m c) := by
  refine (W4_arr m ρ c 7).trans ?_
  rw [reg1_v]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v6_3 = V2 m ρ c main_v4_3 := by
      unfold_abbrev_sides
      after_results
      rfl
    refine (if_neg h).trans ?_
    rw [A_eq1]
    refine (congrFun (e.trans (W2_arr m ρ c 7)) i).trans ?_
    rw [reg0_v]
    exact if_pos h0

end Values

section Run

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

/-- What the program leaves in its four results; its arguments are unchanged. -/
theorem run : θ_run defs (onTc (τ := τ) (main (F := Ideal))) ⟨m, fun _ => 0, ρ⟩ (fun r => ∀ c : Dev nD,
      r.2.mem ((c.tc : Thread nD τ).loc main_v6_0) = gOut (arg_p0 m c) (arg_p1 m c)
      ∧ r.2.mem ((c.tc : Thread nD τ).loc main_v6_1) = dOut (arg_p0 m c) (arg_p1 m c) (arg_w m c) (arg_a m c) (arg_b m c)
      ∧ r.2.mem ((c.tc : Thread nD τ).loc main_v6_2) = mOut (arg_p0 m c) (arg_p1 m c) (arg_a m c)
      ∧ r.2.mem ((c.tc : Thread nD τ).loc main_v6_3) = vOut (arg_p0 m c) (arg_p1 m c) (arg_b m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v6_0 (by decide))).trans (final_g m ρ c),
       (h c _ (mem_uc main_v6_1 (by decide))).trans (final_d m ρ c),
       (h c _ (mem_uc main_v6_2 (by decide))).trans (final_m m ρ c),
       (h c _ (mem_uc main_v6_3 (by decide))).trans (final_v m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Run

end Cert.AdamGateUpIdeal.Value

namespace Cert.AdamGateUpSpecIdeal.Value

open Cert.AdamGateUpSpecIdeal Cert.AdamGateUpSpecIdeal.Gen

/-- The sums of the two layers' parts, stacked. -/
abbrev rS (p0 p1 : Vec Ideal S8x704x1024 .f32) : FVec Ideal S2x704x1024 .f32 := concatenate S2x704x1024 0 [⟨S1x704x1024, (broadcastInDim S1x704x1024 ![1, 2] bcast_S704x1024_S1x704x1024_1_2 (Host.reduceAdd p0 (constant S_ .f32 0x00000000#32) reducesTo_S8x704x1024_S704x1024_d0 h_S_))⟩, ⟨S1x704x1024, (broadcastInDim S1x704x1024 ![1, 2] bcast_S704x1024_S1x704x1024_1_2 (Host.reduceAdd p1 (constant S_ .f32 0x00000000#32) reducesTo_S8x704x1024_S704x1024_d0 h_S_))⟩] concatenates_S1x704x1024_S1x704x1024_S2x704x1024_d0

/-- The same, laid out as the weight is. -/
abbrev rG (p0 p1 : Vec Ideal S8x704x1024 .f32) : FVec Ideal S2x1024x704 .f32 := transpose S2x1024x704 [0, 2, 1] (rS p0 p1) transposes_S2x704x1024_S2x1024x704_0_2_1

/-- The reference's new first moment. -/
abbrev rM (p0 p1 : Vec Ideal S8x704x1024 .f32) (a : Vec Ideal S2x1024x704 .f32) : FVec Ideal S2x1024x704 .f32 :=
  addf (mulf (broadcastInDim S2x1024x704 ![] bcast_S_S2x1024x704 (constant S_ .f32 0x3F666666#32)) a) (mulf (broadcastInDim S2x1024x704 ![] bcast_S_S2x1024x704 (constant S_ .f32 0x3DCCCCCD#32)) (rG p0 p1))

/-- The reference's new second moment. -/
abbrev rV (p0 p1 : Vec Ideal S8x704x1024 .f32) (b : Vec Ideal S2x1024x704 .f32) : FVec Ideal S2x1024x704 .f32 :=
  addf (mulf (broadcastInDim S2x1024x704 ![] bcast_S_S2x1024x704 (constant S_ .f32 0x3F7FBE77#32)) b) (mulf (broadcastInDim S2x1024x704 ![] bcast_S_S2x1024x704 (constant S_ .f32 0x3A83126F#32)) (mulf (rG p0 p1) (rG p0 p1)))

/-- The reference's change of the weight. -/
abbrev rD (p0 p1 : Vec Ideal S8x704x1024 .f32) (w a b : Vec Ideal S2x1024x704 .f32) : FVec Ideal S2x1024x704 .f32 :=
  mulf (broadcastInDim S2x1024x704 ![] bcast_S_S2x1024x704 (constant S_ .f32 0xBA83126F#32)) (addf (Host.divf (Host.divf (rM p0 p1 a) (broadcastInDim S2x1024x704 ![] bcast_S_S2x1024x704 (constant S_ .f32 0x3F26BD02#32))) (addf (Host.sqrt (Host.divf (rV p0 p1 b) (broadcastInDim S2x1024x704 ![] bcast_S_S2x1024x704 (constant S_ .f32 0x3C231ACC#32)))) (broadcastInDim S2x1024x704 ![] bcast_S_S2x1024x704 (constant S_ .f32 0x322BCC77#32)))) (mulf (broadcastInDim S2x1024x704 ![] bcast_S_S2x1024x704 (constant S_ .f32 0x3C23D70A#32)) w))

theorem rS_0 (p0 p1 : Vec Ideal S8x704x1024 .f32) (y : Fin 704) (z : Fin 1024) : rS p0 p1 (ix3 (0 : Fin 2) y z) = ∑ k : Fin 8, p0 (ix3 k y z) := by
  pointwise

theorem rS_1 (p0 p1 : Vec Ideal S8x704x1024 .f32) (y : Fin 704) (z : Fin 1024) : rS p0 p1 (ix3 (1 : Fin 2) y z) = ∑ k : Fin 8, p1 (ix3 k y z) := by
  pointwise

theorem rS_at (p0 p1 : Vec Ideal S8x704x1024 .f32) (l : Fin 2) (y : Fin 704) (z : Fin 1024) : rS p0 p1 (ix3 l y z) = Cert.AdamGateUpIdeal.Value.gOut p0 p1 (ix3 l y z) := by
  obtain rfl | rfl : l = 0 ∨ l = 1 := by omega
  · rw [rS_0, Cert.AdamGateUpIdeal.Value.gOut_0]
  · rw [rS_1, Cert.AdamGateUpIdeal.Value.gOut_1]

/-- The pointwise part of the step, at any gradient. -/
theorem m_at (g : FVec Ideal S2x1024x704 .f32) (a : Vec Ideal S2x1024x704 .f32) (l : Fin 2) (y : Fin 1024) (z : Fin 704) :
    addf (mulf (broadcastInDim S2x1024x704 ![] bcast_S_S2x1024x704 (constant S_ .f32 0x3F666666#32)) a) (mulf (broadcastInDim S2x1024x704 ![] bcast_S_S2x1024x704 (constant S_ .f32 0x3DCCCCCD#32)) g) (ix3 l y z) = AdamMath.newM (a (ix3 l y z)) (g (ix3 l y z)) := by
  pointwise [AdamMath.newM]

theorem v_at (g : FVec Ideal S2x1024x704 .f32) (b : Vec Ideal S2x1024x704 .f32) (l : Fin 2) (y : Fin 1024) (z : Fin 704) :
    addf (mulf (broadcastInDim S2x1024x704 ![] bcast_S_S2x1024x704 (constant S_ .f32 0x3F7FBE77#32)) b) (mulf (broadcastInDim S2x1024x704 ![] bcast_S_S2x1024x704 (constant S_ .f32 0x3A83126F#32)) (mulf g g)) (ix3 l y z) = AdamMath.newV (b (ix3 l y z)) (g (ix3 l y z)) := by
  pointwise [AdamMath.newV]

theorem d_at (g : FVec Ideal S2x1024x704 .f32) (w a b : Vec Ideal S2x1024x704 .f32) (l : Fin 2) (y : Fin 1024) (z : Fin 704) :
    mulf (broadcastInDim S2x1024x704 ![] bcast_S_S2x1024x704 (constant S_ .f32 0xBA83126F#32)) (addf (Host.divf (Host.divf (addf (mulf (broadcastInDim S2x1024x704 ![] bcast_S_S2x1024x704 (constant S_ .f32 0x3F666666#32)) a) (mulf (broadcastInDim S2x1024x704 ![] bcast_S_S2x1024x704 (constant S_ .f32 0x3DCCCCCD#32)) g)) (broadcastInDim S2x1024x704 ![] bcast_S_S2x1024x704 (constant S_ .f32 0x3F26BD02#32))) (addf (Host.sqrt (Host.divf (addf (mulf (broadcastInDim S2x1024x704 ![] bcast_S_S2x1024x704 (constant S_ .f32 0x3F7FBE77#32)) b) (mulf (broadcastInDim S2x1024x704 ![] bcast_S_S2x1024x704 (constant S_ .f32 0x3A83126F#32)) (mulf g g))) (broadcastInDim S2x1024x704 ![] bcast_S_S2x1024x704 (constant S_ .f32 0x3C231ACC#32)))) (broadcastInDim S2x1024x704 ![] bcast_S_S2x1024x704 (constant S_ .f32 0x322BCC77#32)))) (mulf (broadcastInDim S2x1024x704 ![] bcast_S_S2x1024x704 (constant S_ .f32 0x3C23D70A#32)) w)) (ix3 l y z) =
      AdamMath.delta (w (ix3 l y z)) (a (ix3 l y z)) (b (ix3 l y z)) (g (ix3 l y z)) := by
  pointwise [AdamMath.delta, AdamMath.newM, AdamMath.newV]

theorem swap_at (f : FVec Ideal S2x1024x704 .f32) (l : Fin 2) (y : Fin 704) (z : Fin 1024) :
    transpose S2x704x1024 [0, 2, 1] f transposes_S2x1024x704_S2x704x1024_0_2_1 (ix3 l y z) = f (ix3 l z y) := by
  pointwise

theorem back_at (f : FVec Ideal S2x704x1024 .f32) (l : Fin 2) (y : Fin 704) (z : Fin 1024) :
    transpose S2x1024x704 [0, 2, 1] f transposes_S2x704x1024_S2x1024x704_0_2_1 (ix3 l z y) = f (ix3 l y z) := by
  pointwise

theorem rG_at (p0 p1 : Vec Ideal S8x704x1024 .f32) (l : Fin 2) (y : Fin 704) (z : Fin 1024) : rG p0 p1 (ix3 l z y) = Cert.AdamGateUpIdeal.Value.gOut p0 p1 (ix3 l y z) := by
  exact (back_at _ l y z).trans (rS_at p0 p1 l y z)

theorem spec_g (p0 p1 : Vec Ideal S8x704x1024 .f32) : transpose S2x704x1024 [0, 2, 1] (rG p0 p1) transposes_S2x1024x704_S2x704x1024_0_2_1 = Cert.AdamGateUpIdeal.Value.gOut p0 p1  := by
  funext i
  idx_vars i
  rw [swap_at, rG_at]

theorem spec_m (p0 p1 : Vec Ideal S8x704x1024 .f32) (a : Vec Ideal S2x1024x704 .f32) : transpose S2x704x1024 [0, 2, 1] (rM p0 p1 a) transposes_S2x1024x704_S2x704x1024_0_2_1 = Cert.AdamGateUpIdeal.Value.mOut p0 p1 a := by
  funext i
  idx_vars i
  rw [swap_at, rM, m_at, rG_at]
  rfl

theorem spec_v (p0 p1 : Vec Ideal S8x704x1024 .f32) (b : Vec Ideal S2x1024x704 .f32) : transpose S2x704x1024 [0, 2, 1] (rV p0 p1 b) transposes_S2x1024x704_S2x704x1024_0_2_1 = Cert.AdamGateUpIdeal.Value.vOut p0 p1 b := by
  funext i
  idx_vars i
  rw [swap_at, rV, v_at, rG_at]
  rfl

theorem spec_d (p0 p1 : Vec Ideal S8x704x1024 .f32) (w a b : Vec Ideal S2x1024x704 .f32) : transpose S2x704x1024 [0, 2, 1] (rD p0 p1 w a b) transposes_S2x1024x704_S2x704x1024_0_2_1 = Cert.AdamGateUpIdeal.Value.dOut p0 p1 w a b := by
  funext i
  idx_vars i
  rw [swap_at, rD, d_at, rG_at]
  rfl

end Cert.AdamGateUpSpecIdeal.Value

namespace Cert.AdamGateUpClaim

open Cert.AdamGateUpIdeal.Value

theorem specFrame : Cert.quiescent_AdamGateUpSpecIdeal := fun m g _ =>
  (θ_run _ _ _).mono (fun r h => ⟨fun c => (h c).2.2.2.2, sem_eq_zero_of_no_sems (by decide) r.2⟩) (Cert.AdamGateUpSpecIdeal.Value.run m g)

theorem value : Cert.algebraic_AdamGateUpIdeal_AdamGateUpSpecIdeal := by
  intro m g m' g' _ hargs
  refine ⟨fun c => gOut (arg_p0 m c) (arg_p1 m c), fun c => dOut (arg_p0 m c) (arg_p1 m c) (arg_w m c) (arg_a m c) (arg_b m c),
    fun c => mOut (arg_p0 m c) (arg_p1 m c) (arg_a m c), fun c => vOut (arg_p0 m c) (arg_p1 m c) (arg_b m c), ?_, ?_⟩
  · exact Cert.AdamGateUpIdeal.Value.run m g
  · refine (θ_run _ _ _).mono (fun r h c => ?_) (Cert.AdamGateUpSpecIdeal.Value.run m' g')
    obtain ⟨a0, a1, a2, a3, a4⟩ := hargs c
    obtain ⟨h0, h1, h2, h3, hk⟩ := h c
    refine ⟨h0.trans ?_, h1.trans ?_, h2.trans ?_, h3.trans ?_, hk⟩
    · rw [a0, a1]
      exact Cert.AdamGateUpSpecIdeal.Value.spec_g _ _
    · rw [a0, a1, a2, a3, a4]
      exact Cert.AdamGateUpSpecIdeal.Value.spec_d _ _ _ _ _
    · rw [a0, a1, a3]
      exact Cert.AdamGateUpSpecIdeal.Value.spec_m _ _ _
    · rw [a0, a1, a4]
      exact Cert.AdamGateUpSpecIdeal.Value.spec_v _ _ _

end Cert.AdamGateUpClaim

end
-- ==== Proof.AdamDown.lean ====
module

public import proofs.«01_k».proof.Proof.Gen.AdamDownIdeal.Frame
public import proofs.«01_k».proof.Proof.Gen.AdamDownSpecIdeal.Run
public import proofs.«01_k».proof.Proof.Gen.AdamDown.Frame
public import Idealize.ShloMosaic.Lib.Pipeline.ValueKit
public import Idealize.ShloMosaic.Lib.Pipeline.ReadBack
public import Idealize.ShloMosaic.Lib.Claim
public import proofs.«01_k».proof.Proof.AdamMath

/-! The optimiser's step for one weight of both layers, one call a layer, the second writing into the first's results: the sums of the eight
    devices' parts of the gradients, then AdamW. -/

@[expose] public section

set_option maxRecDepth 16384

noncomputable section

open Idealize.ShloMosaic Idealize.ShloMosaic.TcCoe Idealize.SL.Sem
open Idealize.ShloMosaic.Pipeline (Dat)

namespace Cert.AdamDownIdeal.Value

open Cert.AdamDownIdeal Cert.AdamDownIdeal.Gen

/-- The gradient: for each of the two layers the sum of the parts of the eight devices. -/
def gOut (p0 p1 : Vec Ideal S8x352x1024 .f32) : Vec Ideal S2x352x1024 .f32 :=
  fun i => if (i 0).val = 0 then ∑ k : Fin 8, p0 (ix3 k (i 1) (i 2)) else ∑ k : Fin 8, p1 (ix3 k (i 1) (i 2))

/-- The new first moment. -/
def mOut (p0 p1 : Vec Ideal S8x352x1024 .f32) (a : Vec Ideal S2x352x1024 .f32) : Vec Ideal S2x352x1024 .f32 :=
  fun i => AdamMath.newM (a (i)) (gOut p0 p1 i)

/-- The new second moment. -/
def vOut (p0 p1 : Vec Ideal S8x352x1024 .f32) (b : Vec Ideal S2x352x1024 .f32) : Vec Ideal S2x352x1024 .f32 :=
  fun i => AdamMath.newV (b (i)) (gOut p0 p1 i)

/-- The change of the weight. -/
def dOut (p0 p1 : Vec Ideal S8x352x1024 .f32) (w a b : Vec Ideal S2x352x1024 .f32) : Vec Ideal S2x352x1024 .f32 :=
  fun i => AdamMath.delta (w (i)) (a (i)) (b (i)) (gOut p0 p1 i)

theorem gOut_0 (p0 p1 : Vec Ideal S8x352x1024 .f32) (y : Fin 352) (z : Fin 1024) : gOut p0 p1 (ix3 (0 : Fin 2) y z) = ∑ k : Fin 8, p0 (ix3 k y z) := if_pos rfl

theorem gOut_1 (p0 p1 : Vec Ideal S8x352x1024 .f32) (y : Fin 352) (z : Fin 1024) : gOut p0 p1 (ix3 (1 : Fin 2) y z) = ∑ k : Fin 8, p1 (ix3 k y z) :=
  if_neg (fun h => absurd (show (1 : ℕ) = 0 from h) one_ne_zero)

section Values

variable (m : (ℓ : Loc nD τ sig) → Buf (Elt Ideal) ℓ) (ρ : Dev nD → PrngReg)
variable (V : (c : Dev nD) → (b : Ref sig .tc) → Buf (Elt Ideal) ((c : Thread nD τ).loc b))

abbrev arg_p0 (c : Dev nD) : Vec Ideal S8x352x1024 .f32 := m ((c : Thread nD τ).loc main_arg0)
abbrev arg_p1 (c : Dev nD) : Vec Ideal S8x352x1024 .f32 := m ((c : Thread nD τ).loc main_arg1)
abbrev arg_w (c : Dev nD) : Vec Ideal S2x352x1024 .f32 := m ((c : Thread nD τ).loc main_arg2)
abbrev arg_a (c : Dev nD) : Vec Ideal S2x352x1024 .f32 := m ((c : Thread nD τ).loc main_arg3)
abbrev arg_b (c : Dev nD) : Vec Ideal S2x352x1024 .f32 := m ((c : Thread nD τ).loc main_arg4)

theorem idx0 : ∀ t : Fin cfg0.N, win0_0.index t = ![0, 0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row at which a grid point of call 0 works. -/
def row0 (t : Fin cfg0.N) (p : Fin 176) : Fin 352 := ⟨t.val * 176 + p.val, by have := t.isLt; have : cfg0.N = 2 := rfl; omega⟩

theorem idx1 : ∀ t : Fin cfg1.N, win1_0.index t = ![0, 0, t.val, 0] ∧ win1_1.index t = ![1, t.val, 0] ∧ win1_2.index t = ![1, t.val, 0] ∧ win1_3.index t = ![1, t.val, 0] ∧ win1_4.index t = ![1, t.val, 0] ∧ win1_5.index t = ![1, t.val, 0] ∧ win1_6.index t = ![1, t.val, 0] ∧ win1_7.index t = ![1, t.val, 0] :=
  (by decide +kernel : ∀ t : Fin grid1.N, _)

/-- The row at which a grid point of call 1 works. -/
def row1 (t : Fin cfg1.N) (p : Fin 176) : Fin 352 := ⟨t.val * 176 + p.val, by have := t.isLt; have : cfg1.N = 2 := rfl; omega⟩

theorem V1_p (c : Dev nD) : @Eq (FVec Ideal S8x1x352x1024 .f32) (V1 m ρ c main_v0) (shapeCast S8x1x352x1024 (arg_p0 m c) shapeCasts_S8x352x1024_S8x1x352x1024) := by
  unfold_abbrev_sides
  after_results
  rfl

theorem V3_p (c : Dev nD) : @Eq (FVec Ideal S8x1x352x1024 .f32) (V3 m ρ c main_v2) (shapeCast S8x1x352x1024 (arg_p1 m c) shapeCasts_S8x352x1024_S8x1x352x1024) := by
  have h : @Eq (FVec Ideal S8x1x352x1024 .f32) (V3 m ρ c main_v2) (shapeCast S8x1x352x1024 (show Vec Ideal S8x352x1024 .f32 from W2 m ρ c (Proc.devRef .tc main_arg1)) shapeCasts_S8x352x1024_S8x1x352x1024) := by
    unfold_abbrev_sides
    after_results
    rfl
  rw [h, W2_args m ρ c main_arg1 (by decide)]

theorem V1_w (c : Dev nD) : @Eq (FVec Ideal S2x352x1024 .f32) (V1 m ρ c main_arg2) (arg_w m c) := W1_args m ρ c main_arg2 (by decide)

theorem V3_w (c : Dev nD) : @Eq (FVec Ideal S2x352x1024 .f32) (V3 m ρ c main_arg2) (arg_w m c) := W3_args m ρ c main_arg2 (by decide)

theorem V1_a (c : Dev nD) : @Eq (FVec Ideal S2x352x1024 .f32) (V1 m ρ c main_arg3) (arg_a m c) := W1_args m ρ c main_arg3 (by decide)

theorem V3_a (c : Dev nD) : @Eq (FVec Ideal S2x352x1024 .f32) (V3 m ρ c main_arg3) (arg_a m c) := W3_args m ρ c main_arg3 (by decide)

theorem V1_b (c : Dev nD) : @Eq (FVec Ideal S2x352x1024 .f32) (V1 m ρ c main_arg4) (arg_b m c) := W1_args m ρ c main_arg4 (by decide)

theorem V3_b (c : Dev nD) : @Eq (FVec Ideal S2x352x1024 .f32) (V3 m ρ c main_arg4) (arg_b m c) := W3_args m ρ c main_arg4 (by decide)

theorem blk0_p (c : Dev nD) (t : Fin cfg0.N) (k : Fin 8) (p : Fin 176) (q : Fin 1024) :
    iblk0 (V1 m ρ) c 0 t (ix4 k (0 : Fin 1) p q) = arg_p0 m c (ix3 k (row0 t p) q) := by
  have h : iblk0 (V1 m ρ) c 0 t (ix4 k (0 : Fin 1) p q) = V1 m ρ c main_v0 (ix4 k (0 : Fin 1) (row0 t p) q) := by
    generalize V1 m ρ = V
    blk_point [iblk0, idx0 t, row0]
  rw [h, V1_p]
  pointwise

theorem blk0_w (c : Dev nD) (t : Fin cfg0.N) (p : Fin 176) (q : Fin 1024) :
    iblk0 (V1 m ρ) c 1 t (ix3 (0 : Fin 1) p q) = arg_w m c (ix3 (0 : Fin 2) (row0 t p) q) := by
  have h : iblk0 (V1 m ρ) c 1 t (ix3 (0 : Fin 1) p q) = V1 m ρ c main_arg2 (ix3 (0 : Fin 2) (row0 t p) q) := by
    generalize V1 m ρ = V
    blk_point [iblk0, idx0 t, row0]
  rw [h, V1_w]

theorem blk0_a (c : Dev nD) (t : Fin cfg0.N) (p : Fin 176) (q : Fin 1024) :
    iblk0 (V1 m ρ) c 2 t (ix3 (0 : Fin 1) p q) = arg_a m c (ix3 (0 : Fin 2) (row0 t p) q) := by
  have h : iblk0 (V1 m ρ) c 2 t (ix3 (0 : Fin 1) p q) = V1 m ρ c main_arg3 (ix3 (0 : Fin 2) (row0 t p) q) := by
    generalize V1 m ρ = V
    blk_point [iblk0, idx0 t, row0]
  rw [h, V1_a]

theorem blk0_b (c : Dev nD) (t : Fin cfg0.N) (p : Fin 176) (q : Fin 1024) :
    iblk0 (V1 m ρ) c 3 t (ix3 (0 : Fin 1) p q) = arg_b m c (ix3 (0 : Fin 2) (row0 t p) q) := by
  have h : iblk0 (V1 m ρ) c 3 t (ix3 (0 : Fin 1) p q) = V1 m ρ c main_arg4 (ix3 (0 : Fin 2) (row0 t p) q) := by
    generalize V1 m ρ = V
    blk_point [iblk0, idx0 t, row0]
  rw [h, V1_b]

theorem blk1_p (c : Dev nD) (t : Fin cfg1.N) (k : Fin 8) (p : Fin 176) (q : Fin 1024) :
    iblk1 (V3 m ρ) c 0 t (ix4 k (0 : Fin 1) p q) = arg_p1 m c (ix3 k (row1 t p) q) := by
  have h : iblk1 (V3 m ρ) c 0 t (ix4 k (0 : Fin 1) p q) = V3 m ρ c main_v2 (ix4 k (0 : Fin 1) (row1 t p) q) := by
    generalize V3 m ρ = V
    blk_point [iblk1, idx1 t, row1]
  rw [h, V3_p]
  pointwise

theorem blk1_w (c : Dev nD) (t : Fin cfg1.N) (p : Fin 176) (q : Fin 1024) :
    iblk1 (V3 m ρ) c 1 t (ix3 (0 : Fin 1) p q) = arg_w m c (ix3 (1 : Fin 2) (row1 t p) q) := by
  have h : iblk1 (V3 m ρ) c 1 t (ix3 (0 : Fin 1) p q) = V3 m ρ c main_arg2 (ix3 (1 : Fin 2) (row1 t p) q) := by
    generalize V3 m ρ = V
    blk_point [iblk1, idx1 t, row1]
  rw [h, V3_w]

theorem blk1_a (c : Dev nD) (t : Fin cfg1.N) (p : Fin 176) (q : Fin 1024) :
    iblk1 (V3 m ρ) c 2 t (ix3 (0 : Fin 1) p q) = arg_a m c (ix3 (1 : Fin 2) (row1 t p) q) := by
  have h : iblk1 (V3 m ρ) c 2 t (ix3 (0 : Fin 1) p q) = V3 m ρ c main_arg3 (ix3 (1 : Fin 2) (row1 t p) q) := by
    generalize V3 m ρ = V
    blk_point [iblk1, idx1 t, row1]
  rw [h, V3_a]

theorem blk1_b (c : Dev nD) (t : Fin cfg1.N) (p : Fin 176) (q : Fin 1024) :
    iblk1 (V3 m ρ) c 3 t (ix3 (0 : Fin 1) p q) = arg_b m c (ix3 (1 : Fin 2) (row1 t p) q) := by
  have h : iblk1 (V3 m ρ) c 3 t (ix3 (0 : Fin 1) p q) = V3 m ρ c main_arg4 (ix3 (1 : Fin 2) (row1 t p) q) := by
    generalize V3 m ρ = V
    blk_point [iblk1, idx1 t, row1]
  rw [h, V3_b]

/-- The sum of the eight parts at one grid point of call 0. -/
theorem pay0_g (x0 : Vec Ideal S8x1x176x1024 .f32) (x1 x2 x3 : Vec Ideal S1x176x1024 .f32) (p : Fin 176) (q : Fin 1024) :
    k0_pay5 (F := Ideal) x0 x1 x2 x3 (ix3 (0 : Fin 1) p q) = ∑ k : Fin 8, x0 (ix4 k (0 : Fin 1) p q) := by
  refine Eq.trans ?_ (AdamMath.sum8 fun k => x0 (ix4 k (0 : Fin 1) p q))
  pointwise [k0_pay5, k0_pay1]

theorem pay0_m (g x : Vec Ideal S1x176x1024 .f32) (p : Fin 176) (q : Fin 1024) :
    k0_pay2 (F := Ideal) g x (ix3 (0 : Fin 1) p q) = AdamMath.newM (x (ix3 (0 : Fin 1) p q)) (g (ix3 (0 : Fin 1) p q)) := by
  pointwise [k0_pay2, AdamMath.newM]

theorem pay0_v (g x : Vec Ideal S1x176x1024 .f32) (p : Fin 176) (q : Fin 1024) :
    k0_pay3 (F := Ideal) g x (ix3 (0 : Fin 1) p q) = AdamMath.newV (x (ix3 (0 : Fin 1) p q)) (g (ix3 (0 : Fin 1) p q)) := by
  pointwise [k0_pay3, AdamMath.newV]

theorem pay0_d (g x y z : Vec Ideal S1x176x1024 .f32) (p : Fin 176) (q : Fin 1024) :
    k0_pay4 (F := Ideal) g y z x (ix3 (0 : Fin 1) p q) = AdamMath.delta (x (ix3 (0 : Fin 1) p q)) (y (ix3 (0 : Fin 1) p q)) (z (ix3 (0 : Fin 1) p q)) (g (ix3 (0 : Fin 1) p q)) := by
  pointwise [k0_pay4, k0_pay2, k0_pay3, AdamMath.delta, AdamMath.newM, AdamMath.newV]

/-- The sum of the eight parts at one grid point of call 1. -/
theorem pay1_g (x0 : Vec Ideal S8x1x176x1024 .f32) (p : Fin 176) (q : Fin 1024) :
    k1_pay1 (F := Ideal) (View.ld x0 r0_0) (View.ld x0 r0_1) (View.ld x0 r0_2) (View.ld x0 r0_3) (View.ld x0 r0_4) (View.ld x0 r0_5) (View.ld x0 r0_6) (View.ld x0 r0_7) (ix3 (0 : Fin 1) p q) = ∑ k : Fin 8, x0 (ix4 k (0 : Fin 1) p q) := by
  refine Eq.trans ?_ (AdamMath.sum8 fun k => x0 (ix4 k (0 : Fin 1) p q))
  pointwise [k1_pay1]

theorem pay1_m (g x : Vec Ideal S1x176x1024 .f32) (p : Fin 176) (q : Fin 1024) :
    k1_pay2 (F := Ideal) g x (ix3 (0 : Fin 1) p q) = AdamMath.newM (x (ix3 (0 : Fin 1) p q)) (g (ix3 (0 : Fin 1) p q)) := by
  pointwise [k1_pay2, AdamMath.newM]

theorem pay1_v (g x : Vec Ideal S1x176x1024 .f32) (p : Fin 176) (q : Fin 1024) :
    k1_pay3 (F := Ideal) g x (ix3 (0 : Fin 1) p q) = AdamMath.newV (x (ix3 (0 : Fin 1) p q)) (g (ix3 (0 : Fin 1) p q)) := by
  pointwise [k1_pay3, AdamMath.newV]

theorem pay1_d (g x y z : Vec Ideal S1x176x1024 .f32) (p : Fin 176) (q : Fin 1024) :
    k1_pay4 (F := Ideal) g y z x (ix3 (0 : Fin 1) p q) = AdamMath.delta (x (ix3 (0 : Fin 1) p q)) (y (ix3 (0 : Fin 1) p q)) (z (ix3 (0 : Fin 1) p q)) (g (ix3 (0 : Fin 1) p q)) := by
  pointwise [k1_pay4, k1_pay2, k1_pay3, AdamMath.delta, AdamMath.newM, AdamMath.newV]

theorem sum0 (c : Dev nD) (t : Fin cfg0.N) (p : Fin 176) (q : Fin 1024) :
    k0_pay5 (F := Ideal) (iblk0 (V1 m ρ) c 0 t) (iblk0 (V1 m ρ) c 1 t) (iblk0 (V1 m ρ) c 2 t) (iblk0 (V1 m ρ) c 3 t) (ix3 (0 : Fin 1) p q) = ∑ k : Fin 8, arg_p0 m c (ix3 k (row0 t p) q) :=
  (pay0_g (iblk0 (V1 m ρ) c 0 t) (iblk0 (V1 m ρ) c 1 t) (iblk0 (V1 m ρ) c 2 t) (iblk0 (V1 m ρ) c 3 t) p q).trans (Finset.sum_congr rfl fun k _ => blk0_p m ρ c t k p q)

theorem emb0_g (t : Fin cfg0.N) (p : Fin 176) (q : Fin 1024) :
    ((cfg0.win 4).blk t).view.emb (ix3 (0 : Fin 1) p q) = ix3 (0 : Fin 2) (row0 t p) q := by
  blk_point [idx0 t, row0]

theorem point0_g (c : Dev nD) (t : Fin cfg0.N) (l : Fin 1) (p : Fin 176) (q : Fin 1024) :
    k0_pay5 (F := Ideal) (iblk0 (V1 m ρ) c 0 t) (iblk0 (V1 m ρ) c 1 t) (iblk0 (V1 m ρ) c 2 t) (iblk0 (V1 m ρ) c 3 t) (ix3 l p q) = gOut (arg_p0 m c) (arg_p1 m c) (((cfg0.win 4).blk t).view.emb (ix3 l p q)) := by
  obtain rfl : l = 0 := Subsingleton.elim _ _
  rw [emb0_g, sum0]
  show _ = gOut (arg_p0 m c) (arg_p1 m c) (ix3 (0 : Fin 2) (row0 t p) q)
  rw [gOut_0]

theorem reg0_g (c : Dev nD) : (dat0 (V1 m ρ) c).arrAt 4 cfg0.N =
    fun i => if (i (0 : Fin 3)).val = 0 then gOut (arg_p0 m c) (arg_p1 m c) i else (dat0 (V1 m ρ) c).A 4 i := by
  refine (dat0 (V1 m ρ) c).arrAt_eq_of_coversWhere 4 (gOut (arg_p0 m c) (arg_p1 m c)) (fun β => β (0 : Fin 3) = 0) (by decide +kernel) (fun t hf y => ?_)
    (fun j => by blk_simp [Pipeline.Window.cell_apply]; omega)
  blk_simp
  rw [after0_4]
  frame_out
  idx_vars y
  exact point0_g m ρ c t y0 y1 y2

theorem emb0_d (t : Fin cfg0.N) (p : Fin 176) (q : Fin 1024) :
    ((cfg0.win 5).blk t).view.emb (ix3 (0 : Fin 1) p q) = ix3 (0 : Fin 2) (row0 t p) q := by
  blk_point [idx0 t, row0]

theorem point0_d (c : Dev nD) (t : Fin cfg0.N) (l : Fin 1) (p : Fin 176) (q : Fin 1024) :
    k0_pay4 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 2 t) (iblk0 (V1 m ρ) c 3 t) (iblk0 (V1 m ρ) c 1 t) (ix3 l p q) = dOut (arg_p0 m c) (arg_p1 m c) (arg_w m c) (arg_a m c) (arg_b m c) (((cfg0.win 5).blk t).view.emb (ix3 l p q)) := by
  obtain rfl : l = 0 := Subsingleton.elim _ _
  rw [emb0_d, pay0_d, sum0]
  show _ = AdamMath.delta (arg_w m c (ix3 (0 : Fin 2) (row0 t p) q)) (arg_a m c (ix3 (0 : Fin 2) (row0 t p) q)) (arg_b m c (ix3 (0 : Fin 2) (row0 t p) q)) (gOut (arg_p0 m c) (arg_p1 m c) (ix3 (0 : Fin 2) (row0 t p) q))
  rw [gOut_0]
  simp only [blk0_w, blk0_a, blk0_b]

theorem reg0_d (c : Dev nD) : (dat0 (V1 m ρ) c).arrAt 5 cfg0.N =
    fun i => if (i (0 : Fin 3)).val = 0 then dOut (arg_p0 m c) (arg_p1 m c) (arg_w m c) (arg_a m c) (arg_b m c) i else (dat0 (V1 m ρ) c).A 5 i := by
  refine (dat0 (V1 m ρ) c).arrAt_eq_of_coversWhere 5 (dOut (arg_p0 m c) (arg_p1 m c) (arg_w m c) (arg_a m c) (arg_b m c)) (fun β => β (0 : Fin 3) = 0) (by decide +kernel) (fun t hf y => ?_)
    (fun j => by blk_simp [Pipeline.Window.cell_apply]; omega)
  blk_simp
  rw [after0_5]
  frame_out
  idx_vars y
  exact point0_d m ρ c t y0 y1 y2

theorem emb0_m (t : Fin cfg0.N) (p : Fin 176) (q : Fin 1024) :
    ((cfg0.win 6).blk t).view.emb (ix3 (0 : Fin 1) p q) = ix3 (0 : Fin 2) (row0 t p) q := by
  blk_point [idx0 t, row0]

theorem point0_m (c : Dev nD) (t : Fin cfg0.N) (l : Fin 1) (p : Fin 176) (q : Fin 1024) :
    k0_pay2 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 2 t) (ix3 l p q) = mOut (arg_p0 m c) (arg_p1 m c) (arg_a m c) (((cfg0.win 6).blk t).view.emb (ix3 l p q)) := by
  obtain rfl : l = 0 := Subsingleton.elim _ _
  rw [emb0_m, pay0_m, sum0]
  show _ = AdamMath.newM (arg_a m c (ix3 (0 : Fin 2) (row0 t p) q)) (gOut (arg_p0 m c) (arg_p1 m c) (ix3 (0 : Fin 2) (row0 t p) q))
  rw [gOut_0]
  simp only [blk0_a]

theorem reg0_m (c : Dev nD) : (dat0 (V1 m ρ) c).arrAt 6 cfg0.N =
    fun i => if (i (0 : Fin 3)).val = 0 then mOut (arg_p0 m c) (arg_p1 m c) (arg_a m c) i else (dat0 (V1 m ρ) c).A 6 i := by
  refine (dat0 (V1 m ρ) c).arrAt_eq_of_coversWhere 6 (mOut (arg_p0 m c) (arg_p1 m c) (arg_a m c)) (fun β => β (0 : Fin 3) = 0) (by decide +kernel) (fun t hf y => ?_)
    (fun j => by blk_simp [Pipeline.Window.cell_apply]; omega)
  blk_simp
  rw [after0_6]
  frame_out
  idx_vars y
  exact point0_m m ρ c t y0 y1 y2

theorem emb0_v (t : Fin cfg0.N) (p : Fin 176) (q : Fin 1024) :
    ((cfg0.win 7).blk t).view.emb (ix3 (0 : Fin 1) p q) = ix3 (0 : Fin 2) (row0 t p) q := by
  blk_point [idx0 t, row0]

theorem point0_v (c : Dev nD) (t : Fin cfg0.N) (l : Fin 1) (p : Fin 176) (q : Fin 1024) :
    k0_pay3 (F := Ideal) (k0_pay5 (F := Ideal) (iblk0 (V1 m ρ) c 0 t) (iblk0 (V1 m ρ) c 1 t) (iblk0 (V1 m ρ) c 2 t) (iblk0 (V1 m ρ) c 3 t)) (iblk0 (V1 m ρ) c 3 t) (ix3 l p q) = vOut (arg_p0 m c) (arg_p1 m c) (arg_b m c) (((cfg0.win 7).blk t).view.emb (ix3 l p q)) := by
  obtain rfl : l = 0 := Subsingleton.elim _ _
  rw [emb0_v, pay0_v, sum0]
  show _ = AdamMath.newV (arg_b m c (ix3 (0 : Fin 2) (row0 t p) q)) (gOut (arg_p0 m c) (arg_p1 m c) (ix3 (0 : Fin 2) (row0 t p) q))
  rw [gOut_0]
  simp only [blk0_b]

theorem reg0_v (c : Dev nD) : (dat0 (V1 m ρ) c).arrAt 7 cfg0.N =
    fun i => if (i (0 : Fin 3)).val = 0 then vOut (arg_p0 m c) (arg_p1 m c) (arg_b m c) i else (dat0 (V1 m ρ) c).A 7 i := by
  refine (dat0 (V1 m ρ) c).arrAt_eq_of_coversWhere 7 (vOut (arg_p0 m c) (arg_p1 m c) (arg_b m c)) (fun β => β (0 : Fin 3) = 0) (by decide +kernel) (fun t hf y => ?_)
    (fun j => by blk_simp [Pipeline.Window.cell_apply]; omega)
  blk_simp
  rw [after0_7]
  frame_out
  idx_vars y
  exact point0_v m ρ c t y0 y1 y2

theorem sum1 (c : Dev nD) (t : Fin cfg1.N) (p : Fin 176) (q : Fin 1024) :
    k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7) (ix3 (0 : Fin 1) p q) = ∑ k : Fin 8, arg_p1 m c (ix3 k (row1 t p) q) :=
  (pay1_g (iblk1 (V3 m ρ) c 0 t)  p q).trans (Finset.sum_congr rfl fun k _ => blk1_p m ρ c t k p q)

theorem emb1_g (t : Fin cfg1.N) (p : Fin 176) (q : Fin 1024) :
    ((cfg1.win 4).blk t).view.emb (ix3 (0 : Fin 1) p q) = ix3 (1 : Fin 2) (row1 t p) q := by
  blk_point [idx1 t, row1]

theorem point1_g (c : Dev nD) (t : Fin cfg1.N) (l : Fin 1) (p : Fin 176) (q : Fin 1024) :
    k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7) (ix3 l p q) = gOut (arg_p0 m c) (arg_p1 m c) (((cfg1.win 4).blk t).view.emb (ix3 l p q)) := by
  obtain rfl : l = 0 := Subsingleton.elim _ _
  rw [emb1_g, sum1]
  show _ = gOut (arg_p0 m c) (arg_p1 m c) (ix3 (1 : Fin 2) (row1 t p) q)
  rw [gOut_1]

theorem reg1_g (c : Dev nD) : (dat1 (V3 m ρ) c).arrAt 4 cfg1.N =
    fun i => if (i (0 : Fin 3)).val = 1 then gOut (arg_p0 m c) (arg_p1 m c) i else (dat1 (V3 m ρ) c).A 4 i := by
  refine (dat1 (V3 m ρ) c).arrAt_eq_of_coversWhere 4 (gOut (arg_p0 m c) (arg_p1 m c)) (fun β => β (0 : Fin 3) = 1) (by decide +kernel) (fun t hf y => ?_)
    (fun j => by blk_simp [Pipeline.Window.cell_apply]; omega)
  blk_simp
  rw [after1_4]
  unfold outsAt1
  frame_out
  idx_vars y
  exact point1_g m ρ c t y0 y1 y2

theorem emb1_d (t : Fin cfg1.N) (p : Fin 176) (q : Fin 1024) :
    ((cfg1.win 5).blk t).view.emb (ix3 (0 : Fin 1) p q) = ix3 (1 : Fin 2) (row1 t p) q := by
  blk_point [idx1 t, row1]

theorem point1_d (c : Dev nD) (t : Fin cfg1.N) (l : Fin 1) (p : Fin 176) (q : Fin 1024) :
    k1_pay4 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 2 t) (iblk1 (V3 m ρ) c 3 t) (iblk1 (V3 m ρ) c 1 t) (ix3 l p q) = dOut (arg_p0 m c) (arg_p1 m c) (arg_w m c) (arg_a m c) (arg_b m c) (((cfg1.win 5).blk t).view.emb (ix3 l p q)) := by
  obtain rfl : l = 0 := Subsingleton.elim _ _
  rw [emb1_d, pay1_d, sum1]
  show _ = AdamMath.delta (arg_w m c (ix3 (1 : Fin 2) (row1 t p) q)) (arg_a m c (ix3 (1 : Fin 2) (row1 t p) q)) (arg_b m c (ix3 (1 : Fin 2) (row1 t p) q)) (gOut (arg_p0 m c) (arg_p1 m c) (ix3 (1 : Fin 2) (row1 t p) q))
  rw [gOut_1]
  simp only [blk1_w, blk1_a, blk1_b]

theorem reg1_d (c : Dev nD) : (dat1 (V3 m ρ) c).arrAt 5 cfg1.N =
    fun i => if (i (0 : Fin 3)).val = 1 then dOut (arg_p0 m c) (arg_p1 m c) (arg_w m c) (arg_a m c) (arg_b m c) i else (dat1 (V3 m ρ) c).A 5 i := by
  refine (dat1 (V3 m ρ) c).arrAt_eq_of_coversWhere 5 (dOut (arg_p0 m c) (arg_p1 m c) (arg_w m c) (arg_a m c) (arg_b m c)) (fun β => β (0 : Fin 3) = 1) (by decide +kernel) (fun t hf y => ?_)
    (fun j => by blk_simp [Pipeline.Window.cell_apply]; omega)
  blk_simp
  rw [after1_5]
  unfold outsAt1
  frame_out
  idx_vars y
  exact point1_d m ρ c t y0 y1 y2

theorem emb1_m (t : Fin cfg1.N) (p : Fin 176) (q : Fin 1024) :
    ((cfg1.win 6).blk t).view.emb (ix3 (0 : Fin 1) p q) = ix3 (1 : Fin 2) (row1 t p) q := by
  blk_point [idx1 t, row1]

theorem point1_m (c : Dev nD) (t : Fin cfg1.N) (l : Fin 1) (p : Fin 176) (q : Fin 1024) :
    k1_pay2 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 2 t) (ix3 l p q) = mOut (arg_p0 m c) (arg_p1 m c) (arg_a m c) (((cfg1.win 6).blk t).view.emb (ix3 l p q)) := by
  obtain rfl : l = 0 := Subsingleton.elim _ _
  rw [emb1_m, pay1_m, sum1]
  show _ = AdamMath.newM (arg_a m c (ix3 (1 : Fin 2) (row1 t p) q)) (gOut (arg_p0 m c) (arg_p1 m c) (ix3 (1 : Fin 2) (row1 t p) q))
  rw [gOut_1]
  simp only [blk1_a]

theorem reg1_m (c : Dev nD) : (dat1 (V3 m ρ) c).arrAt 6 cfg1.N =
    fun i => if (i (0 : Fin 3)).val = 1 then mOut (arg_p0 m c) (arg_p1 m c) (arg_a m c) i else (dat1 (V3 m ρ) c).A 6 i := by
  refine (dat1 (V3 m ρ) c).arrAt_eq_of_coversWhere 6 (mOut (arg_p0 m c) (arg_p1 m c) (arg_a m c)) (fun β => β (0 : Fin 3) = 1) (by decide +kernel) (fun t hf y => ?_)
    (fun j => by blk_simp [Pipeline.Window.cell_apply]; omega)
  blk_simp
  rw [after1_6]
  unfold outsAt1
  frame_out
  idx_vars y
  exact point1_m m ρ c t y0 y1 y2

theorem emb1_v (t : Fin cfg1.N) (p : Fin 176) (q : Fin 1024) :
    ((cfg1.win 7).blk t).view.emb (ix3 (0 : Fin 1) p q) = ix3 (1 : Fin 2) (row1 t p) q := by
  blk_point [idx1 t, row1]

theorem point1_v (c : Dev nD) (t : Fin cfg1.N) (l : Fin 1) (p : Fin 176) (q : Fin 1024) :
    k1_pay3 (F := Ideal) (k1_pay1 (F := Ideal) (View.ld (iblk1 (V3 m ρ) c 0 t) r0_0) (View.ld (iblk1 (V3 m ρ) c 0 t) r0_1) (View.ld (iblk1 (V3 m ρ) c 0 t) r0_2) (View.ld (iblk1 (V3 m ρ) c 0 t) r0_3) (View.ld (iblk1 (V3 m ρ) c 0 t) r0_4) (View.ld (iblk1 (V3 m ρ) c 0 t) r0_5) (View.ld (iblk1 (V3 m ρ) c 0 t) r0_6) (View.ld (iblk1 (V3 m ρ) c 0 t) r0_7)) (iblk1 (V3 m ρ) c 3 t) (ix3 l p q) = vOut (arg_p0 m c) (arg_p1 m c) (arg_b m c) (((cfg1.win 7).blk t).view.emb (ix3 l p q)) := by
  obtain rfl : l = 0 := Subsingleton.elim _ _
  rw [emb1_v, pay1_v, sum1]
  show _ = AdamMath.newV (arg_b m c (ix3 (1 : Fin 2) (row1 t p) q)) (gOut (arg_p0 m c) (arg_p1 m c) (ix3 (1 : Fin 2) (row1 t p) q))
  rw [gOut_1]
  simp only [blk1_b]

theorem reg1_v (c : Dev nD) : (dat1 (V3 m ρ) c).arrAt 7 cfg1.N =
    fun i => if (i (0 : Fin 3)).val = 1 then vOut (arg_p0 m c) (arg_p1 m c) (arg_b m c) i else (dat1 (V3 m ρ) c).A 7 i := by
  refine (dat1 (V3 m ρ) c).arrAt_eq_of_coversWhere 7 (vOut (arg_p0 m c) (arg_p1 m c) (arg_b m c)) (fun β => β (0 : Fin 3) = 1) (by decide +kernel) (fun t hf y => ?_)
    (fun j => by blk_simp [Pipeline.Window.cell_apply]; omega)
  blk_simp
  rw [after1_7]
  unfold outsAt1
  frame_out
  idx_vars y
  exact point1_v m ρ c t y0 y1 y2

theorem final_g (c : Dev nD) : W4 m ρ c (Proc.devRef .tc main_v3_0) = gOut (arg_p0 m c) (arg_p1 m c) := by
  refine (W4_arr m ρ c 4).trans ?_
  rw [reg1_g]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_0 = V2 m ρ c main_v1_0 := by
      unfold_abbrev_sides
      after_results
      rfl
    refine (if_neg h).trans ?_
    rw [A_eq1]
    refine (congrFun (e.trans (W2_arr m ρ c 4)) i).trans ?_
    rw [reg0_g]
    exact if_pos h0

theorem final_d (c : Dev nD) : W4 m ρ c (Proc.devRef .tc main_v3_1) = dOut (arg_p0 m c) (arg_p1 m c) (arg_w m c) (arg_a m c) (arg_b m c) := by
  refine (W4_arr m ρ c 5).trans ?_
  rw [reg1_d]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_1 = V2 m ρ c main_v1_1 := by
      unfold_abbrev_sides
      after_results
      rfl
    refine (if_neg h).trans ?_
    rw [A_eq1]
    refine (congrFun (e.trans (W2_arr m ρ c 5)) i).trans ?_
    rw [reg0_d]
    exact if_pos h0

theorem final_m (c : Dev nD) : W4 m ρ c (Proc.devRef .tc main_v3_2) = mOut (arg_p0 m c) (arg_p1 m c) (arg_a m c) := by
  refine (W4_arr m ρ c 6).trans ?_
  rw [reg1_m]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_2 = V2 m ρ c main_v1_2 := by
      unfold_abbrev_sides
      after_results
      rfl
    refine (if_neg h).trans ?_
    rw [A_eq1]
    refine (congrFun (e.trans (W2_arr m ρ c 6)) i).trans ?_
    rw [reg0_m]
    exact if_pos h0

theorem final_v (c : Dev nD) : W4 m ρ c (Proc.devRef .tc main_v3_3) = vOut (arg_p0 m c) (arg_p1 m c) (arg_b m c) := by
  refine (W4_arr m ρ c 7).trans ?_
  rw [reg1_v]
  funext i
  by_cases h : (i (0 : Fin 3)).val = 1
  · exact if_pos h
  · have h0 : (i (0 : Fin 3)).val = 0 := by
      have : (i (0 : Fin 3)).val < 2 := (i (0 : Fin 3)).isLt
      omega
    have e : V3 m ρ c main_v3_3 = V2 m ρ c main_v1_3 := by
      unfold_abbrev_sides
      after_results
      rfl
    refine (if_neg h).trans ?_
    rw [A_eq1]
    refine (congrFun (e.trans (W2_arr m ρ c 7)) i).trans ?_
    rw [reg0_v]
    exact if_pos h0

end Values

section Run

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

/-- What the program leaves in its four results; its arguments are unchanged. -/
theorem run : θ_run defs (onTc (τ := τ) (main (F := Ideal))) ⟨m, fun _ => 0, ρ⟩ (fun r => ∀ c : Dev nD,
      r.2.mem ((c.tc : Thread nD τ).loc main_v3_0) = gOut (arg_p0 m c) (arg_p1 m c)
      ∧ r.2.mem ((c.tc : Thread nD τ).loc main_v3_1) = dOut (arg_p0 m c) (arg_p1 m c) (arg_w m c) (arg_a m c) (arg_b m c)
      ∧ r.2.mem ((c.tc : Thread nD τ).loc main_v3_2) = mOut (arg_p0 m c) (arg_p1 m c) (arg_a m c)
      ∧ r.2.mem ((c.tc : Thread nD τ).loc main_v3_3) = vOut (arg_p0 m c) (arg_p1 m c) (arg_b m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v3_0 (by decide))).trans (final_g m ρ c),
       (h c _ (mem_uc main_v3_1 (by decide))).trans (final_d m ρ c),
       (h c _ (mem_uc main_v3_2 (by decide))).trans (final_m m ρ c),
       (h c _ (mem_uc main_v3_3 (by decide))).trans (final_v m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Run

end Cert.AdamDownIdeal.Value

namespace Cert.AdamDownSpecIdeal.Value

open Cert.AdamDownSpecIdeal Cert.AdamDownSpecIdeal.Gen

/-- The sums of the two layers' parts, stacked. -/
abbrev rS (p0 p1 : Vec Ideal S8x352x1024 .f32) : FVec Ideal S2x352x1024 .f32 := concatenate S2x352x1024 0 [⟨S1x352x1024, (broadcastInDim S1x352x1024 ![1, 2] bcast_S352x1024_S1x352x1024_1_2 (Host.reduceAdd p0 (constant S_ .f32 0x00000000#32) reducesTo_S8x352x1024_S352x1024_d0 h_S_))⟩, ⟨S1x352x1024, (broadcastInDim S1x352x1024 ![1, 2] bcast_S352x1024_S1x352x1024_1_2 (Host.reduceAdd p1 (constant S_ .f32 0x00000000#32) reducesTo_S8x352x1024_S352x1024_d0 h_S_))⟩] concatenates_S1x352x1024_S1x352x1024_S2x352x1024_d0

/-- The same, laid out as the weight is. -/
abbrev rG (p0 p1 : Vec Ideal S8x352x1024 .f32) : FVec Ideal S2x352x1024 .f32 := rS p0 p1

/-- The reference's new first moment. -/
abbrev rM (p0 p1 : Vec Ideal S8x352x1024 .f32) (a : Vec Ideal S2x352x1024 .f32) : FVec Ideal S2x352x1024 .f32 :=
  addf (mulf (broadcastInDim S2x352x1024 ![] bcast_S_S2x352x1024 (constant S_ .f32 0x3F666666#32)) a) (mulf (broadcastInDim S2x352x1024 ![] bcast_S_S2x352x1024 (constant S_ .f32 0x3DCCCCCD#32)) (rG p0 p1))

/-- The reference's new second moment. -/
abbrev rV (p0 p1 : Vec Ideal S8x352x1024 .f32) (b : Vec Ideal S2x352x1024 .f32) : FVec Ideal S2x352x1024 .f32 :=
  addf (mulf (broadcastInDim S2x352x1024 ![] bcast_S_S2x352x1024 (constant S_ .f32 0x3F7FBE77#32)) b) (mulf (broadcastInDim S2x352x1024 ![] bcast_S_S2x352x1024 (constant S_ .f32 0x3A83126F#32)) (mulf (rG p0 p1) (rG p0 p1)))

/-- The reference's change of the weight. -/
abbrev rD (p0 p1 : Vec Ideal S8x352x1024 .f32) (w a b : Vec Ideal S2x352x1024 .f32) : FVec Ideal S2x352x1024 .f32 :=
  mulf (broadcastInDim S2x352x1024 ![] bcast_S_S2x352x1024 (constant S_ .f32 0xBA83126F#32)) (addf (Host.divf (Host.divf (rM p0 p1 a) (broadcastInDim S2x352x1024 ![] bcast_S_S2x352x1024 (constant S_ .f32 0x3F26BD02#32))) (addf (Host.sqrt (Host.divf (rV p0 p1 b) (broadcastInDim S2x352x1024 ![] bcast_S_S2x352x1024 (constant S_ .f32 0x3C231ACC#32)))) (broadcastInDim S2x352x1024 ![] bcast_S_S2x352x1024 (constant S_ .f32 0x322BCC77#32)))) (mulf (broadcastInDim S2x352x1024 ![] bcast_S_S2x352x1024 (constant S_ .f32 0x3C23D70A#32)) w))

theorem rS_0 (p0 p1 : Vec Ideal S8x352x1024 .f32) (y : Fin 352) (z : Fin 1024) : rS p0 p1 (ix3 (0 : Fin 2) y z) = ∑ k : Fin 8, p0 (ix3 k y z) := by
  pointwise

theorem rS_1 (p0 p1 : Vec Ideal S8x352x1024 .f32) (y : Fin 352) (z : Fin 1024) : rS p0 p1 (ix3 (1 : Fin 2) y z) = ∑ k : Fin 8, p1 (ix3 k y z) := by
  pointwise

theorem rS_at (p0 p1 : Vec Ideal S8x352x1024 .f32) (l : Fin 2) (y : Fin 352) (z : Fin 1024) : rS p0 p1 (ix3 l y z) = Cert.AdamDownIdeal.Value.gOut p0 p1 (ix3 l y z) := by
  obtain rfl | rfl : l = 0 ∨ l = 1 := by omega
  · rw [rS_0, Cert.AdamDownIdeal.Value.gOut_0]
  · rw [rS_1, Cert.AdamDownIdeal.Value.gOut_1]

/-- The pointwise part of the step, at any gradient. -/
theorem m_at (g : FVec Ideal S2x352x1024 .f32) (a : Vec Ideal S2x352x1024 .f32) (l : Fin 2) (y : Fin 352) (z : Fin 1024) :
    addf (mulf (broadcastInDim S2x352x1024 ![] bcast_S_S2x352x1024 (constant S_ .f32 0x3F666666#32)) a) (mulf (broadcastInDim S2x352x1024 ![] bcast_S_S2x352x1024 (constant S_ .f32 0x3DCCCCCD#32)) g) (ix3 l y z) = AdamMath.newM (a (ix3 l y z)) (g (ix3 l y z)) := by
  pointwise [AdamMath.newM]

theorem v_at (g : FVec Ideal S2x352x1024 .f32) (b : Vec Ideal S2x352x1024 .f32) (l : Fin 2) (y : Fin 352) (z : Fin 1024) :
    addf (mulf (broadcastInDim S2x352x1024 ![] bcast_S_S2x352x1024 (constant S_ .f32 0x3F7FBE77#32)) b) (mulf (broadcastInDim S2x352x1024 ![] bcast_S_S2x352x1024 (constant S_ .f32 0x3A83126F#32)) (mulf g g)) (ix3 l y z) = AdamMath.newV (b (ix3 l y z)) (g (ix3 l y z)) := by
  pointwise [AdamMath.newV]

theorem d_at (g : FVec Ideal S2x352x1024 .f32) (w a b : Vec Ideal S2x352x1024 .f32) (l : Fin 2) (y : Fin 352) (z : Fin 1024) :
    mulf (broadcastInDim S2x352x1024 ![] bcast_S_S2x352x1024 (constant S_ .f32 0xBA83126F#32)) (addf (Host.divf (Host.divf (addf (mulf (broadcastInDim S2x352x1024 ![] bcast_S_S2x352x1024 (constant S_ .f32 0x3F666666#32)) a) (mulf (broadcastInDim S2x352x1024 ![] bcast_S_S2x352x1024 (constant S_ .f32 0x3DCCCCCD#32)) g)) (broadcastInDim S2x352x1024 ![] bcast_S_S2x352x1024 (constant S_ .f32 0x3F26BD02#32))) (addf (Host.sqrt (Host.divf (addf (mulf (broadcastInDim S2x352x1024 ![] bcast_S_S2x352x1024 (constant S_ .f32 0x3F7FBE77#32)) b) (mulf (broadcastInDim S2x352x1024 ![] bcast_S_S2x352x1024 (constant S_ .f32 0x3A83126F#32)) (mulf g g))) (broadcastInDim S2x352x1024 ![] bcast_S_S2x352x1024 (constant S_ .f32 0x3C231ACC#32)))) (broadcastInDim S2x352x1024 ![] bcast_S_S2x352x1024 (constant S_ .f32 0x322BCC77#32)))) (mulf (broadcastInDim S2x352x1024 ![] bcast_S_S2x352x1024 (constant S_ .f32 0x3C23D70A#32)) w)) (ix3 l y z) =
      AdamMath.delta (w (ix3 l y z)) (a (ix3 l y z)) (b (ix3 l y z)) (g (ix3 l y z)) := by
  pointwise [AdamMath.delta, AdamMath.newM, AdamMath.newV]

theorem rG_at (p0 p1 : Vec Ideal S8x352x1024 .f32) (l : Fin 2) (y : Fin 352) (z : Fin 1024) : rG p0 p1 (ix3 l y z) = Cert.AdamDownIdeal.Value.gOut p0 p1 (ix3 l y z) := rS_at p0 p1 l y z

theorem spec_g (p0 p1 : Vec Ideal S8x352x1024 .f32) : rG p0 p1 = Cert.AdamDownIdeal.Value.gOut p0 p1  := by
  funext i
  idx_vars i
  exact rG_at p0 p1 i0 i1 i2

theorem spec_m (p0 p1 : Vec Ideal S8x352x1024 .f32) (a : Vec Ideal S2x352x1024 .f32) : rM p0 p1 a = Cert.AdamDownIdeal.Value.mOut p0 p1 a := by
  funext i
  idx_vars i
  rw [rM, m_at, rG_at]
  rfl

theorem spec_v (p0 p1 : Vec Ideal S8x352x1024 .f32) (b : Vec Ideal S2x352x1024 .f32) : rV p0 p1 b = Cert.AdamDownIdeal.Value.vOut p0 p1 b := by
  funext i
  idx_vars i
  rw [rV, v_at, rG_at]
  rfl

theorem spec_d (p0 p1 : Vec Ideal S8x352x1024 .f32) (w a b : Vec Ideal S2x352x1024 .f32) : rD p0 p1 w a b = Cert.AdamDownIdeal.Value.dOut p0 p1 w a b := by
  funext i
  idx_vars i
  rw [rD, d_at, rG_at]
  rfl

end Cert.AdamDownSpecIdeal.Value

namespace Cert.AdamDownClaim

open Cert.AdamDownIdeal.Value

theorem specFrame : Cert.quiescent_AdamDownSpecIdeal := fun m g _ =>
  (θ_run _ _ _).mono (fun r h => ⟨fun c => (h c).2.2.2.2, sem_eq_zero_of_no_sems (by decide) r.2⟩) (Cert.AdamDownSpecIdeal.Value.run m g)

theorem value : Cert.algebraic_AdamDownIdeal_AdamDownSpecIdeal := by
  intro m g m' g' _ hargs
  refine ⟨fun c => gOut (arg_p0 m c) (arg_p1 m c), fun c => dOut (arg_p0 m c) (arg_p1 m c) (arg_w m c) (arg_a m c) (arg_b m c),
    fun c => mOut (arg_p0 m c) (arg_p1 m c) (arg_a m c), fun c => vOut (arg_p0 m c) (arg_p1 m c) (arg_b m c), ?_, ?_⟩
  · exact Cert.AdamDownIdeal.Value.run m g
  · refine (θ_run _ _ _).mono (fun r h c => ?_) (Cert.AdamDownSpecIdeal.Value.run m' g')
    obtain ⟨a0, a1, a2, a3, a4⟩ := hargs c
    obtain ⟨h0, h1, h2, h3, hk⟩ := h c
    refine ⟨h0.trans ?_, h1.trans ?_, h2.trans ?_, h3.trans ?_, hk⟩
    · rw [a0, a1]
      exact Cert.AdamDownSpecIdeal.Value.spec_g _ _
    · rw [a0, a1, a2, a3, a4]
      exact Cert.AdamDownSpecIdeal.Value.spec_d _ _ _ _ _
    · rw [a0, a1, a3]
      exact Cert.AdamDownSpecIdeal.Value.spec_m _ _ _
    · rw [a0, a1, a4]
      exact Cert.AdamDownSpecIdeal.Value.spec_v _ _ _

end Cert.AdamDownClaim

end
-- ==== Proof.AdamSmall.lean ====
module

public import proofs.«01_k».proof.Proof.Gen.AdamSmallIdeal.Value
public import proofs.«01_k».proof.Proof.Gen.AdamSmallSpecIdeal.Run
public import proofs.«01_k».proof.Proof.Gen.AdamSmall.Frame
public import Idealize.ShloMosaic.Lib.Pipeline.ValueKit
public import Idealize.ShloMosaic.Lib.Pipeline.ReadBack
public import Idealize.ShloMosaic.Lib.Claim
public import proofs.«01_k».proof.Proof.AdamMath

/-! The optimiser's step for several small weights packed into rows of 128: the sum of the eight devices' parts of their gradients, then AdamW. -/

@[expose] public section

set_option maxRecDepth 16384

noncomputable section

open Idealize.ShloMosaic Idealize.ShloMosaic.TcCoe Idealize.SL.Sem
open Idealize.ShloMosaic.Pipeline (Dat)

namespace Cert.AdamSmallIdeal.Value

open Cert.AdamSmallIdeal Cert.AdamSmallIdeal.Gen

/-- The gradient: the sum of the parts of the eight devices. -/
def gOut (p : Vec Ideal S8x80x128 .f32) : Vec Ideal S1x80x128 .f32 := fun i => ∑ k : Fin 8, p (ix3 k (i 1) (i 2))

/-- The new first moment. -/
def mOut (p : Vec Ideal S8x80x128 .f32) (a : Vec Ideal S80x128 .f32) : Vec Ideal S1x80x128 .f32 :=
  fun i => AdamMath.newM (a (ix2 (i 1) (i 2))) (gOut p i)

/-- The new second moment. -/
def vOut (p : Vec Ideal S8x80x128 .f32) (b : Vec Ideal S80x128 .f32) : Vec Ideal S1x80x128 .f32 :=
  fun i => AdamMath.newV (b (ix2 (i 1) (i 2))) (gOut p i)

/-- The change of the weight. -/
def dOut (p : Vec Ideal S8x80x128 .f32) (w a b : Vec Ideal S80x128 .f32) : Vec Ideal S1x80x128 .f32 :=
  fun i => AdamMath.delta (w (ix2 (i 1) (i 2))) (a (ix2 (i 1) (i 2))) (b (ix2 (i 1) (i 2))) (gOut p i)

variable (m : (ℓ : Loc nD τ sig) → Buf (Elt Ideal) ℓ)

abbrev arg_p (c : Dev nD) : Vec Ideal S8x80x128 .f32 := m ((c : Thread nD τ).loc main_arg0)

/-- Arrays laid one after the other, each filled up with zeros to a multiple of 2048 entries, in rows of 128. -/
abbrev pack (b0 : Vec Ideal S1x4x128 .f32) (b1 : Vec Ideal S1x4x32 .f32) (b2 : Vec Ideal S1x4x32 .f32) (b3 : Vec Ideal S1x160 .f32) (b4 : Vec Ideal S1x128 .f32) : FVec Ideal S80x128 .f32 :=
  shapeCast S80x128 (concatenate S10240 0 [⟨S2048, (pad S2048 ![0] ![1536] ![0] (shapeCast S512 b0 shapeCasts_S1x4x128_S512) (sitofp .f32 (constantI S_ 32 0#32)) pads_S512_S2048_015360 h_S_)⟩, ⟨S2048, (pad S2048 ![0] ![1920] ![0] (shapeCast S128 b1 shapeCasts_S1x4x32_S128) (sitofp .f32 (constantI S_ 32 0#32)) pads_S128_S2048_019200 h_S_)⟩, ⟨S2048, (pad S2048 ![0] ![1920] ![0] (shapeCast S128 b2 shapeCasts_S1x4x32_S128) (sitofp .f32 (constantI S_ 32 0#32)) pads_S128_S2048_019200 h_S_)⟩, ⟨S2048, (pad S2048 ![0] ![1888] ![0] (shapeCast S160 b3 shapeCasts_S1x160_S160) (sitofp .f32 (constantI S_ 32 0#32)) pads_S160_S2048_018880 h_S_)⟩, ⟨S2048, (pad S2048 ![0] ![1920] ![0] (shapeCast S128 b4 shapeCasts_S1x128_S128) (sitofp .f32 (constantI S_ 32 0#32)) pads_S128_S2048_019200 h_S_)⟩] concatenates_S2048_S2048_S2048_S2048_S2048_S10240_d0) shapeCasts_S10240_S80x128

abbrev arg_w (c : Dev nD) : Vec Ideal S80x128 .f32 :=
  pack (m ((c : Thread nD τ).loc main_arg1)) (m ((c : Thread nD τ).loc main_arg2)) (m ((c : Thread nD τ).loc main_arg3)) (m ((c : Thread nD τ).loc main_arg4)) (m ((c : Thread nD τ).loc main_arg5))
abbrev arg_a (c : Dev nD) : Vec Ideal S80x128 .f32 :=
  pack (m ((c : Thread nD τ).loc main_arg6)) (m ((c : Thread nD τ).loc main_arg7)) (m ((c : Thread nD τ).loc main_arg8)) (m ((c : Thread nD τ).loc main_arg9)) (m ((c : Thread nD τ).loc main_arg10))
abbrev arg_b (c : Dev nD) : Vec Ideal S80x128 .f32 :=
  pack (m ((c : Thread nD τ).loc main_arg11)) (m ((c : Thread nD τ).loc main_arg12)) (m ((c : Thread nD τ).loc main_arg13)) (m ((c : Thread nD τ).loc main_arg14)) (m ((c : Thread nD τ).loc main_arg15))

theorem idx : ∀ t : Fin cfg0.N, win0_0.index t = ![0, 0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row at which a grid point works. -/
def row (t : Fin cfg0.N) (p : Fin 80) : Fin 80 := ⟨t.val * 80 + p.val, by have := t.isLt; have : cfg0.N = 1 := rfl; omega⟩

theorem V_w (c : Dev nD) : @Eq (FVec Ideal S1x80x128 .f32) (V m c main_v36) (shapeCast S1x80x128 (arg_w m c) shapeCasts_S80x128_S1x80x128) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_a (c : Dev nD) : @Eq (FVec Ideal S1x80x128 .f32) (V m c main_v37) (shapeCast S1x80x128 (arg_a m c) shapeCasts_S80x128_S1x80x128) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_b (c : Dev nD) : @Eq (FVec Ideal S1x80x128 .f32) (V m c main_v38) (shapeCast S1x80x128 (arg_b m c) shapeCasts_S80x128_S1x80x128) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_p (c : Dev nD) : @Eq (FVec Ideal S8x1x80x128 .f32) (V m c main_v39) (shapeCast S8x1x80x128 (arg_p m c) shapeCasts_S8x80x128_S8x1x80x128) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem blk_p (c : Dev nD) (t : Fin cfg0.N) (k : Fin 8) (p : Fin 80) (q : Fin 128) :
    iblk m c 0 t (ix4 k (0 : Fin 1) p q) = arg_p m c (ix3 k (row t p) q) := by
  have h : iblk m c 0 t (ix4 k (0 : Fin 1) p q) = V m c main_v39 (ix4 k (0 : Fin 1) (row t p) q) := by
    blk_point [iblk, idx t, row]
  rw [h, V_p]
  pointwise

theorem blk_w (c : Dev nD) (t : Fin cfg0.N) (p : Fin 80) (q : Fin 128) :
    iblk m c 1 t (ix3 (0 : Fin 1) p q) = arg_w m c (ix2 (row t p) q) := by
  have h : iblk m c 1 t (ix3 (0 : Fin 1) p q) = V m c main_v36 (ix3 (0 : Fin 1) (row t p) q) := by
    blk_point [iblk, idx t, row]
  rw [h, V_w]
  generalize arg_w m c = X
  pointwise

theorem blk_a (c : Dev nD) (t : Fin cfg0.N) (p : Fin 80) (q : Fin 128) :
    iblk m c 2 t (ix3 (0 : Fin 1) p q) = arg_a m c (ix2 (row t p) q) := by
  have h : iblk m c 2 t (ix3 (0 : Fin 1) p q) = V m c main_v37 (ix3 (0 : Fin 1) (row t p) q) := by
    blk_point [iblk, idx t, row]
  rw [h, V_a]
  generalize arg_a m c = X
  pointwise

theorem blk_b (c : Dev nD) (t : Fin cfg0.N) (p : Fin 80) (q : Fin 128) :
    iblk m c 3 t (ix3 (0 : Fin 1) p q) = arg_b m c (ix2 (row t p) q) := by
  have h : iblk m c 3 t (ix3 (0 : Fin 1) p q) = V m c main_v38 (ix3 (0 : Fin 1) (row t p) q) := by
    blk_point [iblk, idx t, row]
  rw [h, V_b]
  generalize arg_b m c = X
  pointwise

/-- The sum of the eight parts at one grid point. -/
theorem pay_g (x0 : Vec Ideal S8x1x80x128 .f32) (x1 x2 x3 : Vec Ideal S1x80x128 .f32) (p : Fin 80) (q : Fin 128) :
    k0_pay5 (F := Ideal) x0 x1 x2 x3 (ix3 (0 : Fin 1) p q) = (∑ k : Fin 8, x0 (ix4 k (0 : Fin 1) p q)) := by
  refine Eq.trans ?_ (AdamMath.sum8 fun k => x0 (ix4 k (0 : Fin 1) p q))
  pointwise [k0_pay5, k0_pay1]

theorem pay_m (g x : Vec Ideal S1x80x128 .f32) (p : Fin 80) (q : Fin 128) :
    k0_pay2 (F := Ideal) g x (ix3 (0 : Fin 1) p q) = AdamMath.newM (x (ix3 (0 : Fin 1) p q)) (g (ix3 (0 : Fin 1) p q)) := by
  pointwise [k0_pay2, AdamMath.newM]

theorem pay_v (g x : Vec Ideal S1x80x128 .f32) (p : Fin 80) (q : Fin 128) :
    k0_pay3 (F := Ideal) g x (ix3 (0 : Fin 1) p q) = AdamMath.newV (x (ix3 (0 : Fin 1) p q)) (g (ix3 (0 : Fin 1) p q)) := by
  pointwise [k0_pay3, AdamMath.newV]

theorem pay_d (g x y z : Vec Ideal S1x80x128 .f32) (p : Fin 80) (q : Fin 128) :
    k0_pay4 (F := Ideal) g y z x (ix3 (0 : Fin 1) p q) =
      AdamMath.delta (x (ix3 (0 : Fin 1) p q)) (y (ix3 (0 : Fin 1) p q)) (z (ix3 (0 : Fin 1) p q)) (g (ix3 (0 : Fin 1) p q)) := by
  pointwise [k0_pay4, k0_pay2, k0_pay3, AdamMath.delta, AdamMath.newM, AdamMath.newV]

theorem emb_g (t : Fin cfg0.N) (p : Fin 80) (q : Fin 128) :
    ((cfg0.win 4).blk t).view.emb (ix3 (0 : Fin 1) p q) = ix3 (0 : Fin 1) (row t p) q := by
  blk_point [idx t, row]

theorem point_g (c : Dev nD) (t : Fin cfg0.N) (l : Fin 1) (p : Fin 80) (q : Fin 128) :
    k0_pay5 (F := Ideal) (iblk m c 0 t) (iblk m c 1 t) (iblk m c 2 t) (iblk m c 3 t) (ix3 l p q) = gOut (arg_p m c) (((cfg0.win 4).blk t).view.emb (ix3 l p q)) := by
  obtain rfl : l = 0 := Subsingleton.elim _ _
  rw [emb_g, pay_g]
  simp only [blk_p]
  rfl

theorem final_g (c : Dev nD) : (dats m 0 c).arrAt 4 cfg0.N = gOut (arg_p m c) := by
  refine (dats m 0 c).arrAt_eq_of_covers 4 _ (by decide +kernel) fun t _ y => ?_
  blk_simp
  rw [after0_4]
  frame_out
  idx_vars y
  exact point_g m c t y0 y1 y2

theorem emb_d (t : Fin cfg0.N) (p : Fin 80) (q : Fin 128) :
    ((cfg0.win 5).blk t).view.emb (ix3 (0 : Fin 1) p q) = ix3 (0 : Fin 1) (row t p) q := by
  blk_point [idx t, row]

theorem point_d (c : Dev nD) (t : Fin cfg0.N) (l : Fin 1) (p : Fin 80) (q : Fin 128) :
    k0_pay4 (F := Ideal) (k0_pay5 (iblk m c 0 t) (iblk m c 1 t) (iblk m c 2 t) (iblk m c 3 t)) (iblk m c 2 t) (iblk m c 3 t) (iblk m c 1 t) (ix3 l p q) = dOut (arg_p m c) (arg_w m c) (arg_a m c) (arg_b m c) (((cfg0.win 5).blk t).view.emb (ix3 l p q)) := by
  obtain rfl : l = 0 := Subsingleton.elim _ _
  rw [emb_d, pay_d, pay_g]
  simp only [blk_p, blk_w, blk_a, blk_b]
  rfl

theorem final_d (c : Dev nD) : (dats m 0 c).arrAt 5 cfg0.N = dOut (arg_p m c) (arg_w m c) (arg_a m c) (arg_b m c) := by
  refine (dats m 0 c).arrAt_eq_of_covers 5 _ (by decide +kernel) fun t _ y => ?_
  blk_simp
  rw [after0_5]
  frame_out
  idx_vars y
  exact point_d m c t y0 y1 y2

theorem emb_m (t : Fin cfg0.N) (p : Fin 80) (q : Fin 128) :
    ((cfg0.win 6).blk t).view.emb (ix3 (0 : Fin 1) p q) = ix3 (0 : Fin 1) (row t p) q := by
  blk_point [idx t, row]

theorem point_m (c : Dev nD) (t : Fin cfg0.N) (l : Fin 1) (p : Fin 80) (q : Fin 128) :
    k0_pay2 (F := Ideal) (k0_pay5 (iblk m c 0 t) (iblk m c 1 t) (iblk m c 2 t) (iblk m c 3 t)) (iblk m c 2 t) (ix3 l p q) = mOut (arg_p m c) (arg_a m c) (((cfg0.win 6).blk t).view.emb (ix3 l p q)) := by
  obtain rfl : l = 0 := Subsingleton.elim _ _
  rw [emb_m, pay_m, pay_g]
  simp only [blk_p, blk_a]
  rfl

theorem final_m (c : Dev nD) : (dats m 0 c).arrAt 6 cfg0.N = mOut (arg_p m c) (arg_a m c) := by
  refine (dats m 0 c).arrAt_eq_of_covers 6 _ (by decide +kernel) fun t _ y => ?_
  blk_simp
  rw [after0_6]
  frame_out
  idx_vars y
  exact point_m m c t y0 y1 y2

theorem emb_v (t : Fin cfg0.N) (p : Fin 80) (q : Fin 128) :
    ((cfg0.win 7).blk t).view.emb (ix3 (0 : Fin 1) p q) = ix3 (0 : Fin 1) (row t p) q := by
  blk_point [idx t, row]

theorem point_v (c : Dev nD) (t : Fin cfg0.N) (l : Fin 1) (p : Fin 80) (q : Fin 128) :
    k0_pay3 (F := Ideal) (k0_pay5 (iblk m c 0 t) (iblk m c 1 t) (iblk m c 2 t) (iblk m c 3 t)) (iblk m c 3 t) (ix3 l p q) = vOut (arg_p m c) (arg_b m c) (((cfg0.win 7).blk t).view.emb (ix3 l p q)) := by
  obtain rfl : l = 0 := Subsingleton.elim _ _
  rw [emb_v, pay_v, pay_g]
  simp only [blk_p, blk_b]
  rfl

theorem final_v (c : Dev nD) : (dats m 0 c).arrAt 7 cfg0.N = vOut (arg_p m c) (arg_b m c) := by
  refine (dats m 0 c).arrAt_eq_of_covers 7 _ (by decide +kernel) fun t _ y => ?_
  blk_simp
  rw [after0_7]
  frame_out
  idx_vars y
  exact point_v m c t y0 y1 y2

end Cert.AdamSmallIdeal.Value

namespace Cert.AdamSmallSpecIdeal.Value

open Cert.AdamSmallSpecIdeal Cert.AdamSmallSpecIdeal.Gen

/-- The sum of the parts, laid out as the weight is. -/
abbrev rG (p : Vec Ideal S8x80x128 .f32) : FVec Ideal S80x128 .f32 := Host.reduceAdd p (constant S_ .f32 0x00000000#32) reducesTo_S8x80x128_S80x128_d0 h_S_

/-- The reference's new first moment. -/
abbrev rM (p : Vec Ideal S8x80x128 .f32) (a : Vec Ideal S80x128 .f32) : FVec Ideal S80x128 .f32 :=
  addf (mulf (broadcastInDim S80x128 ![] bcast_S_S80x128 (constant S_ .f32 0x3F666666#32)) a) (mulf (broadcastInDim S80x128 ![] bcast_S_S80x128 (constant S_ .f32 0x3DCCCCCD#32)) (rG p))

/-- The reference's new second moment. -/
abbrev rV (p : Vec Ideal S8x80x128 .f32) (b : Vec Ideal S80x128 .f32) : FVec Ideal S80x128 .f32 :=
  addf (mulf (broadcastInDim S80x128 ![] bcast_S_S80x128 (constant S_ .f32 0x3F7FBE77#32)) b) (mulf (broadcastInDim S80x128 ![] bcast_S_S80x128 (constant S_ .f32 0x3A83126F#32)) (mulf (rG p) (rG p)))

/-- The reference's change of the weight. -/
abbrev rD (p : Vec Ideal S8x80x128 .f32) (w a b : Vec Ideal S80x128 .f32) : FVec Ideal S80x128 .f32 :=
  mulf (broadcastInDim S80x128 ![] bcast_S_S80x128 (constant S_ .f32 0xBA83126F#32)) (addf (Host.divf (Host.divf (rM p a) (broadcastInDim S80x128 ![] bcast_S_S80x128 (constant S_ .f32 0x3F26BD02#32))) (addf (Host.sqrt (Host.divf (rV p b) (broadcastInDim S80x128 ![] bcast_S_S80x128 (constant S_ .f32 0x3C231ACC#32)))) (broadcastInDim S80x128 ![] bcast_S_S80x128 (constant S_ .f32 0x322BCC77#32)))) (mulf (broadcastInDim S80x128 ![] bcast_S_S80x128 (constant S_ .f32 0x3C23D70A#32)) w))

theorem rG_at (p : Vec Ideal S8x80x128 .f32) (l : Fin 1) (y : Fin 80) (z : Fin 128) : rG p (ix2 y z) = Cert.AdamSmallIdeal.Value.gOut p (ix3 l y z) := by
  pointwise [Cert.AdamSmallIdeal.Value.gOut]

theorem spec_g (p : Vec Ideal S8x80x128 .f32) : broadcastInDim S1x80x128 ![1, 2] bcast_S80x128_S1x80x128_1_2 (rG p) = Cert.AdamSmallIdeal.Value.gOut p := by
  funext i
  idx_vars i
  pointwise [Cert.AdamSmallIdeal.Value.gOut]

theorem spec_m (p : Vec Ideal S8x80x128 .f32) (a : Vec Ideal S80x128 .f32) : broadcastInDim S1x80x128 ![1, 2] bcast_S80x128_S1x80x128_1_2 (rM p a) = Cert.AdamSmallIdeal.Value.mOut p a := by
  funext i
  idx_vars i
  have h := rG_at p i0 i1 i2
  pointwise [Cert.AdamSmallIdeal.Value.mOut, Cert.AdamSmallIdeal.Value.gOut, AdamMath.newM]

theorem spec_v (p : Vec Ideal S8x80x128 .f32) (b : Vec Ideal S80x128 .f32) : broadcastInDim S1x80x128 ![1, 2] bcast_S80x128_S1x80x128_1_2 (rV p b) = Cert.AdamSmallIdeal.Value.vOut p b := by
  funext i
  idx_vars i
  pointwise [Cert.AdamSmallIdeal.Value.vOut, Cert.AdamSmallIdeal.Value.gOut, AdamMath.newV]

theorem spec_d (p : Vec Ideal S8x80x128 .f32) (w a b : Vec Ideal S80x128 .f32) : broadcastInDim S1x80x128 ![1, 2] bcast_S80x128_S1x80x128_1_2 (rD p w a b) = Cert.AdamSmallIdeal.Value.dOut p w a b := by
  funext i
  idx_vars i
  pointwise [Cert.AdamSmallIdeal.Value.dOut, Cert.AdamSmallIdeal.Value.gOut, AdamMath.delta, AdamMath.newM, AdamMath.newV]

end Cert.AdamSmallSpecIdeal.Value

namespace Cert.AdamSmallClaim

open Cert.AdamSmallIdeal.Value

theorem specFrame : Cert.quiescent_AdamSmallSpecIdeal := fun m g _ =>
  (θ_run _ _ _).mono (fun r h => ⟨fun c => (h c).2.2.2.2, sem_eq_zero_of_no_sems (by decide) r.2⟩) (Cert.AdamSmallSpecIdeal.Value.run m g)

set_option maxHeartbeats 4000000 in
theorem value : Cert.algebraic_AdamSmallIdeal_AdamSmallSpecIdeal := by
  intro m g m' g' _ hargs
  refine ⟨fun c => gOut (arg_p m c), fun c => dOut (arg_p m c) (arg_w m c) (arg_a m c) (arg_b m c),
    fun c => mOut (arg_p m c) (arg_a m c), fun c => vOut (arg_p m c) (arg_b m c), ?_, ?_⟩
  · refine (θ_run _ _ _).mono (fun r h c => ?_) (Cert.AdamSmallIdeal.Value.run_blocks m g)
    obtain ⟨h0, h1, h2, h3, hk⟩ := h c
    exact ⟨h0.trans (final_g m c), h1.trans (final_d m c), h2.trans (final_m m c), h3.trans (final_v m c), hk⟩
  · refine (θ_run _ _ _).mono (fun r h c => ?_) (Cert.AdamSmallSpecIdeal.Value.run m' g')
    obtain ⟨a0, a1, a2, a3, a4, a5, a6, a7, a8, a9, a10, a11, a12, a13, a14, a15⟩ := hargs c
    obtain ⟨h0, h1, h2, h3, hk⟩ := h c
    refine ⟨h0.trans ?_, h1.trans ?_, h2.trans ?_, h3.trans ?_, hk⟩
    · rw [a0]
      exact Cert.AdamSmallSpecIdeal.Value.spec_g _
    · refine Eq.trans (Cert.AdamSmallSpecIdeal.Value.spec_d _ _ _ _) ?_
      rw [a0, a1, a2, a3, a4, a5, a6, a7, a8, a9, a10, a11, a12, a13, a14, a15]
    · refine Eq.trans (Cert.AdamSmallSpecIdeal.Value.spec_m _ _) ?_
      rw [a0, a6, a7, a8, a9, a10]
    · refine Eq.trans (Cert.AdamSmallSpecIdeal.Value.spec_v _ _) ?_
      rw [a0, a11, a12, a13, a14, a15]

end Cert.AdamSmallClaim

end
-- ==== Proof.AdamReplicated.lean ====
module

public import proofs.«01_k».proof.Proof.Gen.AdamReplicatedIdeal.Value
public import proofs.«01_k».proof.Proof.Gen.AdamReplicatedSpecIdeal.Run
public import proofs.«01_k».proof.Proof.Gen.AdamReplicated.Frame
public import Idealize.ShloMosaic.Lib.Pipeline.ValueKit
public import Idealize.ShloMosaic.Lib.Pipeline.ReadBack
public import Idealize.ShloMosaic.Lib.Claim
public import proofs.«01_k».proof.Proof.AdamMath

/-! The optimiser's step for several small weights packed into rows of 128: the sum of the eight devices' parts of their gradients, then AdamW. -/

@[expose] public section

set_option maxRecDepth 16384

noncomputable section

open Idealize.ShloMosaic Idealize.ShloMosaic.TcCoe Idealize.SL.Sem
open Idealize.ShloMosaic.Pipeline (Dat)

namespace Cert.AdamReplicatedIdeal.Value

open Cert.AdamReplicatedIdeal Cert.AdamReplicatedIdeal.Gen

/-- The gradient: the sum of the parts of the eight devices. -/
def gOut (p : Vec Ideal S8x144x128 .f32) : Vec Ideal S1x144x128 .f32 := fun i => ∑ k : Fin 8, p (ix3 k (i 1) (i 2))

/-- The new first moment. -/
def mOut (p : Vec Ideal S8x144x128 .f32) (a : Vec Ideal S144x128 .f32) : Vec Ideal S1x144x128 .f32 :=
  fun i => AdamMath.newM (a (ix2 (i 1) (i 2))) (gOut p i)

/-- The new second moment. -/
def vOut (p : Vec Ideal S8x144x128 .f32) (b : Vec Ideal S144x128 .f32) : Vec Ideal S1x144x128 .f32 :=
  fun i => AdamMath.newV (b (ix2 (i 1) (i 2))) (gOut p i)

/-- The change of the weight. -/
def dOut (p : Vec Ideal S8x144x128 .f32) (w a b : Vec Ideal S144x128 .f32) : Vec Ideal S1x144x128 .f32 :=
  fun i => AdamMath.delta (w (ix2 (i 1) (i 2))) (a (ix2 (i 1) (i 2))) (b (ix2 (i 1) (i 2))) (gOut p i)

variable (m : (ℓ : Loc nD τ sig) → Buf (Elt Ideal) ℓ)

abbrev arg_p (c : Dev nD) : Vec Ideal S8x144x128 .f32 := m ((c : Thread nD τ).loc main_arg0)

/-- Arrays laid one after the other, each filled up with zeros to a multiple of 2048 entries, in rows of 128. -/
abbrev pack (b0 : Vec Ideal S2x1024 .f32) (b1 : Vec Ideal S1x1024 .f32) (b2 : Vec Ideal S1x1024 .f32) (b3 : Vec Ideal S1x16 .f32) (b4 : Vec Ideal S2x1024 .f32) (b5 : Vec Ideal S2x1024 .f32) (b6 : Vec Ideal S2x1024 .f32) (b7 : Vec Ideal S1024 .f32) (b8 : Vec Ideal S1x1 .f32) : FVec Ideal S144x128 .f32 :=
  shapeCast S144x128 (concatenate S18432 0 [⟨S2048, (shapeCast S2048 b0 shapeCasts_S2x1024_S2048)⟩, ⟨S2048, (pad S2048 ![0] ![1024] ![0] (shapeCast S1024 b1 shapeCasts_S1x1024_S1024) (sitofp .f32 (constantI S_ 32 0#32)) pads_S1024_S2048_010240 h_S_)⟩, ⟨S2048, (pad S2048 ![0] ![1024] ![0] (shapeCast S1024 b2 shapeCasts_S1x1024_S1024) (sitofp .f32 (constantI S_ 32 0#32)) pads_S1024_S2048_010240 h_S_)⟩, ⟨S2048, (pad S2048 ![0] ![2032] ![0] (shapeCast S16 b3 shapeCasts_S1x16_S16) (sitofp .f32 (constantI S_ 32 0#32)) pads_S16_S2048_020320 h_S_)⟩, ⟨S2048, (shapeCast S2048 b4 shapeCasts_S2x1024_S2048)⟩, ⟨S2048, (shapeCast S2048 b5 shapeCasts_S2x1024_S2048)⟩, ⟨S2048, (shapeCast S2048 b6 shapeCasts_S2x1024_S2048)⟩, ⟨S2048, (pad S2048 ![0] ![1024] ![0] b7 (sitofp .f32 (constantI S_ 32 0#32)) pads_S1024_S2048_010240 h_S_)⟩, ⟨S2048, (pad S2048 ![0] ![2047] ![0] (shapeCast S1 b8 shapeCasts_S1x1_S1) (sitofp .f32 (constantI S_ 32 0#32)) pads_S1_S2048_020470 h_S_)⟩] concatenates_S2048_S2048_S2048_S2048_S2048_S2048_S2048_S2048_S2048_S18432_d0) shapeCasts_S18432_S144x128

abbrev arg_w (c : Dev nD) : Vec Ideal S144x128 .f32 :=
  pack (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev arg_a (c : Dev nD) : Vec Ideal S144x128 .f32 :=
  pack (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
abbrev arg_b (c : Dev nD) : Vec Ideal S144x128 .f32 :=
  pack (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))

theorem idx : ∀ t : Fin cfg0.N, win0_0.index t = ![0, 0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The row at which a grid point works. -/
def row (t : Fin cfg0.N) (p : Fin 144) : Fin 144 := ⟨t.val * 144 + p.val, by have := t.isLt; have : cfg0.N = 1 := rfl; omega⟩

theorem V_w (c : Dev nD) : @Eq (FVec Ideal S1x144x128 .f32) (V m c main_v45) (shapeCast S1x144x128 (arg_w m c) shapeCasts_S144x128_S1x144x128) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_a (c : Dev nD) : @Eq (FVec Ideal S1x144x128 .f32) (V m c main_v46) (shapeCast S1x144x128 (arg_a m c) shapeCasts_S144x128_S1x144x128) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_b (c : Dev nD) : @Eq (FVec Ideal S1x144x128 .f32) (V m c main_v47) (shapeCast S1x144x128 (arg_b m c) shapeCasts_S144x128_S1x144x128) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_p (c : Dev nD) : @Eq (FVec Ideal S8x1x144x128 .f32) (V m c main_v48) (shapeCast S8x1x144x128 (arg_p m c) shapeCasts_S8x144x128_S8x1x144x128) := by
  unfold_abbrev_sides
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem blk_p (c : Dev nD) (t : Fin cfg0.N) (k : Fin 8) (p : Fin 144) (q : Fin 128) :
    iblk m c 0 t (ix4 k (0 : Fin 1) p q) = arg_p m c (ix3 k (row t p) q) := by
  have h : iblk m c 0 t (ix4 k (0 : Fin 1) p q) = V m c main_v48 (ix4 k (0 : Fin 1) (row t p) q) := by
    blk_point [iblk, idx t, row]
  rw [h, V_p]
  pointwise

theorem blk_w (c : Dev nD) (t : Fin cfg0.N) (p : Fin 144) (q : Fin 128) :
    iblk m c 1 t (ix3 (0 : Fin 1) p q) = arg_w m c (ix2 (row t p) q) := by
  have h : iblk m c 1 t (ix3 (0 : Fin 1) p q) = V m c main_v45 (ix3 (0 : Fin 1) (row t p) q) := by
    blk_point [iblk, idx t, row]
  rw [h, V_w]
  generalize arg_w m c = X
  pointwise

theorem blk_a (c : Dev nD) (t : Fin cfg0.N) (p : Fin 144) (q : Fin 128) :
    iblk m c 2 t (ix3 (0 : Fin 1) p q) = arg_a m c (ix2 (row t p) q) := by
  have h : iblk m c 2 t (ix3 (0 : Fin 1) p q) = V m c main_v46 (ix3 (0 : Fin 1) (row t p) q) := by
    blk_point [iblk, idx t, row]
  rw [h, V_a]
  generalize arg_a m c = X
  pointwise

theorem blk_b (c : Dev nD) (t : Fin cfg0.N) (p : Fin 144) (q : Fin 128) :
    iblk m c 3 t (ix3 (0 : Fin 1) p q) = arg_b m c (ix2 (row t p) q) := by
  have h : iblk m c 3 t (ix3 (0 : Fin 1) p q) = V m c main_v47 (ix3 (0 : Fin 1) (row t p) q) := by
    blk_point [iblk, idx t, row]
  rw [h, V_b]
  generalize arg_b m c = X
  pointwise

/-- The sum of the eight parts at one grid point. -/
theorem pay_g (x0 : Vec Ideal S8x1x144x128 .f32) (x1 x2 x3 : Vec Ideal S1x144x128 .f32) (p : Fin 144) (q : Fin 128) :
    k0_pay5 (F := Ideal) x0 x1 x2 x3 (ix3 (0 : Fin 1) p q) = (∑ k : Fin 8, x0 (ix4 k (0 : Fin 1) p q)) := by
  refine Eq.trans ?_ (AdamMath.sum8 fun k => x0 (ix4 k (0 : Fin 1) p q))
  pointwise [k0_pay5, k0_pay1]

theorem pay_m (g x : Vec Ideal S1x144x128 .f32) (p : Fin 144) (q : Fin 128) :
    k0_pay2 (F := Ideal) g x (ix3 (0 : Fin 1) p q) = AdamMath.newM (x (ix3 (0 : Fin 1) p q)) (g (ix3 (0 : Fin 1) p q)) := by
  pointwise [k0_pay2, AdamMath.newM]

theorem pay_v (g x : Vec Ideal S1x144x128 .f32) (p : Fin 144) (q : Fin 128) :
    k0_pay3 (F := Ideal) g x (ix3 (0 : Fin 1) p q) = AdamMath.newV (x (ix3 (0 : Fin 1) p q)) (g (ix3 (0 : Fin 1) p q)) := by
  pointwise [k0_pay3, AdamMath.newV]

theorem pay_d (g x y z : Vec Ideal S1x144x128 .f32) (p : Fin 144) (q : Fin 128) :
    k0_pay4 (F := Ideal) g y z x (ix3 (0 : Fin 1) p q) =
      AdamMath.delta (x (ix3 (0 : Fin 1) p q)) (y (ix3 (0 : Fin 1) p q)) (z (ix3 (0 : Fin 1) p q)) (g (ix3 (0 : Fin 1) p q)) := by
  pointwise [k0_pay4, k0_pay2, k0_pay3, AdamMath.delta, AdamMath.newM, AdamMath.newV]

theorem emb_g (t : Fin cfg0.N) (p : Fin 144) (q : Fin 128) :
    ((cfg0.win 4).blk t).view.emb (ix3 (0 : Fin 1) p q) = ix3 (0 : Fin 1) (row t p) q := by
  blk_point [idx t, row]

theorem point_g (c : Dev nD) (t : Fin cfg0.N) (l : Fin 1) (p : Fin 144) (q : Fin 128) :
    k0_pay5 (F := Ideal) (iblk m c 0 t) (iblk m c 1 t) (iblk m c 2 t) (iblk m c 3 t) (ix3 l p q) = gOut (arg_p m c) (((cfg0.win 4).blk t).view.emb (ix3 l p q)) := by
  obtain rfl : l = 0 := Subsingleton.elim _ _
  rw [emb_g, pay_g]
  simp only [blk_p]
  rfl

theorem final_g (c : Dev nD) : (dats m 0 c).arrAt 4 cfg0.N = gOut (arg_p m c) := by
  refine (dats m 0 c).arrAt_eq_of_covers 4 _ (by decide +kernel) fun t _ y => ?_
  blk_simp
  rw [after0_4]
  frame_out
  idx_vars y
  exact point_g m c t y0 y1 y2

theorem emb_d (t : Fin cfg0.N) (p : Fin 144) (q : Fin 128) :
    ((cfg0.win 5).blk t).view.emb (ix3 (0 : Fin 1) p q) = ix3 (0 : Fin 1) (row t p) q := by
  blk_point [idx t, row]

theorem point_d (c : Dev nD) (t : Fin cfg0.N) (l : Fin 1) (p : Fin 144) (q : Fin 128) :
    k0_pay4 (F := Ideal) (k0_pay5 (iblk m c 0 t) (iblk m c 1 t) (iblk m c 2 t) (iblk m c 3 t)) (iblk m c 2 t) (iblk m c 3 t) (iblk m c 1 t) (ix3 l p q) = dOut (arg_p m c) (arg_w m c) (arg_a m c) (arg_b m c) (((cfg0.win 5).blk t).view.emb (ix3 l p q)) := by
  obtain rfl : l = 0 := Subsingleton.elim _ _
  rw [emb_d, pay_d, pay_g]
  simp only [blk_p, blk_w, blk_a, blk_b]
  rfl

theorem final_d (c : Dev nD) : (dats m 0 c).arrAt 5 cfg0.N = dOut (arg_p m c) (arg_w m c) (arg_a m c) (arg_b m c) := by
  refine (dats m 0 c).arrAt_eq_of_covers 5 _ (by decide +kernel) fun t _ y => ?_
  blk_simp
  rw [after0_5]
  frame_out
  idx_vars y
  exact point_d m c t y0 y1 y2

theorem emb_m (t : Fin cfg0.N) (p : Fin 144) (q : Fin 128) :
    ((cfg0.win 6).blk t).view.emb (ix3 (0 : Fin 1) p q) = ix3 (0 : Fin 1) (row t p) q := by
  blk_point [idx t, row]

theorem point_m (c : Dev nD) (t : Fin cfg0.N) (l : Fin 1) (p : Fin 144) (q : Fin 128) :
    k0_pay2 (F := Ideal) (k0_pay5 (iblk m c 0 t) (iblk m c 1 t) (iblk m c 2 t) (iblk m c 3 t)) (iblk m c 2 t) (ix3 l p q) = mOut (arg_p m c) (arg_a m c) (((cfg0.win 6).blk t).view.emb (ix3 l p q)) := by
  obtain rfl : l = 0 := Subsingleton.elim _ _
  rw [emb_m, pay_m, pay_g]
  simp only [blk_p, blk_a]
  rfl

theorem final_m (c : Dev nD) : (dats m 0 c).arrAt 6 cfg0.N = mOut (arg_p m c) (arg_a m c) := by
  refine (dats m 0 c).arrAt_eq_of_covers 6 _ (by decide +kernel) fun t _ y => ?_
  blk_simp
  rw [after0_6]
  frame_out
  idx_vars y
  exact point_m m c t y0 y1 y2

theorem emb_v (t : Fin cfg0.N) (p : Fin 144) (q : Fin 128) :
    ((cfg0.win 7).blk t).view.emb (ix3 (0 : Fin 1) p q) = ix3 (0 : Fin 1) (row t p) q := by
  blk_point [idx t, row]

theorem point_v (c : Dev nD) (t : Fin cfg0.N) (l : Fin 1) (p : Fin 144) (q : Fin 128) :
    k0_pay3 (F := Ideal) (k0_pay5 (iblk m c 0 t) (iblk m c 1 t) (iblk m c 2 t) (iblk m c 3 t)) (iblk m c 3 t) (ix3 l p q) = vOut (arg_p m c) (arg_b m c) (((cfg0.win 7).blk t).view.emb (ix3 l p q)) := by
  obtain rfl : l = 0 := Subsingleton.elim _ _
  rw [emb_v, pay_v, pay_g]
  simp only [blk_p, blk_b]
  rfl

theorem final_v (c : Dev nD) : (dats m 0 c).arrAt 7 cfg0.N = vOut (arg_p m c) (arg_b m c) := by
  refine (dats m 0 c).arrAt_eq_of_covers 7 _ (by decide +kernel) fun t _ y => ?_
  blk_simp
  rw [after0_7]
  frame_out
  idx_vars y
  exact point_v m c t y0 y1 y2

end Cert.AdamReplicatedIdeal.Value

namespace Cert.AdamReplicatedSpecIdeal.Value

open Cert.AdamReplicatedSpecIdeal Cert.AdamReplicatedSpecIdeal.Gen

/-- The sum of the parts, laid out as the weight is. -/
abbrev rG (p : Vec Ideal S8x144x128 .f32) : FVec Ideal S144x128 .f32 := Host.reduceAdd p (constant S_ .f32 0x00000000#32) reducesTo_S8x144x128_S144x128_d0 h_S_

/-- The reference's new first moment. -/
abbrev rM (p : Vec Ideal S8x144x128 .f32) (a : Vec Ideal S144x128 .f32) : FVec Ideal S144x128 .f32 :=
  addf (mulf (broadcastInDim S144x128 ![] bcast_S_S144x128 (constant S_ .f32 0x3F666666#32)) a) (mulf (broadcastInDim S144x128 ![] bcast_S_S144x128 (constant S_ .f32 0x3DCCCCCD#32)) (rG p))

/-- The reference's new second moment. -/
abbrev rV (p : Vec Ideal S8x144x128 .f32) (b : Vec Ideal S144x128 .f32) : FVec Ideal S144x128 .f32 :=
  addf (mulf (broadcastInDim S144x128 ![] bcast_S_S144x128 (constant S_ .f32 0x3F7FBE77#32)) b) (mulf (broadcastInDim S144x128 ![] bcast_S_S144x128 (constant S_ .f32 0x3A83126F#32)) (mulf (rG p) (rG p)))

/-- The reference's change of the weight. -/
abbrev rD (p : Vec Ideal S8x144x128 .f32) (w a b : Vec Ideal S144x128 .f32) : FVec Ideal S144x128 .f32 :=
  mulf (broadcastInDim S144x128 ![] bcast_S_S144x128 (constant S_ .f32 0xBA83126F#32)) (addf (Host.divf (Host.divf (rM p a) (broadcastInDim S144x128 ![] bcast_S_S144x128 (constant S_ .f32 0x3F26BD02#32))) (addf (Host.sqrt (Host.divf (rV p b) (broadcastInDim S144x128 ![] bcast_S_S144x128 (constant S_ .f32 0x3C231ACC#32)))) (broadcastInDim S144x128 ![] bcast_S_S144x128 (constant S_ .f32 0x322BCC77#32)))) (mulf (broadcastInDim S144x128 ![] bcast_S_S144x128 (constant S_ .f32 0x3C23D70A#32)) w))

theorem rG_at (p : Vec Ideal S8x144x128 .f32) (l : Fin 1) (y : Fin 144) (z : Fin 128) : rG p (ix2 y z) = Cert.AdamReplicatedIdeal.Value.gOut p (ix3 l y z) := by
  pointwise [Cert.AdamReplicatedIdeal.Value.gOut]

theorem spec_g (p : Vec Ideal S8x144x128 .f32) : broadcastInDim S1x144x128 ![1, 2] bcast_S144x128_S1x144x128_1_2 (rG p) = Cert.AdamReplicatedIdeal.Value.gOut p := by
  funext i
  idx_vars i
  pointwise [Cert.AdamReplicatedIdeal.Value.gOut]

theorem spec_m (p : Vec Ideal S8x144x128 .f32) (a : Vec Ideal S144x128 .f32) : broadcastInDim S1x144x128 ![1, 2] bcast_S144x128_S1x144x128_1_2 (rM p a) = Cert.AdamReplicatedIdeal.Value.mOut p a := by
  funext i
  idx_vars i
  have h := rG_at p i0 i1 i2
  pointwise [Cert.AdamReplicatedIdeal.Value.mOut, Cert.AdamReplicatedIdeal.Value.gOut, AdamMath.newM]

theorem spec_v (p : Vec Ideal S8x144x128 .f32) (b : Vec Ideal S144x128 .f32) : broadcastInDim S1x144x128 ![1, 2] bcast_S144x128_S1x144x128_1_2 (rV p b) = Cert.AdamReplicatedIdeal.Value.vOut p b := by
  funext i
  idx_vars i
  pointwise [Cert.AdamReplicatedIdeal.Value.vOut, Cert.AdamReplicatedIdeal.Value.gOut, AdamMath.newV]

theorem spec_d (p : Vec Ideal S8x144x128 .f32) (w a b : Vec Ideal S144x128 .f32) : broadcastInDim S1x144x128 ![1, 2] bcast_S144x128_S1x144x128_1_2 (rD p w a b) = Cert.AdamReplicatedIdeal.Value.dOut p w a b := by
  funext i
  idx_vars i
  pointwise [Cert.AdamReplicatedIdeal.Value.dOut, Cert.AdamReplicatedIdeal.Value.gOut, AdamMath.delta, AdamMath.newM, AdamMath.newV]

end Cert.AdamReplicatedSpecIdeal.Value

namespace Cert.AdamReplicatedClaim

open Cert.AdamReplicatedIdeal.Value

theorem specFrame : Cert.quiescent_AdamReplicatedSpecIdeal := fun m g _ =>
  (θ_run _ _ _).mono (fun r h => ⟨fun c => (h c).2.2.2.2, sem_eq_zero_of_no_sems (by decide) r.2⟩) (Cert.AdamReplicatedSpecIdeal.Value.run m g)

set_option maxHeartbeats 4000000 in
theorem value : Cert.algebraic_AdamReplicatedIdeal_AdamReplicatedSpecIdeal := by
  intro m g m' g' _ hargs
  refine ⟨fun c => gOut (arg_p m c), fun c => dOut (arg_p m c) (arg_w m c) (arg_a m c) (arg_b m c),
    fun c => mOut (arg_p m c) (arg_a m c), fun c => vOut (arg_p m c) (arg_b m c), ?_, ?_⟩
  · refine (θ_run _ _ _).mono (fun r h c => ?_) (Cert.AdamReplicatedIdeal.Value.run_blocks m g)
    obtain ⟨h0, h1, h2, h3, hk⟩ := h c
    exact ⟨h0.trans (final_g m c), h1.trans (final_d m c), h2.trans (final_m m c), h3.trans (final_v m c), hk⟩
  · refine (θ_run _ _ _).mono (fun r h c => ?_) (Cert.AdamReplicatedSpecIdeal.Value.run m' g')
    obtain ⟨a0, a1, a2, a3, a4, a5, a6, a7, a8, a9, a10, a11, a12, a13, a14, a15, a16, a17, a18, a19, a20, a21, a22, a23, a24, a25, a26, a27⟩ := hargs c
    obtain ⟨h0, h1, h2, h3, hk⟩ := h c
    refine ⟨h0.trans ?_, h1.trans ?_, h2.trans ?_, h3.trans ?_, hk⟩
    · rw [a0]
      exact Cert.AdamReplicatedSpecIdeal.Value.spec_g _
    · refine Eq.trans (Cert.AdamReplicatedSpecIdeal.Value.spec_d _ _ _ _) ?_
      rw [a0, a1, a2, a3, a4, a5, a6, a7, a8, a9, a10, a11, a12, a13, a14, a15, a16, a17, a18, a19, a20, a21, a22, a23, a24, a25, a26, a27]
    · refine Eq.trans (Cert.AdamReplicatedSpecIdeal.Value.spec_m _ _) ?_
      rw [a0, a10, a11, a12, a13, a14, a15, a16, a17, a18]
    · refine Eq.trans (Cert.AdamReplicatedSpecIdeal.Value.spec_v _ _) ?_
      rw [a0, a19, a20, a21, a22, a23, a24, a25, a26, a27]

end Cert.AdamReplicatedClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpIdeal.Value
public import proofs.«01_k».proof.Proof.Gen.GateUpSpecIdeal
public import proofs.«01_k».proof.Proof.Gen.GateUpSpecIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownSpecIdeal
public import proofs.«01_k».proof.Proof.Gen.DownSpecIdeal.Run
public import proofs.«01_k».proof.Proof.Gen.DownDa
public import proofs.«01_k».proof.Proof.Gen.DownDa.Skeleton
public import proofs.«01_k».proof.Proof.Gen.DownDa.Launch
public import proofs.«01_k».proof.Proof.Gen.DownDa.Points
public import proofs.«01_k».proof.Proof.Gen.DownDa.Frame
public import proofs.«01_k».proof.Proof.Gen.DownDaIdeal
public import proofs.«01_k».proof.Proof.Gen.DownDaIdeal.Skeleton
public import proofs.«01_k».proof.Proof.Gen.DownDaIdeal.Launch
public import proofs.«01_k».proof.Proof.Gen.DownDaIdeal.Points
public import proofs.«01_k».proof.Proof.Gen.DownDaIdeal.Frame
public import proofs.«01_k».proof.Proof.Gen.DownDaIdeal.Value
public import proofs.«01_k».proof.Proof.Gen.DownDaSpecIdeal
public import proofs.«01_k».proof.Proof.Gen.DownDaSpecIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwSpecIdeal
public import proofs.«01_k».proof.Proof.Gen.DownDwSpecIdeal.Run
public import proofs.«01_k».proof.Proof.Gen.GateUpDw
public import proofs.«01_k».proof.Proof.Gen.GateUpDw.Skeleton
public import proofs.«01_k».proof.Proof.Gen.GateUpDw.Launch
public import proofs.«01_k».proof.Proof.Gen.GateUpDw.Points
public import proofs.«01_k».proof.Proof.Gen.GateUpDw.Frame
public import proofs.«01_k».proof.Proof.Gen.GateUpDwIdeal
public import proofs.«01_k».proof.Proof.Gen.GateUpDwIdeal.Skeleton
public import proofs.«01_k».proof.Proof.Gen.GateUpDwIdeal.Launch
public import proofs.«01_k».proof.Proof.Gen.GateUpDwIdeal.Points
public import proofs.«01_k».proof.Proof.Gen.GateUpDwIdeal.Frame
public import proofs.«01_k».proof.Proof.Gen.GateUpDwIdeal.Value
public import proofs.«01_k».proof.Proof.Gen.GateUpDwSpecIdeal
public import proofs.«01_k».proof.Proof.Gen.GateUpDwSpecIdeal.Run
public import proofs.«01_k».proof.Proof.Gen.GateUpDa
public import proofs.«01_k».proof.Proof.Gen.GateUpDa.Skeleton
public import proofs.«01_k».proof.Proof.Gen.GateUpDa.Launch
public import proofs.«01_k».proof.Proof.Gen.GateUpDa.Points
public import proofs.«01_k».proof.Proof.Gen.GateUpDa.Frame
public import proofs.«01_k».proof.Proof.Gen.GateUpDaIdeal
public import proofs.«01_k».proof.Proof.Gen.GateUpDaIdeal.Skeleton
public import proofs.«01_k».proof.Proof.Gen.GateUpDaIdeal.Launch
public import proofs.«01_k».proof.Proof.Gen.GateUpDaIdeal.Points
public import proofs.«01_k».proof.Proof.Gen.GateUpDaIdeal.Frame
public import proofs.«01_k».proof.Proof.Gen.GateUpDaIdeal.Value
public import proofs.«01_k».proof.Proof.Gen.GateUpDaSpecIdeal
public import proofs.«01_k».proof.Proof.Gen.GateUpDaSpecIdeal.Run
public import proofs.«01_k».proof.Proof.Gen.InPiece
public import proofs.«01_k».proof.Proof.Gen.InPiece.Skeleton
public import proofs.«01_k».proof.Proof.Gen.InPiece.Launch
public import proofs.«01_k».proof.Proof.Gen.InPiece.Points
public import proofs.«01_k».proof.Proof.Gen.InPiece.Frame
public import proofs.«01_k».proof.Proof.Gen.InPieceIdeal
public import proofs.«01_k».proof.Proof.Gen.InPieceIdeal.Skeleton
public import proofs.«01_k».proof.Proof.Gen.InPieceIdeal.Launch
public import proofs.«01_k».proof.Proof.Gen.InPieceIdeal.Points
public import proofs.«01_k».proof.Proof.Gen.InPieceIdeal.Frame
public import proofs.«01_k».proof.Proof.Gen.InPieceIdeal.Value
public import proofs.«01_k».proof.Proof.Gen.InPieceSpecIdeal
public import proofs.«01_k».proof.Proof.Gen.InPieceSpecIdeal.Run
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwSpecIdeal
public import proofs.«01_k».proof.Proof.Gen.InDwSpecIdeal.Run
public import proofs.«01_k».proof.Proof.Gen.InDa
public import proofs.«01_k».proof.Proof.Gen.InDa.Skeleton
public import proofs.«01_k».proof.Proof.Gen.InDa.Launch
public import proofs.«01_k».proof.Proof.Gen.InDa.Points
public import proofs.«01_k».proof.Proof.Gen.InDa.Frame
public import proofs.«01_k».proof.Proof.Gen.InDaIdeal
public import proofs.«01_k».proof.Proof.Gen.InDaIdeal.Skeleton
public import proofs.«01_k».proof.Proof.Gen.InDaIdeal.Launch
public import proofs.«01_k».proof.Proof.Gen.InDaIdeal.Points
public import proofs.«01_k».proof.Proof.Gen.InDaIdeal.Frame
public import proofs.«01_k».proof.Proof.Gen.InDaIdeal.Value
public import proofs.«01_k».proof.Proof.Gen.InDaSpecIdeal
public import proofs.«01_k».proof.Proof.Gen.InDaSpecIdeal.Run
public import proofs.«01_k».proof.Proof.Gen.OutNarrow
public import proofs.«01_k».proof.Proof.Gen.OutNarrow.Skeleton
public import proofs.«01_k».proof.Proof.Gen.OutNarrow.Launch
public import proofs.«01_k».proof.Proof.Gen.OutNarrow.Points
public import proofs.«01_k».proof.Proof.Gen.OutNarrow.Frame
public import proofs.«01_k».proof.Proof.Gen.OutNarrowIdeal
public import proofs.«01_k».proof.Proof.Gen.OutNarrowIdeal.Skeleton
public import proofs.«01_k».proof.Proof.Gen.OutNarrowIdeal.Launch
public import proofs.«01_k».proof.Proof.Gen.OutNarrowIdeal.Points
public import proofs.«01_k».proof.Proof.Gen.OutNarrowIdeal.Frame
public import proofs.«01_k».proof.Proof.Gen.OutNarrowIdeal.Value
public import proofs.«01_k».proof.Proof.Gen.OutNarrowSpecIdeal
public import proofs.«01_k».proof.Proof.Gen.OutNarrowSpecIdeal.Run
public import proofs.«01_k».proof.Proof.Gen.OutWide
public import proofs.«01_k».proof.Proof.Gen.OutWide.Skeleton
public import proofs.«01_k».proof.Proof.Gen.OutWide.Launch
public import proofs.«01_k».proof.Proof.Gen.OutWide.Points
public import proofs.«01_k».proof.Proof.Gen.OutWide.Frame
public import proofs.«01_k».proof.Proof.Gen.OutWideIdeal
public import proofs.«01_k».proof.Proof.Gen.OutWideIdeal.Skeleton
public import proofs.«01_k».proof.Proof.Gen.OutWideIdeal.Launch
public import proofs.«01_k».proof.Proof.Gen.OutWideIdeal.Points
public import proofs.«01_k».proof.Proof.Gen.OutWideIdeal.Frame
public import proofs.«01_k».proof.Proof.Gen.OutWideIdeal.Value
public import proofs.«01_k».proof.Proof.Gen.OutWideSpecIdeal
public import proofs.«01_k».proof.Proof.Gen.OutWideSpecIdeal.Run
public import proofs.«01_k».proof.Proof.Gen.OutBias
public import proofs.«01_k».proof.Proof.Gen.OutBias.Skeleton
public import proofs.«01_k».proof.Proof.Gen.OutBias.Launch
public import proofs.«01_k».proof.Proof.Gen.OutBias.Points
public import proofs.«01_k».proof.Proof.Gen.OutBias.Frame
public import proofs.«01_k».proof.Proof.Gen.OutBiasIdeal
public import proofs.«01_k».proof.Proof.Gen.OutBiasIdeal.Skeleton
public import proofs.«01_k».proof.Proof.Gen.OutBiasIdeal.Launch
public import proofs.«01_k».proof.Proof.Gen.OutBiasIdeal.Points
public import proofs.«01_k».proof.Proof.Gen.OutBiasIdeal.Frame
public import proofs.«01_k».proof.Proof.Gen.OutBiasIdeal.Value
public import proofs.«01_k».proof.Proof.Gen.OutBiasSpecIdeal
public import proofs.«01_k».proof.Proof.Gen.OutBiasSpecIdeal.Run
public import proofs.«01_k».proof.Proof.Gen.OutNarrowDa
public import proofs.«01_k».proof.Proof.Gen.OutNarrowDa.Skeleton
public import proofs.«01_k».proof.Proof.Gen.OutNarrowDa.Launch
public import proofs.«01_k».proof.Proof.Gen.OutNarrowDa.Points
public import proofs.«01_k».proof.Proof.Gen.OutNarrowDa.Frame
public import proofs.«01_k».proof.Proof.Gen.OutNarrowDaIdeal
public import proofs.«01_k».proof.Proof.Gen.OutNarrowDaIdeal.Skeleton
public import proofs.«01_k».proof.Proof.Gen.OutNarrowDaIdeal.Launch
public import proofs.«01_k».proof.Proof.Gen.OutNarrowDaIdeal.Points
public import proofs.«01_k».proof.Proof.Gen.OutNarrowDaIdeal.Frame
public import proofs.«01_k».proof.Proof.Gen.OutNarrowDaIdeal.Value
public import proofs.«01_k».proof.Proof.Gen.OutNarrowDaSpecIdeal
public import proofs.«01_k».proof.Proof.Gen.OutNarrowDaSpecIdeal.Run
public import proofs.«01_k».proof.Proof.Gen.OutWideDa
public import proofs.«01_k».proof.Proof.Gen.OutWideDa.Skeleton
public import proofs.«01_k».proof.Proof.Gen.OutWideDa.Launch
public import proofs.«01_k».proof.Proof.Gen.OutWideDa.Points
public import proofs.«01_k».proof.Proof.Gen.OutWideDa.Frame
public import proofs.«01_k».proof.Proof.Gen.OutWideDaIdeal
public import proofs.«01_k».proof.Proof.Gen.OutWideDaIdeal.Skeleton
public import proofs.«01_k».proof.Proof.Gen.OutWideDaIdeal.Launch
public import proofs.«01_k».proof.Proof.Gen.OutWideDaIdeal.Points
public import proofs.«01_k».proof.Proof.Gen.OutWideDaIdeal.Frame
public import proofs.«01_k».proof.Proof.Gen.OutWideDaIdeal.Value
public import proofs.«01_k».proof.Proof.Gen.OutWideDaSpecIdeal
public import proofs.«01_k».proof.Proof.Gen.OutWideDaSpecIdeal.Run
public import proofs.«01_k».proof.Proof.Gen.OutNarrowDw
public import proofs.«01_k».proof.Proof.Gen.OutNarrowDw.Skeleton
public import proofs.«01_k».proof.Proof.Gen.OutNarrowDw.Launch
public import proofs.«01_k».proof.Proof.Gen.OutNarrowDw.Points
public import proofs.«01_k».proof.Proof.Gen.OutNarrowDw.Frame
public import proofs.«01_k».proof.Proof.Gen.OutNarrowDwIdeal
public import proofs.«01_k».proof.Proof.Gen.OutNarrowDwIdeal.Skeleton
public import proofs.«01_k».proof.Proof.Gen.OutNarrowDwIdeal.Launch
public import proofs.«01_k».proof.Proof.Gen.OutNarrowDwIdeal.Points
public import proofs.«01_k».proof.Proof.Gen.OutNarrowDwIdeal.Frame
public import proofs.«01_k».proof.Proof.Gen.OutNarrowDwIdeal.Value
public import proofs.«01_k».proof.Proof.Gen.OutNarrowDwSpecIdeal
public import proofs.«01_k».proof.Proof.Gen.OutNarrowDwSpecIdeal.Run
public import proofs.«01_k».proof.Proof.Gen.OutWideDw
public import proofs.«01_k».proof.Proof.Gen.OutWideDw.Skeleton
public import proofs.«01_k».proof.Proof.Gen.OutWideDw.Launch
public import proofs.«01_k».proof.Proof.Gen.OutWideDw.Points
public import proofs.«01_k».proof.Proof.Gen.OutWideDw.Frame
public import proofs.«01_k».proof.Proof.Gen.OutWideDwIdeal
public import proofs.«01_k».proof.Proof.Gen.OutWideDwIdeal.Skeleton
public import proofs.«01_k».proof.Proof.Gen.OutWideDwIdeal.Launch
public import proofs.«01_k».proof.Proof.Gen.OutWideDwIdeal.Points
public import proofs.«01_k».proof.Proof.Gen.OutWideDwIdeal.Frame
public import proofs.«01_k».proof.Proof.Gen.OutWideDwIdeal.Value
public import proofs.«01_k».proof.Proof.Gen.OutWideDwSpecIdeal
public import proofs.«01_k».proof.Proof.Gen.OutWideDwSpecIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormSpecIdeal
public import proofs.«01_k».proof.Proof.Gen.NormSpecIdeal.Run
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesSpecIdeal
public import proofs.«01_k».proof.Proof.Gen.GatesSpecIdeal.Run
public import proofs.«01_k».proof.Proof.Gen.GatesDx
public import proofs.«01_k».proof.Proof.Gen.GatesDx.Skeleton
public import proofs.«01_k».proof.Proof.Gen.GatesDx.Launch
public import proofs.«01_k».proof.Proof.Gen.GatesDx.Points
public import proofs.«01_k».proof.Proof.Gen.GatesDx.Frame
public import proofs.«01_k».proof.Proof.Gen.GatesDxIdeal
public import proofs.«01_k».proof.Proof.Gen.GatesDxIdeal.Skeleton
public import proofs.«01_k».proof.Proof.Gen.GatesDxIdeal.Launch
public import proofs.«01_k».proof.Proof.Gen.GatesDxIdeal.Points
public import proofs.«01_k».proof.Proof.Gen.GatesDxIdeal.Frame
public import proofs.«01_k».proof.Proof.Gen.GatesDxIdeal.Value
public import proofs.«01_k».proof.Proof.Gen.GatesDxSpecIdeal
public import proofs.«01_k».proof.Proof.Gen.GatesDxSpecIdeal.Run
public import proofs.«01_k».proof.Proof.Gen.GatesDw
public import proofs.«01_k».proof.Proof.Gen.GatesDw.Skeleton
public import proofs.«01_k».proof.Proof.Gen.GatesDw.Launch
public import proofs.«01_k».proof.Proof.Gen.GatesDw.Points
public import proofs.«01_k».proof.Proof.Gen.GatesDw.Frame
public import proofs.«01_k».proof.Proof.Gen.GatesDwIdeal
public import proofs.«01_k».proof.Proof.Gen.GatesDwIdeal.Skeleton
public import proofs.«01_k».proof.Proof.Gen.GatesDwIdeal.Launch
public import proofs.«01_k».proof.Proof.Gen.GatesDwIdeal.Points
public import proofs.«01_k».proof.Proof.Gen.GatesDwIdeal.Frame
public import proofs.«01_k».proof.Proof.Gen.GatesDwIdeal.Value
public import proofs.«01_k».proof.Proof.Gen.GatesDwSpecIdeal
public import proofs.«01_k».proof.Proof.Gen.GatesDwSpecIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeSpecIdeal
public import proofs.«01_k».proof.Proof.Gen.MergeSpecIdeal.Run
public import proofs.«01_k».proof.Proof.Gen.AdamAbIn
public import proofs.«01_k».proof.Proof.Gen.AdamAbIn.Skeleton
public import proofs.«01_k».proof.Proof.Gen.AdamAbIn.Launch
public import proofs.«01_k».proof.Proof.Gen.AdamAbIn.Points
public import proofs.«01_k».proof.Proof.Gen.AdamAbIn.Frame
public import proofs.«01_k».proof.Proof.Gen.AdamAbInIdeal
public import proofs.«01_k».proof.Proof.Gen.AdamAbInIdeal.Skeleton
public import proofs.«01_k».proof.Proof.Gen.AdamAbInIdeal.Launch
public import proofs.«01_k».proof.Proof.Gen.AdamAbInIdeal.Points
public import proofs.«01_k».proof.Proof.Gen.AdamAbInIdeal.Frame
public import proofs.«01_k».proof.Proof.Gen.AdamAbInIdeal.Value
public import proofs.«01_k».proof.Proof.Gen.AdamAbInSpecIdeal
public import proofs.«01_k».proof.Proof.Gen.AdamAbInSpecIdeal.Run
public import proofs.«01_k».proof.Proof.Gen.AdamLru
public import proofs.«01_k».proof.Proof.Gen.AdamLru.Skeleton
public import proofs.«01_k».proof.Proof.Gen.AdamLru.Launch
public import proofs.«01_k».proof.Proof.Gen.AdamLru.Points
public import proofs.«01_k».proof.Proof.Gen.AdamLru.Frame
public import proofs.«01_k».proof.Proof.Gen.AdamLruIdeal
public import proofs.«01_k».proof.Proof.Gen.AdamLruIdeal.Skeleton
public import proofs.«01_k».proof.Proof.Gen.AdamLruIdeal.Launch
public import proofs.«01_k».proof.Proof.Gen.AdamLruIdeal.Points
public import proofs.«01_k».proof.Proof.Gen.AdamLruIdeal.Frame
public import proofs.«01_k».proof.Proof.Gen.AdamLruIdeal.Value
public import proofs.«01_k».proof.Proof.Gen.AdamLruSpecIdeal
public import proofs.«01_k».proof.Proof.Gen.AdamLruSpecIdeal.Run
public import proofs.«01_k».proof.Proof.Gen.AdamAbOut
public import proofs.«01_k».proof.Proof.Gen.AdamAbOut.Skeleton
public import proofs.«01_k».proof.Proof.Gen.AdamAbOut.Launch
public import proofs.«01_k».proof.Proof.Gen.AdamAbOut.Points
public import proofs.«01_k».proof.Proof.Gen.AdamAbOut.Frame
public import proofs.«01_k».proof.Proof.Gen.AdamAbOutIdeal
public import proofs.«01_k».proof.Proof.Gen.AdamAbOutIdeal.Skeleton
public import proofs.«01_k».proof.Proof.Gen.AdamAbOutIdeal.Launch
public import proofs.«01_k».proof.Proof.Gen.AdamAbOutIdeal.Points
public import proofs.«01_k».proof.Proof.Gen.AdamAbOutIdeal.Frame
public import proofs.«01_k».proof.Proof.Gen.AdamAbOutIdeal.Value
public import proofs.«01_k».proof.Proof.Gen.AdamAbOutSpecIdeal
public import proofs.«01_k».proof.Proof.Gen.AdamAbOutSpecIdeal.Run
public import proofs.«01_k».proof.Proof.Gen.AdamCQkv
public import proofs.«01_k».proof.Proof.Gen.AdamCQkv.Skeleton
public import proofs.«01_k».proof.Proof.Gen.AdamCQkv.Launch
public import proofs.«01_k».proof.Proof.Gen.AdamCQkv.Points
public import proofs.«01_k».proof.Proof.Gen.AdamCQkv.Frame
public import proofs.«01_k».proof.Proof.Gen.AdamCQkvIdeal
public import proofs.«01_k».proof.Proof.Gen.AdamCQkvIdeal.Skeleton
public import proofs.«01_k».proof.Proof.Gen.AdamCQkvIdeal.Launch
public import proofs.«01_k».proof.Proof.Gen.AdamCQkvIdeal.Points
public import proofs.«01_k».proof.Proof.Gen.AdamCQkvIdeal.Frame
public import proofs.«01_k».proof.Proof.Gen.AdamCQkvIdeal.Value
public import proofs.«01_k».proof.Proof.Gen.AdamCQkvSpecIdeal
public import proofs.«01_k».proof.Proof.Gen.AdamCQkvSpecIdeal.Run
public import proofs.«01_k».proof.Proof.Gen.AdamCOut
public import proofs.«01_k».proof.Proof.Gen.AdamCOut.Skeleton
public import proofs.«01_k».proof.Proof.Gen.AdamCOut.Launch
public import proofs.«01_k».proof.Proof.Gen.AdamCOut.Points
public import proofs.«01_k».proof.Proof.Gen.AdamCOut.Frame
public import proofs.«01_k».proof.Proof.Gen.AdamCOutIdeal
public import proofs.«01_k».proof.Proof.Gen.AdamCOutIdeal.Skeleton
public import proofs.«01_k».proof.Proof.Gen.AdamCOutIdeal.Launch
public import proofs.«01_k».proof.Proof.Gen.AdamCOutIdeal.Points
public import proofs.«01_k».proof.Proof.Gen.AdamCOutIdeal.Frame
public import proofs.«01_k».proof.Proof.Gen.AdamCOutIdeal.Value
public import proofs.«01_k».proof.Proof.Gen.AdamCOutSpecIdeal
public import proofs.«01_k».proof.Proof.Gen.AdamCOutSpecIdeal.Run
public import proofs.«01_k».proof.Proof.Gen.AdamXaWq
public import proofs.«01_k».proof.Proof.Gen.AdamXaWq.Skeleton
public import proofs.«01_k».proof.Proof.Gen.AdamXaWq.Launch
public import proofs.«01_k».proof.Proof.Gen.AdamXaWq.Points
public import proofs.«01_k».proof.Proof.Gen.AdamXaWq.Frame
public import proofs.«01_k».proof.Proof.Gen.AdamXaWqIdeal
public import proofs.«01_k».proof.Proof.Gen.AdamXaWqIdeal.Skeleton
public import proofs.«01_k».proof.Proof.Gen.AdamXaWqIdeal.Launch
public import proofs.«01_k».proof.Proof.Gen.AdamXaWqIdeal.Points
public import proofs.«01_k».proof.Proof.Gen.AdamXaWqIdeal.Frame
public import proofs.«01_k».proof.Proof.Gen.AdamXaWqSpecIdeal
public import proofs.«01_k».proof.Proof.Gen.AdamXaWqSpecIdeal.Run
public import proofs.«01_k».proof.Proof.Gen.AdamXaWkv
public import proofs.«01_k».proof.Proof.Gen.AdamXaWkv.Skeleton
public import proofs.«01_k».proof.Proof.Gen.AdamXaWkv.Launch
public import proofs.«01_k».proof.Proof.Gen.AdamXaWkv.Points
public import proofs.«01_k».proof.Proof.Gen.AdamXaWkv.Frame
public import proofs.«01_k».proof.Proof.Gen.AdamXaWkvIdeal
public import proofs.«01_k».proof.Proof.Gen.AdamXaWkvIdeal.Skeleton
public import proofs.«01_k».proof.Proof.Gen.AdamXaWkvIdeal.Launch
public import proofs.«01_k».proof.Proof.Gen.AdamXaWkvIdeal.Points
public import proofs.«01_k».proof.Proof.Gen.AdamXaWkvIdeal.Frame
public import proofs.«01_k».proof.Proof.Gen.AdamXaWkvSpecIdeal
public import proofs.«01_k».proof.Proof.Gen.AdamXaWkvSpecIdeal.Run
public import proofs.«01_k».proof.Proof.Gen.AdamXaWo
public import proofs.«01_k».proof.Proof.Gen.AdamXaWo.Skeleton
public import proofs.«01_k».proof.Proof.Gen.AdamXaWo.Launch
public import proofs.«01_k».proof.Proof.Gen.AdamXaWo.Points
public import proofs.«01_k».proof.Proof.Gen.AdamXaWo.Frame
public import proofs.«01_k».proof.Proof.Gen.AdamXaWoIdeal
public import proofs.«01_k».proof.Proof.Gen.AdamXaWoIdeal.Skeleton
public import proofs.«01_k».proof.Proof.Gen.AdamXaWoIdeal.Launch
public import proofs.«01_k».proof.Proof.Gen.AdamXaWoIdeal.Points
public import proofs.«01_k».proof.Proof.Gen.AdamXaWoIdeal.Frame
public import proofs.«01_k».proof.Proof.Gen.AdamXaWoSpecIdeal
public import proofs.«01_k».proof.Proof.Gen.AdamXaWoSpecIdeal.Run
public import proofs.«01_k».proof.Proof.Gen.AdamGateUp
public import proofs.«01_k».proof.Proof.Gen.AdamGateUp.Skeleton
public import proofs.«01_k».proof.Proof.Gen.AdamGateUp.Launch
public import proofs.«01_k».proof.Proof.Gen.AdamGateUp.Points
public import proofs.«01_k».proof.Proof.Gen.AdamGateUp.Frame
public import proofs.«01_k».proof.Proof.Gen.AdamGateUpIdeal
public import proofs.«01_k».proof.Proof.Gen.AdamGateUpIdeal.Skeleton
public import proofs.«01_k».proof.Proof.Gen.AdamGateUpIdeal.Launch
public import proofs.«01_k».proof.Proof.Gen.AdamGateUpIdeal.Points
public import proofs.«01_k».proof.Proof.Gen.AdamGateUpIdeal.Frame
public import proofs.«01_k».proof.Proof.Gen.AdamGateUpSpecIdeal
public import proofs.«01_k».proof.Proof.Gen.AdamGateUpSpecIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownSpecIdeal
public import proofs.«01_k».proof.Proof.Gen.AdamDownSpecIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallSpecIdeal
public import proofs.«01_k».proof.Proof.Gen.AdamSmallSpecIdeal.Run
public import proofs.«01_k».proof.Proof.Gen.AdamReplicated
public import proofs.«01_k».proof.Proof.Gen.AdamReplicated.Skeleton
public import proofs.«01_k».proof.Proof.Gen.AdamReplicated.Launch
public import proofs.«01_k».proof.Proof.Gen.AdamReplicated.Points
public import proofs.«01_k».proof.Proof.Gen.AdamReplicated.Frame
public import proofs.«01_k».proof.Proof.Gen.AdamReplicatedIdeal
public import proofs.«01_k».proof.Proof.Gen.AdamReplicatedIdeal.Skeleton
public import proofs.«01_k».proof.Proof.Gen.AdamReplicatedIdeal.Launch
public import proofs.«01_k».proof.Proof.Gen.AdamReplicatedIdeal.Points
public import proofs.«01_k».proof.Proof.Gen.AdamReplicatedIdeal.Frame
public import proofs.«01_k».proof.Proof.Gen.AdamReplicatedIdeal.Value
public import proofs.«01_k».proof.Proof.Gen.AdamReplicatedSpecIdeal
public import proofs.«01_k».proof.Proof.Gen.AdamReplicatedSpecIdeal.Run
public import proofs.«01_k».proof.Proof.XaClaim
public import proofs.«01_k».proof.Proof.GateUp
public import proofs.«01_k».proof.Proof.Down
public import proofs.«01_k».proof.Proof.DownDa
public import proofs.«01_k».proof.Proof.DownDw
public import proofs.«01_k».proof.Proof.GateUpDw
public import proofs.«01_k».proof.Proof.GateUpDa
public import proofs.«01_k».proof.Proof.InPiece
public import proofs.«01_k».proof.Proof.InDw
public import proofs.«01_k».proof.Proof.InDa
public import proofs.«01_k».proof.Proof.OutNarrow
public import proofs.«01_k».proof.Proof.OutWide
public import proofs.«01_k».proof.Proof.OutBias
public import proofs.«01_k».proof.Proof.OutNarrowDa
public import proofs.«01_k».proof.Proof.OutWideDa
public import proofs.«01_k».proof.Proof.OutNarrowDw
public import proofs.«01_k».proof.Proof.OutWideDw
public import proofs.«01_k».proof.Proof.Norm
public import proofs.«01_k».proof.Proof.Gates
public import proofs.«01_k».proof.Proof.GatesDx
public import proofs.«01_k».proof.Proof.GatesDw
public import proofs.«01_k».proof.Proof.Merge
public import proofs.«01_k».proof.Proof.AdamAbIn
public import proofs.«01_k».proof.Proof.AdamLru
public import proofs.«01_k».proof.Proof.AdamAbOut
public import proofs.«01_k».proof.Proof.AdamCQkv
public import proofs.«01_k».proof.Proof.AdamCOut
public import proofs.«01_k».proof.Proof.AdamXaWq
public import proofs.«01_k».proof.Proof.AdamXaWkv
public import proofs.«01_k».proof.Proof.AdamXaWo
public import proofs.«01_k».proof.Proof.AdamGateUp
public import proofs.«01_k».proof.Proof.AdamDown
public import proofs.«01_k».proof.Proof.AdamSmall
public import proofs.«01_k».proof.Proof.AdamReplicated
public import Idealize.ShloMosaic.Lib.Claim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.GateUp.Gen.facts, Cert.GateUpIdeal.Gen.facts, Cert.GateUpSpecIdeal.Gen.facts, Cert.Down.Gen.facts, Cert.DownIdeal.Gen.facts, Cert.DownSpecIdeal.Gen.facts, Cert.DownDa.Gen.facts, Cert.DownDaIdeal.Gen.facts, Cert.DownDaSpecIdeal.Gen.facts, Cert.DownDw.Gen.facts, Cert.DownDwIdeal.Gen.facts, Cert.DownDwSpecIdeal.Gen.facts, Cert.GateUpDw.Gen.facts, Cert.GateUpDwIdeal.Gen.facts, Cert.GateUpDwSpecIdeal.Gen.facts, Cert.GateUpDa.Gen.facts, Cert.GateUpDaIdeal.Gen.facts, Cert.GateUpDaSpecIdeal.Gen.facts, Cert.InPiece.Gen.facts, Cert.InPieceIdeal.Gen.facts, Cert.InPieceSpecIdeal.Gen.facts, Cert.InDw.Gen.facts, Cert.InDwIdeal.Gen.facts, Cert.InDwSpecIdeal.Gen.facts, Cert.InDa.Gen.facts, Cert.InDaIdeal.Gen.facts, Cert.InDaSpecIdeal.Gen.facts, Cert.OutNarrow.Gen.facts, Cert.OutNarrowIdeal.Gen.facts, Cert.OutNarrowSpecIdeal.Gen.facts, Cert.OutWide.Gen.facts, Cert.OutWideIdeal.Gen.facts, Cert.OutWideSpecIdeal.Gen.facts, Cert.OutBias.Gen.facts, Cert.OutBiasIdeal.Gen.facts, Cert.OutBiasSpecIdeal.Gen.facts, Cert.OutNarrowDa.Gen.facts, Cert.OutNarrowDaIdeal.Gen.facts, Cert.OutNarrowDaSpecIdeal.Gen.facts, Cert.OutWideDa.Gen.facts, Cert.OutWideDaIdeal.Gen.facts, Cert.OutWideDaSpecIdeal.Gen.facts, Cert.OutNarrowDw.Gen.facts, Cert.OutNarrowDwIdeal.Gen.facts, Cert.OutNarrowDwSpecIdeal.Gen.facts, Cert.OutWideDw.Gen.facts, Cert.OutWideDwIdeal.Gen.facts, Cert.OutWideDwSpecIdeal.Gen.facts, Cert.Norm.Gen.facts, Cert.NormIdeal.Gen.facts, Cert.NormSpecIdeal.Gen.facts, Cert.Gates.Gen.facts, Cert.GatesIdeal.Gen.facts, Cert.GatesSpecIdeal.Gen.facts, Cert.GatesDx.Gen.facts, Cert.GatesDxIdeal.Gen.facts, Cert.GatesDxSpecIdeal.Gen.facts, Cert.GatesDw.Gen.facts, Cert.GatesDwIdeal.Gen.facts, Cert.GatesDwSpecIdeal.Gen.facts, Cert.Merge.Gen.facts, Cert.MergeIdeal.Gen.facts, Cert.MergeSpecIdeal.Gen.facts, Cert.AdamAbIn.Gen.facts, Cert.AdamAbInIdeal.Gen.facts, Cert.AdamAbInSpecIdeal.Gen.facts, Cert.AdamLru.Gen.facts, Cert.AdamLruIdeal.Gen.facts, Cert.AdamLruSpecIdeal.Gen.facts, Cert.AdamAbOut.Gen.facts, Cert.AdamAbOutIdeal.Gen.facts, Cert.AdamAbOutSpecIdeal.Gen.facts, Cert.AdamCQkv.Gen.facts, Cert.AdamCQkvIdeal.Gen.facts, Cert.AdamCQkvSpecIdeal.Gen.facts, Cert.AdamCOut.Gen.facts, Cert.AdamCOutIdeal.Gen.facts, Cert.AdamCOutSpecIdeal.Gen.facts, Cert.AdamXaWq.Gen.facts, Cert.AdamXaWqIdeal.Gen.facts, Cert.AdamXaWqSpecIdeal.Gen.facts, Cert.AdamXaWkv.Gen.facts, Cert.AdamXaWkvIdeal.Gen.facts, Cert.AdamXaWkvSpecIdeal.Gen.facts, Cert.AdamXaWo.Gen.facts, Cert.AdamXaWoIdeal.Gen.facts, Cert.AdamXaWoSpecIdeal.Gen.facts, Cert.AdamGateUp.Gen.facts, Cert.AdamGateUpIdeal.Gen.facts, Cert.AdamGateUpSpecIdeal.Gen.facts, Cert.AdamDown.Gen.facts, Cert.AdamDownIdeal.Gen.facts, Cert.AdamDownSpecIdeal.Gen.facts, Cert.AdamSmall.Gen.facts, Cert.AdamSmallIdeal.Gen.facts, Cert.AdamSmallSpecIdeal.Gen.facts, Cert.AdamReplicated.Gen.facts, Cert.AdamReplicatedIdeal.Gen.facts, Cert.AdamReplicatedSpecIdeal.Gen.facts, Cert.Pre_finite_q_kv.Gen.facts, Cert.Pre_finite_down_da.Gen.facts, Cert.Pre_finite_gate_up_da.Gen.facts, Cert.Pre_finite_in_da.Gen.facts, Cert.Pre_finite_merge.Gen.facts, by
  refine ⟨fun m g _ => Cert.Kernel.Gen.frame m g,
    fun m g _ => Cert.KernelIdeal.Gen.frame m g,
    fun m g _ => Cert.KernelIdeal.Gen.frame m g,
    Cert.Xa.refFrame,
    fun m g _ => Cert.Xa.refFrame m g trivial,
    fun m g _ => Cert.GateUp.Gen.frame m g,
    fun m g _ => Cert.GateUpIdeal.Gen.frame m g,
    Cert.GateUpClaim.specFrame,
    fun m g _ => Cert.Down.Gen.frame m g,
    fun m g _ => Cert.DownIdeal.Gen.frame m g,
    Cert.DownClaim.specFrame,
    fun m g _ => Cert.DownDa.Gen.frame m g,
    fun m g _ => Cert.DownDaIdeal.Gen.frame m g,
    fun m g _ => Cert.DownDaIdeal.Gen.frame m g,
    Cert.DownDaClaim.specFrame,
    fun m g _ => Cert.DownDaClaim.specFrame m g trivial,
    fun m g _ => Cert.DownDw.Gen.frame m g,
    fun m g _ => Cert.DownDwIdeal.Gen.frame m g,
    Cert.DownDwClaim.specFrame,
    fun m g _ => Cert.GateUpDw.Gen.frame m g,
    fun m g _ => Cert.GateUpDwIdeal.Gen.frame m g,
    Cert.GateUpDwClaim.specFrame,
    fun m g _ => Cert.GateUpDa.Gen.frame m g,
    fun m g _ => Cert.GateUpDaIdeal.Gen.frame m g,
    fun m g _ => Cert.GateUpDaIdeal.Gen.frame m g,
    Cert.GateUpDaClaim.specFrame,
    fun m g _ => Cert.GateUpDaClaim.specFrame m g trivial,
    fun m g _ => Cert.InPiece.Gen.frame m g,
    fun m g _ => Cert.InPieceIdeal.Gen.frame m g,
    Cert.InPieceClaim.specFrame,
    fun m g _ => Cert.InDw.Gen.frame m g,
    fun m g _ => Cert.InDwIdeal.Gen.frame m g,
    Cert.InDwClaim.specFrame,
    fun m g _ => Cert.InDa.Gen.frame m g,
    fun m g _ => Cert.InDaIdeal.Gen.frame m g,
    fun m g _ => Cert.InDaIdeal.Gen.frame m g,
    Cert.InDaClaim.specFrame,
    fun m g _ => Cert.InDaClaim.specFrame m g trivial,
    fun m g _ => Cert.OutNarrow.Gen.frame m g,
    fun m g _ => Cert.OutNarrowIdeal.Gen.frame m g,
    Cert.OutNarrowClaim.specFrame,
    fun m g _ => Cert.OutWide.Gen.frame m g,
    fun m g _ => Cert.OutWideIdeal.Gen.frame m g,
    Cert.OutWideClaim.specFrame,
    fun m g _ => Cert.OutBias.Gen.frame m g,
    fun m g _ => Cert.OutBiasIdeal.Gen.frame m g,
    Cert.OutBiasClaim.specFrame,
    fun m g _ => Cert.OutNarrowDa.Gen.frame m g,
    fun m g _ => Cert.OutNarrowDaIdeal.Gen.frame m g,
    Cert.OutNarrowDaClaim.specFrame,
    fun m g _ => Cert.OutWideDa.Gen.frame m g,
    fun m g _ => Cert.OutWideDaIdeal.Gen.frame m g,
    Cert.OutWideDaClaim.specFrame,
    fun m g _ => Cert.OutNarrowDw.Gen.frame m g,
    fun m g _ => Cert.OutNarrowDwIdeal.Gen.frame m g,
    Cert.OutNarrowDwClaim.specFrame,
    fun m g _ => Cert.OutWideDw.Gen.frame m g,
    fun m g _ => Cert.OutWideDwIdeal.Gen.frame m g,
    Cert.OutWideDwClaim.specFrame,
    fun m g _ => Cert.Norm.Gen.frame m g,
    fun m g _ => Cert.NormIdeal.Gen.frame m g,
    Cert.NormClaim.specFrame,
    fun m g _ => Cert.Gates.Gen.frame m g,
    fun m g _ => Cert.GatesIdeal.Gen.frame m g,
    Cert.GatesClaim.specFrame,
    fun m g _ => Cert.GatesDx.Gen.frame m g,
    fun m g _ => Cert.GatesDxIdeal.Gen.frame m g,
    Cert.GatesDxClaim.specFrame,
    fun m g _ => Cert.GatesDw.Gen.frame m g,
    fun m g _ => Cert.GatesDwIdeal.Gen.frame m g,
    Cert.GatesDwClaim.specFrame,
    fun m g _ => Cert.Merge.Gen.frame m g,
    fun m g _ => Cert.MergeIdeal.Gen.frame m g,
    fun m g _ => Cert.MergeIdeal.Gen.frame m g,
    Cert.MergeClaim.specFrame,
    fun m g _ => Cert.MergeClaim.specFrame m g trivial,
    fun m g _ => Cert.AdamAbIn.Gen.frame m g,
    fun m g _ => Cert.AdamAbInIdeal.Gen.frame m g,
    Cert.AdamAbInClaim.specFrame,
    fun m g _ => Cert.AdamLru.Gen.frame m g,
    fun m g _ => Cert.AdamLruIdeal.Gen.frame m g,
    Cert.AdamLruClaim.specFrame,
    fun m g _ => Cert.AdamAbOut.Gen.frame m g,
    fun m g _ => Cert.AdamAbOutIdeal.Gen.frame m g,
    Cert.AdamAbOutClaim.specFrame,
    fun m g _ => Cert.AdamCQkv.Gen.frame m g,
    fun m g _ => Cert.AdamCQkvIdeal.Gen.frame m g,
    Cert.AdamCQkvClaim.specFrame,
    fun m g _ => Cert.AdamCOut.Gen.frame m g,
    fun m g _ => Cert.AdamCOutIdeal.Gen.frame m g,
    Cert.AdamCOutClaim.specFrame,
    fun m g _ => Cert.AdamXaWq.Gen.frame m g,
    fun m g _ => Cert.AdamXaWqIdeal.Gen.frame m g,
    Cert.AdamXaWqClaim.specFrame,
    fun m g _ => Cert.AdamXaWkv.Gen.frame m g,
    fun m g _ => Cert.AdamXaWkvIdeal.Gen.frame m g,
    Cert.AdamXaWkvClaim.specFrame,
    fun m g _ => Cert.AdamXaWo.Gen.frame m g,
    fun m g _ => Cert.AdamXaWoIdeal.Gen.frame m g,
    Cert.AdamXaWoClaim.specFrame,
    fun m g _ => Cert.AdamGateUp.Gen.frame m g,
    fun m g _ => Cert.AdamGateUpIdeal.Gen.frame m g,
    Cert.AdamGateUpClaim.specFrame,
    fun m g _ => Cert.AdamDown.Gen.frame m g,
    fun m g _ => Cert.AdamDownIdeal.Gen.frame m g,
    Cert.AdamDownClaim.specFrame,
    fun m g _ => Cert.AdamSmall.Gen.frame m g,
    fun m g _ => Cert.AdamSmallIdeal.Gen.frame m g,
    Cert.AdamSmallClaim.specFrame,
    fun m g _ => Cert.AdamReplicated.Gen.frame m g,
    fun m g _ => Cert.AdamReplicatedIdeal.Gen.frame m g,
    Cert.AdamReplicatedClaim.specFrame,
    trivial,
    Cert.Xa.value,
    trivial,
    Cert.GateUpClaim.value,
    trivial,
    Cert.DownClaim.value,
    trivial,
    Cert.DownDaClaim.value,
    trivial,
    Cert.DownDwClaim.value,
    trivial,
    Cert.GateUpDwClaim.value,
    trivial,
    Cert.GateUpDaClaim.value,
    trivial,
    Cert.InPieceClaim.value,
    trivial,
    Cert.InDwClaim.value,
    trivial,
    Cert.InDaClaim.value,
    trivial,
    Cert.OutNarrowClaim.value,
    trivial,
    Cert.OutWideClaim.value,
    trivial,
    Cert.OutBiasClaim.value,
    trivial,
    Cert.OutNarrowDaClaim.value,
    trivial,
    Cert.OutWideDaClaim.value,
    trivial,
    Cert.OutNarrowDwClaim.value,
    trivial,
    Cert.OutWideDwClaim.value,
    trivial,
    Cert.NormClaim.value,
    trivial,
    Cert.GatesClaim.value,
    trivial,
    Cert.GatesDxClaim.value,
    trivial,
    Cert.GatesDwClaim.value,
    trivial,
    Cert.MergeClaim.value,
    trivial,
    Cert.AdamAbInClaim.value,
    trivial,
    Cert.AdamLruClaim.value,
    trivial,
    Cert.AdamAbOutClaim.value,
    trivial,
    Cert.AdamCQkvClaim.value,
    trivial,
    Cert.AdamCOutClaim.value,
    trivial,
    Cert.AdamXaWqClaim.value,
    trivial,
    Cert.AdamXaWkvClaim.value,
    trivial,
    Cert.AdamXaWoClaim.value,
    trivial,
    Cert.AdamGateUpClaim.value,
    trivial,
    Cert.AdamDownClaim.value,
    trivial,
    Cert.AdamSmallClaim.value,
    trivial,
    Cert.AdamReplicatedClaim.value⟩⟩

end Cert.Proof

end
